-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdRefIdeal (m : (ℓ : Loc Cert.DownBwdRefIdeal.nD Cert.DownBwdRefIdeal.τ Cert.DownBwdRefIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdRefIdeal (m : (ℓ : Loc Cert.ProjBwdRefIdeal.nD Cert.ProjBwdRefIdeal.τ Cert.ProjBwdRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRefIdeal (m : (ℓ : Loc Cert.UpProjRefIdeal.nD Cert.UpProjRefIdeal.τ Cert.UpProjRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1)
      ∧ r.2.mem ((c.tc : Thread Cert.GradIn.nD Cert.GradIn.τ).loc Cert.GradIn.main_arg2) = m ((c.tc : Thread Cert.GradIn.nD Cert.GradIn.τ).loc Cert.GradIn.main_arg2)
      ∧ r.2.mem ((c.tc : Thread Cert.GradIn.nD Cert.GradIn.τ).loc Cert.GradIn.main_arg3) = m ((c.tc : Thread Cert.GradIn.nD Cert.GradIn.τ).loc Cert.GradIn.main_arg3)
      ∧ r.2.mem ((c.tc : Thread Cert.GradIn.nD Cert.GradIn.τ).loc Cert.GradIn.main_arg4) = m ((c.tc : Thread Cert.GradIn.nD Cert.GradIn.τ).loc Cert.GradIn.main_arg4)
      ∧ r.2.mem ((c.tc : Thread Cert.GradIn.nD Cert.GradIn.τ).loc Cert.GradIn.main_arg5) = m ((c.tc : Thread Cert.GradIn.nD Cert.GradIn.τ).loc Cert.GradIn.main_arg5)
      ∧ r.2.mem ((c.tc : Thread Cert.GradIn.nD Cert.GradIn.τ).loc Cert.GradIn.main_arg6) = m ((c.tc : Thread Cert.GradIn.nD Cert.GradIn.τ).loc Cert.GradIn.main_arg6)
      ∧ r.2.mem ((c.tc : Thread Cert.GradIn.nD Cert.GradIn.τ).loc Cert.GradIn.main_arg7) = m ((c.tc : Thread Cert.GradIn.nD Cert.GradIn.τ).loc Cert.GradIn.main_arg7))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
      ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
      ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3)
      ∧ r.2.mem ((c.tc : Thread Cert.GradInIdeal.nD Cert.GradInIdeal.τ).loc Cert.GradInIdeal.main_arg4) = m ((c.tc : Thread Cert.GradInIdeal.nD Cert.GradInIdeal.τ).loc Cert.GradInIdeal.main_arg4)
      ∧ r.2.mem ((c.tc : Thread Cert.GradInIdeal.nD Cert.GradInIdeal.τ).loc Cert.GradInIdeal.main_arg5) = m ((c.tc : Thread Cert.GradInIdeal.nD Cert.GradInIdeal.τ).loc Cert.GradInIdeal.main_arg5)
      ∧ r.2.mem ((c.tc : Thread Cert.GradInIdeal.nD Cert.GradInIdeal.τ).loc Cert.GradInIdeal.main_arg6) = m ((c.tc : Thread Cert.GradInIdeal.nD Cert.GradInIdeal.τ).loc Cert.GradInIdeal.main_arg6)
      ∧ r.2.mem ((c.tc : Thread Cert.GradInIdeal.nD Cert.GradInIdeal.τ).loc Cert.GradInIdeal.main_arg7) = m ((c.tc : Thread Cert.GradInIdeal.nD Cert.GradInIdeal.τ).loc Cert.GradInIdeal.main_arg7))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1)
      ∧ r.2.mem ((c.tc : Thread Cert.GradInRefIdeal.nD Cert.GradInRefIdeal.τ).loc Cert.GradInRefIdeal.main_arg2) = m ((c.tc : Thread Cert.GradInRefIdeal.nD Cert.GradInRefIdeal.τ).loc Cert.GradInRefIdeal.main_arg2)
      ∧ r.2.mem ((c.tc : Thread Cert.GradInRefIdeal.nD Cert.GradInRefIdeal.τ).loc Cert.GradInRefIdeal.main_arg3) = m ((c.tc : Thread Cert.GradInRefIdeal.nD Cert.GradInRefIdeal.τ).loc Cert.GradInRefIdeal.main_arg3)
      ∧ r.2.mem ((c.tc : Thread Cert.GradInRefIdeal.nD Cert.GradInRefIdeal.τ).loc Cert.GradInRefIdeal.main_arg4) = m ((c.tc : Thread Cert.GradInRefIdeal.nD Cert.GradInRefIdeal.τ).loc Cert.GradInRefIdeal.main_arg4)
      ∧ r.2.mem ((c.tc : Thread Cert.GradInRefIdeal.nD Cert.GradInRefIdeal.τ).loc Cert.GradInRefIdeal.main_arg5) = m ((c.tc : Thread Cert.GradInRefIdeal.nD Cert.GradInRefIdeal.τ).loc Cert.GradInRefIdeal.main_arg5)
      ∧ r.2.mem ((c.tc : Thread Cert.GradInRefIdeal.nD Cert.GradInRefIdeal.τ).loc Cert.GradInRefIdeal.main_arg6) = m ((c.tc : Thread Cert.GradInRefIdeal.nD Cert.GradInRefIdeal.τ).loc Cert.GradInRefIdeal.main_arg6)
      ∧ r.2.mem ((c.tc : Thread Cert.GradInRefIdeal.nD Cert.GradInRefIdeal.τ).loc Cert.GradInRefIdeal.main_arg7) = m ((c.tc : Thread Cert.GradInRefIdeal.nD Cert.GradInRefIdeal.τ).loc Cert.GradInRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4)
      ∧ r.2.mem ((c.tc : Thread Cert.UpBwd.nD Cert.UpBwd.τ).loc Cert.UpBwd.main_arg5) = m ((c.tc : Thread Cert.UpBwd.nD Cert.UpBwd.τ).loc Cert.UpBwd.main_arg5)
      ∧ r.2.mem ((c.tc : Thread Cert.UpBwd.nD Cert.UpBwd.τ).loc Cert.UpBwd.main_arg6) = m ((c.tc : Thread Cert.UpBwd.nD Cert.UpBwd.τ).loc Cert.UpBwd.main_arg6)
      ∧ r.2.mem ((c.tc : Thread Cert.UpBwd.nD Cert.UpBwd.τ).loc Cert.UpBwd.main_arg7) = m ((c.tc : Thread Cert.UpBwd.nD Cert.UpBwd.τ).loc Cert.UpBwd.main_arg7))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
      ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6)
      ∧ r.2.mem ((c.tc : Thread Cert.UpBwdIdeal.nD Cert.UpBwdIdeal.τ).loc Cert.UpBwdIdeal.main_arg7) = m ((c.tc : Thread Cert.UpBwdIdeal.nD Cert.UpBwdIdeal.τ).loc Cert.UpBwdIdeal.main_arg7))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4)
      ∧ r.2.mem ((c.tc : Thread Cert.UpBwdRefIdeal.nD Cert.UpBwdRefIdeal.τ).loc Cert.UpBwdRefIdeal.main_arg5) = m ((c.tc : Thread Cert.UpBwdRefIdeal.nD Cert.UpBwdRefIdeal.τ).loc Cert.UpBwdRefIdeal.main_arg5)
      ∧ r.2.mem ((c.tc : Thread Cert.UpBwdRefIdeal.nD Cert.UpBwdRefIdeal.τ).loc Cert.UpBwdRefIdeal.main_arg6) = m ((c.tc : Thread Cert.UpBwdRefIdeal.nD Cert.UpBwdRefIdeal.τ).loc Cert.UpBwdRefIdeal.main_arg6)
      ∧ r.2.mem ((c.tc : Thread Cert.UpBwdRefIdeal.nD Cert.UpBwdRefIdeal.τ).loc Cert.UpBwdRefIdeal.main_arg7) = m ((c.tc : Thread Cert.UpBwdRefIdeal.nD Cert.UpBwdRefIdeal.τ).loc Cert.UpBwdRefIdeal.main_arg7))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9)
      ∧ r.2.mem ((c.tc : Thread Cert.InBwd.nD Cert.InBwd.τ).loc Cert.InBwd.main_arg10) = m ((c.tc : Thread Cert.InBwd.nD Cert.InBwd.τ).loc Cert.InBwd.main_arg10))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
      ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9)
      ∧ r.2.mem ((c.tc : Thread Cert.InBwdRefIdeal.nD Cert.InBwdRefIdeal.τ).loc Cert.InBwdRefIdeal.main_arg10) = m ((c.tc : Thread Cert.InBwdRefIdeal.nD Cert.InBwdRefIdeal.τ).loc Cert.InBwdRefIdeal.main_arg10))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v5) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v5) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v5) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_DownBwd_DownBwdIdeal : Prop :=
  True

def algebraic_DownBwdIdeal_DownBwdRefIdeal [hDownBwdIdeal : Cert.DownBwdIdeal.Facts] [hDownBwdRefIdeal : Cert.DownBwdRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)) →
    ∃ (v0 : (c : Dev Cert.DownBwdIdeal.nD) → Buf (Elt Ideal) ((c.tc : Thread Cert.DownBwdIdeal.nD Cert.DownBwdIdeal.τ).loc Cert.DownBwdIdeal.main_v0)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v0) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v5) = v0 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1))

def preserves_ProjBwd_ProjBwdIdeal : Prop :=
  True

def algebraic_ProjBwdIdeal_ProjBwdRefIdeal [hProjBwdIdeal : Cert.ProjBwdIdeal.Facts] [hProjBwdRefIdeal : Cert.ProjBwdRefIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)) →
    ∃ (v0 : (c : Dev Cert.ProjBwdIdeal.nD) → Buf (Elt Ideal) ((c.tc : Thread Cert.ProjBwdIdeal.nD Cert.ProjBwdIdeal.τ).loc Cert.ProjBwdIdeal.main_v0)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v0) = v0 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_v5) = v0 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)
      ∧ m' ((c.tc : Thread Cert.GradInRefIdeal.nD Cert.GradInRefIdeal.τ).loc Cert.GradInRefIdeal.main_arg2) = m ((c.tc : Thread Cert.GradInIdeal.nD Cert.GradInIdeal.τ).loc Cert.GradInIdeal.main_arg2)
      ∧ m' ((c.tc : Thread Cert.GradInRefIdeal.nD Cert.GradInRefIdeal.τ).loc Cert.GradInRefIdeal.main_arg3) = m ((c.tc : Thread Cert.GradInIdeal.nD Cert.GradInIdeal.τ).loc Cert.GradInIdeal.main_arg3)
      ∧ m' ((c.tc : Thread Cert.GradInRefIdeal.nD Cert.GradInRefIdeal.τ).loc Cert.GradInRefIdeal.main_arg4) = m ((c.tc : Thread Cert.GradInIdeal.nD Cert.GradInIdeal.τ).loc Cert.GradInIdeal.main_arg4)
      ∧ m' ((c.tc : Thread Cert.GradInRefIdeal.nD Cert.GradInRefIdeal.τ).loc Cert.GradInRefIdeal.main_arg5) = m ((c.tc : Thread Cert.GradInIdeal.nD Cert.GradInIdeal.τ).loc Cert.GradInIdeal.main_arg5)
      ∧ m' ((c.tc : Thread Cert.GradInRefIdeal.nD Cert.GradInRefIdeal.τ).loc Cert.GradInRefIdeal.main_arg6) = m ((c.tc : Thread Cert.GradInIdeal.nD Cert.GradInIdeal.τ).loc Cert.GradInIdeal.main_arg6)
      ∧ m' ((c.tc : Thread Cert.GradInRefIdeal.nD Cert.GradInRefIdeal.τ).loc Cert.GradInRefIdeal.main_arg7) = m ((c.tc : Thread Cert.GradInIdeal.nD Cert.GradInIdeal.τ).loc Cert.GradInIdeal.main_arg7)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
          ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
          ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3)
          ∧ r.2.mem ((c.tc : Thread Cert.GradInIdeal.nD Cert.GradInIdeal.τ).loc Cert.GradInIdeal.main_arg4) = m ((c.tc : Thread Cert.GradInIdeal.nD Cert.GradInIdeal.τ).loc Cert.GradInIdeal.main_arg4)
          ∧ r.2.mem ((c.tc : Thread Cert.GradInIdeal.nD Cert.GradInIdeal.τ).loc Cert.GradInIdeal.main_arg5) = m ((c.tc : Thread Cert.GradInIdeal.nD Cert.GradInIdeal.τ).loc Cert.GradInIdeal.main_arg5)
          ∧ r.2.mem ((c.tc : Thread Cert.GradInIdeal.nD Cert.GradInIdeal.τ).loc Cert.GradInIdeal.main_arg6) = m ((c.tc : Thread Cert.GradInIdeal.nD Cert.GradInIdeal.τ).loc Cert.GradInIdeal.main_arg6)
          ∧ r.2.mem ((c.tc : Thread Cert.GradInIdeal.nD Cert.GradInIdeal.τ).loc Cert.GradInIdeal.main_arg7) = m ((c.tc : Thread Cert.GradInIdeal.nD Cert.GradInIdeal.τ).loc Cert.GradInIdeal.main_arg7))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v6) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1)
          ∧ r.2.mem ((c.tc : Thread Cert.GradInRefIdeal.nD Cert.GradInRefIdeal.τ).loc Cert.GradInRefIdeal.main_arg2) = m' ((c.tc : Thread Cert.GradInRefIdeal.nD Cert.GradInRefIdeal.τ).loc Cert.GradInRefIdeal.main_arg2)
          ∧ r.2.mem ((c.tc : Thread Cert.GradInRefIdeal.nD Cert.GradInRefIdeal.τ).loc Cert.GradInRefIdeal.main_arg3) = m' ((c.tc : Thread Cert.GradInRefIdeal.nD Cert.GradInRefIdeal.τ).loc Cert.GradInRefIdeal.main_arg3)
          ∧ r.2.mem ((c.tc : Thread Cert.GradInRefIdeal.nD Cert.GradInRefIdeal.τ).loc Cert.GradInRefIdeal.main_arg4) = m' ((c.tc : Thread Cert.GradInRefIdeal.nD Cert.GradInRefIdeal.τ).loc Cert.GradInRefIdeal.main_arg4)
          ∧ r.2.mem ((c.tc : Thread Cert.GradInRefIdeal.nD Cert.GradInRefIdeal.τ).loc Cert.GradInRefIdeal.main_arg5) = m' ((c.tc : Thread Cert.GradInRefIdeal.nD Cert.GradInRefIdeal.τ).loc Cert.GradInRefIdeal.main_arg5)
          ∧ r.2.mem ((c.tc : Thread Cert.GradInRefIdeal.nD Cert.GradInRefIdeal.τ).loc Cert.GradInRefIdeal.main_arg6) = m' ((c.tc : Thread Cert.GradInRefIdeal.nD Cert.GradInRefIdeal.τ).loc Cert.GradInRefIdeal.main_arg6)
          ∧ r.2.mem ((c.tc : Thread Cert.GradInRefIdeal.nD Cert.GradInRefIdeal.τ).loc Cert.GradInRefIdeal.main_arg7) = m' ((c.tc : Thread Cert.GradInRefIdeal.nD Cert.GradInRefIdeal.τ).loc Cert.GradInRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_UpProj_UpProjIdeal : Prop :=
  True

def algebraic_UpProjIdeal_UpProjRefIdeal [hUpProjIdeal : Cert.UpProjIdeal.Facts] [hUpProjRefIdeal : Cert.UpProjRefIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)) →
    ∃ (v0 : (c : Dev Cert.UpProjIdeal.nD) → Buf (Elt Ideal) ((c.tc : Thread Cert.UpProjIdeal.nD Cert.UpProjIdeal.τ).loc Cert.UpProjIdeal.main_v0)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0) = v0 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v3) = v0 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)
      ∧ m' ((c.tc : Thread Cert.UpBwdRefIdeal.nD Cert.UpBwdRefIdeal.τ).loc Cert.UpBwdRefIdeal.main_arg5) = m ((c.tc : Thread Cert.UpBwdIdeal.nD Cert.UpBwdIdeal.τ).loc Cert.UpBwdIdeal.main_arg5)
      ∧ m' ((c.tc : Thread Cert.UpBwdRefIdeal.nD Cert.UpBwdRefIdeal.τ).loc Cert.UpBwdRefIdeal.main_arg6) = m ((c.tc : Thread Cert.UpBwdIdeal.nD Cert.UpBwdIdeal.τ).loc Cert.UpBwdIdeal.main_arg6)
      ∧ m' ((c.tc : Thread Cert.UpBwdRefIdeal.nD Cert.UpBwdRefIdeal.τ).loc Cert.UpBwdRefIdeal.main_arg7) = m ((c.tc : Thread Cert.UpBwdIdeal.nD Cert.UpBwdIdeal.τ).loc Cert.UpBwdIdeal.main_arg7)) →
    ∃ (v0 : (c : Dev Cert.UpBwdIdeal.nD) → Buf (Elt Ideal) ((c.tc : Thread Cert.UpBwdIdeal.nD Cert.UpBwdIdeal.τ).loc Cert.UpBwdIdeal.main_v0_0)) (v1 : (c : Dev Cert.UpBwdIdeal.nD) → Buf (Elt Ideal) ((c.tc : Thread Cert.UpBwdIdeal.nD Cert.UpBwdIdeal.τ).loc Cert.UpBwdIdeal.main_v0_1)) (v2 : (c : Dev Cert.UpBwdIdeal.nD) → Buf (Elt Ideal) ((c.tc : Thread Cert.UpBwdIdeal.nD Cert.UpBwdIdeal.τ).loc Cert.UpBwdIdeal.main_v0_2)) (v3 : (c : Dev Cert.UpBwdIdeal.nD) → Buf (Elt Ideal) ((c.tc : Thread Cert.UpBwdIdeal.nD Cert.UpBwdIdeal.τ).loc Cert.UpBwdIdeal.main_v0_3)) (v4 : (c : Dev Cert.UpBwdIdeal.nD) → Buf (Elt Ideal) ((c.tc : Thread Cert.UpBwdIdeal.nD Cert.UpBwdIdeal.τ).loc Cert.UpBwdIdeal.main_v0_4)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v0_0) = v0 c
          ∧ r.2.mem ((c.tc : Thread Cert.UpBwdIdeal.nD Cert.UpBwdIdeal.τ).loc Cert.UpBwdIdeal.main_v0_1) = v1 c
          ∧ r.2.mem ((c.tc : Thread Cert.UpBwdIdeal.nD Cert.UpBwdIdeal.τ).loc Cert.UpBwdIdeal.main_v0_2) = v2 c
          ∧ r.2.mem ((c.tc : Thread Cert.UpBwdIdeal.nD Cert.UpBwdIdeal.τ).loc Cert.UpBwdIdeal.main_v0_3) = v3 c
          ∧ r.2.mem ((c.tc : Thread Cert.UpBwdIdeal.nD Cert.UpBwdIdeal.τ).loc Cert.UpBwdIdeal.main_v0_4) = v4 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
          ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
          ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6)
          ∧ r.2.mem ((c.tc : Thread Cert.UpBwdIdeal.nD Cert.UpBwdIdeal.τ).loc Cert.UpBwdIdeal.main_arg7) = m ((c.tc : Thread Cert.UpBwdIdeal.nD Cert.UpBwdIdeal.τ).loc Cert.UpBwdIdeal.main_arg7))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v39) = v0 c
          ∧ r.2.mem ((c.tc : Thread Cert.UpBwdRefIdeal.nD Cert.UpBwdRefIdeal.τ).loc Cert.UpBwdRefIdeal.main_v74) = v1 c
          ∧ r.2.mem ((c.tc : Thread Cert.UpBwdRefIdeal.nD Cert.UpBwdRefIdeal.τ).loc Cert.UpBwdRefIdeal.main_v22) = v2 c
          ∧ r.2.mem ((c.tc : Thread Cert.UpBwdRefIdeal.nD Cert.UpBwdRefIdeal.τ).loc Cert.UpBwdRefIdeal.main_v57) = v3 c
          ∧ r.2.mem ((c.tc : Thread Cert.UpBwdRefIdeal.nD Cert.UpBwdRefIdeal.τ).loc Cert.UpBwdRefIdeal.main_v0) = v4 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4)
          ∧ r.2.mem ((c.tc : Thread Cert.UpBwdRefIdeal.nD Cert.UpBwdRefIdeal.τ).loc Cert.UpBwdRefIdeal.main_arg5) = m' ((c.tc : Thread Cert.UpBwdRefIdeal.nD Cert.UpBwdRefIdeal.τ).loc Cert.UpBwdRefIdeal.main_arg5)
          ∧ r.2.mem ((c.tc : Thread Cert.UpBwdRefIdeal.nD Cert.UpBwdRefIdeal.τ).loc Cert.UpBwdRefIdeal.main_arg6) = m' ((c.tc : Thread Cert.UpBwdRefIdeal.nD Cert.UpBwdRefIdeal.τ).loc Cert.UpBwdRefIdeal.main_arg6)
          ∧ r.2.mem ((c.tc : Thread Cert.UpBwdRefIdeal.nD Cert.UpBwdRefIdeal.τ).loc Cert.UpBwdRefIdeal.main_arg7) = m' ((c.tc : Thread Cert.UpBwdRefIdeal.nD Cert.UpBwdRefIdeal.τ).loc Cert.UpBwdRefIdeal.main_arg7))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)
      ∧ m' ((c.tc : Thread Cert.InBwdRefIdeal.nD Cert.InBwdRefIdeal.τ).loc Cert.InBwdRefIdeal.main_arg9) = m ((c.tc : Thread Cert.InBwdIdeal.nD Cert.InBwdIdeal.τ).loc Cert.InBwdIdeal.main_arg9)
      ∧ m' ((c.tc : Thread Cert.InBwdRefIdeal.nD Cert.InBwdRefIdeal.τ).loc Cert.InBwdRefIdeal.main_arg10) = m ((c.tc : Thread Cert.InBwdIdeal.nD Cert.InBwdIdeal.τ).loc Cert.InBwdIdeal.main_arg10)) →
    ∃ (v0 : (c : Dev Cert.InBwdIdeal.nD) → Buf (Elt Ideal) ((c.tc : Thread Cert.InBwdIdeal.nD Cert.InBwdIdeal.τ).loc Cert.InBwdIdeal.main_v0_0)) (v1 : (c : Dev Cert.InBwdIdeal.nD) → Buf (Elt Ideal) ((c.tc : Thread Cert.InBwdIdeal.nD Cert.InBwdIdeal.τ).loc Cert.InBwdIdeal.main_v0_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0_0) = v0 c
          ∧ r.2.mem ((c.tc : Thread Cert.InBwdIdeal.nD Cert.InBwdIdeal.τ).loc Cert.InBwdIdeal.main_v0_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
          ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v39) = v0 c
          ∧ r.2.mem ((c.tc : Thread Cert.InBwdRefIdeal.nD Cert.InBwdRefIdeal.τ).loc Cert.InBwdRefIdeal.main_v22) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8)
          ∧ r.2.mem ((c.tc : Thread Cert.InBwdRefIdeal.nD Cert.InBwdRefIdeal.τ).loc Cert.InBwdRefIdeal.main_arg9) = m' ((c.tc : Thread Cert.InBwdRefIdeal.nD Cert.InBwdRefIdeal.τ).loc Cert.InBwdRefIdeal.main_arg9)
          ∧ r.2.mem ((c.tc : Thread Cert.InBwdRefIdeal.nD Cert.InBwdRefIdeal.τ).loc Cert.InBwdRefIdeal.main_arg10) = m' ((c.tc : Thread Cert.InBwdRefIdeal.nD Cert.InBwdRefIdeal.τ).loc Cert.InBwdRefIdeal.main_arg10))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)
      ∧ m' ((c.tc : Thread Cert.BranchRefIdeal.nD Cert.BranchRefIdeal.τ).loc Cert.BranchRefIdeal.main_arg5) = m ((c.tc : Thread Cert.BranchIdeal.nD Cert.BranchIdeal.τ).loc Cert.BranchIdeal.main_arg5)) →
    ∃ (v0 : (c : Dev Cert.BranchIdeal.nD) → Buf (Elt Ideal) ((c.tc : Thread Cert.BranchIdeal.nD Cert.BranchIdeal.τ).loc Cert.BranchIdeal.main_v0_0)) (v1 : (c : Dev Cert.BranchIdeal.nD) → Buf (Elt Ideal) ((c.tc : Thread Cert.BranchIdeal.nD Cert.BranchIdeal.τ).loc Cert.BranchIdeal.main_v0_1)) (v2 : (c : Dev Cert.BranchIdeal.nD) → Buf (Elt Ideal) ((c.tc : Thread Cert.BranchIdeal.nD Cert.BranchIdeal.τ).loc Cert.BranchIdeal.main_v0_2)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0_0) = v0 c
          ∧ r.2.mem ((c.tc : Thread Cert.BranchIdeal.nD Cert.BranchIdeal.τ).loc Cert.BranchIdeal.main_v0_1) = v1 c
          ∧ r.2.mem ((c.tc : Thread Cert.BranchIdeal.nD Cert.BranchIdeal.τ).loc Cert.BranchIdeal.main_v0_2) = v2 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v35) = v0 c
          ∧ r.2.mem ((c.tc : Thread Cert.BranchRefIdeal.nD Cert.BranchRefIdeal.τ).loc Cert.BranchRefIdeal.main_v36) = v1 c
          ∧ r.2.mem ((c.tc : Thread Cert.BranchRefIdeal.nD Cert.BranchRefIdeal.τ).loc Cert.BranchRefIdeal.main_v37) = v2 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4)
          ∧ r.2.mem ((c.tc : Thread Cert.BranchRefIdeal.nD Cert.BranchRefIdeal.τ).loc Cert.BranchRefIdeal.main_arg5) = m' ((c.tc : Thread Cert.BranchRefIdeal.nD Cert.BranchRefIdeal.τ).loc Cert.BranchRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)) (v2 : (c : Dev Cert.OutProjIdeal.nD) → Buf (Elt Ideal) ((c.tc : Thread Cert.OutProjIdeal.nD Cert.OutProjIdeal.τ).loc Cert.OutProjIdeal.main_v0_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_v0_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_v15) = v1 c
          ∧ r.2.mem ((c.tc : Thread Cert.OutProjRefIdeal.nD Cert.OutProjRefIdeal.τ).loc Cert.OutProjRefIdeal.main_v28) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v56) = v0 c
          ∧ r.2.mem ((c.tc : Thread Cert.LossRefIdeal.nD Cert.LossRefIdeal.τ).loc Cert.LossRefIdeal.main_v36) = v1 c
          ∧ r.2.mem ((c.tc : Thread Cert.LossRefIdeal.nD Cert.LossRefIdeal.τ).loc Cert.LossRefIdeal.main_v39) = v2 c
          ∧ r.2.mem ((c.tc : Thread Cert.LossRefIdeal.nD Cert.LossRefIdeal.τ).loc Cert.LossRefIdeal.main_v57) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def Claim : Prop :=
  ∃ (hKernel : Cert.Kernel.Facts) (hKernelIdeal : Cert.KernelIdeal.Facts) (hReferenceIdeal : Cert.ReferenceIdeal.Facts) (hGradDown : Cert.GradDown.Facts) (hGradDownIdeal : Cert.GradDownIdeal.Facts) (hGradDownRefIdeal : Cert.GradDownRefIdeal.Facts) (hGradUp : Cert.GradUp.Facts) (hGradUpIdeal : Cert.GradUpIdeal.Facts) (hGradUpRefIdeal : Cert.GradUpRefIdeal.Facts) (hGradOut : Cert.GradOut.Facts) (hGradOutIdeal : Cert.GradOutIdeal.Facts) (hGradOutRefIdeal : Cert.GradOutRefIdeal.Facts) (hDownBwd : Cert.DownBwd.Facts) (hDownBwdIdeal : Cert.DownBwdIdeal.Facts) (hDownBwdRefIdeal : Cert.DownBwdRefIdeal.Facts) (hProjBwd : Cert.ProjBwd.Facts) (hProjBwdIdeal : Cert.ProjBwdIdeal.Facts) (hProjBwdRefIdeal : Cert.ProjBwdRefIdeal.Facts) (hGradIn : Cert.GradIn.Facts) (hGradInIdeal : Cert.GradInIdeal.Facts) (hGradInRefIdeal : Cert.GradInRefIdeal.Facts) (hInProj : Cert.InProj.Facts) (hInProjIdeal : Cert.InProjIdeal.Facts) (hInProjRefIdeal : Cert.InProjRefIdeal.Facts) (hUpProj : Cert.UpProj.Facts) (hUpProjIdeal : Cert.UpProjIdeal.Facts) (hUpProjRefIdeal : Cert.UpProjRefIdeal.Facts) (hUpBwd : Cert.UpBwd.Facts) (hUpBwdIdeal : Cert.UpBwdIdeal.Facts) (hUpBwdRefIdeal : Cert.UpBwdRefIdeal.Facts) (hInBwd : Cert.InBwd.Facts) (hInBwdIdeal : Cert.InBwdIdeal.Facts) (hInBwdRefIdeal : Cert.InBwdRefIdeal.Facts) (hBranch : Cert.Branch.Facts) (hBranchIdeal : Cert.BranchIdeal.Facts) (hBranchRefIdeal : Cert.BranchRefIdeal.Facts) (hOutProj : Cert.OutProj.Facts) (hOutProjIdeal : Cert.OutProjIdeal.Facts) (hOutProjRefIdeal : Cert.OutProjRefIdeal.Facts) (hLoss : Cert.Loss.Facts) (hLossIdeal : Cert.LossIdeal.Facts) (hLossRefIdeal : Cert.LossRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_DownBwd (hDownBwd := hDownBwd)
    ∧ quiescent_DownBwdIdeal (hDownBwdIdeal := hDownBwdIdeal)
    ∧ quiescent_DownBwdRefIdeal (hDownBwdRefIdeal := hDownBwdRefIdeal)
    ∧ quiescent_ProjBwd (hProjBwd := hProjBwd)
    ∧ quiescent_ProjBwdIdeal (hProjBwdIdeal := hProjBwdIdeal)
    ∧ quiescent_ProjBwdRefIdeal (hProjBwdRefIdeal := hProjBwdRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_InProj (hInProj := hInProj)
    ∧ quiescent_InProjIdeal (hInProjIdeal := hInProjIdeal)
    ∧ quiescent_InProjRefIdeal (hInProjRefIdeal := hInProjRefIdeal)
    ∧ quiescent_UpProj (hUpProj := hUpProj)
    ∧ quiescent_UpProjIdeal (hUpProjIdeal := hUpProjIdeal)
    ∧ quiescent_UpProjRefIdeal (hUpProjRefIdeal := hUpProjRefIdeal)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_Branch (hBranch := hBranch)
    ∧ quiescent_BranchIdeal (hBranchIdeal := hBranchIdeal)
    ∧ quiescent_BranchRefIdeal (hBranchRefIdeal := hBranchRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Loss (hLoss := hLoss)
    ∧ quiescent_LossIdeal (hLossIdeal := hLossIdeal)
    ∧ quiescent_LossRefIdeal (hLossRefIdeal := hLossRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GradDown_GradDownIdeal
    ∧ algebraic_GradDownIdeal_GradDownRefIdeal (hGradDownIdeal := hGradDownIdeal) (hGradDownRefIdeal := hGradDownRefIdeal)
    ∧ preserves_GradUp_GradUpIdeal
    ∧ algebraic_GradUpIdeal_GradUpRefIdeal (hGradUpIdeal := hGradUpIdeal) (hGradUpRefIdeal := hGradUpRefIdeal)
    ∧ preserves_GradOut_GradOutIdeal
    ∧ algebraic_GradOutIdeal_GradOutRefIdeal (hGradOutIdeal := hGradOutIdeal) (hGradOutRefIdeal := hGradOutRefIdeal)
    ∧ preserves_DownBwd_DownBwdIdeal
    ∧ algebraic_DownBwdIdeal_DownBwdRefIdeal (hDownBwdIdeal := hDownBwdIdeal) (hDownBwdRefIdeal := hDownBwdRefIdeal)
    ∧ preserves_ProjBwd_ProjBwdIdeal
    ∧ algebraic_ProjBwdIdeal_ProjBwdRefIdeal (hProjBwdIdeal := hProjBwdIdeal) (hProjBwdRefIdeal := hProjBwdRefIdeal)
    ∧ preserves_GradIn_GradInIdeal
    ∧ algebraic_GradInIdeal_GradInRefIdeal (hGradInIdeal := hGradInIdeal) (hGradInRefIdeal := hGradInRefIdeal)
    ∧ preserves_InProj_InProjIdeal
    ∧ algebraic_InProjIdeal_InProjRefIdeal (hInProjIdeal := hInProjIdeal) (hInProjRefIdeal := hInProjRefIdeal)
    ∧ preserves_UpProj_UpProjIdeal
    ∧ algebraic_UpProjIdeal_UpProjRefIdeal (hUpProjIdeal := hUpProjIdeal) (hUpProjRefIdeal := hUpProjRefIdeal)
    ∧ preserves_UpBwd_UpBwdIdeal
    ∧ algebraic_UpBwdIdeal_UpBwdRefIdeal (hUpBwdIdeal := hUpBwdIdeal) (hUpBwdRefIdeal := hUpBwdRefIdeal)
    ∧ preserves_InBwd_InBwdIdeal
    ∧ algebraic_InBwdIdeal_InBwdRefIdeal (hInBwdIdeal := hInBwdIdeal) (hInBwdRefIdeal := hInBwdRefIdeal)
    ∧ preserves_Branch_BranchIdeal
    ∧ algebraic_BranchIdeal_BranchRefIdeal (hBranchIdeal := hBranchIdeal) (hBranchRefIdeal := hBranchRefIdeal)
    ∧ preserves_OutProj_OutProjIdeal
    ∧ algebraic_OutProjIdeal_OutProjRefIdeal (hOutProjIdeal := hOutProjIdeal) (hOutProjRefIdeal := hOutProjRefIdeal)
    ∧ preserves_Loss_LossIdeal
    ∧ algebraic_LossIdeal_LossRefIdeal (hLossIdeal := hLossIdeal) (hLossRefIdeal := hLossRefIdeal)
-- ==== Pre_finite.lean ====
abbrev S4352x8192 : Shape := ⟨2, ![4352, 8192]⟩
abbrev S4352x1024 : Shape := ⟨2, ![4352, 1024]⟩
abbrev S_ : Shape := ⟨0, ![]⟩

class Facts : Prop where
  slices_S4352x8192_S4352x1024_0_3072 : S4352x8192.Slices ![0, 3072] S4352x1024
  slices_S4352x8192_S4352x1024_0_4096 : S4352x8192.Slices ![0, 4096] S4352x1024
  slices_S4352x8192_S4352x1024_0_5120 : S4352x8192.Slices ![0, 5120] S4352x1024
  bitsLt_bf16_f32 : FTy.bits .bf16 < FTy.bits .f32
  bcast_S_S4352x1024 : S_.BroadcastsInDim S4352x1024 (![] : Fin 0 → Fin S4352x1024.rank)

variable [Facts]

def fn_part1 {F : FTy → Type} [FloatOps F] (main_v14 : IVec S4352x1024 1) (main_v18 : IVec S4352x1024 1) (main_v19 : IVec S4352x1024 1) : IVec S4352x1024 1 :=
  let main_v20 : IVec S4352x1024 1 := andi main_v19 main_v14
  let main_v21 : IVec S4352x1024 1 := andi main_v20 main_v18
  main_v21

def fn {F : FTy → Type} [FloatOps F] (main_arg0 : FVec F S4352x8192 .bf16) (main_arg1 : FVec F S4352x1024 .bf16) : IVec S4352x1024 1 :=
  let main_v0 : FVec F S4352x1024 .bf16 := (extractStridedSlice S4352x1024 ![0, 3072] · slices_S4352x8192_S4352x1024_0_3072) main_arg0
  let main_v1 : FVec F S4352x1024 .bf16 := (extractStridedSlice S4352x1024 ![0, 4096] · slices_S4352x8192_S4352x1024_0_4096) main_arg0
  let main_v2 : FVec F S4352x1024 .bf16 := (extractStridedSlice S4352x1024 ![0, 5120] · slices_S4352x8192_S4352x1024_0_5120) main_arg0
  let main_v3 : FVec F S4352x1024 .f32 := (extf .f32 · bitsLt_bf16_f32) main_v0
  let main_v4 : FVec F S4352x1024 .f32 := Host.absf main_v3
  let main_cst : FVec F S_ .f32 := constant S_ .f32 0x7F800000#32
  let main_v5 : FVec F S4352x1024 .f32 := broadcastInDim S4352x1024 ![] bcast_S_S4352x1024 main_cst
  let main_v6 : IVec S4352x1024 1 := cmpf .olt main_v4 main_v5
  let main_v7 : FVec F S4352x1024 .f32 := (extf .f32 · bitsLt_bf16_f32) main_v1
  let main_v8 : FVec F S4352x1024 .f32 := Host.absf main_v7
  let main_cst_0 : FVec F S_ .f32 := constant S_ .f32 0x7F800000#32
  let main_v9 : FVec F S4352x1024 .f32 := broadcastInDim S4352x1024 ![] bcast_S_S4352x1024 main_cst_0
  let main_v10 : IVec S4352x1024 1 := cmpf .olt main_v8 main_v9
  let main_v11 : FVec F S4352x1024 .f32 := (extf .f32 · bitsLt_bf16_f32) main_v2
  let main_v12 : FVec F S4352x1024 .f32 := Host.absf main_v11
  let main_cst_1 : FVec F S_ .f32 := constant S_ .f32 0x7F800000#32
  let main_v13 : FVec F S4352x1024 .f32 := broadcastInDim S4352x1024 ![] bcast_S_S4352x1024 main_cst_1
  let main_v14 : IVec S4352x1024 1 := cmpf .olt main_v12 main_v13
  let main_v15 : FVec F S4352x1024 .f32 := (extf .f32 · bitsLt_bf16_f32) main_arg1
  let main_v16 : FVec F S4352x1024 .f32 := Host.absf main_v15
  let main_cst_2 : FVec F S_ .f32 := constant S_ .f32 0x7F800000#32
  let main_v17 : FVec F S4352x1024 .f32 := broadcastInDim S4352x1024 ![] bcast_S_S4352x1024 main_cst_2
  let main_v18 : IVec S4352x1024 1 := cmpf .olt main_v16 main_v17
  let main_v19 : IVec S4352x1024 1 := andi main_v6 main_v10
  fn_part1 (F := F) main_v14 main_v18 main_v19
-- ==== Kernel.lean ====
abbrev S4352x8192 : Shape := ⟨2, ![4352, 8192]⟩
abbrev S4352x1024 : Shape := ⟨2, ![4352, 1024]⟩
abbrev S4352x16x64 : Shape := ⟨3, ![4352, 16, 64]⟩
abbrev S16x4352x4352 : Shape := ⟨3, ![16, 4352, 4352]⟩
abbrev S_ : Shape := ⟨0, ![]⟩
abbrev S4352 : Shape := ⟨1, ![4352]⟩
abbrev S1x4352 : Shape := ⟨2, ![1, 4352]⟩
abbrev S4352x1 : Shape := ⟨2, ![4352, 1]⟩
abbrev S4352x4352 : Shape := ⟨2, ![4352, 4352]⟩
abbrev S16x4352 : Shape := ⟨2, ![16, 4352]⟩
abbrev S4352x16 : Shape := ⟨2, ![4352, 16]⟩
abbrev S256x256 : Shape := ⟨2, ![256, 256]⟩
abbrev S4352x256 : Shape := ⟨2, ![4352, 256]⟩
abbrev S1x128 : Shape := ⟨2, ![1, 128]⟩
abbrev S256x128 : Shape := ⟨2, ![256, 128]⟩
abbrev S8x128 : Shape := ⟨2, ![8, 128]⟩
abbrev S8x256 : Shape := ⟨2, ![8, 256]⟩
abbrev S1x256 : Shape := ⟨2, ![1, 256]⟩

abbrev nBuf : Space → Nat
  | .hbm => 72
  | .vmem => 20
  | .smem => 0
  | _ => 0

abbrev bufTy : (tb : Table) → Fin (tcTables nBuf tb) → BufTy
  | .hbm, ⟨0, _⟩ => ⟨S4352x8192, .bf16⟩
  | .hbm, ⟨1, _⟩ => ⟨S4352x1024, .bf16⟩
  | .hbm, ⟨2, _⟩ => ⟨S4352x8192, .f32⟩
  | .hbm, ⟨3, _⟩ => ⟨S4352x1024, .f32⟩
  | .hbm, ⟨4, _⟩ => ⟨S4352x16x64, .f32⟩
  | .hbm, ⟨5, _⟩ => ⟨S4352x1024, .f32⟩
  | .hbm, ⟨6, _⟩ => ⟨S4352x16x64, .f32⟩
  | .hbm, ⟨7, _⟩ => ⟨S16x4352x4352, .f32⟩
  | .hbm, ⟨8, _⟩ => ⟨S_, .f32⟩
  | .hbm, ⟨9, _⟩ => ⟨S16x4352x4352, .f32⟩
  | .hbm, ⟨10, _⟩ => ⟨S16x4352x4352, .f32⟩
  | .hbm, ⟨11, _⟩ => ⟨S4352, .i32⟩
  | .hbm, ⟨12, _⟩ => ⟨S1x4352, .i32⟩
  | .hbm, ⟨13, _⟩ => ⟨S4352, .i32⟩
  | .hbm, ⟨14, _⟩ => ⟨S4352x1, .i32⟩
  | .hbm, ⟨15, _⟩ => ⟨S4352x4352, .i32⟩
  | .hbm, ⟨16, _⟩ => ⟨S4352x4352, .i32⟩
  | .hbm, ⟨17, _⟩ => ⟨S4352x4352, .i1⟩
  | .hbm, ⟨18, _⟩ => ⟨S16x4352x4352, .f32⟩
  | .hbm, ⟨19, _⟩ => ⟨S_, .f32⟩
  | .hbm, ⟨20, _⟩ => ⟨S16x4352x4352, .f32⟩
  | .hbm, ⟨21, _⟩ => ⟨S16x4352x4352, .f32⟩
  | .hbm, ⟨22, _⟩ => ⟨S16x4352x4352, .f32⟩
  | .hbm, ⟨23, _⟩ => ⟨S16x4352x4352, .f32⟩
  | .hbm, ⟨24, _⟩ => ⟨S16x4352x4352, .i1⟩
  | .hbm, ⟨25, _⟩ => ⟨S16x4352x4352, .f32⟩
  | .hbm, ⟨26, _⟩ => ⟨S16x4352x4352, .f32⟩
  | .hbm, ⟨27, _⟩ => ⟨S16x4352x4352, .f32⟩
  | .hbm, ⟨28, _⟩ => ⟨S16x4352x4352, .f32⟩
  | .hbm, ⟨29, _⟩ => ⟨S16x4352x4352, .f32⟩
  | .hbm, ⟨30, _⟩ => ⟨S16x4352x4352, .f32⟩
  | .hbm, ⟨31, _⟩ => ⟨S16x4352x4352, .f32⟩
  | .hbm, ⟨32, _⟩ => ⟨S16x4352x4352, .f32⟩
  | .hbm, ⟨33, _⟩ => ⟨S16x4352x4352, .f32⟩
  | .hbm, ⟨34, _⟩ => ⟨S16x4352x4352, .f32⟩
  | .hbm, ⟨35, _⟩ => ⟨S_, .f32⟩
  | .hbm, ⟨36, _⟩ => ⟨S_, .f32⟩
  | .hbm, ⟨37, _⟩ => ⟨S16x4352x4352, .i1⟩
  | .hbm, ⟨38, _⟩ => ⟨S16x4352x4352, .f32⟩
  | .hbm, ⟨39, _⟩ => ⟨S16x4352x4352, .f32⟩
  | .hbm, ⟨40, _⟩ => ⟨S_, .f32⟩
  | .hbm, ⟨41, _⟩ => ⟨S16x4352, .f32⟩
  | .hbm, ⟨42, _⟩ => ⟨S4352x16, .f32⟩
  | .hbm, ⟨43, _⟩ => ⟨S4352x16x64, .f32⟩
  | .hbm, ⟨44, _⟩ => ⟨S4352x1024, .f32⟩
  | .hbm, ⟨45, _⟩ => ⟨S_, .f32⟩
  | .hbm, ⟨46, _⟩ => ⟨S256x256, .f32⟩
  | .hbm, ⟨47, _⟩ => ⟨S256x256, .i32⟩
  | .hbm, ⟨48, _⟩ => ⟨S_, .i32⟩
  | .hbm, ⟨49, _⟩ => ⟨S256x256, .i32⟩
  | .hbm, ⟨50, _⟩ => ⟨S256x256, .i32⟩
  | .hbm, ⟨51, _⟩ => ⟨S256x256, .i32⟩
  | .hbm, ⟨52, _⟩ => ⟨S256x256, .i1⟩
  | .hbm, ⟨53, _⟩ => ⟨S_, .f32⟩
  | .hbm, ⟨54, _⟩ => ⟨S256x256, .f32⟩
  | .hbm, ⟨55, _⟩ => ⟨S256x256, .f32⟩
  | .hbm, ⟨56, _⟩ => ⟨S256x256, .bf16⟩
  | .hbm, ⟨57, _⟩ => ⟨S_, .f32⟩
  | .hbm, ⟨58, _⟩ => ⟨S256x256, .f32⟩
  | .hbm, ⟨59, _⟩ => ⟨S256x256, .i32⟩
  | .hbm, ⟨60, _⟩ => ⟨S_, .i32⟩
  | .hbm, ⟨61, _⟩ => ⟨S256x256, .i32⟩
  | .hbm, ⟨62, _⟩ => ⟨S256x256, .i32⟩
  | .hbm, ⟨63, _⟩ => ⟨S256x256, .i32⟩
  | .hbm, ⟨64, _⟩ => ⟨S256x256, .i1⟩
  | .hbm, ⟨65, _⟩ => ⟨S_, .f32⟩
  | .hbm, ⟨66, _⟩ => ⟨S256x256, .f32⟩
  | .hbm, ⟨67, _⟩ => ⟨S256x256, .f32⟩
  | .hbm, ⟨68, _⟩ => ⟨S256x256, .bf16⟩
  | .hbm, ⟨69, _⟩ => ⟨S4352x1024, .bf16⟩
  | .hbm, ⟨70, _⟩ => ⟨S4352x1024, .bf16⟩
  | .hbm, ⟨71, _⟩ => ⟨S4352x1024, .bf16⟩
  | .local _ .vmem, ⟨0, _⟩ => ⟨S256x256, .bf16⟩
  | .local _ .vmem, ⟨1, _⟩ => ⟨S256x256, .bf16⟩
  | .local _ .vmem, ⟨2, _⟩ => ⟨S4352x256, .bf16⟩
  | .local _ .vmem, ⟨3, _⟩ => ⟨S4352x256, .bf16⟩
  | .local _ .vmem, ⟨4, _⟩ => ⟨S4352x256, .bf16⟩
  | .local _ .vmem, ⟨5, _⟩ => ⟨S4352x256, .bf16⟩
  | .local _ .vmem, ⟨6, _⟩ => ⟨S256x256, .f32⟩
  | .local _ .vmem, ⟨7, _⟩ => ⟨S256x256, .f32⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S4352x256, .bf16⟩
  | .local _ .vmem, ⟨15, _⟩ => ⟨S4352x256, .bf16⟩
  | .local _ .vmem, ⟨16, _⟩ => ⟨S4352x256, .bf16⟩
  | .local _ .vmem, ⟨17, _⟩ => ⟨S4352x256, .bf16⟩
  | .local _ .vmem, ⟨18, _⟩ => ⟨S4352x256, .f32⟩
  | .local _ .vmem, ⟨19, _⟩ => ⟨S4352x256, .f32⟩
  | _, _ => ⟨S4352x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_cst : Ref sig .tc := ⟨.hbm, 53, rfl⟩
abbrev main_call2_v5 : Ref sig .tc := ⟨.hbm, 54, rfl⟩
abbrev main_v23 : Ref sig .tc := ⟨.hbm, 55, rfl⟩
abbrev main_v24 : Ref sig .tc := ⟨.hbm, 56, rfl⟩
abbrev main_cst_3 : Ref sig .tc := ⟨.hbm, 57, rfl⟩
abbrev main_v25 : Ref sig .tc := ⟨.hbm, 58, rfl⟩
abbrev main_call3_v0 : Ref sig .tc := ⟨.hbm, 59, rfl⟩
abbrev main_call3_c : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_cst : Ref sig .tc := ⟨.hbm, 65, rfl⟩
abbrev main_call3_v5 : Ref sig .tc := ⟨.hbm, 66, rfl⟩
abbrev main_v26 : Ref sig .tc := ⟨.hbm, 67, rfl⟩
abbrev main_v27 : Ref sig .tc := ⟨.hbm, 68, rfl⟩
abbrev main_v28_0 : Ref sig .tc := ⟨.hbm, 69, rfl⟩
abbrev main_v28_1 : Ref sig .tc := ⟨.hbm, 70, rfl⟩
abbrev main_v28_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 17], ![false, false]⟩

@[reducible] def k0_t1_loop (i : grid0.Coords) : Scf.Loop 32 :=
  let c0_i32_42 : BitVec 32 := 0#32
  let arg1 : BitVec 32 := BitVec.ofNat 32 (i 1).val
  let v103 : BitVec 32 := Scalar.subi arg1 c0_i32_42
  let c1_i32 : BitVec 32 := 1#32
  let v105 : BitVec 32 := Scalar.divsi v103 c1_i32
  let v106 : BitVec 32 := Scalar.muli v105 c1_i32
  let v107 : BitVec 32 := Scalar.addi c0_i32_42 v106
  let c1_i32_43 : BitVec 32 := 1#32
  ⟨c0_i32_42, v107, c1_i32_43⟩
def k0_mult1 (i : grid0.Coords) (k0_t1 : Fin (k0_t1_loop i).trips) : BitVec 32 :=
  let c0_i32_42 : BitVec 32 := 0#32
  let c1_i32_43 : BitVec 32 := 1#32
  let arg14 : BitVec 32 := Scf.iv c0_i32_42 c1_i32_43 k0_t1
  let c256_i32_119 : BitVec 32 := 256#32
  let v370 : BitVec 32 := Scalar.muli arg14 c256_i32_119
  v370
def k0_off1 (i : grid0.Coords) (k0_t1 : Fin (k0_t1_loop i).trips) : Fin 2 → Nat :=
  let c0_i32_42 : BitVec 32 := 0#32
  let c1_i32_43 : BitVec 32 := 1#32
  let arg14 : BitVec 32 := Scf.iv c0_i32_42 c1_i32_43 k0_t1
  let c256_i32_119 : BitVec 32 := 256#32
  let v370 : BitVec 32 := Scalar.muli arg14 c256_i32_119
  let v371 : BitVec 32 := v370
  let v372 : Index := Scalar.indexCast v371
  let c0_120 : Index := 0#32
  ![v372.toNat, 0]
def k0_mult2 (i : grid0.Coords) (k0_t1 : Fin (k0_t1_loop i).trips) : BitVec 32 :=
  let c0_i32_42 : BitVec 32 := 0#32
  let c1_i32_43 : BitVec 32 := 1#32
  let arg14 : BitVec 32 := Scf.iv c0_i32_42 c1_i32_43 k0_t1
  let c256_i32_150 : BitVec 32 := 256#32
  let v532 : BitVec 32 := Scalar.muli arg14 c256_i32_150
  v532
def k0_off2 (i : grid0.Coords) (k0_t1 : Fin (k0_t1_loop i).trips) : Fin 2 → Nat :=
  let c0_i32_42 : BitVec 32 := 0#32
  let c1_i32_43 : BitVec 32 := 1#32
  let arg14 : BitVec 32 := Scf.iv c0_i32_42 c1_i32_43 k0_t1
  let c256_i32_150 : BitVec 32 := 256#32
  let v532 : BitVec 32 := Scalar.muli arg14 c256_i32_150
  let v533 : BitVec 32 := v532
  let v582 : Index := Scalar.indexCast v533
  let c0_170 : Index := 0#32
  ![v582.toNat, 0]
def k0_off3 (i : grid0.Coords) (k0_t1 : Fin (k0_t1_loop i).trips) : Fin 2 → Nat :=
  let c0_i32_42 : BitVec 32 := 0#32
  let c1_i32_43 : BitVec 32 := 1#32
  let arg14 : BitVec 32 := Scf.iv c0_i32_42 c1_i32_43 k0_t1
  let c256_i32_150 : BitVec 32 := 256#32
  let v532 : BitVec 32 := Scalar.muli arg14 c256_i32_150
  let v533 : BitVec 32 := v532
  let v596 : Index := Scalar.indexCast v533
  let c128_174 : Index := 128#32
  ![v596.toNat, 128]
@[reducible] def k0_t2_loop (i : grid0.Coords) : Scf.Loop 32 :=
  let c0_i32_42 : BitVec 32 := 0#32
  let arg1 : BitVec 32 := BitVec.ofNat 32 (i 1).val
  let v103 : BitVec 32 := Scalar.subi arg1 c0_i32_42
  let c1_i32 : BitVec 32 := 1#32
  let v105 : BitVec 32 := Scalar.divsi v103 c1_i32
  let v106 : BitVec 32 := Scalar.muli v105 c1_i32
  let v107 : BitVec 32 := Scalar.addi c0_i32_42 v106
  let v104 : BitVec 32 := Scalar.addi c0_i32_42 v103
  let c1_i32_44 : BitVec 32 := 1#32
  ⟨v107, v104, c1_i32_44⟩
def k0_mult3 (i : grid0.Coords) (k0_t2 : Fin (k0_t2_loop i).trips) : BitVec 32 :=
  let c0_i32_42 : BitVec 32 := 0#32
  let arg1 : BitVec 32 := BitVec.ofNat 32 (i 1).val
  let v103 : BitVec 32 := Scalar.subi arg1 c0_i32_42
  let c1_i32 : BitVec 32 := 1#32
  let v105 : BitVec 32 := Scalar.divsi v103 c1_i32
  let v106 : BitVec 32 := Scalar.muli v105 c1_i32
  let v107 : BitVec 32 := Scalar.addi c0_i32_42 v106
  let c1_i32_44 : BitVec 32 := 1#32
  let arg14 : BitVec 32 := Scf.iv v107 c1_i32_44 k0_t2
  let c256_i32_119 : BitVec 32 := 256#32
  let v370 : BitVec 32 := Scalar.muli arg14 c256_i32_119
  v370
def k0_off4 (i : grid0.Coords) (k0_t2 : Fin (k0_t2_loop i).trips) : Fin 2 → Nat :=
  let c0_i32_42 : BitVec 32 := 0#32
  let arg1 : BitVec 32 := BitVec.ofNat 32 (i 1).val
  let v103 : BitVec 32 := Scalar.subi arg1 c0_i32_42
  let c1_i32 : BitVec 32 := 1#32
  let v105 : BitVec 32 := Scalar.divsi v103 c1_i32
  let v106 : BitVec 32 := Scalar.muli v105 c1_i32
  let v107 : BitVec 32 := Scalar.addi c0_i32_42 v106
  let c1_i32_44 : BitVec 32 := 1#32
  let arg14 : BitVec 32 := Scf.iv v107 c1_i32_44 k0_t2
  let c256_i32_119 : BitVec 32 := 256#32
  let v370 : BitVec 32 := Scalar.muli arg14 c256_i32_119
  let v371 : BitVec 32 := v370
  let v372 : Index := Scalar.indexCast v371
  let c0_120 : Index := 0#32
  ![v372.toNat, 0]
def k0_mult4 (i : grid0.Coords) (k0_t2 : Fin (k0_t2_loop i).trips) : BitVec 32 :=
  let c0_i32_42 : BitVec 32 := 0#32
  let arg1 : BitVec 32 := BitVec.ofNat 32 (i 1).val
  let v103 : BitVec 32 := Scalar.subi arg1 c0_i32_42
  let c1_i32 : BitVec 32 := 1#32
  let v105 : BitVec 32 := Scalar.divsi v103 c1_i32
  let v106 : BitVec 32 := Scalar.muli v105 c1_i32
  let v107 : BitVec 32 := Scalar.addi c0_i32_42 v106
  let c1_i32_44 : BitVec 32 := 1#32
  let arg14 : BitVec 32 := Scf.iv v107 c1_i32_44 k0_t2
  let c256_i32_150 : BitVec 32 := 256#32
  let v532 : BitVec 32 := Scalar.muli arg14 c256_i32_150
  v532
def k0_off5 (i : grid0.Coords) (k0_t2 : Fin (k0_t2_loop i).trips) : Fin 2 → Nat :=
  let c0_i32_42 : BitVec 32 := 0#32
  let arg1 : BitVec 32 := BitVec.ofNat 32 (i 1).val
  let v103 : BitVec 32 := Scalar.subi arg1 c0_i32_42
  let c1_i32 : BitVec 32 := 1#32
  let v105 : BitVec 32 := Scalar.divsi v103 c1_i32
  let v106 : BitVec 32 := Scalar.muli v105 c1_i32
  let v107 : BitVec 32 := Scalar.addi c0_i32_42 v106
  let c1_i32_44 : BitVec 32 := 1#32
  let arg14 : BitVec 32 := Scf.iv v107 c1_i32_44 k0_t2
  let c256_i32_150 : BitVec 32 := 256#32
  let v532 : BitVec 32 := Scalar.muli arg14 c256_i32_150
  let v533 : BitVec 32 := v532
  let v582 : Index := Scalar.indexCast v533
  let c0_170 : Index := 0#32
  ![v582.toNat, 0]
def k0_off6 (i : grid0.Coords) (k0_t2 : Fin (k0_t2_loop i).trips) : Fin 2 → Nat :=
  let c0_i32_42 : BitVec 32 := 0#32
  let arg1 : BitVec 32 := BitVec.ofNat 32 (i 1).val
  let v103 : BitVec 32 := Scalar.subi arg1 c0_i32_42
  let c1_i32 : BitVec 32 := 1#32
  let v105 : BitVec 32 := Scalar.divsi v103 c1_i32
  let v106 : BitVec 32 := Scalar.muli v105 c1_i32
  let v107 : BitVec 32 := Scalar.addi c0_i32_42 v106
  let c1_i32_44 : BitVec 32 := 1#32
  let arg14 : BitVec 32 := Scf.iv v107 c1_i32_44 k0_t2
  let c256_i32_150 : BitVec 32 := 256#32
  let v532 : BitVec 32 := Scalar.muli arg14 c256_i32_150
  let v533 : BitVec 32 := v532
  let v596 : Index := Scalar.indexCast v533
  let c128_174 : Index := 128#32
  ![v596.toNat, 128]
def k0_mult5 (i : grid0.Coords) : BitVec 32 :=
  let arg1 : BitVec 32 := BitVec.ofNat 32 (i 1).val
  let c256_i32 : BitVec 32 := 256#32
  let v110 : BitVec 32 := Scalar.muli arg1 c256_i32
  v110
def k0_off7 (i : grid0.Coords) : Fin 2 → Nat :=
  let arg1 : BitVec 32 := BitVec.ofNat 32 (i 1).val
  let c256_i32 : BitVec 32 := 256#32
  let v110 : BitVec 32 := Scalar.muli arg1 c256_i32
  let v111 : BitVec 32 := v110
  let v112 : Index := Scalar.indexCast v111
  let c0_45 : Index := 0#32
  ![v112.toNat, 0]
def k0_mult6 (i : grid0.Coords) : BitVec 32 :=
  let arg1 : BitVec 32 := BitVec.ofNat 32 (i 1).val
  let c256_i32_87 : BitVec 32 := 256#32
  let v284 : BitVec 32 := Scalar.muli arg1 c256_i32_87
  v284
def k0_off8 (i : grid0.Coords) : Fin 2 → Nat :=
  let arg1 : BitVec 32 := BitVec.ofNat 32 (i 1).val
  let c256_i32_87 : BitVec 32 := 256#32
  let v284 : BitVec 32 := Scalar.muli arg1 c256_i32_87
  let v285 : BitVec 32 := v284
  let v334 : Index := Scalar.indexCast v285
  let c0_107 : Index := 0#32
  ![v334.toNat, 0]
def k0_off9 (i : grid0.Coords) : Fin 2 → Nat :=
  let arg1 : BitVec 32 := BitVec.ofNat 32 (i 1).val
  let c256_i32_87 : BitVec 32 := 256#32
  let v284 : BitVec 32 := Scalar.muli arg1 c256_i32_87
  let v285 : BitVec 32 := v284
  let v348 : Index := Scalar.indexCast v285
  let c128_111 : Index := 128#32
  ![v348.toNat, 128]
def k0_cond2 (i : grid0.Coords) : BitVec 1 :=
  let arg1 : BitVec 32 := BitVec.ofNat 32 (i 1).val
  let c16_i32 : BitVec 32 := 16#32
  let v367 : BitVec 1 := Scalar.cmpi .eq arg1 c16_i32
  let v368 : BitVec 32 := Scalar.extui v367
  let c0_i32_118 : BitVec 32 := 0#32
  let v369 : BitVec 1 := Scalar.cmpi .ne v368 c0_i32_118
  v369

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4352x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4352x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4352x8192 : Shape := ⟨2, ![4352, 8192]⟩
abbrev S4352x1024 : Shape := ⟨2, ![4352, 1024]⟩
abbrev S4352x16x64 : Shape := ⟨3, ![4352, 16, 64]⟩
abbrev S16x4352x4352 : Shape := ⟨3, ![16, 4352, 4352]⟩
abbrev S_ : Shape := ⟨0, ![]⟩
abbrev S4352 : Shape := ⟨1, ![4352]⟩
abbrev S1x4352 : Shape := ⟨2, ![1, 4352]⟩
abbrev S4352x1 : Shape := ⟨2, ![4352, 1]⟩
abbrev S4352x4352 : Shape := ⟨2, ![4352, 4352]⟩
abbrev S16x64x4352 : Shape := ⟨3, ![16, 64, 4352]⟩
abbrev S16x4352x64 : Shape := ⟨3, ![16, 4352, 64]⟩

abbrev nBuf : Space → Nat
  | .hbm => 128
  | .vmem => 0
  | .smem => 0
  | _ => 0

abbrev bufTy : (tb : Table) → Fin (tcTables nBuf tb) → BufTy
  | .hbm, ⟨0, _⟩ => ⟨S4352x8192, .bf16⟩
  | .hbm, ⟨1, _⟩ => ⟨S4352x1024, .bf16⟩
  | .hbm, ⟨2, _⟩ => ⟨S4352x8192, .f32⟩
  | .hbm, ⟨3, _⟩ => ⟨S4352x1024, .f32⟩
  | .hbm, ⟨4, _⟩ => ⟨S4352x16x64, .f32⟩
  | .hbm, ⟨5, _⟩ => ⟨S4352x1024, .f32⟩
  | .hbm, ⟨6, _⟩ => ⟨S4352x16x64, .f32⟩
  | .hbm, ⟨7, _⟩ => ⟨S4352x1024, .f32⟩
  | .hbm, ⟨8, _⟩ => ⟨S4352x16x64, .f32⟩
  | .hbm, ⟨9, _⟩ => ⟨S4352x1024, .f32⟩
  | .hbm, ⟨10, _⟩ => ⟨S4352x16x64, .f32⟩
  | .hbm, ⟨11, _⟩ => ⟨S16x4352x4352, .f32⟩
  | .hbm, ⟨12, _⟩ => ⟨S_, .f32⟩
  | .hbm, ⟨13, _⟩ => ⟨S16x4352x4352, .f32⟩
  | .hbm, ⟨14, _⟩ => ⟨S16x4352x4352, .f32⟩
  | .hbm, ⟨15, _⟩ => ⟨S4352, .i32⟩
  | .hbm, ⟨16, _⟩ => ⟨S1x4352, .i32⟩
  | .hbm, ⟨17, _⟩ => ⟨S4352, .i32⟩
  | .hbm, ⟨18, _⟩ => ⟨S4352x1, .i32⟩
  | .hbm, ⟨19, _⟩ => ⟨S4352x4352, .i32⟩
  | .hbm, ⟨20, _⟩ => ⟨S4352x4352, .i32⟩
  | .hbm, ⟨21, _⟩ => ⟨S4352x4352, .i1⟩
  | .hbm, ⟨22, _⟩ => ⟨S16x4352x4352, .f32⟩
  | .hbm, ⟨23, _⟩ => ⟨S_, .f32⟩
  | .hbm, ⟨24, _⟩ => ⟨S16x4352x4352, .f32⟩
  | .hbm, ⟨25, _⟩ => ⟨S16x4352x4352, .f32⟩
  | .hbm, ⟨26, _⟩ => ⟨S16x4352x4352, .f32⟩
  | .hbm, ⟨27, _⟩ => ⟨S16x4352x4352, .f32⟩
  | .hbm, ⟨28, _⟩ => ⟨S16x4352x4352, .i1⟩
  | .hbm, ⟨29, _⟩ => ⟨S16x4352x4352, .f32⟩
  | .hbm, ⟨30, _⟩ => ⟨S16x4352x4352, .f32⟩
  | .hbm, ⟨31, _⟩ => ⟨S16x4352x4352, .f32⟩
  | .hbm, ⟨32, _⟩ => ⟨S16x4352x4352, .f32⟩
  | .hbm, ⟨33, _⟩ => ⟨S16x4352x4352, .f32⟩
  | .hbm, ⟨34, _⟩ => ⟨S16x4352x4352, .f32⟩
  | .hbm, ⟨35, _⟩ => ⟨S16x4352x4352, .f32⟩
  | .hbm, ⟨36, _⟩ => ⟨S16x4352x4352, .f32⟩
  | .hbm, ⟨37, _⟩ => ⟨S_, .f32⟩
  | .hbm, ⟨38, _⟩ => ⟨S16x4352x4352, .f32⟩
  | .hbm, ⟨39, _⟩ => ⟨S16x4352x4352, .i1⟩
  | .hbm, ⟨40, _⟩ => ⟨S_, .f32⟩
  | .hbm, ⟨41, _⟩ => ⟨S16x4352x4352, .f32⟩
  | .hbm, ⟨42, _⟩ => ⟨S16x4352x4352, .f32⟩
  | .hbm, ⟨43, _⟩ => ⟨S_, .f32⟩
  | .hbm, ⟨44, _⟩ => ⟨S16x4352x4352, .f32⟩
  | .hbm, ⟨45, _⟩ => ⟨S16x4352x4352, .i1⟩
  | .hbm, ⟨46, _⟩ => ⟨S_, .f32⟩
  | .hbm, ⟨47, _⟩ => ⟨S16x4352x4352, .f32⟩
  | .hbm, ⟨48, _⟩ => ⟨S16x4352x4352, .f32⟩
  | .hbm, ⟨49, _⟩ => ⟨S16x4352x4352, .f32⟩
  | .hbm, ⟨50, _⟩ => ⟨S16x4352x4352, .f32⟩
  | .hbm, ⟨51, _⟩ => ⟨S_, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16x4352x4352, .f32⟩
  | .hbm, ⟨59, _⟩ => ⟨S16x4352x4352, .i1⟩
  | .hbm, ⟨60, _⟩ => ⟨S_, .f32⟩
  | .hbm, ⟨61, _⟩ => ⟨S16x4352x4352, .f32⟩
  | .hbm, ⟨62, _⟩ => ⟨S16x4352x4352, .f32⟩
  | .hbm, ⟨63, _⟩ => ⟨S16x4352x4352, .f32⟩
  | .hbm, ⟨64, _⟩ => ⟨S16x4352x4352, .f32⟩
  | .hbm, ⟨65, _⟩ => ⟨S16x4352x4352, .f32⟩
  | .hbm, ⟨66, _⟩ => ⟨S_, .f32⟩
  | .hbm, ⟨67, _⟩ => ⟨S16x4352x4352, .f32⟩
  | .hbm, ⟨68, _⟩ => ⟨S16x4352x4352, .f32⟩
  | .hbm, ⟨69, _⟩ => ⟨S16x4352x4352, .f32⟩
  | .hbm, ⟨70, _⟩ => ⟨S16x4352x4352, .f32⟩
  | .hbm, ⟨71, _⟩ => ⟨S_, .f32⟩
  | .hbm, ⟨72, _⟩ => ⟨S_, .f32⟩
  | .hbm, ⟨73, _⟩ => ⟨S16x4352x4352, .i1⟩
  | .hbm, ⟨74, _⟩ => ⟨S16x4352x4352, .f32⟩
  | .hbm, ⟨75, _⟩ => ⟨S16x4352x4352, .f32⟩
  | .hbm, ⟨76, _⟩ => ⟨S_, .f32⟩
  | .hbm, ⟨77, _⟩ => ⟨S16x4352x4352, .f32⟩
  | .hbm, ⟨78, _⟩ => ⟨S_, .f32⟩
  | .hbm, ⟨79, _⟩ => ⟨S_, .f32⟩
  | .hbm, ⟨80, _⟩ => ⟨S16x4352x4352, .f32⟩
  | .hbm, ⟨81, _⟩ => ⟨S16x4352x4352, .f32⟩
  | .hbm, ⟨82, _⟩ => ⟨S16x4352x4352, .f32⟩
  | .hbm, ⟨83, _⟩ => ⟨S16x4352x4352, .f32⟩
  | .hbm, ⟨84, _⟩ => ⟨S_, .f32⟩
  | .hbm, ⟨85, _⟩ => ⟨S_, .f32⟩
  | .hbm, ⟨86, _⟩ => ⟨S16x4352x4352, .i1⟩
  | .hbm, ⟨87, _⟩ => ⟨S16x4352x4352, .f32⟩
  | .hbm, ⟨88, _⟩ => ⟨S16x4352x4352, .f32⟩
  | .hbm, ⟨89, _⟩ => ⟨S_, .f32⟩
  | .hbm, ⟨90, _⟩ => ⟨S16x4352x4352, .f32⟩
  | .hbm, ⟨91, _⟩ => ⟨S16x64x4352, .f32⟩
  | .hbm, ⟨92, _⟩ => ⟨S4352x16x64, .f32⟩
  | .hbm, ⟨93, _⟩ => ⟨S16x64x4352, .f32⟩
  | .hbm, ⟨94, _⟩ => ⟨S16x4352x4352, .f32⟩
  | .hbm, ⟨95, _⟩ => ⟨S16x64x4352, .f32⟩
  | .hbm, ⟨96, _⟩ => ⟨S4352x16x64, .f32⟩
  | .hbm, ⟨97, _⟩ => ⟨S_, .f32⟩
  | .hbm, ⟨98, _⟩ => ⟨S16x4352x4352, .f32⟩
  | .hbm, ⟨99, _⟩ => ⟨S16x4352x4352, .f32⟩
  | .hbm, ⟨100, _⟩ => ⟨S16x4352x4352, .f32⟩
  | .hbm, ⟨101, _⟩ => ⟨S16x4352x4352, .f32⟩
  | .hbm, ⟨102, _⟩ => ⟨S_, .f32⟩
  | .hbm, ⟨103, _⟩ => ⟨S_, .f32⟩
  | .hbm, ⟨104, _⟩ => ⟨S16x4352x4352, .f32⟩
  | .hbm, ⟨105, _⟩ => ⟨S16x4352x4352, .f32⟩
  | .hbm, ⟨106, _⟩ => ⟨S_, .f32⟩
  | .hbm, ⟨107, _⟩ => ⟨S16x4352x4352, .f32⟩
  | .hbm, ⟨108, _⟩ => ⟨S16x4352x4352, .f32⟩
  | .hbm, ⟨109, _⟩ => ⟨S16x4352x4352, .f32⟩
  | .hbm, ⟨110, _⟩ => ⟨S16x4352x4352, .f32⟩
  | .hbm, ⟨111, _⟩ => ⟨S16x4352x4352, .f32⟩
  | .hbm, ⟨112, _⟩ => ⟨S16x4352x4352, .f32⟩
  | .hbm, ⟨113, _⟩ => ⟨S16x4352x4352, .f32⟩
  | .hbm, ⟨114, _⟩ => ⟨S16x4352x4352, .f32⟩
  | .hbm, ⟨115, _⟩ => ⟨S_, .f32⟩
  | .hbm, ⟨116, _⟩ => ⟨S16x4352x4352, .f32⟩
  | .hbm, ⟨117, _⟩ => ⟨S16x4352x4352, .f32⟩
  | .hbm, ⟨118, _⟩ => ⟨S16x4352x64, .f32⟩
  | .hbm, ⟨119, _⟩ => ⟨S4352x16x64, .f32⟩
  | .hbm, ⟨120, _⟩ => ⟨S16x4352x64, .f32⟩
  | .hbm, ⟨121, _⟩ => ⟨S4352x16x64, .f32⟩
  | .hbm, ⟨122, _⟩ => ⟨S4352x1024, .f32⟩
  | .hbm, ⟨123, _⟩ => ⟨S4352x1024, .bf16⟩
  | .hbm, ⟨124, _⟩ => ⟨S4352x1024, .f32⟩
  | .hbm, ⟨125, _⟩ => ⟨S4352x1024, .bf16⟩
  | .hbm, ⟨126, _⟩ => ⟨S4352x1024, .f32⟩
  | .hbm, ⟨127, _⟩ => ⟨S4352x1024, .bf16⟩
  | _, _ => ⟨S4352x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_v20 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_cst_1 : Ref sig .tc := ⟨.hbm, 84, rfl⟩
abbrev main_call3_v0 : Ref sig .tc := ⟨.hbm, 85, rfl⟩
abbrev main_v26_1 : Ref sig .tc := ⟨.hbm, 86, rfl⟩
abbrev main_call3_v2 : Ref sig .tc := ⟨.hbm, 87, rfl⟩
abbrev main_v26_0 : Ref sig .tc := ⟨.hbm, 88, rfl⟩
abbrev main_call3_cst : Ref sig .tc := ⟨.hbm, 89, rfl⟩
abbrev main_v26_2 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_call4_cst : Ref sig .tc := ⟨.hbm, 97, rfl⟩
abbrev main_call4_v0 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_call5_cst : Ref sig .tc := ⟨.hbm, 102, rfl⟩
abbrev main_call5_v0 : Ref sig .tc := ⟨.hbm, 103, rfl⟩
abbrev main_v36 : Ref sig .tc := ⟨.hbm, 104, rfl⟩
abbrev main_v37 : Ref sig .tc := ⟨.hbm, 105, rfl⟩
abbrev main_call6_cst : Ref sig .tc := ⟨.hbm, 106, rfl⟩
abbrev main_call6_v0 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_call7_v0 : Ref sig .tc := ⟨.hbm, 111, rfl⟩
abbrev main_call7_v1 : Ref sig .tc := ⟨.hbm, 112, rfl⟩
abbrev main_v41 : Ref sig .tc := ⟨.hbm, 113, rfl⟩
abbrev main_v42 : Ref sig .tc := ⟨.hbm, 114, rfl⟩
abbrev main_cst_2 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩

abbrev nD : Nat := 1
abbrev τ : Topo := Topo.v7x

variable {F : FTy → Type} [FloatOps F]
-- ==== GradDown.lean ====
abbrev S4352x2816 : Shape := ⟨2, ![4352, 2816]⟩
abbrev S4352x1024 : Shape := ⟨2, ![4352, 1024]⟩
abbrev S2816x1024 : Shape := ⟨2, ![2816, 1024]⟩
abbrev S4352x256 : Shape := ⟨2, ![4352, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S2816x1024, .f32⟩
  | .local _ .vmem, ⟨0, _⟩ => ⟨S4352x256, .bf16⟩
  | .local _ .vmem, ⟨1, _⟩ => ⟨S4352x256, .bf16⟩
  | .local _ .vmem, ⟨2, _⟩ => ⟨S4352x1024, .bf16⟩
  | .local _ .vmem, ⟨3, _⟩ => ⟨S256x1024, .f32⟩
  | .local _ .vmem, ⟨4, _⟩ => ⟨S256x1024, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4352x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GradDownRefIdeal.lean ====
abbrev S4352x2816 : Shape := ⟨2, ![4352, 2816]⟩
abbrev S4352x1024 : Shape := ⟨2, ![4352, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S4352x2816, .f32⟩
  | .hbm, ⟨3, _⟩ => ⟨S4352x1024, .f32⟩
  | .hbm, ⟨4, _⟩ => ⟨S_, .f32⟩
  | .hbm, ⟨5, _⟩ => ⟨S2816x1024, .f32⟩
  | .hbm, ⟨6, _⟩ => ⟨S4352x1024, .f32⟩
  | .hbm, ⟨7, _⟩ => ⟨S1024x2816, .f32⟩
  | .hbm, ⟨8, _⟩ => ⟨S2816x1024, .f32⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradUp.lean ====
abbrev S4352x1024 : Shape := ⟨2, ![4352, 1024]⟩
abbrev S4352x5632 : Shape := ⟨2, ![4352, 5632]⟩
abbrev S1024x5632 : Shape := ⟨2, ![1024, 5632]⟩
abbrev S4352x512 : Shape := ⟨2, ![4352, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x5632, .bf16⟩
  | .hbm, ⟨2, _⟩ => ⟨S1024x5632, .f32⟩
  | .local _ .vmem, ⟨0, _⟩ => ⟨S4352x1024, .bf16⟩
  | .local _ .vmem, ⟨1, _⟩ => ⟨S4352x512, .bf16⟩
  | .local _ .vmem, ⟨2, _⟩ => ⟨S4352x512, .bf16⟩
  | .local _ .vmem, ⟨3, _⟩ => ⟨S1024x512, .f32⟩
  | .local _ .vmem, ⟨4, _⟩ => ⟨S1024x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GradUpRefIdeal.lean ====
abbrev S4352x1024 : Shape := ⟨2, ![4352, 1024]⟩
abbrev S4352x5632 : Shape := ⟨2, ![4352, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x5632, .bf16⟩
  | .hbm, ⟨2, _⟩ => ⟨S4352x1024, .f32⟩
  | .hbm, ⟨3, _⟩ => ⟨S4352x5632, .f32⟩
  | .hbm, ⟨4, _⟩ => ⟨S_, .f32⟩
  | .hbm, ⟨5, _⟩ => ⟨S1024x5632, .f32⟩
  | .hbm, ⟨6, _⟩ => ⟨S4352x5632, .f32⟩
  | .hbm, ⟨7, _⟩ => ⟨S5632x1024, .f32⟩
  | .hbm, ⟨8, _⟩ => ⟨S1024x5632, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradOut.lean ====
abbrev S4352x1024 : Shape := ⟨2, ![4352, 1024]⟩
abbrev S1024x1024 : Shape := ⟨2, ![1024, 1024]⟩
abbrev S4352x512 : Shape := ⟨2, ![4352, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .f32⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S512x1024, .f32⟩
  | .local _ .vmem, ⟨4, _⟩ => ⟨S512x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GradOutRefIdeal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .f32⟩
  | .hbm, ⟨3, _⟩ => ⟨S4352x1024, .f32⟩
  | .hbm, ⟨4, _⟩ => ⟨S_, .f32⟩
  | .hbm, ⟨5, _⟩ => ⟨S1024x1024, .f32⟩
  | .hbm, ⟨6, _⟩ => ⟨S4352x1024, .f32⟩
  | .hbm, ⟨7, _⟩ => ⟨S1024x1024, .f32⟩
  | .hbm, ⟨8, _⟩ => ⟨S1024x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownBwd.lean ====
abbrev S4352x1024 : Shape := ⟨2, ![4352, 1024]⟩
abbrev S2816x1024 : Shape := ⟨2, ![2816, 1024]⟩
abbrev S4352x2816 : Shape := ⟨2, ![4352, 2816]⟩
abbrev S544x1024 : Shape := ⟨2, ![544, 1024]⟩
abbrev S544x2816 : Shape := ⟨2, ![544, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S2816x1024, .bf16⟩
  | .hbm, ⟨2, _⟩ => ⟨S4352x2816, .bf16⟩
  | .local _ .vmem, ⟨0, _⟩ => ⟨S544x1024, .bf16⟩
  | .local _ .vmem, ⟨1, _⟩ => ⟨S544x1024, .bf16⟩
  | .local _ .vmem, ⟨2, _⟩ => ⟨S2816x1024, .bf16⟩
  | .local _ .vmem, ⟨3, _⟩ => ⟨S544x2816, .bf16⟩
  | .local _ .vmem, ⟨4, _⟩ => ⟨S544x2816, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S544x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownBwdRefIdeal.lean ====
abbrev S4352x1024 : Shape := ⟨2, ![4352, 1024]⟩
abbrev S2816x1024 : Shape := ⟨2, ![2816, 1024]⟩
abbrev S_ : Shape := ⟨0, ![]⟩
abbrev S4352x2816 : Shape := ⟨2, ![4352, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S2816x1024, .bf16⟩
  | .hbm, ⟨2, _⟩ => ⟨S4352x1024, .f32⟩
  | .hbm, ⟨3, _⟩ => ⟨S2816x1024, .f32⟩
  | .hbm, ⟨4, _⟩ => ⟨S_, .f32⟩
  | .hbm, ⟨5, _⟩ => ⟨S4352x2816, .f32⟩
  | .hbm, ⟨6, _⟩ => ⟨S4352x1024, .f32⟩
  | .hbm, ⟨7, _⟩ => ⟨S4352x2816, .f32⟩
  | .hbm, ⟨8, _⟩ => ⟨S4352x2816, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjBwd.lean ====
abbrev S4352x1024 : Shape := ⟨2, ![4352, 1024]⟩
abbrev S1024x1024 : Shape := ⟨2, ![1024, 1024]⟩
abbrev S544x1024 : Shape := ⟨2, ![544, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .bf16⟩
  | .local _ .vmem, ⟨4, _⟩ => ⟨S544x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBwdRefIdeal.lean ====
abbrev S4352x1024 : Shape := ⟨2, ![4352, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1024x1024, .f32⟩
  | .hbm, ⟨4, _⟩ => ⟨S_, .f32⟩
  | .hbm, ⟨5, _⟩ => ⟨S4352x1024, .f32⟩
  | .hbm, ⟨6, _⟩ => ⟨S4352x1024, .f32⟩
  | .hbm, ⟨7, _⟩ => ⟨S4352x1024, .f32⟩
  | .hbm, ⟨8, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradIn.lean ====
abbrev S4352x1024 : Shape := ⟨2, ![4352, 1024]⟩
abbrev S4352x2048 : Shape := ⟨2, ![4352, 2048]⟩
abbrev S1024x8192 : Shape := ⟨2, ![1024, 8192]⟩
abbrev S4352x256 : Shape := ⟨2, ![4352, 256]⟩
abbrev S1024x256 : Shape := ⟨2, ![1024, 256]⟩

abbrev nBuf : Space → Nat
  | .hbm => 9
  | .vmem => 17
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x1024, .bf16⟩
  | .hbm, ⟨4, _⟩ => ⟨S4352x1024, .bf16⟩
  | .hbm, ⟨5, _⟩ => ⟨S4352x1024, .bf16⟩
  | .hbm, ⟨6, _⟩ => ⟨S4352x1024, .bf16⟩
  | .hbm, ⟨7, _⟩ => ⟨S4352x2048, .bf16⟩
  | .hbm, ⟨8, _⟩ => ⟨S1024x8192, .f32⟩
  | .local _ .vmem, ⟨0, _⟩ => ⟨S4352x1024, .bf16⟩
  | .local _ .vmem, ⟨1, _⟩ => ⟨S4352x256, .bf16⟩
  | .local _ .vmem, ⟨2, _⟩ => ⟨S4352x256, .bf16⟩
  | .local _ .vmem, ⟨3, _⟩ => ⟨S4352x256, .bf16⟩
  | .local _ .vmem, ⟨4, _⟩ => ⟨S4352x256, .bf16⟩
  | .local _ .vmem, ⟨5, _⟩ => ⟨S4352x256, .bf16⟩
  | .local _ .vmem, ⟨6, _⟩ => ⟨S4352x256, .bf16⟩
  | .local _ .vmem, ⟨7, _⟩ => ⟨S4352x256, .bf16⟩
  | .local _ .vmem, ⟨8, _⟩ => ⟨S4352x256, .bf16⟩
  | .local _ .vmem, ⟨9, _⟩ => ⟨S4352x256, .bf16⟩
  | .local _ .vmem, ⟨10, _⟩ => ⟨S4352x256, .bf16⟩
  | .local _ .vmem, ⟨11, _⟩ => ⟨S4352x256, .bf16⟩
  | .local _ .vmem, ⟨12, _⟩ => ⟨S4352x256, .bf16⟩
  | .local _ .vmem, ⟨13, _⟩ => ⟨S4352x256, .bf16⟩
  | .local _ .vmem, ⟨14, _⟩ => ⟨S4352x256, .bf16⟩
  | .local _ .vmem, ⟨15, _⟩ => ⟨S1024x256, .f32⟩
  | .local _ .vmem, ⟨16, _⟩ => ⟨S1024x256, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![1, 32], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c4_i32 : BitVec 32 := 4#32
  let v1 : BitVec 1 := Scalar.cmpi .slt arg1 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c4_i32_1 : BitVec 32 := 4#32
  let v5 : BitVec 1 := Scalar.cmpi .sge arg1 c4_i32_1
  let c8_i32 : BitVec 32 := 8#32
  let v6 : BitVec 1 := Scalar.cmpi .slt arg1 c8_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c8_i32_3 : BitVec 32 := 8#32
  let v10 : BitVec 1 := Scalar.cmpi .sge arg1 c8_i32_3
  let c12_i32 : BitVec 32 := 12#32
  let v11 : BitVec 1 := Scalar.cmpi .slt arg1 c12_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg1 : BitVec 32 := BitVec.ofNat 32 (i 1).val
  let c12_i32_5 : BitVec 32 := 12#32
  let v15 : BitVec 1 := Scalar.cmpi .sge arg1 c12_i32_5
  let c16_i32 : BitVec 32 := 16#32
  let v16 : BitVec 1 := Scalar.cmpi .slt arg1 c16_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg1 : BitVec 32 := BitVec.ofNat 32 (i 1).val
  let c16_i32_7 : BitVec 32 := 16#32
  let v20 : BitVec 1 := Scalar.cmpi .sge arg1 c16_i32_7
  let c20_i32 : BitVec 32 := 20#32
  let v21 : BitVec 1 := Scalar.cmpi .slt arg1 c20_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg1 : BitVec 32 := BitVec.ofNat 32 (i 1).val
  let c20_i32_9 : BitVec 32 := 20#32
  let v25 : BitVec 1 := Scalar.cmpi .sge arg1 c20_i32_9
  let c24_i32 : BitVec 32 := 24#32
  let v26 : BitVec 1 := Scalar.cmpi .slt arg1 c24_i32
  let v27 : BitVec 1 := Scalar.andi v25 v26
  let v28 : BitVec 32 := Scalar.extui v27
  let c0_i32_10 : BitVec 32 := 0#32
  let v29 : BitVec 1 := Scalar.cmpi .ne v28 c0_i32_10
  v29

def k0_cond7 (i : grid0.Coords) : BitVec 1 :=
  let arg1 : BitVec 32 := BitVec.ofNat 32 (i 1).val
  let c24_i32_11 : BitVec 32 := 24#32
  let v30 : BitVec 1 := Scalar.cmpi .sge arg1 c24_i32_11
  let c32_i32 : BitVec 32 := 32#32
  let v31 : BitVec 1 := Scalar.cmpi .slt arg1 c32_i32
  let v32 : BitVec 1 := Scalar.andi v30 v31
  let v33 : BitVec 32 := Scalar.extui v32
  let c0_i32_12 : BitVec 32 := 0#32
  let v34 : BitVec 1 := Scalar.cmpi .ne v33 c0_i32_12
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.subi arg1 c20_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi arg1 c24_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4352x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4352x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4352x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4352x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4352x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GradInRefIdeal.lean ====
abbrev S4352x1024 : Shape := ⟨2, ![4352, 1024]⟩
abbrev S4352x2048 : Shape := ⟨2, ![4352, 2048]⟩
abbrev S4352x8192 : Shape := ⟨2, ![4352, 8192]⟩
abbrev S_ : Shape := ⟨0, ![]⟩
abbrev S1024x8192 : Shape := ⟨2, ![1024, 8192]⟩
abbrev S8192x1024 : Shape := ⟨2, ![8192, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x1024, .bf16⟩
  | .hbm, ⟨4, _⟩ => ⟨S4352x1024, .bf16⟩
  | .hbm, ⟨5, _⟩ => ⟨S4352x1024, .bf16⟩
  | .hbm, ⟨6, _⟩ => ⟨S4352x1024, .bf16⟩
  | .hbm, ⟨7, _⟩ => ⟨S4352x2048, .bf16⟩
  | .hbm, ⟨8, _⟩ => ⟨S4352x8192, .bf16⟩
  | .hbm, ⟨9, _⟩ => ⟨S4352x1024, .f32⟩
  | .hbm, ⟨10, _⟩ => ⟨S4352x8192, .f32⟩
  | .hbm, ⟨11, _⟩ => ⟨S_, .f32⟩
  | .hbm, ⟨12, _⟩ => ⟨S1024x8192, .f32⟩
  | .hbm, ⟨13, _⟩ => ⟨S4352x8192, .f32⟩
  | .hbm, ⟨14, _⟩ => ⟨S8192x1024, .f32⟩
  | .hbm, ⟨15, _⟩ => ⟨S1024x8192, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== InProj.lean ====
abbrev S4352x1024 : Shape := ⟨2, ![4352, 1024]⟩
abbrev S1024x8192 : Shape := ⟨2, ![1024, 8192]⟩
abbrev S4352x8192 : Shape := ⟨2, ![4352, 8192]⟩
abbrev S544x1024 : Shape := ⟨2, ![544, 1024]⟩
abbrev S1024x2048 : Shape := ⟨2, ![1024, 2048]⟩
abbrev S544x2048 : Shape := ⟨2, ![544, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x8192, .bf16⟩
  | .hbm, ⟨2, _⟩ => ⟨S4352x8192, .bf16⟩
  | .local _ .vmem, ⟨0, _⟩ => ⟨S544x1024, .bf16⟩
  | .local _ .vmem, ⟨1, _⟩ => ⟨S544x1024, .bf16⟩
  | .local _ .vmem, ⟨2, _⟩ => ⟨S1024x2048, .bf16⟩
  | .local _ .vmem, ⟨3, _⟩ => ⟨S1024x2048, .bf16⟩
  | .local _ .vmem, ⟨4, _⟩ => ⟨S544x2048, .bf16⟩
  | .local _ .vmem, ⟨5, _⟩ => ⟨S544x2048, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S544x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4352x1024 : Shape := ⟨2, ![4352, 1024]⟩
abbrev S1024x8192 : Shape := ⟨2, ![1024, 8192]⟩
abbrev S4352x8192 : Shape := ⟨2, ![4352, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x8192, .bf16⟩
  | .hbm, ⟨2, _⟩ => ⟨S4352x1024, .f32⟩
  | .hbm, ⟨3, _⟩ => ⟨S1024x8192, .f32⟩
  | .hbm, ⟨4, _⟩ => ⟨S4352x8192, .f32⟩
  | .hbm, ⟨5, _⟩ => ⟨S4352x8192, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpProj.lean ====
abbrev S4352x1024 : Shape := ⟨2, ![4352, 1024]⟩
abbrev S1024x5632 : Shape := ⟨2, ![1024, 5632]⟩
abbrev S4352x5632 : Shape := ⟨2, ![4352, 5632]⟩
abbrev S544x1024 : Shape := ⟨2, ![544, 1024]⟩
abbrev S1024x2816 : Shape := ⟨2, ![1024, 2816]⟩
abbrev S544x2816 : Shape := ⟨2, ![544, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .bf16⟩
  | .hbm, ⟨2, _⟩ => ⟨S4352x5632, .bf16⟩
  | .local _ .vmem, ⟨0, _⟩ => ⟨S544x1024, .bf16⟩
  | .local _ .vmem, ⟨1, _⟩ => ⟨S544x1024, .bf16⟩
  | .local _ .vmem, ⟨2, _⟩ => ⟨S1024x2816, .bf16⟩
  | .local _ .vmem, ⟨3, _⟩ => ⟨S1024x2816, .bf16⟩
  | .local _ .vmem, ⟨4, _⟩ => ⟨S544x2816, .bf16⟩
  | .local _ .vmem, ⟨5, _⟩ => ⟨S544x2816, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S544x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpProjRefIdeal.lean ====
abbrev S4352x1024 : Shape := ⟨2, ![4352, 1024]⟩
abbrev S1024x5632 : Shape := ⟨2, ![1024, 5632]⟩
abbrev S4352x5632 : Shape := ⟨2, ![4352, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .bf16⟩
  | .hbm, ⟨2, _⟩ => ⟨S4352x1024, .f32⟩
  | .hbm, ⟨3, _⟩ => ⟨S1024x5632, .f32⟩
  | .hbm, ⟨4, _⟩ => ⟨S4352x5632, .f32⟩
  | .hbm, ⟨5, _⟩ => ⟨S4352x5632, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpBwd.lean ====
abbrev S4352x2816 : Shape := ⟨2, ![4352, 2816]⟩
abbrev S1024x5632 : Shape := ⟨2, ![1024, 5632]⟩
abbrev S4352x1024 : Shape := ⟨2, ![4352, 1024]⟩
abbrev S1x1024 : Shape := ⟨2, ![1, 1024]⟩
abbrev S4352x5632 : Shape := ⟨2, ![4352, 5632]⟩
abbrev S544x1408 : Shape := ⟨2, ![544, 1408]⟩
abbrev S1024x1408 : Shape := ⟨2, ![1024, 1408]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 13
  | .vmem => 23
  | .smem => 0
  | _ => 0

abbrev bufTy : (tb : Table) → Fin (tcTables nBuf tb) → BufTy
  | .hbm, ⟨0, _⟩ => ⟨S4352x2816, .bf16⟩
  | .hbm, ⟨1, _⟩ => ⟨S4352x2816, .bf16⟩
  | .hbm, ⟨2, _⟩ => ⟨S1024x5632, .bf16⟩
  | .hbm, ⟨3, _⟩ => ⟨S4352x1024, .f32⟩
  | .hbm, ⟨4, _⟩ => ⟨S4352x1024, .f32⟩
  | .hbm, ⟨5, _⟩ => ⟨S4352x1024, .f32⟩
  | .hbm, ⟨6, _⟩ => ⟨S1x1024, .f32⟩
  | .hbm, ⟨7, _⟩ => ⟨S1x1024, .f32⟩
  | .hbm, ⟨8, _⟩ => ⟨S4352x1024, .f32⟩
  | .hbm, ⟨9, _⟩ => ⟨S4352x1024, .bf16⟩
  | .hbm, ⟨10, _⟩ => ⟨S1x1024, .f32⟩
  | .hbm, ⟨11, _⟩ => ⟨S1x1024, .f32⟩
  | .hbm, ⟨12, _⟩ => ⟨S4352x5632, .bf16⟩
  | .local _ .vmem, ⟨0, _⟩ => ⟨S544x1408, .bf16⟩
  | .local _ .vmem, ⟨1, _⟩ => ⟨S544x1408, .bf16⟩
  | .local _ .vmem, ⟨2, _⟩ => ⟨S544x1408, .bf16⟩
  | .local _ .vmem, ⟨3, _⟩ => ⟨S544x1408, .bf16⟩
  | .local _ .vmem, ⟨4, _⟩ => ⟨S1024x1408, .bf16⟩
  | .local _ .vmem, ⟨5, _⟩ => ⟨S1024x1408, .bf16⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .f32⟩
  | .local _ .vmem, ⟨12, _⟩ => ⟨S1x1024, .f32⟩
  | .local _ .vmem, ⟨13, _⟩ => ⟨S1x1024, .f32⟩
  | .local _ .vmem, ⟨14, _⟩ => ⟨S544x1024, .f32⟩
  | .local _ .vmem, ⟨15, _⟩ => ⟨S544x1024, .f32⟩
  | .local _ .vmem, ⟨16, _⟩ => ⟨S544x1024, .bf16⟩
  | .local _ .vmem, ⟨17, _⟩ => ⟨S544x1024, .bf16⟩
  | .local _ .vmem, ⟨18, _⟩ => ⟨S1x1024, .f32⟩
  | .local _ .vmem, ⟨19, _⟩ => ⟨S1x1024, .f32⟩
  | .local _ .vmem, ⟨20, _⟩ => ⟨S544x1408, .bf16⟩
  | .local _ .vmem, ⟨21, _⟩ => ⟨S544x1408, .bf16⟩
  | .local _ .vmem, ⟨22, _⟩ => ⟨S544x1024, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_5 : BitVec 32 := 0#32
  let v15 : BitVec 1 := Scalar.cmpi .ne v14 c0_i32_5
  v15

def k0_cond5 (i : grid0.Coords) : BitVec 1 :=
  let arg0 : BitVec 32 := BitVec.ofNat 32 (i 0).val
  let c0_i32_32 : BitVec 32 := 0#32
  let v76 : BitVec 1 := Scalar.cmpi .eq arg0 c0_i32_32
  let v77 : BitVec 32 := Scalar.extui v76
  let c0_i32_33 : BitVec 32 := 0#32
  let v78 : BitVec 1 := Scalar.cmpi .ne v77 c0_i32_33
  v78

def k0_cond6 (i : grid0.Coords) : BitVec 1 :=
  let arg0 : BitVec 32 := BitVec.ofNat 32 (i 0).val
  let c0_i32_34 : BitVec 32 := 0#32
  let v79 : BitVec 1 := Scalar.cmpi .sgt arg0 c0_i32_34
  let v80 : BitVec 32 := Scalar.extui v79
  let c0_i32_35 : BitVec 32 := 0#32
  let v81 : BitVec 1 := Scalar.cmpi .ne v80 c0_i32_35
  v81

def k0_cond7 (i : grid0.Coords) : BitVec 1 :=
  let arg0 : BitVec 32 := BitVec.ofNat 32 (i 0).val
  let c0_i32_36 : BitVec 32 := 0#32
  let v82 : BitVec 1 := Scalar.cmpi .eq arg0 c0_i32_36
  let v83 : BitVec 32 := Scalar.extui v82
  let c0_i32_37 : BitVec 32 := 0#32
  let v84 : BitVec 1 := Scalar.cmpi .ne v83 c0_i32_37
  v84

def k0_cond8 (i : grid0.Coords) : BitVec 1 :=
  let arg0 : BitVec 32 := BitVec.ofNat 32 (i 0).val
  let c0_i32_38 : BitVec 32 := 0#32
  let v85 : BitVec 1 := Scalar.cmpi .sgt arg0 c0_i32_38
  let v86 : BitVec 32 := Scalar.extui v85
  let c0_i32_39 : BitVec 32 := 0#32
  let v87 : BitVec 1 := Scalar.cmpi .ne v86 c0_i32_39
  v87

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c2_i32 : BitVec 32 := 2#32
  let v4 : BitVec 1 := Scalar.cmpi .slt arg1 c2_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c2_i32_3 : BitVec 32 := 2#32
  let v8 : BitVec 1 := Scalar.cmpi .sge arg1 c2_i32_3
  let c4_i32 : BitVec 32 := 4#32
  let v9 : BitVec 1 := Scalar.cmpi .slt arg1 c4_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S544x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S544x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S544x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== UpBwdRefIdeal.lean ====
abbrev S4352x2816 : Shape := ⟨2, ![4352, 2816]⟩
abbrev S1024x5632 : Shape := ⟨2, ![1024, 5632]⟩
abbrev S4352x1024 : Shape := ⟨2, ![4352, 1024]⟩
abbrev S1x1024 : Shape := ⟨2, ![1, 1024]⟩
abbrev S4352x5632 : Shape := ⟨2, ![4352, 5632]⟩
abbrev S_ : Shape := ⟨0, ![]⟩
abbrev S4352 : Shape := ⟨1, ![4352]⟩
abbrev S4352x1 : Shape := ⟨2, ![4352, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x2816, .bf16⟩
  | .hbm, ⟨2, _⟩ => ⟨S1024x5632, .bf16⟩
  | .hbm, ⟨3, _⟩ => ⟨S4352x1024, .f32⟩
  | .hbm, ⟨4, _⟩ => ⟨S4352x1024, .f32⟩
  | .hbm, ⟨5, _⟩ => ⟨S4352x1024, .f32⟩
  | .hbm, ⟨6, _⟩ => ⟨S1x1024, .f32⟩
  | .hbm, ⟨7, _⟩ => ⟨S1x1024, .f32⟩
  | .hbm, ⟨8, _⟩ => ⟨S4352x5632, .bf16⟩
  | .hbm, ⟨9, _⟩ => ⟨S1024x5632, .f32⟩
  | .hbm, ⟨10, _⟩ => ⟨S4352x1024, .f32⟩
  | .hbm, ⟨11, _⟩ => ⟨S_, .f32⟩
  | .hbm, ⟨12, _⟩ => ⟨S4352, .f32⟩
  | .hbm, ⟨13, _⟩ => ⟨S4352x1, .f32⟩
  | .hbm, ⟨14, _⟩ => ⟨S_, .f32⟩
  | .hbm, ⟨15, _⟩ => ⟨S4352x1, .f32⟩
  | .hbm, ⟨16, _⟩ => ⟨S4352x1, .f32⟩
  | .hbm, ⟨17, _⟩ => ⟨S_, .f32⟩
  | .hbm, ⟨18, _⟩ => ⟨S4352x1, .f32⟩
  | .hbm, ⟨19, _⟩ => ⟨S4352x1, .f32⟩
  | .hbm, ⟨20, _⟩ => ⟨S4352x1, .f32⟩
  | .hbm, ⟨21, _⟩ => ⟨S4352x1, .f32⟩
  | .hbm, ⟨22, _⟩ => ⟨S_, .f32⟩
  | .hbm, ⟨23, _⟩ => ⟨S4352x1, .f32⟩
  | .hbm, ⟨24, _⟩ => ⟨S4352x1, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S4352x1024, .f32⟩
  | .hbm, ⟨29, _⟩ => ⟨S4352x5632, .f32⟩
  | .hbm, ⟨30, _⟩ => ⟨S4352x5632, .f32⟩
  | .hbm, ⟨31, _⟩ => ⟨S4352x1024, .f32⟩
  | .hbm, ⟨32, _⟩ => ⟨S4352x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S_, .f32⟩
  | .hbm, ⟨40, _⟩ => ⟨S4352, .f32⟩
  | .hbm, ⟨41, _⟩ => ⟨S4352x1, .f32⟩
  | .hbm, ⟨42, _⟩ => ⟨S4352x1024, .f32⟩
  | .hbm, ⟨43, _⟩ => ⟨S4352x1024, .f32⟩
  | .hbm, ⟨44, _⟩ => ⟨S4352x1, .f32⟩
  | .hbm, ⟨45, _⟩ => ⟨S_, .f32⟩
  | .hbm, ⟨46, _⟩ => ⟨S4352x1, .f32⟩
  | .hbm, ⟨47, _⟩ => ⟨S4352x1, .f32⟩
  | .hbm, ⟨48, _⟩ => ⟨S_, .f32⟩
  | .hbm, ⟨49, _⟩ => ⟨S4352, .f32⟩
  | .hbm, ⟨50, _⟩ => ⟨S4352x1024, .f32⟩
  | .hbm, ⟨51, _⟩ => ⟨S4352x1024, .f32⟩
  | .hbm, ⟨52, _⟩ => ⟨S4352x1024, .f32⟩
  | .hbm, ⟨53, _⟩ => ⟨S4352x1024, .f32⟩
  | .hbm, ⟨54, _⟩ => ⟨S4352x1024, .f32⟩
  | .hbm, ⟨55, _⟩ => ⟨S4352x1024, .f32⟩
  | .hbm, ⟨56, _⟩ => ⟨S4352x1024, .f32⟩
  | .hbm, ⟨57, _⟩ => ⟨S_, .f32⟩
  | .hbm, ⟨58, _⟩ => ⟨S4352, .f32⟩
  | .hbm, ⟨59, _⟩ => ⟨S4352x1, .f32⟩
  | .hbm, ⟨60, _⟩ => ⟨S_, .f32⟩
  | .hbm, ⟨61, _⟩ => ⟨S4352x1, .f32⟩
  | .hbm, ⟨62, _⟩ => ⟨S4352x1, .f32⟩
  | .hbm, ⟨63, _⟩ => ⟨S_, .f32⟩
  | .hbm, ⟨64, _⟩ => ⟨S4352x1, .f32⟩
  | .hbm, ⟨65, _⟩ => ⟨S4352x1, .f32⟩
  | .hbm, ⟨66, _⟩ => ⟨S4352x1, .f32⟩
  | .hbm, ⟨67, _⟩ => ⟨S4352x1, .f32⟩
  | .hbm, ⟨68, _⟩ => ⟨S_, .f32⟩
  | .hbm, ⟨69, _⟩ => ⟨S4352x1, .f32⟩
  | .hbm, ⟨70, _⟩ => ⟨S4352x1, .f32⟩
  | .hbm, ⟨71, _⟩ => ⟨S4352x1024, .f32⟩
  | .hbm, ⟨72, _⟩ => ⟨S4352x1024, .f32⟩
  | .hbm, ⟨73, _⟩ => ⟨S4352x1024, .f32⟩
  | .hbm, ⟨74, _⟩ => ⟨S4352x1024, .f32⟩
  | .hbm, ⟨75, _⟩ => ⟨S4352x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4352x1024, .f32⟩
  | .hbm, ⟨80, _⟩ => ⟨S4352x1024, .f32⟩
  | .hbm, ⟨81, _⟩ => ⟨S4352x1024, .f32⟩
  | .hbm, ⟨82, _⟩ => ⟨S_, .f32⟩
  | .hbm, ⟨83, _⟩ => ⟨S4352, .f32⟩
  | .hbm, ⟨84, _⟩ => ⟨S4352x1, .f32⟩
  | .hbm, ⟨85, _⟩ => ⟨S4352x1024, .f32⟩
  | .hbm, ⟨86, _⟩ => ⟨S4352x1024, .f32⟩
  | .hbm, ⟨87, _⟩ => ⟨S4352x1, .f32⟩
  | .hbm, ⟨88, _⟩ => ⟨S_, .f32⟩
  | .hbm, ⟨89, _⟩ => ⟨S4352x1, .f32⟩
  | .hbm, ⟨90, _⟩ => ⟨S4352x1, .f32⟩
  | .hbm, ⟨91, _⟩ => ⟨S_, .f32⟩
  | .hbm, ⟨92, _⟩ => ⟨S4352, .f32⟩
  | .hbm, ⟨93, _⟩ => ⟨S4352x1024, .f32⟩
  | .hbm, ⟨94, _⟩ => ⟨S4352x1024, .f32⟩
  | .hbm, ⟨95, _⟩ => ⟨S4352x1024, .f32⟩
  | .hbm, ⟨96, _⟩ => ⟨S4352x1024, .f32⟩
  | .hbm, ⟨97, _⟩ => ⟨S4352x1024, .f32⟩
  | .hbm, ⟨98, _⟩ => ⟨S4352x1024, .bf16⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== InBwd.lean ====
abbrev S4352x1024 : Shape := ⟨2, ![4352, 1024]⟩
abbrev S4352x2048 : Shape := ⟨2, ![4352, 2048]⟩
abbrev S1024x8192 : Shape := ⟨2, ![1024, 8192]⟩
abbrev S1x1024 : Shape := ⟨2, ![1, 1024]⟩
abbrev S544x1024 : Shape := ⟨2, ![544, 1024]⟩
abbrev S1024x1024 : Shape := ⟨2, ![1024, 1024]⟩
abbrev S544 : Shape := ⟨1, ![544]⟩
abbrev S544x1 : Shape := ⟨2, ![544, 1]⟩
abbrev S1024 : Shape := ⟨1, ![1024]⟩

abbrev nBuf : Space → Nat
  | .hbm => 13
  | .vmem => 25
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x1024, .bf16⟩
  | .hbm, ⟨4, _⟩ => ⟨S4352x1024, .bf16⟩
  | .hbm, ⟨5, _⟩ => ⟨S4352x1024, .bf16⟩
  | .hbm, ⟨6, _⟩ => ⟨S4352x2048, .bf16⟩
  | .hbm, ⟨7, _⟩ => ⟨S1024x8192, .bf16⟩
  | .hbm, ⟨8, _⟩ => ⟨S4352x1024, .f32⟩
  | .hbm, ⟨9, _⟩ => ⟨S4352x1024, .f32⟩
  | .hbm, ⟨10, _⟩ => ⟨S1x1024, .f32⟩
  | .hbm, ⟨11, _⟩ => ⟨S4352x1024, .f32⟩
  | .hbm, ⟨12, _⟩ => ⟨S1x1024, .f32⟩
  | .local _ .vmem, ⟨0, _⟩ => ⟨S544x1024, .bf16⟩
  | .local _ .vmem, ⟨1, _⟩ => ⟨S544x1024, .bf16⟩
  | .local _ .vmem, ⟨2, _⟩ => ⟨S544x1024, .bf16⟩
  | .local _ .vmem, ⟨3, _⟩ => ⟨S544x1024, .bf16⟩
  | .local _ .vmem, ⟨4, _⟩ => ⟨S544x1024, .bf16⟩
  | .local _ .vmem, ⟨5, _⟩ => ⟨S544x1024, .bf16⟩
  | .local _ .vmem, ⟨6, _⟩ => ⟨S544x1024, .bf16⟩
  | .local _ .vmem, ⟨7, _⟩ => ⟨S544x1024, .bf16⟩
  | .local _ .vmem, ⟨8, _⟩ => ⟨S544x1024, .bf16⟩
  | .local _ .vmem, ⟨9, _⟩ => ⟨S544x1024, .bf16⟩
  | .local _ .vmem, ⟨10, _⟩ => ⟨S544x1024, .bf16⟩
  | .local _ .vmem, ⟨11, _⟩ => ⟨S544x1024, .bf16⟩
  | .local _ .vmem, ⟨12, _⟩ => ⟨S544x1024, .bf16⟩
  | .local _ .vmem, ⟨13, _⟩ => ⟨S544x1024, .bf16⟩
  | .local _ .vmem, ⟨14, _⟩ => ⟨S1024x1024, .bf16⟩
  | .local _ .vmem, ⟨15, _⟩ => ⟨S1024x1024, .bf16⟩
  | .local _ .vmem, ⟨16, _⟩ => ⟨S544x1024, .f32⟩
  | .local _ .vmem, ⟨17, _⟩ => ⟨S544x1024, .f32⟩
  | .local _ .vmem, ⟨18, _⟩ => ⟨S544x1024, .f32⟩
  | .local _ .vmem, ⟨19, _⟩ => ⟨S544x1024, .f32⟩
  | .local _ .vmem, ⟨20, _⟩ => ⟨S1x1024, .f32⟩
  | .local _ .vmem, ⟨21, _⟩ => ⟨S544x1024, .f32⟩
  | .local _ .vmem, ⟨22, _⟩ => ⟨S544x1024, .f32⟩
  | .local _ .vmem, ⟨23, _⟩ => ⟨S1x1024, .f32⟩
  | .local _ .vmem, ⟨24, _⟩ => ⟨S544x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![8, 8], ![false, false]⟩

def k0_cond9 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_15 : BitVec 32 := 0#32
  let v40 : BitVec 1 := Scalar.cmpi .ne v39 c0_i32_15
  v40

def k0_cond10 (i : grid0.Coords) : BitVec 1 :=
  let arg0 : BitVec 32 := BitVec.ofNat 32 (i 0).val
  let c0_i32_30 : BitVec 32 := 0#32
  let v72 : BitVec 1 := Scalar.cmpi .eq arg0 c0_i32_30
  let v73 : BitVec 32 := Scalar.extui v72
  let c0_i32_31 : BitVec 32 := 0#32
  let v74 : BitVec 1 := Scalar.cmpi .ne v73 c0_i32_31
  v74

def k0_cond11 (i : grid0.Coords) : BitVec 1 :=
  let arg0 : BitVec 32 := BitVec.ofNat 32 (i 0).val
  let c0_i32_32 : BitVec 32 := 0#32
  let v75 : BitVec 1 := Scalar.cmpi .sgt arg0 c0_i32_32
  let v76 : BitVec 32 := Scalar.extui v75
  let c0_i32_33 : BitVec 32 := 0#32
  let v77 : BitVec 1 := Scalar.cmpi .ne v76 c0_i32_33
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S544x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S544x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S544x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== InBwdRefIdeal.lean ====
abbrev S4352x1024 : Shape := ⟨2, ![4352, 1024]⟩
abbrev S4352x2048 : Shape := ⟨2, ![4352, 2048]⟩
abbrev S1024x8192 : Shape := ⟨2, ![1024, 8192]⟩
abbrev S1x1024 : Shape := ⟨2, ![1, 1024]⟩
abbrev S4352x8192 : Shape := ⟨2, ![4352, 8192]⟩
abbrev S_ : Shape := ⟨0, ![]⟩
abbrev S4352 : Shape := ⟨1, ![4352]⟩
abbrev S4352x1 : Shape := ⟨2, ![4352, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x1024, .bf16⟩
  | .hbm, ⟨4, _⟩ => ⟨S4352x1024, .bf16⟩
  | .hbm, ⟨5, _⟩ => ⟨S4352x1024, .bf16⟩
  | .hbm, ⟨6, _⟩ => ⟨S4352x2048, .bf16⟩
  | .hbm, ⟨7, _⟩ => ⟨S1024x8192, .bf16⟩
  | .hbm, ⟨8, _⟩ => ⟨S4352x1024, .f32⟩
  | .hbm, ⟨9, _⟩ => ⟨S4352x1024, .f32⟩
  | .hbm, ⟨10, _⟩ => ⟨S1x1024, .f32⟩
  | .hbm, ⟨11, _⟩ => ⟨S4352x8192, .bf16⟩
  | .hbm, ⟨12, _⟩ => ⟨S1024x8192, .f32⟩
  | .hbm, ⟨13, _⟩ => ⟨S4352x1024, .f32⟩
  | .hbm, ⟨14, _⟩ => ⟨S_, .f32⟩
  | .hbm, ⟨15, _⟩ => ⟨S4352, .f32⟩
  | .hbm, ⟨16, _⟩ => ⟨S4352x1, .f32⟩
  | .hbm, ⟨17, _⟩ => ⟨S_, .f32⟩
  | .hbm, ⟨18, _⟩ => ⟨S4352x1, .f32⟩
  | .hbm, ⟨19, _⟩ => ⟨S4352x1, .f32⟩
  | .hbm, ⟨20, _⟩ => ⟨S_, .f32⟩
  | .hbm, ⟨21, _⟩ => ⟨S4352x1, .f32⟩
  | .hbm, ⟨22, _⟩ => ⟨S4352x1, .f32⟩
  | .hbm, ⟨23, _⟩ => ⟨S4352x1, .f32⟩
  | .hbm, ⟨24, _⟩ => ⟨S4352x1, .f32⟩
  | .hbm, ⟨25, _⟩ => ⟨S_, .f32⟩
  | .hbm, ⟨26, _⟩ => ⟨S4352x1, .f32⟩
  | .hbm, ⟨27, _⟩ => ⟨S4352x1, .f32⟩
  | .hbm, ⟨28, _⟩ => ⟨S4352x1024, .f32⟩
  | .hbm, ⟨29, _⟩ => ⟨S4352x1024, .f32⟩
  | .hbm, ⟨30, _⟩ => ⟨S4352x1024, .f32⟩
  | .hbm, ⟨31, _⟩ => ⟨S4352x1024, .f32⟩
  | .hbm, ⟨32, _⟩ => ⟨S4352x8192, .f32⟩
  | .hbm, ⟨33, _⟩ => ⟨S4352x8192, .f32⟩
  | .hbm, ⟨34, _⟩ => ⟨S4352x1024, .f32⟩
  | .hbm, ⟨35, _⟩ => ⟨S4352x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4352x1024, .f32⟩
  | .hbm, ⟨40, _⟩ => ⟨S4352x1024, .f32⟩
  | .hbm, ⟨41, _⟩ => ⟨S4352x1024, .f32⟩
  | .hbm, ⟨42, _⟩ => ⟨S_, .f32⟩
  | .hbm, ⟨43, _⟩ => ⟨S4352, .f32⟩
  | .hbm, ⟨44, _⟩ => ⟨S4352x1, .f32⟩
  | .hbm, ⟨45, _⟩ => ⟨S4352x1024, .f32⟩
  | .hbm, ⟨46, _⟩ => ⟨S4352x1024, .f32⟩
  | .hbm, ⟨47, _⟩ => ⟨S4352x1, .f32⟩
  | .hbm, ⟨48, _⟩ => ⟨S_, .f32⟩
  | .hbm, ⟨49, _⟩ => ⟨S4352x1, .f32⟩
  | .hbm, ⟨50, _⟩ => ⟨S4352x1, .f32⟩
  | .hbm, ⟨51, _⟩ => ⟨S_, .f32⟩
  | .hbm, ⟨52, _⟩ => ⟨S4352, .f32⟩
  | .hbm, ⟨53, _⟩ => ⟨S4352x1024, .f32⟩
  | .hbm, ⟨54, _⟩ => ⟨S4352x1024, .f32⟩
  | .hbm, ⟨55, _⟩ => ⟨S4352x1024, .f32⟩
  | .hbm, ⟨56, _⟩ => ⟨S4352x1024, .f32⟩
  | .hbm, ⟨57, _⟩ => ⟨S4352x1024, .f32⟩
  | .hbm, ⟨58, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Branch.lean ====
abbrev S4352x1024 : Shape := ⟨2, ![4352, 1024]⟩
abbrev S1024x1024 : Shape := ⟨2, ![1024, 1024]⟩
abbrev S4352x8192 : Shape := ⟨2, ![4352, 8192]⟩
abbrev S2x1024 : Shape := ⟨2, ![2, 1024]⟩
abbrev S544x1024 : Shape := ⟨2, ![544, 1024]⟩
abbrev S544x2048 : Shape := ⟨2, ![544, 2048]⟩
abbrev S1x1024 : Shape := ⟨2, ![1, 1024]⟩

abbrev nBuf : Space → Nat
  | .hbm => 9
  | .vmem => 15
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .hbm, ⟨3, _⟩ => ⟨S1024x1024, .bf16⟩
  | .hbm, ⟨4, _⟩ => ⟨S4352x8192, .bf16⟩
  | .hbm, ⟨5, _⟩ => ⟨S2x1024, .f32⟩
  | .hbm, ⟨6, _⟩ => ⟨S4352x1024, .bf16⟩
  | .hbm, ⟨7, _⟩ => ⟨S4352x1024, .bf16⟩
  | .hbm, ⟨8, _⟩ => ⟨S4352x1024, .bf16⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .bf16⟩
  | .local _ .vmem, ⟨4, _⟩ => ⟨S544x1024, .bf16⟩
  | .local _ .vmem, ⟨5, _⟩ => ⟨S1024x1024, .bf16⟩
  | .local _ .vmem, ⟨6, _⟩ => ⟨S544x2048, .bf16⟩
  | .local _ .vmem, ⟨7, _⟩ => ⟨S544x2048, .bf16⟩
  | .local _ .vmem, ⟨8, _⟩ => ⟨S2x1024, .f32⟩
  | .local _ .vmem, ⟨9, _⟩ => ⟨S544x1024, .bf16⟩
  | .local _ .vmem, ⟨10, _⟩ => ⟨S544x1024, .bf16⟩
  | .local _ .vmem, ⟨11, _⟩ => ⟨S544x1024, .bf16⟩
  | .local _ .vmem, ⟨12, _⟩ => ⟨S544x1024, .bf16⟩
  | .local _ .vmem, ⟨13, _⟩ => ⟨S544x1024, .bf16⟩
  | .local _ .vmem, ⟨14, _⟩ => ⟨S544x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_8 : BitVec 32 := 0#32
  let v8 : BitVec 1 := Scalar.cmpi .ne v7 c0_i32_8
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S544x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S544x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== BranchRefIdeal.lean ====
abbrev S4352x1024 : Shape := ⟨2, ![4352, 1024]⟩
abbrev S1024x1024 : Shape := ⟨2, ![1024, 1024]⟩
abbrev S4352x8192 : Shape := ⟨2, ![4352, 8192]⟩
abbrev S2x1024 : Shape := ⟨2, ![2, 1024]⟩
abbrev S4352x2048 : Shape := ⟨2, ![4352, 2048]⟩
abbrev S1x1024 : Shape := ⟨2, ![1, 1024]⟩
abbrev S1024 : Shape := ⟨1, ![1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .hbm, ⟨3, _⟩ => ⟨S1024x1024, .bf16⟩
  | .hbm, ⟨4, _⟩ => ⟨S4352x8192, .bf16⟩
  | .hbm, ⟨5, _⟩ => ⟨S2x1024, .f32⟩
  | .hbm, ⟨6, _⟩ => ⟨S4352x1024, .f32⟩
  | .hbm, ⟨7, _⟩ => ⟨S1024x1024, .f32⟩
  | .hbm, ⟨8, _⟩ => ⟨S4352x1024, .f32⟩
  | .hbm, ⟨9, _⟩ => ⟨S4352x1024, .f32⟩
  | .hbm, ⟨10, _⟩ => ⟨S1024x1024, .f32⟩
  | .hbm, ⟨11, _⟩ => ⟨S4352x1024, .f32⟩
  | .hbm, ⟨12, _⟩ => ⟨S4352x2048, .bf16⟩
  | .hbm, ⟨13, _⟩ => ⟨S4352x2048, .f32⟩
  | .hbm, ⟨14, _⟩ => ⟨S4352x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S4352x1024, .f32⟩
  | .hbm, ⟨22, _⟩ => ⟨S_, .f32⟩
  | .hbm, ⟨23, _⟩ => ⟨S4352x1024, .f32⟩
  | .hbm, ⟨24, _⟩ => ⟨S4352x1024, .f32⟩
  | .hbm, ⟨25, _⟩ => ⟨S_, .f32⟩
  | .hbm, ⟨26, _⟩ => ⟨S4352x1024, .f32⟩
  | .hbm, ⟨27, _⟩ => ⟨S4352x1024, .f32⟩
  | .hbm, ⟨28, _⟩ => ⟨S4352x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S_, .f32⟩
  | .hbm, ⟨37, _⟩ => ⟨S4352x1024, .f32⟩
  | .hbm, ⟨38, _⟩ => ⟨S4352x1024, .f32⟩
  | .hbm, ⟨39, _⟩ => ⟨S_, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S4352x1024, .f32⟩
  | .hbm, ⟨44, _⟩ => ⟨S4352x1024, .f32⟩
  | .hbm, ⟨45, _⟩ => ⟨S4352x1024, .bf16⟩
  | .hbm, ⟨46, _⟩ => ⟨S4352x1024, .bf16⟩
  | .hbm, ⟨47, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== OutProj.lean ====
abbrev S4352x1024 : Shape := ⟨2, ![4352, 1024]⟩
abbrev S1024x1024 : Shape := ⟨2, ![1024, 1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩

abbrev nBuf : Space → Nat
  | .hbm => 8
  | .vmem => 13
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1x1024, .f32⟩
  | .hbm, ⟨4, _⟩ => ⟨S1x1024, .f32⟩
  | .hbm, ⟨5, _⟩ => ⟨S4352x1024, .f32⟩
  | .hbm, ⟨6, _⟩ => ⟨S4352x1024, .f32⟩
  | .hbm, ⟨7, _⟩ => ⟨S4352x1024, .bf16⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .f32⟩
  | .local _ .vmem, ⟨4, _⟩ => ⟨S544x1024, .f32⟩
  | .local _ .vmem, ⟨5, _⟩ => ⟨S1x1024, .f32⟩
  | .local _ .vmem, ⟨6, _⟩ => ⟨S1x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .bf16⟩
  | .local _ .vmem, ⟨12, _⟩ => ⟨S544x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== OutProjRefIdeal.lean ====
abbrev S4352x1024 : Shape := ⟨2, ![4352, 1024]⟩
abbrev S1024x1024 : Shape := ⟨2, ![1024, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩

abbrev nBuf : Space → Nat
  | .hbm => 40
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1x1024, .f32⟩
  | .hbm, ⟨4, _⟩ => ⟨S1x1024, .f32⟩
  | .hbm, ⟨5, _⟩ => ⟨S4352x1024, .f32⟩
  | .hbm, ⟨6, _⟩ => ⟨S1024x1024, .f32⟩
  | .hbm, ⟨7, _⟩ => ⟨S4352x1024, .f32⟩
  | .hbm, ⟨8, _⟩ => ⟨S4352x1024, .f32⟩
  | .hbm, ⟨9, _⟩ => ⟨S_, .f32⟩
  | .hbm, ⟨10, _⟩ => ⟨S4352, .f32⟩
  | .hbm, ⟨11, _⟩ => ⟨S4352x1, .f32⟩
  | .hbm, ⟨12, _⟩ => ⟨S_, .f32⟩
  | .hbm, ⟨13, _⟩ => ⟨S4352x1, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S4352x1, .f32⟩
  | .hbm, ⟨19, _⟩ => ⟨S4352x1024, .f32⟩
  | .hbm, ⟨20, _⟩ => ⟨S4352x1024, .f32⟩
  | .hbm, ⟨21, _⟩ => ⟨S4352x1024, .f32⟩
  | .hbm, ⟨22, _⟩ => ⟨S4352x1024, .f32⟩
  | .hbm, ⟨23, _⟩ => ⟨S4352x1024, .f32⟩
  | .hbm, ⟨24, _⟩ => ⟨S4352x1024, .f32⟩
  | .hbm, ⟨25, _⟩ => ⟨S_, .f32⟩
  | .hbm, ⟨26, _⟩ => ⟨S4352, .f32⟩
  | .hbm, ⟨27, _⟩ => ⟨S4352x1, .f32⟩
  | .hbm, ⟨28, _⟩ => ⟨S_, .f32⟩
  | .hbm, ⟨29, _⟩ => ⟨S4352x1, .f32⟩
  | .hbm, ⟨30, _⟩ => ⟨S4352x1, .f32⟩
  | .hbm, ⟨31, _⟩ => ⟨S_, .f32⟩
  | .hbm, ⟨32, _⟩ => ⟨S4352x1, .f32⟩
  | .hbm, ⟨33, _⟩ => ⟨S4352x1, .f32⟩
  | .hbm, ⟨34, _⟩ => ⟨S4352x1, .f32⟩
  | .hbm, ⟨35, _⟩ => ⟨S4352x1024, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Loss.lean ====
abbrev S4352x2816 : Shape := ⟨2, ![4352, 2816]⟩
abbrev S2816x1024 : Shape := ⟨2, ![2816, 1024]⟩
abbrev S4352x1024 : Shape := ⟨2, ![4352, 1024]⟩
abbrev S1x1024 : Shape := ⟨2, ![1, 1024]⟩
abbrev S1x128 : Shape := ⟨2, ![1, 128]⟩
abbrev S544x2816 : Shape := ⟨2, ![544, 2816]⟩
abbrev S544x1024 : Shape := ⟨2, ![544, 1024]⟩
abbrev S544 : Shape := ⟨1, ![544]⟩
abbrev S544x1 : Shape := ⟨2, ![544, 1]⟩
abbrev S1024 : Shape := ⟨1, ![1024]⟩
abbrev S1x544x1024 : Shape := ⟨3, ![1, 544, 1024]⟩
abbrev S1 : Shape := ⟨1, ![1]⟩
abbrev S1x1x1 : Shape := ⟨3, ![1, 1, 1]⟩

abbrev nBuf : Space → Nat
  | .hbm => 9
  | .vmem => 14
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x1024, .f32⟩
  | .hbm, ⟨3, _⟩ => ⟨S4352x1024, .f32⟩
  | .hbm, ⟨4, _⟩ => ⟨S1x1024, .f32⟩
  | .hbm, ⟨5, _⟩ => ⟨S4352x1024, .bf16⟩
  | .hbm, ⟨6, _⟩ => ⟨S4352x1024, .f32⟩
  | .hbm, ⟨7, _⟩ => ⟨S1x1024, .f32⟩
  | .hbm, ⟨8, _⟩ => ⟨S1x128, .f32⟩
  | .local _ .vmem, ⟨0, _⟩ => ⟨S544x2816, .bf16⟩
  | .local _ .vmem, ⟨1, _⟩ => ⟨S544x2816, .bf16⟩
  | .local _ .vmem, ⟨2, _⟩ => ⟨S2816x1024, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S1x1024, .f32⟩
  | .local _ .vmem, ⟨8, _⟩ => ⟨S544x1024, .bf16⟩
  | .local _ .vmem, ⟨9, _⟩ => ⟨S544x1024, .bf16⟩
  | .local _ .vmem, ⟨10, _⟩ => ⟨S544x1024, .f32⟩
  | .local _ .vmem, ⟨11, _⟩ => ⟨S544x1024, .f32⟩
  | .local _ .vmem, ⟨12, _⟩ => ⟨S1x1024, .f32⟩
  | .local _ .vmem, ⟨13, _⟩ => ⟨S1x128, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg0 : BitVec 32 := BitVec.ofNat 32 (i 0).val
  let c0_i32_26 : BitVec 32 := 0#32
  let v66 : BitVec 1 := Scalar.cmpi .eq arg0 c0_i32_26
  let v67 : BitVec 32 := Scalar.extui v66
  let c0_i32_27 : BitVec 32 := 0#32
  let v68 : BitVec 1 := Scalar.cmpi .ne v67 c0_i32_27
  v68

def k0_cond3 (i : grid0.Coords) : BitVec 1 :=
  let arg0 : BitVec 32 := BitVec.ofNat 32 (i 0).val
  let c0_i32_28 : BitVec 32 := 0#32
  let v69 : BitVec 1 := Scalar.cmpi .sgt arg0 c0_i32_28
  let v70 : BitVec 32 := Scalar.extui v69
  let c0_i32_29 : BitVec 32 := 0#32
  let v71 : BitVec 1 := Scalar.cmpi .ne v70 c0_i32_29
  v71

def k0_cond4 (i : grid0.Coords) : BitVec 1 :=
  let arg0 : BitVec 32 := BitVec.ofNat 32 (i 0).val
  let c0_i32_30 : BitVec 32 := 0#32
  let v72 : BitVec 1 := Scalar.cmpi .eq arg0 c0_i32_30
  let v73 : BitVec 32 := Scalar.extui v72
  let c0_i32_31 : BitVec 32 := 0#32
  let v74 : BitVec 1 := Scalar.cmpi .ne v73 c0_i32_31
  v74

def k0_cond5 (i : grid0.Coords) : BitVec 1 :=
  let arg0 : BitVec 32 := BitVec.ofNat 32 (i 0).val
  let c0_i32_32 : BitVec 32 := 0#32
  let v75 : BitVec 1 := Scalar.cmpi .sgt arg0 c0_i32_32
  let v76 : BitVec 32 := Scalar.extui v75
  let c0_i32_33 : BitVec 32 := 0#32
  let v77 : BitVec 1 := Scalar.cmpi .ne v76 c0_i32_33
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== LossRefIdeal.lean ====
abbrev S4352x2816 : Shape := ⟨2, ![4352, 2816]⟩
abbrev S2816x1024 : Shape := ⟨2, ![2816, 1024]⟩
abbrev S4352x1024 : Shape := ⟨2, ![4352, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩
abbrev S4096x1024 : Shape := ⟨2, ![4096, 1024]⟩
abbrev S4096 : Shape := ⟨1, ![4096]⟩
abbrev S1024 : Shape := ⟨1, ![1024]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x1024, .f32⟩
  | .hbm, ⟨3, _⟩ => ⟨S4352x1024, .f32⟩
  | .hbm, ⟨4, _⟩ => ⟨S1x1024, .f32⟩
  | .hbm, ⟨5, _⟩ => ⟨S4352x2816, .f32⟩
  | .hbm, ⟨6, _⟩ => ⟨S2816x1024, .f32⟩
  | .hbm, ⟨7, _⟩ => ⟨S4352x1024, .f32⟩
  | .hbm, ⟨8, _⟩ => ⟨S4352x1024, .f32⟩
  | .hbm, ⟨9, _⟩ => ⟨S_, .f32⟩
  | .hbm, ⟨10, _⟩ => ⟨S4352, .f32⟩
  | .hbm, ⟨11, _⟩ => ⟨S4352x1, .f32⟩
  | .hbm, ⟨12, _⟩ => ⟨S_, .f32⟩
  | .hbm, ⟨13, _⟩ => ⟨S4352x1, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S4352x1, .f32⟩
  | .hbm, ⟨19, _⟩ => ⟨S4352x1, .f32⟩
  | .hbm, ⟨20, _⟩ => ⟨S_, .f32⟩
  | .hbm, ⟨21, _⟩ => ⟨S4352x1, .f32⟩
  | .hbm, ⟨22, _⟩ => ⟨S4352x1, .f32⟩
  | .hbm, ⟨23, _⟩ => ⟨S4352x1024, .f32⟩
  | .hbm, ⟨24, _⟩ => ⟨S4352x1024, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4352x1024, .f32⟩
  | .hbm, ⟨55, _⟩ => ⟨S4352x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4352x1024, .f32⟩
  | .hbm, ⟨60, _⟩ => ⟨S4352x1024, .f32⟩
  | .hbm, ⟨61, _⟩ => ⟨S4352x1024, .f32⟩
  | .hbm, ⟨62, _⟩ => ⟨S_, .f32⟩
  | .hbm, ⟨63, _⟩ => ⟨S4352, .f32⟩
  | .hbm, ⟨64, _⟩ => ⟨S4352x1, .f32⟩
  | .hbm, ⟨65, _⟩ => ⟨S4352x1024, .f32⟩
  | .hbm, ⟨66, _⟩ => ⟨S4352x1024, .f32⟩
  | .hbm, ⟨67, _⟩ => ⟨S4352x1, .f32⟩
  | .hbm, ⟨68, _⟩ => ⟨S_, .f32⟩
  | .hbm, ⟨69, _⟩ => ⟨S4352x1, .f32⟩
  | .hbm, ⟨70, _⟩ => ⟨S4352x1, .f32⟩
  | .hbm, ⟨71, _⟩ => ⟨S_, .f32⟩
  | .hbm, ⟨72, _⟩ => ⟨S4352, .f32⟩
  | .hbm, ⟨73, _⟩ => ⟨S4352x1024, .f32⟩
  | .hbm, ⟨74, _⟩ => ⟨S4352x1024, .f32⟩
  | .hbm, ⟨75, _⟩ => ⟨S4352x1024, .f32⟩
  | .hbm, ⟨76, _⟩ => ⟨S4352x1024, .f32⟩
  | .hbm, ⟨77, _⟩ => ⟨S4352x1024, .f32⟩
  | .hbm, ⟨78, _⟩ => ⟨S4352x1024, .bf16⟩
  | .hbm, ⟨79, _⟩ => ⟨S1x128, .f32⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Proof.Spec.lean ====
/- What one tile of the backward pass computes, as plain functions of vectors: the names the other modules speak of.
   A tile is laid out [key, query]; `sel` keeps the entries of a tile that lie under the causal mask (all of them off
   the diagonal). -/
module

public import proofs.«01_k».proof.Proof.Gen.KernelIdeal.Skeleton

@[expose] public section

noncomputable section

namespace Cert.Att

open Idealize.ShloMosaic Cert.KernelIdeal Facts₀

variable {F : FTy → Type} [FloatOps F]

/-- The product of two tiles of 128 lanes over the lanes, the keys' rows by the queries'. -/
def tProd (x y : FVec F S256x128 .bf16) : FVec F S256x256 .f32 :=
  matmul dot_S256x128_S256x128_S256x256_1_1_0_0_n_n none x y (constant S256x256 .f32 0x00000000#32)

/-- The product of a constant triangle with a tile. -/
def tTri (m : FVec F S256x256 .bf16) (x : FVec F S256x256 .f32) : FVec F S256x256 .f32 :=
  matmul dot_S256x256_S256x256_S256x256_1_0_0_1_n_n none m (truncf .bf16 x bitsLt_bf16_f32) (constant S256x256 .f32 0x00000000#32)

/-- The logarithm of the logistic function. -/
def tLb (z : FVec F S256x256 .f32) : FVec F S256x256 .f32 :=
  subf (minimumf z (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- The logistic function, rounded. -/
def tSig (z : FVec F S256x256 .f32) : FVec F S256x256 .bf16 := truncf .bf16 (exp (tLb z)) bitsLt_bf16_f32

/-- The log of what is left of the stick, summed over the keys of the block from each key on. -/
def tSums (sel : FVec F S256x256 .f32 → FVec F S256x256 .f32) (up : FVec F S256x256 .bf16) (z : FVec F S256x256 .f32) : FVec F S256x256 .f32 :=
  tTri up (sel (subf (tLb z) z))

/-- What is left after this block. -/
def tRest (rest : FVec F S1x256 .f32) (sums : FVec F S256x256 .f32) : FVec F S1x256 .f32 :=
  subf rest (extractStridedSlice S1x256 ![0, 0] sums slices_S256x256_o0_0_S1x256)

/-- The attention weights of the tile. -/
def tA (sel : FVec F S256x256 .f32 → FVec F S256x256 .f32) (z sums : FVec F S256x256 .f32) (rest' : FVec F S1x256 .f32) : FVec F S256x256 .f32 :=
  sel (exp (addf (addf z sums) (broadcastTo S256x256 rest' broadcasts_S1x256_S256x256)))

/-- The cotangents of the log of what is left: the sum of `g` over the earlier keys. -/
def tDlf (low : FVec F S256x256 .bf16) (g : FVec F S256x256 .f32) (before : FVec F S1x256 .f32) : FVec F S256x256 .f32 :=
  addf (tTri low g) (broadcastTo S256x256 before broadcasts_S1x256_S256x256)

/-- The cotangents of the scores. -/
def tDz (sel : FVec F S256x256 .f32 → FVec F S256x256 .f32) (sig : FVec F S256x256 .bf16) (g dlf : FVec F S256x256 .f32) : FVec F S256x256 .bf16 :=
  truncf .bf16 (sel (subf g (mulf (extf .f32 sig bitsLt_bf16_f32) (addf g dlf)))) bitsLt_bf16_f32

/-- The sum of `g` over the keys up to the block's last. -/
def tBefore (g dlf : FVec F S256x256 .f32) : FVec F S1x256 .f32 :=
  addf (extractStridedSlice S1x256 ![255, 0] dlf slices_S256x256_o255_0_S1x256) (extractStridedSlice S1x256 ![255, 0] g slices_S256x256_o255_0_S1x256)

/-! ### One head's tile: `z` its scores, `da` its weights' cotangents -/

section Head
variable (sel : FVec F S256x256 .f32 → FVec F S256x256 .f32) (up low : FVec F S256x256 .bf16) (z da : FVec F S256x256 .f32) (rest before : FVec F S1x256 .f32)

/-- What is left after the tile. -/
def hRest : FVec F S1x256 .f32 := tRest rest (tSums sel up z)
/-- The tile's weights. -/
def hA : FVec F S256x256 .f32 := tA sel z (tSums sel up z) (hRest sel up z rest)
/-- The weights times their cotangents. -/
def hG : FVec F S256x256 .f32 := mulf da (hA sel up z rest)
/-- Their sums over the earlier keys. -/
def hDlf : FVec F S256x256 .f32 := tDlf low (hG sel up z da rest) before
/-- The scores' cotangents. -/
def hDz : FVec F S256x256 .bf16 := tDz sel (tSig z) (hG sel up z da rest) (hDlf sel up low z da rest before)
/-- The carried sum after the tile. -/
def hBefore : FVec F S1x256 .f32 := tBefore (hG sel up z da rest) (hDlf sel up low z da rest before)
end Head

/-- Two heads' share of the gradient of the keys or the values. -/
def tKV (x y : FVec F S256x256 .bf16) (a b : FVec F S256x128 .bf16) : FVec F S256x128 .f32 :=
  addf (addf (broadcast S256x128 (Scalar.ofBits .f32 0x00000000#32))
    (matmul dot_S256x256_S256x128_S256x128_1_0_0_1_n_n none x a (constant S256x128 .f32 0x00000000#32)))
    (matmul dot_S256x256_S256x128_S256x128_1_0_0_1_n_n none y b (constant S256x128 .f32 0x00000000#32))

/-- The lanes of one head of two. -/
def tLanes (m : IVec S1x128 1) (x : FVec F S256x128 .bf16) : FVec F S256x128 .bf16 :=
  select (broadcastTo S256x128 (shapeCast S1x128 m shapeCasts_S1x128_S1x128) broadcasts_S1x128_S256x128) x
    (broadcast S256x128 (Scalar.ofBits .bf16 0x0000#16))

/-- Two heads' share of the gradient of the queries. -/
def tQ (m0 m1 : IVec S1x128 1) (acc : FVec F S256x128 .f32) (x y : FVec F S256x256 .bf16) (k : FVec F S256x128 .bf16) : FVec F S256x128 .f32 :=
  addf (addf acc (matmul dot_S256x256_S256x128_S256x128_0_0_1_1_n_n none x (tLanes m0 k) (constant S256x128 .f32 0x00000000#32)))
    (matmul dot_S256x256_S256x128_S256x128_0_0_1_1_n_n none y (tLanes m1 k) (constant S256x128 .f32 0x00000000#32))

/-- The low lanes of a block. -/
def lo (x : FVec F S256x256 .bf16) : FVec F S256x128 .bf16 := extractStridedSlice S256x128 ![0, 0] x slices_S256x256_o0_0_S256x128
/-- The high lanes of a block. -/
def hi (x : FVec F S256x256 .bf16) : FVec F S256x128 .bf16 := extractStridedSlice S256x128 ![0, 128] x slices_S256x256_o0_128_S256x128

end Cert.Att

end
-- ==== Proof.Rep.lean ====
/- Vectors of extended reals that hold real numbers: what the tile operations make of them. -/
module

public import proofs.«01_k».proof.Proof.Spec
public import Idealize.ShloMosaic.Lib.MatmulPlain
public import Idealize.ShloMosaic.Lib.ValueIdx
public import Idealize.ShloMosaic.Lib.IdealHost
public import Idealize.ShloMosaic.Lib.Pointwise

@[expose] public section

noncomputable section

namespace Cert.Att

open Idealize.ShloMosaic Idealize.ShloMosaic.ValueIdx Cert.KernelIdeal Facts₀
open scoped BigOperators

/-- The matrix `x` holds the real numbers `r`. -/
def Rep {n0 n1 : ℕ} {φ : FTy} (x : FVec Ideal ⟨2, ![n0, n1]⟩ φ) (r : Fin n0 → Fin n1 → ℝ) : Prop :=
  ∀ a b, x (ValueIdx.ix2 a b) = ((r a b : ℝ) : EReal)

/-- A finite sum of reals is a real. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The logarithm of the logistic function. -/
def lsig (z : ℝ) : ℝ := min z 0 - Real.log (1 + Real.exp (-|z|))

section
variable {n0 n1 : ℕ} {φ : FTy} {x y : FVec Ideal ⟨2, ![n0, n1]⟩ φ} {r s : Fin n0 → Fin n1 → ℝ}

theorem Rep.congr (h : Rep x r) (e : ∀ a b, r a b = s a b) : Rep x s := fun a b => (h a b).trans (by rw [e])

theorem Rep.addf (h : Rep x r) (g : Rep y s) : Rep (addf x y) (fun a b => r a b + s a b) := fun a b => by
  rw [addf_apply, h, g, EReal.coe_add]

theorem Rep.subf (h : Rep x r) (g : Rep y s) : Rep (subf x y) (fun a b => r a b - s a b) := fun a b => by
  rw [subf_apply, h, g, EReal.coe_sub]

theorem Rep.mulf (h : Rep x r) (g : Rep y s) : Rep (mulf x y) (fun a b => r a b * s a b) := fun a b => by
  rw [mulf_apply, h, g, EReal.coe_mul]

theorem Rep.exp (h : Rep x r) : Rep (exp x) (fun a b => Real.exp (r a b)) := fun a b => by
  show Ideal.exp (x (ValueIdx.ix2 a b)) = _
  rw [h]; rfl
end

theorem Rep.truncf {n0 n1 : ℕ} {φ ψ : FTy} {x : FVec Ideal ⟨2, ![n0, n1]⟩ φ} {r : Fin n0 → Fin n1 → ℝ} (h : Rep x r) (hb : ψ.bits < φ.bits) :
    Rep (truncf ψ x hb) r := h

theorem Rep.extf {n0 n1 : ℕ} {φ ψ : FTy} {x : FVec Ideal ⟨2, ![n0, n1]⟩ φ} {r : Fin n0 → Fin n1 → ℝ} (h : Rep x r) (hb : φ.bits < ψ.bits) :
    Rep (extf ψ x hb) r := h

theorem ofBits_zero : Ideal.ofBits .f32 0x00000000#32 = 0 := by simp [Ideal.ofBits, Ideal.ieee]

/-- The kernel's logarithm of the logistic function, of reals. -/
theorem rep_tLb {z : FVec Ideal S256x256 .f32} {r : Fin 256 → Fin 256 → ℝ} (h : Rep z r) : Rep (tLb z) (fun a b => lsig (r a b)) := fun a b => by
  show min (z (ValueIdx.ix2 a b)) (Ideal.ofBits .f32 0x00000000#32)
    - Ideal.log (Ideal.ofBits .f32 0x3F800000#32 + Ideal.exp (Ideal.ofBits .f32 0x00000000#32 - max (z (ValueIdx.ix2 a b)) (-(z (ValueIdx.ix2 a b))))) = _
  rw [h, ofBits_zero, Ideal.ofBits_one_f32]
  have e1 : max ((r a b : ℝ) : EReal) (-((r a b : ℝ) : EReal)) = ((|r a b| : ℝ) : EReal) := by
    rw [← EReal.coe_neg]; exact (EReal.coe_strictMono.monotone.map_max).symm
  have e2 : min ((r a b : ℝ) : EReal) 0 = ((min (r a b) 0 : ℝ) : EReal) := by
    rw [← EReal.coe_zero]; exact (EReal.coe_strictMono.monotone.map_min).symm
  rw [e1, e2, zero_sub, ← EReal.coe_neg]
  show _ - Ideal.log (1 + ((Real.exp (-|r a b|) : ℝ) : EReal)) = _
  rw [← EReal.coe_one, ← EReal.coe_add]
  have e3 : Ideal.log (((1 + Real.exp (-|r a b|) : ℝ)) : EReal) = ((Real.log (1 + Real.exp (-|r a b|)) : ℝ) : EReal) := by
    show (if (1 + Real.exp (-|r a b|)) ≤ 0 then (⊥ : EReal) else _) = _
    rw [if_neg (by have := Real.exp_pos (-|r a b|); linarith)]
  rw [e3, ← EReal.coe_sub]
  rfl

theorem rep_zero {n0 n1 : ℕ} : Rep (constant (F := Ideal) ⟨2, ![n0, n1]⟩ .f32 0x00000000#32) (fun _ _ => 0) := fun a b => by
  rw [constant_apply, ofBits_zero, EReal.coe_zero]

/-- A row of a matrix added to each of its rows. -/
theorem rep_row {x : FVec Ideal S1x256 .f32} {r : Fin 1 → Fin 256 → ℝ} (h : Rep x r) :
    Rep (broadcastTo S256x256 x broadcasts_S1x256_S256x256) (fun _ b => r 0 b) := fun a b => by
  have e : broadcastTo S256x256 x broadcasts_S1x256_S256x256 (ValueIdx.ix2 a b) = x (ValueIdx.ix2 0 b) := by
    pointwise
    rfl
  rw [e, h]

theorem rep_row0 {x : FVec Ideal S256x256 .f32} {r : Fin 256 → Fin 256 → ℝ} (h : Rep x r) :
    Rep (extractStridedSlice S1x256 ![0, 0] x slices_S256x256_o0_0_S1x256) (fun _ b => r 0 b) := fun a b => by
  have e : extractStridedSlice S1x256 ![0, 0] x slices_S256x256_o0_0_S1x256 (ValueIdx.ix2 a b) = x (ValueIdx.ix2 0 b) := by
    obtain rfl : a = 0 := Subsingleton.elim _ _
    pointwise
    rfl
  rw [e, h]

theorem rep_row255 {x : FVec Ideal S256x256 .f32} {r : Fin 256 → Fin 256 → ℝ} (h : Rep x r) :
    Rep (extractStridedSlice S1x256 ![255, 0] x slices_S256x256_o255_0_S1x256) (fun _ b => r 255 b) := fun a b => by
  have e : extractStridedSlice S1x256 ![255, 0] x slices_S256x256_o255_0_S1x256 (ValueIdx.ix2 a b) = x (ValueIdx.ix2 255 b) := by
    obtain rfl : a = 0 := Subsingleton.elim _ _
    pointwise
    rfl
  rw [e, h]

/-- A plain product. -/
theorem rep_plain {M K N : ℕ} {φ₁ φ₂ : FTy} (prec : Option ContractPrecision) {x : FVec Ideal ⟨2, ![M, K]⟩ φ₁} {y : FVec Ideal ⟨2, ![K, N]⟩ φ₂}
    {r : Fin M → Fin K → ℝ} {s : Fin K → Fin N → ℝ} (h : Rep x r) (g : Rep y s) :
    Rep (FloatOps.matmul (DotDims.plain M K N) prec x y (constant ⟨2, ![M, N]⟩ .f32 0x00000000#32)) (fun a b => ∑ k, r a k * s k b) := fun a b => by
  rw [Ideal.matmul_plain_apply, rep_zero, EReal.coe_zero, zero_add, ← coe_sum]
  exact Finset.sum_congr rfl fun k _ => by rw [h, g, EReal.coe_mul]

/-- A product with the second operand's transpose. -/
theorem rep_trans {M K N : ℕ} {φ₁ φ₂ : FTy} (prec : Option ContractPrecision) {x : FVec Ideal ⟨2, ![M, K]⟩ φ₁} {y : FVec Ideal ⟨2, ![N, K]⟩ φ₂}
    {r : Fin M → Fin K → ℝ} {s : Fin N → Fin K → ℝ} (h : Rep x r) (g : Rep y s) :
    Rep (FloatOps.matmul (DotDims.transposedRhs M K N) prec x y (constant ⟨2, ![M, N]⟩ .f32 0x00000000#32)) (fun a b => ∑ k, r a k * s b k) := fun a b => by
  rw [Ideal.matmul_transposedRhs_apply, rep_zero, EReal.coe_zero, zero_add, ← coe_sum]
  exact Finset.sum_congr rfl fun k _ => by rw [h, g, EReal.coe_mul]

theorem rep_tProd {x y : FVec Ideal S256x128 .bf16} {r s : Fin 256 → Fin 128 → ℝ} (h : Rep x r) (g : Rep y s) :
    Rep (tProd x y) (fun a b => ∑ k, r a k * s b k) := rep_trans none h g

theorem rep_tTri {m : FVec Ideal S256x256 .bf16} {x : FVec Ideal S256x256 .f32} {r s : Fin 256 → Fin 256 → ℝ} (h : Rep m r) (g : Rep x s) :
    Rep (tTri m x) (fun a b => ∑ k, r a k * s k b) := rep_plain none h (g.truncf bitsLt_bf16_f32)

/-- A product of a tile of weights with the queries' lanes. -/
theorem rep_lanes {x : FVec Ideal S256x256 .bf16} {y : FVec Ideal S256x128 .bf16} {r : Fin 256 → Fin 256 → ℝ} {s : Fin 256 → Fin 128 → ℝ} (h : Rep x r) (g : Rep y s) :
    Rep (matmul dot_S256x256_S256x128_S256x128_1_0_0_1_n_n none x y (constant S256x128 .f32 0x00000000#32)) (fun a b => ∑ k, r a k * s k b) :=
  rep_plain none h g

/-- A product of a tile's transpose with the keys' lanes. -/
theorem rep_lanesT {x : FVec Ideal S256x256 .bf16} {y : FVec Ideal S256x128 .bf16} {r : Fin 256 → Fin 256 → ℝ} {s : Fin 256 → Fin 128 → ℝ} (h : Rep x r) (g : Rep y s) :
    Rep (matmul dot_S256x256_S256x128_S256x128_0_0_1_1_n_n none x y (constant S256x128 .f32 0x00000000#32)) (fun a b => ∑ k, r k a * s k b) := fun a b => by
  have e : matmul dot_S256x256_S256x128_S256x128_0_0_1_1_n_n none x y (constant S256x128 .f32 0x00000000#32) (ValueIdx.ix2 a b)
      = (0 : EReal) + ∑ k : Fin 256, x (ValueIdx.ix2 k a) * y (ValueIdx.ix2 k b) := by
    pointwise
    first | rfl | simp
  rw [e, zero_add, ← coe_sum]
  exact Finset.sum_congr rfl fun k _ => by rw [h, g, EReal.coe_mul]

end Cert.Att

end
-- ==== Proof.Tile.lean ====
/- One head's tile of the backward pass, on real numbers: what the tile operations hold when the scores, the cotangents
   and the carried rows hold their part of the whole sequence's. -/
module

public import proofs.«01_k».proof.Proof.Rep

@[expose] public section

noncomputable section

namespace Cert.Att

open Idealize.ShloMosaic Cert.KernelIdeal Facts₀
open scoped BigOperators

/-! ### The whole sequence: `Z t s` the score of query `t` and key `s`, `D t s` the cotangent of their weight -/

section Whole
variable (Z D : ℕ → ℕ → ℝ)

/-- The log of what a key leaves of the stick. -/
def rF (t s : ℕ) : ℝ := if s < t then lsig (Z t s) - Z t s else 0
/-- Its sum from the key `n` on. -/
def rTail (t n : ℕ) : ℝ := ∑ s ∈ Finset.Ico n 4352, rF Z t s
/-- The weight. -/
def rA (t s : ℕ) : ℝ := if s < t then Real.exp (Z t s + rTail Z t s) else 0
/-- The weight times its cotangent. -/
def rG (t s : ℕ) : ℝ := D t s * rA Z t s
/-- The sum of these over the keys before `n`. -/
def rHead (t n : ℕ) : ℝ := ∑ s ∈ Finset.range n, rG Z D t s
/-- The score's cotangent. -/
def rDz (t s : ℕ) : ℝ := if s < t then rG Z D t s - Real.exp (lsig (Z t s)) * (rG Z D t s + rHead Z D t s) else 0

theorem rA_of_le {t s : ℕ} (h : t ≤ s) : rA Z t s = 0 := if_neg (by omega)
theorem rDz_of_le {t s : ℕ} (h : t ≤ s) : rDz Z D t s = 0 := if_neg (by omega)
end Whole

/-- The entries of a matrix over the tile of key block `j` and query block `i`. -/
abbrev tl (M : ℕ → ℕ → ℝ) (i j : ℕ) : Fin 256 → Fin 256 → ℝ := fun k q => M (256 * i + q.val) (256 * j + k.val)

/-- A row over the queries of block `i`. -/
abbrev rw1 (M : ℕ → ℝ) (i : ℕ) : Fin 1 → Fin 256 → ℝ := fun _ q => M (256 * i + q.val)

/-- `sel` keeps the entries of the tile under the causal mask. -/
def Sel (sel : FVec Ideal S256x256 .f32 → FVec Ideal S256x256 .f32) (i j : ℕ) : Prop :=
  ∀ x r, Rep x r → Rep (sel x) (fun k q => if 256 * j + k.val < 256 * i + q.val then r k q else 0)

/-- The upper triangle, its diagonal included. -/
abbrev rUp : Fin 256 → Fin 256 → ℝ := fun a b => if a.val ≤ b.val then 1 else 0
/-- The lower triangle without its diagonal. -/
abbrev rLow : Fin 256 → Fin 256 → ℝ := fun a b => if b.val < a.val then 1 else 0

theorem sum_rUp (f : ℕ → ℝ) (j : ℕ) (a : Fin 256) :
    ∑ b : Fin 256, rUp a b * f (256 * j + b.val) = ∑ s ∈ Finset.Ico (256 * j + a.val) (256 * j + 256), f s := by
  rw [← Finset.sum_range (fun b => (if a.val ≤ b then (1 : ℝ) else 0) * f (256 * j + b))]
  simp only [ite_mul, one_mul, zero_mul]
  rw [← Finset.sum_filter]
  have e : (Finset.range 256).filter (fun b => a.val ≤ b) = Finset.Ico a.val 256 := by
    ext b; simp only [Finset.mem_filter, Finset.mem_range, Finset.mem_Ico]; omega
  rw [e, Finset.sum_Ico_add, Nat.add_comm a.val, Nat.add_comm 256 (256 * j)]

theorem sum_rLow (f : ℕ → ℝ) (j : ℕ) (a : Fin 256) :
    ∑ b : Fin 256, rLow a b * f (256 * j + b.val) = ∑ s ∈ Finset.Ico (256 * j) (256 * j + a.val), f s := by
  rw [← Finset.sum_range (fun b => (if b < a.val then (1 : ℝ) else 0) * f (256 * j + b))]
  simp only [ite_mul, one_mul, zero_mul]
  rw [← Finset.sum_filter]
  have e : (Finset.range 256).filter (fun b => b < a.val) = Finset.Ico 0 a.val := by
    ext b; simp only [Finset.mem_filter, Finset.mem_range, Finset.mem_Ico]; have := a.isLt; omega
  rw [e, Finset.sum_Ico_add, Nat.zero_add, Nat.add_comm a.val]

section Head
variable {sel : FVec Ideal S256x256 .f32 → FVec Ideal S256x256 .f32} {up low : FVec Ideal S256x256 .bf16} {z da : FVec Ideal S256x256 .f32}
  {rest before : FVec Ideal S1x256 .f32} {Z D : ℕ → ℕ → ℝ} {i j : ℕ}

theorem rep_sums (hs : Sel sel i j) (hu : Rep up rUp) (hz : Rep z (tl Z i j)) :
    Rep (tSums sel up z) (fun k q => ∑ s ∈ Finset.Ico (256 * j + k.val) (256 * j + 256), rF Z (256 * i + q.val) s) :=
  (rep_tTri hu (hs _ _ ((rep_tLb hz).subf hz))).congr fun a b => by
    rw [← sum_rUp]
    rfl

variable (hj : 256 * j + 256 ≤ 4352)
include hj

theorem rep_hRest (hs : Sel sel i j) (hu : Rep up rUp) (hz : Rep z (tl Z i j)) (hr : Rep rest (rw1 (rTail Z · (256 * j)) i)) :
    Rep (hRest sel up z rest) (rw1 (rTail Z · (256 * j + 256)) i) :=
  (Rep.subf hr (rep_row0 (rep_sums hs hu hz))).congr fun a b => by
    show rTail Z _ _ - ∑ s ∈ Finset.Ico (256 * j + 0) _, _ = rTail Z _ _
    unfold rTail
    rw [Nat.add_zero, ← Finset.sum_Ico_consecutive _ (Nat.le_add_right (256 * j) 256) hj]
    ring

theorem rep_hA (hs : Sel sel i j) (hu : Rep up rUp) (hz : Rep z (tl Z i j)) (hr : Rep rest (rw1 (rTail Z · (256 * j)) i)) :
    Rep (hA sel up z rest) (tl (rA Z) i j) :=
  (hs _ _ ((hz.addf (rep_sums hs hu hz)).addf (rep_row (rep_hRest hj hs hu hz hr))).exp).congr fun a b => by
    show (if _ then Real.exp (_ + _ + rTail Z _ _) else 0) = rA Z _ _
    unfold rA rTail
    have ha := a.isLt
    rw [← Finset.sum_Ico_consecutive _ (show 256 * j + a.val ≤ 256 * j + 256 by omega) hj, ← add_assoc]

theorem rep_hG (hs : Sel sel i j) (hu : Rep up rUp) (hz : Rep z (tl Z i j)) (hd : Rep da (tl D i j)) (hr : Rep rest (rw1 (rTail Z · (256 * j)) i)) :
    Rep (hG sel up z da rest) (tl (rG Z D) i j) := hd.mulf (rep_hA hj hs hu hz hr)

theorem rep_hDlf (hs : Sel sel i j) (hu : Rep up rUp) (hl : Rep low rLow) (hz : Rep z (tl Z i j)) (hd : Rep da (tl D i j))
    (hr : Rep rest (rw1 (rTail Z · (256 * j)) i)) (hb : Rep before (rw1 (rHead Z D · (256 * j)) i)) :
    Rep (hDlf sel up low z da rest before) (tl (rHead Z D) i j) :=
  ((rep_tTri hl (rep_hG hj hs hu hz hd hr)).addf (rep_row hb)).congr fun a b => by
    show ∑ k : Fin 256, rLow a k * rG Z D _ (256 * j + k.val) + rHead Z D _ _ = rHead Z D _ _
    rw [sum_rLow]
    unfold rHead
    rw [Finset.range_eq_Ico, Finset.range_eq_Ico, ← Finset.sum_Ico_consecutive _ (Nat.zero_le (256 * j)) (Nat.le_add_right (256 * j) a.val)]
    ring

theorem rep_hDz (hs : Sel sel i j) (hu : Rep up rUp) (hl : Rep low rLow) (hz : Rep z (tl Z i j)) (hd : Rep da (tl D i j))
    (hr : Rep rest (rw1 (rTail Z · (256 * j)) i)) (hb : Rep before (rw1 (rHead Z D · (256 * j)) i)) :
    Rep (hDz sel up low z da rest before) (tl (rDz Z D) i j) :=
  have hg := rep_hG hj hs hu hz hd hr
  (hs _ _ (hg.subf (((rep_tLb hz).exp).mulf (hg.addf (rep_hDlf hj hs hu hl hz hd hr hb)))))

theorem rep_hBefore (hs : Sel sel i j) (hu : Rep up rUp) (hl : Rep low rLow) (hz : Rep z (tl Z i j)) (hd : Rep da (tl D i j))
    (hr : Rep rest (rw1 (rTail Z · (256 * j)) i)) (hb : Rep before (rw1 (rHead Z D · (256 * j)) i)) :
    Rep (hBefore sel up low z da rest before) (rw1 (rHead Z D · (256 * j + 256)) i) :=
  ((rep_row255 (rep_hDlf hj hs hu hl hz hd hr hb)).addf (rep_row255 (rep_hG hj hs hu hz hd hr))).congr fun a b => by
    show rHead Z D _ (256 * j + 255) + rG Z D _ (256 * j + 255) = rHead Z D _ (256 * j + 255 + 1)
    unfold rHead
    rw [Finset.sum_range_succ _ (256 * j + 255)]
end Head

end Cert.Att

end
-- ==== Proof.Trip.lean ====
/- One trip of the loop over the earlier key blocks, as the tile operations of `Spec`. -/
module

public import proofs.«01_k».proof.Proof.Spec
public import proofs.«01_k».proof.Proof.Gen.KernelIdeal.Loops

@[expose] public section

set_option maxRecDepth 16384

noncomputable section

namespace Cert.Att

open Idealize.ShloMosaic Cert.KernelIdeal Gen

variable {F : FTy → Type} [FloatOps F]

/-- What a tile hands to the next: what is left of the four heads' sticks, the four carried sums, and the gradient of
    the queries in two blocks of lanes. -/
abbrev Carry (F : FTy → Type) := FVec F S1x256 .f32 × FVec F S1x256 .f32 × FVec F S1x256 .f32 × FVec F S1x256 .f32 × FVec F S1x256 .f32 × FVec F S1x256 .f32 × FVec F S1x256 .f32 × FVec F S1x256 .f32 × FVec F S256x128 .f32 × FVec F S256x128 .f32

section Tile
variable (sel : FVec F S256x256 .f32 → FVec F S256x256 .f32) (up low : FVec F S256x256 .bf16) (m0 m1 : IVec S1x128 1)

/-- The scores' cotangents of head 0. -/
def tileDz0 (q0 o0 : FVec F S256x128 .bf16) (kj vj : FVec F S256x256 .bf16) (acc : Carry F) : FVec F S256x256 .bf16 :=
  hDz sel up low (tProd (lo kj) q0) (tProd (lo vj) o0) acc.1 acc.2.2.2.2.1
/-- The weights of head 0. -/
def tileA0 (q0 : FVec F S256x128 .bf16) (kj : FVec F S256x256 .bf16) (acc : Carry F) : FVec F S256x256 .bf16 :=
  truncf .bf16 (hA sel up (tProd (lo kj) q0) acc.1) bitsLt_bf16_f32
/-- The scores' cotangents of head 1. -/
def tileDz1 (q1 o1 : FVec F S256x128 .bf16) (kj vj : FVec F S256x256 .bf16) (acc : Carry F) : FVec F S256x256 .bf16 :=
  hDz sel up low (tProd (lo kj) q1) (tProd (lo vj) o1) acc.2.1 acc.2.2.2.2.2.1
/-- The weights of head 1. -/
def tileA1 (q1 : FVec F S256x128 .bf16) (kj : FVec F S256x256 .bf16) (acc : Carry F) : FVec F S256x256 .bf16 :=
  truncf .bf16 (hA sel up (tProd (lo kj) q1) acc.2.1) bitsLt_bf16_f32
/-- The scores' cotangents of head 2. -/
def tileDz2 (q2 o2 : FVec F S256x128 .bf16) (kj vj : FVec F S256x256 .bf16) (acc : Carry F) : FVec F S256x256 .bf16 :=
  hDz sel up low (tProd (hi kj) q2) (tProd (hi vj) o2) acc.2.2.1 acc.2.2.2.2.2.2.1
/-- The weights of head 2. -/
def tileA2 (q2 : FVec F S256x128 .bf16) (kj : FVec F S256x256 .bf16) (acc : Carry F) : FVec F S256x256 .bf16 :=
  truncf .bf16 (hA sel up (tProd (hi kj) q2) acc.2.2.1) bitsLt_bf16_f32
/-- The scores' cotangents of head 3. -/
def tileDz3 (q3 o3 : FVec F S256x128 .bf16) (kj vj : FVec F S256x256 .bf16) (acc : Carry F) : FVec F S256x256 .bf16 :=
  hDz sel up low (tProd (hi kj) q3) (tProd (hi vj) o3) acc.2.2.2.1 acc.2.2.2.2.2.2.2.1
/-- The weights of head 3. -/
def tileA3 (q3 : FVec F S256x128 .bf16) (kj : FVec F S256x256 .bf16) (acc : Carry F) : FVec F S256x256 .bf16 :=
  truncf .bf16 (hA sel up (tProd (hi kj) q3) acc.2.2.2.1) bitsLt_bf16_f32

variable (q0 q1 q2 q3 o0 o1 o2 o3 : FVec F S256x128 .bf16) (kj vj : FVec F S256x256 .bf16) (acc : Carry F)

/-- The carry after a tile. -/
def tileCarry : Carry F :=
  (hRest sel up (tProd (lo kj) q0) acc.1, hRest sel up (tProd (lo kj) q1) acc.2.1, hRest sel up (tProd (hi kj) q2) acc.2.2.1, hRest sel up (tProd (hi kj) q3) acc.2.2.2.1,
   hBefore sel up low (tProd (lo kj) q0) (tProd (lo vj) o0) acc.1 acc.2.2.2.2.1, hBefore sel up low (tProd (lo kj) q1) (tProd (lo vj) o1) acc.2.1 acc.2.2.2.2.2.1, hBefore sel up low (tProd (hi kj) q2) (tProd (hi vj) o2) acc.2.2.1 acc.2.2.2.2.2.2.1, hBefore sel up low (tProd (hi kj) q3) (tProd (hi vj) o3) acc.2.2.2.1 acc.2.2.2.2.2.2.2.1,
   tQ m0 m1 acc.2.2.2.2.2.2.2.2.1 (tileDz0 sel up low q0 o0 kj vj acc) (tileDz1 sel up low q1 o1 kj vj acc) (lo kj),
   tQ m0 m1 acc.2.2.2.2.2.2.2.2.2 (tileDz2 sel up low q2 o2 kj vj acc) (tileDz3 sel up low q3 o3 kj vj acc) (hi kj))

/-- The tile's share of the gradient of the keys, low lanes. -/
def tileK0 : FVec F S256x128 .f32 := tKV (tileDz0 sel up low q0 o0 kj vj acc) (tileDz1 sel up low q1 o1 kj vj acc) q0 q1
/-- The tile's share of the gradient of the keys, high lanes. -/
def tileK1 : FVec F S256x128 .f32 := tKV (tileDz2 sel up low q2 o2 kj vj acc) (tileDz3 sel up low q3 o3 kj vj acc) q2 q3
/-- The tile's share of the gradient of the values, low lanes. -/
def tileV0 : FVec F S256x128 .f32 := tKV (tileA0 sel up q0 kj acc) (tileA1 sel up q1 kj acc) o0 o1
/-- The tile's share of the gradient of the values, high lanes. -/
def tileV1 : FVec F S256x128 .f32 := tKV (tileA2 sel up q2 kj acc) (tileA3 sel up q3 kj acc) o2 o3
end Tile

section
variable (𝒱 : Variants) (c : Dev nD) (bd : Option 𝒱.V) (i : grid0.Coords) (arg2 : Memref sig .tc .vmem S256x256 .bf16) (w2 : arg2.IsWhole) (arg3 : Memref sig .tc .vmem S4352x256 .bf16) (w3 : arg3.IsWhole) (arg4 : Memref sig .tc .vmem S4352x256 .bf16) (w4 : arg4.IsWhole) (arg5 : Memref sig .tc .vmem S256x256 .f32) (w5 : arg5.IsWhole) (arg6 : Memref sig .tc .vmem S256x256 .bf16) (w6 : arg6.IsWhole) (arg7 : Memref sig .tc .vmem S256x256 .bf16) (w7 : arg7.IsWhole) (arg8 : Memref sig .tc .vmem S256x256 .bf16) (w8 : arg8.IsWhole) (arg9 : Memref sig .tc .vmem S256x256 .bf16) (w9 : arg9.IsWhole) (arg10 : Memref sig .tc .vmem S4352x256 .bf16) (w10 : arg10.IsWhole) (arg11 : Memref sig .tc .vmem S4352x256 .bf16) (w11 : arg11.IsWhole) (arg12 : Memref sig .tc .vmem S4352x256 .f32) (w12 : arg12.IsWhole) (arg13 : Memref sig .tc .vmem S4352x256 .f32) (w13 : arg13.IsWhole) (arg1 : BitVec 32) (v2 : IVec S1x128 1) (v4 : IVec S1x128 1) (v18 : FVec F S256x128 .bf16) (v24 : FVec F S256x128 .bf16) (v30 : FVec F S256x128 .bf16) (v36 : FVec F S256x128 .bf16) (v41 : FVec F S256x128 .bf16) (v46 : FVec F S256x128 .bf16) (v51 : FVec F S256x128 .bf16) (v56 : FVec F S256x128 .bf16) (v57 : IVec S8x128 32) (v66 : FVec F S1x256 .f32) (v75 : FVec F S1x256 .f32) (v80 : FVec F S8x128 .f32) (v82 : FVec F S256x128 .f32) (v97 : Vec F S256x256 .bf16) (v99 : Vec F S256x256 .bf16) (X_arg3 : BufTy.Contents (Elt F) arg3.view.ty) (X_arg4 : BufTy.Contents (Elt F) arg4.view.ty) (k : Fin (k0_t1_loop i).trips)
  (acc : Carry F) (f12 : BufTy.Contents (Elt F) arg12.view.ty) (f13 : BufTy.Contents (Elt F) arg13.view.ty)

/-- The key block of the trip. -/
abbrev kjOf : FVec F S256x256 .bf16 := View.readAt (Elt F) arg3.view (Rect.unit (s := S4352x256) (k0_off1 i k) S256x256.size (k0_off1_inb i k)).toLoadRect X_arg3
/-- The value block of the trip. -/
abbrev vjOf : FVec F S256x256 .bf16 := View.readAt (Elt F) arg4.view (Rect.unit (s := S4352x256) (k0_off1 i k) S256x256.size (k0_off1_inb i k)).toLoadRect X_arg4

theorem trip_carry : (trip_k0_t1 (F := F) 𝒱 c bd i _ w2 _ w3 _ w4 _ w5 _ w6 _ w7 _ w8 _ w9 _ w10 _ w11 _ w12 _ w13 arg1 v2 v4 v18 v24 v30 v36 v41 v46 v51 v56 v57 v66 v75 v80 v82 v97 v99 X_arg3 X_arg4 k).1 acc f12 f13
    = tileCarry (fun x => x) (k0_pay158 v97) (k0_pay159 v99) v2 v4 v18 v24 v30 v36 v41 v46 v51 v56
        (kjOf i arg3 X_arg3 k) (vjOf i arg4 X_arg4 k) acc := by
  unfold trip_k0_t1
  dsimp only
  rfl

theorem trip_keys : (trip_k0_t1 (F := F) 𝒱 c bd i _ w2 _ w3 _ w4 _ w5 _ w6 _ w7 _ w8 _ w9 _ w10 _ w11 _ w12 _ w13 arg1 v2 v4 v18 v24 v30 v36 v41 v46 v51 v56 v57 v66 v75 v80 v82 v97 v99 X_arg3 X_arg4 k).2.1 acc f12 f13
    = [⟨Rect.unit (s := S4352x256) (k0_off3 i k) S256x128.size (k0_off3_inb i k), shapeCast S256x128 (addf (View.readAt (Elt F) arg12.view (Rect.unit (s := S4352x256) (k0_off3 i k) S256x128.size (k0_off3_inb i k)).toLoadRect f12) (tileK1 (fun x => x) (k0_pay158 v97) (k0_pay159 v99) v30 v36 v51 v56 (kjOf i arg3 X_arg3 k) (vjOf i arg4 X_arg4 k) acc)) shapeCasts_S256x128_S256x128⟩,
       ⟨Rect.unit (s := S4352x256) (k0_off2 i k) S256x128.size (k0_off2_inb i k), shapeCast S256x128 (addf (View.readAt (Elt F) arg12.view (Rect.unit (s := S4352x256) (k0_off2 i k) S256x128.size (k0_off2_inb i k)).toLoadRect f12) (tileK0 (fun x => x) (k0_pay158 v97) (k0_pay159 v99) v18 v24 v41 v46 (kjOf i arg3 X_arg3 k) (vjOf i arg4 X_arg4 k) acc)) shapeCasts_S256x128_S256x128⟩] := by
  unfold trip_k0_t1
  dsimp only
  rfl

theorem trip_values : (trip_k0_t1 (F := F) 𝒱 c bd i _ w2 _ w3 _ w4 _ w5 _ w6 _ w7 _ w8 _ w9 _ w10 _ w11 _ w12 _ w13 arg1 v2 v4 v18 v24 v30 v36 v41 v46 v51 v56 v57 v66 v75 v80 v82 v97 v99 X_arg3 X_arg4 k).2.2.1 acc f12 f13
    = [⟨Rect.unit (s := S4352x256) (k0_off3 i k) S256x128.size (k0_off3_inb i k), shapeCast S256x128 (addf (View.readAt (Elt F) arg13.view (Rect.unit (s := S4352x256) (k0_off3 i k) S256x128.size (k0_off3_inb i k)).toLoadRect f13) (tileV1 (fun x => x) (k0_pay158 v97) v30 v36 v51 v56 (kjOf i arg3 X_arg3 k) acc)) shapeCasts_S256x128_S256x128⟩,
       ⟨Rect.unit (s := S4352x256) (k0_off2 i k) S256x128.size (k0_off2_inb i k), shapeCast S256x128 (addf (View.readAt (Elt F) arg13.view (Rect.unit (s := S4352x256) (k0_off2 i k) S256x128.size (k0_off2_inb i k)).toLoadRect f13) (tileV0 (fun x => x) (k0_pay158 v97) v18 v24 v41 v46 (kjOf i arg3 X_arg3 k) acc)) shapeCasts_S256x128_S256x128⟩] := by
  unfold trip_k0_t1
  dsimp only
  rfl
end

end Cert.Att

end
-- ==== Proof.Tiles.lean ====
/- The four heads' tile: the carry and the shares of the gradients hold their part of the whole sequence's. -/
module

public import proofs.«01_k».proof.Proof.Tile
public import proofs.«01_k».proof.Proof.Trip

@[expose] public section

noncomputable section

namespace Cert.Att

open Idealize.ShloMosaic Cert.KernelIdeal Facts₀
open scoped BigOperators

/-! ### The whole sequence, 256 lanes: `Q` the scaled queries, `K` the keys, `V` the values, `O` the cotangents -/

/-- The lanes of head `h` among the 128 of its block. -/
def msk (X : ℕ → ℕ → ℝ) (h t d : ℕ) : ℝ := if d / 64 = h % 2 then X t (128 * (h / 2) + d) else 0

/-- The products of head `h`, of a row of `X` and a row of `Y`. -/
def sc (X Y : ℕ → ℕ → ℝ) (h t s : ℕ) : ℝ := ∑ d : Fin 128, Y s (128 * (h / 2) + d.val) * msk X h t d.val

section Whole
variable (Q K V O : ℕ → ℕ → ℝ)

/-- Head `h`'s cotangents of the scores. -/
def dz (h t s : ℕ) : ℝ := rDz (sc Q K h) (sc O V h) t s
/-- Head `h`'s weights. -/
def wt (h t s : ℕ) : ℝ := rA (sc Q K h) t s
/-- Query `t`'s share of the gradient of key `s`, lane `128 * b + d`. -/
def dkT (b t s d : ℕ) : ℝ := dz Q K V O (2 * b) t s * msk Q (2 * b) t d + dz Q K V O (2 * b + 1) t s * msk Q (2 * b + 1) t d
/-- Query `t`'s share of the gradient of value `s`. -/
def dvT (b t s d : ℕ) : ℝ := wt Q K (2 * b) t s * msk O (2 * b) t d + wt Q K (2 * b + 1) t s * msk O (2 * b + 1) t d
/-- Key `s`'s share of the gradient of query `t`. -/
def dqT (b t s d : ℕ) : ℝ := dz Q K V O (2 * b) t s * msk K (2 * b) s d + dz Q K V O (2 * b + 1) t s * msk K (2 * b + 1) s d
end Whole

theorem rep_lo {x : FVec Ideal S256x256 .bf16} {r : Fin 256 → ℕ → ℝ} (h : Rep x (fun a b => r a b.val)) : Rep (lo x) (fun a b => r a b.val) := fun a b => by
  have e : lo x (ValueIdx.ix2 a b) = x (ValueIdx.ix2 a ⟨b.val, by omega⟩) := by
    unfold lo
    pointwise
    rfl
  rw [e, h]

theorem rep_hi {x : FVec Ideal S256x256 .bf16} {r : Fin 256 → ℕ → ℝ} (h : Rep x (fun a b => r a b.val)) : Rep (hi x) (fun a b => r a (128 + b.val)) := fun a b => by
  have e : hi x (ValueIdx.ix2 a b) = x (ValueIdx.ix2 a ⟨128 + b.val, by omega⟩) := by
    unfold hi
    pointwise
    rfl
  rw [e, h]

/-- The mask of the lanes of the heads of parity `b`. -/
def Half (m : IVec S1x128 1) (b : ℕ) : Prop := ∀ d : Fin 128, m (ValueIdx.ix2 0 d) = if d.val / 64 = b then 1#1 else 0#1

theorem rep_tLanes {m : IVec S1x128 1} {b : ℕ} (hm : Half m b) {x : FVec Ideal S256x128 .bf16} {r : Fin 256 → Fin 128 → ℝ} (h : Rep x r) :
    Rep (tLanes m x) (fun a d => if d.val / 64 = b then r a d else 0) := fun a d => by
  have e : tLanes m x (ValueIdx.ix2 a d) = if m (ValueIdx.ix2 0 d) = 1#1 then x (ValueIdx.ix2 a d) else Ideal.ofBits .bf16 0x0000#16 := by
    unfold tLanes
    pointwise
    rfl
  rw [e, hm]
  by_cases hd : d.val / 64 = b
  · simp only [hd, if_true]; exact h a d
  · simp only [hd, if_false]
    simp [Ideal.ofBits, Ideal.ieee]

theorem rep_tKV {x y : FVec Ideal S256x256 .bf16} {a b : FVec Ideal S256x128 .bf16} {r r' : Fin 256 → Fin 256 → ℝ} {s s' : Fin 256 → Fin 128 → ℝ}
    (hx : Rep x r) (hy : Rep y r') (ha : Rep a s) (hb : Rep b s') :
    Rep (tKV x y a b) (fun k d => ∑ q, (r k q * s q d + r' k q * s' q d)) :=
  (((show Rep (broadcast S256x128 (Scalar.ofBits (F := Ideal) .f32 0x00000000#32)) (fun _ _ => 0) from fun _ _ => by
    show Ideal.ofBits .f32 0x00000000#32 = ((0 : ℝ) : EReal)
    rw [ofBits_zero]; rfl).addf (rep_lanes hx ha)).addf (rep_lanes hy hb)).congr fun k d => by
    rw [zero_add, Finset.sum_add_distrib]

theorem rep_tQ {m0 m1 : IVec S1x128 1} (h0 : Half m0 0) (h1 : Half m1 1) {acc : FVec Ideal S256x128 .f32} {x y : FVec Ideal S256x256 .bf16} {k : FVec Ideal S256x128 .bf16}
    {c : Fin 256 → Fin 128 → ℝ} {r r' : Fin 256 → Fin 256 → ℝ} {s : Fin 256 → Fin 128 → ℝ} (hc : Rep acc c) (hx : Rep x r) (hy : Rep y r') (hk : Rep k s) :
    Rep (tQ m0 m1 acc x y k) (fun q d => c q d + ∑ k, (r k q * (if d.val / 64 = 0 then s k d else 0) + r' k q * (if d.val / 64 = 1 then s k d else 0))) :=
  ((hc.addf (rep_lanesT hx (rep_tLanes h0 hk))).addf (rep_lanesT hy (rep_tLanes h1 hk))).congr fun k d => by
    rw [Finset.sum_add_distrib, add_assoc]

section Tiles
variable {sel : FVec Ideal S256x256 .f32 → FVec Ideal S256x256 .f32} {up low : FVec Ideal S256x256 .bf16} {m0 m1 : IVec S1x128 1}
  {q0 q1 q2 q3 o0 o1 o2 o3 : FVec Ideal S256x128 .bf16} {kj vj : FVec Ideal S256x256 .bf16} {acc : Carry Ideal}
  {Q K V O : ℕ → ℕ → ℝ} {i j : ℕ}

/-- A head's lanes of the rows of block `i`. -/
abbrev lanesOf (X : ℕ → ℕ → ℝ) (h i : ℕ) : Fin 256 → Fin 128 → ℝ := fun q d => msk X h (256 * i + q.val) d.val

variable (Q K V O i) in
/-- What does not change from tile to tile of a query block. -/
structure QueryIn (up low : FVec Ideal S256x256 .bf16) (m0 m1 : IVec S1x128 1) (q0 q1 q2 q3 o0 o1 o2 o3 : FVec Ideal S256x128 .bf16) : Prop where
  up : Rep up rUp
  low : Rep low rLow
  m0 : Half m0 0
  m1 : Half m1 1
  q0 : Rep q0 (lanesOf Q 0 i)
  q1 : Rep q1 (lanesOf Q 1 i)
  q2 : Rep q2 (lanesOf Q 2 i)
  q3 : Rep q3 (lanesOf Q 3 i)
  o0 : Rep o0 (lanesOf O 0 i)
  o1 : Rep o1 (lanesOf O 1 i)
  o2 : Rep o2 (lanesOf O 2 i)
  o3 : Rep o3 (lanesOf O 3 i)

variable (Q K V O i) in
/-- The carry before the key `n`. -/
structure CarryRep (n : ℕ) (acc : Carry Ideal) : Prop where
  r0 : Rep acc.1 (rw1 (rTail (sc Q K 0) · n) i)
  r1 : Rep acc.2.1 (rw1 (rTail (sc Q K 1) · n) i)
  r2 : Rep acc.2.2.1 (rw1 (rTail (sc Q K 2) · n) i)
  r3 : Rep acc.2.2.2.1 (rw1 (rTail (sc Q K 3) · n) i)
  b0 : Rep acc.2.2.2.2.1 (rw1 (rHead (sc Q K 0) (sc O V 0) · n) i)
  b1 : Rep acc.2.2.2.2.2.1 (rw1 (rHead (sc Q K 1) (sc O V 1) · n) i)
  b2 : Rep acc.2.2.2.2.2.2.1 (rw1 (rHead (sc Q K 2) (sc O V 2) · n) i)
  b3 : Rep acc.2.2.2.2.2.2.2.1 (rw1 (rHead (sc Q K 3) (sc O V 3) · n) i)
  d0 : Rep acc.2.2.2.2.2.2.2.2.1 (fun q d => ∑ s ∈ Finset.range n, dqT Q K V O 0 (256 * i + q.val) s d.val)
  d1 : Rep acc.2.2.2.2.2.2.2.2.2 (fun q d => ∑ s ∈ Finset.range n, dqT Q K V O 1 (256 * i + q.val) s d.val)

/-- A head's product of a block of keys and its queries. -/
theorem rep_z {X Y : ℕ → ℕ → ℝ} (h : ℕ) {x q : FVec Ideal S256x128 .bf16} (hx : Rep x (fun k d => Y (256 * j + k.val) (128 * (h / 2) + d.val)))
    (hq : Rep q (lanesOf X h i)) : Rep (tProd x q) (tl (sc X Y h) i j) := rep_tProd hx hq

theorem sum_tile (f : ℕ → ℝ) (j : ℕ) : ∑ s ∈ Finset.range (256 * j), f s + ∑ k : Fin 256, f (256 * j + k.val) = ∑ s ∈ Finset.range (256 * j + 256), f s := by
  rw [Finset.sum_range_add, Finset.sum_range (fun k => f (256 * j + k))]

variable (hj : 256 * j + 256 ≤ 4352) (hs : Sel sel i j) (hin : QueryIn Q O i up low m0 m1 q0 q1 q2 q3 o0 o1 o2 o3)
  (hk : Rep kj (fun k c => K (256 * j + k.val) c.val)) (hv : Rep vj (fun k c => V (256 * j + k.val) c.val))
  (hc : CarryRep Q K V O i (256 * j) acc)
include hj hs hin hk hv hc

theorem rep_dz0 : Rep (tileDz0 sel up low q0 o0 kj vj acc) (tl (dz Q K V O 0) i j) :=
  rep_hDz hj hs hin.up hin.low (rep_z (X := Q) (Y := K) 0 (show Rep (lo kj) (fun k d => K (256 * j + k.val) (128 * (0 / 2) + d.val)) from (rep_lo hk).congr fun a b => by simp) hin.q0)
    (rep_z (X := O) (Y := V) 0 (show Rep (lo vj) (fun k d => V (256 * j + k.val) (128 * (0 / 2) + d.val)) from (rep_lo hv).congr fun a b => by simp) hin.o0) hc.r0 hc.b0
theorem rep_wt0 : Rep (tileA0 sel up q0 kj acc) (tl (wt Q K 0) i j) :=
  (rep_hA hj hs hin.up (rep_z (X := Q) (Y := K) 0 (show Rep (lo kj) (fun k d => K (256 * j + k.val) (128 * (0 / 2) + d.val)) from (rep_lo hk).congr fun a b => by simp) hin.q0) hc.r0).truncf bitsLt_bf16_f32
theorem rep_dz1 : Rep (tileDz1 sel up low q1 o1 kj vj acc) (tl (dz Q K V O 1) i j) :=
  rep_hDz hj hs hin.up hin.low (rep_z (X := Q) (Y := K) 1 (show Rep (lo kj) (fun k d => K (256 * j + k.val) (128 * (1 / 2) + d.val)) from (rep_lo hk).congr fun a b => by simp) hin.q1)
    (rep_z (X := O) (Y := V) 1 (show Rep (lo vj) (fun k d => V (256 * j + k.val) (128 * (1 / 2) + d.val)) from (rep_lo hv).congr fun a b => by simp) hin.o1) hc.r1 hc.b1
theorem rep_wt1 : Rep (tileA1 sel up q1 kj acc) (tl (wt Q K 1) i j) :=
  (rep_hA hj hs hin.up (rep_z (X := Q) (Y := K) 1 (show Rep (lo kj) (fun k d => K (256 * j + k.val) (128 * (1 / 2) + d.val)) from (rep_lo hk).congr fun a b => by simp) hin.q1) hc.r1).truncf bitsLt_bf16_f32
theorem rep_dz2 : Rep (tileDz2 sel up low q2 o2 kj vj acc) (tl (dz Q K V O 2) i j) :=
  rep_hDz hj hs hin.up hin.low (rep_z (X := Q) (Y := K) 2 (show Rep (hi kj) (fun k d => K (256 * j + k.val) (128 * (2 / 2) + d.val)) from (rep_hi hk).congr fun a b => by simp) hin.q2)
    (rep_z (X := O) (Y := V) 2 (show Rep (hi vj) (fun k d => V (256 * j + k.val) (128 * (2 / 2) + d.val)) from (rep_hi hv).congr fun a b => by simp) hin.o2) hc.r2 hc.b2
theorem rep_wt2 : Rep (tileA2 sel up q2 kj acc) (tl (wt Q K 2) i j) :=
  (rep_hA hj hs hin.up (rep_z (X := Q) (Y := K) 2 (show Rep (hi kj) (fun k d => K (256 * j + k.val) (128 * (2 / 2) + d.val)) from (rep_hi hk).congr fun a b => by simp) hin.q2) hc.r2).truncf bitsLt_bf16_f32
theorem rep_dz3 : Rep (tileDz3 sel up low q3 o3 kj vj acc) (tl (dz Q K V O 3) i j) :=
  rep_hDz hj hs hin.up hin.low (rep_z (X := Q) (Y := K) 3 (show Rep (hi kj) (fun k d => K (256 * j + k.val) (128 * (3 / 2) + d.val)) from (rep_hi hk).congr fun a b => by simp) hin.q3)
    (rep_z (X := O) (Y := V) 3 (show Rep (hi vj) (fun k d => V (256 * j + k.val) (128 * (3 / 2) + d.val)) from (rep_hi hv).congr fun a b => by simp) hin.o3) hc.r3 hc.b3
theorem rep_wt3 : Rep (tileA3 sel up q3 kj acc) (tl (wt Q K 3) i j) :=
  (rep_hA hj hs hin.up (rep_z (X := Q) (Y := K) 3 (show Rep (hi kj) (fun k d => K (256 * j + k.val) (128 * (3 / 2) + d.val)) from (rep_hi hk).congr fun a b => by simp) hin.q3) hc.r3).truncf bitsLt_bf16_f32

theorem tile_carry : CarryRep Q K V O i (256 * j + 256) (tileCarry sel up low m0 m1 q0 q1 q2 q3 o0 o1 o2 o3 kj vj acc) where
  r0 := rep_hRest hj hs hin.up (rep_z (X := Q) (Y := K) 0 (show Rep (lo kj) (fun k d => K (256 * j + k.val) (128 * (0 / 2) + d.val)) from (rep_lo hk).congr fun a b => by simp) hin.q0) hc.r0
  b0 := rep_hBefore hj hs hin.up hin.low (rep_z (X := Q) (Y := K) 0 (show Rep (lo kj) (fun k d => K (256 * j + k.val) (128 * (0 / 2) + d.val)) from (rep_lo hk).congr fun a b => by simp) hin.q0)
    (rep_z (X := O) (Y := V) 0 (show Rep (lo vj) (fun k d => V (256 * j + k.val) (128 * (0 / 2) + d.val)) from (rep_lo hv).congr fun a b => by simp) hin.o0) hc.r0 hc.b0
  r1 := rep_hRest hj hs hin.up (rep_z (X := Q) (Y := K) 1 (show Rep (lo kj) (fun k d => K (256 * j + k.val) (128 * (1 / 2) + d.val)) from (rep_lo hk).congr fun a b => by simp) hin.q1) hc.r1
  b1 := rep_hBefore hj hs hin.up hin.low (rep_z (X := Q) (Y := K) 1 (show Rep (lo kj) (fun k d => K (256 * j + k.val) (128 * (1 / 2) + d.val)) from (rep_lo hk).congr fun a b => by simp) hin.q1)
    (rep_z (X := O) (Y := V) 1 (show Rep (lo vj) (fun k d => V (256 * j + k.val) (128 * (1 / 2) + d.val)) from (rep_lo hv).congr fun a b => by simp) hin.o1) hc.r1 hc.b1
  r2 := rep_hRest hj hs hin.up (rep_z (X := Q) (Y := K) 2 (show Rep (hi kj) (fun k d => K (256 * j + k.val) (128 * (2 / 2) + d.val)) from (rep_hi hk).congr fun a b => by simp) hin.q2) hc.r2
  b2 := rep_hBefore hj hs hin.up hin.low (rep_z (X := Q) (Y := K) 2 (show Rep (hi kj) (fun k d => K (256 * j + k.val) (128 * (2 / 2) + d.val)) from (rep_hi hk).congr fun a b => by simp) hin.q2)
    (rep_z (X := O) (Y := V) 2 (show Rep (hi vj) (fun k d => V (256 * j + k.val) (128 * (2 / 2) + d.val)) from (rep_hi hv).congr fun a b => by simp) hin.o2) hc.r2 hc.b2
  r3 := rep_hRest hj hs hin.up (rep_z (X := Q) (Y := K) 3 (show Rep (hi kj) (fun k d => K (256 * j + k.val) (128 * (3 / 2) + d.val)) from (rep_hi hk).congr fun a b => by simp) hin.q3) hc.r3
  b3 := rep_hBefore hj hs hin.up hin.low (rep_z (X := Q) (Y := K) 3 (show Rep (hi kj) (fun k d => K (256 * j + k.val) (128 * (3 / 2) + d.val)) from (rep_hi hk).congr fun a b => by simp) hin.q3)
    (rep_z (X := O) (Y := V) 3 (show Rep (hi vj) (fun k d => V (256 * j + k.val) (128 * (3 / 2) + d.val)) from (rep_hi hv).congr fun a b => by simp) hin.o3) hc.r3 hc.b3
  d0 := (rep_tQ hin.m0 hin.m1 hc.d0 (rep_dz0 hj hs hin hk hv hc) (rep_dz1 hj hs hin hk hv hc)
    (show Rep (lo kj) (fun k d => K (256 * j + k.val) (128 * (0 / 2) + d.val)) from (rep_lo hk).congr fun a b => by simp)).congr fun q d => by
    rw [← sum_tile]
    rfl
  d1 := (rep_tQ hin.m0 hin.m1 hc.d1 (rep_dz2 hj hs hin hk hv hc) (rep_dz3 hj hs hin hk hv hc)
    (show Rep (hi kj) (fun k d => K (256 * j + k.val) (128 * (2 / 2) + d.val)) from rep_hi hk)).congr fun q d => by
    rw [← sum_tile]
    rfl

theorem tile_K0 : Rep (tileK0 sel up low q0 q1 o0 o1 kj vj acc) (fun k d => ∑ q : Fin 256, dkT Q K V O 0 (256 * i + q.val) (256 * j + k.val) d.val) :=
  rep_tKV (rep_dz0 hj hs hin hk hv hc) (rep_dz1 hj hs hin hk hv hc) hin.q0 hin.q1
theorem tile_K1 : Rep (tileK1 sel up low q2 q3 o2 o3 kj vj acc) (fun k d => ∑ q : Fin 256, dkT Q K V O 1 (256 * i + q.val) (256 * j + k.val) d.val) :=
  rep_tKV (rep_dz2 hj hs hin hk hv hc) (rep_dz3 hj hs hin hk hv hc) hin.q2 hin.q3
theorem tile_V0 : Rep (tileV0 sel up q0 q1 o0 o1 kj acc) (fun k d => ∑ q : Fin 256, dvT Q K O 0 (256 * i + q.val) (256 * j + k.val) d.val) :=
  rep_tKV (rep_wt0 hj hs hin hk hv hc) (rep_wt1 hj hs hin hk hv hc) hin.o0 hin.o1
theorem tile_V1 : Rep (tileV1 sel up q2 q3 o2 o3 kj acc) (fun k d => ∑ q : Fin 256, dvT Q K O 1 (256 * i + q.val) (256 * j + k.val) d.val) :=
  rep_tKV (rep_wt2 hj hs hin hk hv hc) (rep_wt3 hj hs hin hk hv hc) hin.o2 hin.o3
end Tiles

end Cert.Att

end
-- ==== Proof.Loop.lean ====
/- The loop over the earlier key blocks: what the carry and the two accumulators hold before each trip. -/
module

public import proofs.«01_k».proof.Proof.Tiles
public import Idealize.ShloMosaic.Lib.VecWindow

@[expose] public section

set_option maxRecDepth 16384

noncomputable section

namespace Cert.Att

open Idealize.ShloMosaic Cert.KernelIdeal Gen
open scoped BigOperators

/-- Off the diagonal every entry is kept. -/
theorem sel_id {i j : ℕ} (h : j < i) : Sel (fun x => x) i j := fun x r hx => hx.congr fun k q => by
  have := k.isLt
  rw [if_pos (by omega)]

/-- The entries under the causal mask of a tile on the diagonal. -/
def selD {F : FTy → Type} [FloatOps F] (x : FVec F S256x256 .f32) : FVec F S256x256 .f32 :=
  select k0_pay157 x (broadcast S256x256 (Scalar.ofBits .f32 0x00000000#32))

theorem toInt_small (n : Fin 256) : (BitVec.ofNat 32 n.val).toInt = (n.val : ℤ) := by
  revert n
  decide +kernel

theorem pay157_apply (k q : Fin 256) : k0_pay157 (ValueIdx.ix2 k q) = if k.val < q.val then 1#1 else 0#1 := by
  have e : k0_pay157 (ValueIdx.ix2 k q) = IntOp.cmpi .sgt (BitVec.ofNat 32 q.val) (BitVec.ofNat 32 k.val) := by
    unfold k0_pay157
    pointwise
  rw [e]
  show BitVec.ofBool ((BitVec.ofNat 32 k.val).slt (BitVec.ofNat 32 q.val)) = _
  rw [BitVec.slt_eq_decide, toInt_small, toInt_small]
  by_cases h : k.val < q.val
  · simp [h]
  · simp [h]

theorem sel_diag (i : ℕ) : Sel selD i i := fun x r hx k q => by
  have e : selD x (ValueIdx.ix2 k q) = if k0_pay157 (ValueIdx.ix2 k q) = 1#1 then x (ValueIdx.ix2 k q) else Ideal.ofBits .f32 0x00000000#32 := by
    unfold selD
    pointwise
    rfl
  rw [e, pay157_apply]
  by_cases h : k.val < q.val
  · simp only [h, if_true, show 256 * i + k.val < 256 * i + q.val by omega]; exact hx k q
  · simp only [h, if_false, show ¬ 256 * i + k.val < 256 * i + q.val by omega]
    simp [ofBits_zero]

/-- The query block's share of the gradient of the keys, over all lanes. -/
def blkK (Q K V O : ℕ → ℕ → ℝ) (i s c : ℕ) : ℝ := ∑ q : Fin 256, dkT Q K V O (c / 128) (256 * i + q.val) s (c % 128)
/-- The query block's share of the gradient of the values. -/
def blkV (Q K O : ℕ → ℕ → ℝ) (i s c : ℕ) : ℝ := ∑ q : Fin 256, dvT Q K O (c / 128) (256 * i + q.val) s (c % 128)

/-- The loop runs over the key blocks before the query block. -/
theorem trips_t1 : ∀ i : grid0.Coords, Scf.trips (k0_t1_loop i).lb (k0_t1_loop i).ub (k0_t1_loop i).st = (i 1).val := by decide +kernel

/-- The remainder loop is empty. -/
theorem trips_t2 (i : grid0.Coords) : Scf.trips (k0_t2_loop i).lb (k0_t2_loop i).ub (k0_t2_loop i).st = 0 := Nat.le_zero.1 (k0_t2_abs i).2.1

section Loop
variable {F : FTy → Type} [FloatOps F] (c : Dev nD) (i : grid0.Coords) (arg2 : Memref sig .tc .vmem S256x256 .bf16) (w2 : arg2.IsWhole) (arg3 : Memref sig .tc .vmem S4352x256 .bf16) (w3 : arg3.IsWhole) (arg4 : Memref sig .tc .vmem S4352x256 .bf16) (w4 : arg4.IsWhole) (arg5 : Memref sig .tc .vmem S256x256 .f32) (w5 : arg5.IsWhole) (arg6 : Memref sig .tc .vmem S256x256 .bf16) (w6 : arg6.IsWhole) (arg7 : Memref sig .tc .vmem S256x256 .bf16) (w7 : arg7.IsWhole) (arg8 : Memref sig .tc .vmem S256x256 .bf16) (w8 : arg8.IsWhole) (arg9 : Memref sig .tc .vmem S256x256 .bf16) (w9 : arg9.IsWhole) (arg10 : Memref sig .tc .vmem S4352x256 .bf16) (w10 : arg10.IsWhole) (arg11 : Memref sig .tc .vmem S4352x256 .bf16) (w11 : arg11.IsWhole) (arg12 : Memref sig .tc .vmem S4352x256 .f32) (w12 : arg12.IsWhole) (arg13 : Memref sig .tc .vmem S4352x256 .f32) (w13 : arg13.IsWhole)
  (xq xo xu xl : Vec F S256x256 .bf16) (xt0 xt1 : Vec F S256x128 .f32) (X3 : BufTy.Contents (Elt F) arg3.view.ty) (X4 : BufTy.Contents (Elt F) arg4.view.ty)
  (G12 : BufTy.Contents (Elt F) arg12.view.ty) (G13 : BufTy.Contents (Elt F) arg13.view.ty)

/-- The carry before the first tile. -/
def ini (xt0 xt1 : Vec F S256x128 .f32) : Carry F :=
  (k0_pay151 xt0, k0_pay152 xt0, k0_pay155 k0_pay153 (k0_pay154 xt1), k0_pay156 (iota .tc S8x128 32 [1] iota_S8x128_d1_w32) xt1, k0_pay160, k0_pay160, k0_pay160, k0_pay160, k0_pay161, k0_pay161)

/-- The state of the loop before trip `k`. -/
def lst (k : ℕ) : Carry F × List (View.Piece (Elt F) S4352x256 .f32) × List (View.Piece (Elt F) S4352x256 .f32) :=
  st_k0_t1 Variants.none c none i _ w2 _ w3 _ w4 _ w5 _ w6 _ w7 _ w8 _ w9 _ w10 _ w11 _ w12 _ w13 (BitVec.ofNat 32 (i 1).val) k0_pay137 k0_pay138 (k0_pay142 xq) (k0_pay143 xq) (k0_pay144 xq) (k0_pay145 xq)
    (k0_pay146 xo) (k0_pay148 k0_pay138 (k0_pay147 xo)) (k0_pay149 k0_pay137 xo) (k0_pay150 k0_pay138 xo) (iota .tc S8x128 32 [1] iota_S8x128_d1_w32)
    (k0_pay151 xt0) (k0_pay152 xt0) k0_pay153 (k0_pay154 xt1) xu xl X3 X4 G12 G13 (ini xt0 xt1) k

/-- The key block of the diagonal tile. -/
def kdOf : FVec F S256x256 .bf16 := View.readAt (Elt F) arg3.view (Rect.unit (s := S4352x256) (k0_off7 i) S256x256.size (k0_off7_inb i)).toLoadRect X3
/-- The value block of the diagonal tile. -/
def vdOf : FVec F S256x256 .bf16 := View.readAt (Elt F) arg4.view (Rect.unit (s := S4352x256) (k0_off7 i) S256x256.size (k0_off7_inb i)).toLoadRect X4

/-- One trip of the loop. -/
theorem lst_succ (k : Fin (k0_t1_loop i).trips) :
    lst c i _ w2 _ w3 _ w4 _ w5 _ w6 _ w7 _ w8 _ w9 _ w10 _ w11 _ w12 _ w13 xq xo xu xl xt0 xt1 X3 X4 G12 G13 (k.val + 1)
      = (tileCarry (fun x => x) (k0_pay158 xu) (k0_pay159 xl) k0_pay137 k0_pay138 (k0_pay142 xq) (k0_pay143 xq) (k0_pay144 xq) (k0_pay145 xq) (k0_pay146 xo) (k0_pay148 k0_pay138 (k0_pay147 xo)) (k0_pay149 k0_pay137 xo) (k0_pay150 k0_pay138 xo) (kjOf i arg3 X3 k) (vjOf i arg4 X4 k) (lst c i _ w2 _ w3 _ w4 _ w5 _ w6 _ w7 _ w8 _ w9 _ w10 _ w11 _ w12 _ w13 xq xo xu xl xt0 xt1 X3 X4 G12 G13 k.val).1,
         (⟨Rect.unit (s := S4352x256) (k0_off3 i k) S256x128.size (k0_off3_inb i k), shapeCast S256x128 (addf (View.readAt (Elt F) arg12.view (Rect.unit (s := S4352x256) (k0_off3 i k) S256x128.size (k0_off3_inb i k)).toLoadRect (arg12.view.writes (Elt F) G12 (lst c i _ w2 _ w3 _ w4 _ w5 _ w6 _ w7 _ w8 _ w9 _ w10 _ w11 _ w12 _ w13 xq xo xu xl xt0 xt1 X3 X4 G12 G13 k.val).2.1)) (tileK1 (fun x => x) (k0_pay158 xu) (k0_pay159 xl) (k0_pay144 xq) (k0_pay145 xq) (k0_pay149 k0_pay137 xo) (k0_pay150 k0_pay138 xo) (kjOf i arg3 X3 k) (vjOf i arg4 X4 k) (lst c i _ w2 _ w3 _ w4 _ w5 _ w6 _ w7 _ w8 _ w9 _ w10 _ w11 _ w12 _ w13 xq xo xu xl xt0 xt1 X3 X4 G12 G13 k.val).1)) shapeCasts_S256x128_S256x128⟩ : View.Piece (Elt F) S4352x256 .f32) ::
         (⟨Rect.unit (s := S4352x256) (k0_off2 i k) S256x128.size (k0_off2_inb i k), shapeCast S256x128 (addf (View.readAt (Elt F) arg12.view (Rect.unit (s := S4352x256) (k0_off2 i k) S256x128.size (k0_off2_inb i k)).toLoadRect (arg12.view.writes (Elt F) G12 (lst c i _ w2 _ w3 _ w4 _ w5 _ w6 _ w7 _ w8 _ w9 _ w10 _ w11 _ w12 _ w13 xq xo xu xl xt0 xt1 X3 X4 G12 G13 k.val).2.1)) (tileK0 (fun x => x) (k0_pay158 xu) (k0_pay159 xl) (k0_pay142 xq) (k0_pay143 xq) (k0_pay146 xo) (k0_pay148 k0_pay138 (k0_pay147 xo)) (kjOf i arg3 X3 k) (vjOf i arg4 X4 k) (lst c i _ w2 _ w3 _ w4 _ w5 _ w6 _ w7 _ w8 _ w9 _ w10 _ w11 _ w12 _ w13 xq xo xu xl xt0 xt1 X3 X4 G12 G13 k.val).1)) shapeCasts_S256x128_S256x128⟩ : View.Piece (Elt F) S4352x256 .f32) :: (lst c i _ w2 _ w3 _ w4 _ w5 _ w6 _ w7 _ w8 _ w9 _ w10 _ w11 _ w12 _ w13 xq xo xu xl xt0 xt1 X3 X4 G12 G13 k.val).2.1,
         (⟨Rect.unit (s := S4352x256) (k0_off3 i k) S256x128.size (k0_off3_inb i k), shapeCast S256x128 (addf (View.readAt (Elt F) arg13.view (Rect.unit (s := S4352x256) (k0_off3 i k) S256x128.size (k0_off3_inb i k)).toLoadRect (arg13.view.writes (Elt F) G13 (lst c i _ w2 _ w3 _ w4 _ w5 _ w6 _ w7 _ w8 _ w9 _ w10 _ w11 _ w12 _ w13 xq xo xu xl xt0 xt1 X3 X4 G12 G13 k.val).2.2)) (tileV1 (fun x => x) (k0_pay158 xu) (k0_pay144 xq) (k0_pay145 xq) (k0_pay149 k0_pay137 xo) (k0_pay150 k0_pay138 xo) (kjOf i arg3 X3 k) (lst c i _ w2 _ w3 _ w4 _ w5 _ w6 _ w7 _ w8 _ w9 _ w10 _ w11 _ w12 _ w13 xq xo xu xl xt0 xt1 X3 X4 G12 G13 k.val).1)) shapeCasts_S256x128_S256x128⟩ : View.Piece (Elt F) S4352x256 .f32) ::
         (⟨Rect.unit (s := S4352x256) (k0_off2 i k) S256x128.size (k0_off2_inb i k), shapeCast S256x128 (addf (View.readAt (Elt F) arg13.view (Rect.unit (s := S4352x256) (k0_off2 i k) S256x128.size (k0_off2_inb i k)).toLoadRect (arg13.view.writes (Elt F) G13 (lst c i _ w2 _ w3 _ w4 _ w5 _ w6 _ w7 _ w8 _ w9 _ w10 _ w11 _ w12 _ w13 xq xo xu xl xt0 xt1 X3 X4 G12 G13 k.val).2.2)) (tileV0 (fun x => x) (k0_pay158 xu) (k0_pay142 xq) (k0_pay143 xq) (k0_pay146 xo) (k0_pay148 k0_pay138 (k0_pay147 xo)) (kjOf i arg3 X3 k) (lst c i _ w2 _ w3 _ w4 _ w5 _ w6 _ w7 _ w8 _ w9 _ w10 _ w11 _ w12 _ w13 xq xo xu xl xt0 xt1 X3 X4 G12 G13 k.val).1)) shapeCasts_S256x128_S256x128⟩ : View.Piece (Elt F) S4352x256 .f32) :: (lst c i _ w2 _ w3 _ w4 _ w5 _ w6 _ w7 _ w8 _ w9 _ w10 _ w11 _ w12 _ w13 xq xo xu xl xt0 xt1 X3 X4 G12 G13 k.val).2.2) := by
  have e : lst c i _ w2 _ w3 _ w4 _ w5 _ w6 _ w7 _ w8 _ w9 _ w10 _ w11 _ w12 _ w13 xq xo xu xl xt0 xt1 X3 X4 G12 G13 (k.val + 1) = _ := st_k0_t1_succ (F := F) (k := k) ..
  refine e.trans (Prod.ext ?_ (Prod.ext ?_ ?_))
  · exact trip_carry ..
  · exact congrArg (· ++ (lst c i _ w2 _ w3 _ w4 _ w5 _ w6 _ w7 _ w8 _ w9 _ w10 _ w11 _ w12 _ w13 xq xo xu xl xt0 xt1 X3 X4 G12 G13 k.val).2.1) (trip_keys ..)
  · exact congrArg (· ++ (lst c i _ w2 _ w3 _ w4 _ w5 _ w6 _ w7 _ w8 _ w9 _ w10 _ w11 _ w12 _ w13 xq xo xu xl xt0 xt1 X3 X4 G12 G13 k.val).2.2) (trip_values ..)
end Loop

end Cert.Att

end
-- ==== Proof.Windows.lean ====
/- Windows of vectors that hold real numbers, and a tile's two halves added to an accumulator. -/
module

public import proofs.«01_k».proof.Proof.Tiles
public import Idealize.ShloMosaic.Lib.VecWindow

@[expose] public section

set_option maxRecDepth 16384

noncomputable section

namespace Cert.Att

open Idealize.ShloMosaic Cert.KernelIdeal Gen
open scoped BigOperators

/-! ### Windows of real matrices -/

section Windows
variable {n0 n1 m0 m1 : ℕ} {φ : FTy} {x : FVec Ideal ⟨2, ![n0, n1]⟩ φ} {r : ℕ → ℕ → ℝ}

theorem rep_window (h : Rep x (fun a b => r a.val b.val)) (o0 o1 : ℕ) (inb : ∀ a, (![o0, o1] : Fin 2 → ℕ) a + (![m0, m1] : Fin 2 → ℕ) a ≤ (![n0, n1] : Fin 2 → ℕ) a) :
    Rep (n0 := m0) (n1 := m1) (φ := φ) (VecWindow.window (s := ⟨2, ![n0, n1]⟩) x ![o0, o1] ![m0, m1] inb) (fun a b => r (o0 + a.val) (o1 + b.val)) := fun a b => by
  have h0 : o0 + m0 ≤ n0 := inb 0
  have h1 : o1 + m1 ≤ n1 := inb 1
  have e : VecWindow.window (s := ⟨2, ![n0, n1]⟩) x ![o0, o1] ![m0, m1] inb (ValueIdx.ix2 a b) = x (ValueIdx.ix2 ⟨o0 + a.val, by omega⟩ ⟨o1 + b.val, by omega⟩) := by
    unfold VecWindow.window
    congr 1
    funext d
    apply Fin.ext
    match d with
    | 0 => show o0 + 1 * a.val = o0 + a.val; omega
    | 1 => show o1 + 1 * b.val = o1 + b.val; omega
  rw [e, h]

theorem rep_put (h : Rep x (fun a b => r a.val b.val)) (o0 o1 : ℕ) {w : FVec Ideal ⟨2, ![m0, m1]⟩ φ} {u : ℕ → ℕ → ℝ}
    (hw : Rep w (fun a b => u (o0 + a.val) (o1 + b.val))) :
    Rep (n0 := n0) (n1 := n1) (φ := φ) (VecWindow.put (s := ⟨2, ![n0, n1]⟩) x ![o0, o1] ![m0, m1] w)
      (fun a b => if (o0 ≤ a.val ∧ a.val < o0 + m0) ∧ (o1 ≤ b.val ∧ b.val < o1 + m1) then u a.val b.val else r a.val b.val) := fun a b => by
  by_cases hc : (o0 ≤ a.val ∧ a.val < o0 + m0) ∧ (o1 ≤ b.val ∧ b.val < o1 + m1)
  · have hm : ∀ d, (![o0, o1] : Fin 2 → ℕ) d ≤ ((ValueIdx.ix2 a b : (⟨2, ![n0, n1]⟩ : Shape).Idx) d).val
        ∧ ((ValueIdx.ix2 a b : (⟨2, ![n0, n1]⟩ : Shape).Idx) d).val < (![o0, o1] : Fin 2 → ℕ) d + (![m0, m1] : Fin 2 → ℕ) d := fun d => by
      match d with
      | 0 => exact hc.1
      | 1 => exact hc.2
    have e : VecWindow.put (s := ⟨2, ![n0, n1]⟩) x ![o0, o1] ![m0, m1] w (ValueIdx.ix2 a b)
        = w (ValueIdx.ix2 ⟨a.val - o0, by omega⟩ ⟨b.val - o1, by omega⟩) := by
      unfold VecWindow.put
      rw [dif_pos hm]
      congr 1
      funext d
      apply Fin.ext
      match d with
      | 0 => rfl
      | 1 => rfl
    rw [e, hw]
    simp only [hc, and_self, if_true]
    rw [show o0 + (a.val - o0) = a.val by omega, show o1 + (b.val - o1) = b.val by omega]
  · have hm : ¬ ∀ d, (![o0, o1] : Fin 2 → ℕ) d ≤ ((ValueIdx.ix2 a b : (⟨2, ![n0, n1]⟩ : Shape).Idx) d).val
        ∧ ((ValueIdx.ix2 a b : (⟨2, ![n0, n1]⟩ : Shape).Idx) d).val < (![o0, o1] : Fin 2 → ℕ) d + (![m0, m1] : Fin 2 → ℕ) d :=
      fun hall => hc ⟨hall 0, hall 1⟩
    have e : VecWindow.put (s := ⟨2, ![n0, n1]⟩) x ![o0, o1] ![m0, m1] w (ValueIdx.ix2 a b) = x (ValueIdx.ix2 a b) := by
      unfold VecWindow.put
      rw [dif_neg hm]
    rw [e, h]
    simp only [hc, if_false]
end Windows

/-- Adding a tile's two halves to the rows of key block `j`. -/
theorem rep_accum {x : FVec Ideal S4352x256 .f32} {r u : ℕ → ℕ → ℝ} (j : ℕ) (h : Rep x (fun a b => r a.val b.val)) {t0 t1 : FVec Ideal S256x128 .f32}
    (inb0 : ∀ a, (![256 * j, 0] : Fin 2 → ℕ) a + (![256, 128] : Fin 2 → ℕ) a ≤ S4352x256.size a)
    (inb1 : ∀ a, (![256 * j, 128] : Fin 2 → ℕ) a + (![256, 128] : Fin 2 → ℕ) a ≤ S4352x256.size a)
    (h0 : Rep t0 (fun k d => u (256 * j + k.val) (0 + d.val))) (h1 : Rep t1 (fun k d => u (256 * j + k.val) (128 + d.val))) :
    Rep (n0 := 4352) (n1 := 256) (φ := .f32)
      (VecWindow.put (s := S4352x256) (VecWindow.put (s := S4352x256) x ![256 * j, 0] ![256, 128] (addf (s := S256x128) (φ := .f32) (VecWindow.window (s := S4352x256) x ![256 * j, 0] ![256, 128] inb0) t0))
        ![256 * j, 128] ![256, 128] (addf (s := S256x128) (φ := .f32) (VecWindow.window (s := S4352x256) x ![256 * j, 128] ![256, 128] inb1) t1))
      (fun a b => r a.val b.val + if 256 * j ≤ a.val ∧ a.val < 256 * j + 256 then u a.val b.val else 0) := by
  have a0 := Rep.addf (rep_window (m0 := 256) (m1 := 128) h (256 * j) 0 inb0) h0
  have a1 := Rep.addf (rep_window (m0 := 256) (m1 := 128) h (256 * j) 128 inb1) h1
  have p0 := rep_put (m0 := 256) (m1 := 128) h (256 * j) 0 (u := fun a b => r a b + u a b) a0
  have p1 := rep_put (m0 := 256) (m1 := 128) (r := fun a b => if (256 * j ≤ a ∧ a < 256 * j + 256) ∧ (0 ≤ b ∧ b < 0 + 128) then r a b + u a b else r a b) p0 (256 * j) 128
    (u := fun a b => r a b + u a b) a1
  refine p1.congr fun a b => ?_
  have hb := b.isLt
  by_cases hc : 256 * j ≤ a.val ∧ a.val < 256 * j + 256
  · by_cases hd : b.val < 128
    · simp [hc, hd, show ¬ 128 ≤ b.val by omega]
    · simp [hc, hd, show 128 ≤ b.val by omega, show b.val < 128 + 128 by omega]
  · simp [hc]

/-- The two stores of a tile's halves, read back. -/
theorem writes_accum (mem : Memref sig .tc .vmem S4352x256 .f32) (G : BufTy.Contents (Elt Ideal) mem.view.ty) (L : List (View.Piece (Elt Ideal) S4352x256 .f32))
    {r u : ℕ → ℕ → ℝ} (j : ℕ) (hj : 256 * j + 256 ≤ 4352) {off0 off1 : Fin 2 → ℕ} (e0 : off0 = ![256 * j, 0]) (e1 : off1 = ![256 * j, 128])
    (inb0 : ∀ a, off0 a + S256x128.size a ≤ S4352x256.size a) (inb1 : ∀ a, off1 a + S256x128.size a ≤ S4352x256.size a)
    (h : Rep (n0 := 4352) (n1 := 256) (φ := .f32) (mem.view.read (Elt Ideal) (mem.view.writes (Elt Ideal) G L)) (fun a b => r a.val b.val))
    {t0 t1 : FVec Ideal S256x128 .f32}
    (h0 : Rep t0 (fun k d => u (256 * j + k.val) (0 + d.val))) (h1 : Rep t1 (fun k d => u (256 * j + k.val) (128 + d.val))) :
    Rep (n0 := 4352) (n1 := 256) (φ := .f32) (mem.view.read (Elt Ideal) (mem.view.writes (Elt Ideal) G
      ((⟨Rect.unit (s := S4352x256) off1 S256x128.size inb1, shapeCast S256x128 (addf (View.readAt (Elt Ideal) mem.view (Rect.unit (s := S4352x256) off1 S256x128.size inb1).toLoadRect (mem.view.writes (Elt Ideal) G L)) t1) shapeCasts_S256x128_S256x128⟩ : View.Piece (Elt Ideal) S4352x256 .f32) ::
       (⟨Rect.unit (s := S4352x256) off0 S256x128.size inb0, shapeCast S256x128 (addf (View.readAt (Elt Ideal) mem.view (Rect.unit (s := S4352x256) off0 S256x128.size inb0).toLoadRect (mem.view.writes (Elt Ideal) G L)) t0) shapeCasts_S256x128_S256x128⟩ : View.Piece (Elt Ideal) S4352x256 .f32) :: L)))
      (fun a b => r a.val b.val + if 256 * j ≤ a.val ∧ a.val < 256 * j + 256 then u a.val b.val else 0) := by
  subst e0 e1
  rw [View.read_writes_cons_put _ _ _ _ _ rfl, View.read_writes_cons_put _ _ _ _ _ rfl, View.readAt_unit _ _ _ rfl inb0, View.readAt_unit _ _ _ rfl inb1]
  simp only [shapeCast_self]
  exact rep_accum j h inb0 inb1 h0 h1

/-- The same where the second store reads after the first. -/
theorem writes_accum' (mem : Memref sig .tc .vmem S4352x256 .f32) (G : BufTy.Contents (Elt Ideal) mem.view.ty) (L : List (View.Piece (Elt Ideal) S4352x256 .f32))
    {r u : ℕ → ℕ → ℝ} (j : ℕ) (hj : 256 * j + 256 ≤ 4352) {off0 off1 : Fin 2 → ℕ} (e0 : off0 = ![256 * j, 0]) (e1 : off1 = ![256 * j, 128])
    (inb0 : ∀ a, off0 a + S256x128.size a ≤ S4352x256.size a) (inb1 : ∀ a, off1 a + S256x128.size a ≤ S4352x256.size a)
    (h : Rep (n0 := 4352) (n1 := 256) (φ := .f32) (mem.view.read (Elt Ideal) (mem.view.writes (Elt Ideal) G L)) (fun a b => r a.val b.val))
    {t0 t1 : FVec Ideal S256x128 .f32}
    (h0 : Rep t0 (fun k d => u (256 * j + k.val) (0 + d.val))) (h1 : Rep t1 (fun k d => u (256 * j + k.val) (128 + d.val)))
    (p0 : View.Piece (Elt Ideal) S4352x256 .f32)
    (hp : p0 = ⟨Rect.unit (s := S4352x256) off0 S256x128.size inb0, shapeCast S256x128 (addf (View.readAt (Elt Ideal) mem.view (Rect.unit (s := S4352x256) off0 S256x128.size inb0).toLoadRect (mem.view.writes (Elt Ideal) G L)) t0) shapeCasts_S256x128_S256x128⟩) :
    Rep (n0 := 4352) (n1 := 256) (φ := .f32) (mem.view.read (Elt Ideal) (mem.view.writes (Elt Ideal) G
      ((⟨Rect.unit (s := S4352x256) off1 S256x128.size inb1, shapeCast S256x128 (addf (View.readAt (Elt Ideal) mem.view (Rect.unit (s := S4352x256) off1 S256x128.size inb1).toLoadRect (mem.view.writes (Elt Ideal) G (p0 :: L))) t1) shapeCasts_S256x128_S256x128⟩ : View.Piece (Elt Ideal) S4352x256 .f32) ::
       p0 :: L)))
      (fun a b => r a.val b.val + if 256 * j ≤ a.val ∧ a.val < 256 * j + 256 then u a.val b.val else 0) := by
  subst e0 e1
  rw [hp]
  rw [View.readAt_unit _ _ inb1 rfl inb1, View.read_writes_cons_put _ _ _ _ _ rfl, View.read_writes_cons_put _ _ _ _ _ rfl, View.readAt_unit _ _ _ rfl inb0]
  simp only [shapeCast_self]
  rw [VecWindow.window_put_of_disjoint _ _ _ _ _ _ _ 1 (Or.inr (show 0 + 128 ≤ 128 from le_refl _))]
  exact rep_accum j h inb0 inb1 h0 h1

end Cert.Att

end
-- ==== Proof.LoopRep.lean ====
/- The loop over the earlier key blocks: what the carry and the two accumulators hold before each trip. -/
module

public import proofs.«01_k».proof.Proof.Loop
public import proofs.«01_k».proof.Proof.Windows

@[expose] public section

set_option maxRecDepth 16384

noncomputable section

namespace Cert.Att

open Idealize.ShloMosaic Cert.KernelIdeal Gen
open scoped BigOperators

section LoopRep
variable (c : Dev nD) (i : grid0.Coords) (arg2 : Memref sig .tc .vmem S256x256 .bf16) (w2 : arg2.IsWhole) (arg3 : Memref sig .tc .vmem S4352x256 .bf16) (w3 : arg3.IsWhole) (arg4 : Memref sig .tc .vmem S4352x256 .bf16) (w4 : arg4.IsWhole) (arg5 : Memref sig .tc .vmem S256x256 .f32) (w5 : arg5.IsWhole) (arg6 : Memref sig .tc .vmem S256x256 .bf16) (w6 : arg6.IsWhole) (arg7 : Memref sig .tc .vmem S256x256 .bf16) (w7 : arg7.IsWhole) (arg8 : Memref sig .tc .vmem S256x256 .bf16) (w8 : arg8.IsWhole) (arg9 : Memref sig .tc .vmem S256x256 .bf16) (w9 : arg9.IsWhole) (arg10 : Memref sig .tc .vmem S4352x256 .bf16) (w10 : arg10.IsWhole) (arg11 : Memref sig .tc .vmem S4352x256 .bf16) (w11 : arg11.IsWhole) (arg12 : Memref sig .tc .vmem S4352x256 .f32) (w12 : arg12.IsWhole) (arg13 : Memref sig .tc .vmem S4352x256 .f32) (w13 : arg13.IsWhole)
  (xq xo xu xl : Vec Ideal S256x256 .bf16) (xt0 xt1 : Vec Ideal S256x128 .f32) (X3 : BufTy.Contents (Elt Ideal) arg3.view.ty) (X4 : BufTy.Contents (Elt Ideal) arg4.view.ty)
  (G12 : BufTy.Contents (Elt Ideal) arg12.view.ty) (G13 : BufTy.Contents (Elt Ideal) arg13.view.ty)
  {Q K V O W12 W13 : ℕ → ℕ → ℝ}

theorem lst_rep
    (hin : QueryIn Q O (i 1).val (k0_pay158 xu) (k0_pay159 xl) k0_pay137 k0_pay138 (k0_pay142 xq) (k0_pay143 xq) (k0_pay144 xq) (k0_pay145 xq)
      (k0_pay146 xo) (k0_pay148 k0_pay138 (k0_pay147 xo)) (k0_pay149 k0_pay137 xo) (k0_pay150 k0_pay138 xo))
    (hK : Rep (n0 := 4352) (n1 := 256) (φ := .bf16) (arg3.view.read (Elt Ideal) X3) (fun s c => K s.val c.val))
    (hV : Rep (n0 := 4352) (n1 := 256) (φ := .bf16) (arg4.view.read (Elt Ideal) X4) (fun s c => V s.val c.val))
    (h12 : Rep (n0 := 4352) (n1 := 256) (φ := .f32) (arg12.view.read (Elt Ideal) G12) (fun s c => W12 s.val c.val))
    (h13 : Rep (n0 := 4352) (n1 := 256) (φ := .f32) (arg13.view.read (Elt Ideal) G13) (fun s c => W13 s.val c.val))
    (hini : CarryRep Q K V O (i 1).val 0 (ini xt0 xt1)) (k : ℕ) (hk : k ≤ (i 1).val) :
    CarryRep Q K V O (i 1).val (256 * k) (lst c i _ w2 _ w3 _ w4 _ w5 _ w6 _ w7 _ w8 _ w9 _ w10 _ w11 _ w12 _ w13 xq xo xu xl xt0 xt1 X3 X4 G12 G13 k).1
    ∧ Rep (n0 := 4352) (n1 := 256) (φ := .f32) (arg12.view.read (Elt Ideal) (arg12.view.writes (Elt Ideal) G12 (lst c i _ w2 _ w3 _ w4 _ w5 _ w6 _ w7 _ w8 _ w9 _ w10 _ w11 _ w12 _ w13 xq xo xu xl xt0 xt1 X3 X4 G12 G13 k).2.1))
        (fun s c => W12 s.val c.val + if s.val < 256 * k then blkK Q K V O (i 1).val s.val c.val else 0)
    ∧ Rep (n0 := 4352) (n1 := 256) (φ := .f32) (arg13.view.read (Elt Ideal) (arg13.view.writes (Elt Ideal) G13 (lst c i _ w2 _ w3 _ w4 _ w5 _ w6 _ w7 _ w8 _ w9 _ w10 _ w11 _ w12 _ w13 xq xo xu xl xt0 xt1 X3 X4 G12 G13 k).2.2))
        (fun s c => W13 s.val c.val + if s.val < 256 * k then blkV Q K O (i 1).val s.val c.val else 0) := by
  induction k with
  | zero => exact ⟨hini, h12.congr fun a b => by simp, h13.congr fun a b => by simp⟩
  | succ k ih =>
    obtain ⟨hc, ha, hb⟩ := ih (by omega)
    have hkt : k < (k0_t1_loop i).trips := lt_of_lt_of_eq (show k < (i 1).val by omega) (trips_t1 i).symm
    have hi1 : (i 1).val < 17 := (i 1).isLt
    have hj : 256 * k + 256 ≤ 4352 := by omega
    have inb : ∀ a, (![256 * k, 0] : Fin 2 → ℕ) a + S256x256.size a ≤ S4352x256.size a := fun a => by
      match a with
      | 0 => exact hj
      | 1 => exact le_refl 256
    have inb0 : ∀ a, (![256 * k, 0] : Fin 2 → ℕ) a + (![256, 128] : Fin 2 → ℕ) a ≤ S4352x256.size a := fun a => by
      match a with
      | 0 => exact hj
      | 1 => exact (by decide : 0 + 128 ≤ 256)
    have inb1 : ∀ a, (![256 * k, 128] : Fin 2 → ℕ) a + (![256, 128] : Fin 2 → ℕ) a ≤ S4352x256.size a := fun a => by
      match a with
      | 0 => exact hj
      | 1 => exact (by decide : 128 + 128 ≤ 256)
    have hkj : Rep (kjOf i arg3 X3 ⟨k, hkt⟩) (fun a b => K (256 * k + a.val) b.val) := by
      have := rep_window (m0 := 256) (m1 := 256) hK (256 * k) 0 inb
      rw [← View.readAt_unit arg3.view X3 (k0_off1_inb i ⟨k, hkt⟩) (k0_off1_eq i ⟨k, hkt⟩) inb] at this
      exact this.congr fun a b => by rw [Nat.zero_add]
    have hvj : Rep (vjOf i arg4 X4 ⟨k, hkt⟩) (fun a b => V (256 * k + a.val) b.val) := by
      have := rep_window (m0 := 256) (m1 := 256) hV (256 * k) 0 inb
      rw [← View.readAt_unit arg4.view X4 (k0_off1_inb i ⟨k, hkt⟩) (k0_off1_eq i ⟨k, hkt⟩) inb] at this
      exact this.congr fun a b => by rw [Nat.zero_add]
    have hs : Sel (fun x => x) (i 1).val k := sel_id (by omega)
    rw [lst_succ c i _ w2 _ w3 _ w4 _ w5 _ w6 _ w7 _ w8 _ w9 _ w10 _ w11 _ w12 _ w13 xq xo xu xl xt0 xt1 X3 X4 G12 G13 ⟨k, hkt⟩]
    generalize lst c i _ w2 _ w3 _ w4 _ w5 _ w6 _ w7 _ w8 _ w9 _ w10 _ w11 _ w12 _ w13 xq xo xu xl xt0 xt1 X3 X4 G12 G13 k = st at hc ha hb ⊢
    refine ⟨tile_carry hj hs hin hkj hvj hc, ?_, ?_⟩
    · have hm := writes_accum arg12 G12 _ (r := fun s c => W12 s c + if s < 256 * k then blkK Q K V O (i 1).val s c else 0) (u := fun s c => blkK Q K V O (i 1).val s c) k hj (k0_off2_eq i ⟨k, hkt⟩) (k0_off3_eq i ⟨k, hkt⟩) (k0_off2_inb i ⟨k, hkt⟩) (k0_off3_inb i ⟨k, hkt⟩) ha
        ((tile_K0 hj hs hin hkj hvj hc).congr fun a b => by
          have := b.isLt
          simp only [blkK, Nat.zero_add, show b.val / 128 = 0 by omega, show b.val % 128 = b.val by omega])
        ((tile_K1 hj hs hin hkj hvj hc).congr fun a b => by
          have := b.isLt
          simp only [blkK, show (128 + b.val) / 128 = 1 by omega, show (128 + b.val) % 128 = b.val by omega])
      refine hm.congr fun a b => ?_
      by_cases h1 : a.val < 256 * k
      · simp [h1, show a.val < 256 * (k + 1) by omega, show ¬ (256 * k ≤ a.val) by omega]
      · by_cases h2 : a.val < 256 * (k + 1)
        · simp [h1, h2, show 256 * k ≤ a.val by omega, show a.val < 256 * k + 256 by omega]
        · simp [h1, h2, show ¬ a.val < 256 * k + 256 by omega]
    · have hm := writes_accum arg13 G13 _ (r := fun s c => W13 s c + if s < 256 * k then blkV Q K O (i 1).val s c else 0) (u := fun s c => blkV Q K O (i 1).val s c) k hj (k0_off2_eq i ⟨k, hkt⟩) (k0_off3_eq i ⟨k, hkt⟩) (k0_off2_inb i ⟨k, hkt⟩) (k0_off3_inb i ⟨k, hkt⟩) hb
        ((tile_V0 hj hs hin hkj hvj hc).congr fun a b => by
          have := b.isLt
          simp only [blkV, Nat.zero_add, show b.val / 128 = 0 by omega, show b.val % 128 = b.val by omega])
        ((tile_V1 hj hs hin hkj hvj hc).congr fun a b => by
          have := b.isLt
          simp only [blkV, show (128 + b.val) / 128 = 1 by omega, show (128 + b.val) % 128 = b.val by omega])
      refine hm.congr fun a b => ?_
      by_cases h1 : a.val < 256 * k
      · simp [h1, show a.val < 256 * (k + 1) by omega, show ¬ (256 * k ≤ a.val) by omega]
      · by_cases h2 : a.val < 256 * (k + 1)
        · simp [h1, h2, show 256 * k ≤ a.val by omega, show a.val < 256 * k + 256 by omega]
        · simp [h1, h2, show ¬ a.val < 256 * k + 256 by omega]
end LoopRep

end Cert.Att

end
-- ==== Proof.Run.lean ====
/- The tile on the diagonal after the loop over the earlier key blocks. -/
module

public import proofs.«01_k».proof.Proof.Loop

@[expose] public section

set_option maxRecDepth 16384

noncomputable section

namespace Cert.Att

open Idealize.ShloMosaic Cert.KernelIdeal Gen

variable {F : FTy → Type} [FloatOps F]
/-- The load of a whole window of a tile's size, filled with a vector. -/
abbrev ld {a : Memref sig .tc .vmem S256x256 .bf16} (w : a.IsWhole) (x : Vec F S256x256 .bf16) : FVec F S256x256 .bf16 :=
  View.readAt (Elt F) a.view (Rect.unit (s := S256x256) ![0, 0] S256x256.size inb_S256x256_S256x256_0_0).toLoadRect (w.unread x)

variable (c : Dev nD) (i : grid0.Coords) (arg2 : Memref sig .tc .vmem S256x256 .bf16) (w2 : arg2.IsWhole) (arg3 : Memref sig .tc .vmem S4352x256 .bf16) (w3 : arg3.IsWhole) (arg4 : Memref sig .tc .vmem S4352x256 .bf16) (w4 : arg4.IsWhole) (arg5 : Memref sig .tc .vmem S256x256 .f32) (w5 : arg5.IsWhole) (arg6 : Memref sig .tc .vmem S256x256 .bf16) (w6 : arg6.IsWhole) (arg7 : Memref sig .tc .vmem S256x256 .bf16) (w7 : arg7.IsWhole) (arg8 : Memref sig .tc .vmem S256x256 .bf16) (w8 : arg8.IsWhole) (arg9 : Memref sig .tc .vmem S256x256 .bf16) (w9 : arg9.IsWhole) (arg10 : Memref sig .tc .vmem S4352x256 .bf16) (w10 : arg10.IsWhole) (arg11 : Memref sig .tc .vmem S4352x256 .bf16) (w11 : arg11.IsWhole) (arg12 : Memref sig .tc .vmem S4352x256 .f32) (w12 : arg12.IsWhole) (arg13 : Memref sig .tc .vmem S4352x256 .f32) (w13 : arg13.IsWhole)
  (x0 : Vec F S256x256 .bf16) (x1 x2 : Vec F S4352x256 .bf16) (x3 : Vec F S256x256 .f32) (x4 x5 x6 : Vec F S256x256 .bf16) (G12 : BufTy.Contents (Elt F) arg12.view.ty) (G13 : BufTy.Contents (Elt F) arg13.view.ty)

/-- The state after the loop, from what the blocks hold. -/
def lstF : Carry F × List (View.Piece (Elt F) S4352x256 .f32) × List (View.Piece (Elt F) S4352x256 .f32) :=
  lst c i _ w2 _ w3 _ w4 _ w5 _ w6 _ w7 _ w8 _ w9 _ w10 _ w11 _ w12 _ w13 (ld w2 x0) (ld w6 x4) (ld w7 x5) (ld w8 x6) (View.readAt (Elt F) arg5.view (Rect.unit (s := S256x256) ![0, 0] S256x128.size inb_S256x256_S256x128_0_0).toLoadRect (w5.unread x3)) (View.readAt (Elt F) arg5.view (Rect.unit (s := S256x256) ![0, 128] S256x128.size inb_S256x256_S256x128_0_128).toLoadRect (w5.unread x3)) (w3.unread x1) (w4.unread x2) G12 G13 (i 1).val

/-- The carry after the diagonal tile. -/
def carF : Carry F := tileCarry selD (k0_pay158 (ld w7 x5)) (k0_pay159 (ld w8 x6)) k0_pay137 k0_pay138 (k0_pay142 (ld w2 x0)) (k0_pay143 (ld w2 x0)) (k0_pay144 (ld w2 x0)) (k0_pay145 (ld w2 x0)) (k0_pay146 (ld w6 x4)) (k0_pay148 k0_pay138 (k0_pay147 (ld w6 x4))) (k0_pay149 k0_pay137 (ld w6 x4)) (k0_pay150 k0_pay138 (ld w6 x4)) (kdOf i arg3 (w3.unread x1)) (vdOf i arg4 (w4.unread x2)) (lstF c i _ w2 _ w3 _ w4 _ w5 _ w6 _ w7 _ w8 _ w9 _ w10 _ w11 _ w12 _ w13 x0 x1 x2 x3 x4 x5 x6 G12 G13).1
/-- The diagonal tile's shares of the gradients. -/
def dK0 : FVec F S256x128 .f32 := tileK0 selD (k0_pay158 (ld w7 x5)) (k0_pay159 (ld w8 x6)) (k0_pay142 (ld w2 x0)) (k0_pay143 (ld w2 x0)) (k0_pay146 (ld w6 x4)) (k0_pay148 k0_pay138 (k0_pay147 (ld w6 x4))) (kdOf i arg3 (w3.unread x1)) (vdOf i arg4 (w4.unread x2)) (lstF c i _ w2 _ w3 _ w4 _ w5 _ w6 _ w7 _ w8 _ w9 _ w10 _ w11 _ w12 _ w13 x0 x1 x2 x3 x4 x5 x6 G12 G13).1
def dK1 : FVec F S256x128 .f32 := tileK1 selD (k0_pay158 (ld w7 x5)) (k0_pay159 (ld w8 x6)) (k0_pay144 (ld w2 x0)) (k0_pay145 (ld w2 x0)) (k0_pay149 k0_pay137 (ld w6 x4)) (k0_pay150 k0_pay138 (ld w6 x4)) (kdOf i arg3 (w3.unread x1)) (vdOf i arg4 (w4.unread x2)) (lstF c i _ w2 _ w3 _ w4 _ w5 _ w6 _ w7 _ w8 _ w9 _ w10 _ w11 _ w12 _ w13 x0 x1 x2 x3 x4 x5 x6 G12 G13).1
def dV0 : FVec F S256x128 .f32 := tileV0 selD (k0_pay158 (ld w7 x5)) (k0_pay142 (ld w2 x0)) (k0_pay143 (ld w2 x0)) (k0_pay146 (ld w6 x4)) (k0_pay148 k0_pay138 (k0_pay147 (ld w6 x4))) (kdOf i arg3 (w3.unread x1)) (lstF c i _ w2 _ w3 _ w4 _ w5 _ w6 _ w7 _ w8 _ w9 _ w10 _ w11 _ w12 _ w13 x0 x1 x2 x3 x4 x5 x6 G12 G13).1
def dV1 : FVec F S256x128 .f32 := tileV1 selD (k0_pay158 (ld w7 x5)) (k0_pay144 (ld w2 x0)) (k0_pay145 (ld w2 x0)) (k0_pay149 k0_pay137 (ld w6 x4)) (k0_pay150 k0_pay138 (ld w6 x4)) (kdOf i arg3 (w3.unread x1)) (lstF c i _ w2 _ w3 _ w4 _ w5 _ w6 _ w7 _ w8 _ w9 _ w10 _ w11 _ w12 _ w13 x0 x1 x2 x3 x4 x5 x6 G12 G13).1

/-- The diagonal tile's low halves, as stored. -/
def p12 : View.Piece (Elt F) S4352x256 .f32 := (⟨Rect.unit (s := S4352x256) (k0_off8 i) S256x128.size (k0_off8_inb i), shapeCast S256x128 (addf (View.readAt (Elt F) arg12.view (Rect.unit (s := S4352x256) (k0_off8 i) S256x128.size (k0_off8_inb i)).toLoadRect (arg12.view.writes (Elt F) G12 (lstF c i _ w2 _ w3 _ w4 _ w5 _ w6 _ w7 _ w8 _ w9 _ w10 _ w11 _ w12 _ w13 x0 x1 x2 x3 x4 x5 x6 G12 G13).2.1)) (dK0 c i _ w2 _ w3 _ w4 _ w5 _ w6 _ w7 _ w8 _ w9 _ w10 _ w11 _ w12 _ w13 x0 x1 x2 x3 x4 x5 x6 G12 G13)) shapeCasts_S256x128_S256x128⟩ : View.Piece (Elt F) S4352x256 .f32)
def p13 : View.Piece (Elt F) S4352x256 .f32 := (⟨Rect.unit (s := S4352x256) (k0_off8 i) S256x128.size (k0_off8_inb i), shapeCast S256x128 (addf (View.readAt (Elt F) arg13.view (Rect.unit (s := S4352x256) (k0_off8 i) S256x128.size (k0_off8_inb i)).toLoadRect (arg13.view.writes (Elt F) G13 (lstF c i _ w2 _ w3 _ w4 _ w5 _ w6 _ w7 _ w8 _ w9 _ w10 _ w11 _ w12 _ w13 x0 x1 x2 x3 x4 x5 x6 G12 G13).2.2)) (dV0 c i _ w2 _ w3 _ w4 _ w5 _ w6 _ w7 _ w8 _ w9 _ w10 _ w11 _ w12 _ w13 x0 x1 x2 x3 x4 x5 x6 G12 G13)) shapeCasts_S256x128_S256x128⟩ : View.Piece (Elt F) S4352x256 .f32)

/-- Everything stored into the two accumulators. -/
def fin12 : List (View.Piece (Elt F) S4352x256 .f32) := (⟨Rect.unit (s := S4352x256) (k0_off9 i) S256x128.size (k0_off9_inb i), shapeCast S256x128 (addf (View.readAt (Elt F) arg12.view (Rect.unit (s := S4352x256) (k0_off9 i) S256x128.size (k0_off9_inb i)).toLoadRect (arg12.view.writes (Elt F) G12 (p12 c i _ w2 _ w3 _ w4 _ w5 _ w6 _ w7 _ w8 _ w9 _ w10 _ w11 _ w12 _ w13 x0 x1 x2 x3 x4 x5 x6 G12 G13 :: (lstF c i _ w2 _ w3 _ w4 _ w5 _ w6 _ w7 _ w8 _ w9 _ w10 _ w11 _ w12 _ w13 x0 x1 x2 x3 x4 x5 x6 G12 G13).2.1))) (dK1 c i _ w2 _ w3 _ w4 _ w5 _ w6 _ w7 _ w8 _ w9 _ w10 _ w11 _ w12 _ w13 x0 x1 x2 x3 x4 x5 x6 G12 G13)) shapeCasts_S256x128_S256x128⟩ : View.Piece (Elt F) S4352x256 .f32) :: p12 c i _ w2 _ w3 _ w4 _ w5 _ w6 _ w7 _ w8 _ w9 _ w10 _ w11 _ w12 _ w13 x0 x1 x2 x3 x4 x5 x6 G12 G13 :: (lstF c i _ w2 _ w3 _ w4 _ w5 _ w6 _ w7 _ w8 _ w9 _ w10 _ w11 _ w12 _ w13 x0 x1 x2 x3 x4 x5 x6 G12 G13).2.1
def fin13 : List (View.Piece (Elt F) S4352x256 .f32) := (⟨Rect.unit (s := S4352x256) (k0_off9 i) S256x128.size (k0_off9_inb i), shapeCast S256x128 (addf (View.readAt (Elt F) arg13.view (Rect.unit (s := S4352x256) (k0_off9 i) S256x128.size (k0_off9_inb i)).toLoadRect (arg13.view.writes (Elt F) G13 (p13 c i _ w2 _ w3 _ w4 _ w5 _ w6 _ w7 _ w8 _ w9 _ w10 _ w11 _ w12 _ w13 x0 x1 x2 x3 x4 x5 x6 G12 G13 :: (lstF c i _ w2 _ w3 _ w4 _ w5 _ w6 _ w7 _ w8 _ w9 _ w10 _ w11 _ w12 _ w13 x0 x1 x2 x3 x4 x5 x6 G12 G13).2.2))) (dV1 c i _ w2 _ w3 _ w4 _ w5 _ w6 _ w7 _ w8 _ w9 _ w10 _ w11 _ w12 _ w13 x0 x1 x2 x3 x4 x5 x6 G12 G13)) shapeCasts_S256x128_S256x128⟩ : View.Piece (Elt F) S4352x256 .f32) :: p13 c i _ w2 _ w3 _ w4 _ w5 _ w6 _ w7 _ w8 _ w9 _ w10 _ w11 _ w12 _ w13 x0 x1 x2 x3 x4 x5 x6 G12 G13 :: (lstF c i _ w2 _ w3 _ w4 _ w5 _ w6 _ w7 _ w8 _ w9 _ w10 _ w11 _ w12 _ w13 x0 x1 x2 x3 x4 x5 x6 G12 G13).2.2

/-- The block of the gradient of the queries. -/
def dqF : FVec F S256x256 .bf16 := k0_pay2 (carF c i _ w2 _ w3 _ w4 _ w5 _ w6 _ w7 _ w8 _ w9 _ w10 _ w11 _ w12 _ w13 x0 x1 x2 x3 x4 x5 x6 G12 G13).2.2.2.2.2.2.2.2.1 (carF c i _ w2 _ w3 _ w4 _ w5 _ w6 _ w7 _ w8 _ w9 _ w10 _ w11 _ w12 _ w13 x0 x1 x2 x3 x4 x5 x6 G12 G13).2.2.2.2.2.2.2.2.2

end Cert.Att

end
-- ==== Proof.Point.lean ====
/- What one grid point computes, on blocks that hold real numbers. -/
module

public import proofs.«01_k».proof.Proof.LoopRep
public import proofs.«01_k».proof.Proof.Run

@[expose] public section

set_option maxRecDepth 16384

noncomputable section

namespace Cert.Att

open Idealize.ShloMosaic Cert.KernelIdeal Gen
open scoped BigOperators

theorem ofBits_eighth : Ideal.ofBits .f32 0x3E000000#32 = ((1 / 8 : ℝ) : EReal) := by
  simp [Ideal.ofBits, Ideal.ieee, -EReal.coe_mul]
  norm_num

theorem ofBits_zero16 : Ideal.ofBits .bf16 0x0000#16 = 0 := by simp [Ideal.ofBits, Ideal.ieee]

/-! ### The masks and the query block's lanes -/

theorem toInt_small' (n : Fin 128) : (BitVec.ofNat 32 n.val).toInt = (n.val : ℤ) := by
  revert n
  decide +kernel

theorem half_lo : Half k0_pay137 0 := fun d => by
  have e : k0_pay137 (ValueIdx.ix2 0 d) = IntOp.cmpi .slt (BitVec.ofNat 32 d.val) 64#32 := by
    unfold k0_pay137
    pointwise
  rw [e]
  revert d
  decide +kernel

theorem half_hi : Half k0_pay138 1 := fun d => by
  have e : k0_pay138 (ValueIdx.ix2 0 d) = IntOp.cmpi .sge (BitVec.ofNat 32 d.val) 64#32 := by
    unfold k0_pay138
    pointwise
  rw [e]
  revert d
  decide +kernel

/-- The masked lanes as stored in 32 bits. -/
def tLanes32 (m : IVec S1x128 1) (x : FVec Ideal S256x128 .f32) : FVec Ideal S256x128 .f32 :=
  select (broadcastTo S256x128 (shapeCast S1x128 m shapeCasts_S1x128_S1x128) broadcasts_S1x128_S256x128) x (broadcast S256x128 (Scalar.ofBits .f32 0x00000000#32))

theorem rep_tLanes32 {m : IVec S1x128 1} {b : ℕ} (hm : Half m b) {x : FVec Ideal S256x128 .f32} {r : Fin 256 → Fin 128 → ℝ} (h : Rep x r) :
    Rep (tLanes32 m x) (fun a d => if d.val / 64 = b then r a d else 0) := fun a d => by
  have e : tLanes32 m x (ValueIdx.ix2 a d) = if m (ValueIdx.ix2 0 d) = 1#1 then x (ValueIdx.ix2 a d) else Ideal.ofBits .f32 0x00000000#32 := by
    unfold tLanes32
    pointwise
    rfl
  rw [e, hm]
  by_cases hd : d.val / 64 = b
  · simp only [hd, if_true]; exact h a d
  · simp only [hd, if_false]
    simp [ofBits_zero]

theorem rep_scaled {x : FVec Ideal S256x256 .bf16} {r : Fin 256 → ℕ → ℝ} (h : Rep x (fun a b => r a b.val)) :
    Rep (k0_pay141 x) (fun a b => r a b.val * (1 / 8)) := by
  unfold k0_pay141
  refine (h.extf bitsLt_bf16_f32).mulf ?_
  intro a b
  show Ideal.ofBits .f32 0x3E000000#32 = _
  rw [ofBits_eighth]

theorem rep_lo32 {x : FVec Ideal S256x256 .f32} {r : Fin 256 → ℕ → ℝ} (h : Rep x (fun a b => r a b.val)) :
    Rep (extractStridedSlice S256x128 ![0, 0] x slices_S256x256_o0_0_S256x128) (fun a b => r a b.val) := fun a b => by
  have e : extractStridedSlice S256x128 ![0, 0] x slices_S256x256_o0_0_S256x128 (ValueIdx.ix2 a b) = x (ValueIdx.ix2 a ⟨b.val, by omega⟩) := by
    pointwise
    rfl
  rw [e, h]

theorem rep_hi32 {x : FVec Ideal S256x256 .f32} {r : Fin 256 → ℕ → ℝ} (h : Rep x (fun a b => r a b.val)) :
    Rep (extractStridedSlice S256x128 ![0, 128] x slices_S256x256_o0_128_S256x128) (fun a b => r a (128 + b.val)) := fun a b => by
  have e : extractStridedSlice S256x128 ![0, 128] x slices_S256x256_o0_128_S256x128 (ValueIdx.ix2 a b) = x (ValueIdx.ix2 a ⟨128 + b.val, by omega⟩) := by
    pointwise
    rfl
  rw [e, h]

section Query
variable {i : ℕ} {Q0 Q O : ℕ → ℕ → ℝ} (hQ : ∀ t c, Q t c = Q0 t c * (1 / 8))
  {xq xo xu xl : FVec Ideal S256x256 .bf16} (hq : Rep xq (fun a c => Q0 (256 * i + a.val) c.val)) (ho : Rep xo (fun a c => O (256 * i + a.val) c.val))
  (hu : Rep xu rUp) (hl : Rep xl rLow)
include hQ hq ho hu hl

theorem query_in : QueryIn Q O i (k0_pay158 xu) (k0_pay159 xl) k0_pay137 k0_pay138 (k0_pay142 xq) (k0_pay143 xq) (k0_pay144 xq) (k0_pay145 xq)
      (k0_pay146 xo) (k0_pay148 k0_pay138 (k0_pay147 xo)) (k0_pay149 k0_pay137 xo) (k0_pay150 k0_pay138 xo) where
  up := by unfold k0_pay158; dsimp only; rw [shapeCast_self]; exact hu
  low := by unfold k0_pay159; dsimp only; rw [shapeCast_self]; exact hl
  m0 := half_lo
  m1 := half_hi
  q0 := (rep_tLanes32 half_lo (rep_lo32 (r := fun a c => Q0 (256 * i + a.val) c * (1 / 8)) (rep_scaled (r := fun a c => Q0 (256 * i + a.val) c) hq))).congr fun a d => by simp [lanesOf, msk, hQ]
  q1 := (rep_tLanes32 half_hi (rep_lo32 (r := fun a c => Q0 (256 * i + a.val) c * (1 / 8)) (rep_scaled (r := fun a c => Q0 (256 * i + a.val) c) hq))).congr fun a d => by simp [lanesOf, msk, hQ]
  q2 := (rep_tLanes32 half_lo (rep_hi32 (r := fun a c => Q0 (256 * i + a.val) c * (1 / 8)) (rep_scaled (r := fun a c => Q0 (256 * i + a.val) c) hq))).congr fun a d => by simp [lanesOf, msk, hQ]
  q3 := (rep_tLanes32 half_hi (rep_hi32 (r := fun a c => Q0 (256 * i + a.val) c * (1 / 8)) (rep_scaled (r := fun a c => Q0 (256 * i + a.val) c) hq))).congr fun a d => by simp [lanesOf, msk, hQ]
  o0 := (rep_tLanes half_lo (rep_lo (r := fun a c => O (256 * i + a.val) c) ho)).congr fun a d => by simp [lanesOf, msk]
  o1 := (rep_tLanes half_hi (rep_lo (r := fun a c => O (256 * i + a.val) c) ho)).congr fun a d => by simp [lanesOf, msk]
  o2 := (rep_tLanes half_lo (rep_hi (r := fun a c => O (256 * i + a.val) c) ho)).congr fun a d => by simp [lanesOf, msk]
  o3 := (rep_tLanes half_hi (rep_hi (r := fun a c => O (256 * i + a.val) c) ho)).congr fun a d => by simp [lanesOf, msk]
end Query

/-! ### The totals -/

/-- Row 0 of a product with the unit row of lane `n`. -/
def unitRow (n : BitVec 32) (x : FVec Ideal S256x128 .f32) : FVec Ideal S1x256 .f32 :=
  extractStridedSlice S1x256 ![0, 0] (matmul dot_S8x128_S256x128_S8x256_1_1_0_0_n_n (some .fp32)
    (select (cmpi .eq (iota .tc S8x128 32 [1] iota_S8x128_d1_w32) (broadcast S8x128 n)) (broadcast S8x128 (Scalar.ofBits .f32 0x3F800000#32)) (broadcast S8x128 (Scalar.ofBits .f32 0x00000000#32)))
    (shapeCast S256x128 x shapeCasts_S256x128_S256x128) (constant S8x256 .f32 0x00000000#32)) slices_S8x256_o0_0_S1x256

theorem rep_unit (n : Fin 128) : Rep (n0 := 8) (n1 := 128) (φ := .f32) (select (cmpi .eq (iota .tc S8x128 32 [1] iota_S8x128_d1_w32) (broadcast S8x128 (BitVec.ofNat 32 n.val))) (broadcast S8x128 (Scalar.ofBits (F := Ideal) .f32 0x3F800000#32)) (broadcast S8x128 (Scalar.ofBits .f32 0x00000000#32)))
    (fun _ d => if d = n then 1 else 0) := fun a d => by
  have e : (select (cmpi .eq (iota .tc S8x128 32 [1] iota_S8x128_d1_w32) (broadcast S8x128 (BitVec.ofNat 32 n.val))) (broadcast S8x128 (Scalar.ofBits (F := Ideal) .f32 0x3F800000#32)) (broadcast S8x128 (Scalar.ofBits .f32 0x00000000#32))) (ValueIdx.ix2 a d)
      = if IntOp.cmpi .eq (BitVec.ofNat 32 d.val) (BitVec.ofNat 32 n.val) = 1#1 then Ideal.ofBits .f32 0x3F800000#32 else Ideal.ofBits .f32 0x00000000#32 := by
    pointwise
    rfl
  have hi : IntOp.cmpi .eq (BitVec.ofNat 32 d.val) (BitVec.ofNat 32 n.val) = 1#1 ↔ d = n := by
    show BitVec.ofBool (BitVec.ofNat 32 d.val == BitVec.ofNat 32 n.val) = 1#1 ↔ _
    constructor
    · intro h
      have h' : BitVec.ofNat 32 d.val = BitVec.ofNat 32 n.val := by
        by_contra hne
        have : (BitVec.ofNat 32 d.val == BitVec.ofNat 32 n.val) = false := beq_eq_false_iff_ne.2 hne
        rw [this] at h
        exact absurd h (by decide)
      have h2 := congrArg BitVec.toInt h'
      rw [toInt_small', toInt_small'] at h2
      exact Fin.ext (by exact_mod_cast h2)
    · rintro rfl
      simp
  rw [e]
  by_cases h : d = n
  · rw [if_pos (hi.2 h), Ideal.ofBits_one_f32]; simp [h]
  · rw [if_neg (fun h' => h (hi.1 h')), ofBits_zero]; simp [h]

theorem rep_unitRow (n : Fin 128) {x : FVec Ideal S256x128 .f32} {r : Fin 256 → Fin 128 → ℝ} (h : Rep x r) : Rep (unitRow (BitVec.ofNat 32 n.val) x) (fun _ q => r q n) := by
  unfold unitRow
  rw [shapeCast_self]
  have hm := rep_trans (M := 8) (K := 128) (N := 256) (φ₁ := .f32) (φ₂ := .f32) (some .fp32) (rep_unit n) h
  intro a b
  have e : ∀ y : FVec Ideal S8x256 .f32, extractStridedSlice S1x256 ![0, 0] y slices_S8x256_o0_0_S1x256 (ValueIdx.ix2 a b) = y (ValueIdx.ix2 0 b) := fun y => by
    obtain rfl : a = 0 := Subsingleton.elim _ _
    pointwise
    rfl
  rw [e]
  refine (hm 0 b).trans ?_
  simp

theorem rep_zero1 : Rep (k0_pay160 (F := Ideal)) (fun _ _ => 0) := fun a b => by
  show Ideal.ofBits .f32 0x00000000#32 = _
  rw [ofBits_zero, EReal.coe_zero]
theorem rep_zero2 : Rep (k0_pay161 (F := Ideal)) (fun _ _ => 0) := fun a b => by
  show Ideal.ofBits .f32 0x00000000#32 = _
  rw [ofBits_zero, EReal.coe_zero]

theorem carry_ini {Q K V O : ℕ → ℕ → ℝ} {i : ℕ} {xt0 xt1 : FVec Ideal S256x128 .f32} {T : ℕ → ℕ → ℝ} (hT : ∀ h < 4, ∀ q : Fin 256, T (256 * i + q.val) (64 * h) = rTail (sc Q K h) (256 * i + q.val) 0)
    (h0 : Rep xt0 (fun a d => T (256 * i + a.val) d.val)) (h1 : Rep xt1 (fun a d => T (256 * i + a.val) (128 + d.val))) :
    CarryRep Q K V O i 0 (ini xt0 xt1) where
  r0 := (rep_unitRow ⟨0, by decide⟩ h0).congr fun _ q => hT 0 (by decide) q
  r1 := (rep_unitRow ⟨64, by decide⟩ h0).congr fun _ q => hT 1 (by decide) q
  r2 := (rep_unitRow ⟨0, by decide⟩ h1).congr fun _ q => hT 2 (by decide) q
  r3 := (rep_unitRow ⟨64, by decide⟩ h1).congr fun _ q => hT 3 (by decide) q
  b0 := rep_zero1.congr fun _ q => by simp [rw1, rHead]
  b1 := rep_zero1.congr fun _ q => by simp [rw1, rHead]
  b2 := rep_zero1.congr fun _ q => by simp [rw1, rHead]
  b3 := rep_zero1.congr fun _ q => by simp [rw1, rHead]
  d0 := rep_zero2.congr fun _ q => by simp
  d1 := rep_zero2.congr fun _ q => by simp

/-! ### Reading a whole block -/

theorem rep_block {o m1 : ℕ} {mem : Memref sig .tc .vmem S256x256 .bf16} (hw : mem.IsWhole) {x : Vec Ideal S256x256 .bf16} {r : ℕ → ℕ → ℝ} (h : Rep (n0 := 256) (n1 := 256) (φ := .bf16) x (fun a b => r a.val b.val))
    (inb : ∀ a, (![0, o] : Fin 2 → ℕ) a + (![256, m1] : Fin 2 → ℕ) a ≤ S256x256.size a) :
    Rep (n0 := 256) (n1 := m1) (φ := .bf16) (View.readAt (Elt Ideal) mem.view (Rect.unit (s := S256x256) ![0, o] ![256, m1] inb).toLoadRect (hw.unread x)) (fun a b => r a.val (o + b.val)) := by
  rw [View.readAt_unit mem.view _ inb rfl inb, hw.read_unread]
  exact (rep_window (m0 := 256) (m1 := m1) h 0 o inb).congr fun a b => by rw [Nat.zero_add]

theorem rep_block32 {o m1 : ℕ} {mem : Memref sig .tc .vmem S256x256 .f32} (hw : mem.IsWhole) {x : Vec Ideal S256x256 .f32} {r : ℕ → ℕ → ℝ} (h : Rep (n0 := 256) (n1 := 256) (φ := .f32) x (fun a b => r a.val b.val))
    (inb : ∀ a, (![0, o] : Fin 2 → ℕ) a + (![256, m1] : Fin 2 → ℕ) a ≤ S256x256.size a) :
    Rep (n0 := 256) (n1 := m1) (φ := .f32) (View.readAt (Elt Ideal) mem.view (Rect.unit (s := S256x256) ![0, o] ![256, m1] inb).toLoadRect (hw.unread x)) (fun a b => r a.val (o + b.val)) := by
  rw [View.readAt_unit mem.view _ inb rfl inb, hw.read_unread]
  exact (rep_window (m0 := 256) (m1 := m1) h 0 o inb).congr fun a b => by rw [Nat.zero_add]

/-- The two halves of a block of the gradient of the queries, side by side and scaled. -/
theorem rep_pay2 {x y : FVec Ideal S256x128 .f32} {r : Fin 256 → ℕ → ℕ → ℝ} (hx : Rep x (fun q d => r q 0 d.val)) (hy : Rep y (fun q d => r q 1 d.val)) :
    Rep (k0_pay2 x y) (fun q l => r q (l.val / 128) (l.val % 128) * (1 / 8)) := by
  unfold k0_pay2
  refine (Rep.mulf ?_ (y := broadcast S256x256 (Scalar.ofBits (F := Ideal) .f32 0x3E000000#32)) (s := fun _ _ => 1 / 8) fun a b => ofBits_eighth).truncf bitsLt_bf16_f32
  intro a b
  by_cases h : b.val < 128
  · have e : concatenate S256x256 1 [⟨S256x128, x⟩, ⟨S256x128, y⟩] concatenates_S256x128_S256x128_S256x256_d1 (ValueIdx.ix2 a b) = x (ValueIdx.ix2 a ⟨b.val, h⟩) := by
      pointwise
      simp [h]
      rfl
    rw [e, hx]
    simp only [show b.val / 128 = 0 by omega, show b.val % 128 = b.val by omega]
  · have e : concatenate S256x256 1 [⟨S256x128, x⟩, ⟨S256x128, y⟩] concatenates_S256x128_S256x128_S256x256_d1 (ValueIdx.ix2 a b) = y (ValueIdx.ix2 a ⟨b.val - 128, by omega⟩) := by
      pointwise
      simp [h]
      rfl
    rw [e, hy]
    simp only [show b.val / 128 = 1 by omega, show b.val % 128 = b.val - 128 by omega]

theorem blkK_of_le {Q K V O : ℕ → ℕ → ℝ} {i s c : ℕ} (h : 256 * i + 256 ≤ s) : blkK Q K V O i s c = 0 := by
  unfold blkK dkT dz
  refine Finset.sum_eq_zero fun q _ => ?_
  have := q.isLt
  have e : ∀ Z D, rDz Z D (256 * i + q.val) s = 0 := fun Z D => rDz_of_le Z D (by omega)
  rw [e, e, zero_mul, zero_mul, add_zero]

theorem blkV_of_le {Q K O : ℕ → ℕ → ℝ} {i s c : ℕ} (h : 256 * i + 256 ≤ s) : blkV Q K O i s c = 0 := by
  unfold blkV dvT wt
  refine Finset.sum_eq_zero fun q _ => ?_
  have := q.isLt
  have e : ∀ Z, rA Z (256 * i + q.val) s = 0 := fun Z => rA_of_le Z (by omega)
  rw [e, e, zero_mul, zero_mul, add_zero]

theorem fill {w u : ℝ} {n : ℕ} {s : ℕ} (h : n + 256 ≤ s → u = 0) :
    (w + if s < n then u else 0) + (if n ≤ s ∧ s < n + 256 then u else 0) = w + u := by
  by_cases h1 : s < n
  · simp [h1, show ¬ n ≤ s by omega]
  · by_cases h2 : s < n + 256
    · simp [h1, h2, show n ≤ s by omega]
    · simp [h1, h2, h (by omega)]

/-- What a grid point is given. -/
structure PointIn (Q0 Q K V O T : ℕ → ℕ → ℝ) (i : ℕ) (x0 : FVec Ideal S256x256 .bf16) (x1 x2 : FVec Ideal S4352x256 .bf16) (x3 : FVec Ideal S256x256 .f32) (x4 x5 x6 : FVec Ideal S256x256 .bf16) : Prop where
  scale : ∀ t c, Q t c = Q0 t c * (1 / 8)
  tot : ∀ h < 4, ∀ q : Fin 256, T (256 * i + q.val) (64 * h) = rTail (sc Q K h) (256 * i + q.val) 0
  q : Rep x0 (fun a c => Q0 (256 * i + a.val) c.val)
  k : Rep x1 (fun s c => K s.val c.val)
  v : Rep x2 (fun s c => V s.val c.val)
  t : Rep x3 (fun a c => T (256 * i + a.val) c.val)
  o : Rep x4 (fun a c => O (256 * i + a.val) c.val)
  up : Rep x5 rUp
  low : Rep x6 rLow

section Point
variable (c : Dev nD) (i : grid0.Coords) (arg2 : Memref sig .tc .vmem S256x256 .bf16) (w2 : arg2.IsWhole) (arg3 : Memref sig .tc .vmem S4352x256 .bf16) (w3 : arg3.IsWhole) (arg4 : Memref sig .tc .vmem S4352x256 .bf16) (w4 : arg4.IsWhole) (arg5 : Memref sig .tc .vmem S256x256 .f32) (w5 : arg5.IsWhole) (arg6 : Memref sig .tc .vmem S256x256 .bf16) (w6 : arg6.IsWhole) (arg7 : Memref sig .tc .vmem S256x256 .bf16) (w7 : arg7.IsWhole) (arg8 : Memref sig .tc .vmem S256x256 .bf16) (w8 : arg8.IsWhole) (arg9 : Memref sig .tc .vmem S256x256 .bf16) (w9 : arg9.IsWhole) (arg10 : Memref sig .tc .vmem S4352x256 .bf16) (w10 : arg10.IsWhole) (arg11 : Memref sig .tc .vmem S4352x256 .bf16) (w11 : arg11.IsWhole) (arg12 : Memref sig .tc .vmem S4352x256 .f32) (w12 : arg12.IsWhole) (arg13 : Memref sig .tc .vmem S4352x256 .f32) (w13 : arg13.IsWhole)
  (x0 : Vec Ideal S256x256 .bf16) (x1 x2 : Vec Ideal S4352x256 .bf16) (x3 : Vec Ideal S256x256 .f32) (x4 x5 x6 : Vec Ideal S256x256 .bf16) (G12 : BufTy.Contents (Elt Ideal) arg12.view.ty) (G13 : BufTy.Contents (Elt Ideal) arg13.view.ty)

variable {Q0 Q K V O T W12 W13 : ℕ → ℕ → ℝ} (hp : PointIn Q0 Q K V O T (i 1).val x0 x1 x2 x3 x4 x5 x6)
  (h12 : Rep (n0 := 4352) (n1 := 256) (φ := .f32) (arg12.view.read (Elt Ideal) G12) (fun s c => W12 s.val c.val))
  (h13 : Rep (n0 := 4352) (n1 := 256) (φ := .f32) (arg13.view.read (Elt Ideal) G13) (fun s c => W13 s.val c.val))
include hp h12 h13

/-- The grid point's block of the gradient of the queries, and its shares of the other two. -/
theorem point_rep :
    Rep (n0 := 256) (n1 := 256) (φ := .bf16) (dqF c i _ w2 _ w3 _ w4 _ w5 _ w6 _ w7 _ w8 _ w9 _ w10 _ w11 _ w12 _ w13 x0 x1 x2 x3 x4 x5 x6 G12 G13) (fun q l => (∑ s ∈ Finset.range (256 * ((i 1).val + 1)), dqT Q K V O (l.val / 128) (256 * (i 1).val + q.val) s (l.val % 128)) * (1 / 8))
    ∧ Rep (n0 := 4352) (n1 := 256) (φ := .f32) (arg12.view.read (Elt Ideal) (arg12.view.writes (Elt Ideal) G12 (fin12 c i _ w2 _ w3 _ w4 _ w5 _ w6 _ w7 _ w8 _ w9 _ w10 _ w11 _ w12 _ w13 x0 x1 x2 x3 x4 x5 x6 G12 G13)))
        (fun s l => W12 s.val l.val + blkK Q K V O (i 1).val s.val l.val)
    ∧ Rep (n0 := 4352) (n1 := 256) (φ := .f32) (arg13.view.read (Elt Ideal) (arg13.view.writes (Elt Ideal) G13 (fin13 c i _ w2 _ w3 _ w4 _ w5 _ w6 _ w7 _ w8 _ w9 _ w10 _ w11 _ w12 _ w13 x0 x1 x2 x3 x4 x5 x6 G12 G13)))
        (fun s l => W13 s.val l.val + blkV Q K O (i 1).val s.val l.val) := by
  have hi1 : (i 1).val < 17 := (i 1).isLt
  have hj : 256 * (i 1).val + 256 ≤ 4352 := by omega
  have inb : ∀ a, (![256 * (i 1).val, 0] : Fin 2 → ℕ) a + S256x256.size a ≤ S4352x256.size a := fun a => by
    match a with
    | 0 => exact hj
    | 1 => exact le_refl 256
  have bq : Rep (n0 := 256) (n1 := 256) (φ := .bf16) (ld w2 x0) (fun a c => Q0 (256 * (i 1).val + a.val) c.val) :=
    (rep_block w2 (r := fun a c => Q0 (256 * (i 1).val + a) c) hp.q inb_S256x256_S256x256_0_0).congr fun a b => by rw [Nat.zero_add]
  have bo : Rep (n0 := 256) (n1 := 256) (φ := .bf16) (ld w6 x4) (fun a c => O (256 * (i 1).val + a.val) c.val) :=
    (rep_block w6 (r := fun a c => O (256 * (i 1).val + a) c) hp.o inb_S256x256_S256x256_0_0).congr fun a b => by rw [Nat.zero_add]
  have bu : Rep (n0 := 256) (n1 := 256) (φ := .bf16) (ld w7 x5) rUp :=
    (rep_block w7 (r := fun a b => if a ≤ b then 1 else 0) hp.up inb_S256x256_S256x256_0_0).congr fun a b => by rw [Nat.zero_add]
  have bl : Rep (n0 := 256) (n1 := 256) (φ := .bf16) (ld w8 x6) rLow :=
    (rep_block w8 (r := fun a b => if b < a then 1 else 0) hp.low inb_S256x256_S256x256_0_0).congr fun a b => by rw [Nat.zero_add]
  have b0 : Rep (n0 := 256) (n1 := 128) (φ := .f32) (View.readAt (Elt Ideal) arg5.view (Rect.unit (s := S256x256) ![0, 0] S256x128.size inb_S256x256_S256x128_0_0).toLoadRect (w5.unread x3)) (fun a c => T (256 * (i 1).val + a.val) c.val) :=
    (rep_block32 w5 (m1 := 128) (r := fun a c => T (256 * (i 1).val + a) c) hp.t inb_S256x256_S256x128_0_0).congr fun a b => by rw [Nat.zero_add]
  have b1 : Rep (n0 := 256) (n1 := 128) (φ := .f32) (View.readAt (Elt Ideal) arg5.view (Rect.unit (s := S256x256) ![0, 128] S256x128.size inb_S256x256_S256x128_0_128).toLoadRect (w5.unread x3)) (fun a c => T (256 * (i 1).val + a.val) (128 + c.val)) :=
    rep_block32 w5 (m1 := 128) (r := fun a c => T (256 * (i 1).val + a) c) hp.t inb_S256x256_S256x128_0_128
  have hin := query_in hp.scale bq bo bu bl
  have hK : Rep (n0 := 4352) (n1 := 256) (φ := .bf16) (arg3.view.read (Elt Ideal) (w3.unread x1)) (fun s c => K s.val c.val) := by
    rw [w3.read_unread]; exact hp.k
  have hV : Rep (n0 := 4352) (n1 := 256) (φ := .bf16) (arg4.view.read (Elt Ideal) (w4.unread x2)) (fun s c => V s.val c.val) := by
    rw [w4.read_unread]; exact hp.v
  obtain ⟨hc, ha, hb⟩ := lst_rep c i _ w2 _ w3 _ w4 _ w5 _ w6 _ w7 _ w8 _ w9 _ w10 _ w11 _ w12 _ w13 _ _ _ _ _ _ _ _ G12 G13 hin hK hV h12 h13 (carry_ini hp.tot b0 b1) (i 1).val (le_refl _)
  have hkd : Rep (kdOf i arg3 (w3.unread x1)) (fun a b => K (256 * (i 1).val + a.val) b.val) := by
    have := rep_window (m0 := 256) (m1 := 256) hK (256 * (i 1).val) 0 inb
    rw [← View.readAt_unit arg3.view (w3.unread x1) (k0_off7_inb i) (k0_off7_eq i) inb] at this
    exact this.congr fun a b => by rw [Nat.zero_add]
  have hvd : Rep (vdOf i arg4 (w4.unread x2)) (fun a b => V (256 * (i 1).val + a.val) b.val) := by
    have := rep_window (m0 := 256) (m1 := 256) hV (256 * (i 1).val) 0 inb
    rw [← View.readAt_unit arg4.view (w4.unread x2) (k0_off7_inb i) (k0_off7_eq i) inb] at this
    exact this.congr fun a b => by rw [Nat.zero_add]
  have hs := sel_diag (i 1).val
  refine ⟨?_, ?_, ?_⟩
  · have hcar := tile_carry hj hs hin hkd hvd hc
    exact rep_pay2 (r := fun q b d => ∑ s ∈ Finset.range (256 * (i 1).val + 256), dqT Q K V O b (256 * (i 1).val + q.val) s d) hcar.d0 hcar.d1
  · refine (writes_accum' arg12 G12 _ (r := fun s l => W12 s l + if s < 256 * (i 1).val then blkK Q K V O (i 1).val s l else 0) (u := fun s l => blkK Q K V O (i 1).val s l) (i 1).val hj (k0_off8_eq i) (k0_off9_eq i) (k0_off8_inb i) (k0_off9_inb i) ha
      ((tile_K0 hj hs hin hkd hvd hc).congr fun a b => by
        have := b.isLt
        simp only [blkK, Nat.zero_add, show b.val / 128 = 0 by omega, show b.val % 128 = b.val by omega])
      ((tile_K1 hj hs hin hkd hvd hc).congr fun a b => by
        have := b.isLt
        simp only [blkK, show (128 + b.val) / 128 = 1 by omega, show (128 + b.val) % 128 = b.val by omega])
      _ rfl).congr fun a b => ?_
    exact fill fun h => blkK_of_le h
  · refine (writes_accum' arg13 G13 _ (r := fun s l => W13 s l + if s < 256 * (i 1).val then blkV Q K O (i 1).val s l else 0) (u := fun s l => blkV Q K O (i 1).val s l) (i 1).val hj (k0_off8_eq i) (k0_off9_eq i) (k0_off8_inb i) (k0_off9_inb i) hb
      ((tile_V0 hj hs hin hkd hvd hc).congr fun a b => by
        have := b.isLt
        simp only [blkV, Nat.zero_add, show b.val / 128 = 0 by omega, show b.val % 128 = b.val by omega])
      ((tile_V1 hj hs hin hkd hvd hc).congr fun a b => by
        have := b.isLt
        simp only [blkV, show (128 + b.val) / 128 = 1 by omega, show (128 + b.val) % 128 = b.val by omega])
      _ rfl).congr fun a b => ?_
    exact fill fun h => blkV_of_le h
end Point

end Cert.Att

end
-- ==== Proof.RunA.lean ====
/- What one grid point stores, case A: the generated words, as the loop's state and the diagonal tile. -/
module

public import proofs.«01_k».proof.Proof.Run
public import proofs.«01_k».proof.Proof.Gen.KernelIdeal.Frame.RunA

@[expose] public section

set_option maxRecDepth 16384

noncomputable section

namespace Cert.Att

open Idealize.ShloMosaic Cert.KernelIdeal Gen

variable {F : FTy → Type} [FloatOps F]
variable (c : Dev nD) (i : grid0.Coords) (arg2 : Memref sig .tc .vmem S256x256 .bf16) (w2 : arg2.IsWhole) (arg3 : Memref sig .tc .vmem S4352x256 .bf16) (w3 : arg3.IsWhole) (arg4 : Memref sig .tc .vmem S4352x256 .bf16) (w4 : arg4.IsWhole) (arg5 : Memref sig .tc .vmem S256x256 .f32) (w5 : arg5.IsWhole) (arg6 : Memref sig .tc .vmem S256x256 .bf16) (w6 : arg6.IsWhole) (arg7 : Memref sig .tc .vmem S256x256 .bf16) (w7 : arg7.IsWhole) (arg8 : Memref sig .tc .vmem S256x256 .bf16) (w8 : arg8.IsWhole) (arg9 : Memref sig .tc .vmem S256x256 .bf16) (w9 : arg9.IsWhole) (arg10 : Memref sig .tc .vmem S4352x256 .bf16) (w10 : arg10.IsWhole) (arg11 : Memref sig .tc .vmem S4352x256 .bf16) (w11 : arg11.IsWhole) (arg12 : Memref sig .tc .vmem S4352x256 .f32) (w12 : arg12.IsWhole) (arg13 : Memref sig .tc .vmem S4352x256 .f32) (w13 : arg13.IsWhole) (hc0 : cond0_0 i) (hc1 : ¬cond0_1 i)
  (x0 : Vec F S256x256 .bf16) (x1 x2 : Vec F S4352x256 .bf16) (x3 : Vec F S256x256 .f32) (x4 x5 x6 : Vec F S256x256 .bf16)

set_option backward.proofsInPublic true

theorem wA15 : (kernelRun0_A.sl.r_15 (F := F) c i _ w2 _ w3 _ w4 _ w5 _ w6 _ w7 _ w8 _ w9 _ w10 _ w11 _ w12 _ w13 x0 x1 x2 x3 x4 x5 x6) = (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1.1 := by
  unfold kernelRun0_A.sl.r_15
  rw [trips_t2, trips_t1]
  rfl

theorem wA16 : (kernelRun0_A.sl.r_16 (F := F) c i _ w2 _ w3 _ w4 _ w5 _ w6 _ w7 _ w8 _ w9 _ w10 _ w11 _ w12 _ w13 x0 x1 x2 x3 x4 x5 x6) = (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1.2.1 := by
  unfold kernelRun0_A.sl.r_16
  rw [trips_t2, trips_t1]
  rfl

theorem wA17 : (kernelRun0_A.sl.r_17 (F := F) c i _ w2 _ w3 _ w4 _ w5 _ w6 _ w7 _ w8 _ w9 _ w10 _ w11 _ w12 _ w13 x0 x1 x2 x3 x4 x5 x6) = (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1.2.2.1 := by
  unfold kernelRun0_A.sl.r_17
  rw [trips_t2, trips_t1]
  rfl

theorem wA18 : (kernelRun0_A.sl.r_18 (F := F) c i _ w2 _ w3 _ w4 _ w5 _ w6 _ w7 _ w8 _ w9 _ w10 _ w11 _ w12 _ w13 x0 x1 x2 x3 x4 x5 x6) = (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1.2.2.2.1 := by
  unfold kernelRun0_A.sl.r_18
  rw [trips_t2, trips_t1]
  rfl

theorem wA19 : (kernelRun0_A.sl.r_19 (F := F) c i _ w2 _ w3 _ w4 _ w5 _ w6 _ w7 _ w8 _ w9 _ w10 _ w11 _ w12 _ w13 x0 x1 x2 x3 x4 x5 x6) = (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1.2.2.2.2.1 := by
  unfold kernelRun0_A.sl.r_19
  rw [trips_t2, trips_t1]
  rfl

theorem wA20 : (kernelRun0_A.sl.r_20 (F := F) c i _ w2 _ w3 _ w4 _ w5 _ w6 _ w7 _ w8 _ w9 _ w10 _ w11 _ w12 _ w13 x0 x1 x2 x3 x4 x5 x6) = (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1.2.2.2.2.2.1 := by
  unfold kernelRun0_A.sl.r_20
  rw [trips_t2, trips_t1]
  rfl

theorem wA21 : (kernelRun0_A.sl.r_21 (F := F) c i _ w2 _ w3 _ w4 _ w5 _ w6 _ w7 _ w8 _ w9 _ w10 _ w11 _ w12 _ w13 x0 x1 x2 x3 x4 x5 x6) = (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1.2.2.2.2.2.2.1 := by
  unfold kernelRun0_A.sl.r_21
  rw [trips_t2, trips_t1]
  rfl

theorem wA22 : (kernelRun0_A.sl.r_22 (F := F) c i _ w2 _ w3 _ w4 _ w5 _ w6 _ w7 _ w8 _ w9 _ w10 _ w11 _ w12 _ w13 x0 x1 x2 x3 x4 x5 x6) = (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1.2.2.2.2.2.2.2.1 := by
  unfold kernelRun0_A.sl.r_22
  rw [trips_t2, trips_t1]
  rfl

theorem wA23 : (kernelRun0_A.sl.r_23 (F := F) c i _ w2 _ w3 _ w4 _ w5 _ w6 _ w7 _ w8 _ w9 _ w10 _ w11 _ w12 _ w13 x0 x1 x2 x3 x4 x5 x6) = (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1.2.2.2.2.2.2.2.2.1 := by
  unfold kernelRun0_A.sl.r_23
  rw [trips_t2, trips_t1]
  rfl

theorem wA24 : (kernelRun0_A.sl.r_24 (F := F) c i _ w2 _ w3 _ w4 _ w5 _ w6 _ w7 _ w8 _ w9 _ w10 _ w11 _ w12 _ w13 x0 x1 x2 x3 x4 x5 x6) = (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1.2.2.2.2.2.2.2.2.2 := by
  unfold kernelRun0_A.sl.r_24
  rw [trips_t2, trips_t1]
  rfl

theorem wA46 : (kernelRun0_A.sl.r_46 (F := F) c i _ w2 _ w3 _ w4 _ w5 _ w6 _ w7 _ w8 _ w9 _ w10 _ w11 _ w12 _ w13 x0 x1 x2 x3 x4 x5 x6) = tileA0 selD (k0_pay158 (ld w7 x5)) (k0_pay142 (ld w2 x0)) (kdOf i arg3 (w3.unread x1)) (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1 := by
  unfold kernelRun0_A.sl.r_46 kernelRun0_A.sl.r_27 kernelRun0_A.sl.r_37
  rw [wA15]
  rfl

theorem wA49 : (kernelRun0_A.sl.r_49 (F := F) c i _ w2 _ w3 _ w4 _ w5 _ w6 _ w7 _ w8 _ w9 _ w10 _ w11 _ w12 _ w13 x0 x1 x2 x3 x4 x5 x6) = tileA1 selD (k0_pay158 (ld w7 x5)) (k0_pay143 (ld w2 x0)) (kdOf i arg3 (w3.unread x1)) (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1 := by
  unfold kernelRun0_A.sl.r_49 kernelRun0_A.sl.r_30 kernelRun0_A.sl.r_40 kernelRun0_A.sl.r_48 kernelRun0_A.sl.r_39 kernelRun0_A.sl.r_29
  rw [wA16]
  rfl

theorem wA51 : (kernelRun0_A.sl.r_51 (F := F) c i _ w2 _ w3 _ w4 _ w5 _ w6 _ w7 _ w8 _ w9 _ w10 _ w11 _ w12 _ w13 x0 x1 x2 x3 x4 x5 x6) = tileA2 selD (k0_pay158 (ld w7 x5)) (k0_pay144 (ld w2 x0)) (kdOf i arg3 (w3.unread x1)) (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1 := by
  unfold kernelRun0_A.sl.r_51 kernelRun0_A.sl.r_32 kernelRun0_A.sl.r_42
  rw [wA17]
  rfl

theorem wA54 : (kernelRun0_A.sl.r_54 (F := F) c i _ w2 _ w3 _ w4 _ w5 _ w6 _ w7 _ w8 _ w9 _ w10 _ w11 _ w12 _ w13 x0 x1 x2 x3 x4 x5 x6) = tileA3 selD (k0_pay158 (ld w7 x5)) (k0_pay145 (ld w2 x0)) (kdOf i arg3 (w3.unread x1)) (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1 := by
  unfold kernelRun0_A.sl.r_54 kernelRun0_A.sl.r_34 kernelRun0_A.sl.r_44
  rw [wA18]
  rfl

theorem wA56 : (kernelRun0_A.sl.r_56 (F := F) c i _ w2 _ w3 _ w4 _ w5 _ w6 _ w7 _ w8 _ w9 _ w10 _ w11 _ w12 _ w13 x0 x1 x2 x3 x4 x5 x6) = tileDz0 selD (k0_pay158 (ld w7 x5)) (k0_pay159 (ld w8 x6)) (k0_pay142 (ld w2 x0)) (k0_pay146 (ld w6 x4)) (kdOf i arg3 (w3.unread x1)) (vdOf i arg4 (w4.unread x2)) (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1 := by
  unfold kernelRun0_A.sl.r_56 kernelRun0_A.sl.r_45 kernelRun0_A.sl.r_47 kernelRun0_A.sl.r_36 kernelRun0_A.sl.r_27 kernelRun0_A.sl.r_28 kernelRun0_A.sl.r_37
  rw [wA19, wA15]
  rfl

theorem wA58 : (kernelRun0_A.sl.r_58 (F := F) c i _ w2 _ w3 _ w4 _ w5 _ w6 _ w7 _ w8 _ w9 _ w10 _ w11 _ w12 _ w13 x0 x1 x2 x3 x4 x5 x6) = tileDz2 selD (k0_pay158 (ld w7 x5)) (k0_pay159 (ld w8 x6)) (k0_pay144 (ld w2 x0)) (k0_pay149 k0_pay137 (ld w6 x4)) (kdOf i arg3 (w3.unread x1)) (vdOf i arg4 (w4.unread x2)) (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1 := by
  unfold kernelRun0_A.sl.r_58 kernelRun0_A.sl.r_50 kernelRun0_A.sl.r_52 kernelRun0_A.sl.r_41 kernelRun0_A.sl.r_32 kernelRun0_A.sl.r_33 kernelRun0_A.sl.r_42
  rw [wA21, wA17]
  rfl

theorem wA59 : (kernelRun0_A.sl.r_59 (F := F) c i _ w2 _ w3 _ w4 _ w5 _ w6 _ w7 _ w8 _ w9 _ w10 _ w11 _ w12 _ w13 x0 x1 x2 x3 x4 x5 x6) = tileDz3 selD (k0_pay158 (ld w7 x5)) (k0_pay159 (ld w8 x6)) (k0_pay145 (ld w2 x0)) (k0_pay150 k0_pay138 (ld w6 x4)) (kdOf i arg3 (w3.unread x1)) (vdOf i arg4 (w4.unread x2)) (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1 := by
  unfold kernelRun0_A.sl.r_59 kernelRun0_A.sl.r_53 kernelRun0_A.sl.r_55 kernelRun0_A.sl.r_43 kernelRun0_A.sl.r_34 kernelRun0_A.sl.r_35 kernelRun0_A.sl.r_44
  rw [wA22, wA18]
  rfl

theorem wA57 : k0_pay203 (kernelRun0_A.sl.r_57 (F := F) c i _ w2 _ w3 _ w4 _ w5 _ w6 _ w7 _ w8 _ w9 _ w10 _ w11 _ w12 _ w13 x0 x1 x2 x3 x4 x5 x6) = tileDz1 selD (k0_pay158 (ld w7 x5)) (k0_pay159 (ld w8 x6)) (k0_pay143 (ld w2 x0)) (k0_pay148 k0_pay138 (k0_pay147 (ld w6 x4))) (kdOf i arg3 (w3.unread x1)) (vdOf i arg4 (w4.unread x2)) (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).1 := by
  unfold kernelRun0_A.sl.r_57 kernelRun0_A.sl.r_30 kernelRun0_A.sl.r_31 kernelRun0_A.sl.r_38 kernelRun0_A.sl.r_40 kernelRun0_A.sl.r_48 kernelRun0_A.sl.r_39 kernelRun0_A.sl.r_29
  rw [wA16, wA20]
  rfl

theorem wA61 : (kernelRun0_A.sl.r_61 (F := F) c i _ w2 _ w3 _ w4 _ w5 _ w6 _ w7 _ w8 _ w9 _ w10 _ w11 _ w12 _ w13 x0 x1 x2 x3 x4 x5 x6) = dK0 c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F))) := by
  unfold kernelRun0_A.sl.r_61
  show tKV (kernelRun0_A.sl.r_56 (F := F) c i _ w2 _ w3 _ w4 _ w5 _ w6 _ w7 _ w8 _ w9 _ w10 _ w11 _ w12 _ w13 x0 x1 x2 x3 x4 x5 x6) (k0_pay203 (kernelRun0_A.sl.r_57 (F := F) c i _ w2 _ w3 _ w4 _ w5 _ w6 _ w7 _ w8 _ w9 _ w10 _ w11 _ w12 _ w13 x0 x1 x2 x3 x4 x5 x6)) (k0_pay142 (ld w2 x0)) (k0_pay143 (ld w2 x0)) = _
  rw [wA56, wA57]
  rfl

theorem wA62 : (kernelRun0_A.sl.r_62 (F := F) c i _ w2 _ w3 _ w4 _ w5 _ w6 _ w7 _ w8 _ w9 _ w10 _ w11 _ w12 _ w13 x0 x1 x2 x3 x4 x5 x6) = dV0 c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F))) := by
  unfold kernelRun0_A.sl.r_62
  rw [wA46, wA49]
  rfl

theorem wA65 : (kernelRun0_A.sl.r_65 (F := F) c i _ w2 _ w3 _ w4 _ w5 _ w6 _ w7 _ w8 _ w9 _ w10 _ w11 _ w12 _ w13 x0 x1 x2 x3 x4 x5 x6) = dV1 c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F))) := by
  unfold kernelRun0_A.sl.r_65
  rw [wA51, wA54]
  rfl

theorem wA64 : (kernelRun0_A.sl.r_64 (F := F) c i _ w2 _ w3 _ w4 _ w5 _ w6 _ w7 _ w8 _ w9 _ w10 _ w11 _ w12 _ w13 x0 x1 x2 x3 x4 x5 x6) = (carF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).2.2.2.2.2.2.2.2.1 := by
  unfold kernelRun0_A.sl.r_64 kernelRun0_A.sl.r_60 kernelRun0_A.sl.r_63
  show tQ k0_pay137 k0_pay138 (kernelRun0_A.sl.r_23 (F := F) c i _ w2 _ w3 _ w4 _ w5 _ w6 _ w7 _ w8 _ w9 _ w10 _ w11 _ w12 _ w13 x0 x1 x2 x3 x4 x5 x6) (kernelRun0_A.sl.r_56 (F := F) c i _ w2 _ w3 _ w4 _ w5 _ w6 _ w7 _ w8 _ w9 _ w10 _ w11 _ w12 _ w13 x0 x1 x2 x3 x4 x5 x6) (k0_pay203 (kernelRun0_A.sl.r_57 (F := F) c i _ w2 _ w3 _ w4 _ w5 _ w6 _ w7 _ w8 _ w9 _ w10 _ w11 _ w12 _ w13 x0 x1 x2 x3 x4 x5 x6)) (lo (kdOf i arg3 (w3.unread x1))) = _
  rw [wA23, wA56, wA57]
  rfl

theorem wA66 : (kernelRun0_A.sl.r_66 (F := F) c i _ w2 _ w3 _ w4 _ w5 _ w6 _ w7 _ w8 _ w9 _ w10 _ w11 _ w12 _ w13 x0 x1 x2 x3 x4 x5 x6) = (carF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).2.2.2.2.2.2.2.2.2 := by
  unfold kernelRun0_A.sl.r_66
  rw [wA24, wA58, wA59]
  rfl

theorem wAH0 : (kernelRun0_A.sl.HS0_1_1 (F := F) c i _ w2 _ w3 _ w4 _ w5 _ w6 _ w7 _ w8 _ w9 _ w10 _ w11 _ w12 _ w13 x0 x1 x2 x3 x4 x5 x6) = p12 c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F))) :: ((lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).2.1 ++ kernelRun0_A.sl.HS0_1 (F := F)) := by
  unfold kernelRun0_A.sl.HS0_1_1 kernelRun0_A.sl.v335
  rw [wA61, trips_t2, trips_t1]
  refine Eq.trans (congrArg (fun l => (⟨Rect.unit (s := S4352x256) (k0_off8 i) S256x128.size (k0_off8_inb i), k0_pay215 (dK0 c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))) (View.readAt (Elt F) arg12.view (Rect.unit (s := S4352x256) (k0_off8 i) S256x128.size (k0_off8_inb i)).toLoadRect (arg12.view.writes (Elt F) arg12.view.junk l))⟩ : View.Piece (Elt F) S4352x256 .f32) :: l) (?_ : _ = ((lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).2.1 ++ kernelRun0_A.sl.HS0_1 (F := F)))) ?_
  · exact List.nil_append _
  · dsimp only
    rw [View.writes_append]
    rfl

theorem wAH1 : (kernelRun0_A.sl.HS1_1_1 (F := F) c i _ w2 _ w3 _ w4 _ w5 _ w6 _ w7 _ w8 _ w9 _ w10 _ w11 _ w12 _ w13 x0 x1 x2 x3 x4 x5 x6) = p13 c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F))) :: ((lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).2.2 ++ kernelRun0_A.sl.HS1_1 (F := F)) := by
  unfold kernelRun0_A.sl.HS1_1_1 kernelRun0_A.sl.v342
  rw [wA62, trips_t2, trips_t1]
  refine Eq.trans (congrArg (fun l => (⟨Rect.unit (s := S4352x256) (k0_off8 i) S256x128.size (k0_off8_inb i), k0_pay216 (dV0 c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))) (View.readAt (Elt F) arg13.view (Rect.unit (s := S4352x256) (k0_off8 i) S256x128.size (k0_off8_inb i)).toLoadRect (arg13.view.writes (Elt F) arg13.view.junk l))⟩ : View.Piece (Elt F) S4352x256 .f32) :: l) (?_ : _ = ((lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).2.2 ++ kernelRun0_A.sl.HS1_1 (F := F)))) ?_
  · exact List.nil_append _
  · dsimp only
    rw [View.writes_append]
    rfl

/-- The stored block of the gradient of the queries. -/
theorem runA_q : (kernelRun0_A (F := F) c i _ w2 _ w3 _ w4 _ w5 _ w6 _ w7 _ w8 _ w9 _ w10 _ w11 _ w12 _ w13 hc0 hc1 x0 x1 x2 x3 x4 x5 x6).1 = [⟨Rect.unit (s := S256x256) ![0, 0] S256x256.size inb_S256x256_S256x256_0_0, dqF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))⟩] := by
  unfold kernelRun0_A
  dsimp only
  rw [wA64, wA66]
  rfl

/-- The stores into the keys' accumulator. -/
theorem runA_k : (kernelRun0_A (F := F) c i _ w2 _ w3 _ w4 _ w5 _ w6 _ w7 _ w8 _ w9 _ w10 _ w11 _ w12 _ w13 hc0 hc1 x0 x1 x2 x3 x4 x5 x6).2.2.2.1 = (fin12 c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F))) ++ kernelRun0_A.sl.HS0_1 (F := F)) := by
  unfold kernelRun0_A
  dsimp only
  unfold kernelRun0_A.sl.r_67
  rw [wAH0, wA58, wA59]
  have h : p12 c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F))) :: ((lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).2.1 ++ kernelRun0_A.sl.HS0_1 (F := F)) = (p12 c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F))) :: (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).2.1) ++ kernelRun0_A.sl.HS0_1 (F := F) := rfl
  rw [h, View.writes_append]
  rfl

/-- The stores into the values' accumulator. -/
theorem runA_v : (kernelRun0_A (F := F) c i _ w2 _ w3 _ w4 _ w5 _ w6 _ w7 _ w8 _ w9 _ w10 _ w11 _ w12 _ w13 hc0 hc1 x0 x1 x2 x3 x4 x5 x6).2.2.2.2.1 = (fin13 c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F))) ++ kernelRun0_A.sl.HS1_1 (F := F)) := by
  unfold kernelRun0_A
  dsimp only
  unfold kernelRun0_A.sl.v356
  rw [wAH1, wA65]
  have h : p13 c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F))) :: ((lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).2.2 ++ kernelRun0_A.sl.HS1_1 (F := F)) = (p13 c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F))) :: (lstF c i _ w2 _ w3 _ w4 _ w5 _ w6 _ w7 _ w8 _ w9 _ w10 _ w11 _ w12 _ w13 x0 x1 x2 x3 x4 x5 x6 (arg12.view.writes (Elt F) arg12.view.junk (kernelRun0_A.sl.HS0_1 (F := F))) (arg13.view.writes (Elt F) arg13.view.junk (kernelRun0_A.sl.HS1_1 (F := F)))).2.2) ++ kernelRun0_A.sl.HS1_1 (F := F) := rfl
  rw [h, View.writes_append]
  rfl

end Cert.Att

end
-- ==== Proof.RunB.lean ====
/- What one grid point stores, case B: the generated words, as the loop's state and the diagonal tile. -/
module

public import proofs.«01_k».proof.Proof.Run
public import proofs.«01_k».proof.Proof.Gen.KernelIdeal.Frame.RunB

@[expose] public section

set_option maxRecDepth 16384

noncomputable section

namespace Cert.Att

open Idealize.ShloMosaic Cert.KernelIdeal Gen

variable {F : FTy → Type} [FloatOps F]
variable (c : Dev nD) (i : grid0.Coords) (arg2 : Memref sig .tc .vmem S256x256 .bf16) (w2 : arg2.IsWhole) (arg3 : Memref sig .tc .vmem S4352x256 .bf16) (w3 : arg3.IsWhole) (arg4 : Memref sig .tc .vmem S4352x256 .bf16) (w4 : arg4.IsWhole) (arg5 : Memref sig .tc .vmem S256x256 .f32) (w5 : arg5.IsWhole) (arg6 : Memref sig .tc .vmem S256x256 .bf16) (w6 : arg6.IsWhole) (arg7 : Memref sig .tc .vmem S256x256 .bf16) (w7 : arg7.IsWhole) (arg8 : Memref sig .tc .vmem S256x256 .bf16) (w8 : arg8.IsWhole) (arg9 : Memref sig .tc .vmem S256x256 .bf16) (w9 : arg9.IsWhole) (arg10 : Memref sig .tc .vmem S4352x256 .bf16) (w10 : arg10.IsWhole) (arg11 : Memref sig .tc .vmem S4352x256 .bf16) (w11 : arg11.IsWhole) (arg12 : Memref sig .tc .vmem S4352x256 .f32) (w12 : arg12.IsWhole) (arg13 : Memref sig .tc .vmem S4352x256 .f32) (w13 : arg13.IsWhole) (hc0 : ¬cond0_0 i) (hc1 : ¬cond0_1 i)
  (x0 : Vec F S256x256 .bf16) (x1 x2 : Vec F S4352x256 .bf16) (x3 : Vec F S256x256 .f32) (x4 x5 x6 : Vec F S256x256 .bf16) (xs0 xs1 : Vec F S4352x256 .f32)

set_option backward.proofsInPublic true

theorem wB15 : (kernelRun0_B.sl.r_15 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.1 := by
  unfold kernelRun0_B.sl.r_15
  rw [trips_t2, trips_t1]
  rfl

theorem wB16 : (kernelRun0_B.sl.r_16 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.1 := by
  unfold kernelRun0_B.sl.r_16
  rw [trips_t2, trips_t1]
  rfl

theorem wB17 : (kernelRun0_B.sl.r_17 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.1 := by
  unfold kernelRun0_B.sl.r_17
  rw [trips_t2, trips_t1]
  rfl

theorem wB18 : (kernelRun0_B.sl.r_18 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.2.1 := by
  unfold kernelRun0_B.sl.r_18
  rw [trips_t2, trips_t1]
  rfl

theorem wB19 : (kernelRun0_B.sl.r_19 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.2.2.1 := by
  unfold kernelRun0_B.sl.r_19
  rw [trips_t2, trips_t1]
  rfl

theorem wB20 : (kernelRun0_B.sl.r_20 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.2.2.2.1 := by
  unfold kernelRun0_B.sl.r_20
  rw [trips_t2, trips_t1]
  rfl

theorem wB21 : (kernelRun0_B.sl.r_21 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.2.2.2.2.1 := by
  unfold kernelRun0_B.sl.r_21
  rw [trips_t2, trips_t1]
  rfl

theorem wB22 : (kernelRun0_B.sl.r_22 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.2.2.2.2.2.1 := by
  unfold kernelRun0_B.sl.r_22
  rw [trips_t2, trips_t1]
  rfl

theorem wB23 : (kernelRun0_B.sl.r_23 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.2.2.2.2.2.2.1 := by
  unfold kernelRun0_B.sl.r_23
  rw [trips_t2, trips_t1]
  rfl

theorem wB24 : (kernelRun0_B.sl.r_24 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.2.2.2.2.2.2.2 := by
  unfold kernelRun0_B.sl.r_24
  rw [trips_t2, trips_t1]
  rfl

theorem wB46 : (kernelRun0_B.sl.r_46 (F := F) c i _ w2 _ w3 _ w4 _ w5 _ w6 _ w7 _ w8 _ w9 _ w10 _ w11 _ w12 _ w13 x0 x1 x2 x3 x4 x5 x6 xs0 xs1) = tileA0 selD (k0_pay158 (ld w7 x5)) (k0_pay142 (ld w2 x0)) (kdOf i arg3 (w3.unread x1)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_B.sl.r_46 kernelRun0_B.sl.r_27 kernelRun0_B.sl.r_37
  rw [wB15]
  rfl

theorem wB49 : (kernelRun0_B.sl.r_49 (F := F) c i _ w2 _ w3 _ w4 _ w5 _ w6 _ w7 _ w8 _ w9 _ w10 _ w11 _ w12 _ w13 x0 x1 x2 x3 x4 x5 x6 xs0 xs1) = tileA1 selD (k0_pay158 (ld w7 x5)) (k0_pay143 (ld w2 x0)) (kdOf i arg3 (w3.unread x1)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_B.sl.r_49 kernelRun0_B.sl.r_30 kernelRun0_B.sl.r_40 kernelRun0_B.sl.r_48 kernelRun0_B.sl.r_39 kernelRun0_B.sl.r_29
  rw [wB16]
  rfl

theorem wB51 : (kernelRun0_B.sl.r_51 (F := F) c i _ w2 _ w3 _ w4 _ w5 _ w6 _ w7 _ w8 _ w9 _ w10 _ w11 _ w12 _ w13 x0 x1 x2 x3 x4 x5 x6 xs0 xs1) = tileA2 selD (k0_pay158 (ld w7 x5)) (k0_pay144 (ld w2 x0)) (kdOf i arg3 (w3.unread x1)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_B.sl.r_51 kernelRun0_B.sl.r_32 kernelRun0_B.sl.r_42
  rw [wB17]
  rfl

theorem wB54 : (kernelRun0_B.sl.r_54 (F := F) c i _ w2 _ w3 _ w4 _ w5 _ w6 _ w7 _ w8 _ w9 _ w10 _ w11 _ w12 _ w13 x0 x1 x2 x3 x4 x5 x6 xs0 xs1) = tileA3 selD (k0_pay158 (ld w7 x5)) (k0_pay145 (ld w2 x0)) (kdOf i arg3 (w3.unread x1)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_B.sl.r_54 kernelRun0_B.sl.r_34 kernelRun0_B.sl.r_44
  rw [wB18]
  rfl

theorem wB56 : (kernelRun0_B.sl.r_56 (F := F) c i _ w2 _ w3 _ w4 _ w5 _ w6 _ w7 _ w8 _ w9 _ w10 _ w11 _ w12 _ w13 x0 x1 x2 x3 x4 x5 x6 xs0 xs1) = tileDz0 selD (k0_pay158 (ld w7 x5)) (k0_pay159 (ld w8 x6)) (k0_pay142 (ld w2 x0)) (k0_pay146 (ld w6 x4)) (kdOf i arg3 (w3.unread x1)) (vdOf i arg4 (w4.unread x2)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_B.sl.r_56 kernelRun0_B.sl.r_45 kernelRun0_B.sl.r_47 kernelRun0_B.sl.r_36 kernelRun0_B.sl.r_27 kernelRun0_B.sl.r_28 kernelRun0_B.sl.r_37
  rw [wB19, wB15]
  rfl

theorem wB58 : (kernelRun0_B.sl.r_58 (F := F) c i _ w2 _ w3 _ w4 _ w5 _ w6 _ w7 _ w8 _ w9 _ w10 _ w11 _ w12 _ w13 x0 x1 x2 x3 x4 x5 x6 xs0 xs1) = tileDz2 selD (k0_pay158 (ld w7 x5)) (k0_pay159 (ld w8 x6)) (k0_pay144 (ld w2 x0)) (k0_pay149 k0_pay137 (ld w6 x4)) (kdOf i arg3 (w3.unread x1)) (vdOf i arg4 (w4.unread x2)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_B.sl.r_58 kernelRun0_B.sl.r_50 kernelRun0_B.sl.r_52 kernelRun0_B.sl.r_41 kernelRun0_B.sl.r_32 kernelRun0_B.sl.r_33 kernelRun0_B.sl.r_42
  rw [wB21, wB17]
  rfl

theorem wB59 : (kernelRun0_B.sl.r_59 (F := F) c i _ w2 _ w3 _ w4 _ w5 _ w6 _ w7 _ w8 _ w9 _ w10 _ w11 _ w12 _ w13 x0 x1 x2 x3 x4 x5 x6 xs0 xs1) = tileDz3 selD (k0_pay158 (ld w7 x5)) (k0_pay159 (ld w8 x6)) (k0_pay145 (ld w2 x0)) (k0_pay150 k0_pay138 (ld w6 x4)) (kdOf i arg3 (w3.unread x1)) (vdOf i arg4 (w4.unread x2)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_B.sl.r_59 kernelRun0_B.sl.r_53 kernelRun0_B.sl.r_55 kernelRun0_B.sl.r_43 kernelRun0_B.sl.r_34 kernelRun0_B.sl.r_35 kernelRun0_B.sl.r_44
  rw [wB22, wB18]
  rfl

theorem wB57 : k0_pay203 (kernelRun0_B.sl.r_57 (F := F) c i _ w2 _ w3 _ w4 _ w5 _ w6 _ w7 _ w8 _ w9 _ w10 _ w11 _ w12 _ w13 x0 x1 x2 x3 x4 x5 x6 xs0 xs1) = tileDz1 selD (k0_pay158 (ld w7 x5)) (k0_pay159 (ld w8 x6)) (k0_pay143 (ld w2 x0)) (k0_pay148 k0_pay138 (k0_pay147 (ld w6 x4))) (kdOf i arg3 (w3.unread x1)) (vdOf i arg4 (w4.unread x2)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_B.sl.r_57 kernelRun0_B.sl.r_30 kernelRun0_B.sl.r_31 kernelRun0_B.sl.r_38 kernelRun0_B.sl.r_40 kernelRun0_B.sl.r_48 kernelRun0_B.sl.r_39 kernelRun0_B.sl.r_29
  rw [wB16, wB20]
  rfl

theorem wB61 : (kernelRun0_B.sl.r_61 (F := F) c i _ w2 _ w3 _ w4 _ w5 _ w6 _ w7 _ w8 _ w9 _ w10 _ w11 _ w12 _ w13 x0 x1 x2 x3 x4 x5 x6 xs0 xs1) = dK0 c i _ w2 _ w3 _ w4 _ w5 _ w6 _ w7 _ w8 _ w9 _ w10 _ w11 _ w12 _ w13 x0 x1 x2 x3 x4 x5 x6 (w12.unread xs0) (w13.unread xs1) := by
  unfold kernelRun0_B.sl.r_61
  show tKV (kernelRun0_B.sl.r_56 (F := F) c i _ w2 _ w3 _ w4 _ w5 _ w6 _ w7 _ w8 _ w9 _ w10 _ w11 _ w12 _ w13 x0 x1 x2 x3 x4 x5 x6 xs0 xs1) (k0_pay203 (kernelRun0_B.sl.r_57 (F := F) c i _ w2 _ w3 _ w4 _ w5 _ w6 _ w7 _ w8 _ w9 _ w10 _ w11 _ w12 _ w13 x0 x1 x2 x3 x4 x5 x6 xs0 xs1)) (k0_pay142 (ld w2 x0)) (k0_pay143 (ld w2 x0)) = _
  rw [wB56, wB57]
  rfl

theorem wB62 : (kernelRun0_B.sl.r_62 (F := F) c i _ w2 _ w3 _ w4 _ w5 _ w6 _ w7 _ w8 _ w9 _ w10 _ w11 _ w12 _ w13 x0 x1 x2 x3 x4 x5 x6 xs0 xs1) = dV0 c i _ w2 _ w3 _ w4 _ w5 _ w6 _ w7 _ w8 _ w9 _ w10 _ w11 _ w12 _ w13 x0 x1 x2 x3 x4 x5 x6 (w12.unread xs0) (w13.unread xs1) := by
  unfold kernelRun0_B.sl.r_62
  rw [wB46, wB49]
  rfl

theorem wB65 : (kernelRun0_B.sl.r_65 (F := F) c i _ w2 _ w3 _ w4 _ w5 _ w6 _ w7 _ w8 _ w9 _ w10 _ w11 _ w12 _ w13 x0 x1 x2 x3 x4 x5 x6 xs0 xs1) = dV1 c i _ w2 _ w3 _ w4 _ w5 _ w6 _ w7 _ w8 _ w9 _ w10 _ w11 _ w12 _ w13 x0 x1 x2 x3 x4 x5 x6 (w12.unread xs0) (w13.unread xs1) := by
  unfold kernelRun0_B.sl.r_65
  rw [wB51, wB54]
  rfl

theorem wB64 : (kernelRun0_B.sl.r_64 (F := F) c i _ w2 _ w3 _ w4 _ w5 _ w6 _ w7 _ w8 _ w9 _ w10 _ w11 _ w12 _ w13 x0 x1 x2 x3 x4 x5 x6 xs0 xs1) = (carF c i _ w2 _ w3 _ w4 _ w5 _ w6 _ w7 _ w8 _ w9 _ w10 _ w11 _ w12 _ w13 x0 x1 x2 x3 x4 x5 x6 (w12.unread xs0) (w13.unread xs1)).2.2.2.2.2.2.2.2.1 := by
  unfold kernelRun0_B.sl.r_64 kernelRun0_B.sl.r_60 kernelRun0_B.sl.r_63
  show tQ k0_pay137 k0_pay138 (kernelRun0_B.sl.r_23 (F := F) c i _ w2 _ w3 _ w4 _ w5 _ w6 _ w7 _ w8 _ w9 _ w10 _ w11 _ w12 _ w13 x0 x1 x2 x3 x4 x5 x6 xs0 xs1) (kernelRun0_B.sl.r_56 (F := F) c i _ w2 _ w3 _ w4 _ w5 _ w6 _ w7 _ w8 _ w9 _ w10 _ w11 _ w12 _ w13 x0 x1 x2 x3 x4 x5 x6 xs0 xs1) (k0_pay203 (kernelRun0_B.sl.r_57 (F := F) c i _ w2 _ w3 _ w4 _ w5 _ w6 _ w7 _ w8 _ w9 _ w10 _ w11 _ w12 _ w13 x0 x1 x2 x3 x4 x5 x6 xs0 xs1)) (lo (kdOf i arg3 (w3.unread x1))) = _
  rw [wB23, wB56, wB57]
  rfl

theorem wB66 : (kernelRun0_B.sl.r_66 (F := F) c i _ w2 _ w3 _ w4 _ w5 _ w6 _ w7 _ w8 _ w9 _ w10 _ w11 _ w12 _ w13 x0 x1 x2 x3 x4 x5 x6 xs0 xs1) = (carF c i _ w2 _ w3 _ w4 _ w5 _ w6 _ w7 _ w8 _ w9 _ w10 _ w11 _ w12 _ w13 x0 x1 x2 x3 x4 x5 x6 (w12.unread xs0) (w13.unread xs1)).2.2.2.2.2.2.2.2.2 := by
  unfold kernelRun0_B.sl.r_66
  rw [wB24, wB58, wB59]
  rfl

theorem wBH0 : (kernelRun0_B.sl.HS0_1 (F := F) c i _ w2 _ w3 _ w4 _ w5 _ w6 _ w7 _ w8 _ w9 _ w10 _ w11 _ w12 _ w13 x0 x1 x2 x3 x4 x5 x6 xs0 xs1) = p12 c i _ w2 _ w3 _ w4 _ w5 _ w6 _ w7 _ w8 _ w9 _ w10 _ w11 _ w12 _ w13 x0 x1 x2 x3 x4 x5 x6 (w12.unread xs0) (w13.unread xs1) :: (lstF c i _ w2 _ w3 _ w4 _ w5 _ w6 _ w7 _ w8 _ w9 _ w10 _ w11 _ w12 _ w13 x0 x1 x2 x3 x4 x5 x6 (w12.unread xs0) (w13.unread xs1)).2.1 := by
  unfold kernelRun0_B.sl.HS0_1 kernelRun0_B.sl.v335
  rw [wB61, trips_t2, trips_t1]
  refine Eq.trans (congrArg (fun l => (⟨Rect.unit (s := S4352x256) (k0_off8 i) S256x128.size (k0_off8_inb i), k0_pay215 (dK0 c i _ w2 _ w3 _ w4 _ w5 _ w6 _ w7 _ w8 _ w9 _ w10 _ w11 _ w12 _ w13 x0 x1 x2 x3 x4 x5 x6 (w12.unread xs0) (w13.unread xs1)) (View.readAt (Elt F) arg12.view (Rect.unit (s := S4352x256) (k0_off8 i) S256x128.size (k0_off8_inb i)).toLoadRect (arg12.view.writes (Elt F) (w12.unread xs0) l))⟩ : View.Piece (Elt F) S4352x256 .f32) :: l) (?_ : _ = (lstF c i _ w2 _ w3 _ w4 _ w5 _ w6 _ w7 _ w8 _ w9 _ w10 _ w11 _ w12 _ w13 x0 x1 x2 x3 x4 x5 x6 (w12.unread xs0) (w13.unread xs1)).2.1)) ?_
  · exact List.nil_append _
  · rfl

theorem wBH1 : (kernelRun0_B.sl.HS1_1 (F := F) c i _ w2 _ w3 _ w4 _ w5 _ w6 _ w7 _ w8 _ w9 _ w10 _ w11 _ w12 _ w13 x0 x1 x2 x3 x4 x5 x6 xs0 xs1) = p13 c i _ w2 _ w3 _ w4 _ w5 _ w6 _ w7 _ w8 _ w9 _ w10 _ w11 _ w12 _ w13 x0 x1 x2 x3 x4 x5 x6 (w12.unread xs0) (w13.unread xs1) :: (lstF c i _ w2 _ w3 _ w4 _ w5 _ w6 _ w7 _ w8 _ w9 _ w10 _ w11 _ w12 _ w13 x0 x1 x2 x3 x4 x5 x6 (w12.unread xs0) (w13.unread xs1)).2.2 := by
  unfold kernelRun0_B.sl.HS1_1 kernelRun0_B.sl.v342
  rw [wB62, trips_t2, trips_t1]
  refine Eq.trans (congrArg (fun l => (⟨Rect.unit (s := S4352x256) (k0_off8 i) S256x128.size (k0_off8_inb i), k0_pay216 (dV0 c i _ w2 _ w3 _ w4 _ w5 _ w6 _ w7 _ w8 _ w9 _ w10 _ w11 _ w12 _ w13 x0 x1 x2 x3 x4 x5 x6 (w12.unread xs0) (w13.unread xs1)) (View.readAt (Elt F) arg13.view (Rect.unit (s := S4352x256) (k0_off8 i) S256x128.size (k0_off8_inb i)).toLoadRect (arg13.view.writes (Elt F) (w13.unread xs1) l))⟩ : View.Piece (Elt F) S4352x256 .f32) :: l) (?_ : _ = (lstF c i _ w2 _ w3 _ w4 _ w5 _ w6 _ w7 _ w8 _ w9 _ w10 _ w11 _ w12 _ w13 x0 x1 x2 x3 x4 x5 x6 (w12.unread xs0) (w13.unread xs1)).2.2)) ?_
  · exact List.nil_append _
  · rfl

/-- The stored block of the gradient of the queries. -/
theorem runB_q : (kernelRun0_B (F := F) c i _ w2 _ w3 _ w4 _ w5 _ w6 _ w7 _ w8 _ w9 _ w10 _ w11 _ w12 _ w13 hc0 hc1 x0 x1 x2 x3 x4 x5 x6 xs0 xs1).1 = [⟨Rect.unit (s := S256x256) ![0, 0] S256x256.size inb_S256x256_S256x256_0_0, dqF c i _ w2 _ w3 _ w4 _ w5 _ w6 _ w7 _ w8 _ w9 _ w10 _ w11 _ w12 _ w13 x0 x1 x2 x3 x4 x5 x6 (w12.unread xs0) (w13.unread xs1)⟩] := by
  unfold kernelRun0_B
  dsimp only
  rw [wB64, wB66]
  rfl

/-- The stores into the keys' accumulator. -/
theorem runB_k : (kernelRun0_B (F := F) c i _ w2 _ w3 _ w4 _ w5 _ w6 _ w7 _ w8 _ w9 _ w10 _ w11 _ w12 _ w13 hc0 hc1 x0 x1 x2 x3 x4 x5 x6 xs0 xs1).2.2.2.1 = fin12 c i _ w2 _ w3 _ w4 _ w5 _ w6 _ w7 _ w8 _ w9 _ w10 _ w11 _ w12 _ w13 x0 x1 x2 x3 x4 x5 x6 (w12.unread xs0) (w13.unread xs1) := by
  unfold kernelRun0_B
  dsimp only
  unfold kernelRun0_B.sl.r_67
  rw [wBH0, wB58, wB59]
  rfl

/-- The stores into the values' accumulator. -/
theorem runB_v : (kernelRun0_B (F := F) c i _ w2 _ w3 _ w4 _ w5 _ w6 _ w7 _ w8 _ w9 _ w10 _ w11 _ w12 _ w13 hc0 hc1 x0 x1 x2 x3 x4 x5 x6 xs0 xs1).2.2.2.2.1 = fin13 c i _ w2 _ w3 _ w4 _ w5 _ w6 _ w7 _ w8 _ w9 _ w10 _ w11 _ w12 _ w13 x0 x1 x2 x3 x4 x5 x6 (w12.unread xs0) (w13.unread xs1) := by
  unfold kernelRun0_B
  dsimp only
  rw [wBH1, wB65]
  rfl

end Cert.Att

end
-- ==== Proof.RunC.lean ====
/- What one grid point stores, case C: the generated words, as the loop's state and the diagonal tile. -/
module

public import proofs.«01_k».proof.Proof.Run
public import proofs.«01_k».proof.Proof.Gen.KernelIdeal.Frame.RunC

@[expose] public section

set_option maxRecDepth 16384

noncomputable section

namespace Cert.Att

open Idealize.ShloMosaic Cert.KernelIdeal Gen

variable {F : FTy → Type} [FloatOps F]
variable (c : Dev nD) (i : grid0.Coords) (arg2 : Memref sig .tc .vmem S256x256 .bf16) (w2 : arg2.IsWhole) (arg3 : Memref sig .tc .vmem S4352x256 .bf16) (w3 : arg3.IsWhole) (arg4 : Memref sig .tc .vmem S4352x256 .bf16) (w4 : arg4.IsWhole) (arg5 : Memref sig .tc .vmem S256x256 .f32) (w5 : arg5.IsWhole) (arg6 : Memref sig .tc .vmem S256x256 .bf16) (w6 : arg6.IsWhole) (arg7 : Memref sig .tc .vmem S256x256 .bf16) (w7 : arg7.IsWhole) (arg8 : Memref sig .tc .vmem S256x256 .bf16) (w8 : arg8.IsWhole) (arg9 : Memref sig .tc .vmem S256x256 .bf16) (w9 : arg9.IsWhole) (arg10 : Memref sig .tc .vmem S4352x256 .bf16) (w10 : arg10.IsWhole) (arg11 : Memref sig .tc .vmem S4352x256 .bf16) (w11 : arg11.IsWhole) (arg12 : Memref sig .tc .vmem S4352x256 .f32) (w12 : arg12.IsWhole) (arg13 : Memref sig .tc .vmem S4352x256 .f32) (w13 : arg13.IsWhole) (hc0 : ¬cond0_0 i) (hc1 : cond0_1 i)
  (x0 : Vec F S256x256 .bf16) (x1 x2 : Vec F S4352x256 .bf16) (x3 : Vec F S256x256 .f32) (x4 x5 x6 : Vec F S256x256 .bf16) (xs0 xs1 : Vec F S4352x256 .f32)

set_option backward.proofsInPublic true

theorem wC15 : (kernelRun0_C.sl.r_15 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.1 := by
  unfold kernelRun0_C.sl.r_15
  rw [trips_t2, trips_t1]
  rfl

theorem wC16 : (kernelRun0_C.sl.r_16 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.1 := by
  unfold kernelRun0_C.sl.r_16
  rw [trips_t2, trips_t1]
  rfl

theorem wC17 : (kernelRun0_C.sl.r_17 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.1 := by
  unfold kernelRun0_C.sl.r_17
  rw [trips_t2, trips_t1]
  rfl

theorem wC18 : (kernelRun0_C.sl.r_18 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.2.1 := by
  unfold kernelRun0_C.sl.r_18
  rw [trips_t2, trips_t1]
  rfl

theorem wC19 : (kernelRun0_C.sl.r_19 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.2.2.1 := by
  unfold kernelRun0_C.sl.r_19
  rw [trips_t2, trips_t1]
  rfl

theorem wC20 : (kernelRun0_C.sl.r_20 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.2.2.2.1 := by
  unfold kernelRun0_C.sl.r_20
  rw [trips_t2, trips_t1]
  rfl

theorem wC21 : (kernelRun0_C.sl.r_21 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.2.2.2.2.1 := by
  unfold kernelRun0_C.sl.r_21
  rw [trips_t2, trips_t1]
  rfl

theorem wC22 : (kernelRun0_C.sl.r_22 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.2.2.2.2.2.1 := by
  unfold kernelRun0_C.sl.r_22
  rw [trips_t2, trips_t1]
  rfl

theorem wC23 : (kernelRun0_C.sl.r_23 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.2.2.2.2.2.2.1 := by
  unfold kernelRun0_C.sl.r_23
  rw [trips_t2, trips_t1]
  rfl

theorem wC24 : (kernelRun0_C.sl.r_24 (F := F) c i _ w2 _ w3 _ w4 _ w5 _ w6 _ w7 _ w8 _ w9 _ w10 _ w11 _ w12 _ w13 x0 x1 x2 x3 x4 x5 x6 xs0 xs1) = (lstF c i _ w2 _ w3 _ w4 _ w5 _ w6 _ w7 _ w8 _ w9 _ w10 _ w11 _ w12 _ w13 x0 x1 x2 x3 x4 x5 x6 (w12.unread xs0) (w13.unread xs1)).1.2.2.2.2.2.2.2.2.2 := by
  unfold kernelRun0_C.sl.r_24
  rw [trips_t2, trips_t1]
  rfl

theorem wC46 : (kernelRun0_C.sl.r_46 (F := F) c i _ w2 _ w3 _ w4 _ w5 _ w6 _ w7 _ w8 _ w9 _ w10 _ w11 _ w12 _ w13 x0 x1 x2 x3 x4 x5 x6 xs0 xs1) = tileA0 selD (k0_pay158 (ld w7 x5)) (k0_pay142 (ld w2 x0)) (kdOf i arg3 (w3.unread x1)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_C.sl.r_46 kernelRun0_C.sl.r_27 kernelRun0_C.sl.r_37
  rw [wC15]
  rfl

theorem wC49 : (kernelRun0_C.sl.r_49 (F := F) c i _ w2 _ w3 _ w4 _ w5 _ w6 _ w7 _ w8 _ w9 _ w10 _ w11 _ w12 _ w13 x0 x1 x2 x3 x4 x5 x6 xs0 xs1) = tileA1 selD (k0_pay158 (ld w7 x5)) (k0_pay143 (ld w2 x0)) (kdOf i arg3 (w3.unread x1)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_C.sl.r_49 kernelRun0_C.sl.r_30 kernelRun0_C.sl.r_40 kernelRun0_C.sl.r_48 kernelRun0_C.sl.r_39 kernelRun0_C.sl.r_29
  rw [wC16]
  rfl

theorem wC51 : (kernelRun0_C.sl.r_51 (F := F) c i _ w2 _ w3 _ w4 _ w5 _ w6 _ w7 _ w8 _ w9 _ w10 _ w11 _ w12 _ w13 x0 x1 x2 x3 x4 x5 x6 xs0 xs1) = tileA2 selD (k0_pay158 (ld w7 x5)) (k0_pay144 (ld w2 x0)) (kdOf i arg3 (w3.unread x1)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_C.sl.r_51 kernelRun0_C.sl.r_32 kernelRun0_C.sl.r_42
  rw [wC17]
  rfl

theorem wC54 : (kernelRun0_C.sl.r_54 (F := F) c i _ w2 _ w3 _ w4 _ w5 _ w6 _ w7 _ w8 _ w9 _ w10 _ w11 _ w12 _ w13 x0 x1 x2 x3 x4 x5 x6 xs0 xs1) = tileA3 selD (k0_pay158 (ld w7 x5)) (k0_pay145 (ld w2 x0)) (kdOf i arg3 (w3.unread x1)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_C.sl.r_54 kernelRun0_C.sl.r_34 kernelRun0_C.sl.r_44
  rw [wC18]
  rfl

theorem wC56 : (kernelRun0_C.sl.r_56 (F := F) c i _ w2 _ w3 _ w4 _ w5 _ w6 _ w7 _ w8 _ w9 _ w10 _ w11 _ w12 _ w13 x0 x1 x2 x3 x4 x5 x6 xs0 xs1) = tileDz0 selD (k0_pay158 (ld w7 x5)) (k0_pay159 (ld w8 x6)) (k0_pay142 (ld w2 x0)) (k0_pay146 (ld w6 x4)) (kdOf i arg3 (w3.unread x1)) (vdOf i arg4 (w4.unread x2)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_C.sl.r_56 kernelRun0_C.sl.r_45 kernelRun0_C.sl.r_47 kernelRun0_C.sl.r_36 kernelRun0_C.sl.r_27 kernelRun0_C.sl.r_28 kernelRun0_C.sl.r_37
  rw [wC19, wC15]
  rfl

theorem wC58 : (kernelRun0_C.sl.r_58 (F := F) c i _ w2 _ w3 _ w4 _ w5 _ w6 _ w7 _ w8 _ w9 _ w10 _ w11 _ w12 _ w13 x0 x1 x2 x3 x4 x5 x6 xs0 xs1) = tileDz2 selD (k0_pay158 (ld w7 x5)) (k0_pay159 (ld w8 x6)) (k0_pay144 (ld w2 x0)) (k0_pay149 k0_pay137 (ld w6 x4)) (kdOf i arg3 (w3.unread x1)) (vdOf i arg4 (w4.unread x2)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_C.sl.r_58 kernelRun0_C.sl.r_50 kernelRun0_C.sl.r_52 kernelRun0_C.sl.r_41 kernelRun0_C.sl.r_32 kernelRun0_C.sl.r_33 kernelRun0_C.sl.r_42
  rw [wC21, wC17]
  rfl

theorem wC59 : (kernelRun0_C.sl.r_59 (F := F) c i _ w2 _ w3 _ w4 _ w5 _ w6 _ w7 _ w8 _ w9 _ w10 _ w11 _ w12 _ w13 x0 x1 x2 x3 x4 x5 x6 xs0 xs1) = tileDz3 selD (k0_pay158 (ld w7 x5)) (k0_pay159 (ld w8 x6)) (k0_pay145 (ld w2 x0)) (k0_pay150 k0_pay138 (ld w6 x4)) (kdOf i arg3 (w3.unread x1)) (vdOf i arg4 (w4.unread x2)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_C.sl.r_59 kernelRun0_C.sl.r_53 kernelRun0_C.sl.r_55 kernelRun0_C.sl.r_43 kernelRun0_C.sl.r_34 kernelRun0_C.sl.r_35 kernelRun0_C.sl.r_44
  rw [wC22, wC18]
  rfl

theorem wC57 : k0_pay203 (kernelRun0_C.sl.r_57 (F := F) c i _ w2 _ w3 _ w4 _ w5 _ w6 _ w7 _ w8 _ w9 _ w10 _ w11 _ w12 _ w13 x0 x1 x2 x3 x4 x5 x6 xs0 xs1) = tileDz1 selD (k0_pay158 (ld w7 x5)) (k0_pay159 (ld w8 x6)) (k0_pay143 (ld w2 x0)) (k0_pay148 k0_pay138 (k0_pay147 (ld w6 x4))) (kdOf i arg3 (w3.unread x1)) (vdOf i arg4 (w4.unread x2)) (lstF c i _ w2 _ w3 _ w4 _ w5 _ w6 _ w7 _ w8 _ w9 _ w10 _ w11 _ w12 _ w13 x0 x1 x2 x3 x4 x5 x6 (w12.unread xs0) (w13.unread xs1)).1 := by
  unfold kernelRun0_C.sl.r_57 kernelRun0_C.sl.r_30 kernelRun0_C.sl.r_31 kernelRun0_C.sl.r_38 kernelRun0_C.sl.r_40 kernelRun0_C.sl.r_48 kernelRun0_C.sl.r_39 kernelRun0_C.sl.r_29
  rw [wC16, wC20]
  rfl

theorem wC61 : (kernelRun0_C.sl.r_61 (F := F) c i _ w2 _ w3 _ w4 _ w5 _ w6 _ w7 _ w8 _ w9 _ w10 _ w11 _ w12 _ w13 x0 x1 x2 x3 x4 x5 x6 xs0 xs1) = dK0 c i _ w2 _ w3 _ w4 _ w5 _ w6 _ w7 _ w8 _ w9 _ w10 _ w11 _ w12 _ w13 x0 x1 x2 x3 x4 x5 x6 (w12.unread xs0) (w13.unread xs1) := by
  unfold kernelRun0_C.sl.r_61
  show tKV (kernelRun0_C.sl.r_56 (F := F) c i _ w2 _ w3 _ w4 _ w5 _ w6 _ w7 _ w8 _ w9 _ w10 _ w11 _ w12 _ w13 x0 x1 x2 x3 x4 x5 x6 xs0 xs1) (k0_pay203 (kernelRun0_C.sl.r_57 (F := F) c i _ w2 _ w3 _ w4 _ w5 _ w6 _ w7 _ w8 _ w9 _ w10 _ w11 _ w12 _ w13 x0 x1 x2 x3 x4 x5 x6 xs0 xs1)) (k0_pay142 (ld w2 x0)) (k0_pay143 (ld w2 x0)) = _
  rw [wC56, wC57]
  rfl

theorem wC62 : (kernelRun0_C.sl.r_62 (F := F) c i _ w2 _ w3 _ w4 _ w5 _ w6 _ w7 _ w8 _ w9 _ w10 _ w11 _ w12 _ w13 x0 x1 x2 x3 x4 x5 x6 xs0 xs1) = dV0 c i _ w2 _ w3 _ w4 _ w5 _ w6 _ w7 _ w8 _ w9 _ w10 _ w11 _ w12 _ w13 x0 x1 x2 x3 x4 x5 x6 (w12.unread xs0) (w13.unread xs1) := by
  unfold kernelRun0_C.sl.r_62
  rw [wC46, wC49]
  rfl

theorem wC65 : (kernelRun0_C.sl.r_65 (F := F) c i _ w2 _ w3 _ w4 _ w5 _ w6 _ w7 _ w8 _ w9 _ w10 _ w11 _ w12 _ w13 x0 x1 x2 x3 x4 x5 x6 xs0 xs1) = dV1 c i _ w2 _ w3 _ w4 _ w5 _ w6 _ w7 _ w8 _ w9 _ w10 _ w11 _ w12 _ w13 x0 x1 x2 x3 x4 x5 x6 (w12.unread xs0) (w13.unread xs1) := by
  unfold kernelRun0_C.sl.r_65
  rw [wC51, wC54]
  rfl

theorem wC64 : (kernelRun0_C.sl.r_64 (F := F) c i _ w2 _ w3 _ w4 _ w5 _ w6 _ w7 _ w8 _ w9 _ w10 _ w11 _ w12 _ w13 x0 x1 x2 x3 x4 x5 x6 xs0 xs1) = (carF c i _ w2 _ w3 _ w4 _ w5 _ w6 _ w7 _ w8 _ w9 _ w10 _ w11 _ w12 _ w13 x0 x1 x2 x3 x4 x5 x6 (w12.unread xs0) (w13.unread xs1)).2.2.2.2.2.2.2.2.1 := by
  unfold kernelRun0_C.sl.r_64 kernelRun0_C.sl.r_60 kernelRun0_C.sl.r_63
  show tQ k0_pay137 k0_pay138 (kernelRun0_C.sl.r_23 (F := F) c i _ w2 _ w3 _ w4 _ w5 _ w6 _ w7 _ w8 _ w9 _ w10 _ w11 _ w12 _ w13 x0 x1 x2 x3 x4 x5 x6 xs0 xs1) (kernelRun0_C.sl.r_56 (F := F) c i _ w2 _ w3 _ w4 _ w5 _ w6 _ w7 _ w8 _ w9 _ w10 _ w11 _ w12 _ w13 x0 x1 x2 x3 x4 x5 x6 xs0 xs1) (k0_pay203 (kernelRun0_C.sl.r_57 (F := F) c i _ w2 _ w3 _ w4 _ w5 _ w6 _ w7 _ w8 _ w9 _ w10 _ w11 _ w12 _ w13 x0 x1 x2 x3 x4 x5 x6 xs0 xs1)) (lo (kdOf i arg3 (w3.unread x1))) = _
  rw [wC23, wC56, wC57]
  rfl

theorem wC66 : (kernelRun0_C.sl.r_66 (F := F) c i _ w2 _ w3 _ w4 _ w5 _ w6 _ w7 _ w8 _ w9 _ w10 _ w11 _ w12 _ w13 x0 x1 x2 x3 x4 x5 x6 xs0 xs1) = (carF c i _ w2 _ w3 _ w4 _ w5 _ w6 _ w7 _ w8 _ w9 _ w10 _ w11 _ w12 _ w13 x0 x1 x2 x3 x4 x5 x6 (w12.unread xs0) (w13.unread xs1)).2.2.2.2.2.2.2.2.2 := by
  unfold kernelRun0_C.sl.r_66
  rw [wC24, wC58, wC59]
  rfl

theorem wCH0 : (kernelRun0_C.sl.HS0_1 (F := F) c i _ w2 _ w3 _ w4 _ w5 _ w6 _ w7 _ w8 _ w9 _ w10 _ w11 _ w12 _ w13 x0 x1 x2 x3 x4 x5 x6 xs0 xs1) = p12 c i _ w2 _ w3 _ w4 _ w5 _ w6 _ w7 _ w8 _ w9 _ w10 _ w11 _ w12 _ w13 x0 x1 x2 x3 x4 x5 x6 (w12.unread xs0) (w13.unread xs1) :: (lstF c i _ w2 _ w3 _ w4 _ w5 _ w6 _ w7 _ w8 _ w9 _ w10 _ w11 _ w12 _ w13 x0 x1 x2 x3 x4 x5 x6 (w12.unread xs0) (w13.unread xs1)).2.1 := by
  unfold kernelRun0_C.sl.HS0_1 kernelRun0_C.sl.v335
  rw [wC61, trips_t2, trips_t1]
  refine Eq.trans (congrArg (fun l => (⟨Rect.unit (s := S4352x256) (k0_off8 i) S256x128.size (k0_off8_inb i), k0_pay215 (dK0 c i _ w2 _ w3 _ w4 _ w5 _ w6 _ w7 _ w8 _ w9 _ w10 _ w11 _ w12 _ w13 x0 x1 x2 x3 x4 x5 x6 (w12.unread xs0) (w13.unread xs1)) (View.readAt (Elt F) arg12.view (Rect.unit (s := S4352x256) (k0_off8 i) S256x128.size (k0_off8_inb i)).toLoadRect (arg12.view.writes (Elt F) (w12.unread xs0) l))⟩ : View.Piece (Elt F) S4352x256 .f32) :: l) (?_ : _ = (lstF c i _ w2 _ w3 _ w4 _ w5 _ w6 _ w7 _ w8 _ w9 _ w10 _ w11 _ w12 _ w13 x0 x1 x2 x3 x4 x5 x6 (w12.unread xs0) (w13.unread xs1)).2.1)) ?_
  · exact List.nil_append _
  · rfl

theorem wCH1 : (kernelRun0_C.sl.HS1_1 (F := F) c i _ w2 _ w3 _ w4 _ w5 _ w6 _ w7 _ w8 _ w9 _ w10 _ w11 _ w12 _ w13 x0 x1 x2 x3 x4 x5 x6 xs0 xs1) = p13 c i _ w2 _ w3 _ w4 _ w5 _ w6 _ w7 _ w8 _ w9 _ w10 _ w11 _ w12 _ w13 x0 x1 x2 x3 x4 x5 x6 (w12.unread xs0) (w13.unread xs1) :: (lstF c i _ w2 _ w3 _ w4 _ w5 _ w6 _ w7 _ w8 _ w9 _ w10 _ w11 _ w12 _ w13 x0 x1 x2 x3 x4 x5 x6 (w12.unread xs0) (w13.unread xs1)).2.2 := by
  unfold kernelRun0_C.sl.HS1_1 kernelRun0_C.sl.v342
  rw [wC62, trips_t2, trips_t1]
  refine Eq.trans (congrArg (fun l => (⟨Rect.unit (s := S4352x256) (k0_off8 i) S256x128.size (k0_off8_inb i), k0_pay216 (dV0 c i _ w2 _ w3 _ w4 _ w5 _ w6 _ w7 _ w8 _ w9 _ w10 _ w11 _ w12 _ w13 x0 x1 x2 x3 x4 x5 x6 (w12.unread xs0) (w13.unread xs1)) (View.readAt (Elt F) arg13.view (Rect.unit (s := S4352x256) (k0_off8 i) S256x128.size (k0_off8_inb i)).toLoadRect (arg13.view.writes (Elt F) (w13.unread xs1) l))⟩ : View.Piece (Elt F) S4352x256 .f32) :: l) (?_ : _ = (lstF c i _ w2 _ w3 _ w4 _ w5 _ w6 _ w7 _ w8 _ w9 _ w10 _ w11 _ w12 _ w13 x0 x1 x2 x3 x4 x5 x6 (w12.unread xs0) (w13.unread xs1)).2.2)) ?_
  · exact List.nil_append _
  · rfl

/-- The stored block of the gradient of the queries. -/
theorem runC_q : (kernelRun0_C (F := F) c i _ w2 _ w3 _ w4 _ w5 _ w6 _ w7 _ w8 _ w9 _ w10 _ w11 _ w12 _ w13 hc0 hc1 x0 x1 x2 x3 x4 x5 x6 xs0 xs1).1 = [⟨Rect.unit (s := S256x256) ![0, 0] S256x256.size inb_S256x256_S256x256_0_0, dqF c i _ w2 _ w3 _ w4 _ w5 _ w6 _ w7 _ w8 _ w9 _ w10 _ w11 _ w12 _ w13 x0 x1 x2 x3 x4 x5 x6 (w12.unread xs0) (w13.unread xs1)⟩] := by
  unfold kernelRun0_C
  dsimp only
  rw [wC64, wC66]
  rfl

/-- The stores into the keys' accumulator. -/
theorem runC_k : (kernelRun0_C (F := F) c i _ w2 _ w3 _ w4 _ w5 _ w6 _ w7 _ w8 _ w9 _ w10 _ w11 _ w12 _ w13 hc0 hc1 x0 x1 x2 x3 x4 x5 x6 xs0 xs1).2.2.2.1 = fin12 c i _ w2 _ w3 _ w4 _ w5 _ w6 _ w7 _ w8 _ w9 _ w10 _ w11 _ w12 _ w13 x0 x1 x2 x3 x4 x5 x6 (w12.unread xs0) (w13.unread xs1) := by
  unfold kernelRun0_C
  dsimp only
  unfold kernelRun0_C.sl.HS0_2 kernelRun0_C.sl.r_67
  rw [wCH0, wC58, wC59]
  rfl

/-- The stores into the values' accumulator. -/
theorem runC_v : (kernelRun0_C (F := F) c i _ w2 _ w3 _ w4 _ w5 _ w6 _ w7 _ w8 _ w9 _ w10 _ w11 _ w12 _ w13 hc0 hc1 x0 x1 x2 x3 x4 x5 x6 xs0 xs1).2.2.2.2.1 = fin13 c i _ w2 _ w3 _ w4 _ w5 _ w6 _ w7 _ w8 _ w9 _ w10 _ w11 _ w12 _ w13 x0 x1 x2 x3 x4 x5 x6 (w12.unread xs0) (w13.unread xs1) := by
  unfold kernelRun0_C
  dsimp only
  unfold kernelRun0_C.sl.HS1_2
  rw [wCH1, wC65]
  rfl

/-- The stored gradient of the keys. -/
theorem runC_gk : (kernelRun0_C (F := F) c i _ w2 _ w3 _ w4 _ w5 _ w6 _ w7 _ w8 _ w9 _ w10 _ w11 _ w12 _ w13 hc0 hc1 x0 x1 x2 x3 x4 x5 x6 xs0 xs1).2.1 = [⟨Rect.unit (s := S4352x256) ![0, 0] S4352x256.size inb_S4352x256_S4352x256_0_0, k0_pay3 (View.readAt (Elt F) arg12.view (Rect.unit (s := S4352x256) ![0, 0] S4352x256.size inb_S4352x256_S4352x256_0_0).toLoadRect (arg12.view.writes (Elt F) (w12.unread xs0) (fin12 c i _ w2 _ w3 _ w4 _ w5 _ w6 _ w7 _ w8 _ w9 _ w10 _ w11 _ w12 _ w13 x0 x1 x2 x3 x4 x5 x6 (w12.unread xs0) (w13.unread xs1))))⟩] := by
  rw [← runC_k c i _ w2 _ w3 _ w4 _ w5 _ w6 _ w7 _ w8 _ w9 _ w10 _ w11 _ w12 _ w13 hc0 hc1 x0 x1 x2 x3 x4 x5 x6 xs0 xs1]
  unfold kernelRun0_C
  rfl

/-- The stored gradient of the values. -/
theorem runC_gv : (kernelRun0_C (F := F) c i _ w2 _ w3 _ w4 _ w5 _ w6 _ w7 _ w8 _ w9 _ w10 _ w11 _ w12 _ w13 hc0 hc1 x0 x1 x2 x3 x4 x5 x6 xs0 xs1).2.2.1 = [⟨Rect.unit (s := S4352x256) ![0, 0] S4352x256.size inb_S4352x256_S4352x256_0_0, k0_pay4 (View.readAt (Elt F) arg13.view (Rect.unit (s := S4352x256) ![0, 0] S4352x256.size inb_S4352x256_S4352x256_0_0).toLoadRect (arg13.view.writes (Elt F) (w13.unread xs1) (fin13 c i _ w2 _ w3 _ w4 _ w5 _ w6 _ w7 _ w8 _ w9 _ w10 _ w11 _ w12 _ w13 x0 x1 x2 x3 x4 x5 x6 (w12.unread xs0) (w13.unread xs1))))⟩] := by
  rw [← runC_v c i _ w2 _ w3 _ w4 _ w5 _ w6 _ w7 _ w8 _ w9 _ w10 _ w11 _ w12 _ w13 hc0 hc1 x0 x1 x2 x3 x4 x5 x6 xs0 xs1]
  unfold kernelRun0_C
  rfl

end Cert.Att

end
-- ==== Proof.Cases.lean ====
/- What one grid point leaves in its output blocks and in the two accumulators. -/
module

public import proofs.«01_k».proof.Proof.Point
public import proofs.«01_k».proof.Proof.RunA
public import proofs.«01_k».proof.Proof.RunB
public import proofs.«01_k».proof.Proof.RunC
public import proofs.«01_k».proof.Proof.Gen.KernelIdeal.Frame

@[expose] public section

set_option maxRecDepth 16384

noncomputable section

namespace Cert.Att

open Idealize.ShloMosaic Cert.KernelIdeal Gen
open scoped BigOperators

theorem rep_pay139 : Rep (n0 := 4352) (n1 := 256) (φ := .f32) (k0_pay139 (F := Ideal)) (fun _ _ => 0) := fun a b => by
  show Ideal.ofBits .f32 0x00000000#32 = _
  rw [ofBits_zero, EReal.coe_zero]
theorem rep_pay140 : Rep (n0 := 4352) (n1 := 256) (φ := .f32) (k0_pay140 (F := Ideal)) (fun _ _ => 0) := fun a b => by
  show Ideal.ofBits .f32 0x00000000#32 = _
  rw [ofBits_zero, EReal.coe_zero]

/-- The gradient of the queries after the point. -/
def qAt (Q K V O : ℕ → ℕ → ℝ) (i q l : ℕ) : ℝ := (∑ s ∈ Finset.range (256 * (i + 1)), dqT Q K V O (l / 128) (256 * i + q) s (l % 128)) * (1 / 8)

theorem readAt_whole (v : View sig .tc .vmem S4352x256 .f32) (f : BufTy.Contents (Elt Ideal) v.ty) :
    View.readAt (Elt Ideal) v (Rect.unit (s := S4352x256) ![0, 0] S4352x256.size inb_S4352x256_S4352x256_0_0).toLoadRect f = v.read (Elt Ideal) f :=
  View.readAt_full v f inb_S4352x256_S4352x256_0_0

section Point
variable (c : Dev nD) (i : grid0.Coords) (arg2 : Memref sig .tc .vmem S256x256 .bf16) (w2 : arg2.IsWhole) (arg3 : Memref sig .tc .vmem S4352x256 .bf16) (w3 : arg3.IsWhole) (arg4 : Memref sig .tc .vmem S4352x256 .bf16) (w4 : arg4.IsWhole) (arg5 : Memref sig .tc .vmem S256x256 .f32) (w5 : arg5.IsWhole) (arg6 : Memref sig .tc .vmem S256x256 .bf16) (w6 : arg6.IsWhole) (arg7 : Memref sig .tc .vmem S256x256 .bf16) (w7 : arg7.IsWhole) (arg8 : Memref sig .tc .vmem S256x256 .bf16) (w8 : arg8.IsWhole) (arg9 : Memref sig .tc .vmem S256x256 .bf16) (w9 : arg9.IsWhole) (arg10 : Memref sig .tc .vmem S4352x256 .bf16) (w10 : arg10.IsWhole) (arg11 : Memref sig .tc .vmem S4352x256 .bf16) (w11 : arg11.IsWhole) (arg12 : Memref sig .tc .vmem S4352x256 .f32) (w12 : arg12.IsWhole) (arg13 : Memref sig .tc .vmem S4352x256 .f32) (w13 : arg13.IsWhole)
  (x0 : Vec Ideal S256x256 .bf16) (x1 x2 : Vec Ideal S4352x256 .bf16) (x3 : Vec Ideal S256x256 .f32) (x4 x5 x6 : Vec Ideal S256x256 .bf16)

variable {Q0 Q K V O T : ℕ → ℕ → ℝ} (hp : PointIn Q0 Q K V O T (i 1).val x0 x1 x2 x3 x4 x5 x6)

section A
variable (hc0 : cond0_0 i) (hc1 : ¬cond0_1 i)
include hp

theorem caseA :
    Rep (n0 := 256) (n1 := 256) (φ := .bf16) (out0_A_7 c i _ w2 _ w3 _ w4 _ w5 _ w6 _ w7 _ w8 _ w9 _ w10 _ w11 _ w12 _ w13 hc0 hc1 x0 x1 x2 x3 x4 x5 x6) (fun q l => qAt Q K V O (i 1).val q.val l.val)
    ∧ Rep (n0 := 4352) (n1 := 256) (φ := .f32) (sout0_A_0 c i _ w2 _ w3 _ w4 _ w5 _ w6 _ w7 _ w8 _ w9 _ w10 _ w11 _ w12 _ w13 hc0 hc1 x0 x1 x2 x3 x4 x5 x6) (fun s l => blkK Q K V O (i 1).val s.val l.val)
    ∧ Rep (n0 := 4352) (n1 := 256) (φ := .f32) (sout0_A_1 c i _ w2 _ w3 _ w4 _ w5 _ w6 _ w7 _ w8 _ w9 _ w10 _ w11 _ w12 _ w13 hc0 hc1 x0 x1 x2 x3 x4 x5 x6) (fun s l => blkV Q K O (i 1).val s.val l.val) := by
  have z12 : Rep (n0 := 4352) (n1 := 256) (φ := .f32) (arg12.view.read (Elt Ideal) (arg12.view.writes (Elt Ideal) arg12.view.junk (kernelRun0_A.sl.HS0_1 (F := Ideal)))) (fun s c => (fun _ _ => 0 : ℕ → ℕ → ℝ) s.val c.val) := by
    unfold kernelRun0_A.sl.HS0_1
    rw [View.read_writes_full]
    exact rep_pay139
  have z13 : Rep (n0 := 4352) (n1 := 256) (φ := .f32) (arg13.view.read (Elt Ideal) (arg13.view.writes (Elt Ideal) arg13.view.junk (kernelRun0_A.sl.HS1_1 (F := Ideal)))) (fun s c => (fun _ _ => 0 : ℕ → ℕ → ℝ) s.val c.val) := by
    unfold kernelRun0_A.sl.HS1_1
    rw [View.read_writes_full]
    exact rep_pay140
  obtain ⟨pq, pk, pv⟩ := point_rep c i _ w2 _ w3 _ w4 _ w5 _ w6 _ w7 _ w8 _ w9 _ w10 _ w11 _ w12 _ w13 x0 x1 x2 x3 x4 x5 x6 (arg12.view.writes (Elt Ideal) arg12.view.junk (kernelRun0_A.sl.HS0_1 (F := Ideal))) (arg13.view.writes (Elt Ideal) arg13.view.junk (kernelRun0_A.sl.HS1_1 (F := Ideal))) (W12 := fun _ _ => 0) (W13 := fun _ _ => 0) hp z12 z13
  refine ⟨?_, ?_, ?_⟩
  · unfold out0_A_7
    rw [runA_q, View.read_writes_full]
    exact pq
  · unfold sout0_A_0
    rw [View.read_writes_of_cover VS0_0 VS0_0.junk arg12.view arg12.view.junk _ (scover0_A_0 c i _ w2 _ w3 _ w4 _ w5 _ w6 _ w7 _ w8 _ w9 _ w10 _ w11 _ w12 _ w13 hc0 hc1 x0 x1 x2 x3 x4 x5 x6), runA_k, View.writes_append]
    exact pk.congr fun s l => zero_add _
  · unfold sout0_A_1
    rw [View.read_writes_of_cover VS0_1 VS0_1.junk arg13.view arg13.view.junk _ (scover0_A_1 c i _ w2 _ w3 _ w4 _ w5 _ w6 _ w7 _ w8 _ w9 _ w10 _ w11 _ w12 _ w13 hc0 hc1 x0 x1 x2 x3 x4 x5 x6), runA_v, View.writes_append]
    exact pv.congr fun s l => zero_add _
end A

section B
variable (hc0 : ¬cond0_0 i) (hc1 : ¬cond0_1 i)
  (xs0 xs1 : Vec Ideal S4352x256 .f32) {W12 W13 : ℕ → ℕ → ℝ}
  (h12 : Rep (n0 := 4352) (n1 := 256) (φ := .f32) xs0 (fun s c => W12 s.val c.val)) (h13 : Rep (n0 := 4352) (n1 := 256) (φ := .f32) xs1 (fun s c => W13 s.val c.val))
include h12 h13
include hp

theorem caseB :
    Rep (n0 := 256) (n1 := 256) (φ := .bf16) (out0_B_7 c i _ w2 _ w3 _ w4 _ w5 _ w6 _ w7 _ w8 _ w9 _ w10 _ w11 _ w12 _ w13 hc0 hc1 x0 x1 x2 x3 x4 x5 x6 xs0 xs1) (fun q l => qAt Q K V O (i 1).val q.val l.val)
    ∧ Rep (n0 := 4352) (n1 := 256) (φ := .f32) (sout0_B_0 c i _ w2 _ w3 _ w4 _ w5 _ w6 _ w7 _ w8 _ w9 _ w10 _ w11 _ w12 _ w13 hc0 hc1 x0 x1 x2 x3 x4 x5 x6 xs0 xs1) (fun s l => W12 s.val l.val + blkK Q K V O (i 1).val s.val l.val)
    ∧ Rep (n0 := 4352) (n1 := 256) (φ := .f32) (sout0_B_1 c i _ w2 _ w3 _ w4 _ w5 _ w6 _ w7 _ w8 _ w9 _ w10 _ w11 _ w12 _ w13 hc0 hc1 x0 x1 x2 x3 x4 x5 x6 xs0 xs1) (fun s l => W13 s.val l.val + blkV Q K O (i 1).val s.val l.val) := by
  have z12 : Rep (n0 := 4352) (n1 := 256) (φ := .f32) (arg12.view.read (Elt Ideal) (w12.unread xs0)) (fun s c => W12 s.val c.val) := by
    rw [w12.read_unread]; exact h12
  have z13 : Rep (n0 := 4352) (n1 := 256) (φ := .f32) (arg13.view.read (Elt Ideal) (w13.unread xs1)) (fun s c => W13 s.val c.val) := by
    rw [w13.read_unread]; exact h13
  obtain ⟨pq, pk, pv⟩ := point_rep c i _ w2 _ w3 _ w4 _ w5 _ w6 _ w7 _ w8 _ w9 _ w10 _ w11 _ w12 _ w13 x0 x1 x2 x3 x4 x5 x6 (w12.unread xs0) (w13.unread xs1) (W12 := W12) (W13 := W13) hp z12 z13
  refine ⟨?_, ?_, ?_⟩
  · unfold out0_B_7
    rw [runB_q, View.read_writes_full]
    exact pq
  · unfold sout0_B_0
    rw [runB_k]
    exact pk
  · unfold sout0_B_1
    rw [runB_v]
    exact pv
end B

section C
variable (hc0 : ¬cond0_0 i) (hc1 : cond0_1 i)
  (xs0 xs1 : Vec Ideal S4352x256 .f32) {W12 W13 : ℕ → ℕ → ℝ}
  (h12 : Rep (n0 := 4352) (n1 := 256) (φ := .f32) xs0 (fun s c => W12 s.val c.val)) (h13 : Rep (n0 := 4352) (n1 := 256) (φ := .f32) xs1 (fun s c => W13 s.val c.val))
include h12 h13
include hp

theorem caseC :
    Rep (n0 := 256) (n1 := 256) (φ := .bf16) (out0_C_7 c i _ w2 _ w3 _ w4 _ w5 _ w6 _ w7 _ w8 _ w9 _ w10 _ w11 _ w12 _ w13 hc0 hc1 x0 x1 x2 x3 x4 x5 x6 xs0 xs1) (fun q l => qAt Q K V O (i 1).val q.val l.val)
    ∧ Rep (n0 := 4352) (n1 := 256) (φ := .f32) (sout0_C_0 c i _ w2 _ w3 _ w4 _ w5 _ w6 _ w7 _ w8 _ w9 _ w10 _ w11 _ w12 _ w13 hc0 hc1 x0 x1 x2 x3 x4 x5 x6 xs0 xs1) (fun s l => W12 s.val l.val + blkK Q K V O (i 1).val s.val l.val)
    ∧ Rep (n0 := 4352) (n1 := 256) (φ := .f32) (sout0_C_1 c i _ w2 _ w3 _ w4 _ w5 _ w6 _ w7 _ w8 _ w9 _ w10 _ w11 _ w12 _ w13 hc0 hc1 x0 x1 x2 x3 x4 x5 x6 xs0 xs1) (fun s l => W13 s.val l.val + blkV Q K O (i 1).val s.val l.val)
    ∧ Rep (n0 := 4352) (n1 := 256) (φ := .bf16) (out0_C_8 c i _ w2 _ w3 _ w4 _ w5 _ w6 _ w7 _ w8 _ w9 _ w10 _ w11 _ w12 _ w13 hc0 hc1 x0 x1 x2 x3 x4 x5 x6 xs0 xs1) (fun s l => W12 s.val l.val + blkK Q K V O (i 1).val s.val l.val)
    ∧ Rep (n0 := 4352) (n1 := 256) (φ := .bf16) (out0_C_9 c i _ w2 _ w3 _ w4 _ w5 _ w6 _ w7 _ w8 _ w9 _ w10 _ w11 _ w12 _ w13 hc0 hc1 x0 x1 x2 x3 x4 x5 x6 xs0 xs1) (fun s l => W13 s.val l.val + blkV Q K O (i 1).val s.val l.val) := by
  have z12 : Rep (n0 := 4352) (n1 := 256) (φ := .f32) (arg12.view.read (Elt Ideal) (w12.unread xs0)) (fun s c => W12 s.val c.val) := by
    rw [w12.read_unread]; exact h12
  have z13 : Rep (n0 := 4352) (n1 := 256) (φ := .f32) (arg13.view.read (Elt Ideal) (w13.unread xs1)) (fun s c => W13 s.val c.val) := by
    rw [w13.read_unread]; exact h13
  obtain ⟨pq, pk, pv⟩ := point_rep c i _ w2 _ w3 _ w4 _ w5 _ w6 _ w7 _ w8 _ w9 _ w10 _ w11 _ w12 _ w13 x0 x1 x2 x3 x4 x5 x6 (w12.unread xs0) (w13.unread xs1) (W12 := W12) (W13 := W13) hp z12 z13
  refine ⟨?_, ?_, ?_, ?_, ?_⟩
  · unfold out0_C_7
    rw [runC_q, View.read_writes_full]
    exact pq
  · unfold sout0_C_0
    rw [runC_k]
    exact pk
  · unfold sout0_C_1
    rw [runC_v]
    exact pv
  · unfold out0_C_8
    rw [runC_gk, View.read_writes_full, readAt_whole]
    exact pk
  · unfold out0_C_9
    rw [runC_gv, View.read_writes_full, readAt_whole]
    exact pv
end C

end Point

end Cert.Att

end
-- ==== Proof.Grid.lean ====
/- The accumulators along the grid, and the output blocks: an induction over the points. -/
module

public import proofs.«01_k».proof.Proof.Cases

@[expose] public section

set_option maxRecDepth 16384

noncomputable section

namespace Cert.Att

open Idealize.ShloMosaic Cert.KernelIdeal Gen
open scoped BigOperators

theorem coord_i : ∀ t : Fin cfg0.N, ((grid0.coords t) 1).val = t.val % 17 :=
  (by decide +kernel : ∀ t : Fin grid0.N, ((grid0.coords t) 1).val = t.val % 17)

/-- The shares of the query blocks up to block `i`. -/
def sumK (Q K V O : ℕ → ℕ → ℝ) (i s l : ℕ) : ℝ := ∑ j ∈ Finset.range (i + 1), blkK Q K V O j s l
def sumV (Q K O : ℕ → ℕ → ℝ) (i s l : ℕ) : ℝ := ∑ j ∈ Finset.range (i + 1), blkV Q K O j s l

theorem sumK_zero (Q K V O : ℕ → ℕ → ℝ) (s l : ℕ) : sumK Q K V O 0 s l = blkK Q K V O 0 s l := by simp [sumK]
theorem sumV_zero (Q K O : ℕ → ℕ → ℝ) (s l : ℕ) : sumV Q K O 0 s l = blkV Q K O 0 s l := by simp [sumV]
theorem sumK_succ (Q K V O : ℕ → ℕ → ℝ) (i s l : ℕ) : sumK Q K V O i s l + blkK Q K V O (i + 1) s l = sumK Q K V O (i + 1) s l := by
  unfold sumK; rw [Finset.sum_range_succ _ (i + 1)]
theorem sumV_succ (Q K O : ℕ → ℕ → ℝ) (i s l : ℕ) : sumV Q K O i s l + blkV Q K O (i + 1) s l = sumV Q K O (i + 1) s l := by
  unfold sumV; rw [Finset.sum_range_succ _ (i + 1)]

section
variable (m : (ℓ : Loc nD τ sig) → Buf (Elt Ideal) ℓ) (c : Dev nD)

section
variable {Q0 Q K V O T : ℕ → ℕ → ℝ} (t : Fin cfg0.N) (hp : PointIn Q0 Q K V O T ((grid0.coords t) 1).val (iblk m c 0 t) (iblk m c 1 t) (iblk m c 2 t) (iblk m c 3 t) (iblk m c 4 t) (iblk m c 5 t) (iblk m c 6 t))
include hp

theorem stepA (h0 : t.val % 17 = 0) (h1 : ¬t.val % 17 = 16) :
    Rep (n0 := 256) (n1 := 256) (φ := .bf16) (outsAt0 m c t.val t.isLt).1 (fun q l => qAt Q K V O (t.val % 17) q.val l.val)
    ∧ Rep (n0 := 4352) (n1 := 256) (φ := .f32) (outsAt0 m c t.val t.isLt).2.2.2.1 (fun s l => blkK Q K V O (t.val % 17) s.val l.val)
    ∧ Rep (n0 := 4352) (n1 := 256) (φ := .f32) (outsAt0 m c t.val t.isLt).2.2.2.2 (fun s l => blkV Q K O (t.val % 17) s.val l.val) := by
  have r := caseA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) hp ((hcond0_0 t).mpr h0) (fun h => h1 ((hcond0_1 t).mp h))
  rw [coord_i t] at r
  have e := outsAt0_A m c t h0 h1
  generalize outsAt0 m c t.val t.isLt = o at e ⊢
  subst e
  dsimp only
  exact r

theorem stepB (h0 : ¬t.val % 17 = 0) (h1 : ¬t.val % 17 = 16) {W12 W13 : ℕ → ℕ → ℝ}
    (h12 : Rep (n0 := 4352) (n1 := 256) (φ := .f32) (outsAt0 m c (t.val - 1) (Nat.lt_of_le_of_lt (Nat.sub_le _ _) t.isLt)).2.2.2.1 (fun s l => W12 s.val l.val)) (h13 : Rep (n0 := 4352) (n1 := 256) (φ := .f32) (outsAt0 m c (t.val - 1) (Nat.lt_of_le_of_lt (Nat.sub_le _ _) t.isLt)).2.2.2.2 (fun s l => W13 s.val l.val)) :
    Rep (n0 := 256) (n1 := 256) (φ := .bf16) (outsAt0 m c t.val t.isLt).1 (fun q l => qAt Q K V O (t.val % 17) q.val l.val)
    ∧ Rep (n0 := 4352) (n1 := 256) (φ := .f32) (outsAt0 m c t.val t.isLt).2.2.2.1 (fun s l => W12 s.val l.val + blkK Q K V O (t.val % 17) s.val l.val)
    ∧ Rep (n0 := 4352) (n1 := 256) (φ := .f32) (outsAt0 m c t.val t.isLt).2.2.2.2 (fun s l => W13 s.val l.val + blkV Q K O (t.val % 17) s.val l.val) := by
  have r := caseB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) hp (fun h => h0 ((hcond0_0 t).mp h)) (fun h => h1 ((hcond0_1 t).mp h)) _ _ h12 h13
  rw [coord_i t] at r
  have e := outsAt0_B m c t h0 h1
  generalize outsAt0 m c t.val t.isLt = o at e ⊢
  subst e
  dsimp only
  exact r

theorem stepC (h0 : ¬t.val % 17 = 0) (h1 : t.val % 17 = 16) {W12 W13 : ℕ → ℕ → ℝ}
    (h12 : Rep (n0 := 4352) (n1 := 256) (φ := .f32) (outsAt0 m c (t.val - 1) (Nat.lt_of_le_of_lt (Nat.sub_le _ _) t.isLt)).2.2.2.1 (fun s l => W12 s.val l.val)) (h13 : Rep (n0 := 4352) (n1 := 256) (φ := .f32) (outsAt0 m c (t.val - 1) (Nat.lt_of_le_of_lt (Nat.sub_le _ _) t.isLt)).2.2.2.2 (fun s l => W13 s.val l.val)) :
    Rep (n0 := 256) (n1 := 256) (φ := .bf16) (outsAt0 m c t.val t.isLt).1 (fun q l => qAt Q K V O (t.val % 17) q.val l.val)
    ∧ Rep (n0 := 4352) (n1 := 256) (φ := .f32) (outsAt0 m c t.val t.isLt).2.2.2.1 (fun s l => W12 s.val l.val + blkK Q K V O (t.val % 17) s.val l.val)
    ∧ Rep (n0 := 4352) (n1 := 256) (φ := .f32) (outsAt0 m c t.val t.isLt).2.2.2.2 (fun s l => W13 s.val l.val + blkV Q K O (t.val % 17) s.val l.val)
    ∧ Rep (n0 := 4352) (n1 := 256) (φ := .bf16) (outsAt0 m c t.val t.isLt).2.1 (fun s l => W12 s.val l.val + blkK Q K V O (t.val % 17) s.val l.val)
    ∧ Rep (n0 := 4352) (n1 := 256) (φ := .bf16) (outsAt0 m c t.val t.isLt).2.2.1 (fun s l => W13 s.val l.val + blkV Q K O (t.val % 17) s.val l.val) := by
  have r := caseC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) hp (fun h => h0 ((hcond0_0 t).mp h)) ((hcond0_1 t).mpr h1) _ _ h12 h13
  rw [coord_i t] at r
  have e := outsAt0_C m c t h0 h1
  generalize outsAt0 m c t.val t.isLt = o at e ⊢
  subst e
  dsimp only
  exact r

end

variable (Q0 Q K V O T : ℕ → ℕ → ℕ → ℝ)

/-- Every point of the grid finds real numbers in its blocks. -/
def GridIn : Prop := ∀ t : Fin cfg0.N, PointIn (Q0 (t.val / 17)) (Q (t.val / 17)) (K (t.val / 17)) (V (t.val / 17)) (O (t.val / 17)) (T (t.val / 17)) ((grid0.coords t) 1).val
  (iblk m c 0 t) (iblk m c 1 t) (iblk m c 2 t) (iblk m c 3 t) (iblk m c 4 t) (iblk m c 5 t) (iblk m c 6 t)

variable {m c Q0 Q K V O T}

theorem grid_rep (h : GridIn m c Q0 Q K V O T) : ∀ (n : ℕ) (hn : n < cfg0.N),
    Rep (n0 := 256) (n1 := 256) (φ := .bf16) (outsAt0 m c n hn).1 (fun q l => qAt (Q (n / 17)) (K (n / 17)) (V (n / 17)) (O (n / 17)) (n % 17) q.val l.val)
    ∧ Rep (n0 := 4352) (n1 := 256) (φ := .f32) (outsAt0 m c n hn).2.2.2.1 (fun s l => sumK (Q (n / 17)) (K (n / 17)) (V (n / 17)) (O (n / 17)) (n % 17) s.val l.val)
    ∧ Rep (n0 := 4352) (n1 := 256) (φ := .f32) (outsAt0 m c n hn).2.2.2.2 (fun s l => sumV (Q (n / 17)) (K (n / 17)) (O (n / 17)) (n % 17) s.val l.val)
    ∧ (n % 17 = 16 → Rep (n0 := 4352) (n1 := 256) (φ := .bf16) (outsAt0 m c n hn).2.1 (fun s l => sumK (Q (n / 17)) (K (n / 17)) (V (n / 17)) (O (n / 17)) 16 s.val l.val)
      ∧ Rep (n0 := 4352) (n1 := 256) (φ := .bf16) (outsAt0 m c n hn).2.2.1 (fun s l => sumV (Q (n / 17)) (K (n / 17)) (O (n / 17)) 16 s.val l.val)) := by
  intro n
  induction n with
  | zero =>
    intro hn
    obtain ⟨p1, p2, p3⟩ := stepA m c ⟨0, hn⟩ (h ⟨0, hn⟩) (Nat.zero_mod _) (show ¬ 0 % 17 = 16 by decide)
    refine ⟨p1, p2.congr fun s l => ?_, p3.congr fun s l => ?_, fun h => absurd h (by decide)⟩
    · exact (sumK_zero _ _ _ _ _ _).symm
    · exact (sumV_zero _ _ _ _ _).symm
  | succ n ih =>
    intro hn
    have hN : n + 1 < 68 := lt_of_lt_of_eq hn (show cfg0.N = 68 from N_0)
    obtain ⟨-, i1, i2, -⟩ := ih (Nat.lt_of_succ_lt hn)
    have hp := h ⟨n + 1, hn⟩
    by_cases h0 : (n + 1) % 17 = 0
    · have h1 : ¬ (n + 1) % 17 = 16 := by omega
      obtain ⟨p1, p2, p3⟩ := stepA m c ⟨n + 1, hn⟩ hp h0 h1
      refine ⟨p1, p2.congr fun s l => ?_, p3.congr fun s l => ?_, fun h => absurd h h1⟩
      · show blkK _ _ _ _ ((n + 1) % 17) _ _ = sumK _ _ _ _ ((n + 1) % 17) _ _
        rw [h0, sumK_zero]
      · show blkV _ _ _ ((n + 1) % 17) _ _ = sumV _ _ _ ((n + 1) % 17) _ _
        rw [h0, sumV_zero]
    · have d1 : (n + 1) / 17 = n / 17 := by omega
      have d2 : (n + 1) % 17 = n % 17 + 1 := by omega
      replace hp : PointIn (Q0 (n / 17)) (Q (n / 17)) (K (n / 17)) (V (n / 17)) (O (n / 17)) (T (n / 17)) ((grid0.coords ⟨n + 1, hn⟩) 1).val
          (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) := by
        have e := hp
        simp only [d1] at e
        exact e
      by_cases h1 : (n + 1) % 17 = 16
      · obtain ⟨p1, p2, p3, p4, p5⟩ := stepC m c ⟨n + 1, hn⟩ hp h0 h1 i1 i2
        have d3 : n % 17 + 1 = 16 := by omega
        rw [d1, d2]
        simp only [d2] at p1 p2 p3 p4 p5
        refine ⟨p1, p2.congr fun s l => sumK_succ _ _ _ _ _ _ _, p3.congr fun s l => sumV_succ _ _ _ _ _ _, fun _ => ⟨p4.congr fun s l => ?_, p5.congr fun s l => ?_⟩⟩
        · rw [sumK_succ, d3]
        · rw [sumV_succ, d3]
      · obtain ⟨p1, p2, p3⟩ := stepB m c ⟨n + 1, hn⟩ hp h0 h1 i1 i2
        rw [d1, d2]
        simp only [d2] at p1 p2 p3
        exact ⟨p1, p2.congr fun s l => sumK_succ _ _ _ _ _ _ _, p3.congr fun s l => sumV_succ _ _ _ _ _ _, fun h => absurd h (by omega)⟩

end

end Cert.Att

end
-- ==== Proof.Out.lean ====
/- The three gradients the kernel leaves, head by head. -/
module

public import proofs.«01_k».proof.Proof.Grid
public import proofs.«01_k».proof.Proof.Gen.KernelIdeal.Value

@[expose] public section

set_option maxRecDepth 16384

noncomputable section

namespace Cert.Att

open Idealize.ShloMosaic Cert.KernelIdeal Gen
open scoped BigOperators

/-- Head `h`'s scores and head `h`'s gradient of the weights, of the lanes of the given rows. -/
def gZ (q k : ℕ → ℕ → ℝ) (h t s : ℕ) : ℝ := ∑ d : Fin 64, k s (64 * h + d.val) * (q t (64 * h + d.val) * (1 / 8))
def gD (o v : ℕ → ℕ → ℝ) (h t s : ℕ) : ℝ := ∑ d : Fin 64, v s (64 * h + d.val) * o t (64 * h + d.val)

/-- The gradients of the queries, the keys and the values. -/
def gQ (q k v o : ℕ → ℕ → ℝ) (t c : ℕ) : ℝ := (∑ s ∈ Finset.range 4352, rDz (gZ q k (c / 64)) (gD o v (c / 64)) t s * k s c) * (1 / 8)
def gK (q k v o : ℕ → ℕ → ℝ) (s c : ℕ) : ℝ := ∑ t ∈ Finset.range 4352, rDz (gZ q k (c / 64)) (gD o v (c / 64)) t s * (q t c * (1 / 8))
def gV (q k o : ℕ → ℕ → ℝ) (s c : ℕ) : ℝ := ∑ t ∈ Finset.range 4352, rA (gZ q k (c / 64)) t s * o t c

/-- The lanes of one group of four heads. -/
def grp (x : ℕ → ℕ → ℝ) (p t c : ℕ) : ℝ := x t (256 * p + c)
def grp8 (x : ℕ → ℕ → ℝ) (p t c : ℕ) : ℝ := x t (256 * p + c) * (1 / 8)

/-- Of a pair of heads' lanes, the masked sum is one head's. -/
theorem sum_half (b : ℕ) (hb : b < 2) (f : ℕ → ℝ) (g : ℕ → ℝ) : ∑ d : Fin 128, f d.val * (if d.val / 64 = b then g d.val else 0) = ∑ d : Fin 64, f (64 * b + d.val) * g (64 * b + d.val) := by
  rw [Fin.sum_univ_eq_sum_range (fun d => f d * (if d / 64 = b then g d else 0)) 128, Fin.sum_univ_eq_sum_range (fun d => f (64 * b + d) * g (64 * b + d)) 64,
    show (128 : ℕ) = 64 + 64 from rfl, Finset.sum_range_add]
  rcases (show b = 0 ∨ b = 1 by omega) with rfl | rfl
  · rw [Finset.sum_eq_zero (s := Finset.range 64) (f := fun x => f (64 + x) * (if (64 + x) / 64 = 0 then g (64 + x) else 0))]
    · rw [add_zero]
      refine Finset.sum_congr rfl fun x hx => ?_
      have := Finset.mem_range.mp hx
      rw [if_pos (by omega), Nat.mul_zero, Nat.zero_add]
    · intro x hx
      rw [if_neg (by omega), mul_zero]
  · rw [Finset.sum_eq_zero (s := Finset.range 64) (f := fun x => f x * (if x / 64 = 1 then g x else 0))]
    · rw [zero_add]
      refine Finset.sum_congr rfl fun x hx => ?_
      have := Finset.mem_range.mp hx
      rw [if_pos (by omega), Nat.mul_one]
    · intro x hx
      have := Finset.mem_range.mp hx
      rw [if_neg (by omega), mul_zero]

theorem sc_grp8 (q k : ℕ → ℕ → ℝ) (p h : ℕ) : sc (grp8 q p) (grp k p) h = gZ q k (4 * p + h) := by
  funext t s
  unfold sc msk gZ
  rw [sum_half (h % 2) (by omega) (fun d => grp k p s (128 * (h / 2) + d)) (fun d => grp8 q p t (128 * (h / 2) + d))]
  refine Finset.sum_congr rfl fun d _ => ?_
  unfold grp grp8
  rw [show 256 * p + (128 * (h / 2) + (64 * (h % 2) + d.val)) = 64 * (4 * p + h) + d.val by omega]

theorem sc_grp (o v : ℕ → ℕ → ℝ) (p h : ℕ) : sc (grp o p) (grp v p) h = gD o v (4 * p + h) := by
  funext t s
  unfold sc msk gD
  rw [sum_half (h % 2) (by omega) (fun d => grp v p s (128 * (h / 2) + d)) (fun d => grp o p t (128 * (h / 2) + d))]
  refine Finset.sum_congr rfl fun d _ => ?_
  unfold grp
  rw [show 256 * p + (128 * (h / 2) + (64 * (h % 2) + d.val)) = 64 * (4 * p + h) + d.val by omega]

/-- Of the two heads of a lane block, the one that holds lane `l` contributes. -/
theorem pick (f : ℕ → ℝ) (x : ℕ → ℝ) (l : ℕ) : f (2 * (l / 128)) * (if l % 128 / 64 = 2 * (l / 128) % 2 then x (128 * (2 * (l / 128) / 2) + l % 128) else 0)
    + f (2 * (l / 128) + 1) * (if l % 128 / 64 = (2 * (l / 128) + 1) % 2 then x (128 * ((2 * (l / 128) + 1) / 2) + l % 128) else 0) = f (l / 64) * x l := by
  by_cases h : l % 128 / 64 = 0
  · rw [if_pos (by omega), if_neg (by omega), mul_zero, add_zero, show 2 * (l / 128) = l / 64 by omega, show 128 * (l / 64 / 2) + l % 128 = l by omega]
  · rw [if_neg (by omega), if_pos (by omega), mul_zero, zero_add, show 2 * (l / 128) + 1 = l / 64 by omega, show 128 * (l / 64 / 2) + l % 128 = l by omega]

section
variable (q k v o : ℕ → ℕ → ℝ)

theorem dqT_grp (p t s l : ℕ) : dqT (grp8 q p) (grp k p) (grp v p) (grp o p) (l / 128) t s (l % 128)
    = rDz (gZ q k (4 * p + l / 64)) (gD o v (4 * p + l / 64)) t s * k s (256 * p + l) := by
  unfold dqT dz msk
  rw [pick (fun h => rDz (sc (grp8 q p) (grp k p) h) (sc (grp o p) (grp v p) h) t s) (fun c => grp k p s c) l, sc_grp8, sc_grp]
  rfl

theorem dkT_grp (p t s l : ℕ) : dkT (grp8 q p) (grp k p) (grp v p) (grp o p) (l / 128) t s (l % 128)
    = rDz (gZ q k (4 * p + l / 64)) (gD o v (4 * p + l / 64)) t s * (q t (256 * p + l) * (1 / 8)) := by
  unfold dkT dz msk
  rw [pick (fun h => rDz (sc (grp8 q p) (grp k p) h) (sc (grp o p) (grp v p) h) t s) (fun c => grp8 q p t c) l, sc_grp8, sc_grp]
  rfl

theorem dvT_grp (p t s l : ℕ) : dvT (grp8 q p) (grp k p) (grp o p) (l / 128) t s (l % 128)
    = rA (gZ q k (4 * p + l / 64)) t s * o t (256 * p + l) := by
  unfold dvT wt msk
  rw [pick (fun h => rA (sc (grp8 q p) (grp k p) h) t s) (fun c => grp o p t c) l, sc_grp8]
  rfl

/-- A sum over the rows, block of rows by block of rows. -/
theorem sum_blocks (f : ℕ → ℝ) (n : ℕ) : ∑ i ∈ Finset.range n, ∑ a : Fin 256, f (256 * i + a.val) = ∑ t ∈ Finset.range (256 * n), f t := by
  induction n with
  | zero => simp
  | succ n ih =>
    rw [Finset.sum_range_succ, ih, Nat.mul_succ, Finset.sum_range_add, Fin.sum_univ_eq_sum_range (fun a => f (256 * n + a)) 256]

theorem qAt_grp (r c : ℕ) (hr : r < 4352) : qAt (grp8 q (c / 256)) (grp k (c / 256)) (grp v (c / 256)) (grp o (c / 256)) (r / 256) (r % 256) (c % 256) = gQ q k v o r c := by
  unfold qAt gQ
  congr 1
  have e : ∀ s, dqT (grp8 q (c / 256)) (grp k (c / 256)) (grp v (c / 256)) (grp o (c / 256)) (c % 256 / 128) (256 * (r / 256) + r % 256) s (c % 256 % 128)
      = rDz (gZ q k (c / 64)) (gD o v (c / 64)) r s * k s c := fun s => by
    rw [dqT_grp, show 256 * (r / 256) + r % 256 = r by omega, show 4 * (c / 256) + c % 256 / 64 = c / 64 by omega, show 256 * (c / 256) + c % 256 = c by omega]
  rw [Finset.sum_congr rfl fun s _ => e s]
  refine Finset.sum_subset (fun s hs => ?_) fun s hs hn => ?_
  · have := Finset.mem_range.mp hs
    exact Finset.mem_range.mpr (by omega)
  · have h1 : ¬ s < 256 * (r / 256 + 1) := fun h => hn (Finset.mem_range.mpr h)
    rw [rDz_of_le _ _ (by omega), zero_mul]

theorem sumK_grp (s c : ℕ) : sumK (grp8 q (c / 256)) (grp k (c / 256)) (grp v (c / 256)) (grp o (c / 256)) 16 s (c % 256) = gK q k v o s c := by
  unfold sumK gK blkK
  rw [sum_blocks (fun t => dkT (grp8 q (c / 256)) (grp k (c / 256)) (grp v (c / 256)) (grp o (c / 256)) (c % 256 / 128) t s (c % 256 % 128)) 17]
  refine Finset.sum_congr rfl fun t _ => ?_
  rw [dkT_grp, show 4 * (c / 256) + c % 256 / 64 = c / 64 by omega, show 256 * (c / 256) + c % 256 = c by omega]

theorem sumV_grp (s c : ℕ) : sumV (grp8 q (c / 256)) (grp k (c / 256)) (grp o (c / 256)) 16 s (c % 256) = gV q k o s c := by
  unfold sumV gV blkV
  rw [sum_blocks (fun t => dvT (grp8 q (c / 256)) (grp k (c / 256)) (grp o (c / 256)) (c % 256 / 128) t s (c % 256 % 128)) 17]
  refine Finset.sum_congr rfl fun t _ => ?_
  rw [dvT_grp, show 4 * (c / 256) + c % 256 / 64 = c / 64 by omega, show 256 * (c / 256) + c % 256 = c by omega]

end

section
variable {m : (ℓ : Loc nD τ sig) → Buf (Elt Ideal) ℓ} {c : Dev nD} {q k v o : ℕ → ℕ → ℝ} {T : ℕ → ℕ → ℕ → ℝ}
  (h : GridIn m c (grp q) (grp8 q) (grp k) (grp v) (grp o) T)
include h

theorem out_q (r : Fin 4352) (l : Fin 1024) : Value.G7 m c (ValueIdx.ix2 r l) = ((gQ q k v o r.val l.val : ℝ) : EReal) := by
  have hp : Value.pt7Of (ValueIdx.ix2 r l) = r.val / 256 + 17 * (l.val / 256) := by
    show 1 * (r.val / 256 - 0) + 17 * (l.val / 256 - 0) = _
    omega
  have hb : Value.pt7Of (ValueIdx.ix2 r l) < cfg0.N := by
    rw [hp, show cfg0.N = 68 from N_0]; omega
  unfold Value.G7
  rw [dif_pos hb, ← Value.outsAt0_sweep m c _ hb]
  have g := (grid_rep h _ hb).1 ⟨r.val % 256, by omega⟩ ⟨l.val % 256, by omega⟩
  refine Eq.trans (congrArg _ ?_) (g.trans ?_)
  · funext a
    match a with
    | 0 => rfl
    | 1 => rfl
  · rw [hp, ← qAt_grp q k v o r.val l.val r.isLt, show (r.val / 256 + 17 * (l.val / 256)) / 17 = l.val / 256 by omega, show (r.val / 256 + 17 * (l.val / 256)) % 17 = r.val / 256 by omega]

theorem out_k (r : Fin 4352) (l : Fin 1024) : Value.G8 m c (ValueIdx.ix2 r l) = ((gK q k v o r.val l.val : ℝ) : EReal) := by
  have hp : Value.pt8Of (ValueIdx.ix2 r l) = 17 * (l.val / 256) + 16 := by
    show 17 * (4 * (r.val / 4352 - 0) + 1 * (l.val / 256 - 0)) + 16 = _
    omega
  have hb : Value.pt8Of (ValueIdx.ix2 r l) < cfg0.N := by
    rw [hp, show cfg0.N = 68 from N_0]; omega
  unfold Value.G8
  rw [dif_pos hb, ← Value.outsAt0_sweep m c _ hb]
  have g := ((grid_rep h _ hb).2.2.2 (by rw [hp]; omega)).1 r ⟨l.val % 256, by omega⟩
  refine Eq.trans (congrArg _ ?_) (g.trans ?_)
  · funext a
    match a with
    | 0 => exact Fin.ext (Nat.mod_eq_of_lt r.isLt)
    | 1 => rfl
  · rw [hp, ← sumK_grp q k v o r.val l.val, show (17 * (l.val / 256) + 16) / 17 = l.val / 256 by omega]

theorem out_v (r : Fin 4352) (l : Fin 1024) : Value.G9 m c (ValueIdx.ix2 r l) = ((gV q k o r.val l.val : ℝ) : EReal) := by
  have hp : Value.pt9Of (ValueIdx.ix2 r l) = 17 * (l.val / 256) + 16 := by
    show 17 * (4 * (r.val / 4352 - 0) + 1 * (l.val / 256 - 0)) + 16 = _
    omega
  have hb : Value.pt9Of (ValueIdx.ix2 r l) < cfg0.N := by
    rw [hp, show cfg0.N = 68 from N_0]; omega
  unfold Value.G9
  rw [dif_pos hb, ← Value.outsAt0_sweep m c _ hb]
  have g := ((grid_rep h _ hb).2.2.2 (by rw [hp]; omega)).2 r ⟨l.val % 256, by omega⟩
  refine Eq.trans (congrArg _ ?_) (g.trans ?_)
  · funext a
    match a with
    | 0 => exact Fin.ext (Nat.mod_eq_of_lt r.isLt)
    | 1 => rfl
  · rw [hp, ← sumV_grp q k o r.val l.val, show (17 * (l.val / 256) + 16) / 17 = l.val / 256 by omega]

end

end Cert.Att

end
-- ==== Proof.Scalar.lean ====
/- The logarithm of the logistic function as the host writes it, and its derivative, of a real number. -/
module

public import proofs.«01_k».proof.Proof.Rep

@[expose] public section

set_option maxRecDepth 16384

noncomputable section

namespace Cert.Att

open Idealize.ShloMosaic
open scoped BigOperators

/-- The logarithm of `1 + exp (-z)` as the host computes it. -/
def softE (z : EReal) : EReal :=
  Scalar.select (Ideal.cmp .une (-z - Ideal.ofBits .f32 0x00000000#32) (-z - Ideal.ofBits .f32 0x00000000#32)) (-z + Ideal.ofBits .f32 0x00000000#32)
    (max (-z) (Ideal.ofBits .f32 0x00000000#32)
      + Ideal.log1p (Ideal.exp (-(max (-z - Ideal.ofBits .f32 0x00000000#32) (-(-z - Ideal.ofBits .f32 0x00000000#32))))))

/-- The derivative's factor as the host computes it. -/
def slopeE (z : EReal) : EReal :=
  Ideal.exp (Scalar.select (Ideal.cmp .oeq (-z) (Ideal.ofBits .f32 0x7F800000#32)) (Ideal.ofBits .f32 0x00000000#32) (-z)
    - Scalar.select (Ideal.cmp .oeq (softE z) (Ideal.ofBits .f32 0x7F800000#32)) (Ideal.ofBits .f32 0x00000000#32) (softE z))

theorem ofBits_infinite : Ideal.ofBits .f32 0x7F800000#32 = ⊤ := by simp [Ideal.ofBits, Ideal.ieee]

theorem coe_abs (r : ℝ) : max (r : EReal) (-(r : EReal)) = ((|r| : ℝ) : EReal) := by
  rw [← EReal.coe_neg]; exact (EReal.coe_strictMono.monotone.map_max).symm

theorem softE_coe (z : ℝ) : softE (z : EReal) = ((-lsig z : ℝ) : EReal) := by
  unfold softE
  rw [ofBits_zero, sub_zero, ← EReal.coe_neg, coe_abs, abs_neg, ← EReal.coe_neg]
  have e0 : Ideal.cmp .une ((-z : ℝ) : EReal) ((-z : ℝ) : EReal) = 0#1 := by simp [Ideal.cmp]
  have e1 : max ((-z : ℝ) : EReal) 0 = ((max (-z) 0 : ℝ) : EReal) := by
    rw [← EReal.coe_zero]; exact (EReal.coe_strictMono.monotone.map_max).symm
  have e2 : Ideal.log1p (Ideal.exp ((-|z| : ℝ) : EReal)) = ((Real.log (1 + Real.exp (-|z|)) : ℝ) : EReal) := by
    show Ideal.log (1 + ((Real.exp (-|z|) : ℝ) : EReal)) = _
    rw [← EReal.coe_one, ← EReal.coe_add]
    show (if (1 + Real.exp (-|z|)) ≤ 0 then (⊥ : EReal) else _) = _
    rw [if_neg (by have := Real.exp_pos (-|z|); linarith)]
  rw [e0, e1, e2, ← EReal.coe_add]
  show Scalar.select 0#1 _ _ = _
  unfold Scalar.select
  rw [if_neg (by decide)]
  congr 1
  unfold lsig
  rcases le_total z 0 with h | h
  · rw [min_eq_left h, max_eq_left (by linarith)]; ring
  · rw [min_eq_right h, max_eq_right (by linarith)]; ring

/-- The logistic function's two values sum to one. -/
theorem exp_lsig (z : ℝ) : Real.exp (-z + lsig z) = 1 - Real.exp (lsig z) := by
  unfold lsig
  have hp : (0 : ℝ) < 1 + Real.exp (-|z|) := by have := Real.exp_pos (-|z|); linarith
  rcases le_total z 0 with h | h
  · rw [min_eq_left h, abs_of_nonpos h, neg_neg] at *
    rw [show -z + (z - Real.log (1 + Real.exp z)) = -Real.log (1 + Real.exp z) by ring, Real.exp_neg, Real.exp_sub, Real.exp_log hp]
    field_simp
    ring
  · rw [min_eq_right h, abs_of_nonneg h] at *
    rw [show -z + (0 - Real.log (1 + Real.exp (-z))) = -z - Real.log (1 + Real.exp (-z)) by ring, Real.exp_sub, Real.exp_sub, Real.exp_log hp, Real.exp_zero]
    field_simp
    ring

theorem slopeE_coe (z : ℝ) : slopeE (z : EReal) = ((1 - Real.exp (lsig z) : ℝ) : EReal) := by
  unfold slopeE
  rw [softE_coe, ofBits_infinite, ← EReal.coe_neg]
  have e : ∀ r : ℝ, Scalar.select (Ideal.cmp .oeq (r : EReal) ⊤) (Ideal.ofBits .f32 0x00000000#32) (r : EReal) = (r : EReal) := fun r => by
    have : Ideal.cmp .oeq (r : EReal) ⊤ = 0#1 := by simp [Ideal.cmp]
    rw [this]; unfold Scalar.select; rw [if_neg (by decide)]
  rw [e, e, ← EReal.coe_sub, ← exp_lsig]
  show ((Real.exp (-z - -lsig z) : ℝ) : EReal) = _
  rw [sub_neg_eq_add]

/-- Small numbers survive as thirty-two bit words. -/
theorem toInt_lt (n : ℕ) (h : n < 4352) : (BitVec.ofNat 32 n).toInt = (n : ℤ) := by
  rw [BitVec.toInt_eq_toNat_cond, BitVec.toNat_ofNat]
  have e : n % 2 ^ 32 = n := Nat.mod_eq_of_lt (by omega)
  rw [e, if_pos (by omega)]

end Cert.Att

end
-- ==== Proof.Cumsum.lean ====
/- The host's running sums along the last axis, of real numbers. -/
module

public import proofs.«01_k».proof.Proof.Rep

@[expose] public section

set_option maxRecDepth 16384

noncomputable section

namespace Cert.Att

open Idealize.ShloMosaic
open scoped BigOperators

/-- Heads by queries by keys. -/
abbrev S3 : Shape := ⟨3, ![16, 4352, 4352]⟩

/-- The array `x` holds the real numbers `r`. -/
def R3 {d : Fin 3 → ℕ} (x : (⟨3, d⟩ : Shape).Idx → EReal) (r : ℕ → ℕ → ℕ → ℝ) : Prop :=
  ∀ i, x i = ((r (i 0).val (i 1).val (i 2).val : ℝ) : EReal)

theorem foldl_sum {ι : Type*} (l : List ι) (f : ι → EReal) (v : EReal) : l.foldl (fun r n => r + f n) v = v + (l.map f).sum := by
  induction l generalizing v with
  | nil => simp
  | cons a l ih => rw [List.foldl_cons, ih, List.map_cons, List.sum_cons, add_assoc]

theorem sum_shift (n : ℕ) (hn : n < 4352) (f : ℕ → ℝ) :
    ∑ k ∈ (Finset.range 4352).filter (fun k => 4351 ≤ n + k), f (n + k - 4351) = ∑ s ∈ Finset.range (n + 1), f s := by
  have e : (Finset.range 4352).filter (fun k => 4351 ≤ n + k) = Finset.Ico (4351 - n) 4352 := by
    ext k
    rw [Finset.mem_filter, Finset.mem_range, Finset.mem_Ico]
    omega
  rw [e, Finset.sum_Ico_eq_sum_range, show 4352 - (4351 - n) = n + 1 by omega]
  exact Finset.sum_congr rfl fun k _ => by rw [show n + (4351 - n + k) - 4351 = k by omega]

/-- A window along the last axis only, position by position. -/
def winEquiv : (⟨3, ![1, 1, 4352]⟩ : Shape).Idx ≃ Fin 4352 where
  toFun w := w 2
  invFun k := fun a => match a with
    | ⟨0, _⟩ => ⟨0, Nat.one_pos⟩
    | ⟨1, _⟩ => ⟨0, Nat.one_pos⟩
    | ⟨2, _⟩ => k
  left_inv w := funext fun a => match a with
    | ⟨0, _⟩ => Fin.ext (by have : (w 0).val < 1 := (w 0).isLt; show 0 = (w 0).val; omega)
    | ⟨1, _⟩ => Fin.ext (by have : (w 1).val < 1 := (w 1).isLt; show 0 = (w 1).val; omega)
    | ⟨2, _⟩ => rfl
  right_inv _ := rfl

theorem dite_inst {P : Prop} (d e : Decidable P) (f : P → EReal) (g : ¬P → EReal) : @dite EReal P d f g = @dite EReal P e f g := by
  rw [Subsingleton.elim d e]

/-- The sum over a window along the last axis is the sum over its positions. -/
theorem window_sum (lo hi : Fin 3 → ℕ) (x : S3.Idx → EReal) (h : S3.ReduceWindows ![1, 1, 4352] ![1, 1, 1] lo hi S3) (i : S3.Idx) :
    Ideal.hostReduceWindowAdd ![1, 1, 4352] ![1, 1, 1] lo hi h x 0 i = ∑ k : Fin 4352,
      (if hin : ∀ a, lo a ≤ (i a).val * (![1, 1, 1] : Fin 3 → ℕ) a + (winEquiv.symm k a).val ∧ (i a).val * (![1, 1, 1] : Fin 3 → ℕ) a + (winEquiv.symm k a).val - lo a < S3.size a
        then x (fun a => ⟨(i a).val * (![1, 1, 1] : Fin 3 → ℕ) a + (winEquiv.symm k a).val - lo a, (hin a).2⟩) else 0) := by
  unfold Ideal.hostReduceWindowAdd Host.reduceWindow
  dsimp only
  rw [foldl_sum, zero_add, ← List.ofFn_eq_map, List.sum_ofFn]
  refine Eq.trans (Finset.sum_congr rfl fun n _ => ?_) ((Equiv.sum_comp (⟨3, ![1, 1, 4352]⟩ : Shape).rowMajor.symm (fun w =>
    (if hin : ∀ a, lo a ≤ (i a).val * (![1, 1, 1] : Fin 3 → ℕ) a + (w a).val ∧ (i a).val * (![1, 1, 1] : Fin 3 → ℕ) a + (w a).val - lo a < S3.size a
        then x (fun a => ⟨(i a).val * (![1, 1, 1] : Fin 3 → ℕ) a + (w a).val - lo a, (hin a).2⟩) else (0 : EReal)))).trans (Equiv.sum_comp winEquiv.symm _).symm)
  exact dite_inst _ _ _ _

/-- The sum of an element and all that follow it. -/
theorem cumsum_up {x : S3.Idx → EReal} {r : ℕ → ℕ → ℕ → ℝ} (hx : R3 x r) (h : S3.ReduceWindows ![1, 1, 4352] ![1, 1, 1] ![0, 0, 0] ![0, 0, 4351] S3) :
    R3 (d := ![16, 4352, 4352]) (Ideal.hostReduceWindowAdd ![1, 1, 4352] ![1, 1, 1] ![0, 0, 0] ![0, 0, 4351] h x 0) (fun a t s => ∑ s' ∈ Finset.Ico s 4352, r a t s') := fun i => by
  have h2 : (i 2).val < 4352 := (i 2).isLt
  have h1 : (i 1).val < 4352 := (i 1).isLt
  have h0 : (i 0).val < 16 := (i 0).isLt
  rw [window_sum]
  dsimp only
  rw [Finset.sum_Ico_eq_sum_range]
  have e : ∀ k : Fin 4352, (if hin : ∀ a, (![0, 0, 0] : Fin 3 → ℕ) a ≤ (i a).val * (![1, 1, 1] : Fin 3 → ℕ) a + (winEquiv.symm k a).val ∧ (i a).val * (![1, 1, 1] : Fin 3 → ℕ) a + (winEquiv.symm k a).val - (![0, 0, 0] : Fin 3 → ℕ) a < S3.size a
        then x (fun a => ⟨(i a).val * (![1, 1, 1] : Fin 3 → ℕ) a + (winEquiv.symm k a).val - (![0, 0, 0] : Fin 3 → ℕ) a, (hin a).2⟩) else 0)
      = (((if k.val < 4352 - (i 2).val then r (i 0).val (i 1).val ((i 2).val + k.val) else 0 : ℝ)) : EReal) := fun k => by
    by_cases hk : k.val < 4352 - (i 2).val
    · have hin : ∀ a, (![0, 0, 0] : Fin 3 → ℕ) a ≤ (i a).val * (![1, 1, 1] : Fin 3 → ℕ) a + (winEquiv.symm k a).val ∧ (i a).val * (![1, 1, 1] : Fin 3 → ℕ) a + (winEquiv.symm k a).val - (![0, 0, 0] : Fin 3 → ℕ) a < S3.size a := fun a => match a with
        | ⟨0, _⟩ => by show 0 ≤ (i 0).val * 1 + 0 ∧ (i 0).val * 1 + 0 - 0 < 16; omega
        | ⟨1, _⟩ => by show 0 ≤ (i 1).val * 1 + 0 ∧ (i 1).val * 1 + 0 - 0 < 4352; omega
        | ⟨2, _⟩ => by show 0 ≤ (i 2).val * 1 + k.val ∧ (i 2).val * 1 + k.val - 0 < 4352; omega
      rw [dif_pos hin, if_pos hk, hx]
      show ((r ((i 0).val * 1 + 0 - 0) ((i 1).val * 1 + 0 - 0) ((i 2).val * 1 + k.val - 0) : ℝ) : EReal) = _
      simp only [Nat.mul_one, Nat.add_zero, Nat.sub_zero]
    · rw [dif_neg (fun hin => hk (by have := (hin 2).2; change (i 2).val * 1 + k.val - 0 < 4352 at this; omega)), if_neg hk, EReal.coe_zero]
  rw [Finset.sum_congr rfl fun k _ => e k, coe_sum, Fin.sum_univ_eq_sum_range (fun k => if k < 4352 - (i 2).val then r (i 0).val (i 1).val ((i 2).val + k) else 0) 4352, ← Finset.sum_filter]
  congr 2
  ext k
  simp only [Finset.mem_filter, Finset.mem_range]
  omega

/-- The sum of an element and all before it. -/
theorem cumsum_down {x : S3.Idx → EReal} {r : ℕ → ℕ → ℕ → ℝ} (hx : R3 x r) (h : S3.ReduceWindows ![1, 1, 4352] ![1, 1, 1] ![0, 0, 4351] ![0, 0, 0] S3) :
    R3 (d := ![16, 4352, 4352]) (Ideal.hostReduceWindowAdd ![1, 1, 4352] ![1, 1, 1] ![0, 0, 4351] ![0, 0, 0] h x 0) (fun a t s => ∑ s' ∈ Finset.range (s + 1), r a t s') := fun i => by
  have h2 : (i 2).val < 4352 := (i 2).isLt
  have h1 : (i 1).val < 4352 := (i 1).isLt
  have h0 : (i 0).val < 16 := (i 0).isLt
  rw [window_sum]
  dsimp only
  have e : ∀ k : Fin 4352, (if hin : ∀ a, (![0, 0, 4351] : Fin 3 → ℕ) a ≤ (i a).val * (![1, 1, 1] : Fin 3 → ℕ) a + (winEquiv.symm k a).val ∧ (i a).val * (![1, 1, 1] : Fin 3 → ℕ) a + (winEquiv.symm k a).val - (![0, 0, 4351] : Fin 3 → ℕ) a < S3.size a
        then x (fun a => ⟨(i a).val * (![1, 1, 1] : Fin 3 → ℕ) a + (winEquiv.symm k a).val - (![0, 0, 4351] : Fin 3 → ℕ) a, (hin a).2⟩) else 0)
      = (((if 4351 ≤ (i 2).val + k.val then r (i 0).val (i 1).val ((i 2).val + k.val - 4351) else 0 : ℝ)) : EReal) := fun k => by
    by_cases hk : 4351 ≤ (i 2).val + k.val
    · have hin : ∀ a, (![0, 0, 4351] : Fin 3 → ℕ) a ≤ (i a).val * (![1, 1, 1] : Fin 3 → ℕ) a + (winEquiv.symm k a).val ∧ (i a).val * (![1, 1, 1] : Fin 3 → ℕ) a + (winEquiv.symm k a).val - (![0, 0, 4351] : Fin 3 → ℕ) a < S3.size a := fun a => match a with
        | ⟨0, _⟩ => by show 0 ≤ (i 0).val * 1 + 0 ∧ (i 0).val * 1 + 0 - 0 < 16; omega
        | ⟨1, _⟩ => by show 0 ≤ (i 1).val * 1 + 0 ∧ (i 1).val * 1 + 0 - 0 < 4352; omega
        | ⟨2, _⟩ => by have := k.isLt; show 4351 ≤ (i 2).val * 1 + k.val ∧ (i 2).val * 1 + k.val - 4351 < 4352; omega
      rw [dif_pos hin, if_pos hk, hx]
      show ((r ((i 0).val * 1 + 0 - 0) ((i 1).val * 1 + 0 - 0) ((i 2).val * 1 + k.val - 4351) : ℝ) : EReal) = _
      simp only [Nat.mul_one, Nat.add_zero, Nat.sub_zero]
    · rw [dif_neg (fun hin => hk (by have := (hin 2).1; change 4351 ≤ (i 2).val * 1 + k.val at this; omega)), if_neg hk, EReal.coe_zero]
  rw [Finset.sum_congr rfl fun k _ => e k, coe_sum, Fin.sum_univ_eq_sum_range (fun k => if 4351 ≤ (i 2).val + k then r (i 0).val (i 1).val ((i 2).val + k - 4351) else 0) 4352, ← Finset.sum_filter]
  rw [sum_shift (i 2).val h2 (r (i 0).val (i 1).val)]

end Cert.Att

end
-- ==== Proof.Ref.lean ====
/- The reference's scores, weights and gradients of the scores, of real numbers. -/
module

public import proofs.«01_k».proof.Proof.Out
public import proofs.«01_k».proof.Proof.Scalar
public import proofs.«01_k».proof.Proof.Cumsum
public import proofs.«01_k».proof.Proof.Gen.ReferenceIdeal.Read

@[expose] public section

set_option maxRecDepth 16384

noncomputable section

namespace Cert.Att

open Idealize.ShloMosaic Cert.ReferenceIdeal Cert.ReferenceIdeal.Gen Cert.ReferenceIdeal.Read
open scoped BigOperators

/-- The arguments hold real numbers where the queries, keys, values and output gradients lie. -/
structure HostIn (x0 : (⟨S4352x8192, .bf16⟩ : BufTy).Contents (Elt Ideal)) (x1 : (⟨S4352x1024, .bf16⟩ : BufTy).Contents (Elt Ideal)) (X O : ℕ → ℕ → ℝ) : Prop where
  x : ∀ i : S4352x8192.Idx, 3072 ≤ (i 1).val → (i 1).val < 6144 → x0 i = ((X (i 0).val (i 1).val : ℝ) : EReal)
  o : ∀ i : S4352x1024.Idx, x1 i = ((O (i 0).val (i 1).val : ℝ) : EReal)

def cQ (X : ℕ → ℕ → ℝ) (t c : ℕ) : ℝ := X t (3072 + c)
def cK (X : ℕ → ℕ → ℝ) (t c : ℕ) : ℝ := X t (4096 + c)
def cV (X : ℕ → ℕ → ℝ) (t c : ℕ) : ℝ := X t (5120 + c)

variable {x0 : (⟨S4352x8192, .bf16⟩ : BufTy).Contents (Elt Ideal)} {x1 : (⟨S4352x1024, .bf16⟩ : BufTy).Contents (Elt Ideal)} {X O : ℕ → ℕ → ℝ}

theorem ref_split (t h d : ℕ) (hh : h < 16) (hd : d < 64) :
    ((t * 16 + h) * 64 + d) / 1024 = t ∧ ((t * 16 + h) * 64 + d) % 1024 = 64 * h + d := by omega

theorem ref_q (H : HostIn x0 x1 X O) : R3 (d := ![4352, 16, 64]) (val_main_v2 (F := Ideal) x0) (fun t h d => cQ X t (64 * h + d)) := fun i => by
  have h1 : (i 1).val < 16 := (i 1).isLt
  have h2 : (i 2).val < 64 := (i 2).isLt
  have e := ref_split (i 0).val (i 1).val (i 2).val h1 h2
  rw [val_main_v2_apply, val_main_v1_apply]
  refine (H.x _ ?_ ?_).trans ?_
  · show 3072 ≤ 3072 + _; omega
  · show 3072 + (((i 0).val * 16 + (i 1).val) * 64 + (i 2).val) % 1024 < 6144; omega
  · show ((X ((((i 0).val * 16 + (i 1).val) * 64 + (i 2).val) / 1024) (3072 + (((i 0).val * 16 + (i 1).val) * 64 + (i 2).val) % 1024) : ℝ) : EReal) = _
    rw [e.1, e.2]; rfl

theorem ref_k (H : HostIn x0 x1 X O) : R3 (d := ![4352, 16, 64]) (val_main_v4 (F := Ideal) x0) (fun t h d => cK X t (64 * h + d)) := fun i => by
  have h1 : (i 1).val < 16 := (i 1).isLt
  have h2 : (i 2).val < 64 := (i 2).isLt
  have e := ref_split (i 0).val (i 1).val (i 2).val h1 h2
  rw [val_main_v4_apply, val_main_v3_apply]
  refine (H.x _ ?_ ?_).trans ?_
  · show 3072 ≤ 4096 + _; omega
  · show 4096 + (((i 0).val * 16 + (i 1).val) * 64 + (i 2).val) % 1024 < 6144; omega
  · show ((X ((((i 0).val * 16 + (i 1).val) * 64 + (i 2).val) / 1024) (4096 + (((i 0).val * 16 + (i 1).val) * 64 + (i 2).val) % 1024) : ℝ) : EReal) = _
    rw [e.1, e.2]; rfl

theorem ref_v (H : HostIn x0 x1 X O) : R3 (d := ![4352, 16, 64]) (val_main_v6 (F := Ideal) x0) (fun t h d => cV X t (64 * h + d)) := fun i => by
  have h1 : (i 1).val < 16 := (i 1).isLt
  have h2 : (i 2).val < 64 := (i 2).isLt
  have e := ref_split (i 0).val (i 1).val (i 2).val h1 h2
  rw [val_main_v6_apply, val_main_v5_apply]
  refine (H.x _ ?_ ?_).trans ?_
  · show 3072 ≤ 5120 + _; omega
  · show 5120 + (((i 0).val * 16 + (i 1).val) * 64 + (i 2).val) % 1024 < 6144; omega
  · show ((X ((((i 0).val * 16 + (i 1).val) * 64 + (i 2).val) / 1024) (5120 + (((i 0).val * 16 + (i 1).val) * 64 + (i 2).val) % 1024) : ℝ) : EReal) = _
    rw [e.1, e.2]; rfl

theorem ref_o (H : HostIn x0 x1 X O) : R3 (d := ![4352, 16, 64]) (val_main_v8 (F := Ideal) x1) (fun t h d => O t (64 * h + d)) := fun i => by
  have h1 : (i 1).val < 16 := (i 1).isLt
  have h2 : (i 2).val < 64 := (i 2).isLt
  have e := ref_split (i 0).val (i 1).val (i 2).val h1 h2
  rw [val_main_v8_apply]
  refine (H.o _).trans ?_
  show ((O ((((i 0).val * 16 + (i 1).val) * 64 + (i 2).val) / 1024) ((((i 0).val * 16 + (i 1).val) * 64 + (i 2).val) % 1024) : ℝ) : EReal) = _
  rw [e.1, e.2]

/-- Head `h`'s scores and gradient of the weights, of the arguments. -/
abbrev aZ (X : ℕ → ℕ → ℝ) (h : ℕ) : ℕ → ℕ → ℝ := gZ (cQ X) (cK X) h
abbrev aD (X O : ℕ → ℕ → ℝ) (h : ℕ) : ℕ → ℕ → ℝ := gD O (cV X) h

theorem ref_z (H : HostIn x0 x1 X O) : R3 (d := ![16, 4352, 4352]) (val_main_v11 (F := Ideal) x0) (fun h t s => aZ X h t s) := fun i => by
  rw [val_main_v11_apply, val_main_v9_apply]
  have e : (val_main_v10 (F := Ideal) i : EReal) = (((1 / 8 : ℝ)) : EReal) := ofBits_eighth
  rw [e]
  have e2 : ∀ k : Fin 64, (val_main_v2 (F := Ideal) x0 (lidx_main_v9 i k) : EReal) * val_main_v4 (F := Ideal) x0 (ridx_main_v9 i k)
      = ((cQ X (i 1).val (64 * (i 0).val + k.val) * cK X (i 2).val (64 * (i 0).val + k.val) : ℝ) : EReal) := fun k => by
    rw [ref_q H, ref_k H, EReal.coe_mul]
  refine (congrArg (· * (((1 / 8 : ℝ)) : EReal)) ((Finset.sum_congr rfl fun k _ => e2 k).trans (coe_sum _ _))).trans ?_
  dsimp only
  rw [← EReal.coe_mul, Finset.sum_mul]
  congr 1
  exact Finset.sum_congr rfl fun k _ => by ring

theorem ref_soft (i : S16x4352x4352.Idx) : val_main_call0_v1_0 (F := Ideal) x0 i = softE (val_main_v11 (F := Ideal) x0 i) := rfl

theorem ref_lsig (H : HostIn x0 x1 X O) : R3 (d := ![16, 4352, 4352]) (val_main_v19_0 (F := Ideal) x0) (fun h t s => lsig (aZ X h t s)) := fun i => by
  have e : (val_main_v19_0 (F := Ideal) x0 i : EReal) = -softE (val_main_v11 (F := Ideal) x0 i) := rfl
  rw [e, ref_z H, softE_coe, ← EReal.coe_neg, neg_neg]

theorem ref_slope (H : HostIn x0 x1 X O) : R3 (d := ![16, 4352, 4352]) (val_main_v19_1 (F := Ideal) x0) (fun h t s => 1 - Real.exp (lsig (aZ X h t s))) := fun i => by
  have e : (val_main_v19_1 (F := Ideal) x0 i : EReal) = slopeE (val_main_v11 (F := Ideal) x0 i) := rfl
  rw [e, ref_z H, slopeE_coe]

/-- The mask: a query sees the keys before it. -/
theorem ref_mask (i : S16x4352x4352.Idx) : val_main_v21_1 (F := Ideal) i = if (i 2).val < (i 1).val then 1#1 else 0#1 := by
  have e : val_main_v21_1 (F := Ideal) i = IntOp.cmpi .slt (BitVec.ofNat 32 (i 2).val) (BitVec.ofNat 32 (i 1).val) := by
    rw [val_main_v21_1_apply, val_main_v18_apply, val_main_v16_apply, val_main_v17_apply, val_main_v13_apply, val_main_v15_apply, val_main_v12_apply, val_main_v14_apply]
  rw [e]
  show BitVec.ofBool ((BitVec.ofNat 32 (i 2).val).slt (BitVec.ofNat 32 (i 1).val)) = _
  rw [BitVec.slt_eq_decide, toInt_lt _ (i 2).isLt, toInt_lt _ (i 1).isLt]
  by_cases h : (i 2).val < (i 1).val
  · simp [h]
  · simp [h]

theorem ref_mask' (i : S16x4352x4352.Idx) : val_main_v26_1 (F := Ideal) i = if (i 2).val < (i 1).val then 1#1 else 0#1 := ref_mask i

theorem sel_if {p : Prop} [Decidable p] (x : EReal) (r : ℝ) (h : p → x = (r : EReal)) :
    Scalar.select (if p then 1#1 else 0#1) x (Ideal.ofBits .f32 0x00000000#32) = (((if p then r else 0 : ℝ)) : EReal) := by
  unfold Scalar.select
  by_cases hp : p
  · rw [if_pos hp, if_pos hp, h hp]
    exact if_pos rfl
  · rw [if_neg hp, if_neg hp, ofBits_zero, EReal.coe_zero]
    exact if_neg (by decide)

theorem ref_f (H : HostIn x0 x1 X O) : R3 (d := ![16, 4352, 4352]) (val_main_v21_0 (F := Ideal) x0) (fun h t s => rF (aZ X h) t s) := fun i => by
  rw [val_main_v21_0_apply, ref_mask]
  refine sel_if _ _ fun _ => ?_
  rw [val_main_v20_apply]
  show (val_main_v19_0 (F := Ideal) x0 i : EReal) - val_main_v11 (F := Ideal) x0 i = _
  rw [ref_lsig H, ref_z H, EReal.coe_sub]

theorem ref_sum (H : HostIn x0 x1 X O) : R3 (d := ![16, 4352, 4352]) (val_main_v22 (F := Ideal) x0) (fun h t s => rTail (aZ X h) t s) := by
  unfold val_main_v22 Host.reduceWindowAdd
  rw [Ideal.hostReduceWindowAdd_def, show val_main_call2_v0 (F := Ideal) (Shape.Idx.first h_S_) = (0 : EReal) from ofBits_zero]
  exact cumsum_up (ref_f H) _

theorem ref_e (H : HostIn x0 x1 X O) : R3 (d := ![16, 4352, 4352]) (val_main_v25 (F := Ideal) x0) (fun h t s => Real.exp (lsig (aZ X h t s) + (rTail (aZ X h) t s - rF (aZ X h) t s))) := fun i => by
  have e : (val_main_v25 (F := Ideal) x0 i : EReal) = Ideal.exp ((val_main_v19_0 (F := Ideal) x0 i : EReal) + ((val_main_v22 (F := Ideal) x0 i : EReal) - val_main_v21_0 (F := Ideal) x0 i)) := rfl
  rw [e, ref_lsig H, ref_sum H, ref_f H, ← EReal.coe_sub, ← EReal.coe_add]
  rfl

theorem real_a (Z : ℕ → ℕ → ℝ) (t s : ℕ) : (if s < t then Real.exp (lsig (Z t s) + (rTail Z t s - rF Z t s)) else 0) = rA Z t s := by
  unfold rA
  by_cases h : s < t
  · rw [if_pos h, if_pos h]
    congr 1
    have : rF Z t s = lsig (Z t s) - Z t s := by unfold rF; rw [if_pos h]
    rw [this]; ring
  · rw [if_neg h, if_neg h]

theorem ref_a (H : HostIn x0 x1 X O) : R3 (d := ![16, 4352, 4352]) (val_main_v26_0 (F := Ideal) x0) (fun h t s => rA (aZ X h) t s) := fun i => by
  rw [val_main_v26_0_apply, ref_mask']
  refine (sel_if _ _ fun _ => ref_e H i).trans ?_
  dsimp only
  rw [real_a]

theorem ref_d (H : HostIn x0 x1 X O) : R3 (d := ![16, 4352, 4352]) (val_main_v30 (F := Ideal) x0 x1) (fun h t s => aD X O h t s) := fun i => by
  rw [val_main_v30_apply]
  have e : ∀ k : Fin 64, (val_main_v29 (F := Ideal) x1 (lidx_main_v30 i k) : EReal) * val_main_v6 (F := Ideal) x0 (ridx_main_v30 i k)
      = ((cV X (i 2).val (64 * (i 0).val + k.val) * O (i 1).val (64 * (i 0).val + k.val) : ℝ) : EReal) := fun k => by
    rw [val_main_v29_apply, ref_o H, ref_v H, ← EReal.coe_mul, mul_comm]
  exact (Finset.sum_congr rfl fun k _ => e k).trans (coe_sum _ _)

theorem ref_g (H : HostIn x0 x1 X O) : R3 (d := ![16, 4352, 4352]) (val_main_v34 (F := Ideal) x0 x1) (fun h t s => rG (aZ X h) (aD X O h) t s) := fun i => by
  have e : (val_main_v34 (F := Ideal) x0 x1 i : EReal) = Scalar.select (val_main_v26_1 (F := Ideal) i) (val_main_v30 (F := Ideal) x0 x1 i : EReal) (Ideal.ofBits .f32 0x00000000#32) * (val_main_v25 (F := Ideal) x0 i : EReal) := rfl
  rw [e, ref_mask', sel_if _ _ fun _ => ref_d H i, ref_e H, ← EReal.coe_mul]
  congr 1
  unfold rG
  dsimp only
  rw [← real_a]
  by_cases h : (i 2).val < (i 1).val
  · rw [if_pos h, if_pos h]
  · rw [if_neg h, if_neg h]; ring

theorem ref_head (H : HostIn x0 x1 X O) : R3 (d := ![16, 4352, 4352]) (val_main_v36 (F := Ideal) x0 x1) (fun h t s => rHead (aZ X h) (aD X O h) t (s + 1)) := by
  unfold val_main_v36 Host.reduceWindowAdd
  rw [Ideal.hostReduceWindowAdd_def, show val_main_call5_v0 (F := Ideal) (Shape.Idx.first h_S_) = (0 : EReal) from ofBits_zero]
  exact cumsum_down (ref_g H) _

theorem ref_c (H : HostIn x0 x1 X O) : R3 (d := ![16, 4352, 4352]) (val_main_v38 (F := Ideal) x0 x1) (fun h t s => if s < t then rHead (aZ X h) (aD X O h) t s else 0) := fun i => by
  rw [val_main_v38_apply, ref_mask]
  refine sel_if _ _ fun _ => ?_
  show -(val_main_v34 (F := Ideal) x0 x1 i : EReal) + (val_main_v36 (F := Ideal) x0 x1 i : EReal) = _
  rw [ref_g H, ref_head H, ← EReal.coe_neg, ← EReal.coe_add]
  congr 1
  dsimp only
  unfold rHead
  rw [Finset.sum_range_succ]
  ring

theorem ref_dz (H : HostIn x0 x1 X O) : R3 (d := ![16, 4352, 4352]) (val_main_v44 (F := Ideal) x0 x1) (fun h t s => rDz (aZ X h) (aD X O h) t s * (1 / 8)) := fun i => by
  have e : (val_main_v44 (F := Ideal) x0 x1 i : EReal)
      = (-(val_main_v38 (F := Ideal) x0 x1 i : EReal) + -(-((val_main_v34 (F := Ideal) x0 x1 i : EReal) + val_main_v38 (F := Ideal) x0 x1 i) * (val_main_v19_1 (F := Ideal) x0 i : EReal))) * Ideal.ofBits .f32 0x3E000000#32 := rfl
  rw [e, ofBits_eighth, ref_c H, ref_g H, ref_slope H, ← EReal.coe_neg, ← EReal.coe_add, ← EReal.coe_neg, ← EReal.coe_mul, ← EReal.coe_neg, ← EReal.coe_add, ← EReal.coe_mul]
  congr 2
  dsimp only
  unfold rDz
  by_cases h : (i 2).val < (i 1).val
  · rw [if_pos h, if_pos h]; ring
  · have hz : rG (aZ X (i 0).val) (aD X O (i 0).val) (i 1).val (i 2).val = 0 := by
      unfold rG rA; rw [if_neg h, mul_zero]
    rw [if_neg h, if_neg h, hz]; ring

end Cert.Att

end
-- ==== Proof.Host.lean ====
/- What the host hands the kernel: the totals of the scores' keep terms and the two triangles. -/
module

public import proofs.«01_k».proof.Proof.Ref
public import proofs.«01_k».proof.Proof.Gen.ReferenceIdeal.Read

@[expose] public section

set_option maxRecDepth 16384

noncomputable section

namespace Cert.Att

open Idealize.ShloMosaic Idealize.ShloMosaic.TcCoe Cert.KernelIdeal Gen
open scoped BigOperators

/-- The array of totals, of the array of keep terms. -/
def hTot (y : (⟨S16x4352x4352, .f32⟩ : BufTy).Contents (Elt Ideal)) : (⟨S4352x1024, .f32⟩ : BufTy).Contents (Elt Ideal) :=
  shapeCast _ (broadcastInDim S4352x16x64 ![0, 1] bcast_S4352x16_S4352x16x64_0_1
    (transpose S4352x16 [1, 0] (Host.reduceAdd (F := Ideal) y (constant S_ .f32 0x00000000#32) reducesTo_S16x4352x4352_S16x4352_d2 h_S_)
      transposes_S16x4352_S4352x16_1_0)) shapeCasts_S4352x16x64_S4352x1024

variable (m : (ℓ : Loc nD τ sig) → Buf (Elt Ideal) ℓ) (c : Dev nD)

theorem V_tot : V m c main_v21 = hTot (Cert.ReferenceIdeal.Read.val_main_v21_0 (F := Ideal) (m ((c : Thread nD τ).loc main_arg0))) := by
  unfold V
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The two triangles of ones. -/
def hTri (w : BitVec 32) (f g : (⟨S256x256, .f32⟩ : BufTy).Contents (Elt Ideal)) : (⟨S256x256, .bf16⟩ : BufTy).Contents (Elt Ideal) :=
  truncf (F := Ideal) .bf16 (select (cmpi .sge (addi (iotaInDim S256x256 32 0) (broadcastInDim S256x256 ![] bcast_S_S256x256 (constantI S_ 32 w))) (iotaInDim S256x256 32 1)) f g) bitsLt_bf16_f32

abbrev hFill (b : BitVec 32) : (⟨S256x256, .f32⟩ : BufTy).Contents (Elt Ideal) := broadcastInDim S256x256 ![] bcast_S_S256x256 (constant (F := Ideal) S_ .f32 b)

theorem V_up : V m c main_v24 = hTri 4294967295#32 (hFill 0x00000000#32) (hFill 0x3F800000#32) := by
  unfold V
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem V_low : V m c main_v27 = hTri 4294967295#32 (hFill 0x3F800000#32) (hFill 0x00000000#32) := by
  unfold V
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem toInt_pred : ∀ a : Fin 256, (BitVec.ofNat 32 a.val + 4294967295#32).toInt = (a.val : ℤ) - 1 := by decide +kernel

theorem hTri_read (w : BitVec 32) (f g : (⟨S256x256, .f32⟩ : BufTy).Contents (Elt Ideal)) (a b : Fin 256) :
    (hTri w f g (ValueIdx.ix2 a b) : EReal) = Scalar.select (BitVec.ofBool ((BitVec.ofNat 32 b.val).sle (BitVec.ofNat 32 a.val + w))) (f (ValueIdx.ix2 a b) : EReal) (g (ValueIdx.ix2 a b)) := rfl

theorem hTri_apply (f g : (⟨S256x256, .f32⟩ : BufTy).Contents (Elt Ideal)) (a b : Fin 256) :
    (hTri 4294967295#32 f g (ValueIdx.ix2 a b) : EReal) = if b.val < a.val then (f (ValueIdx.ix2 a b) : EReal) else g (ValueIdx.ix2 a b) := by
  rw [hTri_read, BitVec.sle_eq_decide, toInt_pred, toInt_lt _ (by omega)]
  unfold Scalar.select
  by_cases h : b.val < a.val
  · rw [if_pos h, decide_eq_true (by omega)]
    exact if_pos rfl
  · rw [if_neg h, decide_eq_false (by omega)]
    exact if_neg (by decide)

theorem rep_up : Rep (n0 := 256) (n1 := 256) (φ := .bf16) (hTri 4294967295#32 (hFill 0x00000000#32) (hFill 0x3F800000#32)) rUp := fun a b => by
  refine (hTri_apply _ _ a b).trans ?_
  show (if b.val < a.val then Ideal.ofBits .f32 0x00000000#32 else Ideal.ofBits .f32 0x3F800000#32) = _
  unfold rUp
  rw [ofBits_zero, Ideal.ofBits_one_f32]
  by_cases h : b.val < a.val
  · rw [if_pos h, if_neg (by omega), EReal.coe_zero]
  · rw [if_neg h, if_pos (by omega), EReal.coe_one]

theorem rep_low : Rep (n0 := 256) (n1 := 256) (φ := .bf16) (hTri 4294967295#32 (hFill 0x3F800000#32) (hFill 0x00000000#32)) rLow := fun a b => by
  refine (hTri_apply _ _ a b).trans ?_
  show (if b.val < a.val then Ideal.ofBits .f32 0x3F800000#32 else Ideal.ofBits .f32 0x00000000#32) = _
  unfold rLow
  rw [ofBits_zero, Ideal.ofBits_one_f32]
  by_cases h : b.val < a.val
  · rw [if_pos h, if_pos h, EReal.coe_one]
  · rw [if_neg h, if_neg h, EReal.coe_zero]

theorem hTot_rep {y : (⟨S16x4352x4352, .f32⟩ : BufTy).Contents (Elt Ideal)} {r : ℕ → ℕ → ℕ → ℝ} (h : R3 (d := ![16, 4352, 4352]) y r) (i : S4352x1024.Idx) :
    (hTot y i : EReal) = ((∑ s ∈ Finset.range 4352, r ((i 1).val / 64) (i 0).val s : ℝ) : EReal) := by
  have h0 : (i 0).val < 4352 := (i 0).isLt
  have h1 : (i 1).val < 1024 := (i 1).isLt
  unfold hTot
  rw [shapeCast_apply _ shapeCasts_S4352x16x64_S4352x1024 i (fun a => match a with
      | ⟨0, _⟩ => ⟨(i 0).val, h0⟩
      | ⟨1, _⟩ => ⟨(i 1).val / 64, by show (i 1).val / 64 < 16; omega⟩
      | ⟨2, _⟩ => ⟨(i 1).val % 64, by show (i 1).val % 64 < 64; omega⟩)
    (by rewrite [Shape.rowMajor_val_three, Shape.rowMajor_val_two]; show ((i 0).val * 16 + (i 1).val / 64) * 64 + (i 1).val % 64 = (i 0).val * 1024 + (i 1).val; omega)]
  rw [broadcastInDim_apply _ bcast_S4352x16_S4352x16x64_0_1 _ _ (ValueIdx.ix2 ⟨(i 0).val, h0⟩ ⟨(i 1).val / 64, by omega⟩) (fun a => match a with
      | ⟨0, _⟩ => rfl
      | ⟨1, _⟩ => rfl)]
  rw [transpose_apply _ _ transposes_S16x4352_S4352x16_1_0 _ (ValueIdx.ix2 ⟨(i 1).val / 64, by omega⟩ ⟨(i 0).val, h0⟩) (fun a => match a with
      | ⟨0, _⟩ => rfl
      | ⟨1, _⟩ => rfl)]
  simp only [Host.reduceAdd, Ideal.hostReduceAdd_def]
  rw [Ideal.hostReduceAdd_single reducesTo_S16x4352x4352_S16x4352_d2 (by decide), constant_apply]
  refine (congrArg (· + (Finset.univ.sum _ : EReal)) ofBits_zero).trans ((zero_add _).trans ?_)
  refine (Finset.sum_congr rfl fun k _ => (show y _ = ((r ((i 1).val / 64) (i 0).val k.val : ℝ) : EReal) from h _)).trans ((coe_sum _ _).trans (congrArg Real.toEReal ?_))
  exact Fin.sum_univ_eq_sum_range (fun k => r ((i 1).val / 64) (i 0).val k) 4352

end Cert.Att

end
-- ==== Proof.Blocks.lean ====
/- The blocks every point of the grid finds. -/
module

public import proofs.«01_k».proof.Proof.Host

@[expose] public section

set_option maxRecDepth 16384

noncomputable section

namespace Cert.Att

open Idealize.ShloMosaic Idealize.ShloMosaic.TcCoe Cert.KernelIdeal Gen
open scoped BigOperators

/-- Where a point's blocks lie. -/
theorem place0 : ∀ t : Fin cfg0.N, win0_0.index t (0 : Fin 2) = t.val % 17 ∧ win0_0.index t (1 : Fin 2) = 12 + t.val / 17 := (by decide +kernel : ∀ t : Fin grid0.N, _)
theorem place1 : ∀ t : Fin cfg0.N, win0_1.index t (0 : Fin 2) = 0 ∧ win0_1.index t (1 : Fin 2) = 16 + t.val / 17 := (by decide +kernel : ∀ t : Fin grid0.N, _)
theorem place2 : ∀ t : Fin cfg0.N, win0_2.index t (0 : Fin 2) = 0 ∧ win0_2.index t (1 : Fin 2) = 20 + t.val / 17 := (by decide +kernel : ∀ t : Fin grid0.N, _)
theorem place3 : ∀ t : Fin cfg0.N, win0_3.index t (0 : Fin 2) = t.val % 17 ∧ win0_3.index t (1 : Fin 2) = t.val / 17 := (by decide +kernel : ∀ t : Fin grid0.N, _)
theorem place4 : ∀ t : Fin cfg0.N, win0_4.index t (0 : Fin 2) = t.val % 17 ∧ win0_4.index t (1 : Fin 2) = t.val / 17 := (by decide +kernel : ∀ t : Fin grid0.N, _)

variable (m : (ℓ : Loc nD τ sig) → Buf (Elt Ideal) ℓ) (c : Dev nD) {X O : ℕ → ℕ → ℝ}

/-- The totals the kernel is handed, lane by lane. -/
def tots (X : ℕ → ℕ → ℝ) (p t l : ℕ) : ℝ := ∑ s ∈ Finset.range 4352, rF (aZ X ((256 * p + l) / 64)) t s

section
variable (H : HostIn (m ((c : Thread nD τ).loc main_arg0)) (m ((c : Thread nD τ).loc main_arg1)) X O) (t : Fin cfg0.N)
include H

theorem blk_q : Rep (n0 := 256) (n1 := 256) (φ := .bf16) (iblk m c 0 t) (fun a l => grp (cQ X) (t.val / 17) (256 * (t.val % 17) + a.val) l.val) := fun a l => by
  have ht : t.val < 68 := lt_of_lt_of_eq t.isLt N_0
  obtain ⟨e0, e1⟩ := place0 t
  have b0 : (((cfg0.win 0).blk t).view.emb (ValueIdx.ix2 a l) 0).val = win0_0.index t (0 : Fin 2) * 256 + 1 * a.val := rfl
  have b1 : (((cfg0.win 0).blk t).view.emb (ValueIdx.ix2 a l) 1).val = win0_0.index t (1 : Fin 2) * 256 + 1 * l.val := rfl
  show V m c main_arg0 (((cfg0.win 0).blk t).view.emb (ValueIdx.ix2 a l)) = _
  rw [V_main_arg0]
  refine (H.x _ (by rw [b1]; omega) (by rw [b1]; omega)).trans ?_
  rw [b0, b1, e0, e1]
  unfold grp cQ
  rw [show t.val % 17 * 256 + 1 * a.val = 256 * (t.val % 17) + a.val by omega, show (12 + t.val / 17) * 256 + 1 * l.val = 3072 + (256 * (t.val / 17) + l.val) by omega]

theorem blk_k : Rep (n0 := 4352) (n1 := 256) (φ := .bf16) (iblk m c 1 t) (fun s l => grp (cK X) (t.val / 17) s.val l.val) := fun s l => by
  have ht : t.val < 68 := lt_of_lt_of_eq t.isLt N_0
  obtain ⟨e0, e1⟩ := place1 t
  have b0 : (((cfg0.win 1).blk t).view.emb (ValueIdx.ix2 s l) 0).val = win0_1.index t (0 : Fin 2) * 4352 + 1 * s.val := rfl
  have b1 : (((cfg0.win 1).blk t).view.emb (ValueIdx.ix2 s l) 1).val = win0_1.index t (1 : Fin 2) * 256 + 1 * l.val := rfl
  show V m c main_arg0 (((cfg0.win 1).blk t).view.emb (ValueIdx.ix2 s l)) = _
  rw [V_main_arg0]
  refine (H.x _ (by rw [b1]; omega) (by rw [b1]; omega)).trans ?_
  rw [b0, b1, e0, e1]
  unfold grp cK
  rw [show 0 * 4352 + 1 * s.val = s.val by omega, show (16 + t.val / 17) * 256 + 1 * l.val = 4096 + (256 * (t.val / 17) + l.val) by omega]

theorem blk_v : Rep (n0 := 4352) (n1 := 256) (φ := .bf16) (iblk m c 2 t) (fun s l => grp (cV X) (t.val / 17) s.val l.val) := fun s l => by
  have ht : t.val < 68 := lt_of_lt_of_eq t.isLt N_0
  obtain ⟨e0, e1⟩ := place2 t
  have b0 : (((cfg0.win 2).blk t).view.emb (ValueIdx.ix2 s l) 0).val = win0_2.index t (0 : Fin 2) * 4352 + 1 * s.val := rfl
  have b1 : (((cfg0.win 2).blk t).view.emb (ValueIdx.ix2 s l) 1).val = win0_2.index t (1 : Fin 2) * 256 + 1 * l.val := rfl
  show V m c main_arg0 (((cfg0.win 2).blk t).view.emb (ValueIdx.ix2 s l)) = _
  rw [V_main_arg0]
  refine (H.x _ (by rw [b1]; omega) (by rw [b1]; omega)).trans ?_
  rw [b0, b1, e0, e1]
  unfold grp cV
  rw [show 0 * 4352 + 1 * s.val = s.val by omega, show (20 + t.val / 17) * 256 + 1 * l.val = 5120 + (256 * (t.val / 17) + l.val) by omega]

theorem blk_t : Rep (n0 := 256) (n1 := 256) (φ := .f32) (iblk m c 3 t) (fun a l => tots X (t.val / 17) (256 * (t.val % 17) + a.val) l.val) := fun a l => by
  obtain ⟨e0, e1⟩ := place3 t
  have b0 : (((cfg0.win 3).blk t).view.emb (ValueIdx.ix2 a l) 0).val = win0_3.index t (0 : Fin 2) * 256 + 1 * a.val := rfl
  have b1 : (((cfg0.win 3).blk t).view.emb (ValueIdx.ix2 a l) 1).val = win0_3.index t (1 : Fin 2) * 256 + 1 * l.val := rfl
  show V m c main_v21 (((cfg0.win 3).blk t).view.emb (ValueIdx.ix2 a l)) = _
  rw [V_tot]
  refine (hTot_rep (ref_f H) _).trans ?_
  rw [b0, b1, e0, e1]
  unfold tots
  rw [show t.val % 17 * 256 + 1 * a.val = 256 * (t.val % 17) + a.val by omega, show t.val / 17 * 256 + 1 * l.val = 256 * (t.val / 17) + l.val by omega]

theorem blk_o : Rep (n0 := 256) (n1 := 256) (φ := .bf16) (iblk m c 4 t) (fun a l => grp O (t.val / 17) (256 * (t.val % 17) + a.val) l.val) := fun a l => by
  obtain ⟨e0, e1⟩ := place4 t
  have b0 : (((cfg0.win 4).blk t).view.emb (ValueIdx.ix2 a l) 0).val = win0_4.index t (0 : Fin 2) * 256 + 1 * a.val := rfl
  have b1 : (((cfg0.win 4).blk t).view.emb (ValueIdx.ix2 a l) 1).val = win0_4.index t (1 : Fin 2) * 256 + 1 * l.val := rfl
  show V m c main_arg1 (((cfg0.win 4).blk t).view.emb (ValueIdx.ix2 a l)) = _
  rw [V_main_arg1]
  refine (H.o _).trans ?_
  rw [b0, b1, e0, e1]
  unfold grp
  rw [show t.val % 17 * 256 + 1 * a.val = 256 * (t.val % 17) + a.val by omega, show t.val / 17 * 256 + 1 * l.val = 256 * (t.val / 17) + l.val by omega]

end

end Cert.Att

end
-- ==== Proof.Inputs.lean ====
/- What every point of the grid finds. -/
module

public import proofs.«01_k».proof.Proof.Blocks

@[expose] public section

set_option maxRecDepth 16384

noncomputable section

namespace Cert.Att

open Idealize.ShloMosaic Idealize.ShloMosaic.TcCoe Cert.KernelIdeal Gen
open scoped BigOperators

theorem place5 : ∀ t : Fin cfg0.N, win0_5.index t (0 : Fin 2) = 0 ∧ win0_5.index t (1 : Fin 2) = 0 := (by decide +kernel : ∀ t : Fin grid0.N, _)
theorem place6 : ∀ t : Fin cfg0.N, win0_6.index t (0 : Fin 2) = 0 ∧ win0_6.index t (1 : Fin 2) = 0 := (by decide +kernel : ∀ t : Fin grid0.N, _)

/-- The triangles' entries. -/
theorem up_at (i : S256x256.Idx) : (hTri 4294967295#32 (hFill 0x00000000#32) (hFill 0x3F800000#32) i : EReal) = ((rUp ⟨(i 0).val, (i 0).isLt⟩ ⟨(i 1).val, (i 1).isLt⟩ : ℝ) : EReal) := by
  have e : i = ValueIdx.ix2 ⟨(i 0).val, (i 0).isLt⟩ ⟨(i 1).val, (i 1).isLt⟩ := funext fun a => match a with
    | ⟨0, _⟩ => rfl
    | ⟨1, _⟩ => rfl
  refine (congrArg _ e).trans (rep_up _ _)

theorem low_at (i : S256x256.Idx) : (hTri 4294967295#32 (hFill 0x3F800000#32) (hFill 0x00000000#32) i : EReal) = ((rLow ⟨(i 0).val, (i 0).isLt⟩ ⟨(i 1).val, (i 1).isLt⟩ : ℝ) : EReal) := by
  have e : i = ValueIdx.ix2 ⟨(i 0).val, (i 0).isLt⟩ ⟨(i 1).val, (i 1).isLt⟩ := funext fun a => match a with
    | ⟨0, _⟩ => rfl
    | ⟨1, _⟩ => rfl
  refine (congrArg _ e).trans (rep_low _ _)

variable (m : (ℓ : Loc nD τ sig) → Buf (Elt Ideal) ℓ) (c : Dev nD) {X O : ℕ → ℕ → ℝ}

theorem read5 (A : (⟨S256x256, .bf16⟩ : BufTy).Contents (Elt Ideal)) (t : Fin cfg0.N) (y : S256x256.Idx) :
    ((cfg0.win 5).blk t).view.read (Elt Ideal) A y = A (((cfg0.win 5).blk t).view.emb y) := rfl

theorem read6 (A : (⟨S256x256, .bf16⟩ : BufTy).Contents (Elt Ideal)) (t : Fin cfg0.N) (y : S256x256.Idx) :
    ((cfg0.win 6).blk t).view.read (Elt Ideal) A y = A (((cfg0.win 6).blk t).view.emb y) := rfl

theorem blk_up (t : Fin cfg0.N) : Rep (n0 := 256) (n1 := 256) (φ := .bf16) (iblk m c 5 t) rUp := fun a b => by
  obtain ⟨e0, e1⟩ := place5 t
  have b0 : (((cfg0.win 5).blk t).view.emb (ValueIdx.ix2 a b) 0).val = a.val := Pipeline.Window.rect_emb_val_of_index_zero win0_5 t 0 e0 _
  have b1 : (((cfg0.win 5).blk t).view.emb (ValueIdx.ix2 a b) 1).val = b.val := Pipeline.Window.rect_emb_val_of_index_zero win0_5 t 1 e1 _
  have hv : V m c (Pipeline.arrRef spec0 5) = _ := V_up m c
  unfold iblk
  rw [hv]
  refine (read5 _ t _).trans ((up_at _).trans ?_)
  unfold rUp
  dsimp only
  rw [b0, b1]

theorem blk_low (t : Fin cfg0.N) : Rep (n0 := 256) (n1 := 256) (φ := .bf16) (iblk m c 6 t) rLow := fun a b => by
  obtain ⟨e0, e1⟩ := place6 t
  have b0 : (((cfg0.win 6).blk t).view.emb (ValueIdx.ix2 a b) 0).val = a.val := Pipeline.Window.rect_emb_val_of_index_zero win0_6 t 0 e0 _
  have b1 : (((cfg0.win 6).blk t).view.emb (ValueIdx.ix2 a b) 1).val = b.val := Pipeline.Window.rect_emb_val_of_index_zero win0_6 t 1 e1 _
  have hv : V m c (Pipeline.arrRef spec0 6) = _ := V_low m c
  unfold iblk
  rw [hv]
  refine (read6 _ t _).trans ((low_at _).trans ?_)
  unfold rLow
  dsimp only
  rw [b0, b1]

theorem grid_in (H : HostIn (m ((c : Thread nD τ).loc main_arg0)) (m ((c : Thread nD τ).loc main_arg1)) X O) :
    GridIn m c (grp (cQ X)) (grp8 (cQ X)) (grp (cK X)) (grp (cV X)) (grp O) (tots X) := fun t => by
  refine ⟨fun _ _ => rfl, fun h _ q => ?_, ?_, blk_k m c H t, blk_v m c H t, ?_, ?_, blk_up m c t, blk_low m c t⟩
  · rw [sc_grp8]
    unfold tots rTail
    rw [show (256 * (t.val / 17) + 64 * h) / 64 = 4 * (t.val / 17) + h by omega, ← Finset.range_eq_Ico]
  · rw [coord_i]; exact blk_q m c H t
  · rw [coord_i]; exact blk_t m c H t
  · rw [coord_i]; exact blk_o m c H t

end Cert.Att

end
-- ==== Proof.RefOut.lean ====
/- The reference's three results. -/
module

public import proofs.«01_k».proof.Proof.Ref

@[expose] public section

set_option maxRecDepth 16384

noncomputable section

namespace Cert.Att

open Idealize.ShloMosaic Cert.ReferenceIdeal Cert.ReferenceIdeal.Gen Cert.ReferenceIdeal.Read
open scoped BigOperators

variable {x0 : (⟨S4352x8192, .bf16⟩ : BufTy).Contents (Elt Ideal)} {x1 : (⟨S4352x1024, .bf16⟩ : BufTy).Contents (Elt Ideal)} {X O : ℕ → ℕ → ℝ}

theorem ref_lane (t c : ℕ) (hc : c < 1024) : (t * 1024 + c) / 1024 = t ∧ (t * 1024 + c) / 64 % 16 = c / 64 ∧ (t * 1024 + c) % 64 = c % 64 := by omega

theorem ref_out_k (H : HostIn x0 x1 X O) (i : S4352x1024.Idx) :
    val_main_v52 (F := Ideal) x0 x1 i = ((gK (cQ X) (cK X) (cV X) O (i 0).val (i 1).val : ℝ) : EReal) := by
  have h1 : (i 1).val < 1024 := (i 1).isLt
  have l := ref_lane (i 0).val (i 1).val h1
  have e0 : val_main_v52 (F := Ideal) x0 x1 i = val_main_v51 (F := Ideal) x0 x1 i := rfl
  rw [e0, val_main_v51_apply, val_main_v46_apply, val_main_v45_apply]
  have e : ∀ k : Fin 4352, (val_main_v44 (F := Ideal) x0 x1 (lidx_main_v45 (idx_main_v46 (idx_main_v51 i)) k) : EReal) * val_main_v2 (F := Ideal) x0 (ridx_main_v45 (idx_main_v46 (idx_main_v51 i)) k)
      = ((rDz (aZ X ((i 1).val / 64)) (aD X O ((i 1).val / 64)) k.val (i 0).val * (cQ X k.val (i 1).val * (1 / 8)) : ℝ) : EReal) := fun k => by
    rw [ref_dz H, ref_q H, ← EReal.coe_mul]
    congr 1
    show rDz (aZ X (((i 0).val * 1024 + (i 1).val) / 64 % 16)) (aD X O (((i 0).val * 1024 + (i 1).val) / 64 % 16)) k.val (((i 0).val * 1024 + (i 1).val) / 1024) * (1 / 8)
      * cQ X k.val (64 * (((i 0).val * 1024 + (i 1).val) / 64 % 16) + ((i 0).val * 1024 + (i 1).val) % 64) = _
    rw [l.1, l.2.1, l.2.2, Nat.div_add_mod]
    ring
  refine (Finset.sum_congr rfl fun k _ => e k).trans ((coe_sum _ _).trans ?_)
  rw [Fin.sum_univ_eq_sum_range (fun k => rDz (aZ X ((i 1).val / 64)) (aD X O ((i 1).val / 64)) k (i 0).val * (cQ X k (i 1).val * (1 / 8))) 4352]
  rfl

theorem ref_out_q (H : HostIn x0 x1 X O) (i : S4352x1024.Idx) :
    val_main_v50 (F := Ideal) x0 x1 i = ((gQ (cQ X) (cK X) (cV X) O (i 0).val (i 1).val : ℝ) : EReal) := by
  have h1 : (i 1).val < 1024 := (i 1).isLt
  have l := ref_lane (i 0).val (i 1).val h1
  have e0 : val_main_v50 (F := Ideal) x0 x1 i = val_main_v49 (F := Ideal) x0 x1 i := rfl
  rw [e0, val_main_v49_apply, val_main_v48_apply, val_main_v47_apply]
  have e : ∀ k : Fin 4352, (val_main_v44 (F := Ideal) x0 x1 (lidx_main_v47 (idx_main_v48 (idx_main_v49 i)) k) : EReal) * val_main_v4 (F := Ideal) x0 (ridx_main_v47 (idx_main_v48 (idx_main_v49 i)) k)
      = ((rDz (aZ X ((i 1).val / 64)) (aD X O ((i 1).val / 64)) (i 0).val k.val * cK X k.val (i 1).val * (1 / 8) : ℝ) : EReal) := fun k => by
    rw [ref_dz H, ref_k H, ← EReal.coe_mul]
    congr 1
    show rDz (aZ X (((i 0).val * 1024 + (i 1).val) / 64 % 16)) (aD X O (((i 0).val * 1024 + (i 1).val) / 64 % 16)) (((i 0).val * 1024 + (i 1).val) / 1024) k.val * (1 / 8)
      * cK X k.val (64 * (((i 0).val * 1024 + (i 1).val) / 64 % 16) + ((i 0).val * 1024 + (i 1).val) % 64) = _
    rw [l.1, l.2.1, l.2.2, Nat.div_add_mod]
    ring
  refine (Finset.sum_congr rfl fun k _ => e k).trans ((coe_sum _ _).trans ?_)
  rw [Fin.sum_univ_eq_sum_range (fun k => rDz (aZ X ((i 1).val / 64)) (aD X O ((i 1).val / 64)) (i 0).val k * cK X k (i 1).val * (1 / 8)) 4352, ← Finset.sum_mul]
  rfl

theorem ref_out_v (H : HostIn x0 x1 X O) (i : S4352x1024.Idx) :
    val_main_v54 (F := Ideal) x0 x1 i = ((gV (cQ X) (cK X) O (i 0).val (i 1).val : ℝ) : EReal) := by
  have h1 : (i 1).val < 1024 := (i 1).isLt
  have l := ref_lane (i 0).val (i 1).val h1
  have e0 : val_main_v54 (F := Ideal) x0 x1 i = val_main_v53 (F := Ideal) x0 x1 i := rfl
  rw [e0, val_main_v53_apply, val_main_v32_apply, val_main_v31_apply]
  have e : ∀ k : Fin 4352, (val_main_v29 (F := Ideal) x1 (lidx_main_v31 (idx_main_v32 (idx_main_v53 i)) k) : EReal) * val_main_v26_0 (F := Ideal) x0 (ridx_main_v31 (idx_main_v32 (idx_main_v53 i)) k)
      = ((rA (aZ X ((i 1).val / 64)) k.val (i 0).val * O k.val (i 1).val : ℝ) : EReal) := fun k => by
    rw [val_main_v29_apply, ref_o H, ref_a H, ← EReal.coe_mul]
    congr 1
    show O k.val (64 * (((i 0).val * 1024 + (i 1).val) / 64 % 16) + ((i 0).val * 1024 + (i 1).val) % 64)
      * rA (aZ X (((i 0).val * 1024 + (i 1).val) / 64 % 16)) k.val (((i 0).val * 1024 + (i 1).val) / 1024) = _
    rw [l.1, l.2.1, l.2.2, Nat.div_add_mod]
    ring
  refine (Finset.sum_congr rfl fun k _ => e k).trans ((coe_sum _ _).trans ?_)
  rw [Fin.sum_univ_eq_sum_range (fun k => rA (aZ X ((i 1).val / 64)) k (i 0).val * O k (i 1).val) 4352]
  rfl

end Cert.Att

end
-- ==== Proof.Finite.lean ====
/- What the precondition says of the arguments: the queries, keys, values and output gradients are real numbers. -/
module

public import proofs.«01_k».proof.Proof.Ref
public import proofs.«01_k».proof.Pre_finite

@[expose] public section

set_option maxRecDepth 16384

noncomputable section

namespace Cert.Att

open Idealize.ShloMosaic Cert.Pre_finite

/-- The side conditions of the precondition's operations. -/
theorem preFacts : Cert.Pre_finite.Facts where
  slices_S4352x8192_S4352x1024_0_3072 := by decide
  slices_S4352x8192_S4352x1024_0_4096 := by decide
  slices_S4352x8192_S4352x1024_0_5120 := by decide
  bitsLt_bf16_f32 := by decide
  bcast_S_S4352x1024 := by decide

/-- A number of finite absolute value is a real number. -/
theorem real_of_abs (x : EReal) (h : Ideal.cmp .olt (max x (-x)) (Ideal.ofBits .f32 0x7F800000#32) = 1#1) : x = (x.toReal : EReal) := by
  rw [ofBits_infinite] at h
  have h' : max x (-x) < ⊤ := by
    by_contra hn
    rw [show Ideal.cmp .olt (max x (-x)) ⊤ = BitVec.ofBool (decide (max x (-x) < ⊤)) from rfl, decide_eq_false hn] at h
    exact absurd h (by decide)
  refine (EReal.coe_toReal ?_ ?_).symm
  · rintro rfl; simp at h'
  · rintro rfl; simp at h'

theorem and_one {a b : BitVec 1} (h : a &&& b = 1#1) : a = 1#1 ∧ b = 1#1 := by
  revert a b; decide

variable (x0 : (⟨S4352x8192, .bf16⟩ : BufTy).Contents (Elt Ideal)) (x1 : (⟨S4352x1024, .bf16⟩ : BufTy).Contents (Elt Ideal))

/-- The argument's entry of a row and a column, as a real number; zero outside. -/
def realX (t c : ℕ) : ℝ := if h : t < 4352 ∧ c < 8192 then ((x0 (ValueIdx.ix2 ⟨t, h.1⟩ ⟨c, h.2⟩) : EReal)).toReal else 0
def realO (t c : ℕ) : ℝ := if h : t < 4352 ∧ c < 1024 then ((x1 (ValueIdx.ix2 ⟨t, h.1⟩ ⟨c, h.2⟩) : EReal)).toReal else 0

theorem realX_at (i : S4352x8192.Idx) : realX x0 (i 0).val (i 1).val = ((x0 i : EReal)).toReal := by
  have e : i = ValueIdx.ix2 (n0 := 4352) (n1 := 8192) ⟨(i 0).val, (i 0).isLt⟩ ⟨(i 1).val, (i 1).isLt⟩ := funext fun a => match a with
    | ⟨0, _⟩ => rfl
    | ⟨1, _⟩ => rfl
  unfold realX
  rw [dif_pos ⟨(i 0).isLt, (i 1).isLt⟩]
  exact congrArg (fun j => ((x0 j : EReal)).toReal) e.symm

theorem realO_at (i : S4352x1024.Idx) : realO x1 (i 0).val (i 1).val = ((x1 i : EReal)).toReal := by
  have e : i = ValueIdx.ix2 (n0 := 4352) (n1 := 1024) ⟨(i 0).val, (i 0).isLt⟩ ⟨(i 1).val, (i 1).isLt⟩ := funext fun a => match a with
    | ⟨0, _⟩ => rfl
    | ⟨1, _⟩ => rfl
  unfold realO
  rw [dif_pos ⟨(i 0).isLt, (i 1).isLt⟩]
  exact congrArg (fun j => ((x1 j : EReal)).toReal) e.symm

/-- One entry's four tests. -/
theorem tests [Cert.Pre_finite.Facts] (h : Cert.Pre_finite.fn (F := Ideal) x0 x1 = fun _ => 1#1) (j : S4352x1024.Idx) :
    (∀ i : S4352x8192.Idx, (i 0).val = (j 0).val → ((i 1).val = 3072 + (j 1).val ∨ (i 1).val = 4096 + (j 1).val ∨ (i 1).val = 5120 + (j 1).val) →
      (x0 i : EReal) = ((x0 i : EReal).toReal : EReal)) ∧ (x1 j : EReal) = ((x1 j : EReal).toReal : EReal) := by
  have h0 := congrFun h j
  obtain ⟨h1, hO⟩ := and_one h0
  obtain ⟨h2, hV⟩ := and_one h1
  obtain ⟨hQ, hK⟩ := and_one h2
  have e : ∀ (off : ℕ) (i : S4352x8192.Idx) (hs : S4352x8192.Slices ![0, off] S4352x1024), (i 0).val = (j 0).val → (i 1).val = off + (j 1).val →
      extractStridedSlice S4352x1024 ![0, off] x0 hs j = x0 i := fun off i hs ha hb =>
    extractStridedSlice_apply ![0, off] x0 hs j i (Fin.forall_fin_two.mpr ⟨ha.trans (Nat.zero_add _).symm, hb⟩)
  refine ⟨fun i h0 h1 => ?_, real_of_abs _ hO⟩
  rcases h1 with h1 | h1 | h1
  · have t := real_of_abs _ hQ
    rw [← e 3072 i Facts.slices_S4352x8192_S4352x1024_0_3072 h0 h1]; exact t
  · have t := real_of_abs _ hK
    rw [← e 4096 i Facts.slices_S4352x8192_S4352x1024_0_4096 h0 h1]; exact t
  · have t := real_of_abs _ hV
    rw [← e 5120 i Facts.slices_S4352x8192_S4352x1024_0_5120 h0 h1]; exact t

/-- Under the precondition the arguments hold real numbers. -/
theorem host_in [Cert.Pre_finite.Facts] (h : Cert.Pre_finite.fn (F := Ideal) x0 x1 = fun _ => 1#1) : HostIn x0 x1 (realX x0) (realO x1) where
  x i lo hi := by
    rw [realX_at]
    have hr : (i 0).val < 4352 := (i 0).isLt
    have hc : ((i 1).val - 3072) % 1024 < 1024 := Nat.mod_lt _ (by decide)
    refine (tests x0 x1 h (ValueIdx.ix2 ⟨(i 0).val, hr⟩ ⟨((i 1).val - 3072) % 1024, hc⟩)).1 i rfl ?_
    show (i 1).val = 3072 + ((i 1).val - 3072) % 1024 ∨ (i 1).val = 4096 + ((i 1).val - 3072) % 1024 ∨ (i 1).val = 5120 + ((i 1).val - 3072) % 1024
    omega
  o i := by
    rw [realO_at]
    exact (tests x0 x1 h i).2

end Cert.Att

end
-- ==== Proof.Equal.lean ====
/- The kernel's three results are the reference's. -/
module

public import proofs.«01_k».proof.Proof.Inputs
public import proofs.«01_k».proof.Proof.RefOut
public import proofs.«01_k».proof.Proof.Finite
public import proofs.«01_k».proof.Proof.Gen.ReferenceIdeal.Run

@[expose] public section

set_option maxRecDepth 16384

noncomputable section

namespace Cert.Att

open Idealize.ShloMosaic Idealize.ShloMosaic.TcCoe

variable [Cert.Pre_finite.Facts] (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem pair_eta (i : Cert.ReferenceIdeal.S4352x1024.Idx) : i = ValueIdx.ix2 (n0 := 4352) (n1 := 1024) ⟨(i 0).val, (i 0).isLt⟩ ⟨(i 1).val, (i 1).isLt⟩ :=
  funext fun a => match a with
    | ⟨0, _⟩ => rfl
    | ⟨1, _⟩ => rfl

variable (hp : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) = fun _ => 1#1)
  (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
include hp a0 a1

/-- The gradients of the queries. -/
theorem equal_q : Cert.ReferenceIdeal.Value.res_main_v50 m' c = Cert.KernelIdeal.Value.G7 m c := by
  have H := host_in _ _ hp
  refine (Cert.ReferenceIdeal.Read.val_main_v50_eq m' c).trans ?_
  rw [a0, a1]
  funext i
  refine (ref_out_q H i).trans ?_
  exact ((congrArg (Cert.KernelIdeal.Value.G7 m c) (pair_eta i)).trans (out_q (grid_in m c H) ⟨(i 0).val, (i 0).isLt⟩ ⟨(i 1).val, (i 1).isLt⟩)).symm

/-- The gradients of the keys. -/
theorem equal_k : Cert.ReferenceIdeal.Value.res_main_v52 m' c = Cert.KernelIdeal.Value.G8 m c := by
  have H := host_in _ _ hp
  refine (Cert.ReferenceIdeal.Read.val_main_v52_eq m' c).trans ?_
  rw [a0, a1]
  funext i
  refine (ref_out_k H i).trans ?_
  exact ((congrArg (Cert.KernelIdeal.Value.G8 m c) (pair_eta i)).trans (out_k (grid_in m c H) ⟨(i 0).val, (i 0).isLt⟩ ⟨(i 1).val, (i 1).isLt⟩)).symm

/-- The gradients of the values. -/
theorem equal_v : Cert.ReferenceIdeal.Value.res_main_v54 m' c = Cert.KernelIdeal.Value.G9 m c := by
  have H := host_in _ _ hp
  refine (Cert.ReferenceIdeal.Read.val_main_v54_eq m' c).trans ?_
  rw [a0, a1]
  funext i
  refine (ref_out_v H i).trans ?_
  exact ((congrArg (Cert.KernelIdeal.Value.G9 m c) (pair_eta i)).trans (out_v (grid_in m c H) ⟨(i 0).val, (i 0).isLt⟩ ⟨(i 1).val, (i 1).isLt⟩)).symm

end Cert.Att

end
-- ==== Proof.Prod.lean ====
/- Products of matrices over the extended reals, as sums. -/
module

public import Idealize.ShloMosaic.Lib.MatmulPlain
public import Idealize.ShloMosaic.Lib.ValueIdx
public import Idealize.ShloMosaic.Lib.IdealHost
public import Idealize.ShloMosaic.Lib.Pointwise
public import Idealize.ShloMosaic.Lib.Pipeline.ValueKit
public import Idealize.ShloMosaic.PureOps.Ideal.Laws

@[expose] public section

noncomputable section

namespace Cert.Prod

open Idealize.ShloMosaic
open scoped BigOperators

/-- Entry `(a, b)` of the product of a matrix's transpose with a matrix. -/
def tn {K M N : ℕ} (x : (⟨2, ![K, M]⟩ : Shape).Idx → EReal) (y : (⟨2, ![K, N]⟩ : Shape).Idx → EReal) (a : Fin M) (b : Fin N) : EReal :=
  ∑ k : Fin K, x (ValueIdx.ix2 k a) * y (ValueIdx.ix2 k b)

/-- Entry `(a, b)` of the product of a matrix with a matrix's transpose. -/
def nt {M N K : ℕ} (x : (⟨2, ![M, K]⟩ : Shape).Idx → EReal) (y : (⟨2, ![N, K]⟩ : Shape).Idx → EReal) (a : Fin M) (b : Fin N) : EReal :=
  ∑ k : Fin K, x (ValueIdx.ix2 a k) * y (ValueIdx.ix2 b k)

/-- Entry `(a, b)` of the product of two matrices. -/
def nn {M K N : ℕ} (x : (⟨2, ![M, K]⟩ : Shape).Idx → EReal) (y : (⟨2, ![K, N]⟩ : Shape).Idx → EReal) (a : Fin M) (b : Fin N) : EReal :=
  ∑ k : Fin K, x (ValueIdx.ix2 a k) * y (ValueIdx.ix2 k b)

/-- An index of two axes is the pair of its coordinates. -/
theorem eta {a b : ℕ} (i : (⟨2, ![a, b]⟩ : Shape).Idx) : i = ValueIdx.ix2 (n0 := a) (n1 := b) ⟨(i 0).val, (i 0).isLt⟩ ⟨(i 1).val, (i 1).isLt⟩ :=
  funext fun d => match d with
    | ⟨0, _⟩ => rfl
    | ⟨1, _⟩ => rfl

/-- An index of two axes with the given coordinates. -/
theorem eq_pair {a b : ℕ} (i : (⟨2, ![a, b]⟩ : Shape).Idx) (p : Fin a) (q : Fin b) (h0 : (i 0).val = p.val) (h1 : (i 1).val = q.val) : i = ValueIdx.ix2 p q :=
  funext fun d => match d with
    | ⟨0, _⟩ => Fin.ext h0
    | ⟨1, _⟩ => Fin.ext h1

end Cert.Prod

end
-- ==== Proof.DownGrad.lean ====
/- The gradient of the down projection's weights: the kernel's result is the reference's. -/
module

public import proofs.«01_k».proof.Proof.Prod
public import proofs.«01_k».proof.Proof.Gen.GradDownIdeal.Value
public import proofs.«01_k».proof.Proof.Gen.GradDownRefIdeal.Read

@[expose] public section

set_option maxRecDepth 16384

noncomputable section

namespace Cert.DownGrad

open Idealize.ShloMosaic Idealize.ShloMosaic.TcCoe Cert.GradDownIdeal Gen
open scoped BigOperators

/-- Where a point's blocks lie. -/
theorem place0 : ∀ t : Fin cfg0.N, win0_0.index t (0 : Fin 2) = 0 ∧ win0_0.index t (1 : Fin 2) = t.val := (by decide +kernel : ∀ t : Fin grid0.N, _)
theorem place1 : ∀ t : Fin cfg0.N, win0_1.index t (0 : Fin 2) = 0 ∧ win0_1.index t (1 : Fin 2) = 0 := (by decide +kernel : ∀ t : Fin grid0.N, _)
theorem place2 : ∀ t : Fin cfg0.N, win0_2.index t (0 : Fin 2) = t.val ∧ win0_2.index t (1 : Fin 2) = 0 := (by decide +kernel : ∀ t : Fin grid0.N, _)
theorem flush2 : ∀ t : Fin cfg0.N, win0_2.flush t = true := (by decide +kernel : ∀ t : Fin grid0.N, _)

/-- The body's product. -/
theorem pay_apply (x : FVec Ideal S4352x256 .bf16) (y : FVec Ideal S4352x1024 .bf16) (a : Fin 256) (b : Fin 1024) :
    k0_pay1 (F := Ideal) x y (ValueIdx.ix2 a b) = Prod.tn x y a b := by
  have e : k0_pay1 (F := Ideal) x y (ValueIdx.ix2 a b) = (0 : EReal) + ∑ k : Fin 4352, x (ValueIdx.ix2 k a) * y (ValueIdx.ix2 k b) := by
    unfold k0_pay1
    pointwise
    first | rfl | simp
  rw [e, zero_add]; rfl

theorem out_eq (x : Vec Ideal S4352x256 .bf16) (y : Vec Ideal S4352x1024 .bf16) : out0_2 x y = k0_pay1 x y := by
  unfold out0_2
  rw [View.ld_unit_lit _ x (Fin.forall_fin_two.mpr ⟨rfl, rfl⟩), View.ld_unit_lit _ y (Fin.forall_fin_two.mpr ⟨rfl, rfl⟩)]
  exact View.canon_cons_unit_lit _ _ [] (Fin.forall_fin_two.mpr ⟨rfl, rfl⟩)

variable (m : (ℓ : Loc nD τ sig) → Buf (Elt Ideal) ℓ) (c : Dev nD)

/-- A block of an array, read at an index. -/
theorem read0 (A : (⟨S4352x2816, .bf16⟩ : BufTy).Contents (Elt Ideal)) (t : Fin cfg0.N) (y : S4352x256.Idx) :
    ((cfg0.win 0).blk t).view.read (Elt Ideal) A y = A (((cfg0.win 0).blk t).view.emb y) := rfl
theorem read1 (A : (⟨S4352x1024, .bf16⟩ : BufTy).Contents (Elt Ideal)) (t : Fin cfg0.N) (y : S4352x1024.Idx) :
    ((cfg0.win 1).blk t).view.read (Elt Ideal) A y = A (((cfg0.win 1).blk t).view.emb y) := rfl
theorem read2 (A : (⟨S2816x1024, .f32⟩ : BufTy).Contents (Elt Ideal)) (t : Fin cfg0.N) (y : S256x1024.Idx) :
    ((cfg0.win 2).blk t).view.read (Elt Ideal) A y = A (((cfg0.win 2).blk t).view.emb y) := rfl
theorem cut2 (t : Fin cfg0.N) (A : Vec Ideal S256x1024 .f32) (y : S256x1024.Idx) :
    (cfg0.win 2).cut (grid0.coords t) A y = A y := rfl

/-- What a point's input blocks hold. -/
theorem blk0 (t : Fin cfg0.N) (a : Fin 4352) (b : Fin 256) (p : Fin 4352) (q : Fin 2816) (hp : p.val = 0 * 4352 + a.val) (hq : q.val = t.val * 256 + b.val) :
    iblk m c 0 t (ValueIdx.ix2 a b) = m ((c.tc : Thread nD τ).loc main_arg0) (ValueIdx.ix2 p q) := by
  obtain ⟨e0, e1⟩ := place0 t
  have b0 : (((cfg0.win 0).blk t).view.emb (ValueIdx.ix2 a b) 0).val = win0_0.index t (0 : Fin 2) * 4352 + 1 * a.val := rfl
  have b1 : (((cfg0.win 0).blk t).view.emb (ValueIdx.ix2 a b) 1).val = win0_0.index t (1 : Fin 2) * 256 + 1 * b.val := rfl
  unfold iblk
  refine (read0 _ t _).trans (congrArg _ (Prod.eq_pair _ _ _ ?_ ?_))
  · rw [b0, e0, hp]; omega
  · rw [b1, e1, hq]; omega

theorem blk1 (t : Fin cfg0.N) (a : Fin 4352) (b : Fin 1024) (p : Fin 4352) (q : Fin 1024) (hp : p.val = 0 * 4352 + a.val) (hq : q.val = 0 * 1024 + b.val) :
    iblk m c 1 t (ValueIdx.ix2 a b) = m ((c.tc : Thread nD τ).loc main_arg1) (ValueIdx.ix2 p q) := by
  obtain ⟨e0, e1⟩ := place1 t
  have b0 : (((cfg0.win 1).blk t).view.emb (ValueIdx.ix2 a b) 0).val = win0_1.index t (0 : Fin 2) * 4352 + 1 * a.val := rfl
  have b1 : (((cfg0.win 1).blk t).view.emb (ValueIdx.ix2 a b) 1).val = win0_1.index t (1 : Fin 2) * 1024 + 1 * b.val := rfl
  unfold iblk
  refine (read1 _ t _).trans (congrArg _ (Prod.eq_pair _ _ _ ?_ ?_))
  · rw [b0, e0, hp]; omega
  · rw [b1, e1, hq]; omega

/-- The kernel's result at an index. -/
theorem kernel_apply (r : Fin 2816) (l : Fin 1024) :
    (dats m 0 c).arrAt 2 cfg0.N (ValueIdx.ix2 r l) = Prod.tn (m ((c.tc : Thread nD τ).loc main_arg0)) (m ((c.tc : Thread nD τ).loc main_arg1)) r l := by
  have hN : cfg0.N = 11 := N_0
  obtain ⟨t, ht⟩ : ∃ t : Fin cfg0.N, t.val = r.val / 256 := ⟨⟨r.val / 256, by omega⟩, rfl⟩
  obtain ⟨e0, e1⟩ := place2 t
  obtain ⟨a, ha⟩ : ∃ a : Fin 256, a.val = r.val % 256 := ⟨⟨r.val % 256, by omega⟩, rfl⟩
  obtain ⟨b, hb⟩ : ∃ b : Fin 1024, b.val = l.val % 1024 := ⟨⟨l.val % 1024, by omega⟩, rfl⟩
  have b0 : (((cfg0.win 2).blk t).view.emb (ValueIdx.ix2 a b) 0).val = win0_2.index t (0 : Fin 2) * 256 + 1 * a.val := rfl
  have b1 : (((cfg0.win 2).blk t).view.emb (ValueIdx.ix2 a b) 1).val = win0_2.index t (1 : Fin 2) * 1024 + 1 * b.val := rfl
  have hi := Prod.eq_pair (((cfg0.win 2).blk t).view.emb (ValueIdx.ix2 a b)) r l (by rw [b0, e0]; omega) (by rw [b1, e1]; omega)
  have hw := congrFun (Value.blocks2 m c t (flush2 t)) (ValueIdx.ix2 a b)
  refine (congrArg _ hi).symm.trans ((read2 _ t _).symm.trans (hw.trans ?_))
  rw [Value.flushed2 m c t, out_eq]
  refine (cut2 t _ _).trans ((pay_apply _ _ _ _).trans (Finset.sum_congr rfl fun k _ => ?_))
  exact congrArg₂ (fun a b : EReal => a * b) (blk0 m c t k a k r (by omega) (by omega)) (blk1 m c t k b k l (by omega) (by omega))

open Cert.GradDownRefIdeal.Read in
/-- The reference's result at an index. -/
theorem reference_apply (x : (⟨Cert.GradDownRefIdeal.S4352x2816, .bf16⟩ : BufTy).Contents (Elt Ideal)) (y : (⟨Cert.GradDownRefIdeal.S4352x1024, .bf16⟩ : BufTy).Contents (Elt Ideal))
    (r : Fin 2816) (l : Fin 1024) : val_main_v5 (F := Ideal) x y (ValueIdx.ix2 r l) = Prod.tn x y r l := by
  rw [val_main_v5_apply, val_main_v4_apply]
  refine Finset.sum_congr rfl fun k _ => (mul_comm _ _).trans ?_
  rw [val_main_v1_apply, val_main_v0_apply]
  exact congrArg₂ (fun a b : EReal => a * b) (congrArg x (Prod.eq_pair _ _ _ rfl rfl)) (congrArg y (Prod.eq_pair _ _ _ rfl rfl))

/-- The two results are equal. -/
theorem equal {y0 y1 : _}
    (a0 : y0 = m ((c.tc : Thread nD τ).loc main_arg0))
    (a1 : y1 = m ((c.tc : Thread nD τ).loc main_arg1)) :
    Cert.GradDownRefIdeal.Read.val_main_v5 (F := Ideal) y0 y1
      = (dats m 0 c).arrAt 2 cfg0.N := by
  rw [a0, a1]
  funext i
  rw [Prod.eta i]
  exact (reference_apply _ _ _ _).trans (kernel_apply m c _ _).symm

end Cert.DownGrad

end
-- ==== Proof.UpGrad.lean ====
/- The gradient of the up projection's weights: the kernel's result is the reference's. -/
module

public import proofs.«01_k».proof.Proof.Prod
public import proofs.«01_k».proof.Proof.Gen.GradUpIdeal.Value
public import proofs.«01_k».proof.Proof.Gen.GradUpRefIdeal.Read

@[expose] public section

set_option maxRecDepth 16384

noncomputable section

namespace Cert.UpGrad

open Idealize.ShloMosaic Idealize.ShloMosaic.TcCoe Cert.GradUpIdeal Gen
open scoped BigOperators

/-- Where a point's blocks lie. -/
theorem place0 : ∀ t : Fin cfg0.N, win0_0.index t (0 : Fin 2) = 0 ∧ win0_0.index t (1 : Fin 2) = 0 := (by decide +kernel : ∀ t : Fin grid0.N, _)
theorem place1 : ∀ t : Fin cfg0.N, win0_1.index t (0 : Fin 2) = 0 ∧ win0_1.index t (1 : Fin 2) = t.val := (by decide +kernel : ∀ t : Fin grid0.N, _)
theorem place2 : ∀ t : Fin cfg0.N, win0_2.index t (0 : Fin 2) = 0 ∧ win0_2.index t (1 : Fin 2) = t.val := (by decide +kernel : ∀ t : Fin grid0.N, _)
theorem flush2 : ∀ t : Fin cfg0.N, win0_2.flush t = true := (by decide +kernel : ∀ t : Fin grid0.N, _)

/-- The body's product. -/
theorem pay_apply (x : FVec Ideal S4352x1024 .bf16) (y : FVec Ideal S4352x512 .bf16) (a : Fin 1024) (b : Fin 512) :
    k0_pay1 (F := Ideal) x y (ValueIdx.ix2 a b) = Prod.tn x y a b := by
  have e : k0_pay1 (F := Ideal) x y (ValueIdx.ix2 a b) = (0 : EReal) + ∑ k : Fin 4352, x (ValueIdx.ix2 k a) * y (ValueIdx.ix2 k b) := by
    unfold k0_pay1
    pointwise
    first | rfl | simp
  rw [e, zero_add]; rfl

theorem out_eq (x : Vec Ideal S4352x1024 .bf16) (y : Vec Ideal S4352x512 .bf16) : out0_2 x y = k0_pay1 x y := by
  unfold out0_2
  rw [View.ld_unit_lit _ x (Fin.forall_fin_two.mpr ⟨rfl, rfl⟩), View.ld_unit_lit _ y (Fin.forall_fin_two.mpr ⟨rfl, rfl⟩)]
  exact View.canon_cons_unit_lit _ _ [] (Fin.forall_fin_two.mpr ⟨rfl, rfl⟩)

variable (m : (ℓ : Loc nD τ sig) → Buf (Elt Ideal) ℓ) (c : Dev nD)

/-- A block of an array, read at an index. -/
theorem read0 (A : (⟨S4352x1024, .bf16⟩ : BufTy).Contents (Elt Ideal)) (t : Fin cfg0.N) (y : S4352x1024.Idx) :
    ((cfg0.win 0).blk t).view.read (Elt Ideal) A y = A (((cfg0.win 0).blk t).view.emb y) := rfl
theorem read1 (A : (⟨S4352x5632, .bf16⟩ : BufTy).Contents (Elt Ideal)) (t : Fin cfg0.N) (y : S4352x512.Idx) :
    ((cfg0.win 1).blk t).view.read (Elt Ideal) A y = A (((cfg0.win 1).blk t).view.emb y) := rfl
theorem read2 (A : (⟨S1024x5632, .f32⟩ : BufTy).Contents (Elt Ideal)) (t : Fin cfg0.N) (y : S1024x512.Idx) :
    ((cfg0.win 2).blk t).view.read (Elt Ideal) A y = A (((cfg0.win 2).blk t).view.emb y) := rfl
theorem cut2 (t : Fin cfg0.N) (A : Vec Ideal S1024x512 .f32) (y : S1024x512.Idx) :
    (cfg0.win 2).cut (grid0.coords t) A y = A y := rfl

/-- What a point's input blocks hold. -/
theorem blk0 (t : Fin cfg0.N) (a : Fin 4352) (b : Fin 1024) (p : Fin 4352) (q : Fin 1024) (hp : p.val = 0 * 4352 + a.val) (hq : q.val = 0 * 1024 + b.val) :
    iblk m c 0 t (ValueIdx.ix2 a b) = m ((c.tc : Thread nD τ).loc main_arg0) (ValueIdx.ix2 p q) := by
  obtain ⟨e0, e1⟩ := place0 t
  have b0 : (((cfg0.win 0).blk t).view.emb (ValueIdx.ix2 a b) 0).val = win0_0.index t (0 : Fin 2) * 4352 + 1 * a.val := rfl
  have b1 : (((cfg0.win 0).blk t).view.emb (ValueIdx.ix2 a b) 1).val = win0_0.index t (1 : Fin 2) * 1024 + 1 * b.val := rfl
  unfold iblk
  refine (read0 _ t _).trans (congrArg _ (Prod.eq_pair _ _ _ ?_ ?_))
  · rw [b0, e0, hp]; omega
  · rw [b1, e1, hq]; omega

theorem blk1 (t : Fin cfg0.N) (a : Fin 4352) (b : Fin 512) (p : Fin 4352) (q : Fin 5632) (hp : p.val = 0 * 4352 + a.val) (hq : q.val = t.val * 512 + b.val) :
    iblk m c 1 t (ValueIdx.ix2 a b) = m ((c.tc : Thread nD τ).loc main_arg1) (ValueIdx.ix2 p q) := by
  obtain ⟨e0, e1⟩ := place1 t
  have b0 : (((cfg0.win 1).blk t).view.emb (ValueIdx.ix2 a b) 0).val = win0_1.index t (0 : Fin 2) * 4352 + 1 * a.val := rfl
  have b1 : (((cfg0.win 1).blk t).view.emb (ValueIdx.ix2 a b) 1).val = win0_1.index t (1 : Fin 2) * 512 + 1 * b.val := rfl
  unfold iblk
  refine (read1 _ t _).trans (congrArg _ (Prod.eq_pair _ _ _ ?_ ?_))
  · rw [b0, e0, hp]; omega
  · rw [b1, e1, hq]; omega

/-- The kernel's result at an index. -/
theorem kernel_apply (r : Fin 1024) (l : Fin 5632) :
    (dats m 0 c).arrAt 2 cfg0.N (ValueIdx.ix2 r l) = Prod.tn (m ((c.tc : Thread nD τ).loc main_arg0)) (m ((c.tc : Thread nD τ).loc main_arg1)) r l := by
  have hN : cfg0.N = 11 := N_0
  obtain ⟨t, ht⟩ : ∃ t : Fin cfg0.N, t.val = l.val / 512 := ⟨⟨l.val / 512, by omega⟩, rfl⟩
  obtain ⟨e0, e1⟩ := place2 t
  obtain ⟨a, ha⟩ : ∃ a : Fin 1024, a.val = r.val % 1024 := ⟨⟨r.val % 1024, by omega⟩, rfl⟩
  obtain ⟨b, hb⟩ : ∃ b : Fin 512, b.val = l.val % 512 := ⟨⟨l.val % 512, by omega⟩, rfl⟩
  have b0 : (((cfg0.win 2).blk t).view.emb (ValueIdx.ix2 a b) 0).val = win0_2.index t (0 : Fin 2) * 1024 + 1 * a.val := rfl
  have b1 : (((cfg0.win 2).blk t).view.emb (ValueIdx.ix2 a b) 1).val = win0_2.index t (1 : Fin 2) * 512 + 1 * b.val := rfl
  have hi := Prod.eq_pair (((cfg0.win 2).blk t).view.emb (ValueIdx.ix2 a b)) r l (by rw [b0, e0]; omega) (by rw [b1, e1]; omega)
  have hw := congrFun (Value.blocks2 m c t (flush2 t)) (ValueIdx.ix2 a b)
  refine (congrArg _ hi).symm.trans ((read2 _ t _).symm.trans (hw.trans ?_))
  rw [Value.flushed2 m c t, out_eq]
  refine (cut2 t _ _).trans ((pay_apply _ _ _ _).trans (Finset.sum_congr rfl fun k _ => ?_))
  exact congrArg₂ (fun a b : EReal => a * b) (blk0 m c t k a k r (by omega) (by omega)) (blk1 m c t k b k l (by omega) (by omega))

open Cert.GradUpRefIdeal.Read in
/-- The reference's result at an index. -/
theorem reference_apply (x : (⟨Cert.GradUpRefIdeal.S4352x1024, .bf16⟩ : BufTy).Contents (Elt Ideal)) (y : (⟨Cert.GradUpRefIdeal.S4352x5632, .bf16⟩ : BufTy).Contents (Elt Ideal))
    (r : Fin 1024) (l : Fin 5632) : val_main_v5 (F := Ideal) x y (ValueIdx.ix2 r l) = Prod.tn x y r l := by
  rw [val_main_v5_apply, val_main_v4_apply]
  refine Finset.sum_congr rfl fun k _ => (mul_comm _ _).trans ?_
  rw [val_main_v1_apply, val_main_v0_apply]
  exact congrArg₂ (fun a b : EReal => a * b) (congrArg x (Prod.eq_pair _ _ _ rfl rfl)) (congrArg y (Prod.eq_pair _ _ _ rfl rfl))

/-- The two results are equal. -/
theorem equal {y0 y1 : _}
    (a0 : y0 = m ((c.tc : Thread nD τ).loc main_arg0))
    (a1 : y1 = m ((c.tc : Thread nD τ).loc main_arg1)) :
    Cert.GradUpRefIdeal.Read.val_main_v5 (F := Ideal) y0 y1
      = (dats m 0 c).arrAt 2 cfg0.N := by
  rw [a0, a1]
  funext i
  rw [Prod.eta i]
  exact (reference_apply _ _ _ _).trans (kernel_apply m c _ _).symm

end Cert.UpGrad

end
-- ==== Proof.OutGrad.lean ====
/- The gradient of the weights of a square projection: the kernel's result is the reference's. -/
module

public import proofs.«01_k».proof.Proof.Prod
public import proofs.«01_k».proof.Proof.Gen.GradOutIdeal.Value
public import proofs.«01_k».proof.Proof.Gen.GradOutRefIdeal.Read

@[expose] public section

set_option maxRecDepth 16384

noncomputable section

namespace Cert.OutGrad

open Idealize.ShloMosaic Idealize.ShloMosaic.TcCoe Cert.GradOutIdeal Gen
open scoped BigOperators

/-- Where a point's blocks lie. -/
theorem place0 : ∀ t : Fin cfg0.N, win0_0.index t (0 : Fin 2) = 0 ∧ win0_0.index t (1 : Fin 2) = t.val := (by decide +kernel : ∀ t : Fin grid0.N, _)
theorem place1 : ∀ t : Fin cfg0.N, win0_1.index t (0 : Fin 2) = 0 ∧ win0_1.index t (1 : Fin 2) = 0 := (by decide +kernel : ∀ t : Fin grid0.N, _)
theorem place2 : ∀ t : Fin cfg0.N, win0_2.index t (0 : Fin 2) = t.val ∧ win0_2.index t (1 : Fin 2) = 0 := (by decide +kernel : ∀ t : Fin grid0.N, _)
theorem flush2 : ∀ t : Fin cfg0.N, win0_2.flush t = true := (by decide +kernel : ∀ t : Fin grid0.N, _)

/-- The body's product. -/
theorem pay_apply (x : FVec Ideal S4352x512 .bf16) (y : FVec Ideal S4352x1024 .bf16) (a : Fin 512) (b : Fin 1024) :
    k0_pay1 (F := Ideal) x y (ValueIdx.ix2 a b) = Prod.tn x y a b := by
  have e : k0_pay1 (F := Ideal) x y (ValueIdx.ix2 a b) = (0 : EReal) + ∑ k : Fin 4352, x (ValueIdx.ix2 k a) * y (ValueIdx.ix2 k b) := by
    unfold k0_pay1
    pointwise
    first | rfl | simp
  rw [e, zero_add]; rfl

theorem out_eq (x : Vec Ideal S4352x512 .bf16) (y : Vec Ideal S4352x1024 .bf16) : out0_2 x y = k0_pay1 x y := by
  unfold out0_2
  rw [View.ld_unit_lit _ x (Fin.forall_fin_two.mpr ⟨rfl, rfl⟩), View.ld_unit_lit _ y (Fin.forall_fin_two.mpr ⟨rfl, rfl⟩)]
  exact View.canon_cons_unit_lit _ _ [] (Fin.forall_fin_two.mpr ⟨rfl, rfl⟩)

variable (m : (ℓ : Loc nD τ sig) → Buf (Elt Ideal) ℓ) (c : Dev nD)

/-- A block of an array, read at an index. -/
theorem read0 (A : (⟨S4352x1024, .bf16⟩ : BufTy).Contents (Elt Ideal)) (t : Fin cfg0.N) (y : S4352x512.Idx) :
    ((cfg0.win 0).blk t).view.read (Elt Ideal) A y = A (((cfg0.win 0).blk t).view.emb y) := rfl
theorem read1 (A : (⟨S4352x1024, .bf16⟩ : BufTy).Contents (Elt Ideal)) (t : Fin cfg0.N) (y : S4352x1024.Idx) :
    ((cfg0.win 1).blk t).view.read (Elt Ideal) A y = A (((cfg0.win 1).blk t).view.emb y) := rfl
theorem read2 (A : (⟨S1024x1024, .f32⟩ : BufTy).Contents (Elt Ideal)) (t : Fin cfg0.N) (y : S512x1024.Idx) :
    ((cfg0.win 2).blk t).view.read (Elt Ideal) A y = A (((cfg0.win 2).blk t).view.emb y) := rfl
theorem cut2 (t : Fin cfg0.N) (A : Vec Ideal S512x1024 .f32) (y : S512x1024.Idx) :
    (cfg0.win 2).cut (grid0.coords t) A y = A y := rfl

/-- What a point's input blocks hold. -/
theorem blk0 (t : Fin cfg0.N) (a : Fin 4352) (b : Fin 512) (p : Fin 4352) (q : Fin 1024) (hp : p.val = 0 * 4352 + a.val) (hq : q.val = t.val * 512 + b.val) :
    iblk m c 0 t (ValueIdx.ix2 a b) = m ((c.tc : Thread nD τ).loc main_arg0) (ValueIdx.ix2 p q) := by
  obtain ⟨e0, e1⟩ := place0 t
  have b0 : (((cfg0.win 0).blk t).view.emb (ValueIdx.ix2 a b) 0).val = win0_0.index t (0 : Fin 2) * 4352 + 1 * a.val := rfl
  have b1 : (((cfg0.win 0).blk t).view.emb (ValueIdx.ix2 a b) 1).val = win0_0.index t (1 : Fin 2) * 512 + 1 * b.val := rfl
  unfold iblk
  refine (read0 _ t _).trans (congrArg _ (Prod.eq_pair _ _ _ ?_ ?_))
  · rw [b0, e0, hp]; omega
  · rw [b1, e1, hq]; omega

theorem blk1 (t : Fin cfg0.N) (a : Fin 4352) (b : Fin 1024) (p : Fin 4352) (q : Fin 1024) (hp : p.val = 0 * 4352 + a.val) (hq : q.val = 0 * 1024 + b.val) :
    iblk m c 1 t (ValueIdx.ix2 a b) = m ((c.tc : Thread nD τ).loc main_arg1) (ValueIdx.ix2 p q) := by
  obtain ⟨e0, e1⟩ := place1 t
  have b0 : (((cfg0.win 1).blk t).view.emb (ValueIdx.ix2 a b) 0).val = win0_1.index t (0 : Fin 2) * 4352 + 1 * a.val := rfl
  have b1 : (((cfg0.win 1).blk t).view.emb (ValueIdx.ix2 a b) 1).val = win0_1.index t (1 : Fin 2) * 1024 + 1 * b.val := rfl
  unfold iblk
  refine (read1 _ t _).trans (congrArg _ (Prod.eq_pair _ _ _ ?_ ?_))
  · rw [b0, e0, hp]; omega
  · rw [b1, e1, hq]; omega

/-- The kernel's result at an index. -/
theorem kernel_apply (r : Fin 1024) (l : Fin 1024) :
    (dats m 0 c).arrAt 2 cfg0.N (ValueIdx.ix2 r l) = Prod.tn (m ((c.tc : Thread nD τ).loc main_arg0)) (m ((c.tc : Thread nD τ).loc main_arg1)) r l := by
  have hN : cfg0.N = 2 := N_0
  obtain ⟨t, ht⟩ : ∃ t : Fin cfg0.N, t.val = r.val / 512 := ⟨⟨r.val / 512, by omega⟩, rfl⟩
  obtain ⟨e0, e1⟩ := place2 t
  obtain ⟨a, ha⟩ : ∃ a : Fin 512, a.val = r.val % 512 := ⟨⟨r.val % 512, by omega⟩, rfl⟩
  obtain ⟨b, hb⟩ : ∃ b : Fin 1024, b.val = l.val % 1024 := ⟨⟨l.val % 1024, by omega⟩, rfl⟩
  have b0 : (((cfg0.win 2).blk t).view.emb (ValueIdx.ix2 a b) 0).val = win0_2.index t (0 : Fin 2) * 512 + 1 * a.val := rfl
  have b1 : (((cfg0.win 2).blk t).view.emb (ValueIdx.ix2 a b) 1).val = win0_2.index t (1 : Fin 2) * 1024 + 1 * b.val := rfl
  have hi := Prod.eq_pair (((cfg0.win 2).blk t).view.emb (ValueIdx.ix2 a b)) r l (by rw [b0, e0]; omega) (by rw [b1, e1]; omega)
  have hw := congrFun (Value.blocks2 m c t (flush2 t)) (ValueIdx.ix2 a b)
  refine (congrArg _ hi).symm.trans ((read2 _ t _).symm.trans (hw.trans ?_))
  rw [Value.flushed2 m c t, out_eq]
  refine (cut2 t _ _).trans ((pay_apply _ _ _ _).trans (Finset.sum_congr rfl fun k _ => ?_))
  exact congrArg₂ (fun a b : EReal => a * b) (blk0 m c t k a k r (by omega) (by omega)) (blk1 m c t k b k l (by omega) (by omega))

open Cert.GradOutRefIdeal.Read in
/-- The reference's result at an index. -/
theorem reference_apply (x : (⟨Cert.GradOutRefIdeal.S4352x1024, .bf16⟩ : BufTy).Contents (Elt Ideal)) (y : (⟨Cert.GradOutRefIdeal.S4352x1024, .bf16⟩ : BufTy).Contents (Elt Ideal))
    (r : Fin 1024) (l : Fin 1024) : val_main_v5 (F := Ideal) x y (ValueIdx.ix2 r l) = Prod.tn x y r l := by
  rw [val_main_v5_apply, val_main_v4_apply]
  refine Finset.sum_congr rfl fun k _ => (mul_comm _ _).trans ?_
  rw [val_main_v1_apply, val_main_v0_apply]
  exact congrArg₂ (fun a b : EReal => a * b) (congrArg x (Prod.eq_pair _ _ _ rfl rfl)) (congrArg y (Prod.eq_pair _ _ _ rfl rfl))

/-- The two results are equal. -/
theorem equal {y0 y1 : _}
    (a0 : y0 = m ((c.tc : Thread nD τ).loc main_arg0))
    (a1 : y1 = m ((c.tc : Thread nD τ).loc main_arg1)) :
    Cert.GradOutRefIdeal.Read.val_main_v5 (F := Ideal) y0 y1
      = (dats m 0 c).arrAt 2 cfg0.N := by
  rw [a0, a1]
  funext i
  rw [Prod.eta i]
  exact (reference_apply _ _ _ _).trans (kernel_apply m c _ _).symm

end Cert.OutGrad

end
-- ==== Proof.DownBack.lean ====
/- The gradient of the down projection's input: the kernel's result is the reference's. -/
module

public import proofs.«01_k».proof.Proof.Prod
public import proofs.«01_k».proof.Proof.Gen.DownBwdIdeal.Value
public import proofs.«01_k».proof.Proof.Gen.DownBwdRefIdeal.Read

@[expose] public section

set_option maxRecDepth 16384

noncomputable section

namespace Cert.DownBack

open Idealize.ShloMosaic Idealize.ShloMosaic.TcCoe Cert.DownBwdIdeal Gen
open scoped BigOperators

/-- Where a point's blocks lie. -/
theorem place0 : ∀ t : Fin cfg0.N, win0_0.index t (0 : Fin 2) = t.val ∧ win0_0.index t (1 : Fin 2) = 0 := (by decide +kernel : ∀ t : Fin grid0.N, _)
theorem place1 : ∀ t : Fin cfg0.N, win0_1.index t (0 : Fin 2) = 0 ∧ win0_1.index t (1 : Fin 2) = 0 := (by decide +kernel : ∀ t : Fin grid0.N, _)
theorem place2 : ∀ t : Fin cfg0.N, win0_2.index t (0 : Fin 2) = t.val ∧ win0_2.index t (1 : Fin 2) = 0 := (by decide +kernel : ∀ t : Fin grid0.N, _)
theorem flush2 : ∀ t : Fin cfg0.N, win0_2.flush t = true := (by decide +kernel : ∀ t : Fin grid0.N, _)

/-- The body's product. -/
theorem pay_apply (x : FVec Ideal S544x1024 .bf16) (y : FVec Ideal S2816x1024 .bf16) (a : Fin 544) (b : Fin 2816) :
    k0_pay1 (F := Ideal) x y (ValueIdx.ix2 a b) = Prod.nt x y a b := by
  have e : k0_pay1 (F := Ideal) x y (ValueIdx.ix2 a b) = (0 : EReal) + ∑ k : Fin 1024, x (ValueIdx.ix2 a k) * y (ValueIdx.ix2 b k) := by
    unfold k0_pay1
    pointwise
    first | rfl | simp
  rw [e, zero_add]; rfl

theorem out_eq (x : Vec Ideal S544x1024 .bf16) (y : Vec Ideal S2816x1024 .bf16) : out0_2 x y = k0_pay1 x y := by
  unfold out0_2
  rw [View.ld_unit_lit _ x (Fin.forall_fin_two.mpr ⟨rfl, rfl⟩), View.ld_unit_lit _ y (Fin.forall_fin_two.mpr ⟨rfl, rfl⟩)]
  exact View.canon_cons_unit_lit _ _ [] (Fin.forall_fin_two.mpr ⟨rfl, rfl⟩)

variable (m : (ℓ : Loc nD τ sig) → Buf (Elt Ideal) ℓ) (c : Dev nD)

/-- A block of an array, read at an index. -/
theorem read0 (A : (⟨S4352x1024, .bf16⟩ : BufTy).Contents (Elt Ideal)) (t : Fin cfg0.N) (y : S544x1024.Idx) :
    ((cfg0.win 0).blk t).view.read (Elt Ideal) A y = A (((cfg0.win 0).blk t).view.emb y) := rfl
theorem read1 (A : (⟨S2816x1024, .bf16⟩ : BufTy).Contents (Elt Ideal)) (t : Fin cfg0.N) (y : S2816x1024.Idx) :
    ((cfg0.win 1).blk t).view.read (Elt Ideal) A y = A (((cfg0.win 1).blk t).view.emb y) := rfl
theorem read2 (A : (⟨S4352x2816, .bf16⟩ : BufTy).Contents (Elt Ideal)) (t : Fin cfg0.N) (y : S544x2816.Idx) :
    ((cfg0.win 2).blk t).view.read (Elt Ideal) A y = A (((cfg0.win 2).blk t).view.emb y) := rfl
theorem cut2 (t : Fin cfg0.N) (A : Vec Ideal S544x2816 .bf16) (y : S544x2816.Idx) :
    (cfg0.win 2).cut (grid0.coords t) A y = A y := rfl

/-- What a point's input blocks hold. -/
theorem blk0 (t : Fin cfg0.N) (a : Fin 544) (b : Fin 1024) (p : Fin 4352) (q : Fin 1024) (hp : p.val = t.val * 544 + a.val) (hq : q.val = 0 * 1024 + b.val) :
    iblk m c 0 t (ValueIdx.ix2 a b) = m ((c.tc : Thread nD τ).loc main_arg0) (ValueIdx.ix2 p q) := by
  obtain ⟨e0, e1⟩ := place0 t
  have b0 : (((cfg0.win 0).blk t).view.emb (ValueIdx.ix2 a b) 0).val = win0_0.index t (0 : Fin 2) * 544 + 1 * a.val := rfl
  have b1 : (((cfg0.win 0).blk t).view.emb (ValueIdx.ix2 a b) 1).val = win0_0.index t (1 : Fin 2) * 1024 + 1 * b.val := rfl
  unfold iblk
  refine (read0 _ t _).trans (congrArg _ (Prod.eq_pair _ _ _ ?_ ?_))
  · rw [b0, e0, hp]; omega
  · rw [b1, e1, hq]; omega

theorem blk1 (t : Fin cfg0.N) (a : Fin 2816) (b : Fin 1024) (p : Fin 2816) (q : Fin 1024) (hp : p.val = 0 * 2816 + a.val) (hq : q.val = 0 * 1024 + b.val) :
    iblk m c 1 t (ValueIdx.ix2 a b) = m ((c.tc : Thread nD τ).loc main_arg1) (ValueIdx.ix2 p q) := by
  obtain ⟨e0, e1⟩ := place1 t
  have b0 : (((cfg0.win 1).blk t).view.emb (ValueIdx.ix2 a b) 0).val = win0_1.index t (0 : Fin 2) * 2816 + 1 * a.val := rfl
  have b1 : (((cfg0.win 1).blk t).view.emb (ValueIdx.ix2 a b) 1).val = win0_1.index t (1 : Fin 2) * 1024 + 1 * b.val := rfl
  unfold iblk
  refine (read1 _ t _).trans (congrArg _ (Prod.eq_pair _ _ _ ?_ ?_))
  · rw [b0, e0, hp]; omega
  · rw [b1, e1, hq]; omega

/-- The kernel's result at an index. -/
theorem kernel_apply (r : Fin 4352) (l : Fin 2816) :
    (dats m 0 c).arrAt 2 cfg0.N (ValueIdx.ix2 r l) = Prod.nt (m ((c.tc : Thread nD τ).loc main_arg0)) (m ((c.tc : Thread nD τ).loc main_arg1)) r l := by
  have hN : cfg0.N = 8 := N_0
  obtain ⟨t, ht⟩ : ∃ t : Fin cfg0.N, t.val = r.val / 544 := ⟨⟨r.val / 544, by omega⟩, rfl⟩
  obtain ⟨e0, e1⟩ := place2 t
  obtain ⟨a, ha⟩ : ∃ a : Fin 544, a.val = r.val % 544 := ⟨⟨r.val % 544, by omega⟩, rfl⟩
  obtain ⟨b, hb⟩ : ∃ b : Fin 2816, b.val = l.val % 2816 := ⟨⟨l.val % 2816, by omega⟩, rfl⟩
  have b0 : (((cfg0.win 2).blk t).view.emb (ValueIdx.ix2 a b) 0).val = win0_2.index t (0 : Fin 2) * 544 + 1 * a.val := rfl
  have b1 : (((cfg0.win 2).blk t).view.emb (ValueIdx.ix2 a b) 1).val = win0_2.index t (1 : Fin 2) * 2816 + 1 * b.val := rfl
  have hi := Prod.eq_pair (((cfg0.win 2).blk t).view.emb (ValueIdx.ix2 a b)) r l (by rw [b0, e0]; omega) (by rw [b1, e1]; omega)
  have hw := congrFun (Value.blocks2 m c t (flush2 t)) (ValueIdx.ix2 a b)
  refine (congrArg _ hi).symm.trans ((read2 _ t _).symm.trans (hw.trans ?_))
  rw [Value.flushed2 m c t, out_eq]
  refine (cut2 t _ _).trans ((pay_apply _ _ _ _).trans (Finset.sum_congr rfl fun k _ => ?_))
  exact congrArg₂ (fun a b : EReal => a * b) (blk0 m c t a k r k (by omega) (by omega)) (blk1 m c t b k l k (by omega) (by omega))

open Cert.DownBwdRefIdeal.Read in
/-- The reference's result at an index. -/
theorem reference_apply (x : (⟨Cert.DownBwdRefIdeal.S4352x1024, .bf16⟩ : BufTy).Contents (Elt Ideal)) (y : (⟨Cert.DownBwdRefIdeal.S2816x1024, .bf16⟩ : BufTy).Contents (Elt Ideal))
    (r : Fin 4352) (l : Fin 2816) : val_main_v5 (F := Ideal) x y (ValueIdx.ix2 r l) = Prod.nt x y r l := by
  rw [val_main_v5_apply]
  refine (val_main_v4_apply x y _).trans (Finset.sum_congr rfl fun k _ => ?_)
  rw [val_main_v1_apply, val_main_v0_apply]
  exact congrArg₂ (fun a b : EReal => a * b) (congrArg x (Prod.eq_pair _ _ _ rfl rfl)) (congrArg y (Prod.eq_pair _ _ _ rfl rfl))

/-- The two results are equal. -/
theorem equal {y0 y1 : _}
    (a0 : y0 = m ((c.tc : Thread nD τ).loc main_arg0))
    (a1 : y1 = m ((c.tc : Thread nD τ).loc main_arg1)) :
    Cert.DownBwdRefIdeal.Read.val_main_v5 (F := Ideal) y0 y1
      = (dats m 0 c).arrAt 2 cfg0.N := by
  rw [a0, a1]
  funext i
  rw [Prod.eta i]
  exact (reference_apply _ _ _ _).trans (kernel_apply m c _ _).symm

end Cert.DownBack

end
-- ==== Proof.ProjBack.lean ====
/- The gradient of a branch projection's input: the kernel's result is the reference's. -/
module

public import proofs.«01_k».proof.Proof.Prod
public import proofs.«01_k».proof.Proof.Gen.ProjBwdIdeal.Value
public import proofs.«01_k».proof.Proof.Gen.ProjBwdRefIdeal.Read

@[expose] public section

set_option maxRecDepth 16384

noncomputable section

namespace Cert.ProjBack

open Idealize.ShloMosaic Idealize.ShloMosaic.TcCoe Cert.ProjBwdIdeal Gen
open scoped BigOperators

/-- Where a point's blocks lie. -/
theorem place0 : ∀ t : Fin cfg0.N, win0_0.index t (0 : Fin 2) = t.val ∧ win0_0.index t (1 : Fin 2) = 0 := (by decide +kernel : ∀ t : Fin grid0.N, _)
theorem place1 : ∀ t : Fin cfg0.N, win0_1.index t (0 : Fin 2) = 0 ∧ win0_1.index t (1 : Fin 2) = 0 := (by decide +kernel : ∀ t : Fin grid0.N, _)
theorem place2 : ∀ t : Fin cfg0.N, win0_2.index t (0 : Fin 2) = t.val ∧ win0_2.index t (1 : Fin 2) = 0 := (by decide +kernel : ∀ t : Fin grid0.N, _)
theorem flush2 : ∀ t : Fin cfg0.N, win0_2.flush t = true := (by decide +kernel : ∀ t : Fin grid0.N, _)

/-- The body's product. -/
theorem pay_apply (x : FVec Ideal S544x1024 .bf16) (y : FVec Ideal S1024x1024 .bf16) (a : Fin 544) (b : Fin 1024) :
    k0_pay1 (F := Ideal) x y (ValueIdx.ix2 a b) = Prod.nt x y a b := by
  have e : k0_pay1 (F := Ideal) x y (ValueIdx.ix2 a b) = (0 : EReal) + ∑ k : Fin 1024, x (ValueIdx.ix2 a k) * y (ValueIdx.ix2 b k) := by
    unfold k0_pay1
    pointwise
    first | rfl | simp
  rw [e, zero_add]; rfl

theorem out_eq (x : Vec Ideal S544x1024 .bf16) (y : Vec Ideal S1024x1024 .bf16) : out0_2 x y = k0_pay1 x y := by
  unfold out0_2
  rw [View.ld_unit_lit _ x (Fin.forall_fin_two.mpr ⟨rfl, rfl⟩), View.ld_unit_lit _ y (Fin.forall_fin_two.mpr ⟨rfl, rfl⟩)]
  exact View.canon_cons_unit_lit _ _ [] (Fin.forall_fin_two.mpr ⟨rfl, rfl⟩)

variable (m : (ℓ : Loc nD τ sig) → Buf (Elt Ideal) ℓ) (c : Dev nD)

/-- A block of an array, read at an index. -/
theorem read0 (A : (⟨S4352x1024, .bf16⟩ : BufTy).Contents (Elt Ideal)) (t : Fin cfg0.N) (y : S544x1024.Idx) :
    ((cfg0.win 0).blk t).view.read (Elt Ideal) A y = A (((cfg0.win 0).blk t).view.emb y) := rfl
theorem read1 (A : (⟨S1024x1024, .bf16⟩ : BufTy).Contents (Elt Ideal)) (t : Fin cfg0.N) (y : S1024x1024.Idx) :
    ((cfg0.win 1).blk t).view.read (Elt Ideal) A y = A (((cfg0.win 1).blk t).view.emb y) := rfl
theorem read2 (A : (⟨S4352x1024, .bf16⟩ : BufTy).Contents (Elt Ideal)) (t : Fin cfg0.N) (y : S544x1024.Idx) :
    ((cfg0.win 2).blk t).view.read (Elt Ideal) A y = A (((cfg0.win 2).blk t).view.emb y) := rfl
theorem cut2 (t : Fin cfg0.N) (A : Vec Ideal S544x1024 .bf16) (y : S544x1024.Idx) :
    (cfg0.win 2).cut (grid0.coords t) A y = A y := rfl

/-- What a point's input blocks hold. -/
theorem blk0 (t : Fin cfg0.N) (a : Fin 544) (b : Fin 1024) (p : Fin 4352) (q : Fin 1024) (hp : p.val = t.val * 544 + a.val) (hq : q.val = 0 * 1024 + b.val) :
    iblk m c 0 t (ValueIdx.ix2 a b) = m ((c.tc : Thread nD τ).loc main_arg0) (ValueIdx.ix2 p q) := by
  obtain ⟨e0, e1⟩ := place0 t
  have b0 : (((cfg0.win 0).blk t).view.emb (ValueIdx.ix2 a b) 0).val = win0_0.index t (0 : Fin 2) * 544 + 1 * a.val := rfl
  have b1 : (((cfg0.win 0).blk t).view.emb (ValueIdx.ix2 a b) 1).val = win0_0.index t (1 : Fin 2) * 1024 + 1 * b.val := rfl
  unfold iblk
  refine (read0 _ t _).trans (congrArg _ (Prod.eq_pair _ _ _ ?_ ?_))
  · rw [b0, e0, hp]; omega
  · rw [b1, e1, hq]; omega

theorem blk1 (t : Fin cfg0.N) (a : Fin 1024) (b : Fin 1024) (p : Fin 1024) (q : Fin 1024) (hp : p.val = 0 * 1024 + a.val) (hq : q.val = 0 * 1024 + b.val) :
    iblk m c 1 t (ValueIdx.ix2 a b) = m ((c.tc : Thread nD τ).loc main_arg1) (ValueIdx.ix2 p q) := by
  obtain ⟨e0, e1⟩ := place1 t
  have b0 : (((cfg0.win 1).blk t).view.emb (ValueIdx.ix2 a b) 0).val = win0_1.index t (0 : Fin 2) * 1024 + 1 * a.val := rfl
  have b1 : (((cfg0.win 1).blk t).view.emb (ValueIdx.ix2 a b) 1).val = win0_1.index t (1 : Fin 2) * 1024 + 1 * b.val := rfl
  unfold iblk
  refine (read1 _ t _).trans (congrArg _ (Prod.eq_pair _ _ _ ?_ ?_))
  · rw [b0, e0, hp]; omega
  · rw [b1, e1, hq]; omega

/-- The kernel's result at an index. -/
theorem kernel_apply (r : Fin 4352) (l : Fin 1024) :
    (dats m 0 c).arrAt 2 cfg0.N (ValueIdx.ix2 r l) = Prod.nt (m ((c.tc : Thread nD τ).loc main_arg0)) (m ((c.tc : Thread nD τ).loc main_arg1)) r l := by
  have hN : cfg0.N = 8 := N_0
  obtain ⟨t, ht⟩ : ∃ t : Fin cfg0.N, t.val = r.val / 544 := ⟨⟨r.val / 544, by omega⟩, rfl⟩
  obtain ⟨e0, e1⟩ := place2 t
  obtain ⟨a, ha⟩ : ∃ a : Fin 544, a.val = r.val % 544 := ⟨⟨r.val % 544, by omega⟩, rfl⟩
  obtain ⟨b, hb⟩ : ∃ b : Fin 1024, b.val = l.val % 1024 := ⟨⟨l.val % 1024, by omega⟩, rfl⟩
  have b0 : (((cfg0.win 2).blk t).view.emb (ValueIdx.ix2 a b) 0).val = win0_2.index t (0 : Fin 2) * 544 + 1 * a.val := rfl
  have b1 : (((cfg0.win 2).blk t).view.emb (ValueIdx.ix2 a b) 1).val = win0_2.index t (1 : Fin 2) * 1024 + 1 * b.val := rfl
  have hi := Prod.eq_pair (((cfg0.win 2).blk t).view.emb (ValueIdx.ix2 a b)) r l (by rw [b0, e0]; omega) (by rw [b1, e1]; omega)
  have hw := congrFun (Value.blocks2 m c t (flush2 t)) (ValueIdx.ix2 a b)
  refine (congrArg _ hi).symm.trans ((read2 _ t _).symm.trans (hw.trans ?_))
  rw [Value.flushed2 m c t, out_eq]
  refine (cut2 t _ _).trans ((pay_apply _ _ _ _).trans (Finset.sum_congr rfl fun k _ => ?_))
  exact congrArg₂ (fun a b : EReal => a * b) (blk0 m c t a k r k (by omega) (by omega)) (blk1 m c t b k l k (by omega) (by omega))

open Cert.ProjBwdRefIdeal.Read in
/-- The reference's result at an index. -/
theorem reference_apply (x : (⟨Cert.ProjBwdRefIdeal.S4352x1024, .bf16⟩ : BufTy).Contents (Elt Ideal)) (y : (⟨Cert.ProjBwdRefIdeal.S1024x1024, .bf16⟩ : BufTy).Contents (Elt Ideal))
    (r : Fin 4352) (l : Fin 1024) : val_main_v5 (F := Ideal) x y (ValueIdx.ix2 r l) = Prod.nt x y r l := by
  rw [val_main_v5_apply]
  refine (val_main_v4_apply x y _).trans (Finset.sum_congr rfl fun k _ => ?_)
  rw [val_main_v1_apply, val_main_v0_apply]
  exact congrArg₂ (fun a b : EReal => a * b) (congrArg x (Prod.eq_pair _ _ _ rfl rfl)) (congrArg y (Prod.eq_pair _ _ _ rfl rfl))

/-- The two results are equal. -/
theorem equal {y0 y1 : _}
    (a0 : y0 = m ((c.tc : Thread nD τ).loc main_arg0))
    (a1 : y1 = m ((c.tc : Thread nD τ).loc main_arg1)) :
    Cert.ProjBwdRefIdeal.Read.val_main_v5 (F := Ideal) y0 y1
      = (dats m 0 c).arrAt 2 cfg0.N := by
  rw [a0, a1]
  funext i
  rw [Prod.eta i]
  exact (reference_apply _ _ _ _).trans (kernel_apply m c _ _).symm

end Cert.ProjBack

end
-- ==== Proof.Read.lean ====
/- Reading the whole of a window that was filled with a vector gives the vector. -/
module

public import Idealize.ShloMosaic.Lib.VecWindow

@[expose] public section

namespace Cert

open Idealize.ShloMosaic

theorem rdw {sig : RefSig} {κ : Kind} {sp : Space} {s : Shape} {e : EltTy} {Val : EltTy → Type} {a : Memref sig κ sp s e} (w : a.IsWhole)
    (X : s.Idx → Val e) {off : Fin s.rank → ℕ} {inb : ∀ a, off a + s.size a ≤ s.size a} : a.view.readAt Val (Rect.unit off s.size inb).toLoadRect (w.unread X) = X :=
  (View.readAt_full _ _ _).trans (w.read_unread X)

end Cert
-- ==== Proof.InGradPoint.lean ====
/- The gradient of the input projection's weights, point by point: which segment a point reads, and what it stores. -/
module

public import proofs.«01_k».proof.Proof.Prod
public import proofs.«01_k».proof.Proof.Gen.GradInIdeal.Value
public import proofs.«01_k».proof.Proof.Read

@[expose] public section

set_option maxRecDepth 16384

noncomputable section

namespace Cert.InGrad

open Idealize.ShloMosaic Idealize.ShloMosaic.TcCoe Cert.GradInIdeal Gen
open scoped BigOperators

/-- The body's product. -/
theorem pay_apply (x : FVec Ideal S4352x1024 .bf16) (y : FVec Ideal S4352x256 .bf16) (a : Fin 1024) (b : Fin 256) :
    k0_pay1 (F := Ideal) x y (ValueIdx.ix2 a b) = Prod.tn x y a b := by
  have e : k0_pay1 (F := Ideal) x y (ValueIdx.ix2 a b) = (0 : EReal) + ∑ k : Fin 4352, x (ValueIdx.ix2 k a) * y (ValueIdx.ix2 k b) := by
    unfold k0_pay1
    pointwise
    first | rfl | simp
  rw [e, zero_add]; rfl

section

variable (c : Dev nD) (i : grid0.Coords) (arg2 : Memref sig .tc .vmem S4352x1024 .bf16) (w2 : arg2.IsWhole) (arg3 : Memref sig .tc .vmem S4352x256 .bf16) (w3 : arg3.IsWhole) (arg4 : Memref sig .tc .vmem S4352x256 .bf16) (w4 : arg4.IsWhole) (arg5 : Memref sig .tc .vmem S4352x256 .bf16) (w5 : arg5.IsWhole) (arg6 : Memref sig .tc .vmem S4352x256 .bf16) (w6 : arg6.IsWhole) (arg7 : Memref sig .tc .vmem S4352x256 .bf16) (w7 : arg7.IsWhole) (arg8 : Memref sig .tc .vmem S4352x256 .bf16) (w8 : arg8.IsWhole) (arg9 : Memref sig .tc .vmem S4352x256 .bf16) (w9 : arg9.IsWhole) (arg10 : Memref sig .tc .vmem S1024x256 .f32) (w10 : arg10.IsWhole)
  (x0 : Vec Ideal S4352x1024 .bf16) (x1 x2 x3 x4 x5 x6 x7 : Vec Ideal S4352x256 .bf16)

theorem out_A (hc0 : cond0_0 i) (hc1 : ¬cond0_1 i) (hc2 : ¬cond0_2 i) (hc3 : ¬cond0_3 i) (hc4 : ¬cond0_4 i) (hc5 : ¬cond0_5 i) (hc6 : ¬cond0_6 i) :
    out0_A_8 c i _ w2 _ w3 _ w4 _ w5 _ w6 _ w7 _ w8 _ w9 _ w10 hc0 hc1 hc2 hc3 hc4 hc5 hc6 x0 x1 x2 x3 x4 x5 x6 x7 = k0_pay1 x0 x1 := by
  unfold out0_A_8 kernelRun0_A
  dsimp only
  refine (View.read_writes_full _ _ _ _ []).trans ?_
  exact congrArg₂ (fun a b => k0_pay1 (F := Ideal) a b) (rdw w2 x0) (rdw w3 x1)

theorem out_B (hc0 : ¬cond0_0 i) (hc1 : cond0_1 i) (hc2 : ¬cond0_2 i) (hc3 : ¬cond0_3 i) (hc4 : ¬cond0_4 i) (hc5 : ¬cond0_5 i) (hc6 : ¬cond0_6 i) :
    out0_B_8 c i _ w2 _ w3 _ w4 _ w5 _ w6 _ w7 _ w8 _ w9 _ w10 hc0 hc1 hc2 hc3 hc4 hc5 hc6 x0 x1 x2 x3 x4 x5 x6 x7 = k0_pay1 x0 x2 := by
  unfold out0_B_8 kernelRun0_B
  dsimp only
  refine (View.read_writes_full _ _ _ _ []).trans ?_
  exact congrArg₂ (fun a b => k0_pay1 (F := Ideal) a b) (rdw w2 x0) (rdw w4 x2)

theorem out_C (hc0 : ¬cond0_0 i) (hc1 : ¬cond0_1 i) (hc2 : cond0_2 i) (hc3 : ¬cond0_3 i) (hc4 : ¬cond0_4 i) (hc5 : ¬cond0_5 i) (hc6 : ¬cond0_6 i) :
    out0_C_8 c i _ w2 _ w3 _ w4 _ w5 _ w6 _ w7 _ w8 _ w9 _ w10 hc0 hc1 hc2 hc3 hc4 hc5 hc6 x0 x1 x2 x3 x4 x5 x6 x7 = k0_pay1 x0 x3 := by
  unfold out0_C_8 kernelRun0_C
  dsimp only
  refine (View.read_writes_full _ _ _ _ []).trans ?_
  exact congrArg₂ (fun a b => k0_pay1 (F := Ideal) a b) (rdw w2 x0) (rdw w5 x3)

theorem out_D (hc0 : ¬cond0_0 i) (hc1 : ¬cond0_1 i) (hc2 : ¬cond0_2 i) (hc3 : cond0_3 i) (hc4 : ¬cond0_4 i) (hc5 : ¬cond0_5 i) (hc6 : ¬cond0_6 i) :
    out0_D_8 c i _ w2 _ w3 _ w4 _ w5 _ w6 _ w7 _ w8 _ w9 _ w10 hc0 hc1 hc2 hc3 hc4 hc5 hc6 x0 x1 x2 x3 x4 x5 x6 x7 = k0_pay1 x0 x4 := by
  unfold out0_D_8 kernelRun0_D
  dsimp only
  refine (View.read_writes_full _ _ _ _ []).trans ?_
  exact congrArg₂ (fun a b => k0_pay1 (F := Ideal) a b) (rdw w2 x0) (rdw w6 x4)

theorem out_E (hc0 : ¬cond0_0 i) (hc1 : ¬cond0_1 i) (hc2 : ¬cond0_2 i) (hc3 : ¬cond0_3 i) (hc4 : cond0_4 i) (hc5 : ¬cond0_5 i) (hc6 : ¬cond0_6 i) :
    out0_E_8 c i _ w2 _ w3 _ w4 _ w5 _ w6 _ w7 _ w8 _ w9 _ w10 hc0 hc1 hc2 hc3 hc4 hc5 hc6 x0 x1 x2 x3 x4 x5 x6 x7 = k0_pay1 x0 x5 := by
  unfold out0_E_8 kernelRun0_E
  dsimp only
  refine (View.read_writes_full _ _ _ _ []).trans ?_
  exact congrArg₂ (fun a b => k0_pay1 (F := Ideal) a b) (rdw w2 x0) (rdw w7 x5)

theorem out_F (hc0 : ¬cond0_0 i) (hc1 : ¬cond0_1 i) (hc2 : ¬cond0_2 i) (hc3 : ¬cond0_3 i) (hc4 : ¬cond0_4 i) (hc5 : cond0_5 i) (hc6 : ¬cond0_6 i) :
    out0_F_8 c i _ w2 _ w3 _ w4 _ w5 _ w6 _ w7 _ w8 _ w9 _ w10 hc0 hc1 hc2 hc3 hc4 hc5 hc6 x0 x1 x2 x3 x4 x5 x6 x7 = k0_pay1 x0 x6 := by
  unfold out0_F_8 kernelRun0_F
  dsimp only
  refine (View.read_writes_full _ _ _ _ []).trans ?_
  exact congrArg₂ (fun a b => k0_pay1 (F := Ideal) a b) (rdw w2 x0) (rdw w8 x6)

theorem out_G (hc0 : ¬cond0_0 i) (hc1 : ¬cond0_1 i) (hc2 : ¬cond0_2 i) (hc3 : ¬cond0_3 i) (hc4 : ¬cond0_4 i) (hc5 : ¬cond0_5 i) (hc6 : cond0_6 i) :
    out0_G_8 c i _ w2 _ w3 _ w4 _ w5 _ w6 _ w7 _ w8 _ w9 _ w10 hc0 hc1 hc2 hc3 hc4 hc5 hc6 x0 x1 x2 x3 x4 x5 x6 x7 = k0_pay1 x0 x7 := by
  unfold out0_G_8 kernelRun0_G
  dsimp only
  refine (View.read_writes_full _ _ _ _ []).trans ?_
  exact congrArg₂ (fun a b => k0_pay1 (F := Ideal) a b) (rdw w2 x0) (rdw w9 x7)

end

end Cert.InGrad

end
-- ==== Proof.InGradKernel.lean ====
/- The gradient of the input projection's weights: the kernel's result at an index, segment by segment. -/
module

public import proofs.«01_k».proof.Proof.InGradPoint

@[expose] public section

set_option maxRecDepth 16384

noncomputable section

namespace Cert.InGrad

open Idealize.ShloMosaic Idealize.ShloMosaic.TcCoe Cert.GradInIdeal Gen
open scoped BigOperators

/-- Where a point's blocks lie. -/
theorem place0 : ∀ t : Fin cfg0.N, win0_0.index t (0 : Fin 2) = 0 ∧ win0_0.index t (1 : Fin 2) = 0 := (by decide +kernel : ∀ t : Fin grid0.N, _)
theorem place8 : ∀ t : Fin cfg0.N, win0_8.index t (0 : Fin 2) = 0 ∧ win0_8.index t (1 : Fin 2) = t.val := (by decide +kernel : ∀ t : Fin grid0.N, _)
theorem flush8 : ∀ t : Fin cfg0.N, win0_8.flush t = true := (by decide +kernel : ∀ t : Fin grid0.N, _)

variable (m : (ℓ : Loc nD τ sig) → Buf (Elt Ideal) ℓ) (c : Dev nD)

theorem read0 (A : (⟨S4352x1024, .bf16⟩ : BufTy).Contents (Elt Ideal)) (t : Fin cfg0.N) (y : S4352x1024.Idx) :
    ((cfg0.win 0).blk t).view.read (Elt Ideal) A y = A (((cfg0.win 0).blk t).view.emb y) := rfl
theorem read8 (A : (⟨S1024x8192, .f32⟩ : BufTy).Contents (Elt Ideal)) (t : Fin cfg0.N) (y : S1024x256.Idx) :
    ((cfg0.win 8).blk t).view.read (Elt Ideal) A y = A (((cfg0.win 8).blk t).view.emb y) := rfl
theorem cut8 (t : Fin cfg0.N) (A : Vec Ideal S1024x256 .f32) (y : S1024x256.Idx) :
    (cfg0.win 8).cut (grid0.coords t) A y = A y := rfl

theorem blk0 (t : Fin cfg0.N) (k : Fin 4352) (a : Fin 1024) :
    iblk m c 0 t (ValueIdx.ix2 k a) = m ((c.tc : Thread nD τ).loc main_arg0) (ValueIdx.ix2 k a) := by
  obtain ⟨e0, e1⟩ := place0 t
  have b0 : (((cfg0.win 0).blk t).view.emb (ValueIdx.ix2 k a) 0).val = win0_0.index t (0 : Fin 2) * 4352 + 1 * k.val := rfl
  have b1 : (((cfg0.win 0).blk t).view.emb (ValueIdx.ix2 k a) 1).val = win0_0.index t (1 : Fin 2) * 1024 + 1 * a.val := rfl
  unfold iblk
  refine (read0 _ t _).trans (congrArg _ (Prod.eq_pair _ _ _ ?_ ?_))
  · rw [b0, e0]; omega
  · rw [b1, e1]; omega

/-- An entry of the result is the entry of the block that covers it. -/
theorem result (t : Fin cfg0.N) (r : Fin 1024) (g : Fin 8192) (b : Fin 256) (hg : g.val = t.val * 256 + b.val) :
    (dats m 0 c).arrAt 8 cfg0.N (ValueIdx.ix2 r g) = (dats m 0 c).flushed 8 t (ValueIdx.ix2 r b) := by
  obtain ⟨e0, e1⟩ := place8 t
  have b0 : (((cfg0.win 8).blk t).view.emb (ValueIdx.ix2 r b) 0).val = win0_8.index t (0 : Fin 2) * 1024 + 1 * r.val := rfl
  have b1 : (((cfg0.win 8).blk t).view.emb (ValueIdx.ix2 r b) 1).val = win0_8.index t (1 : Fin 2) * 256 + 1 * b.val := rfl
  have hi := Prod.eq_pair (((cfg0.win 8).blk t).view.emb (ValueIdx.ix2 r b)) r g (by rw [b0, e0]; omega) (by rw [b1, e1]; omega)
  have hw := congrFun (Value.blocks8 m c t (flush8 t)) (ValueIdx.ix2 r b)
  exact (congrArg _ hi).symm.trans ((read8 _ t _).symm.trans hw)

/-! Segment 1 -/

theorem place1 : ∀ t : Fin cfg0.N, 0 ≤ t.val → t.val < 4 → win0_1.index t (0 : Fin 2) = 0 ∧ win0_1.index t (1 : Fin 2) = t.val - 0 := (by decide +kernel : ∀ t : Fin grid0.N, _)

theorem read1 (A : (⟨S4352x1024, .bf16⟩ : BufTy).Contents (Elt Ideal)) (t : Fin cfg0.N) (y : S4352x256.Idx) :
    ((cfg0.win 1).blk t).view.read (Elt Ideal) A y = A (((cfg0.win 1).blk t).view.emb y) := rfl

theorem blk1 (t : Fin cfg0.N) (h0 : 0 ≤ t.val) (h1 : t.val < 4) (k : Fin 4352) (b : Fin 256) (l : Fin 1024) (hl : l.val = (t.val - 0) * 256 + b.val) :
    iblk m c 1 t (ValueIdx.ix2 k b) = m ((c.tc : Thread nD τ).loc main_arg1) (ValueIdx.ix2 k l) := by
  obtain ⟨e0, e1⟩ := place1 t h0 h1
  have b0 : (((cfg0.win 1).blk t).view.emb (ValueIdx.ix2 k b) 0).val = win0_1.index t (0 : Fin 2) * 4352 + 1 * k.val := rfl
  have b1 : (((cfg0.win 1).blk t).view.emb (ValueIdx.ix2 k b) 1).val = win0_1.index t (1 : Fin 2) * 256 + 1 * b.val := rfl
  unfold iblk
  refine (read1 _ t _).trans (congrArg _ (Prod.eq_pair _ _ _ ?_ ?_))
  · rw [b0, e0]; omega
  · rw [b1, e1]; omega

theorem kernel1 (r : Fin 1024) (l : Fin 1024) (g : Fin 8192) (hg : g.val = 0 + l.val) :
    (dats m 0 c).arrAt 8 cfg0.N (ValueIdx.ix2 r g) = Prod.tn (m ((c.tc : Thread nD τ).loc main_arg0)) (m ((c.tc : Thread nD τ).loc main_arg1)) r l := by
  have hN : cfg0.N = 32 := N_0
  obtain ⟨t, ht⟩ : ∃ t : Fin cfg0.N, t.val = 0 + l.val / 256 := ⟨⟨0 + l.val / 256, by omega⟩, rfl⟩
  obtain ⟨b, hb⟩ : ∃ b : Fin 256, b.val = l.val % 256 := ⟨⟨l.val % 256, by omega⟩, rfl⟩
  have hl := l.isLt
  rw [result m c t r g b (by omega), Value.flushed8_A m c t (by omega) (by omega) (by omega) (by omega) (by omega) (by omega) (by omega), out_A]
  refine (cut8 t _ _).trans ((pay_apply _ _ _ _).trans (Finset.sum_congr rfl fun k _ => ?_))
  exact congrArg₂ (fun a b : EReal => a * b) (blk0 m c t k r) (blk1 m c t (by omega) (by omega) k b l (by omega))

/-! Segment 2 -/

theorem place2 : ∀ t : Fin cfg0.N, 4 ≤ t.val → t.val < 8 → win0_2.index t (0 : Fin 2) = 0 ∧ win0_2.index t (1 : Fin 2) = t.val - 4 := (by decide +kernel : ∀ t : Fin grid0.N, _)

theorem read2 (A : (⟨S4352x1024, .bf16⟩ : BufTy).Contents (Elt Ideal)) (t : Fin cfg0.N) (y : S4352x256.Idx) :
    ((cfg0.win 2).blk t).view.read (Elt Ideal) A y = A (((cfg0.win 2).blk t).view.emb y) := rfl

theorem blk2 (t : Fin cfg0.N) (h0 : 4 ≤ t.val) (h1 : t.val < 8) (k : Fin 4352) (b : Fin 256) (l : Fin 1024) (hl : l.val = (t.val - 4) * 256 + b.val) :
    iblk m c 2 t (ValueIdx.ix2 k b) = m ((c.tc : Thread nD τ).loc main_arg2) (ValueIdx.ix2 k l) := by
  obtain ⟨e0, e1⟩ := place2 t h0 h1
  have b0 : (((cfg0.win 2).blk t).view.emb (ValueIdx.ix2 k b) 0).val = win0_2.index t (0 : Fin 2) * 4352 + 1 * k.val := rfl
  have b1 : (((cfg0.win 2).blk t).view.emb (ValueIdx.ix2 k b) 1).val = win0_2.index t (1 : Fin 2) * 256 + 1 * b.val := rfl
  unfold iblk
  refine (read2 _ t _).trans (congrArg _ (Prod.eq_pair _ _ _ ?_ ?_))
  · rw [b0, e0]; omega
  · rw [b1, e1]; omega

theorem kernel2 (r : Fin 1024) (l : Fin 1024) (g : Fin 8192) (hg : g.val = 1024 + l.val) :
    (dats m 0 c).arrAt 8 cfg0.N (ValueIdx.ix2 r g) = Prod.tn (m ((c.tc : Thread nD τ).loc main_arg0)) (m ((c.tc : Thread nD τ).loc main_arg2)) r l := by
  have hN : cfg0.N = 32 := N_0
  obtain ⟨t, ht⟩ : ∃ t : Fin cfg0.N, t.val = 4 + l.val / 256 := ⟨⟨4 + l.val / 256, by omega⟩, rfl⟩
  obtain ⟨b, hb⟩ : ∃ b : Fin 256, b.val = l.val % 256 := ⟨⟨l.val % 256, by omega⟩, rfl⟩
  have hl := l.isLt
  rw [result m c t r g b (by omega), Value.flushed8_B m c t (by omega) (by omega) (by omega) (by omega) (by omega) (by omega) (by omega), out_B]
  refine (cut8 t _ _).trans ((pay_apply _ _ _ _).trans (Finset.sum_congr rfl fun k _ => ?_))
  exact congrArg₂ (fun a b : EReal => a * b) (blk0 m c t k r) (blk2 m c t (by omega) (by omega) k b l (by omega))

/-! Segment 3 -/

theorem place3 : ∀ t : Fin cfg0.N, 8 ≤ t.val → t.val < 12 → win0_3.index t (0 : Fin 2) = 0 ∧ win0_3.index t (1 : Fin 2) = t.val - 8 := (by decide +kernel : ∀ t : Fin grid0.N, _)

theorem read3 (A : (⟨S4352x1024, .bf16⟩ : BufTy).Contents (Elt Ideal)) (t : Fin cfg0.N) (y : S4352x256.Idx) :
    ((cfg0.win 3).blk t).view.read (Elt Ideal) A y = A (((cfg0.win 3).blk t).view.emb y) := rfl

theorem blk3 (t : Fin cfg0.N) (h0 : 8 ≤ t.val) (h1 : t.val < 12) (k : Fin 4352) (b : Fin 256) (l : Fin 1024) (hl : l.val = (t.val - 8) * 256 + b.val) :
    iblk m c 3 t (ValueIdx.ix2 k b) = m ((c.tc : Thread nD τ).loc main_arg3) (ValueIdx.ix2 k l) := by
  obtain ⟨e0, e1⟩ := place3 t h0 h1
  have b0 : (((cfg0.win 3).blk t).view.emb (ValueIdx.ix2 k b) 0).val = win0_3.index t (0 : Fin 2) * 4352 + 1 * k.val := rfl
  have b1 : (((cfg0.win 3).blk t).view.emb (ValueIdx.ix2 k b) 1).val = win0_3.index t (1 : Fin 2) * 256 + 1 * b.val := rfl
  unfold iblk
  refine (read3 _ t _).trans (congrArg _ (Prod.eq_pair _ _ _ ?_ ?_))
  · rw [b0, e0]; omega
  · rw [b1, e1]; omega

theorem kernel3 (r : Fin 1024) (l : Fin 1024) (g : Fin 8192) (hg : g.val = 2048 + l.val) :
    (dats m 0 c).arrAt 8 cfg0.N (ValueIdx.ix2 r g) = Prod.tn (m ((c.tc : Thread nD τ).loc main_arg0)) (m ((c.tc : Thread nD τ).loc main_arg3)) r l := by
  have hN : cfg0.N = 32 := N_0
  obtain ⟨t, ht⟩ : ∃ t : Fin cfg0.N, t.val = 8 + l.val / 256 := ⟨⟨8 + l.val / 256, by omega⟩, rfl⟩
  obtain ⟨b, hb⟩ : ∃ b : Fin 256, b.val = l.val % 256 := ⟨⟨l.val % 256, by omega⟩, rfl⟩
  have hl := l.isLt
  rw [result m c t r g b (by omega), Value.flushed8_C m c t (by omega) (by omega) (by omega) (by omega) (by omega) (by omega) (by omega), out_C]
  refine (cut8 t _ _).trans ((pay_apply _ _ _ _).trans (Finset.sum_congr rfl fun k _ => ?_))
  exact congrArg₂ (fun a b : EReal => a * b) (blk0 m c t k r) (blk3 m c t (by omega) (by omega) k b l (by omega))

/-! Segment 4 -/

theorem place4 : ∀ t : Fin cfg0.N, 12 ≤ t.val → t.val < 16 → win0_4.index t (0 : Fin 2) = 0 ∧ win0_4.index t (1 : Fin 2) = t.val - 12 := (by decide +kernel : ∀ t : Fin grid0.N, _)

theorem read4 (A : (⟨S4352x1024, .bf16⟩ : BufTy).Contents (Elt Ideal)) (t : Fin cfg0.N) (y : S4352x256.Idx) :
    ((cfg0.win 4).blk t).view.read (Elt Ideal) A y = A (((cfg0.win 4).blk t).view.emb y) := rfl

theorem blk4 (t : Fin cfg0.N) (h0 : 12 ≤ t.val) (h1 : t.val < 16) (k : Fin 4352) (b : Fin 256) (l : Fin 1024) (hl : l.val = (t.val - 12) * 256 + b.val) :
    iblk m c 4 t (ValueIdx.ix2 k b) = m ((c.tc : Thread nD τ).loc main_arg4) (ValueIdx.ix2 k l) := by
  obtain ⟨e0, e1⟩ := place4 t h0 h1
  have b0 : (((cfg0.win 4).blk t).view.emb (ValueIdx.ix2 k b) 0).val = win0_4.index t (0 : Fin 2) * 4352 + 1 * k.val := rfl
  have b1 : (((cfg0.win 4).blk t).view.emb (ValueIdx.ix2 k b) 1).val = win0_4.index t (1 : Fin 2) * 256 + 1 * b.val := rfl
  unfold iblk
  refine (read4 _ t _).trans (congrArg _ (Prod.eq_pair _ _ _ ?_ ?_))
  · rw [b0, e0]; omega
  · rw [b1, e1]; omega

theorem kernel4 (r : Fin 1024) (l : Fin 1024) (g : Fin 8192) (hg : g.val = 3072 + l.val) :
    (dats m 0 c).arrAt 8 cfg0.N (ValueIdx.ix2 r g) = Prod.tn (m ((c.tc : Thread nD τ).loc main_arg0)) (m ((c.tc : Thread nD τ).loc main_arg4)) r l := by
  have hN : cfg0.N = 32 := N_0
  obtain ⟨t, ht⟩ : ∃ t : Fin cfg0.N, t.val = 12 + l.val / 256 := ⟨⟨12 + l.val / 256, by omega⟩, rfl⟩
  obtain ⟨b, hb⟩ : ∃ b : Fin 256, b.val = l.val % 256 := ⟨⟨l.val % 256, by omega⟩, rfl⟩
  have hl := l.isLt
  rw [result m c t r g b (by omega), Value.flushed8_D m c t (by omega) (by omega) (by omega) (by omega) (by omega) (by omega) (by omega), out_D]
  refine (cut8 t _ _).trans ((pay_apply _ _ _ _).trans (Finset.sum_congr rfl fun k _ => ?_))
  exact congrArg₂ (fun a b : EReal => a * b) (blk0 m c t k r) (blk4 m c t (by omega) (by omega) k b l (by omega))

/-! Segment 5 -/

theorem place5 : ∀ t : Fin cfg0.N, 16 ≤ t.val → t.val < 20 → win0_5.index t (0 : Fin 2) = 0 ∧ win0_5.index t (1 : Fin 2) = t.val - 16 := (by decide +kernel : ∀ t : Fin grid0.N, _)

theorem read5 (A : (⟨S4352x1024, .bf16⟩ : BufTy).Contents (Elt Ideal)) (t : Fin cfg0.N) (y : S4352x256.Idx) :
    ((cfg0.win 5).blk t).view.read (Elt Ideal) A y = A (((cfg0.win 5).blk t).view.emb y) := rfl

theorem blk5 (t : Fin cfg0.N) (h0 : 16 ≤ t.val) (h1 : t.val < 20) (k : Fin 4352) (b : Fin 256) (l : Fin 1024) (hl : l.val = (t.val - 16) * 256 + b.val) :
    iblk m c 5 t (ValueIdx.ix2 k b) = m ((c.tc : Thread nD τ).loc main_arg5) (ValueIdx.ix2 k l) := by
  obtain ⟨e0, e1⟩ := place5 t h0 h1
  have b0 : (((cfg0.win 5).blk t).view.emb (ValueIdx.ix2 k b) 0).val = win0_5.index t (0 : Fin 2) * 4352 + 1 * k.val := rfl
  have b1 : (((cfg0.win 5).blk t).view.emb (ValueIdx.ix2 k b) 1).val = win0_5.index t (1 : Fin 2) * 256 + 1 * b.val := rfl
  unfold iblk
  refine (read5 _ t _).trans (congrArg _ (Prod.eq_pair _ _ _ ?_ ?_))
  · rw [b0, e0]; omega
  · rw [b1, e1]; omega

theorem kernel5 (r : Fin 1024) (l : Fin 1024) (g : Fin 8192) (hg : g.val = 4096 + l.val) :
    (dats m 0 c).arrAt 8 cfg0.N (ValueIdx.ix2 r g) = Prod.tn (m ((c.tc : Thread nD τ).loc main_arg0)) (m ((c.tc : Thread nD τ).loc main_arg5)) r l := by
  have hN : cfg0.N = 32 := N_0
  obtain ⟨t, ht⟩ : ∃ t : Fin cfg0.N, t.val = 16 + l.val / 256 := ⟨⟨16 + l.val / 256, by omega⟩, rfl⟩
  obtain ⟨b, hb⟩ : ∃ b : Fin 256, b.val = l.val % 256 := ⟨⟨l.val % 256, by omega⟩, rfl⟩
  have hl := l.isLt
  rw [result m c t r g b (by omega), Value.flushed8_E m c t (by omega) (by omega) (by omega) (by omega) (by omega) (by omega) (by omega), out_E]
  refine (cut8 t _ _).trans ((pay_apply _ _ _ _).trans (Finset.sum_congr rfl fun k _ => ?_))
  exact congrArg₂ (fun a b : EReal => a * b) (blk0 m c t k r) (blk5 m c t (by omega) (by omega) k b l (by omega))

/-! Segment 6 -/

theorem place6 : ∀ t : Fin cfg0.N, 20 ≤ t.val → t.val < 24 → win0_6.index t (0 : Fin 2) = 0 ∧ win0_6.index t (1 : Fin 2) = t.val - 20 := (by decide +kernel : ∀ t : Fin grid0.N, _)

theorem read6 (A : (⟨S4352x1024, .bf16⟩ : BufTy).Contents (Elt Ideal)) (t : Fin cfg0.N) (y : S4352x256.Idx) :
    ((cfg0.win 6).blk t).view.read (Elt Ideal) A y = A (((cfg0.win 6).blk t).view.emb y) := rfl

theorem blk6 (t : Fin cfg0.N) (h0 : 20 ≤ t.val) (h1 : t.val < 24) (k : Fin 4352) (b : Fin 256) (l : Fin 1024) (hl : l.val = (t.val - 20) * 256 + b.val) :
    iblk m c 6 t (ValueIdx.ix2 k b) = m ((c.tc : Thread nD τ).loc main_arg6) (ValueIdx.ix2 k l) := by
  obtain ⟨e0, e1⟩ := place6 t h0 h1
  have b0 : (((cfg0.win 6).blk t).view.emb (ValueIdx.ix2 k b) 0).val = win0_6.index t (0 : Fin 2) * 4352 + 1 * k.val := rfl
  have b1 : (((cfg0.win 6).blk t).view.emb (ValueIdx.ix2 k b) 1).val = win0_6.index t (1 : Fin 2) * 256 + 1 * b.val := rfl
  unfold iblk
  refine (read6 _ t _).trans (congrArg _ (Prod.eq_pair _ _ _ ?_ ?_))
  · rw [b0, e0]; omega
  · rw [b1, e1]; omega

theorem kernel6 (r : Fin 1024) (l : Fin 1024) (g : Fin 8192) (hg : g.val = 5120 + l.val) :
    (dats m 0 c).arrAt 8 cfg0.N (ValueIdx.ix2 r g) = Prod.tn (m ((c.tc : Thread nD τ).loc main_arg0)) (m ((c.tc : Thread nD τ).loc main_arg6)) r l := by
  have hN : cfg0.N = 32 := N_0
  obtain ⟨t, ht⟩ : ∃ t : Fin cfg0.N, t.val = 20 + l.val / 256 := ⟨⟨20 + l.val / 256, by omega⟩, rfl⟩
  obtain ⟨b, hb⟩ : ∃ b : Fin 256, b.val = l.val % 256 := ⟨⟨l.val % 256, by omega⟩, rfl⟩
  have hl := l.isLt
  rw [result m c t r g b (by omega), Value.flushed8_F m c t (by omega) (by omega) (by omega) (by omega) (by omega) (by omega) (by omega), out_F]
  refine (cut8 t _ _).trans ((pay_apply _ _ _ _).trans (Finset.sum_congr rfl fun k _ => ?_))
  exact congrArg₂ (fun a b : EReal => a * b) (blk0 m c t k r) (blk6 m c t (by omega) (by omega) k b l (by omega))

/-! Segment 7 -/

theorem place7 : ∀ t : Fin cfg0.N, 24 ≤ t.val → t.val < 32 → win0_7.index t (0 : Fin 2) = 0 ∧ win0_7.index t (1 : Fin 2) = t.val - 24 := (by decide +kernel : ∀ t : Fin grid0.N, _)

theorem read7 (A : (⟨S4352x2048, .bf16⟩ : BufTy).Contents (Elt Ideal)) (t : Fin cfg0.N) (y : S4352x256.Idx) :
    ((cfg0.win 7).blk t).view.read (Elt Ideal) A y = A (((cfg0.win 7).blk t).view.emb y) := rfl

theorem blk7 (t : Fin cfg0.N) (h0 : 24 ≤ t.val) (h1 : t.val < 32) (k : Fin 4352) (b : Fin 256) (l : Fin 2048) (hl : l.val = (t.val - 24) * 256 + b.val) :
    iblk m c 7 t (ValueIdx.ix2 k b) = m ((c.tc : Thread nD τ).loc main_arg7) (ValueIdx.ix2 k l) := by
  obtain ⟨e0, e1⟩ := place7 t h0 h1
  have b0 : (((cfg0.win 7).blk t).view.emb (ValueIdx.ix2 k b) 0).val = win0_7.index t (0 : Fin 2) * 4352 + 1 * k.val := rfl
  have b1 : (((cfg0.win 7).blk t).view.emb (ValueIdx.ix2 k b) 1).val = win0_7.index t (1 : Fin 2) * 256 + 1 * b.val := rfl
  unfold iblk
  refine (read7 _ t _).trans (congrArg _ (Prod.eq_pair _ _ _ ?_ ?_))
  · rw [b0, e0]; omega
  · rw [b1, e1]; omega

theorem kernel7 (r : Fin 1024) (l : Fin 2048) (g : Fin 8192) (hg : g.val = 6144 + l.val) :
    (dats m 0 c).arrAt 8 cfg0.N (ValueIdx.ix2 r g) = Prod.tn (m ((c.tc : Thread nD τ).loc main_arg0)) (m ((c.tc : Thread nD τ).loc main_arg7)) r l := by
  have hN : cfg0.N = 32 := N_0
  obtain ⟨t, ht⟩ : ∃ t : Fin cfg0.N, t.val = 24 + l.val / 256 := ⟨⟨24 + l.val / 256, by omega⟩, rfl⟩
  obtain ⟨b, hb⟩ : ∃ b : Fin 256, b.val = l.val % 256 := ⟨⟨l.val % 256, by omega⟩, rfl⟩
  have hl := l.isLt
  rw [result m c t r g b (by omega), Value.flushed8_G m c t (by omega) (by omega) (by omega) (by omega) (by omega) (by omega) (by omega), out_G]
  refine (cut8 t _ _).trans ((pay_apply _ _ _ _).trans (Finset.sum_congr rfl fun k _ => ?_))
  exact congrArg₂ (fun a b : EReal => a * b) (blk0 m c t k r) (blk7 m c t (by omega) (by omega) k b l (by omega))

end Cert.InGrad

end
-- ==== Proof.InGrad.lean ====
/- The gradient of the input projection's weights: the kernel's result is the reference's. -/
module

public import proofs.«01_k».proof.Proof.InGradKernel
public import proofs.«01_k».proof.Proof.Gen.GradInRefIdeal.Read

@[expose] public section

set_option maxRecDepth 16384

noncomputable section

namespace Cert.InGrad

open Idealize.ShloMosaic Idealize.ShloMosaic.TcCoe
open scoped BigOperators

section
open Cert.GradInRefIdeal Cert.GradInRefIdeal.Read
variable (x0 x1 x2 x3 x4 x5 x6 : (⟨S4352x1024, .bf16⟩ : BufTy).Contents (Elt Ideal)) (x7 : (⟨S4352x2048, .bf16⟩ : BufTy).Contents (Elt Ideal))

/-- The reference's result as a product with the joined segments. -/
theorem reference_joined (r : Fin 1024) (g : Fin 8192) :
    val_main_v6 (F := Ideal) x0 x1 x2 x3 x4 x5 x6 x7 (ValueIdx.ix2 r g)
      = ∑ k : Fin 4352, (x0 (ValueIdx.ix2 k r) : EReal) * val_main_v0 (F := Ideal) x1 x2 x3 x4 x5 x6 x7 (ValueIdx.ix2 k g) := by
  rw [val_main_v6_apply]
  refine (val_main_v5_apply x0 x1 x2 x3 x4 x5 x6 x7 _).trans (Finset.sum_congr rfl fun k _ => (mul_comm _ _).trans ?_)
  rw [val_main_v1_apply, val_main_v2_apply]
  exact congrArg₂ (fun a b : EReal => a * b) (congrArg x0 (Prod.eq_pair _ _ _ rfl rfl)) (congrArg (val_main_v0 (F := Ideal) x1 x2 x3 x4 x5 x6 x7) (Prod.eq_pair _ _ _ rfl rfl))

theorem seg1 (k : Fin 4352) (l : Fin 1024) (g : Fin 8192) (hg : g.val = 0 + l.val) :
    val_main_v0 (F := Ideal) x1 x2 x3 x4 x5 x6 x7 (ValueIdx.ix2 k g) = x1 (ValueIdx.ix2 k l) := by
  unfold val_main_v0
  refine concatenate_apply_piece (t := S4352x8192) 1 _ _ (ValueIdx.ix2 k g) 0 (by show 0 < 7; omega) S4352x1024 x1 rfl rfl 0 rfl (ValueIdx.ix2 k l) (fun b hb => ?_) hg.symm
  match b with
  | ⟨0, _⟩ => rfl
  | ⟨1, _⟩ => exact absurd rfl hb

theorem reference1 (r : Fin 1024) (l : Fin 1024) (g : Fin 8192) (hg : g.val = 0 + l.val) :
    val_main_v6 (F := Ideal) x0 x1 x2 x3 x4 x5 x6 x7 (ValueIdx.ix2 r g) = Prod.tn x0 x1 r l :=
  (reference_joined x0 x1 x2 x3 x4 x5 x6 x7 r g).trans (Finset.sum_congr rfl fun k _ => congrArg (fun b : EReal => (x0 (ValueIdx.ix2 k r) : EReal) * b) (seg1 x1 x2 x3 x4 x5 x6 x7 k l g hg))

theorem seg2 (k : Fin 4352) (l : Fin 1024) (g : Fin 8192) (hg : g.val = 1024 + l.val) :
    val_main_v0 (F := Ideal) x1 x2 x3 x4 x5 x6 x7 (ValueIdx.ix2 k g) = x2 (ValueIdx.ix2 k l) := by
  unfold val_main_v0
  refine concatenate_apply_piece (t := S4352x8192) 1 _ _ (ValueIdx.ix2 k g) 1 (by show 1 < 7; omega) S4352x1024 x2 rfl rfl 1024 rfl (ValueIdx.ix2 k l) (fun b hb => ?_) hg.symm
  match b with
  | ⟨0, _⟩ => rfl
  | ⟨1, _⟩ => exact absurd rfl hb

theorem reference2 (r : Fin 1024) (l : Fin 1024) (g : Fin 8192) (hg : g.val = 1024 + l.val) :
    val_main_v6 (F := Ideal) x0 x1 x2 x3 x4 x5 x6 x7 (ValueIdx.ix2 r g) = Prod.tn x0 x2 r l :=
  (reference_joined x0 x1 x2 x3 x4 x5 x6 x7 r g).trans (Finset.sum_congr rfl fun k _ => congrArg (fun b : EReal => (x0 (ValueIdx.ix2 k r) : EReal) * b) (seg2 x1 x2 x3 x4 x5 x6 x7 k l g hg))

theorem seg3 (k : Fin 4352) (l : Fin 1024) (g : Fin 8192) (hg : g.val = 2048 + l.val) :
    val_main_v0 (F := Ideal) x1 x2 x3 x4 x5 x6 x7 (ValueIdx.ix2 k g) = x3 (ValueIdx.ix2 k l) := by
  unfold val_main_v0
  refine concatenate_apply_piece (t := S4352x8192) 1 _ _ (ValueIdx.ix2 k g) 2 (by show 2 < 7; omega) S4352x1024 x3 rfl rfl 2048 rfl (ValueIdx.ix2 k l) (fun b hb => ?_) hg.symm
  match b with
  | ⟨0, _⟩ => rfl
  | ⟨1, _⟩ => exact absurd rfl hb

theorem reference3 (r : Fin 1024) (l : Fin 1024) (g : Fin 8192) (hg : g.val = 2048 + l.val) :
    val_main_v6 (F := Ideal) x0 x1 x2 x3 x4 x5 x6 x7 (ValueIdx.ix2 r g) = Prod.tn x0 x3 r l :=
  (reference_joined x0 x1 x2 x3 x4 x5 x6 x7 r g).trans (Finset.sum_congr rfl fun k _ => congrArg (fun b : EReal => (x0 (ValueIdx.ix2 k r) : EReal) * b) (seg3 x1 x2 x3 x4 x5 x6 x7 k l g hg))

theorem seg4 (k : Fin 4352) (l : Fin 1024) (g : Fin 8192) (hg : g.val = 3072 + l.val) :
    val_main_v0 (F := Ideal) x1 x2 x3 x4 x5 x6 x7 (ValueIdx.ix2 k g) = x4 (ValueIdx.ix2 k l) := by
  unfold val_main_v0
  refine concatenate_apply_piece (t := S4352x8192) 1 _ _ (ValueIdx.ix2 k g) 3 (by show 3 < 7; omega) S4352x1024 x4 rfl rfl 3072 rfl (ValueIdx.ix2 k l) (fun b hb => ?_) hg.symm
  match b with
  | ⟨0, _⟩ => rfl
  | ⟨1, _⟩ => exact absurd rfl hb

theorem reference4 (r : Fin 1024) (l : Fin 1024) (g : Fin 8192) (hg : g.val = 3072 + l.val) :
    val_main_v6 (F := Ideal) x0 x1 x2 x3 x4 x5 x6 x7 (ValueIdx.ix2 r g) = Prod.tn x0 x4 r l :=
  (reference_joined x0 x1 x2 x3 x4 x5 x6 x7 r g).trans (Finset.sum_congr rfl fun k _ => congrArg (fun b : EReal => (x0 (ValueIdx.ix2 k r) : EReal) * b) (seg4 x1 x2 x3 x4 x5 x6 x7 k l g hg))

theorem seg5 (k : Fin 4352) (l : Fin 1024) (g : Fin 8192) (hg : g.val = 4096 + l.val) :
    val_main_v0 (F := Ideal) x1 x2 x3 x4 x5 x6 x7 (ValueIdx.ix2 k g) = x5 (ValueIdx.ix2 k l) := by
  unfold val_main_v0
  refine concatenate_apply_piece (t := S4352x8192) 1 _ _ (ValueIdx.ix2 k g) 4 (by show 4 < 7; omega) S4352x1024 x5 rfl rfl 4096 rfl (ValueIdx.ix2 k l) (fun b hb => ?_) hg.symm
  match b with
  | ⟨0, _⟩ => rfl
  | ⟨1, _⟩ => exact absurd rfl hb

theorem reference5 (r : Fin 1024) (l : Fin 1024) (g : Fin 8192) (hg : g.val = 4096 + l.val) :
    val_main_v6 (F := Ideal) x0 x1 x2 x3 x4 x5 x6 x7 (ValueIdx.ix2 r g) = Prod.tn x0 x5 r l :=
  (reference_joined x0 x1 x2 x3 x4 x5 x6 x7 r g).trans (Finset.sum_congr rfl fun k _ => congrArg (fun b : EReal => (x0 (ValueIdx.ix2 k r) : EReal) * b) (seg5 x1 x2 x3 x4 x5 x6 x7 k l g hg))

theorem seg6 (k : Fin 4352) (l : Fin 1024) (g : Fin 8192) (hg : g.val = 5120 + l.val) :
    val_main_v0 (F := Ideal) x1 x2 x3 x4 x5 x6 x7 (ValueIdx.ix2 k g) = x6 (ValueIdx.ix2 k l) := by
  unfold val_main_v0
  refine concatenate_apply_piece (t := S4352x8192) 1 _ _ (ValueIdx.ix2 k g) 5 (by show 5 < 7; omega) S4352x1024 x6 rfl rfl 5120 rfl (ValueIdx.ix2 k l) (fun b hb => ?_) hg.symm
  match b with
  | ⟨0, _⟩ => rfl
  | ⟨1, _⟩ => exact absurd rfl hb

theorem reference6 (r : Fin 1024) (l : Fin 1024) (g : Fin 8192) (hg : g.val = 5120 + l.val) :
    val_main_v6 (F := Ideal) x0 x1 x2 x3 x4 x5 x6 x7 (ValueIdx.ix2 r g) = Prod.tn x0 x6 r l :=
  (reference_joined x0 x1 x2 x3 x4 x5 x6 x7 r g).trans (Finset.sum_congr rfl fun k _ => congrArg (fun b : EReal => (x0 (ValueIdx.ix2 k r) : EReal) * b) (seg6 x1 x2 x3 x4 x5 x6 x7 k l g hg))

theorem seg7 (k : Fin 4352) (l : Fin 2048) (g : Fin 8192) (hg : g.val = 6144 + l.val) :
    val_main_v0 (F := Ideal) x1 x2 x3 x4 x5 x6 x7 (ValueIdx.ix2 k g) = x7 (ValueIdx.ix2 k l) := by
  unfold val_main_v0
  refine concatenate_apply_piece (t := S4352x8192) 1 _ _ (ValueIdx.ix2 k g) 6 (by show 6 < 7; omega) S4352x2048 x7 rfl rfl 6144 rfl (ValueIdx.ix2 k l) (fun b hb => ?_) hg.symm
  match b with
  | ⟨0, _⟩ => rfl
  | ⟨1, _⟩ => exact absurd rfl hb

theorem reference7 (r : Fin 1024) (l : Fin 2048) (g : Fin 8192) (hg : g.val = 6144 + l.val) :
    val_main_v6 (F := Ideal) x0 x1 x2 x3 x4 x5 x6 x7 (ValueIdx.ix2 r g) = Prod.tn x0 x7 r l :=
  (reference_joined x0 x1 x2 x3 x4 x5 x6 x7 r g).trans (Finset.sum_congr rfl fun k _ => congrArg (fun b : EReal => (x0 (ValueIdx.ix2 k r) : EReal) * b) (seg7 x1 x2 x3 x4 x5 x6 x7 k l g hg))

end

variable (m : (ℓ : Loc Cert.GradInIdeal.nD Cert.GradInIdeal.τ Cert.GradInIdeal.sig) → Buf (Elt Ideal) ℓ) (c : Dev Cert.GradInIdeal.nD)

/-- The two results are equal. -/
theorem equal {y0 y1 y2 y3 y4 y5 y6 y7 : _}
    (a0 : y0 = m ((c.tc : Thread Cert.GradInIdeal.nD Cert.GradInIdeal.τ).loc Cert.GradInIdeal.main_arg0))
    (a1 : y1 = m ((c.tc : Thread Cert.GradInIdeal.nD Cert.GradInIdeal.τ).loc Cert.GradInIdeal.main_arg1))
    (a2 : y2 = m ((c.tc : Thread Cert.GradInIdeal.nD Cert.GradInIdeal.τ).loc Cert.GradInIdeal.main_arg2))
    (a3 : y3 = m ((c.tc : Thread Cert.GradInIdeal.nD Cert.GradInIdeal.τ).loc Cert.GradInIdeal.main_arg3))
    (a4 : y4 = m ((c.tc : Thread Cert.GradInIdeal.nD Cert.GradInIdeal.τ).loc Cert.GradInIdeal.main_arg4))
    (a5 : y5 = m ((c.tc : Thread Cert.GradInIdeal.nD Cert.GradInIdeal.τ).loc Cert.GradInIdeal.main_arg5))
    (a6 : y6 = m ((c.tc : Thread Cert.GradInIdeal.nD Cert.GradInIdeal.τ).loc Cert.GradInIdeal.main_arg6))
    (a7 : y7 = m ((c.tc : Thread Cert.GradInIdeal.nD Cert.GradInIdeal.τ).loc Cert.GradInIdeal.main_arg7)) :
    Cert.GradInRefIdeal.Read.val_main_v6 (F := Ideal) y0 y1 y2 y3 y4 y5 y6 y7
      = (Cert.GradInIdeal.Gen.dats m 0 c).arrAt 8 Cert.GradInIdeal.cfg0.N := by
  rw [a0, a1, a2, a3, a4, a5, a6, a7]
  funext i
  rw [Prod.eta i]
  generalize (⟨(i 0).val, (i 0).isLt⟩ : Fin 1024) = r
  generalize (⟨(i 1).val, (i 1).isLt⟩ : Fin 8192) = g

  by_cases h1 : g.val < 1024
  · exact (reference1 _ _ _ _ _ _ _ _ r ⟨g.val - 0, by omega⟩ g (by show g.val = 0 + (g.val - 0); omega)).trans (kernel1 m c r ⟨g.val - 0, by omega⟩ g (by show g.val = 0 + (g.val - 0); omega)).symm
  by_cases h2 : g.val < 2048
  · exact (reference2 _ _ _ _ _ _ _ _ r ⟨g.val - 1024, by omega⟩ g (by show g.val = 1024 + (g.val - 1024); omega)).trans (kernel2 m c r ⟨g.val - 1024, by omega⟩ g (by show g.val = 1024 + (g.val - 1024); omega)).symm
  by_cases h3 : g.val < 3072
  · exact (reference3 _ _ _ _ _ _ _ _ r ⟨g.val - 2048, by omega⟩ g (by show g.val = 2048 + (g.val - 2048); omega)).trans (kernel3 m c r ⟨g.val - 2048, by omega⟩ g (by show g.val = 2048 + (g.val - 2048); omega)).symm
  by_cases h4 : g.val < 4096
  · exact (reference4 _ _ _ _ _ _ _ _ r ⟨g.val - 3072, by omega⟩ g (by show g.val = 3072 + (g.val - 3072); omega)).trans (kernel4 m c r ⟨g.val - 3072, by omega⟩ g (by show g.val = 3072 + (g.val - 3072); omega)).symm
  by_cases h5 : g.val < 5120
  · exact (reference5 _ _ _ _ _ _ _ _ r ⟨g.val - 4096, by omega⟩ g (by show g.val = 4096 + (g.val - 4096); omega)).trans (kernel5 m c r ⟨g.val - 4096, by omega⟩ g (by show g.val = 4096 + (g.val - 4096); omega)).symm
  by_cases h6 : g.val < 6144
  · exact (reference6 _ _ _ _ _ _ _ _ r ⟨g.val - 5120, by omega⟩ g (by show g.val = 5120 + (g.val - 5120); omega)).trans (kernel6 m c r ⟨g.val - 5120, by omega⟩ g (by show g.val = 5120 + (g.val - 5120); omega)).symm
  exact (reference7 _ _ _ _ _ _ _ _ r ⟨g.val - 6144, by omega⟩ g (by show g.val = 6144 + (g.val - 6144); omega)).trans (kernel7 m c r ⟨g.val - 6144, by omega⟩ g (by show g.val = 6144 + (g.val - 6144); omega)).symm

end Cert.InGrad

end
-- ==== Proof.InFwd.lean ====
/- The input projection: the kernel's result is the reference's. -/
module

public import proofs.«01_k».proof.Proof.Prod
public import proofs.«01_k».proof.Proof.Gen.InProjIdeal.Value
public import proofs.«01_k».proof.Proof.Gen.InProjRefIdeal.Read

@[expose] public section

set_option maxRecDepth 16384

noncomputable section

namespace Cert.InFwd

open Idealize.ShloMosaic Idealize.ShloMosaic.TcCoe Cert.InProjIdeal Gen
open scoped BigOperators

/-- Where a point's blocks lie. -/
theorem place0 : ∀ t : Fin cfg0.N, win0_0.index t (0 : Fin 2) = t.val % 8 ∧ win0_0.index t (1 : Fin 2) = 0 := (by decide +kernel : ∀ t : Fin grid0.N, _)
theorem place1 : ∀ t : Fin cfg0.N, win0_1.index t (0 : Fin 2) = 0 ∧ win0_1.index t (1 : Fin 2) = t.val / 8 := (by decide +kernel : ∀ t : Fin grid0.N, _)
theorem place2 : ∀ t : Fin cfg0.N, win0_2.index t (0 : Fin 2) = t.val % 8 ∧ win0_2.index t (1 : Fin 2) = t.val / 8 := (by decide +kernel : ∀ t : Fin grid0.N, _)
theorem flush2 : ∀ t : Fin cfg0.N, win0_2.flush t = true := (by decide +kernel : ∀ t : Fin grid0.N, _)

/-- The body's product. -/
theorem pay_apply (x : FVec Ideal S544x1024 .bf16) (y : FVec Ideal S1024x2048 .bf16) (a : Fin 544) (b : Fin 2048) :
    k0_pay1 (F := Ideal) x y (ValueIdx.ix2 a b) = Prod.nn x y a b := by
  have e : k0_pay1 (F := Ideal) x y (ValueIdx.ix2 a b) = (0 : EReal) + ∑ k : Fin 1024, x (ValueIdx.ix2 a k) * y (ValueIdx.ix2 k b) := by
    unfold k0_pay1
    pointwise
    first | rfl | simp
  rw [e, zero_add]; rfl

theorem out_eq (x : Vec Ideal S544x1024 .bf16) (y : Vec Ideal S1024x2048 .bf16) : out0_2 x y = k0_pay1 x y := by
  unfold out0_2
  rw [View.ld_unit_lit _ x (Fin.forall_fin_two.mpr ⟨rfl, rfl⟩), View.ld_unit_lit _ y (Fin.forall_fin_two.mpr ⟨rfl, rfl⟩)]
  exact View.canon_cons_unit_lit _ _ [] (Fin.forall_fin_two.mpr ⟨rfl, rfl⟩)

variable (m : (ℓ : Loc nD τ sig) → Buf (Elt Ideal) ℓ) (c : Dev nD)

/-- A block of an array, read at an index. -/
theorem read0 (A : (⟨S4352x1024, .bf16⟩ : BufTy).Contents (Elt Ideal)) (t : Fin cfg0.N) (y : S544x1024.Idx) :
    ((cfg0.win 0).blk t).view.read (Elt Ideal) A y = A (((cfg0.win 0).blk t).view.emb y) := rfl
theorem read1 (A : (⟨S1024x8192, .bf16⟩ : BufTy).Contents (Elt Ideal)) (t : Fin cfg0.N) (y : S1024x2048.Idx) :
    ((cfg0.win 1).blk t).view.read (Elt Ideal) A y = A (((cfg0.win 1).blk t).view.emb y) := rfl
theorem read2 (A : (⟨S4352x8192, .bf16⟩ : BufTy).Contents (Elt Ideal)) (t : Fin cfg0.N) (y : S544x2048.Idx) :
    ((cfg0.win 2).blk t).view.read (Elt Ideal) A y = A (((cfg0.win 2).blk t).view.emb y) := rfl
theorem cut2 (t : Fin cfg0.N) (A : Vec Ideal S544x2048 .bf16) (y : S544x2048.Idx) :
    (cfg0.win 2).cut (grid0.coords t) A y = A y := rfl

/-- What a point's input blocks hold. -/
theorem blk0 (t : Fin cfg0.N) (a : Fin 544) (b : Fin 1024) (p : Fin 4352) (q : Fin 1024) (hp : p.val = t.val % 8 * 544 + a.val) (hq : q.val = 0 * 1024 + b.val) :
    iblk m c 0 t (ValueIdx.ix2 a b) = m ((c.tc : Thread nD τ).loc main_arg0) (ValueIdx.ix2 p q) := by
  obtain ⟨e0, e1⟩ := place0 t
  have b0 : (((cfg0.win 0).blk t).view.emb (ValueIdx.ix2 a b) 0).val = win0_0.index t (0 : Fin 2) * 544 + 1 * a.val := rfl
  have b1 : (((cfg0.win 0).blk t).view.emb (ValueIdx.ix2 a b) 1).val = win0_0.index t (1 : Fin 2) * 1024 + 1 * b.val := rfl
  unfold iblk
  refine (read0 _ t _).trans (congrArg _ (Prod.eq_pair _ _ _ ?_ ?_))
  · rw [b0, e0, hp]; omega
  · rw [b1, e1, hq]; omega

theorem blk1 (t : Fin cfg0.N) (a : Fin 1024) (b : Fin 2048) (p : Fin 1024) (q : Fin 8192) (hp : p.val = 0 * 1024 + a.val) (hq : q.val = t.val / 8 * 2048 + b.val) :
    iblk m c 1 t (ValueIdx.ix2 a b) = m ((c.tc : Thread nD τ).loc main_arg1) (ValueIdx.ix2 p q) := by
  obtain ⟨e0, e1⟩ := place1 t
  have b0 : (((cfg0.win 1).blk t).view.emb (ValueIdx.ix2 a b) 0).val = win0_1.index t (0 : Fin 2) * 1024 + 1 * a.val := rfl
  have b1 : (((cfg0.win 1).blk t).view.emb (ValueIdx.ix2 a b) 1).val = win0_1.index t (1 : Fin 2) * 2048 + 1 * b.val := rfl
  unfold iblk
  refine (read1 _ t _).trans (congrArg _ (Prod.eq_pair _ _ _ ?_ ?_))
  · rw [b0, e0, hp]; omega
  · rw [b1, e1, hq]; omega

/-- The kernel's result at an index. -/
theorem kernel_apply (r : Fin 4352) (l : Fin 8192) :
    (dats m 0 c).arrAt 2 cfg0.N (ValueIdx.ix2 r l) = Prod.nn (m ((c.tc : Thread nD τ).loc main_arg0)) (m ((c.tc : Thread nD τ).loc main_arg1)) r l := by
  have hN : cfg0.N = 32 := N_0
  obtain ⟨t, ht⟩ : ∃ t : Fin cfg0.N, t.val = l.val / 2048 * 8 + r.val / 544 := ⟨⟨l.val / 2048 * 8 + r.val / 544, by omega⟩, rfl⟩
  obtain ⟨e0, e1⟩ := place2 t
  obtain ⟨a, ha⟩ : ∃ a : Fin 544, a.val = r.val % 544 := ⟨⟨r.val % 544, by omega⟩, rfl⟩
  obtain ⟨b, hb⟩ : ∃ b : Fin 2048, b.val = l.val % 2048 := ⟨⟨l.val % 2048, by omega⟩, rfl⟩
  have b0 : (((cfg0.win 2).blk t).view.emb (ValueIdx.ix2 a b) 0).val = win0_2.index t (0 : Fin 2) * 544 + 1 * a.val := rfl
  have b1 : (((cfg0.win 2).blk t).view.emb (ValueIdx.ix2 a b) 1).val = win0_2.index t (1 : Fin 2) * 2048 + 1 * b.val := rfl
  have hi := Prod.eq_pair (((cfg0.win 2).blk t).view.emb (ValueIdx.ix2 a b)) r l (by rw [b0, e0]; omega) (by rw [b1, e1]; omega)
  have hw := congrFun (Value.blocks2 m c t (flush2 t)) (ValueIdx.ix2 a b)
  refine (congrArg _ hi).symm.trans ((read2 _ t _).symm.trans (hw.trans ?_))
  rw [Value.flushed2 m c t, out_eq]
  refine (cut2 t _ _).trans ((pay_apply _ _ _ _).trans (Finset.sum_congr rfl fun k _ => ?_))
  exact congrArg₂ (fun a b : EReal => a * b) (blk0 m c t a k r k (by omega) (by omega)) (blk1 m c t k b k l (by omega) (by omega))

open Cert.InProjRefIdeal.Read in
/-- The reference's result at an index. -/
theorem reference_apply (x : (⟨Cert.InProjRefIdeal.S4352x1024, .bf16⟩ : BufTy).Contents (Elt Ideal)) (y : (⟨Cert.InProjRefIdeal.S1024x8192, .bf16⟩ : BufTy).Contents (Elt Ideal))
    (r : Fin 4352) (l : Fin 8192) : val_main_v3 (F := Ideal) x y (ValueIdx.ix2 r l) = Prod.nn x y r l := by
  rw [val_main_v3_apply]
  refine (val_main_v2_apply x y _).trans (Finset.sum_congr rfl fun k _ => ?_)
  rw [val_main_v1_apply, val_main_v0_apply]
  exact congrArg₂ (fun a b : EReal => a * b) (congrArg x (Prod.eq_pair _ _ _ rfl rfl)) (congrArg y (Prod.eq_pair _ _ _ rfl rfl))

/-- The two results are equal. -/
theorem equal {y0 y1 : _}
    (a0 : y0 = m ((c.tc : Thread nD τ).loc main_arg0))
    (a1 : y1 = m ((c.tc : Thread nD τ).loc main_arg1)) :
    Cert.InProjRefIdeal.Read.val_main_v3 (F := Ideal) y0 y1
      = (dats m 0 c).arrAt 2 cfg0.N := by
  rw [a0, a1]
  funext i
  rw [Prod.eta i]
  exact (reference_apply _ _ _ _).trans (kernel_apply m c _ _).symm

end Cert.InFwd

end
-- ==== Proof.UpFwd.lean ====
/- The up projection: the kernel's result is the reference's. -/
module

public import proofs.«01_k».proof.Proof.Prod
public import proofs.«01_k».proof.Proof.Gen.UpProjIdeal.Value
public import proofs.«01_k».proof.Proof.Gen.UpProjRefIdeal.Read

@[expose] public section

set_option maxRecDepth 16384

noncomputable section

namespace Cert.UpFwd

open Idealize.ShloMosaic Idealize.ShloMosaic.TcCoe Cert.UpProjIdeal Gen
open scoped BigOperators

/-- Where a point's blocks lie. -/
theorem place0 : ∀ t : Fin cfg0.N, win0_0.index t (0 : Fin 2) = t.val % 8 ∧ win0_0.index t (1 : Fin 2) = 0 := (by decide +kernel : ∀ t : Fin grid0.N, _)
theorem place1 : ∀ t : Fin cfg0.N, win0_1.index t (0 : Fin 2) = 0 ∧ win0_1.index t (1 : Fin 2) = t.val / 8 := (by decide +kernel : ∀ t : Fin grid0.N, _)
theorem place2 : ∀ t : Fin cfg0.N, win0_2.index t (0 : Fin 2) = t.val % 8 ∧ win0_2.index t (1 : Fin 2) = t.val / 8 := (by decide +kernel : ∀ t : Fin grid0.N, _)
theorem flush2 : ∀ t : Fin cfg0.N, win0_2.flush t = true := (by decide +kernel : ∀ t : Fin grid0.N, _)

/-- The body's product. -/
theorem pay_apply (x : FVec Ideal S544x1024 .bf16) (y : FVec Ideal S1024x2816 .bf16) (a : Fin 544) (b : Fin 2816) :
    k0_pay1 (F := Ideal) x y (ValueIdx.ix2 a b) = Prod.nn x y a b := by
  have e : k0_pay1 (F := Ideal) x y (ValueIdx.ix2 a b) = (0 : EReal) + ∑ k : Fin 1024, x (ValueIdx.ix2 a k) * y (ValueIdx.ix2 k b) := by
    unfold k0_pay1
    pointwise
    first | rfl | simp
  rw [e, zero_add]; rfl

theorem out_eq (x : Vec Ideal S544x1024 .bf16) (y : Vec Ideal S1024x2816 .bf16) : out0_2 x y = k0_pay1 x y := by
  unfold out0_2
  rw [View.ld_unit_lit _ x (Fin.forall_fin_two.mpr ⟨rfl, rfl⟩), View.ld_unit_lit _ y (Fin.forall_fin_two.mpr ⟨rfl, rfl⟩)]
  exact View.canon_cons_unit_lit _ _ [] (Fin.forall_fin_two.mpr ⟨rfl, rfl⟩)

variable (m : (ℓ : Loc nD τ sig) → Buf (Elt Ideal) ℓ) (c : Dev nD)

/-- A block of an array, read at an index. -/
theorem read0 (A : (⟨S4352x1024, .bf16⟩ : BufTy).Contents (Elt Ideal)) (t : Fin cfg0.N) (y : S544x1024.Idx) :
    ((cfg0.win 0).blk t).view.read (Elt Ideal) A y = A (((cfg0.win 0).blk t).view.emb y) := rfl
theorem read1 (A : (⟨S1024x5632, .bf16⟩ : BufTy).Contents (Elt Ideal)) (t : Fin cfg0.N) (y : S1024x2816.Idx) :
    ((cfg0.win 1).blk t).view.read (Elt Ideal) A y = A (((cfg0.win 1).blk t).view.emb y) := rfl
theorem read2 (A : (⟨S4352x5632, .bf16⟩ : BufTy).Contents (Elt Ideal)) (t : Fin cfg0.N) (y : S544x2816.Idx) :
    ((cfg0.win 2).blk t).view.read (Elt Ideal) A y = A (((cfg0.win 2).blk t).view.emb y) := rfl
theorem cut2 (t : Fin cfg0.N) (A : Vec Ideal S544x2816 .bf16) (y : S544x2816.Idx) :
    (cfg0.win 2).cut (grid0.coords t) A y = A y := rfl

/-- What a point's input blocks hold. -/
theorem blk0 (t : Fin cfg0.N) (a : Fin 544) (b : Fin 1024) (p : Fin 4352) (q : Fin 1024) (hp : p.val = t.val % 8 * 544 + a.val) (hq : q.val = 0 * 1024 + b.val) :
    iblk m c 0 t (ValueIdx.ix2 a b) = m ((c.tc : Thread nD τ).loc main_arg0) (ValueIdx.ix2 p q) := by
  obtain ⟨e0, e1⟩ := place0 t
  have b0 : (((cfg0.win 0).blk t).view.emb (ValueIdx.ix2 a b) 0).val = win0_0.index t (0 : Fin 2) * 544 + 1 * a.val := rfl
  have b1 : (((cfg0.win 0).blk t).view.emb (ValueIdx.ix2 a b) 1).val = win0_0.index t (1 : Fin 2) * 1024 + 1 * b.val := rfl
  unfold iblk
  refine (read0 _ t _).trans (congrArg _ (Prod.eq_pair _ _ _ ?_ ?_))
  · rw [b0, e0, hp]; omega
  · rw [b1, e1, hq]; omega

theorem blk1 (t : Fin cfg0.N) (a : Fin 1024) (b : Fin 2816) (p : Fin 1024) (q : Fin 5632) (hp : p.val = 0 * 1024 + a.val) (hq : q.val = t.val / 8 * 2816 + b.val) :
    iblk m c 1 t (ValueIdx.ix2 a b) = m ((c.tc : Thread nD τ).loc main_arg1) (ValueIdx.ix2 p q) := by
  obtain ⟨e0, e1⟩ := place1 t
  have b0 : (((cfg0.win 1).blk t).view.emb (ValueIdx.ix2 a b) 0).val = win0_1.index t (0 : Fin 2) * 1024 + 1 * a.val := rfl
  have b1 : (((cfg0.win 1).blk t).view.emb (ValueIdx.ix2 a b) 1).val = win0_1.index t (1 : Fin 2) * 2816 + 1 * b.val := rfl
  unfold iblk
  refine (read1 _ t _).trans (congrArg _ (Prod.eq_pair _ _ _ ?_ ?_))
  · rw [b0, e0, hp]; omega
  · rw [b1, e1, hq]; omega

/-- The kernel's result at an index. -/
theorem kernel_apply (r : Fin 4352) (l : Fin 5632) :
    (dats m 0 c).arrAt 2 cfg0.N (ValueIdx.ix2 r l) = Prod.nn (m ((c.tc : Thread nD τ).loc main_arg0)) (m ((c.tc : Thread nD τ).loc main_arg1)) r l := by
  have hN : cfg0.N = 16 := N_0
  obtain ⟨t, ht⟩ : ∃ t : Fin cfg0.N, t.val = l.val / 2816 * 8 + r.val / 544 := ⟨⟨l.val / 2816 * 8 + r.val / 544, by omega⟩, rfl⟩
  obtain ⟨e0, e1⟩ := place2 t
  obtain ⟨a, ha⟩ : ∃ a : Fin 544, a.val = r.val % 544 := ⟨⟨r.val % 544, by omega⟩, rfl⟩
  obtain ⟨b, hb⟩ : ∃ b : Fin 2816, b.val = l.val % 2816 := ⟨⟨l.val % 2816, by omega⟩, rfl⟩
  have b0 : (((cfg0.win 2).blk t).view.emb (ValueIdx.ix2 a b) 0).val = win0_2.index t (0 : Fin 2) * 544 + 1 * a.val := rfl
  have b1 : (((cfg0.win 2).blk t).view.emb (ValueIdx.ix2 a b) 1).val = win0_2.index t (1 : Fin 2) * 2816 + 1 * b.val := rfl
  have hi := Prod.eq_pair (((cfg0.win 2).blk t).view.emb (ValueIdx.ix2 a b)) r l (by rw [b0, e0]; omega) (by rw [b1, e1]; omega)
  have hw := congrFun (Value.blocks2 m c t (flush2 t)) (ValueIdx.ix2 a b)
  refine (congrArg _ hi).symm.trans ((read2 _ t _).symm.trans (hw.trans ?_))
  rw [Value.flushed2 m c t, out_eq]
  refine (cut2 t _ _).trans ((pay_apply _ _ _ _).trans (Finset.sum_congr rfl fun k _ => ?_))
  exact congrArg₂ (fun a b : EReal => a * b) (blk0 m c t a k r k (by omega) (by omega)) (blk1 m c t k b k l (by omega) (by omega))

open Cert.UpProjRefIdeal.Read in
/-- The reference's result at an index. -/
theorem reference_apply (x : (⟨Cert.UpProjRefIdeal.S4352x1024, .bf16⟩ : BufTy).Contents (Elt Ideal)) (y : (⟨Cert.UpProjRefIdeal.S1024x5632, .bf16⟩ : BufTy).Contents (Elt Ideal))
    (r : Fin 4352) (l : Fin 5632) : val_main_v3 (F := Ideal) x y (ValueIdx.ix2 r l) = Prod.nn x y r l := by
  rw [val_main_v3_apply]
  refine (val_main_v2_apply x y _).trans (Finset.sum_congr rfl fun k _ => ?_)
  rw [val_main_v1_apply, val_main_v0_apply]
  exact congrArg₂ (fun a b : EReal => a * b) (congrArg x (Prod.eq_pair _ _ _ rfl rfl)) (congrArg y (Prod.eq_pair _ _ _ rfl rfl))

/-- The two results are equal. -/
theorem equal {y0 y1 : _}
    (a0 : y0 = m ((c.tc : Thread nD τ).loc main_arg0))
    (a1 : y1 = m ((c.tc : Thread nD τ).loc main_arg1)) :
    Cert.UpProjRefIdeal.Read.val_main_v3 (F := Ideal) y0 y1
      = (dats m 0 c).arrAt 2 cfg0.N := by
  rw [a0, a1]
  funext i
  rw [Prod.eta i]
  exact (reference_apply _ _ _ _).trans (kernel_apply m c _ _).symm

end Cert.UpFwd

end
-- ==== Proof.UpBackPoint.lean ====
/- What one grid point of the gradient through the up projection leaves in the accumulator and in the result blocks. -/
module

public import proofs.«01_k».proof.Proof.Prod
public import proofs.«01_k».proof.Proof.Gen.UpBwdIdeal.Frame
public import proofs.«01_k».proof.Proof.Read

@[expose] public section

set_option maxRecDepth 16384

noncomputable section

namespace Cert.UpBack

open Idealize.ShloMosaic Idealize.ShloMosaic.TcCoe Cert.UpBwdIdeal Gen
open scoped BigOperators

variable (c : Dev nD) (i : grid0.Coords) (arg2 : Memref sig .tc .vmem S544x1408 .bf16) (w2 : arg2.IsWhole) (arg3 : Memref sig .tc .vmem S544x1408 .bf16) (w3 : arg3.IsWhole) (arg4 : Memref sig .tc .vmem S1024x1408 .bf16) (w4 : arg4.IsWhole) (arg5 : Memref sig .tc .vmem S544x1024 .f32) (w5 : arg5.IsWhole) (arg6 : Memref sig .tc .vmem S544x1024 .f32) (w6 : arg6.IsWhole) (arg7 : Memref sig .tc .vmem S544x1024 .f32) (w7 : arg7.IsWhole) (arg8 : Memref sig .tc .vmem S1x1024 .f32) (w8 : arg8.IsWhole) (arg9 : Memref sig .tc .vmem S1x1024 .f32) (w9 : arg9.IsWhole) (arg10 : Memref sig .tc .vmem S544x1024 .f32) (w10 : arg10.IsWhole) (arg11 : Memref sig .tc .vmem S544x1024 .bf16) (w11 : arg11.IsWhole) (arg12 : Memref sig .tc .vmem S1x1024 .f32) (w12 : arg12.IsWhole) (arg13 : Memref sig .tc .vmem S1x1024 .f32) (w13 : arg13.IsWhole) (arg14 : Memref sig .tc .vmem S544x1408 .bf16) (w14 : arg14.IsWhole) (arg15 : Memref sig .tc .vmem S544x1024 .f32) (w15 : arg15.IsWhole)
  (x0 : Vec Ideal S544x1408 .bf16) (x1 : Vec Ideal S544x1408 .bf16) (x2 : Vec Ideal S1024x1408 .bf16) (x3 : Vec Ideal S544x1024 .f32) (x4 : Vec Ideal S544x1024 .f32) (x5 : Vec Ideal S544x1024 .f32) (x6 : Vec Ideal S1x1024 .f32) (x7 : Vec Ideal S1x1024 .f32) (xo10 : Vec Ideal S1x1024 .f32) (xo11 : Vec Ideal S1x1024 .f32) (xs0 : Vec Ideal S544x1024 .f32)

section A
variable (hc0 : cond0_0 i) (hc1 : cond0_1 i) (hc2 : ¬cond0_2 i) (hc3 : ¬cond0_3 i)

theorem acc_A : sout0_A_0 c i _ w2 _ w3 _ w4 _ w5 _ w6 _ w7 _ w8 _ w9 _ w10 _ w11 _ w12 _ w13 _ w14 _ w15 hc0 hc1 hc2 hc3 x0 x1 x2 x3 x4 x5 x6 x7 = k0_pay2 (F := Ideal) (k0_pay1 (F := Ideal)) x0 x2 := by
  unfold sout0_A_0 kernelRun0_A
  dsimp only
  refine (View.read_writes_full _ _ _ _ _).trans ?_
  exact congr (congr (congrArg (k0_pay2 (F := Ideal)) ((View.readAt_full _ _ _).trans (View.read_writes_full _ _ _ _ _))) (rdw w2 _)) (rdw w4 _)

theorem copy_A : out0_A_12 c i _ w2 _ w3 _ w4 _ w5 _ w6 _ w7 _ w8 _ w9 _ w10 _ w11 _ w12 _ w13 _ w14 _ w15 hc0 hc1 hc2 hc3 x0 x1 x2 x3 x4 x5 x6 x7 = x0 := by
  unfold out0_A_12 kernelRun0_A
  dsimp only
  refine (View.read_writes_full _ _ _ _ _).trans ?_
  exact rdw w2 _
end A

section B
variable (hc0 : ¬cond0_0 i) (hc1 : cond0_1 i) (hc2 : ¬cond0_2 i) (hc3 : ¬cond0_3 i)

theorem acc_B : sout0_B_0 c i _ w2 _ w3 _ w4 _ w5 _ w6 _ w7 _ w8 _ w9 _ w10 _ w11 _ w12 _ w13 _ w14 _ w15 hc0 hc1 hc2 hc3 x0 x1 x2 x3 x4 x5 x6 x7 xs0 = k0_pay2 (F := Ideal) xs0 x0 x2 := by
  unfold sout0_B_0 kernelRun0_B
  dsimp only
  refine (View.read_writes_full _ _ _ _ _).trans ?_
  exact congr (congr (congrArg (k0_pay2 (F := Ideal)) (rdw w15 _)) (rdw w2 _)) (rdw w4 _)

theorem copy_B : out0_B_12 c i _ w2 _ w3 _ w4 _ w5 _ w6 _ w7 _ w8 _ w9 _ w10 _ w11 _ w12 _ w13 _ w14 _ w15 hc0 hc1 hc2 hc3 x0 x1 x2 x3 x4 x5 x6 x7 xs0 = x0 := by
  unfold out0_B_12 kernelRun0_B
  dsimp only
  refine (View.read_writes_full _ _ _ _ _).trans ?_
  exact rdw w2 _
end B

section C
variable (hc0 : ¬cond0_0 i) (hc1 : ¬cond0_1 i) (hc2 : cond0_2 i) (hc3 : ¬cond0_3 i)

theorem acc_C : sout0_C_0 c i _ w2 _ w3 _ w4 _ w5 _ w6 _ w7 _ w8 _ w9 _ w10 _ w11 _ w12 _ w13 _ w14 _ w15 hc0 hc1 hc2 hc3 x0 x1 x2 x3 x4 x5 x6 x7 xs0 = k0_pay3 (F := Ideal) xs0 x1 x2 := by
  unfold sout0_C_0 kernelRun0_C
  dsimp only
  refine (View.read_writes_full _ _ _ _ _).trans ?_
  exact congr (congr (congrArg (k0_pay3 (F := Ideal)) (rdw w15 _)) (rdw w3 _)) (rdw w4 _)

theorem copy_C : out0_C_12 c i _ w2 _ w3 _ w4 _ w5 _ w6 _ w7 _ w8 _ w9 _ w10 _ w11 _ w12 _ w13 _ w14 _ w15 hc0 hc1 hc2 hc3 x0 x1 x2 x3 x4 x5 x6 x7 xs0 = x1 := by
  unfold out0_C_12 kernelRun0_C
  dsimp only
  refine (View.read_writes_full _ _ _ _ _).trans ?_
  exact rdw w3 _
end C

section D
variable (hc0 : ¬cond0_0 i) (hc1 : ¬cond0_1 i) (hc2 : cond0_2 i) (hc3 : cond0_3 i) (hc4 : cond0_4 i) (hc5 : ¬cond0_5 i) (hc6 : cond0_6 i) (hc7 : ¬cond0_7 i)

theorem acc_D : sout0_D_0 c i _ w2 _ w3 _ w4 _ w5 _ w6 _ w7 _ w8 _ w9 _ w10 _ w11 _ w12 _ w13 _ w14 _ w15 hc0 hc1 hc2 hc3 hc4 hc5 hc6 hc7 x0 x1 x2 x3 x4 x5 x6 x7 xs0 = k0_pay3 (F := Ideal) xs0 x1 x2 := by
  unfold sout0_D_0 kernelRun0_D
  dsimp only
  refine (View.read_writes_full _ _ _ _ _).trans ?_
  exact congr (congr (congrArg (k0_pay3 (F := Ideal)) (rdw w15 _)) (rdw w3 _)) (rdw w4 _)

theorem copy_D : out0_D_12 c i _ w2 _ w3 _ w4 _ w5 _ w6 _ w7 _ w8 _ w9 _ w10 _ w11 _ w12 _ w13 _ w14 _ w15 hc0 hc1 hc2 hc3 hc4 hc5 hc6 hc7 x0 x1 x2 x3 x4 x5 x6 x7 xs0 = x1 := by
  unfold out0_D_12 kernelRun0_D
  dsimp only
  refine (View.read_writes_full _ _ _ _ _).trans ?_
  exact rdw w3 _

theorem out_D : out0_D_8 c i _ w2 _ w3 _ w4 _ w5 _ w6 _ w7 _ w8 _ w9 _ w10 _ w11 _ w12 _ w13 _ w14 _ w15 hc0 hc1 hc2 hc3 hc4 hc5 hc6 hc7 x0 x1 x2 x3 x4 x5 x6 x7 xs0 = k0_pay13 (F := Ideal) (k0_pay3 (F := Ideal) xs0 x1 x2) x3 x4 x6 := by
  unfold out0_D_8 kernelRun0_D
  dsimp only
  refine (View.read_writes_full _ _ _ _ _).trans ?_
  exact congr (congr (congr (congrArg (k0_pay13 (F := Ideal)) (((View.readAt_full _ _ _).trans (View.read_writes_full _ _ _ _ _)).trans (congr (congr (congrArg (k0_pay3 (F := Ideal)) (rdw w15 _)) (rdw w3 _)) (rdw w4 _)))) (rdw w5 _)) (rdw w6 _)) (rdw w8 _)

theorem omix_D : out0_D_9 c i _ w2 _ w3 _ w4 _ w5 _ w6 _ w7 _ w8 _ w9 _ w10 _ w11 _ w12 _ w13 _ w14 _ w15 hc0 hc1 hc2 hc3 hc4 hc5 hc6 hc7 x0 x1 x2 x3 x4 x5 x6 x7 xs0 = k0_pay7 (F := Ideal) x5 x7 (k0_pay13 (F := Ideal) (k0_pay3 (F := Ideal) xs0 x1 x2) x3 x4 x6) (k0_pay14 (F := Ideal) x5) := by
  unfold out0_D_9 kernelRun0_D
  dsimp only
  refine (View.read_writes_full _ _ _ _ _).trans ?_
  exact congr (congr (congr (congrArg (k0_pay7 (F := Ideal)) (rdw w7 _)) (rdw w9 _)) (congr (congr (congr (congrArg (k0_pay13 (F := Ideal)) (((View.readAt_full _ _ _).trans (View.read_writes_full _ _ _ _ _)).trans (congr (congr (congrArg (k0_pay3 (F := Ideal)) (rdw w15 _)) (rdw w3 _)) (rdw w4 _)))) (rdw w5 _)) (rdw w6 _)) (rdw w8 _))) (congrArg (k0_pay14 (F := Ideal)) (rdw w7 _))

theorem osum_D : out0_D_10 c i _ w2 _ w3 _ w4 _ w5 _ w6 _ w7 _ w8 _ w9 _ w10 _ w11 _ w12 _ w13 _ w14 _ w15 hc0 hc1 hc2 hc3 hc4 hc5 hc6 hc7 x0 x1 x2 x3 x4 x5 x6 x7 xs0 = k0_pay12 (F := Ideal) (k0_pay3 (F := Ideal) xs0 x1 x2) x3 := by
  unfold out0_D_10 kernelRun0_D
  dsimp only
  refine (View.read_writes_full _ _ _ _ _).trans ?_
  exact congrArg₂ (k0_pay12 (F := Ideal)) (((View.readAt_full _ _ _).trans (View.read_writes_full _ _ _ _ _)).trans (congr (congr (congrArg (k0_pay3 (F := Ideal)) (rdw w15 _)) (rdw w3 _)) (rdw w4 _))) (rdw w5 _)

theorem omsum_D : out0_D_11 c i _ w2 _ w3 _ w4 _ w5 _ w6 _ w7 _ w8 _ w9 _ w10 _ w11 _ w12 _ w13 _ w14 _ w15 hc0 hc1 hc2 hc3 hc4 hc5 hc6 hc7 x0 x1 x2 x3 x4 x5 x6 x7 xs0 = k0_pay6 (F := Ideal) x5 (k0_pay13 (F := Ideal) (k0_pay3 (F := Ideal) xs0 x1 x2) x3 x4 x6) (k0_pay14 (F := Ideal) x5) := by
  unfold out0_D_11 kernelRun0_D
  dsimp only
  refine (View.read_writes_full _ _ _ _ _).trans ?_
  exact congr (congr (congrArg (k0_pay6 (F := Ideal)) (rdw w7 _)) (congr (congr (congr (congrArg (k0_pay13 (F := Ideal)) (((View.readAt_full _ _ _).trans (View.read_writes_full _ _ _ _ _)).trans (congr (congr (congrArg (k0_pay3 (F := Ideal)) (rdw w15 _)) (rdw w3 _)) (rdw w4 _)))) (rdw w5 _)) (rdw w6 _)) (rdw w8 _))) (congrArg (k0_pay14 (F := Ideal)) (rdw w7 _))
end D

section E
variable (hc0 : ¬cond0_0 i) (hc1 : ¬cond0_1 i) (hc2 : cond0_2 i) (hc3 : cond0_3 i) (hc4 : ¬cond0_4 i) (hc5 : cond0_5 i) (hc6 : ¬cond0_6 i) (hc7 : cond0_7 i)

theorem acc_E : sout0_E_0 c i _ w2 _ w3 _ w4 _ w5 _ w6 _ w7 _ w8 _ w9 _ w10 _ w11 _ w12 _ w13 _ w14 _ w15 hc0 hc1 hc2 hc3 hc4 hc5 hc6 hc7 x0 x1 x2 x3 x4 x5 x6 x7 xo10 xo11 xs0 = k0_pay3 (F := Ideal) xs0 x1 x2 := by
  unfold sout0_E_0 kernelRun0_E
  dsimp only
  refine (View.read_writes_full _ _ _ _ _).trans ?_
  exact congr (congr (congrArg (k0_pay3 (F := Ideal)) (rdw w15 _)) (rdw w3 _)) (rdw w4 _)

theorem copy_E : out0_E_12 c i _ w2 _ w3 _ w4 _ w5 _ w6 _ w7 _ w8 _ w9 _ w10 _ w11 _ w12 _ w13 _ w14 _ w15 hc0 hc1 hc2 hc3 hc4 hc5 hc6 hc7 x0 x1 x2 x3 x4 x5 x6 x7 xo10 xo11 xs0 = x1 := by
  unfold out0_E_12 kernelRun0_E
  dsimp only
  refine (View.read_writes_full _ _ _ _ _).trans ?_
  exact rdw w3 _

theorem out_E : out0_E_8 c i _ w2 _ w3 _ w4 _ w5 _ w6 _ w7 _ w8 _ w9 _ w10 _ w11 _ w12 _ w13 _ w14 _ w15 hc0 hc1 hc2 hc3 hc4 hc5 hc6 hc7 x0 x1 x2 x3 x4 x5 x6 x7 xo10 xo11 xs0 = k0_pay13 (F := Ideal) (k0_pay3 (F := Ideal) xs0 x1 x2) x3 x4 x6 := by
  unfold out0_E_8 kernelRun0_E
  dsimp only
  refine (View.read_writes_full _ _ _ _ _).trans ?_
  exact congr (congr (congr (congrArg (k0_pay13 (F := Ideal)) (((View.readAt_full _ _ _).trans (View.read_writes_full _ _ _ _ _)).trans (congr (congr (congrArg (k0_pay3 (F := Ideal)) (rdw w15 _)) (rdw w3 _)) (rdw w4 _)))) (rdw w5 _)) (rdw w6 _)) (rdw w8 _)

theorem omix_E : out0_E_9 c i _ w2 _ w3 _ w4 _ w5 _ w6 _ w7 _ w8 _ w9 _ w10 _ w11 _ w12 _ w13 _ w14 _ w15 hc0 hc1 hc2 hc3 hc4 hc5 hc6 hc7 x0 x1 x2 x3 x4 x5 x6 x7 xo10 xo11 xs0 = k0_pay7 (F := Ideal) x5 x7 (k0_pay13 (F := Ideal) (k0_pay3 (F := Ideal) xs0 x1 x2) x3 x4 x6) (k0_pay14 (F := Ideal) x5) := by
  unfold out0_E_9 kernelRun0_E
  dsimp only
  refine (View.read_writes_full _ _ _ _ _).trans ?_
  exact congr (congr (congr (congrArg (k0_pay7 (F := Ideal)) (rdw w7 _)) (rdw w9 _)) (congr (congr (congr (congrArg (k0_pay13 (F := Ideal)) (((View.readAt_full _ _ _).trans (View.read_writes_full _ _ _ _ _)).trans (congr (congr (congrArg (k0_pay3 (F := Ideal)) (rdw w15 _)) (rdw w3 _)) (rdw w4 _)))) (rdw w5 _)) (rdw w6 _)) (rdw w8 _))) (congrArg (k0_pay14 (F := Ideal)) (rdw w7 _))

theorem osum_E : out0_E_10 c i _ w2 _ w3 _ w4 _ w5 _ w6 _ w7 _ w8 _ w9 _ w10 _ w11 _ w12 _ w13 _ w14 _ w15 hc0 hc1 hc2 hc3 hc4 hc5 hc6 hc7 x0 x1 x2 x3 x4 x5 x6 x7 xo10 xo11 xs0 = k0_pay8 (F := Ideal) (k0_pay12 (F := Ideal) (k0_pay3 (F := Ideal) xs0 x1 x2) x3) xo10 := by
  unfold out0_E_10 kernelRun0_E
  dsimp only
  refine (View.read_writes_full _ _ _ _ _).trans ?_
  exact congr (congrArg (k0_pay8 (F := Ideal)) (congrArg₂ (k0_pay12 (F := Ideal)) (((View.readAt_full _ _ _).trans (View.read_writes_full _ _ _ _ _)).trans (congr (congr (congrArg (k0_pay3 (F := Ideal)) (rdw w15 _)) (rdw w3 _)) (rdw w4 _))) (rdw w5 _))) (rdw w12 _)

theorem omsum_E : out0_E_11 c i _ w2 _ w3 _ w4 _ w5 _ w6 _ w7 _ w8 _ w9 _ w10 _ w11 _ w12 _ w13 _ w14 _ w15 hc0 hc1 hc2 hc3 hc4 hc5 hc6 hc7 x0 x1 x2 x3 x4 x5 x6 x7 xo10 xo11 xs0 = k0_pay9 (F := Ideal) x5 (k0_pay13 (F := Ideal) (k0_pay3 (F := Ideal) xs0 x1 x2) x3 x4 x6) (k0_pay14 (F := Ideal) x5) xo11 := by
  unfold out0_E_11 kernelRun0_E
  dsimp only
  refine (View.read_writes_full _ _ _ _ _).trans ?_
  exact congr (congr (congr (congrArg (k0_pay9 (F := Ideal)) (rdw w7 _)) (congr (congr (congr (congrArg (k0_pay13 (F := Ideal)) (((View.readAt_full _ _ _).trans (View.read_writes_full _ _ _ _ _)).trans (congr (congr (congrArg (k0_pay3 (F := Ideal)) (rdw w15 _)) (rdw w3 _)) (rdw w4 _)))) (rdw w5 _)) (rdw w6 _)) (rdw w8 _))) (congrArg (k0_pay14 (F := Ideal)) (rdw w7 _))) (rdw w13 _)
end E

end Cert.UpBack

end
-- ==== Proof.Norm.lean ====
/- The gradient of a root-mean-square norm, row by row, over the extended reals: the kernel's form is the derivative's. -/
module

public import proofs.«01_k».proof.Proof.Prod

@[expose] public section

noncomputable section

namespace Cert.Norm

open Idealize.ShloMosaic
open scoped BigOperators

/-- The row's length, the small number added to the mean, and minus a half, as the programs write them. -/
abbrev len : EReal := Ideal.ofBits .f32 0x44800000#32
abbrev eps : EReal := Ideal.ofBits .f32 0x358637BD#32
abbrev half : EReal := Ideal.ofBits .f32 0xBF000000#32

theorem zero_eq : Ideal.ofBits .f32 0x00000000#32 = 0 := by simp [Ideal.ofBits, Ideal.ieee]
theorem len_eq : ∃ c : ℝ, 0 < c ∧ len = (c : EReal) := by
  have e : len = ((8388608 : ℝ) : EReal) * (((2 : ℝ) ^ (137 - 127 - 23 : ℤ) : ℝ) : EReal) := by
    simp [len, Ideal.ofBits, Ideal.ieee]
  exact ⟨8388608 * (2 : ℝ) ^ (137 - 127 - 23 : ℤ), by positivity, by rw [e, EReal.coe_mul]⟩
theorem eps_eq : ∃ c : ℝ, 0 < c ∧ eps = (c : EReal) := by
  have e : eps = ((8796093 : ℝ) : EReal) * (((2 : ℝ) ^ (107 - 127 - 23 : ℤ) : ℝ) : EReal) := by
    simp [eps, Ideal.ofBits, Ideal.ieee]
  exact ⟨8796093 * (2 : ℝ) ^ (107 - 127 - 23 : ℤ), by positivity, by rw [e, EReal.coe_mul]⟩
theorem half_eq : half = ((-(1 / 2) : ℝ) : EReal) := by
  simp [half, Ideal.ofBits, Ideal.ieee]
  rw [← EReal.coe_mul]
  congr 1
  norm_num

section

variable {n : ℕ} (h t : Fin n → EReal)

/-- The mean of a row's squares, with the small number; its inverse root; the normed row. -/
def me : EReal := Ideal.div (∑ k, h k * h k) len + eps
def rs : EReal := Ideal.rsqrt (me h)
def hat (j : Fin n) : EReal := h j * rs h

/-- The gradient through the norm: the kernel's form. -/
def back (j : Fin n) : EReal := rs h * (t j - hat h j * Ideal.div (∑ k, t k * hat h k) len)

/-- The derivative's form: through the factor, and twice through the mean of the squares. -/
def thru : EReal := Ideal.div ((∑ k, h k * t k) * (half * Ideal.div (rs h) (me h))) len
def deriv (j : Fin n) : EReal := t j * rs h + h j * thru h t + thru h t * h j

theorem sq_nonneg (x : EReal) : 0 ≤ x * x := by
  rcases le_total 0 x with hx | hx
  · exact mul_nonneg hx hx
  · rw [← neg_mul_neg]
    exact mul_nonneg (by simpa using hx) (by simpa using hx)

/-- The inverse root is a real, and its quotient by the mean is its cube. -/
theorem rs_real : ∃ ρ : ℝ, 0 ≤ ρ ∧ rs h = (ρ : EReal) ∧ Ideal.div (rs h) (me h) = ((ρ ^ 3 : ℝ) : EReal) := by
  obtain ⟨c, hc, ec⟩ := len_eq
  obtain ⟨e, he, ee⟩ := eps_eq
  have hs : 0 ≤ ∑ k, h k * h k := Finset.sum_nonneg fun k _ => sq_nonneg (h k)
  have hd : Ideal.div (∑ k, h k * h k) len = (∑ k, h k * h k) * ((c⁻¹ : ℝ) : EReal) := by
    unfold Ideal.div
    rw [ec, if_neg (by exact_mod_cast hc.ne'), EReal.coe_inv]
  unfold rs me
  rw [hd, ee]
  generalize (∑ k, h k * h k) = s at hs
  induction s with
  | bot => exact absurd hs (by simp)
  | top =>
    refine ⟨0, le_refl _, ?_, ?_⟩
    · rw [EReal.top_mul_coe_of_pos (by positivity), EReal.top_add_coe]; rfl
    · rw [EReal.top_mul_coe_of_pos (by positivity), EReal.top_add_coe]
      simp [Ideal.div]
  | coe s =>
    have hs' : 0 ≤ s := by exact_mod_cast hs
    rw [← EReal.coe_mul, ← EReal.coe_add]
    have hm : 0 < s * c⁻¹ + e := by positivity
    generalize s * c⁻¹ + e = M at hm
    have er : Ideal.rsqrt (M : EReal) = (((Real.sqrt M)⁻¹ : ℝ) : EReal) := by
      rw [Ideal.rsqrt_coe, if_neg (by linarith), if_neg hm.ne']
    refine ⟨(Real.sqrt M)⁻¹, by positivity, er, ?_⟩
    rw [er]
    unfold Ideal.div
    rw [if_neg (by exact_mod_cast hm.ne'), ← EReal.coe_inv, ← EReal.coe_mul]
    congr 1
    have h2 : Real.sqrt M ^ 2 = M := Real.sq_sqrt hm.le
    have h3 : 0 < Real.sqrt M := Real.sqrt_pos.mpr hm
    generalize Real.sqrt M = q at h2 h3
    subst h2
    field_simp

theorem mul_sum_real {ι : Type*} (ρ : ℝ) (hρ : 0 ≤ ρ) (s : Finset ι) (f : ι → EReal) : (∑ i ∈ s, f i) * (ρ : EReal) = ∑ i ∈ s, f i * (ρ : EReal) := by
  classical
  induction s using Finset.induction_on with
  | empty => simp
  | insert a s ha ih =>
    rw [Finset.sum_insert ha, Finset.sum_insert ha, EReal.right_distrib_of_nonneg_of_ne_top (by exact_mod_cast hρ) (EReal.coe_ne_top _), ih]

theorem twice (a : ℝ) (ha : 0 ≤ a) (y : EReal) : ((-(1 / 2) * a : ℝ) : EReal) * y + ((-(1 / 2) * a : ℝ) : EReal) * y = -((a : EReal) * y) := by
  rcases ha.eq_or_lt with rfl | ha
  · simp
  · have hn : -(1 / 2) * a < 0 := by linarith
    induction y with
    | bot => rw [EReal.coe_mul_bot_of_neg hn, EReal.coe_mul_bot_of_pos ha]; rfl
    | top => rw [EReal.coe_mul_top_of_neg hn, EReal.coe_mul_top_of_pos ha]; rfl
    | coe y =>
      rw [← EReal.coe_mul, ← EReal.coe_mul, ← EReal.coe_add, ← EReal.coe_neg]
      congr 1
      ring

/-- The two forms are equal, whatever the row and the cotangent. -/
theorem back_eq (j : Fin n) : back h t j = deriv h t j := by
  obtain ⟨ρ, hρ, er, e3⟩ := rs_real h
  obtain ⟨c, hc, ec⟩ := len_eq
  have hd : ∀ x : EReal, Ideal.div x len = x * ((c⁻¹ : ℝ) : EReal) := fun x => by
    unfold Ideal.div
    rw [ec, if_neg (by exact_mod_cast hc.ne'), EReal.coe_inv]
  have hi : 0 ≤ c⁻¹ := by positivity
  unfold back deriv thru hat
  rw [e3, er, hd, hd, half_eq]
  have es : ∑ k, t k * (h k * (ρ : EReal)) = (∑ k, h k * t k) * (ρ : EReal) := by
    rw [mul_sum_real ρ hρ]
    exact Finset.sum_congr rfl fun k _ => by rw [← mul_assoc, mul_comm (t k)]
  rw [es]
  generalize (∑ k, h k * t k) = S
  generalize c⁻¹ = b at hi
  have ha : 0 ≤ ρ ^ 3 * b := by positivity
  have e1 : (ρ : EReal) * (t j - h j * (ρ : EReal) * (S * (ρ : EReal) * (b : EReal))) = t j * (ρ : EReal) + -(((ρ ^ 3 * b : ℝ) : EReal) * (h j * S)) := by
    rw [sub_eq_add_neg, EReal.left_distrib_of_nonneg_of_ne_top (by exact_mod_cast hρ) (EReal.coe_ne_top _), mul_neg, mul_comm (ρ : EReal) (t j)]
    congr 2
    rw [show ρ ^ 3 * b = ρ * ρ * ρ * b by ring, EReal.coe_mul, EReal.coe_mul, EReal.coe_mul]
    ac_rfl
  have e2 : h j * (S * (((-(1 / 2) : ℝ) : EReal) * ((ρ ^ 3 : ℝ) : EReal)) * (b : EReal)) = ((-(1 / 2) * (ρ ^ 3 * b) : ℝ) : EReal) * (h j * S) := by
    rw [EReal.coe_mul, EReal.coe_mul]
    ac_rfl
  rw [e1, ← twice _ ha, ← e2, add_assoc]
  congr 2
  exact mul_comm _ _

end

end Cert.Norm

end
-- ==== Proof.UpBackPay.lean ====
/- The gradient through the up projection and its two norms: what the body computes, entry by entry. -/
module

public import proofs.«01_k».proof.Proof.Norm
public import proofs.«01_k».proof.Proof.Gen.UpBwdIdeal.Skeleton

@[expose] public section

set_option maxRecDepth 16384

noncomputable section

namespace Cert.UpBack

open Idealize.ShloMosaic Idealize.ShloMosaic.TcCoe Cert.UpBwdIdeal Gen
open scoped BigOperators

variable (a h d : FVec Ideal S544x1024 .f32) (g o : FVec Ideal S1x1024 .f32)

/-- A row of a block. -/
abbrev row (h : FVec Ideal S544x1024 .f32) (p : Fin 544) : Fin 1024 → EReal := fun k => h (ValueIdx.ix2 p k)

theorem pay2_apply (x : FVec Ideal S544x1408 .bf16) (w : FVec Ideal S1024x1408 .bf16) (p : Fin 544) (j : Fin 1024) :
    k0_pay2 (F := Ideal) a x w (ValueIdx.ix2 p j) = a (ValueIdx.ix2 p j) + Prod.nt x w p j := by
  have e : k0_pay2 (F := Ideal) a x w (ValueIdx.ix2 p j) = a (ValueIdx.ix2 p j) + ∑ k : Fin 1408, x (ValueIdx.ix2 p k) * w (ValueIdx.ix2 j k) := by
    unfold k0_pay2
    pointwise
    rfl
  rw [e]; rfl

theorem pay3_apply (x : FVec Ideal S544x1408 .bf16) (w : FVec Ideal S1024x1408 .bf16) (p : Fin 544) (j : Fin 1024) :
    k0_pay3 (F := Ideal) a x w (ValueIdx.ix2 p j) = a (ValueIdx.ix2 p j) + Prod.nt x w p j := pay2_apply a x w p j

theorem pay1_apply (p : Fin 544) (j : Fin 1024) : k0_pay1 (F := Ideal) (ValueIdx.ix2 p j) = 0 := by
  unfold k0_pay1
  pointwise

theorem pay10_apply (p : Fin 544) (q : Fin 1) : k0_pay10 (F := Ideal) h (ValueIdx.ix2 p q) = Norm.rs (row h p) := by
  unfold k0_pay10
  pointwise
  rfl

theorem pay14_apply (p : Fin 544) (q : Fin 1) : k0_pay14 (F := Ideal) h (ValueIdx.ix2 p q) = Norm.me (row h p) := by
  unfold k0_pay14
  pointwise
  rfl

theorem pay4_apply (p : Fin 544) (q : Fin 1) : k0_pay4 (F := Ideal) (k0_pay14 (F := Ideal) h) (ValueIdx.ix2 p q) = Norm.rs (row h p) := by
  unfold k0_pay4
  pointwise
  exact congrArg Ideal.rsqrt (pay14_apply h p q)

theorem pay11_apply (p : Fin 544) (j : Fin 1024) : k0_pay11 (F := Ideal) h (ValueIdx.ix2 p j) = Norm.hat (row h p) j := by
  have e : k0_pay11 (F := Ideal) h (ValueIdx.ix2 p j) = h (ValueIdx.ix2 p j) * k0_pay10 (F := Ideal) h (ValueIdx.ix2 p 0) := by
    unfold k0_pay11
    pointwise
    rfl
  rw [e, pay10_apply]; rfl

theorem pay5_apply (p : Fin 544) (j : Fin 1024) : k0_pay5 (F := Ideal) h (k0_pay14 (F := Ideal) h) (ValueIdx.ix2 p j) = Norm.hat (row h p) j := by
  have e : k0_pay5 (F := Ideal) h (k0_pay14 (F := Ideal) h) (ValueIdx.ix2 p j) = h (ValueIdx.ix2 p j) * k0_pay4 (F := Ideal) (k0_pay14 (F := Ideal) h) (ValueIdx.ix2 p 0) := by
    unfold k0_pay5
    pointwise
    rfl
  rw [e, pay4_apply]; rfl

theorem pay12_apply (q : Fin 1) (j : Fin 1024) : k0_pay12 (F := Ideal) a h (ValueIdx.ix2 q j) = ∑ p : Fin 544, a (ValueIdx.ix2 p j) * Norm.hat (row h p) j := by
  have e : k0_pay12 (F := Ideal) a h (ValueIdx.ix2 q j) = ∑ p : Fin 544, a (ValueIdx.ix2 p j) * k0_pay11 (F := Ideal) h (ValueIdx.ix2 p j) := by
    unfold k0_pay12
    pointwise
    rfl
  rw [e]
  exact Finset.sum_congr rfl fun p _ => by rw [pay11_apply]

theorem pay6_apply (q : Fin 1) (j : Fin 1024) : k0_pay6 (F := Ideal) h a (k0_pay14 (F := Ideal) h) (ValueIdx.ix2 q j) = ∑ p : Fin 544, a (ValueIdx.ix2 p j) * Norm.hat (row h p) j := by
  have e : k0_pay6 (F := Ideal) h a (k0_pay14 (F := Ideal) h) (ValueIdx.ix2 q j) = ∑ p : Fin 544, a (ValueIdx.ix2 p j) * k0_pay5 (F := Ideal) h (k0_pay14 (F := Ideal) h) (ValueIdx.ix2 p j) := by
    unfold k0_pay6
    pointwise
    rfl
  rw [e]
  exact Finset.sum_congr rfl fun p _ => by rw [pay5_apply]

theorem pay8_apply (q : Fin 1) (j : Fin 1024) : k0_pay8 (F := Ideal) g o (ValueIdx.ix2 q j) = o (ValueIdx.ix2 q j) + g (ValueIdx.ix2 q j) := by
  unfold k0_pay8
  pointwise

theorem pay9_apply (q : Fin 1) (j : Fin 1024) : k0_pay9 (F := Ideal) h a (k0_pay14 (F := Ideal) h) o (ValueIdx.ix2 q j) = o (ValueIdx.ix2 q j) + ∑ p : Fin 544, a (ValueIdx.ix2 p j) * Norm.hat (row h p) j := by
  have e : k0_pay9 (F := Ideal) h a (k0_pay14 (F := Ideal) h) o (ValueIdx.ix2 q j) = o (ValueIdx.ix2 q j) + k0_pay6 (F := Ideal) h a (k0_pay14 (F := Ideal) h) (ValueIdx.ix2 q j) := by
    unfold k0_pay9
    pointwise
  rw [e, pay6_apply]

theorem pay13_apply (p : Fin 544) (j : Fin 1024) : k0_pay13 (F := Ideal) a h d g (ValueIdx.ix2 p j)
    = d (ValueIdx.ix2 p j) + Norm.back (row h p) (fun k => a (ValueIdx.ix2 p k) * g (ValueIdx.ix2 0 k)) j := by
  have e : k0_pay13 (F := Ideal) a h d g (ValueIdx.ix2 p j)
      = d (ValueIdx.ix2 p j) + k0_pay10 (F := Ideal) h (ValueIdx.ix2 p 0) * (a (ValueIdx.ix2 p j) * g (ValueIdx.ix2 0 j)
        - k0_pay11 (F := Ideal) h (ValueIdx.ix2 p j) * Ideal.div (∑ k : Fin 1024, a (ValueIdx.ix2 p k) * g (ValueIdx.ix2 0 k) * k0_pay11 (F := Ideal) h (ValueIdx.ix2 p k)) Norm.len) := by
    unfold k0_pay13
    pointwise
    rfl
  rw [e, pay10_apply, pay11_apply]
  simp only [pay11_apply]
  rfl

theorem pay7_apply (p : Fin 544) (j : Fin 1024) : k0_pay7 (F := Ideal) h g a (k0_pay14 (F := Ideal) h) (ValueIdx.ix2 p j)
    = Norm.back (row h p) (fun k => a (ValueIdx.ix2 p k) * g (ValueIdx.ix2 0 k)) j := by
  have e : k0_pay7 (F := Ideal) h g a (k0_pay14 (F := Ideal) h) (ValueIdx.ix2 p j)
      = k0_pay4 (F := Ideal) (k0_pay14 (F := Ideal) h) (ValueIdx.ix2 p 0) * (a (ValueIdx.ix2 p j) * g (ValueIdx.ix2 0 j)
        - k0_pay5 (F := Ideal) h (k0_pay14 (F := Ideal) h) (ValueIdx.ix2 p j) * Ideal.div (∑ k : Fin 1024, a (ValueIdx.ix2 p k) * g (ValueIdx.ix2 0 k) * k0_pay5 (F := Ideal) h (k0_pay14 (F := Ideal) h) (ValueIdx.ix2 p k)) Norm.len) := by
    unfold k0_pay7
    pointwise
    rfl
  rw [e, pay4_apply, pay5_apply]
  simp only [pay5_apply]
  rfl

end Cert.UpBack

end
-- ==== Proof.Nat2.lean ====
/- Matrices of extended reals read at natural numbers, zero outside. -/
module

public import proofs.«01_k».proof.Proof.Prod

@[expose] public section

noncomputable section

namespace Cert.Prod

open Idealize.ShloMosaic
open scoped BigOperators

/-- The entry at a pair of numbers, zero outside the matrix. -/
def nat {a b : ℕ} (x : (⟨2, ![a, b]⟩ : Shape).Idx → EReal) (p q : ℕ) : EReal :=
  if h : p < a ∧ q < b then x (ValueIdx.ix2 ⟨p, h.1⟩ ⟨q, h.2⟩) else 0

theorem nat_at {a b : ℕ} (x : (⟨2, ![a, b]⟩ : Shape).Idx → EReal) (p : Fin a) (q : Fin b) : nat x p.val q.val = x (ValueIdx.ix2 p q) :=
  dif_pos ⟨p.isLt, q.isLt⟩

theorem nat_idx {a b : ℕ} (x : (⟨2, ![a, b]⟩ : Shape).Idx → EReal) (i : (⟨2, ![a, b]⟩ : Shape).Idx) (p q : ℕ) (hp : (i 0).val = p) (hq : (i 1).val = q) :
    x i = nat x p q := by
  subst hp hq
  have h0 : (i 0).val < a := (i 0).isLt
  have h1 : (i 1).val < b := (i 1).isLt
  unfold nat
  rw [dif_pos ⟨h0, h1⟩]
  exact congrArg x (eta i)

/-- A sum over one block more. -/
theorem sum_more (f : ℕ → EReal) (n k : ℕ) : (∑ g ∈ Finset.range n, f g) + ∑ d : Fin k, f (n + d.val) = ∑ g ∈ Finset.range (n + k), f g := by
  rw [Finset.sum_range_add, Fin.sum_univ_eq_sum_range (fun d => f (n + d)) k]

end Cert.Prod

end
-- ==== Proof.UpBackBlocks.lean ====
/- The blocks a grid point of the gradient through the up projection reads, as entries of the arguments. -/
module

public import proofs.«01_k».proof.Proof.Nat2
public import proofs.«01_k».proof.Proof.Gen.UpBwdIdeal.Frame

@[expose] public section

set_option maxRecDepth 16384

noncomputable section

namespace Cert.UpBack

open Idealize.ShloMosaic Idealize.ShloMosaic.TcCoe Cert.UpBwdIdeal Gen
open scoped BigOperators

variable (m : (ℓ : Loc nD τ sig) → Buf (Elt Ideal) ℓ) (c : Dev nD)

/-- The arguments' entries. -/
def A0 (p q : ℕ) : EReal := Prod.nat (a := 4352) (b := 2816) (m ((c.tc : Thread nD τ).loc main_arg0)) p q
def A1 (p q : ℕ) : EReal := Prod.nat (a := 4352) (b := 2816) (m ((c.tc : Thread nD τ).loc main_arg1)) p q
def A2 (p q : ℕ) : EReal := Prod.nat (a := 1024) (b := 5632) (m ((c.tc : Thread nD τ).loc main_arg2)) p q
def A3 (p q : ℕ) : EReal := Prod.nat (a := 4352) (b := 1024) (m ((c.tc : Thread nD τ).loc main_arg3)) p q
def A4 (p q : ℕ) : EReal := Prod.nat (a := 4352) (b := 1024) (m ((c.tc : Thread nD τ).loc main_arg4)) p q
def A5 (p q : ℕ) : EReal := Prod.nat (a := 4352) (b := 1024) (m ((c.tc : Thread nD τ).loc main_arg5)) p q
def A6 (p q : ℕ) : EReal := Prod.nat (a := 1) (b := 1024) (m ((c.tc : Thread nD τ).loc main_arg6)) p q
def A7 (p q : ℕ) : EReal := Prod.nat (a := 1) (b := 1024) (m ((c.tc : Thread nD τ).loc main_arg7)) p q

/-- The joined rows. -/
def cat (p g : ℕ) : EReal := if g < 2816 then A0 m c p g else A1 m c p (g - 2816)

theorem place0 : ∀ t : Fin cfg0.N, t.val % 4 ≤ 1 → win0_0.index t (0 : Fin 2) = t.val / 4 ∧ win0_0.index t (1 : Fin 2) = t.val % 4 := (by decide +kernel : ∀ t : Fin grid0.N, _)
theorem read0 (A : (⟨S4352x2816, .bf16⟩ : BufTy).Contents (Elt Ideal)) (t : Fin cfg0.N) (y : S544x1408.Idx) :
    ((cfg0.win 0).blk t).view.read (Elt Ideal) A y = A (((cfg0.win 0).blk t).view.emb y) := rfl
theorem blk0 (t : Fin cfg0.N) (hk : t.val % 4 ≤ 1) (p : Fin 544) (q : Fin 1408) :
    iblk m c 0 t (ValueIdx.ix2 p q) = A0 m c (t.val / 4 * 544 + p.val) ((t.val % 4) * 1408 + q.val) := by
  obtain ⟨e0, e1⟩ := place0 t hk
  have b0 : (((cfg0.win 0).blk t).view.emb (ValueIdx.ix2 p q) 0).val = win0_0.index t (0 : Fin 2) * 544 + 1 * p.val := rfl
  have b1 : (((cfg0.win 0).blk t).view.emb (ValueIdx.ix2 p q) 1).val = win0_0.index t (1 : Fin 2) * 1408 + 1 * q.val := rfl
  unfold iblk
  exact (read0 _ t _).trans (Prod.nat_idx _ _ _ _ (by rw [b0, e0, one_mul]) (by rw [b1, e1, one_mul]))

theorem place1 : ∀ t : Fin cfg0.N, 2 ≤ t.val % 4 → win0_1.index t (0 : Fin 2) = t.val / 4 ∧ win0_1.index t (1 : Fin 2) = t.val % 4 - 2 := (by decide +kernel : ∀ t : Fin grid0.N, _)
theorem read1 (A : (⟨S4352x2816, .bf16⟩ : BufTy).Contents (Elt Ideal)) (t : Fin cfg0.N) (y : S544x1408.Idx) :
    ((cfg0.win 1).blk t).view.read (Elt Ideal) A y = A (((cfg0.win 1).blk t).view.emb y) := rfl
theorem blk1 (t : Fin cfg0.N) (hk : 2 ≤ t.val % 4) (p : Fin 544) (q : Fin 1408) :
    iblk m c 1 t (ValueIdx.ix2 p q) = A1 m c (t.val / 4 * 544 + p.val) ((t.val % 4 - 2) * 1408 + q.val) := by
  obtain ⟨e0, e1⟩ := place1 t hk
  have b0 : (((cfg0.win 1).blk t).view.emb (ValueIdx.ix2 p q) 0).val = win0_1.index t (0 : Fin 2) * 544 + 1 * p.val := rfl
  have b1 : (((cfg0.win 1).blk t).view.emb (ValueIdx.ix2 p q) 1).val = win0_1.index t (1 : Fin 2) * 1408 + 1 * q.val := rfl
  unfold iblk
  exact (read1 _ t _).trans (Prod.nat_idx _ _ _ _ (by rw [b0, e0, one_mul]) (by rw [b1, e1, one_mul]))

theorem place2 : ∀ t : Fin cfg0.N, win0_2.index t (0 : Fin 2) = 0 ∧ win0_2.index t (1 : Fin 2) = t.val % 4 := (by decide +kernel : ∀ t : Fin grid0.N, _)
theorem read2 (A : (⟨S1024x5632, .bf16⟩ : BufTy).Contents (Elt Ideal)) (t : Fin cfg0.N) (y : S1024x1408.Idx) :
    ((cfg0.win 2).blk t).view.read (Elt Ideal) A y = A (((cfg0.win 2).blk t).view.emb y) := rfl
theorem blk2 (t : Fin cfg0.N) (p : Fin 1024) (q : Fin 1408) :
    iblk m c 2 t (ValueIdx.ix2 p q) = A2 m c (0 * 1024 + p.val) ((t.val % 4) * 1408 + q.val) := by
  obtain ⟨e0, e1⟩ := place2 t
  have b0 : (((cfg0.win 2).blk t).view.emb (ValueIdx.ix2 p q) 0).val = win0_2.index t (0 : Fin 2) * 1024 + 1 * p.val := rfl
  have b1 : (((cfg0.win 2).blk t).view.emb (ValueIdx.ix2 p q) 1).val = win0_2.index t (1 : Fin 2) * 1408 + 1 * q.val := rfl
  unfold iblk
  exact (read2 _ t _).trans (Prod.nat_idx _ _ _ _ (by rw [b0, e0, one_mul]) (by rw [b1, e1, one_mul]))

theorem place3 : ∀ t : Fin cfg0.N, win0_3.index t (0 : Fin 2) = t.val / 4 ∧ win0_3.index t (1 : Fin 2) = 0 := (by decide +kernel : ∀ t : Fin grid0.N, _)
theorem read3 (A : (⟨S4352x1024, .f32⟩ : BufTy).Contents (Elt Ideal)) (t : Fin cfg0.N) (y : S544x1024.Idx) :
    ((cfg0.win 3).blk t).view.read (Elt Ideal) A y = A (((cfg0.win 3).blk t).view.emb y) := rfl
theorem blk3 (t : Fin cfg0.N) (p : Fin 544) (q : Fin 1024) :
    iblk m c 3 t (ValueIdx.ix2 p q) = A3 m c (t.val / 4 * 544 + p.val) ((0) * 1024 + q.val) := by
  obtain ⟨e0, e1⟩ := place3 t
  have b0 : (((cfg0.win 3).blk t).view.emb (ValueIdx.ix2 p q) 0).val = win0_3.index t (0 : Fin 2) * 544 + 1 * p.val := rfl
  have b1 : (((cfg0.win 3).blk t).view.emb (ValueIdx.ix2 p q) 1).val = win0_3.index t (1 : Fin 2) * 1024 + 1 * q.val := rfl
  unfold iblk
  exact (read3 _ t _).trans (Prod.nat_idx _ _ _ _ (by rw [b0, e0, one_mul]) (by rw [b1, e1, one_mul]))

theorem place4 : ∀ t : Fin cfg0.N, win0_4.index t (0 : Fin 2) = t.val / 4 ∧ win0_4.index t (1 : Fin 2) = 0 := (by decide +kernel : ∀ t : Fin grid0.N, _)
theorem read4 (A : (⟨S4352x1024, .f32⟩ : BufTy).Contents (Elt Ideal)) (t : Fin cfg0.N) (y : S544x1024.Idx) :
    ((cfg0.win 4).blk t).view.read (Elt Ideal) A y = A (((cfg0.win 4).blk t).view.emb y) := rfl
theorem blk4 (t : Fin cfg0.N) (p : Fin 544) (q : Fin 1024) :
    iblk m c 4 t (ValueIdx.ix2 p q) = A4 m c (t.val / 4 * 544 + p.val) ((0) * 1024 + q.val) := by
  obtain ⟨e0, e1⟩ := place4 t
  have b0 : (((cfg0.win 4).blk t).view.emb (ValueIdx.ix2 p q) 0).val = win0_4.index t (0 : Fin 2) * 544 + 1 * p.val := rfl
  have b1 : (((cfg0.win 4).blk t).view.emb (ValueIdx.ix2 p q) 1).val = win0_4.index t (1 : Fin 2) * 1024 + 1 * q.val := rfl
  unfold iblk
  exact (read4 _ t _).trans (Prod.nat_idx _ _ _ _ (by rw [b0, e0, one_mul]) (by rw [b1, e1, one_mul]))

theorem place5 : ∀ t : Fin cfg0.N, win0_5.index t (0 : Fin 2) = t.val / 4 ∧ win0_5.index t (1 : Fin 2) = 0 := (by decide +kernel : ∀ t : Fin grid0.N, _)
theorem read5 (A : (⟨S4352x1024, .f32⟩ : BufTy).Contents (Elt Ideal)) (t : Fin cfg0.N) (y : S544x1024.Idx) :
    ((cfg0.win 5).blk t).view.read (Elt Ideal) A y = A (((cfg0.win 5).blk t).view.emb y) := rfl
theorem blk5 (t : Fin cfg0.N) (p : Fin 544) (q : Fin 1024) :
    iblk m c 5 t (ValueIdx.ix2 p q) = A5 m c (t.val / 4 * 544 + p.val) ((0) * 1024 + q.val) := by
  obtain ⟨e0, e1⟩ := place5 t
  have b0 : (((cfg0.win 5).blk t).view.emb (ValueIdx.ix2 p q) 0).val = win0_5.index t (0 : Fin 2) * 544 + 1 * p.val := rfl
  have b1 : (((cfg0.win 5).blk t).view.emb (ValueIdx.ix2 p q) 1).val = win0_5.index t (1 : Fin 2) * 1024 + 1 * q.val := rfl
  unfold iblk
  exact (read5 _ t _).trans (Prod.nat_idx _ _ _ _ (by rw [b0, e0, one_mul]) (by rw [b1, e1, one_mul]))

theorem place6 : ∀ t : Fin cfg0.N, win0_6.index t (0 : Fin 2) = 0 ∧ win0_6.index t (1 : Fin 2) = 0 := (by decide +kernel : ∀ t : Fin grid0.N, _)
theorem read6 (A : (⟨S1x1024, .f32⟩ : BufTy).Contents (Elt Ideal)) (t : Fin cfg0.N) (y : S1x1024.Idx) :
    ((cfg0.win 6).blk t).view.read (Elt Ideal) A y = A (((cfg0.win 6).blk t).view.emb y) := rfl
theorem blk6 (t : Fin cfg0.N) (p : Fin 1) (q : Fin 1024) :
    iblk m c 6 t (ValueIdx.ix2 p q) = A6 m c (0 * 1 + p.val) ((0) * 1024 + q.val) := by
  obtain ⟨e0, e1⟩ := place6 t
  have b0 : (((cfg0.win 6).blk t).view.emb (ValueIdx.ix2 p q) 0).val = win0_6.index t (0 : Fin 2) * 1 + 1 * p.val := rfl
  have b1 : (((cfg0.win 6).blk t).view.emb (ValueIdx.ix2 p q) 1).val = win0_6.index t (1 : Fin 2) * 1024 + 1 * q.val := rfl
  unfold iblk
  exact (read6 _ t _).trans (Prod.nat_idx _ _ _ _ (by rw [b0, e0, one_mul]) (by rw [b1, e1, one_mul]))

theorem place7 : ∀ t : Fin cfg0.N, win0_7.index t (0 : Fin 2) = 0 ∧ win0_7.index t (1 : Fin 2) = 0 := (by decide +kernel : ∀ t : Fin grid0.N, _)
theorem read7 (A : (⟨S1x1024, .f32⟩ : BufTy).Contents (Elt Ideal)) (t : Fin cfg0.N) (y : S1x1024.Idx) :
    ((cfg0.win 7).blk t).view.read (Elt Ideal) A y = A (((cfg0.win 7).blk t).view.emb y) := rfl
theorem blk7 (t : Fin cfg0.N) (p : Fin 1) (q : Fin 1024) :
    iblk m c 7 t (ValueIdx.ix2 p q) = A7 m c (0 * 1 + p.val) ((0) * 1024 + q.val) := by
  obtain ⟨e0, e1⟩ := place7 t
  have b0 : (((cfg0.win 7).blk t).view.emb (ValueIdx.ix2 p q) 0).val = win0_7.index t (0 : Fin 2) * 1 + 1 * p.val := rfl
  have b1 : (((cfg0.win 7).blk t).view.emb (ValueIdx.ix2 p q) 1).val = win0_7.index t (1 : Fin 2) * 1024 + 1 * q.val := rfl
  unfold iblk
  exact (read7 _ t _).trans (Prod.nat_idx _ _ _ _ (by rw [b0, e0, one_mul]) (by rw [b1, e1, one_mul]))

/-- The part of the joined row a point reads. -/
theorem seg0 (t : Fin cfg0.N) (hk : t.val % 4 ≤ 1) (p : Fin 544) (d : Fin 1408) :
    iblk m c 0 t (ValueIdx.ix2 p d) = cat m c (t.val / 4 * 544 + p.val) (1408 * (t.val % 4) + d.val) := by
  have hd := d.isLt
  rw [blk0 m c t hk p d]
  unfold cat
  rw [if_pos (by omega)]
  exact congrArg (A0 m c _) (by omega)

theorem seg1 (t : Fin cfg0.N) (hk : 2 ≤ t.val % 4) (p : Fin 544) (d : Fin 1408) :
    iblk m c 1 t (ValueIdx.ix2 p d) = cat m c (t.val / 4 * 544 + p.val) (1408 * (t.val % 4) + d.val) := by
  have hd := d.isLt
  rw [blk1 m c t hk p d]
  unfold cat
  rw [if_neg (by omega)]
  exact congrArg (A1 m c _) (by omega)

end Cert.UpBack

end
-- ==== Proof.UpBackGrid.lean ====
/- The accumulator and the results of the gradient through the up projection, point by point. -/
module

public import proofs.«01_k».proof.Proof.UpBackPoint
public import proofs.«01_k».proof.Proof.UpBackPay
public import proofs.«01_k».proof.Proof.UpBackBlocks

@[expose] public section

set_option maxRecDepth 16384

noncomputable section

namespace Cert.UpBack

open Idealize.ShloMosaic Idealize.ShloMosaic.TcCoe Cert.UpBwdIdeal Gen
open scoped BigOperators

variable (m : (ℓ : Loc nD τ sig) → Buf (Elt Ideal) ℓ) (c : Dev nD)

/-- What the points before a point left. -/
abbrev before (t : Fin cfg0.N) : Vec Ideal S544x1024 .f32 × Vec Ideal S544x1024 .bf16 × Vec Ideal S1x1024 .f32 × Vec Ideal S1x1024 .f32 × Vec Ideal S544x1408 .bf16 × Vec Ideal S544x1024 .f32 :=
  outsAt0 m c (t.val - 1) (Nat.lt_of_le_of_lt (Nat.sub_le _ _) t.isLt)

theorem step_A (t : Fin cfg0.N) (hk : t.val % 4 = 0) :
    (outsAt0 m c t.val t.isLt).2.2.2.2.2 = k0_pay2 (F := Ideal) (k0_pay1 (F := Ideal)) (iblk m c 0 t) (iblk m c 2 t) := by
  refine (congrArg (fun o => o.2.2.2.2.2) (outsAt0_A m c t (by omega) (by omega) (by omega) (by omega))).trans ?_
  dsimp only
  apply acc_A
theorem copied_A (t : Fin cfg0.N) (hk : t.val % 4 = 0) :
    (outsAt0 m c t.val t.isLt).2.2.2.2.1 = iblk m c 0 t := by
  refine (congrArg (fun o => o.2.2.2.2.1) (outsAt0_A m c t (by omega) (by omega) (by omega) (by omega))).trans ?_
  dsimp only
  apply copy_A
theorem keep10_A (t : Fin cfg0.N) (hk : t.val % 4 = 0) :
    (outsAt0 m c t.val t.isLt).2.2.1 = (before m c t).2.2.1 := by
  refine (congrArg (fun o => o.2.2.1) (outsAt0_A m c t (by omega) (by omega) (by omega) (by omega))).trans ?_
  dsimp only
  unfold out0_A_10
  rfl
theorem keep11_A (t : Fin cfg0.N) (hk : t.val % 4 = 0) :
    (outsAt0 m c t.val t.isLt).2.2.2.1 = (before m c t).2.2.2.1 := by
  refine (congrArg (fun o => o.2.2.2.1) (outsAt0_A m c t (by omega) (by omega) (by omega) (by omega))).trans ?_
  dsimp only
  unfold out0_A_11
  rfl

theorem step_B (t : Fin cfg0.N) (hk : t.val % 4 = 1) :
    (outsAt0 m c t.val t.isLt).2.2.2.2.2 = k0_pay2 (F := Ideal) (before m c t).2.2.2.2.2 (iblk m c 0 t) (iblk m c 2 t) := by
  refine (congrArg (fun o => o.2.2.2.2.2) (outsAt0_B m c t (by omega) (by omega) (by omega) (by omega))).trans ?_
  dsimp only
  apply acc_B
theorem copied_B (t : Fin cfg0.N) (hk : t.val % 4 = 1) :
    (outsAt0 m c t.val t.isLt).2.2.2.2.1 = iblk m c 0 t := by
  refine (congrArg (fun o => o.2.2.2.2.1) (outsAt0_B m c t (by omega) (by omega) (by omega) (by omega))).trans ?_
  dsimp only
  apply copy_B
theorem keep10_B (t : Fin cfg0.N) (hk : t.val % 4 = 1) :
    (outsAt0 m c t.val t.isLt).2.2.1 = (before m c t).2.2.1 := by
  refine (congrArg (fun o => o.2.2.1) (outsAt0_B m c t (by omega) (by omega) (by omega) (by omega))).trans ?_
  dsimp only
  unfold out0_B_10
  rfl
theorem keep11_B (t : Fin cfg0.N) (hk : t.val % 4 = 1) :
    (outsAt0 m c t.val t.isLt).2.2.2.1 = (before m c t).2.2.2.1 := by
  refine (congrArg (fun o => o.2.2.2.1) (outsAt0_B m c t (by omega) (by omega) (by omega) (by omega))).trans ?_
  dsimp only
  unfold out0_B_11
  rfl

theorem step_C (t : Fin cfg0.N) (hk : t.val % 4 = 2) :
    (outsAt0 m c t.val t.isLt).2.2.2.2.2 = k0_pay3 (F := Ideal) (before m c t).2.2.2.2.2 (iblk m c 1 t) (iblk m c 2 t) := by
  refine (congrArg (fun o => o.2.2.2.2.2) (outsAt0_C m c t (by omega) (by omega) (by omega) (by omega))).trans ?_
  dsimp only
  apply acc_C
theorem copied_C (t : Fin cfg0.N) (hk : t.val % 4 = 2) :
    (outsAt0 m c t.val t.isLt).2.2.2.2.1 = iblk m c 1 t := by
  refine (congrArg (fun o => o.2.2.2.2.1) (outsAt0_C m c t (by omega) (by omega) (by omega) (by omega))).trans ?_
  dsimp only
  apply copy_C
theorem keep10_C (t : Fin cfg0.N) (hk : t.val % 4 = 2) :
    (outsAt0 m c t.val t.isLt).2.2.1 = (before m c t).2.2.1 := by
  refine (congrArg (fun o => o.2.2.1) (outsAt0_C m c t (by omega) (by omega) (by omega) (by omega))).trans ?_
  dsimp only
  unfold out0_C_10
  rfl
theorem keep11_C (t : Fin cfg0.N) (hk : t.val % 4 = 2) :
    (outsAt0 m c t.val t.isLt).2.2.2.1 = (before m c t).2.2.2.1 := by
  refine (congrArg (fun o => o.2.2.2.1) (outsAt0_C m c t (by omega) (by omega) (by omega) (by omega))).trans ?_
  dsimp only
  unfold out0_C_11
  rfl

theorem step_D (t : Fin cfg0.N) (hk : t.val % 4 = 3) (h : t.val < 4) :
    (outsAt0 m c t.val t.isLt).2.2.2.2.2 = k0_pay3 (F := Ideal) (before m c t).2.2.2.2.2 (iblk m c 1 t) (iblk m c 2 t) := by
  refine (congrArg (fun o => o.2.2.2.2.2) (outsAt0_D m c t (by omega) (by omega) (by omega) (by omega) (by omega) (by omega) (by omega) (by omega))).trans ?_
  dsimp only
  apply acc_D
theorem copied_D (t : Fin cfg0.N) (hk : t.val % 4 = 3) (h : t.val < 4) :
    (outsAt0 m c t.val t.isLt).2.2.2.2.1 = iblk m c 1 t := by
  refine (congrArg (fun o => o.2.2.2.2.1) (outsAt0_D m c t (by omega) (by omega) (by omega) (by omega) (by omega) (by omega) (by omega) (by omega))).trans ?_
  dsimp only
  apply copy_D
theorem res_D (t : Fin cfg0.N) (hk : t.val % 4 = 3) (h : t.val < 4) :
    (outsAt0 m c t.val t.isLt).1 = k0_pay13 (F := Ideal) (outsAt0 m c t.val t.isLt).2.2.2.2.2 (iblk m c 3 t) (iblk m c 4 t) (iblk m c 6 t) := by
  rw [step_D m c t hk h]
  refine (congrArg (fun o => o.1) (outsAt0_D m c t (by omega) (by omega) (by omega) (by omega) (by omega) (by omega) (by omega) (by omega))).trans ?_
  dsimp only
  apply Cert.UpBack.out_D
theorem mix_D (t : Fin cfg0.N) (hk : t.val % 4 = 3) (h : t.val < 4) :
    (outsAt0 m c t.val t.isLt).2.1 = k0_pay7 (F := Ideal) (iblk m c 5 t) (iblk m c 7 t) (outsAt0 m c t.val t.isLt).1 (k0_pay14 (F := Ideal) (iblk m c 5 t)) := by
  rw [res_D m c t hk h, step_D m c t hk h]
  refine (congrArg (fun o => o.2.1) (outsAt0_D m c t (by omega) (by omega) (by omega) (by omega) (by omega) (by omega) (by omega) (by omega))).trans ?_
  dsimp only
  apply Cert.UpBack.omix_D
theorem sum_D (t : Fin cfg0.N) (hk : t.val % 4 = 3) (h : t.val < 4) :
    (outsAt0 m c t.val t.isLt).2.2.1 = k0_pay12 (F := Ideal) (outsAt0 m c t.val t.isLt).2.2.2.2.2 (iblk m c 3 t) := by
  rw [step_D m c t hk h]
  refine (congrArg (fun o => o.2.2.1) (outsAt0_D m c t (by omega) (by omega) (by omega) (by omega) (by omega) (by omega) (by omega) (by omega))).trans ?_
  dsimp only
  apply Cert.UpBack.osum_D
theorem msum_D (t : Fin cfg0.N) (hk : t.val % 4 = 3) (h : t.val < 4) :
    (outsAt0 m c t.val t.isLt).2.2.2.1 = k0_pay6 (F := Ideal) (iblk m c 5 t) (outsAt0 m c t.val t.isLt).1 (k0_pay14 (F := Ideal) (iblk m c 5 t)) := by
  rw [res_D m c t hk h, step_D m c t hk h]
  refine (congrArg (fun o => o.2.2.2.1) (outsAt0_D m c t (by omega) (by omega) (by omega) (by omega) (by omega) (by omega) (by omega) (by omega))).trans ?_
  dsimp only
  apply Cert.UpBack.omsum_D

theorem step_E (t : Fin cfg0.N) (hk : t.val % 4 = 3) (h : 4 ≤ t.val) :
    (outsAt0 m c t.val t.isLt).2.2.2.2.2 = k0_pay3 (F := Ideal) (before m c t).2.2.2.2.2 (iblk m c 1 t) (iblk m c 2 t) := by
  refine (congrArg (fun o => o.2.2.2.2.2) (outsAt0_E m c t (by omega) (by omega) (by omega) (by omega) (by omega) (by omega) (by omega) (by omega))).trans ?_
  dsimp only
  apply acc_E
theorem copied_E (t : Fin cfg0.N) (hk : t.val % 4 = 3) (h : 4 ≤ t.val) :
    (outsAt0 m c t.val t.isLt).2.2.2.2.1 = iblk m c 1 t := by
  refine (congrArg (fun o => o.2.2.2.2.1) (outsAt0_E m c t (by omega) (by omega) (by omega) (by omega) (by omega) (by omega) (by omega) (by omega))).trans ?_
  dsimp only
  apply copy_E
theorem res_E (t : Fin cfg0.N) (hk : t.val % 4 = 3) (h : 4 ≤ t.val) :
    (outsAt0 m c t.val t.isLt).1 = k0_pay13 (F := Ideal) (outsAt0 m c t.val t.isLt).2.2.2.2.2 (iblk m c 3 t) (iblk m c 4 t) (iblk m c 6 t) := by
  rw [step_E m c t hk h]
  refine (congrArg (fun o => o.1) (outsAt0_E m c t (by omega) (by omega) (by omega) (by omega) (by omega) (by omega) (by omega) (by omega))).trans ?_
  dsimp only
  apply Cert.UpBack.out_E
theorem mix_E (t : Fin cfg0.N) (hk : t.val % 4 = 3) (h : 4 ≤ t.val) :
    (outsAt0 m c t.val t.isLt).2.1 = k0_pay7 (F := Ideal) (iblk m c 5 t) (iblk m c 7 t) (outsAt0 m c t.val t.isLt).1 (k0_pay14 (F := Ideal) (iblk m c 5 t)) := by
  rw [res_E m c t hk h, step_E m c t hk h]
  refine (congrArg (fun o => o.2.1) (outsAt0_E m c t (by omega) (by omega) (by omega) (by omega) (by omega) (by omega) (by omega) (by omega))).trans ?_
  dsimp only
  apply Cert.UpBack.omix_E
theorem sum_E (t : Fin cfg0.N) (hk : t.val % 4 = 3) (h : 4 ≤ t.val) :
    (outsAt0 m c t.val t.isLt).2.2.1 = k0_pay8 (F := Ideal) (k0_pay12 (F := Ideal) (outsAt0 m c t.val t.isLt).2.2.2.2.2 (iblk m c 3 t)) (before m c t).2.2.1 := by
  rw [step_E m c t hk h]
  refine (congrArg (fun o => o.2.2.1) (outsAt0_E m c t (by omega) (by omega) (by omega) (by omega) (by omega) (by omega) (by omega) (by omega))).trans ?_
  dsimp only
  apply Cert.UpBack.osum_E
theorem msum_E (t : Fin cfg0.N) (hk : t.val % 4 = 3) (h : 4 ≤ t.val) :
    (outsAt0 m c t.val t.isLt).2.2.2.1 = k0_pay9 (F := Ideal) (iblk m c 5 t) (outsAt0 m c t.val t.isLt).1 (k0_pay14 (F := Ideal) (iblk m c 5 t)) (before m c t).2.2.2.1 := by
  rw [res_E m c t hk h, step_E m c t hk h]
  refine (congrArg (fun o => o.2.2.2.1) (outsAt0_E m c t (by omega) (by omega) (by omega) (by omega) (by omega) (by omega) (by omega) (by omega))).trans ?_
  dsimp only
  apply Cert.UpBack.omsum_E

/-- The rows' products with the weights, over the columns read so far. -/
def pair (p j g : ℕ) : EReal := cat m c p g * A2 m c j g
def part (n p j : ℕ) : EReal := ∑ g ∈ Finset.range n, pair m c p j g

theorem first (f : ℕ → EReal) (k : ℕ) : ∑ d : Fin k, f (0 + d.val) = ∑ i ∈ Finset.range (0 + k), f i := by
  have e := Prod.sum_more f 0 k
  rwa [Finset.sum_range_zero, zero_add] at e

theorem step (t : Fin cfg0.N) (p : Fin 544) (j : Fin 1024) (x : Vec Ideal S544x1408 .bf16)
    (hx : ∀ d : Fin 1408, x (ValueIdx.ix2 p d) = cat m c (t.val / 4 * 544 + p.val) (1408 * (t.val % 4) + d.val)) :
    Prod.nt x (iblk m c 2 t) p j = ∑ d : Fin 1408, pair m c (t.val / 4 * 544 + p.val) j.val (1408 * (t.val % 4) + d.val) := by
  refine Finset.sum_congr rfl fun d _ => ?_
  rw [hx d, blk2 m c t j d]
  unfold pair
  show _ = cat m c (t.val / 4 * 544 + p.val) (1408 * (t.val % 4) + d.val) * A2 m c j.val (1408 * (t.val % 4) + d.val)
  exact congrArg₂ (fun a b => cat m c (t.val / 4 * 544 + p.val) (1408 * (t.val % 4) + d.val) * A2 m c a b) (by omega) (by omega)

/-- The accumulator after each point. -/
theorem acc_at (n : ℕ) : ∀ hn : n < cfg0.N, ∀ (p : Fin 544) (j : Fin 1024),
    (outsAt0 m c n hn).2.2.2.2.2 (ValueIdx.ix2 p j) = part m c (1408 * (n % 4) + 1408) (n / 4 * 544 + p.val) j.val := by
  induction n with
  | zero =>
    intro hn p j
    refine (congrFun (step_A m c ⟨0, hn⟩ rfl) _).trans ?_
    rw [pay2_apply, pay1_apply, step m c ⟨0, hn⟩ p j _ fun d => seg0 m c ⟨0, hn⟩ (Nat.zero_le _) p d]
    exact (zero_add _).trans (first (pair m c (0 / 4 * 544 + p.val) j.val) 1408)
  | succ n ih =>
    intro hn p j
    have hb : ∀ p : Fin 544, n % 4 ≠ 3 → (before m c ⟨n + 1, hn⟩).2.2.2.2.2 (ValueIdx.ix2 p j) = part m c (1408 * ((n + 1) % 4)) ((n + 1) / 4 * 544 + p.val) j.val := fun p h => by
      refine (ih (by omega) p j).trans ?_
      rw [show 1408 * (n % 4) + 1408 = 1408 * ((n + 1) % 4) by omega, show n / 4 = (n + 1) / 4 by omega]
    have h4 : (n + 1) % 4 < 4 := Nat.mod_lt _ (by omega)
    generalize hk : (n + 1) % 4 = k at h4
    interval_cases k
    · refine (congrFun (step_A m c ⟨n + 1, hn⟩ hk) _).trans ?_
      rw [pay2_apply, pay1_apply, step m c ⟨n + 1, hn⟩ p j _ fun d => seg0 m c ⟨n + 1, hn⟩ (show (n + 1) % 4 ≤ 1 by omega) p d]
      simp only [hk]
      exact (zero_add _).trans (first (pair m c ((n + 1) / 4 * 544 + p.val) j.val) 1408)
    · refine (congrFun (step_B m c ⟨n + 1, hn⟩ hk) _).trans ?_
      rw [pay2_apply, hb p (by omega), step m c ⟨n + 1, hn⟩ p j _ fun d => seg0 m c ⟨n + 1, hn⟩ (show (n + 1) % 4 ≤ 1 by omega) p d]
      simp only [hk]
      exact Prod.sum_more (pair m c ((n + 1) / 4 * 544 + p.val) j.val) _ 1408
    · refine (congrFun (step_C m c ⟨n + 1, hn⟩ hk) _).trans ?_
      rw [pay3_apply, hb p (by omega), step m c ⟨n + 1, hn⟩ p j _ fun d => seg1 m c ⟨n + 1, hn⟩ (show 2 ≤ (n + 1) % 4 by omega) p d]
      simp only [hk]
      exact Prod.sum_more (pair m c ((n + 1) / 4 * 544 + p.val) j.val) _ 1408
    · have hs : (outsAt0 m c (n + 1) hn).2.2.2.2.2 = k0_pay3 (F := Ideal) (before m c ⟨n + 1, hn⟩).2.2.2.2.2 (iblk m c 1 ⟨n + 1, hn⟩) (iblk m c 2 ⟨n + 1, hn⟩) := by
        rcases Nat.lt_or_ge (n + 1) 4 with h | h
        · exact step_D m c ⟨n + 1, hn⟩ hk h
        · exact step_E m c ⟨n + 1, hn⟩ hk h
      refine (congrFun (hs) _).trans ?_
      rw [pay3_apply, hb p (by omega), step m c ⟨n + 1, hn⟩ p j _ fun d => seg1 m c ⟨n + 1, hn⟩ (show 2 ≤ (n + 1) % 4 by omega) p d]
      simp only [hk]
      exact Prod.sum_more (pair m c ((n + 1) / 4 * 544 + p.val) j.val) _ 1408

/-- The whole product, the rows of the two normed inputs, and the gradient at the first result. -/
def dz (p j : ℕ) : EReal := part m c 5632 p j
def hrow (p : ℕ) : Fin 1024 → EReal := fun k => A3 m c p k.val
def mrow (p : ℕ) : Fin 1024 → EReal := fun k => A5 m c p k.val
def dh (p : ℕ) (j : Fin 1024) : EReal := A4 m c p j.val + Norm.back (hrow m c p) (fun k => dz m c p k.val * A6 m c 0 k.val) j

theorem acc_full (t : Fin cfg0.N) (hk : t.val % 4 = 3) (p : Fin 544) (j : Fin 1024) :
    (outsAt0 m c t.val t.isLt).2.2.2.2.2 (ValueIdx.ix2 p j) = dz m c (t.val / 4 * 544 + p.val) j.val := by
  rw [acc_at m c t.val t.isLt p j, hk]; rfl

theorem row3_at (t : Fin cfg0.N) (p : Fin 544) : row (iblk m c 3 t) p = hrow m c (t.val / 4 * 544 + p.val) := by
  funext k
  refine (blk3 m c t p k).trans ?_
  exact congrArg (A3 m c _) (by omega)

theorem row5_at (t : Fin cfg0.N) (p : Fin 544) : row (iblk m c 5 t) p = mrow m c (t.val / 4 * 544 + p.val) := by
  funext k
  refine (blk5 m c t p k).trans ?_
  exact congrArg (A5 m c _) (by omega)

/-- The first result's block. -/
theorem res_at (t : Fin cfg0.N) (hk : t.val % 4 = 3) (p : Fin 544) (j : Fin 1024) :
    (outsAt0 m c t.val t.isLt).1 (ValueIdx.ix2 p j) = dh m c (t.val / 4 * 544 + p.val) j := by
  have e : (outsAt0 m c t.val t.isLt).1 = k0_pay13 (F := Ideal) (outsAt0 m c t.val t.isLt).2.2.2.2.2 (iblk m c 3 t) (iblk m c 4 t) (iblk m c 6 t) := by
    rcases Nat.lt_or_ge t.val 4 with h | h
    · exact res_D m c t hk h
    · exact res_E m c t hk h
  have e4 : iblk m c 4 t (ValueIdx.ix2 p j) = A4 m c (t.val / 4 * 544 + p.val) j.val := (blk4 m c t p j).trans (congrArg (A4 m c _) (by omega))
  have et : (fun k : Fin 1024 => (outsAt0 m c t.val t.isLt).2.2.2.2.2 (ValueIdx.ix2 p k) * iblk m c 6 t (ValueIdx.ix2 0 k)) = fun k => dz m c (t.val / 4 * 544 + p.val) k.val * A6 m c 0 k.val := by
    funext k
    rw [acc_full m c t hk p k, blk6 m c t 0 k]
    exact congrArg (fun b => dz m c (t.val / 4 * 544 + p.val) k.val * A6 m c 0 b) (by omega)
  refine (congrFun e _).trans ((pay13_apply _ _ _ _ p j).trans ?_)
  rw [e4, row3_at, et]
  rfl

/-- The second result's block. -/
theorem mix_at (t : Fin cfg0.N) (hk : t.val % 4 = 3) (p : Fin 544) (j : Fin 1024) :
    (outsAt0 m c t.val t.isLt).2.1 (ValueIdx.ix2 p j) = Norm.back (mrow m c (t.val / 4 * 544 + p.val)) (fun k => dh m c (t.val / 4 * 544 + p.val) k * A7 m c 0 k.val) j := by
  have e : (outsAt0 m c t.val t.isLt).2.1 = k0_pay7 (F := Ideal) (iblk m c 5 t) (iblk m c 7 t) (outsAt0 m c t.val t.isLt).1 (k0_pay14 (F := Ideal) (iblk m c 5 t)) := by
    rcases Nat.lt_or_ge t.val 4 with h | h
    · exact mix_D m c t hk h
    · exact mix_E m c t hk h
  have et : (fun k : Fin 1024 => (outsAt0 m c t.val t.isLt).1 (ValueIdx.ix2 p k) * iblk m c 7 t (ValueIdx.ix2 0 k)) = fun k => dh m c (t.val / 4 * 544 + p.val) k * A7 m c 0 k.val := by
    funext k
    rw [res_at m c t hk p k, blk7 m c t 0 k]
    exact congrArg (fun b => dh m c (t.val / 4 * 544 + p.val) k * A7 m c 0 b) (by omega)
  refine (congrFun e _).trans ((pay7_apply (outsAt0 m c t.val t.isLt).1 (iblk m c 5 t) (iblk m c 7 t) p j).trans ?_)
  rw [row5_at, et]

/-- The joined rows, copied block by block. -/
theorem copy_at (t : Fin cfg0.N) (p : Fin 544) (d : Fin 1408) :
    (outsAt0 m c t.val t.isLt).2.2.2.2.1 (ValueIdx.ix2 p d) = cat m c (t.val / 4 * 544 + p.val) (1408 * (t.val % 4) + d.val) := by
  have h4 : t.val % 4 < 4 := Nat.mod_lt _ (by omega)
  obtain hk | hk | hk | hk : t.val % 4 = 0 ∨ t.val % 4 = 1 ∨ t.val % 4 = 2 ∨ t.val % 4 = 3 := by omega
  · exact (congrFun (copied_A m c t hk) _).trans (seg0 m c t (by omega) p d)
  · exact (congrFun (copied_B m c t hk) _).trans (seg0 m c t (by omega) p d)
  · exact (congrFun (copied_C m c t hk) _).trans (seg1 m c t (by omega) p d)
  · rcases Nat.lt_or_ge t.val 4 with h | h
    · exact (congrFun (copied_D m c t hk h) _).trans (seg1 m c t (by omega) p d)
    · exact (congrFun (copied_E m c t hk h) _).trans (seg1 m c t (by omega) p d)

/-- The two gains' gradients after each point: the rows done so far. -/
def term (j : Fin 1024) (p : ℕ) : EReal := dz m c p j.val * Norm.hat (hrow m c p) j
def mterm (j : Fin 1024) (p : ℕ) : EReal := dh m c p j * Norm.hat (mrow m c p) j
def rows (f : ℕ → EReal) (n : ℕ) : EReal := ∑ p ∈ Finset.range n, f p

theorem more (t : Fin cfg0.N) (hk : t.val % 4 = 3) (j : Fin 1024) :
    (∑ p : Fin 544, (outsAt0 m c t.val t.isLt).2.2.2.2.2 (ValueIdx.ix2 p j) * Norm.hat (row (iblk m c 3 t) p) j)
      = ∑ p : Fin 544, term m c j (t.val / 4 * 544 + p.val) := by
  refine Finset.sum_congr rfl fun p _ => ?_
  unfold term
  rw [acc_full m c t hk p j, row3_at]

theorem mmore (t : Fin cfg0.N) (hk : t.val % 4 = 3) (j : Fin 1024) :
    (∑ p : Fin 544, (outsAt0 m c t.val t.isLt).1 (ValueIdx.ix2 p j) * Norm.hat (row (iblk m c 5 t) p) j)
      = ∑ p : Fin 544, mterm m c j (t.val / 4 * 544 + p.val) := by
  refine Finset.sum_congr rfl fun p _ => ?_
  unfold mterm
  rw [res_at m c t hk p j, row5_at]

theorem sum_at (n : ℕ) : ∀ hn : n < cfg0.N, 3 ≤ n → ∀ j : Fin 1024,
    (outsAt0 m c n hn).2.2.1 (ValueIdx.ix2 0 j) = rows (term m c j) ((n + 1) / 4 * 544) := by
  induction n with
  | zero => intro _ h; omega
  | succ n ih =>
    intro hn h3 j
    have h4 : (n + 1) % 4 < 4 := Nat.mod_lt _ (by omega)
    have hq : (n + 1) % 4 ≠ 3 → (outsAt0 m c (n + 1) hn).2.2.1 = (before m c ⟨n + 1, hn⟩).2.2.1 → (outsAt0 m c (n + 1) hn).2.2.1 (ValueIdx.ix2 0 j) = rows (term m c j) ((n + 1 + 1) / 4 * 544) := fun hk e => by
      refine (congrFun e _).trans ((ih (by omega) (by omega) j).trans ?_)
      rw [show (n + 1) / 4 = (n + 1 + 1) / 4 by omega]
    generalize hk : (n + 1) % 4 = k at h4
    interval_cases k
    · exact hq (by omega) (keep10_A m c ⟨n + 1, hn⟩ hk)
    · exact hq (by omega) (keep10_B m c ⟨n + 1, hn⟩ hk)
    · exact hq (by omega) (keep10_C m c ⟨n + 1, hn⟩ hk)
    · rcases Nat.lt_or_ge (n + 1) 4 with h | h
      · refine (congrFun (sum_D m c ⟨n + 1, hn⟩ hk h) _).trans ((pay12_apply _ _ 0 j).trans ((more m c ⟨n + 1, hn⟩ hk j).trans ?_))
        have e1 : (n + 1) / 4 * 544 = 0 := by omega
        have e2 : (n + 1 + 1) / 4 * 544 = 0 + 544 := by omega
        simp only [e1, e2]
        exact first (term m c j) 544
      · refine (congrFun (sum_E m c ⟨n + 1, hn⟩ hk h) _).trans ((pay8_apply _ _ 0 j).trans ?_)
        rw [pay12_apply, more m c ⟨n + 1, hn⟩ hk j]
        have e : (before m c ⟨n + 1, hn⟩).2.2.1 (ValueIdx.ix2 0 j) = rows (term m c j) ((n + 1) / 4 * 544) := ih (by omega) (by omega) j
        rw [e, show (n + 1 + 1) / 4 * 544 = (n + 1) / 4 * 544 + 544 by omega]
        exact Prod.sum_more (term m c j) _ 544

theorem msum_at (n : ℕ) : ∀ hn : n < cfg0.N, 3 ≤ n → ∀ j : Fin 1024,
    (outsAt0 m c n hn).2.2.2.1 (ValueIdx.ix2 0 j) = rows (mterm m c j) ((n + 1) / 4 * 544) := by
  induction n with
  | zero => intro _ h; omega
  | succ n ih =>
    intro hn h3 j
    have h4 : (n + 1) % 4 < 4 := Nat.mod_lt _ (by omega)
    have hq : (n + 1) % 4 ≠ 3 → (outsAt0 m c (n + 1) hn).2.2.2.1 = (before m c ⟨n + 1, hn⟩).2.2.2.1 → (outsAt0 m c (n + 1) hn).2.2.2.1 (ValueIdx.ix2 0 j) = rows (mterm m c j) ((n + 1 + 1) / 4 * 544) := fun hk e => by
      refine (congrFun e _).trans ((ih (by omega) (by omega) j).trans ?_)
      rw [show (n + 1) / 4 = (n + 1 + 1) / 4 by omega]
    generalize hk : (n + 1) % 4 = k at h4
    interval_cases k
    · exact hq (by omega) (keep11_A m c ⟨n + 1, hn⟩ hk)
    · exact hq (by omega) (keep11_B m c ⟨n + 1, hn⟩ hk)
    · exact hq (by omega) (keep11_C m c ⟨n + 1, hn⟩ hk)
    · rcases Nat.lt_or_ge (n + 1) 4 with h | h
      · refine (congrFun (msum_D m c ⟨n + 1, hn⟩ hk h) _).trans ((pay6_apply _ _ 0 j).trans ((mmore m c ⟨n + 1, hn⟩ hk j).trans ?_))
        have e1 : (n + 1) / 4 * 544 = 0 := by omega
        have e2 : (n + 1 + 1) / 4 * 544 = 0 + 544 := by omega
        simp only [e1, e2]
        exact first (mterm m c j) 544
      · refine (congrFun (msum_E m c ⟨n + 1, hn⟩ hk h) _).trans ((pay9_apply _ _ _ 0 j).trans ?_)
        rw [mmore m c ⟨n + 1, hn⟩ hk j]
        have e : (before m c ⟨n + 1, hn⟩).2.2.2.1 (ValueIdx.ix2 0 j) = rows (mterm m c j) ((n + 1) / 4 * 544) := ih (by omega) (by omega) j
        rw [e, show (n + 1 + 1) / 4 * 544 = (n + 1) / 4 * 544 + 544 by omega]
        exact Prod.sum_more (mterm m c j) _ 544

end Cert.UpBack

end
-- ==== Proof.UpBackOut.lean ====
/- The five results of the gradient through the up projection and its two norms, as the arrays end. -/
module

public import proofs.«01_k».proof.Proof.UpBackGrid
public import proofs.«01_k».proof.Proof.Gen.UpBwdIdeal.Value

@[expose] public section

set_option maxRecDepth 16384

noncomputable section

namespace Cert.UpBack

open Idealize.ShloMosaic Idealize.ShloMosaic.TcCoe Cert.UpBwdIdeal Gen
open scoped BigOperators

variable (m : (ℓ : Loc nD τ sig) → Buf (Elt Ideal) ℓ) (c : Dev nD)

/-- The first result. -/
theorem G8_at (p : Fin 4352) (j : Fin 1024) : Value.G8 m c (ValueIdx.ix2 p j) = dh m c p.val j := by
  have hp := p.isLt
  have hj := j.isLt
  have e : Value.pt8Of (ValueIdx.ix2 p j) = 4 * (p.val / 544) + 3 := by
    show 4 * (1 * (p.val / 544 - 0) + 1 * (j.val / 1024 - 0)) + 3 = _
    omega
  have hn : Value.pt8Of (ValueIdx.ix2 p j) < cfg0.N := by rw [e]; exact lt_of_lt_of_eq (by omega) N_0.symm
  have hl : Value.loc8Of (ValueIdx.ix2 p j) = ValueIdx.ix2 (⟨p.val % 544, Nat.mod_lt _ (by decide)⟩ : Fin 544) j :=
    Prod.eq_pair _ _ _ rfl (by show j.val % 1024 = j.val; omega)
  unfold Value.G8
  rw [dif_pos hn, ← Value.outsAt0_sweep m c _ hn, hl]
  refine (res_at m c ⟨_, hn⟩ (by show Value.pt8Of (ValueIdx.ix2 p j) % 4 = 3; omega) _ j).trans ?_
  have er : Value.pt8Of (ValueIdx.ix2 p j) / 4 * 544 + p.val % 544 = p.val := by omega
  show dh m c (Value.pt8Of (ValueIdx.ix2 p j) / 4 * 544 + p.val % 544) j = _
  rw [er]

/-- The second result. -/
theorem G9_at (p : Fin 4352) (j : Fin 1024) : Value.G9 m c (ValueIdx.ix2 p j) = Norm.back (mrow m c p.val) (fun k => dh m c p.val k * A7 m c 0 k.val) j := by
  have hp := p.isLt
  have hj := j.isLt
  have e : Value.pt9Of (ValueIdx.ix2 p j) = 4 * (p.val / 544) + 3 := by
    show 4 * (1 * (p.val / 544 - 0) + 1 * (j.val / 1024 - 0)) + 3 = _
    omega
  have hn : Value.pt9Of (ValueIdx.ix2 p j) < cfg0.N := by rw [e]; exact lt_of_lt_of_eq (by omega) N_0.symm
  have hl : Value.loc9Of (ValueIdx.ix2 p j) = ValueIdx.ix2 (⟨p.val % 544, Nat.mod_lt _ (by decide)⟩ : Fin 544) j :=
    Prod.eq_pair _ _ _ rfl (by show j.val % 1024 = j.val; omega)
  unfold Value.G9
  rw [dif_pos hn, ← Value.outsAt0_sweep m c _ hn, hl]
  refine (mix_at m c ⟨_, hn⟩ (by show Value.pt9Of (ValueIdx.ix2 p j) % 4 = 3; omega) _ j).trans ?_
  have er : Value.pt9Of (ValueIdx.ix2 p j) / 4 * 544 + p.val % 544 = p.val := by omega
  show Norm.back (mrow m c (Value.pt9Of (ValueIdx.ix2 p j) / 4 * 544 + p.val % 544)) (fun k => dh m c (Value.pt9Of (ValueIdx.ix2 p j) / 4 * 544 + p.val % 544) k * A7 m c 0 k.val) j = _
  rw [er]

/-- The third result: a gain's gradient. -/
theorem G10_at (j : Fin 1024) : Value.G10 m c (ValueIdx.ix2 0 j) = rows (term m c j) 4352 := by
  have hn : 31 < cfg0.N := lt_of_lt_of_eq (by decide) N_0.symm
  rw [Value.G10_last, ← Value.outsAt0_sweep m c 31 hn]
  exact sum_at m c 31 hn (by decide) j

/-- The fourth result: a gain's gradient. -/
theorem G11_at (j : Fin 1024) : Value.G11 m c (ValueIdx.ix2 0 j) = rows (mterm m c j) 4352 := by
  have hn : 31 < cfg0.N := lt_of_lt_of_eq (by decide) N_0.symm
  rw [Value.G11_last, ← Value.outsAt0_sweep m c 31 hn]
  exact msum_at m c 31 hn (by decide) j

/-- The fifth result: the joined rows. -/
theorem G12_at (p : Fin 4352) (g : Fin 5632) : Value.G12 m c (ValueIdx.ix2 p g) = cat m c p.val g.val := by
  have hp := p.isLt
  have hg := g.isLt
  have e : Value.pt12Of (ValueIdx.ix2 p g) = 4 * (p.val / 544) + g.val / 1408 := by
    show 4 * (p.val / 544 - 0) + 1 * (g.val / 1408 - 0) = _
    omega
  have hn : Value.pt12Of (ValueIdx.ix2 p g) < cfg0.N := by rw [e]; exact lt_of_lt_of_eq (by omega) N_0.symm
  have hl : Value.loc12Of (ValueIdx.ix2 p g) = ValueIdx.ix2 (⟨p.val % 544, Nat.mod_lt _ (by decide)⟩ : Fin 544) (⟨g.val % 1408, Nat.mod_lt _ (by decide)⟩ : Fin 1408) :=
    Prod.eq_pair _ _ _ rfl rfl
  unfold Value.G12
  rw [dif_pos hn, ← Value.outsAt0_sweep m c _ hn, hl]
  refine (copy_at m c ⟨_, hn⟩ _ _).trans ?_
  have er : Value.pt12Of (ValueIdx.ix2 p g) / 4 * 544 + p.val % 544 = p.val := by omega
  have eg : 1408 * (Value.pt12Of (ValueIdx.ix2 p g) % 4) + g.val % 1408 = g.val := by omega
  show cat m c (Value.pt12Of (ValueIdx.ix2 p g) / 4 * 544 + p.val % 544) (1408 * (Value.pt12Of (ValueIdx.ix2 p g) % 4) + g.val % 1408) = _
  rw [er, eg]

end Cert.UpBack

end
-- ==== Proof.UpBackRef.lean ====
/- The reference of the gradient through the up projection and its two norms, entry by entry. -/
module

public import proofs.«01_k».proof.Proof.Norm
public import proofs.«01_k».proof.Proof.Nat2
public import proofs.«01_k».proof.Proof.Gen.UpBwdRefIdeal.Read

@[expose] public section

set_option maxRecDepth 16384

noncomputable section

namespace Cert.UpBack

open Idealize.ShloMosaic Cert.UpBwdRefIdeal Cert.UpBwdRefIdeal.Read
open scoped BigOperators

variable (x0 : (⟨S4352x2816, .bf16⟩ : BufTy).Contents (Elt Ideal)) (x1 : (⟨S4352x2816, .bf16⟩ : BufTy).Contents (Elt Ideal)) (x2 : (⟨S1024x5632, .bf16⟩ : BufTy).Contents (Elt Ideal)) (x3 : (⟨S4352x1024, .f32⟩ : BufTy).Contents (Elt Ideal)) (x4 : (⟨S4352x1024, .f32⟩ : BufTy).Contents (Elt Ideal)) (x5 : (⟨S4352x1024, .f32⟩ : BufTy).Contents (Elt Ideal)) (x6 : (⟨S1x1024, .f32⟩ : BufTy).Contents (Elt Ideal)) (x7 : (⟨S1x1024, .f32⟩ : BufTy).Contents (Elt Ideal))

/-- A row of a normed matrix. -/
abbrev hr (x : (⟨S4352x1024, .f32⟩ : BufTy).Contents (Elt Ideal)) (p : Fin 4352) : Fin 1024 → EReal := fun k => x (ValueIdx.ix2 p k)

/-- The rows' products with the weights. -/
abbrev rz (p : Fin 4352) (j : Fin 1024) : EReal := val_main_v19 (F := Ideal) x0 x1 x2 (ValueIdx.ix2 p j)

theorem ref8 (p : Fin 4352) (i : S4352x1.Idx) (hi : (i 0).val = p.val) : val_main_v8 (F := Ideal) x3 i = Norm.me (hr x3 p) := by
  have e3 : val_main_v3 (F := Ideal) x3 (idx_main_v4 i) = ∑ k : Fin 1024, hr x3 p k * hr x3 p k := by
    rw [val_main_v3_apply]
    refine (congrArg (· + _) Norm.zero_eq).trans ((zero_add _).trans (Finset.sum_congr rfl fun k _ => ?_))
    have e := Prod.eq_pair (idx_main_v3 (idx_main_v4 i) k) p k hi rfl
    rw [val_main_v2_apply, e]; rfl
  rw [val_main_v8_apply, val_main_v6_apply, val_main_v4_apply, e3]; rfl

theorem ref9 (p : Fin 4352) (i : S4352x1.Idx) (hi : (i 0).val = p.val) : val_main_v9 (F := Ideal) x3 i = Norm.rs (hr x3 p) := by
  rw [val_main_v9_apply, ref8 x3 p i hi]; rfl

theorem ref12 (p : Fin 4352) (i : S4352x1.Idx) (hi : (i 0).val = p.val) :
    val_main_v12 (F := Ideal) x3 i = Norm.half * Ideal.div (Norm.rs (hr x3 p)) (Norm.me (hr x3 p)) := by
  rw [val_main_v12_apply, val_main_v10_apply, ref9 x3 p i hi, ref8 x3 p i hi]; rfl

theorem ref24 (p : Fin 4352) (j : Fin 1024) : val_main_v24 (F := Ideal) x0 x1 x2 x6 (ValueIdx.ix2 p j) = rz x0 x1 x2 p j * x6 (ValueIdx.ix2 0 j) := by
  have e := Prod.eq_pair (idx_main_v23 (ValueIdx.ix2 p j)) 0 j rfl rfl
  rw [val_main_v24_apply, val_main_v23_apply, e]; rfl

/-- The gradient of the normed row. -/
abbrev tr (p : Fin 4352) : Fin 1024 → EReal := fun k => rz x0 x1 x2 p k * x6 (ValueIdx.ix2 0 k)

theorem ref30 (p : Fin 4352) (i : S4352x1.Idx) (hi : (i 0).val = p.val) :
    val_main_v32 (F := Ideal) x0 x1 x2 x3 x6 i = Norm.thru (hr x3 p) (tr x0 x1 x2 x6 p) := by
  have e27 : val_main_v27 (F := Ideal) x0 x1 x2 x3 x6 i = ∑ k : Fin 1024, hr x3 p k * tr x0 x1 x2 x6 p k := by
    rw [val_main_v27_apply, val_main_v26_apply]
    refine (congrArg (· + _) Norm.zero_eq).trans ((zero_add _).trans (Finset.sum_congr rfl fun k _ => ?_))
    have h1 : (i 1).val < 1 := (i 1).isLt
    have e := Prod.eq_pair (idx_main_v26 (idx_main_v27 i) k) p k (by show (i 0).val * 1 + (i 1).val = _; omega) rfl
    rw [val_main_v25_apply, e, ref24]; rfl
  rw [val_main_v32_apply, val_main_v30_apply, e27, ref12 x3 p i hi]; rfl

theorem ref34 (p : Fin 4352) (j : Fin 1024) :
    val_main_v34 (F := Ideal) x0 x1 x2 x3 x6 (ValueIdx.ix2 p j) = Norm.thru (hr x3 p) (tr x0 x1 x2 x6 p) := by
  rw [val_main_v34_apply, val_main_v33_apply]
  refine (congrArg (· + _) Norm.zero_eq).trans ((zero_add _).trans ((Fin.sum_univ_one _).trans ?_))
  exact ref30 x0 x1 x2 x3 x6 p _ rfl

theorem ref22 (j : Fin 1024) :
    val_main_v22 (F := Ideal) x0 x1 x2 x3 (ValueIdx.ix2 0 j) = ∑ p : Fin 4352, rz x0 x1 x2 p j * Norm.hat (hr x3 p) j := by
  rw [val_main_v22_apply, val_main_v21_apply]
  refine (congrArg (· + _) Norm.zero_eq).trans ((zero_add _).trans (Finset.sum_congr rfl fun p _ => ?_))
  have e := Prod.eq_pair (idx_main_v21 (idx_main_v22 (ValueIdx.ix2 0 j)) p) p j rfl (by show 0 * 1024 + j.val = j.val; omega)
  rw [e, val_main_v20_apply, val_main_v14_apply, val_main_v13_apply, ref9 x3 p _ rfl]
  exact mul_comm _ _

/-- The reference's first result. -/
theorem ref39 (p : Fin 4352) (j : Fin 1024) :
    val_main_v39 (F := Ideal) x0 x1 x2 x3 x4 x6 (ValueIdx.ix2 p j) = x4 (ValueIdx.ix2 p j) + Norm.deriv (hr x3 p) (tr x0 x1 x2 x6 p) j := by
  rw [val_main_v39_apply, val_main_v38_apply, val_main_v36_apply, val_main_v37_apply, val_main_v35_apply, val_main_v29_apply, val_main_v28_apply,
    ref34, ref24, ref9 x3 p _ rfl]
  rfl

/-- The first result's entries. -/
abbrev rd (p : Fin 4352) (j : Fin 1024) : EReal := val_main_v39 (F := Ideal) x0 x1 x2 x3 x4 x6 (ValueIdx.ix2 p j)

theorem ref46 (p : Fin 4352) (i : S4352x1.Idx) (hi : (i 0).val = p.val) : val_main_v46 (F := Ideal) x5 i = Norm.me (hr x5 p) := by
  have e3 : val_main_v41 (F := Ideal) x5 (idx_main_v42 i) = ∑ k : Fin 1024, hr x5 p k * hr x5 p k := by
    rw [val_main_v41_apply]
    refine (congrArg (· + _) Norm.zero_eq).trans ((zero_add _).trans (Finset.sum_congr rfl fun k _ => ?_))
    have e := Prod.eq_pair (idx_main_v41 (idx_main_v42 i) k) p k hi rfl
    rw [val_main_v40_apply, e]; rfl
  rw [val_main_v46_apply, val_main_v44_apply, val_main_v42_apply, e3]; rfl

theorem ref47 (p : Fin 4352) (i : S4352x1.Idx) (hi : (i 0).val = p.val) : val_main_v47 (F := Ideal) x5 i = Norm.rs (hr x5 p) := by
  rw [val_main_v47_apply, ref46 x5 p i hi]; rfl

theorem ref50 (p : Fin 4352) (i : S4352x1.Idx) (hi : (i 0).val = p.val) :
    val_main_v50 (F := Ideal) x5 i = Norm.half * Ideal.div (Norm.rs (hr x5 p)) (Norm.me (hr x5 p)) := by
  rw [val_main_v50_apply, val_main_v48_apply, ref47 x5 p i hi, ref46 x5 p i hi]; rfl

theorem ref59 (p : Fin 4352) (j : Fin 1024) : val_main_v59 (F := Ideal) x0 x1 x2 x3 x4 x6 x7 (ValueIdx.ix2 p j) = rd x0 x1 x2 x3 x4 x6 p j * x7 (ValueIdx.ix2 0 j) := by
  have e := Prod.eq_pair (idx_main_v58 (ValueIdx.ix2 p j)) 0 j rfl rfl
  rw [val_main_v59_apply, val_main_v58_apply, e]; rfl

/-- The gradient of the normed row. -/
abbrev tm (p : Fin 4352) : Fin 1024 → EReal := fun k => rd x0 x1 x2 x3 x4 x6 p k * x7 (ValueIdx.ix2 0 k)

theorem ref65 (p : Fin 4352) (i : S4352x1.Idx) (hi : (i 0).val = p.val) :
    val_main_v67 (F := Ideal) x0 x1 x2 x3 x4 x5 x6 x7 i = Norm.thru (hr x5 p) (tm x0 x1 x2 x3 x4 x6 x7 p) := by
  have e27 : val_main_v62 (F := Ideal) x0 x1 x2 x3 x4 x5 x6 x7 i = ∑ k : Fin 1024, hr x5 p k * tm x0 x1 x2 x3 x4 x6 x7 p k := by
    rw [val_main_v62_apply, val_main_v61_apply]
    refine (congrArg (· + _) Norm.zero_eq).trans ((zero_add _).trans (Finset.sum_congr rfl fun k _ => ?_))
    have h1 : (i 1).val < 1 := (i 1).isLt
    have e := Prod.eq_pair (idx_main_v61 (idx_main_v62 i) k) p k (by show (i 0).val * 1 + (i 1).val = _; omega) rfl
    rw [val_main_v60_apply, e, ref59]; rfl
  rw [val_main_v67_apply, val_main_v65_apply, e27, ref50 x5 p i hi]; rfl

theorem ref69 (p : Fin 4352) (j : Fin 1024) :
    val_main_v69 (F := Ideal) x0 x1 x2 x3 x4 x5 x6 x7 (ValueIdx.ix2 p j) = Norm.thru (hr x5 p) (tm x0 x1 x2 x3 x4 x6 x7 p) := by
  rw [val_main_v69_apply, val_main_v68_apply]
  refine (congrArg (· + _) Norm.zero_eq).trans ((zero_add _).trans ((Fin.sum_univ_one _).trans ?_))
  exact ref65 x0 x1 x2 x3 x4 x5 x6 x7 p _ rfl

theorem ref57 (j : Fin 1024) :
    val_main_v57 (F := Ideal) x0 x1 x2 x3 x4 x5 x6 (ValueIdx.ix2 0 j) = ∑ p : Fin 4352, rd x0 x1 x2 x3 x4 x6 p j * Norm.hat (hr x5 p) j := by
  rw [val_main_v57_apply, val_main_v56_apply]
  refine (congrArg (· + _) Norm.zero_eq).trans ((zero_add _).trans (Finset.sum_congr rfl fun p _ => ?_))
  have e := Prod.eq_pair (idx_main_v56 (idx_main_v57 (ValueIdx.ix2 0 j)) p) p j rfl (by show 0 * 1024 + j.val = j.val; omega)
  rw [e, val_main_v55_apply, val_main_v52_apply, val_main_v51_apply, ref47 x5 p _ rfl]
  exact mul_comm _ _

/-- The reference's second result. -/
theorem ref74 (p : Fin 4352) (j : Fin 1024) :
    val_main_v74 (F := Ideal) x0 x1 x2 x3 x4 x5 x6 x7 (ValueIdx.ix2 p j) = Norm.deriv (hr x5 p) (tm x0 x1 x2 x3 x4 x6 x7 p) j := by
  rw [val_main_v74_apply, val_main_v73_apply, val_main_v71_apply, val_main_v72_apply, val_main_v70_apply, val_main_v64_apply, val_main_v63_apply,
    ref69, ref59, ref47 x5 p _ rfl]
  rfl

/-- The product is over the joined rows. -/
theorem ref19 (p : Fin 4352) (j : Fin 1024) : rz x0 x1 x2 p j = ∑ k : Fin 5632, val_main_v0 (F := Ideal) x0 x1 (ValueIdx.ix2 p k) * x2 (ValueIdx.ix2 j k) := by
  unfold rz
  rw [val_main_v19_apply]
  refine Finset.sum_congr rfl fun k _ => ?_
  have e1 := Prod.eq_pair (lidx_main_v19 (ValueIdx.ix2 p j) k) p k rfl rfl
  have e2 := Prod.eq_pair (ridx_main_v19 (ValueIdx.ix2 p j) k) j k rfl rfl
  rw [e1, e2]; rfl

/-- The joined rows, entry by entry. -/
theorem joined0 (p : Fin 4352) (l : Fin 2816) (g : Fin 5632) (hg : g.val = 0 + l.val) :
    val_main_v0 (F := Ideal) x0 x1 (ValueIdx.ix2 p g) = x0 (ValueIdx.ix2 p l) := by
  unfold val_main_v0
  refine concatenate_apply_piece (t := S4352x5632) 1 _ _ (ValueIdx.ix2 p g) 0 (by show 0 < 2; omega) S4352x2816 x0 rfl rfl 0 rfl (ValueIdx.ix2 p l) (fun b hb => ?_) hg.symm
  match b with
  | ⟨0, _⟩ => rfl
  | ⟨1, _⟩ => exact absurd rfl hb

theorem joined1 (p : Fin 4352) (l : Fin 2816) (g : Fin 5632) (hg : g.val = 2816 + l.val) :
    val_main_v0 (F := Ideal) x0 x1 (ValueIdx.ix2 p g) = x1 (ValueIdx.ix2 p l) := by
  unfold val_main_v0
  refine concatenate_apply_piece (t := S4352x5632) 1 _ _ (ValueIdx.ix2 p g) 1 (by show 1 < 2; omega) S4352x2816 x1 rfl rfl 2816 rfl (ValueIdx.ix2 p l) (fun b hb => ?_) hg.symm
  match b with
  | ⟨0, _⟩ => rfl
  | ⟨1, _⟩ => exact absurd rfl hb

theorem joined (p : Fin 4352) (g : Fin 5632) : val_main_v0 (F := Ideal) x0 x1 (ValueIdx.ix2 p g)
    = if g.val < 2816 then Prod.nat (a := 4352) (b := 2816) x0 p.val g.val else Prod.nat (a := 4352) (b := 2816) x1 p.val (g.val - 2816) := by
  have hg := g.isLt
  by_cases h0 : g.val < 2816
  · rw [if_pos h0]
    exact (joined0 x0 x1 p ⟨g.val, h0⟩ g (Nat.zero_add _).symm).trans (Prod.nat_at (a := 4352) (b := 2816) x0 p ⟨g.val, h0⟩).symm
  rw [if_neg h0]
  exact (joined1 x0 x1 p ⟨g.val - 2816, by omega⟩ g (by show g.val = 2816 + (g.val - 2816); omega)).trans (Prod.nat_at (a := 4352) (b := 2816) x1 p ⟨g.val - 2816, by omega⟩).symm

end Cert.UpBack

end
-- ==== Proof.UpBack.lean ====
/- The gradient through the up projection and its two norms: the kernel's results are the reference's. -/
module

public import proofs.«01_k».proof.Proof.UpBackOut
public import proofs.«01_k».proof.Proof.UpBackRef

@[expose] public section

set_option maxRecDepth 16384

noncomputable section

namespace Cert.UpBack

open Idealize.ShloMosaic Idealize.ShloMosaic.TcCoe
open scoped BigOperators

variable (m : (ℓ : Loc Cert.UpBwdIdeal.nD Cert.UpBwdIdeal.τ Cert.UpBwdIdeal.sig) → Buf (Elt Ideal) ℓ) (c : Dev Cert.UpBwdIdeal.nD)

/-- The reference's product is the kernel's. -/
theorem product (p : Fin 4352) (j : Fin 1024) : rz (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) p j = dz m c p.val j.val := by
  rw [ref19]
  unfold dz part
  refine (Finset.sum_congr rfl fun k _ => ?_).trans (Fin.sum_univ_eq_sum_range (pair m c p.val j.val) 5632)
  rw [joined]
  exact congrArg₂ (fun a b : EReal => a * b) rfl (Prod.nat_at (a := 1024) (b := 5632) (m ((c.tc : Thread Cert.UpBwdIdeal.nD Cert.UpBwdIdeal.τ).loc Cert.UpBwdIdeal.main_arg2)) j k).symm

theorem rows_eq (p : Fin 4352) : hr (m ((c.tc : Thread Cert.UpBwdIdeal.nD Cert.UpBwdIdeal.τ).loc Cert.UpBwdIdeal.main_arg3)) p = hrow m c p.val := by
  funext k
  exact (Prod.nat_at (a := 4352) (b := 1024) (m ((c.tc : Thread Cert.UpBwdIdeal.nD Cert.UpBwdIdeal.τ).loc Cert.UpBwdIdeal.main_arg3)) p k).symm

theorem mrows_eq (p : Fin 4352) : hr (m ((c.tc : Thread Cert.UpBwdIdeal.nD Cert.UpBwdIdeal.τ).loc Cert.UpBwdIdeal.main_arg5)) p = mrow m c p.val := by
  funext k
  exact (Prod.nat_at (a := 4352) (b := 1024) (m ((c.tc : Thread Cert.UpBwdIdeal.nD Cert.UpBwdIdeal.τ).loc Cert.UpBwdIdeal.main_arg5)) p k).symm

theorem grad_eq (p : Fin 4352) : tr (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg6)) p = fun k => dz m c p.val k.val * A6 m c 0 k.val := by
  funext k
  exact congrArg₂ (fun a b : EReal => a * b) (product m c p k) (Prod.nat_at (a := 1) (b := 1024) (m ((c.tc : Thread Cert.UpBwdIdeal.nD Cert.UpBwdIdeal.τ).loc Cert.UpBwdIdeal.main_arg6)) 0 k).symm

theorem first_eq (p : Fin 4352) (j : Fin 1024) : rd (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg6)) p j = dh m c p.val j := by
  refine (ref39 (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg6)) p j).trans ?_
  unfold dh
  rw [← Norm.back_eq, rows_eq, grad_eq]
  exact congrArg (· + _) (Prod.nat_at (a := 4352) (b := 1024) (m ((c.tc : Thread Cert.UpBwdIdeal.nD Cert.UpBwdIdeal.τ).loc Cert.UpBwdIdeal.main_arg4)) p j).symm

theorem mgrad_eq (p : Fin 4352) : tm (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg6)) (m ((c.tc : Thread Cert.UpBwdIdeal.nD Cert.UpBwdIdeal.τ).loc Cert.UpBwdIdeal.main_arg7)) p = fun k => dh m c p.val k * A7 m c 0 k.val := by
  funext k
  exact congrArg₂ (fun a b : EReal => a * b) (first_eq m c p k) (Prod.nat_at (a := 1) (b := 1024) (m ((c.tc : Thread Cert.UpBwdIdeal.nD Cert.UpBwdIdeal.τ).loc Cert.UpBwdIdeal.main_arg7)) 0 k).symm

/-- The first results are equal. -/
theorem equal1 {y0 y1 y2 y3 y4 y6 : _}
    (a0 : y0 = (m ((c.tc : Thread Cert.UpBwdIdeal.nD Cert.UpBwdIdeal.τ).loc Cert.UpBwdIdeal.main_arg0)))
    (a1 : y1 = (m ((c.tc : Thread Cert.UpBwdIdeal.nD Cert.UpBwdIdeal.τ).loc Cert.UpBwdIdeal.main_arg1)))
    (a2 : y2 = (m ((c.tc : Thread Cert.UpBwdIdeal.nD Cert.UpBwdIdeal.τ).loc Cert.UpBwdIdeal.main_arg2)))
    (a3 : y3 = (m ((c.tc : Thread Cert.UpBwdIdeal.nD Cert.UpBwdIdeal.τ).loc Cert.UpBwdIdeal.main_arg3)))
    (a4 : y4 = (m ((c.tc : Thread Cert.UpBwdIdeal.nD Cert.UpBwdIdeal.τ).loc Cert.UpBwdIdeal.main_arg4)))
    (a6 : y6 = (m ((c.tc : Thread Cert.UpBwdIdeal.nD Cert.UpBwdIdeal.τ).loc Cert.UpBwdIdeal.main_arg6))) :
    Cert.UpBwdRefIdeal.Read.val_main_v39 (F := Ideal) y0 y1 y2 y3 y4 y6
      = Cert.UpBwdIdeal.Value.G8 m c := by
  rw [a0, a1, a2, a3, a4, a6]
  funext i
  rw [Prod.eta i]
  generalize (⟨(i 0).val, (i 0).isLt⟩ : Fin 4352) = p
  generalize (⟨(i 1).val, (i 1).isLt⟩ : Fin 1024) = j
  exact (first_eq m c p j).trans (G8_at m c p j).symm

/-- The second results are equal. -/
theorem equal2 {y0 y1 y2 y3 y4 y5 y6 y7 : _}
    (a0 : y0 = (m ((c.tc : Thread Cert.UpBwdIdeal.nD Cert.UpBwdIdeal.τ).loc Cert.UpBwdIdeal.main_arg0)))
    (a1 : y1 = (m ((c.tc : Thread Cert.UpBwdIdeal.nD Cert.UpBwdIdeal.τ).loc Cert.UpBwdIdeal.main_arg1)))
    (a2 : y2 = (m ((c.tc : Thread Cert.UpBwdIdeal.nD Cert.UpBwdIdeal.τ).loc Cert.UpBwdIdeal.main_arg2)))
    (a3 : y3 = (m ((c.tc : Thread Cert.UpBwdIdeal.nD Cert.UpBwdIdeal.τ).loc Cert.UpBwdIdeal.main_arg3)))
    (a4 : y4 = (m ((c.tc : Thread Cert.UpBwdIdeal.nD Cert.UpBwdIdeal.τ).loc Cert.UpBwdIdeal.main_arg4)))
    (a5 : y5 = (m ((c.tc : Thread Cert.UpBwdIdeal.nD Cert.UpBwdIdeal.τ).loc Cert.UpBwdIdeal.main_arg5)))
    (a6 : y6 = (m ((c.tc : Thread Cert.UpBwdIdeal.nD Cert.UpBwdIdeal.τ).loc Cert.UpBwdIdeal.main_arg6)))
    (a7 : y7 = (m ((c.tc : Thread Cert.UpBwdIdeal.nD Cert.UpBwdIdeal.τ).loc Cert.UpBwdIdeal.main_arg7))) :
    Cert.UpBwdRefIdeal.Read.val_main_v74 (F := Ideal) y0 y1 y2 y3 y4 y5 y6 y7
      = Cert.UpBwdIdeal.Value.G9 m c := by
  rw [a0, a1, a2, a3, a4, a5, a6, a7]
  funext i
  rw [Prod.eta i]
  generalize (⟨(i 0).val, (i 0).isLt⟩ : Fin 4352) = p
  generalize (⟨(i 1).val, (i 1).isLt⟩ : Fin 1024) = j
  refine ((ref74 (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6)) (m ((c.tc : Thread Cert.UpBwdIdeal.nD Cert.UpBwdIdeal.τ).loc Cert.UpBwdIdeal.main_arg7)) p j).trans ?_).trans (G9_at m c p j).symm
  rw [← Norm.back_eq, mrows_eq, mgrad_eq]

/-- The third results are equal. -/
theorem equal3 {y0 y1 y2 y3 : _}
    (a0 : y0 = (m ((c.tc : Thread Cert.UpBwdIdeal.nD Cert.UpBwdIdeal.τ).loc Cert.UpBwdIdeal.main_arg0)))
    (a1 : y1 = (m ((c.tc : Thread Cert.UpBwdIdeal.nD Cert.UpBwdIdeal.τ).loc Cert.UpBwdIdeal.main_arg1)))
    (a2 : y2 = (m ((c.tc : Thread Cert.UpBwdIdeal.nD Cert.UpBwdIdeal.τ).loc Cert.UpBwdIdeal.main_arg2)))
    (a3 : y3 = (m ((c.tc : Thread Cert.UpBwdIdeal.nD Cert.UpBwdIdeal.τ).loc Cert.UpBwdIdeal.main_arg3))) :
    Cert.UpBwdRefIdeal.Read.val_main_v22 (F := Ideal) y0 y1 y2 y3
      = Cert.UpBwdIdeal.Value.G10 m c := by
  rw [a0, a1, a2, a3]
  funext i
  rw [Prod.eta i]
  generalize (⟨(i 1).val, (i 1).isLt⟩ : Fin 1024) = j
  rw [show (⟨(i 0).val, (i 0).isLt⟩ : Fin 1) = 0 from Subsingleton.elim _ _]
  refine ((ref22 (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) j).trans ?_).trans (G10_at m c j).symm
  unfold rows
  refine (Finset.sum_congr rfl fun p _ => ?_).trans (Fin.sum_univ_eq_sum_range (term m c j) 4352)
  unfold term
  rw [product, rows_eq]

/-- The fourth results are equal. -/
theorem equal4 {y0 y1 y2 y3 y4 y5 y6 : _}
    (a0 : y0 = (m ((c.tc : Thread Cert.UpBwdIdeal.nD Cert.UpBwdIdeal.τ).loc Cert.UpBwdIdeal.main_arg0)))
    (a1 : y1 = (m ((c.tc : Thread Cert.UpBwdIdeal.nD Cert.UpBwdIdeal.τ).loc Cert.UpBwdIdeal.main_arg1)))
    (a2 : y2 = (m ((c.tc : Thread Cert.UpBwdIdeal.nD Cert.UpBwdIdeal.τ).loc Cert.UpBwdIdeal.main_arg2)))
    (a3 : y3 = (m ((c.tc : Thread Cert.UpBwdIdeal.nD Cert.UpBwdIdeal.τ).loc Cert.UpBwdIdeal.main_arg3)))
    (a4 : y4 = (m ((c.tc : Thread Cert.UpBwdIdeal.nD Cert.UpBwdIdeal.τ).loc Cert.UpBwdIdeal.main_arg4)))
    (a5 : y5 = (m ((c.tc : Thread Cert.UpBwdIdeal.nD Cert.UpBwdIdeal.τ).loc Cert.UpBwdIdeal.main_arg5)))
    (a6 : y6 = (m ((c.tc : Thread Cert.UpBwdIdeal.nD Cert.UpBwdIdeal.τ).loc Cert.UpBwdIdeal.main_arg6))) :
    Cert.UpBwdRefIdeal.Read.val_main_v57 (F := Ideal) y0 y1 y2 y3 y4 y5 y6
      = Cert.UpBwdIdeal.Value.G11 m c := by
  rw [a0, a1, a2, a3, a4, a5, a6]
  funext i
  rw [Prod.eta i]
  generalize (⟨(i 1).val, (i 1).isLt⟩ : Fin 1024) = j
  rw [show (⟨(i 0).val, (i 0).isLt⟩ : Fin 1) = 0 from Subsingleton.elim _ _]
  refine ((ref57 (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6)) j).trans ?_).trans (G11_at m c j).symm
  unfold rows
  refine (Finset.sum_congr rfl fun p _ => ?_).trans (Fin.sum_univ_eq_sum_range (mterm m c j) 4352)
  unfold mterm
  rw [first_eq, mrows_eq]

/-- The fifth results are equal. -/
theorem equal5 {y0 y1 : _}
    (a0 : y0 = (m ((c.tc : Thread Cert.UpBwdIdeal.nD Cert.UpBwdIdeal.τ).loc Cert.UpBwdIdeal.main_arg0)))
    (a1 : y1 = (m ((c.tc : Thread Cert.UpBwdIdeal.nD Cert.UpBwdIdeal.τ).loc Cert.UpBwdIdeal.main_arg1))) :
    Cert.UpBwdRefIdeal.Read.val_main_v0 (F := Ideal) y0 y1
      = Cert.UpBwdIdeal.Value.G12 m c := by
  rw [a0, a1]
  funext i
  rw [Prod.eta i]
  generalize (⟨(i 0).val, (i 0).isLt⟩ : Fin 4352) = p
  generalize (⟨(i 1).val, (i 1).isLt⟩ : Fin 5632) = j
  refine ((joined (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) p j).trans ?_).trans (G12_at m c p j).symm
  rfl

end Cert.UpBack

end
-- ==== Proof.InBackPoint.lean ====
/- What one grid point leaves in the accumulator and in the two result blocks. -/
module

public import proofs.«01_k».proof.Proof.Prod
public import proofs.«01_k».proof.Proof.Gen.InBwdIdeal.Frame
public import proofs.«01_k».proof.Proof.Read

@[expose] public section

set_option maxRecDepth 16384

noncomputable section

namespace Cert.InBack

open Idealize.ShloMosaic Idealize.ShloMosaic.TcCoe Cert.InBwdIdeal Gen
open scoped BigOperators

variable (c : Dev nD) (i : grid0.Coords) (arg2 : Memref sig .tc .vmem S544x1024 .bf16) (w2 : arg2.IsWhole) (arg3 : Memref sig .tc .vmem S544x1024 .bf16) (w3 : arg3.IsWhole) (arg4 : Memref sig .tc .vmem S544x1024 .bf16) (w4 : arg4.IsWhole) (arg5 : Memref sig .tc .vmem S544x1024 .bf16) (w5 : arg5.IsWhole) (arg6 : Memref sig .tc .vmem S544x1024 .bf16) (w6 : arg6.IsWhole) (arg7 : Memref sig .tc .vmem S544x1024 .bf16) (w7 : arg7.IsWhole) (arg8 : Memref sig .tc .vmem S544x1024 .bf16) (w8 : arg8.IsWhole) (arg9 : Memref sig .tc .vmem S1024x1024 .bf16) (w9 : arg9.IsWhole) (arg10 : Memref sig .tc .vmem S544x1024 .f32) (w10 : arg10.IsWhole) (arg11 : Memref sig .tc .vmem S544x1024 .f32) (w11 : arg11.IsWhole) (arg12 : Memref sig .tc .vmem S1x1024 .f32) (w12 : arg12.IsWhole) (arg13 : Memref sig .tc .vmem S544x1024 .f32) (w13 : arg13.IsWhole) (arg14 : Memref sig .tc .vmem S1x1024 .f32) (w14 : arg14.IsWhole) (arg15 : Memref sig .tc .vmem S544x1024 .f32) (w15 : arg15.IsWhole)
  (x0 : Vec Ideal S544x1024 .bf16) (x1 : Vec Ideal S544x1024 .bf16) (x2 : Vec Ideal S544x1024 .bf16) (x3 : Vec Ideal S544x1024 .bf16) (x4 : Vec Ideal S544x1024 .bf16) (x5 : Vec Ideal S544x1024 .bf16) (x6 : Vec Ideal S544x1024 .bf16) (x7 : Vec Ideal S1024x1024 .bf16) (x8 : Vec Ideal S544x1024 .f32) (x9 : Vec Ideal S544x1024 .f32) (x10 : Vec Ideal S1x1024 .f32) (xo12 : Vec Ideal S1x1024 .f32) (xs0 : Vec Ideal S544x1024 .f32)

section A
variable (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)

theorem acc_A : sout0_A_0 c i _ w2 _ w3 _ w4 _ w5 _ w6 _ w7 _ w8 _ w9 _ w10 _ w11 _ w12 _ w13 _ w14 _ w15 hc0 hc1 hc2 hc3 hc4 hc5 hc6 hc7 hc8 x0 x1 x2 x3 x4 x5 x6 x7 x8 x9 x10 = k0_pay1 (F := Ideal) (k0_pay8 (F := Ideal)) x0 x7 := by
  unfold sout0_A_0 kernelRun0_A
  dsimp only
  refine (View.read_writes_full _ _ _ _ _).trans ?_
  exact congr (congr (congrArg (k0_pay1 (F := Ideal)) ((View.readAt_full _ _ _).trans (View.read_writes_full _ _ _ _ _))) (rdw w2 _)) (rdw w9 _)
end A

section B
variable (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i)

theorem acc_B : sout0_B_0 c i _ w2 _ w3 _ w4 _ w5 _ w6 _ w7 _ w8 _ w9 _ w10 _ w11 _ w12 _ w13 _ w14 _ w15 hc0 hc1 hc2 hc3 hc4 hc5 hc6 hc7 hc8 x0 x1 x2 x3 x4 x5 x6 x7 x8 x9 x10 xs0 = k0_pay1 (F := Ideal) xs0 x1 x7 := by
  unfold sout0_B_0 kernelRun0_B
  dsimp only
  refine (View.read_writes_full _ _ _ _ _).trans ?_
  exact congr (congr (congrArg (k0_pay1 (F := Ideal)) (rdw w15 _)) (rdw w3 _)) (rdw w9 _)
end B

section C
variable (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i)

theorem acc_C : sout0_C_0 c i _ w2 _ w3 _ w4 _ w5 _ w6 _ w7 _ w8 _ w9 _ w10 _ w11 _ w12 _ w13 _ w14 _ w15 hc0 hc1 hc2 hc3 hc4 hc5 hc6 hc7 hc8 x0 x1 x2 x3 x4 x5 x6 x7 x8 x9 x10 xs0 = k0_pay1 (F := Ideal) xs0 x2 x7 := by
  unfold sout0_C_0 kernelRun0_C
  dsimp only
  refine (View.read_writes_full _ _ _ _ _).trans ?_
  exact congr (congr (congrArg (k0_pay1 (F := Ideal)) (rdw w15 _)) (rdw w4 _)) (rdw w9 _)
end C

section D
variable (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i)

theorem acc_D : sout0_D_0 c i _ w2 _ w3 _ w4 _ w5 _ w6 _ w7 _ w8 _ w9 _ w10 _ w11 _ w12 _ w13 _ w14 _ w15 hc0 hc1 hc2 hc3 hc4 hc5 hc6 hc7 hc8 x0 x1 x2 x3 x4 x5 x6 x7 x8 x9 x10 xs0 = k0_pay1 (F := Ideal) xs0 x3 x7 := by
  unfold sout0_D_0 kernelRun0_D
  dsimp only
  refine (View.read_writes_full _ _ _ _ _).trans ?_
  exact congr (congr (congrArg (k0_pay1 (F := Ideal)) (rdw w15 _)) (rdw w5 _)) (rdw w9 _)
end D

section E
variable (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i)

theorem acc_E : sout0_E_0 c i _ w2 _ w3 _ w4 _ w5 _ w6 _ w7 _ w8 _ w9 _ w10 _ w11 _ w12 _ w13 _ w14 _ w15 hc0 hc1 hc2 hc3 hc4 hc5 hc6 hc7 hc8 x0 x1 x2 x3 x4 x5 x6 x7 x8 x9 x10 xs0 = k0_pay1 (F := Ideal) xs0 x4 x7 := by
  unfold sout0_E_0 kernelRun0_E
  dsimp only
  refine (View.read_writes_full _ _ _ _ _).trans ?_
  exact congr (congr (congrArg (k0_pay1 (F := Ideal)) (rdw w15 _)) (rdw w6 _)) (rdw w9 _)
end E

section F
variable (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i)

theorem acc_F : sout0_F_0 c i _ w2 _ w3 _ w4 _ w5 _ w6 _ w7 _ w8 _ w9 _ w10 _ w11 _ w12 _ w13 _ w14 _ w15 hc0 hc1 hc2 hc3 hc4 hc5 hc6 hc7 hc8 x0 x1 x2 x3 x4 x5 x6 x7 x8 x9 x10 xs0 = k0_pay1 (F := Ideal) xs0 x5 x7 := by
  unfold sout0_F_0 kernelRun0_F
  dsimp only
  refine (View.read_writes_full _ _ _ _ _).trans ?_
  exact congr (congr (congrArg (k0_pay1 (F := Ideal)) (rdw w15 _)) (rdw w7 _)) (rdw w9 _)
end F

section G
variable (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i)

theorem acc_G : sout0_G_0 c i _ w2 _ w3 _ w4 _ w5 _ w6 _ w7 _ w8 _ w9 _ w10 _ w11 _ w12 _ w13 _ w14 _ w15 hc0 hc1 hc2 hc3 hc4 hc5 hc6 hc7 hc8 x0 x1 x2 x3 x4 x5 x6 x7 x8 x9 x10 xs0 = k0_pay1 (F := Ideal) xs0 x6 x7 := by
  unfold sout0_G_0 kernelRun0_G
  dsimp only
  refine (View.read_writes_full _ _ _ _ _).trans ?_
  exact congr (congr (congrArg (k0_pay1 (F := Ideal)) (rdw w15 _)) (rdw w8 _)) (rdw w9 _)
end G

section H
variable (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : cond0_8 i) (hc9 : cond0_9 i) (hc10 : ¬cond0_10 i)

theorem acc_H : sout0_H_0 c i _ w2 _ w3 _ w4 _ w5 _ w6 _ w7 _ w8 _ w9 _ w10 _ w11 _ w12 _ w13 _ w14 _ w15 hc0 hc1 hc2 hc3 hc4 hc5 hc6 hc7 hc8 hc9 hc10 x0 x1 x2 x3 x4 x5 x6 x7 x8 x9 x10 xs0 = k0_pay1 (F := Ideal) xs0 x6 x7 := by
  unfold sout0_H_0 kernelRun0_H
  dsimp only
  refine (View.read_writes_full _ _ _ _ _).trans ?_
  exact congr (congr (congrArg (k0_pay1 (F := Ideal)) (rdw w15 _)) (rdw w8 _)) (rdw w9 _)

theorem out_H : out0_H_11 c i _ w2 _ w3 _ w4 _ w5 _ w6 _ w7 _ w8 _ w9 _ w10 _ w11 _ w12 _ w13 _ w14 _ w15 hc0 hc1 hc2 hc3 hc4 hc5 hc6 hc7 hc8 hc9 hc10 x0 x1 x2 x3 x4 x5 x6 x7 x8 x9 x10 xs0 = k0_pay6 (F := Ideal) (k0_pay1 (F := Ideal) xs0 x6 x7) x8 x9 x10 := by
  unfold out0_H_11 kernelRun0_H
  dsimp only
  refine (View.read_writes_full _ _ _ _ _).trans ?_
  exact congr (congr (congr (congrArg (k0_pay6 (F := Ideal)) (((View.readAt_full _ _ _).trans (View.read_writes_full _ _ _ _ _)).trans (congr (congr (congrArg (k0_pay1 (F := Ideal)) (rdw w15 _)) (rdw w8 _)) (rdw w9 _)))) (rdw w10 _)) (rdw w11 _)) (rdw w12 _)

theorem sum_H : out0_H_12 c i _ w2 _ w3 _ w4 _ w5 _ w6 _ w7 _ w8 _ w9 _ w10 _ w11 _ w12 _ w13 _ w14 _ w15 hc0 hc1 hc2 hc3 hc4 hc5 hc6 hc7 hc8 hc9 hc10 x0 x1 x2 x3 x4 x5 x6 x7 x8 x9 x10 xs0 = k0_pay5 (F := Ideal) (k0_pay1 (F := Ideal) xs0 x6 x7) x8 := by
  unfold out0_H_12 kernelRun0_H
  dsimp only
  refine (View.read_writes_full _ _ _ _ _).trans ?_
  exact congr (congrArg (k0_pay5 (F := Ideal)) (((View.readAt_full _ _ _).trans (View.read_writes_full _ _ _ _ _)).trans (congr (congr (congrArg (k0_pay1 (F := Ideal)) (rdw w15 _)) (rdw w8 _)) (rdw w9 _)))) (rdw w10 _)
end H

section I
variable (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : cond0_8 i) (hc9 : ¬cond0_9 i) (hc10 : cond0_10 i)

theorem acc_I : sout0_I_0 c i _ w2 _ w3 _ w4 _ w5 _ w6 _ w7 _ w8 _ w9 _ w10 _ w11 _ w12 _ w13 _ w14 _ w15 hc0 hc1 hc2 hc3 hc4 hc5 hc6 hc7 hc8 hc9 hc10 x0 x1 x2 x3 x4 x5 x6 x7 x8 x9 x10 xo12 xs0 = k0_pay1 (F := Ideal) xs0 x6 x7 := by
  unfold sout0_I_0 kernelRun0_I
  dsimp only
  refine (View.read_writes_full _ _ _ _ _).trans ?_
  exact congr (congr (congrArg (k0_pay1 (F := Ideal)) (rdw w15 _)) (rdw w8 _)) (rdw w9 _)

theorem out_I : out0_I_11 c i _ w2 _ w3 _ w4 _ w5 _ w6 _ w7 _ w8 _ w9 _ w10 _ w11 _ w12 _ w13 _ w14 _ w15 hc0 hc1 hc2 hc3 hc4 hc5 hc6 hc7 hc8 hc9 hc10 x0 x1 x2 x3 x4 x5 x6 x7 x8 x9 x10 xo12 xs0 = k0_pay6 (F := Ideal) (k0_pay1 (F := Ideal) xs0 x6 x7) x8 x9 x10 := by
  unfold out0_I_11 kernelRun0_I
  dsimp only
  refine (View.read_writes_full _ _ _ _ _).trans ?_
  exact congr (congr (congr (congrArg (k0_pay6 (F := Ideal)) (((View.readAt_full _ _ _).trans (View.read_writes_full _ _ _ _ _)).trans (congr (congr (congrArg (k0_pay1 (F := Ideal)) (rdw w15 _)) (rdw w8 _)) (rdw w9 _)))) (rdw w10 _)) (rdw w11 _)) (rdw w12 _)

theorem sum_I : out0_I_12 c i _ w2 _ w3 _ w4 _ w5 _ w6 _ w7 _ w8 _ w9 _ w10 _ w11 _ w12 _ w13 _ w14 _ w15 hc0 hc1 hc2 hc3 hc4 hc5 hc6 hc7 hc8 hc9 hc10 x0 x1 x2 x3 x4 x5 x6 x7 x8 x9 x10 xo12 xs0 = k0_pay7 (F := Ideal) (k0_pay1 (F := Ideal) xs0 x6 x7) x8 xo12 := by
  unfold out0_I_12 kernelRun0_I
  dsimp only
  refine (View.read_writes_full _ _ _ _ _).trans ?_
  exact congr (congr (congrArg (k0_pay7 (F := Ideal)) (((View.readAt_full _ _ _).trans (View.read_writes_full _ _ _ _ _)).trans (congr (congr (congrArg (k0_pay1 (F := Ideal)) (rdw w15 _)) (rdw w8 _)) (rdw w9 _)))) (rdw w10 _)) (rdw w14 _)
end I

end Cert.InBack

end
-- ==== Proof.InBackPay.lean ====
/- The gradient through the input projection and its norm: what the body computes, entry by entry. -/
module

public import proofs.«01_k».proof.Proof.Norm
public import proofs.«01_k».proof.Proof.Gen.InBwdIdeal.Skeleton

@[expose] public section

set_option maxRecDepth 16384

noncomputable section

namespace Cert.InBack

open Idealize.ShloMosaic Idealize.ShloMosaic.TcCoe Cert.InBwdIdeal Gen
open scoped BigOperators

variable (a h d : FVec Ideal S544x1024 .f32) (g o : FVec Ideal S1x1024 .f32)

/-- A row of a block. -/
abbrev row (h : FVec Ideal S544x1024 .f32) (p : Fin 544) : Fin 1024 → EReal := fun k => h (ValueIdx.ix2 p k)

theorem pay1_apply (x : FVec Ideal S544x1024 .bf16) (w : FVec Ideal S1024x1024 .bf16) (p : Fin 544) (j : Fin 1024) :
    k0_pay1 (F := Ideal) a x w (ValueIdx.ix2 p j) = a (ValueIdx.ix2 p j) + Prod.nt x w p j := by
  have e : k0_pay1 (F := Ideal) a x w (ValueIdx.ix2 p j) = a (ValueIdx.ix2 p j) + ((0 : EReal) + ∑ k : Fin 1024, x (ValueIdx.ix2 p k) * w (ValueIdx.ix2 j k)) := by
    unfold k0_pay1
    pointwise
    first | rfl | simp
  rw [e, zero_add]; rfl

theorem pay8_apply (p : Fin 544) (j : Fin 1024) : k0_pay8 (F := Ideal) (ValueIdx.ix2 p j) = 0 := by
  unfold k0_pay8
  pointwise

theorem pay3_apply (p : Fin 544) (q : Fin 1) : k0_pay3 (F := Ideal) h (ValueIdx.ix2 p q) = Norm.rs (row h p) := by
  unfold k0_pay3
  pointwise
  rfl

theorem pay4_apply (p : Fin 544) (j : Fin 1024) : k0_pay4 (F := Ideal) h (ValueIdx.ix2 p j) = Norm.hat (row h p) j := by
  have e : k0_pay4 (F := Ideal) h (ValueIdx.ix2 p j) = h (ValueIdx.ix2 p j) * k0_pay3 (F := Ideal) h (ValueIdx.ix2 p 0) := by
    unfold k0_pay4
    pointwise
    rfl
  rw [e, pay3_apply]; rfl

theorem pay5_apply (q : Fin 1) (j : Fin 1024) : k0_pay5 (F := Ideal) a h (ValueIdx.ix2 q j) = ∑ p : Fin 544, a (ValueIdx.ix2 p j) * Norm.hat (row h p) j := by
  have e : k0_pay5 (F := Ideal) a h (ValueIdx.ix2 q j) = ∑ p : Fin 544, a (ValueIdx.ix2 p j) * k0_pay4 (F := Ideal) h (ValueIdx.ix2 p j) := by
    unfold k0_pay5
    pointwise
    rfl
  rw [e]
  exact Finset.sum_congr rfl fun p _ => by rw [pay4_apply]

theorem pay7_apply (q : Fin 1) (j : Fin 1024) : k0_pay7 (F := Ideal) a h o (ValueIdx.ix2 q j) = o (ValueIdx.ix2 q j) + ∑ p : Fin 544, a (ValueIdx.ix2 p j) * Norm.hat (row h p) j := by
  have e : k0_pay7 (F := Ideal) a h o (ValueIdx.ix2 q j) = o (ValueIdx.ix2 q j) + k0_pay5 (F := Ideal) a h (ValueIdx.ix2 q j) := by
    unfold k0_pay7
    pointwise
  rw [e, pay5_apply]

theorem pay6_apply (p : Fin 544) (j : Fin 1024) : k0_pay6 (F := Ideal) a h d g (ValueIdx.ix2 p j)
    = d (ValueIdx.ix2 p j) + Norm.back (row h p) (fun k => a (ValueIdx.ix2 p k) * g (ValueIdx.ix2 0 k)) j := by
  have e : k0_pay6 (F := Ideal) a h d g (ValueIdx.ix2 p j)
      = d (ValueIdx.ix2 p j) + k0_pay3 (F := Ideal) h (ValueIdx.ix2 p 0) * (a (ValueIdx.ix2 p j) * g (ValueIdx.ix2 0 j)
        - k0_pay4 (F := Ideal) h (ValueIdx.ix2 p j) * Ideal.div (∑ k : Fin 1024, a (ValueIdx.ix2 p k) * g (ValueIdx.ix2 0 k) * k0_pay4 (F := Ideal) h (ValueIdx.ix2 p k)) Norm.len) := by
    unfold k0_pay6
    pointwise
    rfl
  rw [e, pay3_apply, pay4_apply]
  simp only [pay4_apply]
  rfl

end Cert.InBack

end
-- ==== Proof.InBackBlocks.lean ====
/- The blocks a grid point of the gradient through the input projection reads, as entries of the arguments. -/
module

public import proofs.«01_k».proof.Proof.Nat2
public import proofs.«01_k».proof.Proof.Gen.InBwdIdeal.Frame

@[expose] public section

set_option maxRecDepth 16384

noncomputable section

namespace Cert.InBack

open Idealize.ShloMosaic Idealize.ShloMosaic.TcCoe Cert.InBwdIdeal Gen
open scoped BigOperators

variable (m : (ℓ : Loc nD τ sig) → Buf (Elt Ideal) ℓ) (c : Dev nD)

/-- The arguments' entries. -/
def A0 (p q : ℕ) : EReal := Prod.nat (a := 4352) (b := 1024) (m ((c.tc : Thread nD τ).loc main_arg0)) p q
def A1 (p q : ℕ) : EReal := Prod.nat (a := 4352) (b := 1024) (m ((c.tc : Thread nD τ).loc main_arg1)) p q
def A2 (p q : ℕ) : EReal := Prod.nat (a := 4352) (b := 1024) (m ((c.tc : Thread nD τ).loc main_arg2)) p q
def A3 (p q : ℕ) : EReal := Prod.nat (a := 4352) (b := 1024) (m ((c.tc : Thread nD τ).loc main_arg3)) p q
def A4 (p q : ℕ) : EReal := Prod.nat (a := 4352) (b := 1024) (m ((c.tc : Thread nD τ).loc main_arg4)) p q
def A5 (p q : ℕ) : EReal := Prod.nat (a := 4352) (b := 1024) (m ((c.tc : Thread nD τ).loc main_arg5)) p q
def A6 (p q : ℕ) : EReal := Prod.nat (a := 4352) (b := 2048) (m ((c.tc : Thread nD τ).loc main_arg6)) p q
def A7 (p q : ℕ) : EReal := Prod.nat (a := 1024) (b := 8192) (m ((c.tc : Thread nD τ).loc main_arg7)) p q
def A8 (p q : ℕ) : EReal := Prod.nat (a := 4352) (b := 1024) (m ((c.tc : Thread nD τ).loc main_arg8)) p q
def A9 (p q : ℕ) : EReal := Prod.nat (a := 4352) (b := 1024) (m ((c.tc : Thread nD τ).loc main_arg9)) p q
def A10 (p q : ℕ) : EReal := Prod.nat (a := 1) (b := 1024) (m ((c.tc : Thread nD τ).loc main_arg10)) p q

/-- The joined rows. -/
def cat (p g : ℕ) : EReal :=
  if g < 1024 then A0 m c p g else if g < 2048 then A1 m c p (g - 1024) else if g < 3072 then A2 m c p (g - 2048)
  else if g < 4096 then A3 m c p (g - 3072) else if g < 5120 then A4 m c p (g - 4096) else if g < 6144 then A5 m c p (g - 5120) else A6 m c p (g - 6144)

theorem place0 : ∀ t : Fin cfg0.N, win0_0.index t (0 : Fin 2) = t.val / 8 ∧ win0_0.index t (1 : Fin 2) = 0 := (by decide +kernel : ∀ t : Fin grid0.N, _)
theorem read0 (A : (⟨S4352x1024, .bf16⟩ : BufTy).Contents (Elt Ideal)) (t : Fin cfg0.N) (y : S544x1024.Idx) :
    ((cfg0.win 0).blk t).view.read (Elt Ideal) A y = A (((cfg0.win 0).blk t).view.emb y) := rfl
theorem blk0 (t : Fin cfg0.N) (p : Fin 544) (q : Fin 1024) :
    iblk m c 0 t (ValueIdx.ix2 p q) = A0 m c (t.val / 8 * 544 + p.val) ((0) * 1024 + q.val) := by
  obtain ⟨e0, e1⟩ := place0 t
  have b0 : (((cfg0.win 0).blk t).view.emb (ValueIdx.ix2 p q) 0).val = win0_0.index t (0 : Fin 2) * 544 + 1 * p.val := rfl
  have b1 : (((cfg0.win 0).blk t).view.emb (ValueIdx.ix2 p q) 1).val = win0_0.index t (1 : Fin 2) * 1024 + 1 * q.val := rfl
  unfold iblk
  exact (read0 _ t _).trans (Prod.nat_idx _ _ _ _ (by rw [b0, e0, one_mul]) (by rw [b1, e1, one_mul]))

theorem place1 : ∀ t : Fin cfg0.N, win0_1.index t (0 : Fin 2) = t.val / 8 ∧ win0_1.index t (1 : Fin 2) = 0 := (by decide +kernel : ∀ t : Fin grid0.N, _)
theorem read1 (A : (⟨S4352x1024, .bf16⟩ : BufTy).Contents (Elt Ideal)) (t : Fin cfg0.N) (y : S544x1024.Idx) :
    ((cfg0.win 1).blk t).view.read (Elt Ideal) A y = A (((cfg0.win 1).blk t).view.emb y) := rfl
theorem blk1 (t : Fin cfg0.N) (p : Fin 544) (q : Fin 1024) :
    iblk m c 1 t (ValueIdx.ix2 p q) = A1 m c (t.val / 8 * 544 + p.val) ((0) * 1024 + q.val) := by
  obtain ⟨e0, e1⟩ := place1 t
  have b0 : (((cfg0.win 1).blk t).view.emb (ValueIdx.ix2 p q) 0).val = win0_1.index t (0 : Fin 2) * 544 + 1 * p.val := rfl
  have b1 : (((cfg0.win 1).blk t).view.emb (ValueIdx.ix2 p q) 1).val = win0_1.index t (1 : Fin 2) * 1024 + 1 * q.val := rfl
  unfold iblk
  exact (read1 _ t _).trans (Prod.nat_idx _ _ _ _ (by rw [b0, e0, one_mul]) (by rw [b1, e1, one_mul]))

theorem place2 : ∀ t : Fin cfg0.N, win0_2.index t (0 : Fin 2) = t.val / 8 ∧ win0_2.index t (1 : Fin 2) = 0 := (by decide +kernel : ∀ t : Fin grid0.N, _)
theorem read2 (A : (⟨S4352x1024, .bf16⟩ : BufTy).Contents (Elt Ideal)) (t : Fin cfg0.N) (y : S544x1024.Idx) :
    ((cfg0.win 2).blk t).view.read (Elt Ideal) A y = A (((cfg0.win 2).blk t).view.emb y) := rfl
theorem blk2 (t : Fin cfg0.N) (p : Fin 544) (q : Fin 1024) :
    iblk m c 2 t (ValueIdx.ix2 p q) = A2 m c (t.val / 8 * 544 + p.val) ((0) * 1024 + q.val) := by
  obtain ⟨e0, e1⟩ := place2 t
  have b0 : (((cfg0.win 2).blk t).view.emb (ValueIdx.ix2 p q) 0).val = win0_2.index t (0 : Fin 2) * 544 + 1 * p.val := rfl
  have b1 : (((cfg0.win 2).blk t).view.emb (ValueIdx.ix2 p q) 1).val = win0_2.index t (1 : Fin 2) * 1024 + 1 * q.val := rfl
  unfold iblk
  exact (read2 _ t _).trans (Prod.nat_idx _ _ _ _ (by rw [b0, e0, one_mul]) (by rw [b1, e1, one_mul]))

theorem place3 : ∀ t : Fin cfg0.N, win0_3.index t (0 : Fin 2) = t.val / 8 ∧ win0_3.index t (1 : Fin 2) = 0 := (by decide +kernel : ∀ t : Fin grid0.N, _)
theorem read3 (A : (⟨S4352x1024, .bf16⟩ : BufTy).Contents (Elt Ideal)) (t : Fin cfg0.N) (y : S544x1024.Idx) :
    ((cfg0.win 3).blk t).view.read (Elt Ideal) A y = A (((cfg0.win 3).blk t).view.emb y) := rfl
theorem blk3 (t : Fin cfg0.N) (p : Fin 544) (q : Fin 1024) :
    iblk m c 3 t (ValueIdx.ix2 p q) = A3 m c (t.val / 8 * 544 + p.val) ((0) * 1024 + q.val) := by
  obtain ⟨e0, e1⟩ := place3 t
  have b0 : (((cfg0.win 3).blk t).view.emb (ValueIdx.ix2 p q) 0).val = win0_3.index t (0 : Fin 2) * 544 + 1 * p.val := rfl
  have b1 : (((cfg0.win 3).blk t).view.emb (ValueIdx.ix2 p q) 1).val = win0_3.index t (1 : Fin 2) * 1024 + 1 * q.val := rfl
  unfold iblk
  exact (read3 _ t _).trans (Prod.nat_idx _ _ _ _ (by rw [b0, e0, one_mul]) (by rw [b1, e1, one_mul]))

theorem place4 : ∀ t : Fin cfg0.N, win0_4.index t (0 : Fin 2) = t.val / 8 ∧ win0_4.index t (1 : Fin 2) = 0 := (by decide +kernel : ∀ t : Fin grid0.N, _)
theorem read4 (A : (⟨S4352x1024, .bf16⟩ : BufTy).Contents (Elt Ideal)) (t : Fin cfg0.N) (y : S544x1024.Idx) :
    ((cfg0.win 4).blk t).view.read (Elt Ideal) A y = A (((cfg0.win 4).blk t).view.emb y) := rfl
theorem blk4 (t : Fin cfg0.N) (p : Fin 544) (q : Fin 1024) :
    iblk m c 4 t (ValueIdx.ix2 p q) = A4 m c (t.val / 8 * 544 + p.val) ((0) * 1024 + q.val) := by
  obtain ⟨e0, e1⟩ := place4 t
  have b0 : (((cfg0.win 4).blk t).view.emb (ValueIdx.ix2 p q) 0).val = win0_4.index t (0 : Fin 2) * 544 + 1 * p.val := rfl
  have b1 : (((cfg0.win 4).blk t).view.emb (ValueIdx.ix2 p q) 1).val = win0_4.index t (1 : Fin 2) * 1024 + 1 * q.val := rfl
  unfold iblk
  exact (read4 _ t _).trans (Prod.nat_idx _ _ _ _ (by rw [b0, e0, one_mul]) (by rw [b1, e1, one_mul]))

theorem place5 : ∀ t : Fin cfg0.N, win0_5.index t (0 : Fin 2) = t.val / 8 ∧ win0_5.index t (1 : Fin 2) = 0 := (by decide +kernel : ∀ t : Fin grid0.N, _)
theorem read5 (A : (⟨S4352x1024, .bf16⟩ : BufTy).Contents (Elt Ideal)) (t : Fin cfg0.N) (y : S544x1024.Idx) :
    ((cfg0.win 5).blk t).view.read (Elt Ideal) A y = A (((cfg0.win 5).blk t).view.emb y) := rfl
theorem blk5 (t : Fin cfg0.N) (p : Fin 544) (q : Fin 1024) :
    iblk m c 5 t (ValueIdx.ix2 p q) = A5 m c (t.val / 8 * 544 + p.val) ((0) * 1024 + q.val) := by
  obtain ⟨e0, e1⟩ := place5 t
  have b0 : (((cfg0.win 5).blk t).view.emb (ValueIdx.ix2 p q) 0).val = win0_5.index t (0 : Fin 2) * 544 + 1 * p.val := rfl
  have b1 : (((cfg0.win 5).blk t).view.emb (ValueIdx.ix2 p q) 1).val = win0_5.index t (1 : Fin 2) * 1024 + 1 * q.val := rfl
  unfold iblk
  exact (read5 _ t _).trans (Prod.nat_idx _ _ _ _ (by rw [b0, e0, one_mul]) (by rw [b1, e1, one_mul]))

theorem place6 : ∀ t : Fin cfg0.N, 6 ≤ t.val % 8 → win0_6.index t (0 : Fin 2) = t.val / 8 ∧ win0_6.index t (1 : Fin 2) = t.val % 8 - 6 := (by decide +kernel : ∀ t : Fin grid0.N, _)
theorem read6 (A : (⟨S4352x2048, .bf16⟩ : BufTy).Contents (Elt Ideal)) (t : Fin cfg0.N) (y : S544x1024.Idx) :
    ((cfg0.win 6).blk t).view.read (Elt Ideal) A y = A (((cfg0.win 6).blk t).view.emb y) := rfl
theorem blk6 (t : Fin cfg0.N) (hk : 6 ≤ t.val % 8) (p : Fin 544) (q : Fin 1024) :
    iblk m c 6 t (ValueIdx.ix2 p q) = A6 m c (t.val / 8 * 544 + p.val) ((t.val % 8 - 6) * 1024 + q.val) := by
  obtain ⟨e0, e1⟩ := place6 t hk
  have b0 : (((cfg0.win 6).blk t).view.emb (ValueIdx.ix2 p q) 0).val = win0_6.index t (0 : Fin 2) * 544 + 1 * p.val := rfl
  have b1 : (((cfg0.win 6).blk t).view.emb (ValueIdx.ix2 p q) 1).val = win0_6.index t (1 : Fin 2) * 1024 + 1 * q.val := rfl
  unfold iblk
  exact (read6 _ t _).trans (Prod.nat_idx _ _ _ _ (by rw [b0, e0, one_mul]) (by rw [b1, e1, one_mul]))

theorem place7 : ∀ t : Fin cfg0.N, win0_7.index t (0 : Fin 2) = 0 ∧ win0_7.index t (1 : Fin 2) = t.val % 8 := (by decide +kernel : ∀ t : Fin grid0.N, _)
theorem read7 (A : (⟨S1024x8192, .bf16⟩ : BufTy).Contents (Elt Ideal)) (t : Fin cfg0.N) (y : S1024x1024.Idx) :
    ((cfg0.win 7).blk t).view.read (Elt Ideal) A y = A (((cfg0.win 7).blk t).view.emb y) := rfl
theorem blk7 (t : Fin cfg0.N) (p : Fin 1024) (q : Fin 1024) :
    iblk m c 7 t (ValueIdx.ix2 p q) = A7 m c (0 * 1024 + p.val) ((t.val % 8) * 1024 + q.val) := by
  obtain ⟨e0, e1⟩ := place7 t
  have b0 : (((cfg0.win 7).blk t).view.emb (ValueIdx.ix2 p q) 0).val = win0_7.index t (0 : Fin 2) * 1024 + 1 * p.val := rfl
  have b1 : (((cfg0.win 7).blk t).view.emb (ValueIdx.ix2 p q) 1).val = win0_7.index t (1 : Fin 2) * 1024 + 1 * q.val := rfl
  unfold iblk
  exact (read7 _ t _).trans (Prod.nat_idx _ _ _ _ (by rw [b0, e0, one_mul]) (by rw [b1, e1, one_mul]))

theorem place8 : ∀ t : Fin cfg0.N, win0_8.index t (0 : Fin 2) = t.val / 8 ∧ win0_8.index t (1 : Fin 2) = 0 := (by decide +kernel : ∀ t : Fin grid0.N, _)
theorem read8 (A : (⟨S4352x1024, .f32⟩ : BufTy).Contents (Elt Ideal)) (t : Fin cfg0.N) (y : S544x1024.Idx) :
    ((cfg0.win 8).blk t).view.read (Elt Ideal) A y = A (((cfg0.win 8).blk t).view.emb y) := rfl
theorem blk8 (t : Fin cfg0.N) (p : Fin 544) (q : Fin 1024) :
    iblk m c 8 t (ValueIdx.ix2 p q) = A8 m c (t.val / 8 * 544 + p.val) ((0) * 1024 + q.val) := by
  obtain ⟨e0, e1⟩ := place8 t
  have b0 : (((cfg0.win 8).blk t).view.emb (ValueIdx.ix2 p q) 0).val = win0_8.index t (0 : Fin 2) * 544 + 1 * p.val := rfl
  have b1 : (((cfg0.win 8).blk t).view.emb (ValueIdx.ix2 p q) 1).val = win0_8.index t (1 : Fin 2) * 1024 + 1 * q.val := rfl
  unfold iblk
  exact (read8 _ t _).trans (Prod.nat_idx _ _ _ _ (by rw [b0, e0, one_mul]) (by rw [b1, e1, one_mul]))

theorem place9 : ∀ t : Fin cfg0.N, win0_9.index t (0 : Fin 2) = t.val / 8 ∧ win0_9.index t (1 : Fin 2) = 0 := (by decide +kernel : ∀ t : Fin grid0.N, _)
theorem read9 (A : (⟨S4352x1024, .f32⟩ : BufTy).Contents (Elt Ideal)) (t : Fin cfg0.N) (y : S544x1024.Idx) :
    ((cfg0.win 9).blk t).view.read (Elt Ideal) A y = A (((cfg0.win 9).blk t).view.emb y) := rfl
theorem blk9 (t : Fin cfg0.N) (p : Fin 544) (q : Fin 1024) :
    iblk m c 9 t (ValueIdx.ix2 p q) = A9 m c (t.val / 8 * 544 + p.val) ((0) * 1024 + q.val) := by
  obtain ⟨e0, e1⟩ := place9 t
  have b0 : (((cfg0.win 9).blk t).view.emb (ValueIdx.ix2 p q) 0).val = win0_9.index t (0 : Fin 2) * 544 + 1 * p.val := rfl
  have b1 : (((cfg0.win 9).blk t).view.emb (ValueIdx.ix2 p q) 1).val = win0_9.index t (1 : Fin 2) * 1024 + 1 * q.val := rfl
  unfold iblk
  exact (read9 _ t _).trans (Prod.nat_idx _ _ _ _ (by rw [b0, e0, one_mul]) (by rw [b1, e1, one_mul]))

theorem place10 : ∀ t : Fin cfg0.N, win0_10.index t (0 : Fin 2) = 0 ∧ win0_10.index t (1 : Fin 2) = 0 := (by decide +kernel : ∀ t : Fin grid0.N, _)
theorem read10 (A : (⟨S1x1024, .f32⟩ : BufTy).Contents (Elt Ideal)) (t : Fin cfg0.N) (y : S1x1024.Idx) :
    ((cfg0.win 10).blk t).view.read (Elt Ideal) A y = A (((cfg0.win 10).blk t).view.emb y) := rfl
theorem blk10 (t : Fin cfg0.N) (p : Fin 1) (q : Fin 1024) :
    iblk m c 10 t (ValueIdx.ix2 p q) = A10 m c (0 * 1 + p.val) ((0) * 1024 + q.val) := by
  obtain ⟨e0, e1⟩ := place10 t
  have b0 : (((cfg0.win 10).blk t).view.emb (ValueIdx.ix2 p q) 0).val = win0_10.index t (0 : Fin 2) * 1 + 1 * p.val := rfl
  have b1 : (((cfg0.win 10).blk t).view.emb (ValueIdx.ix2 p q) 1).val = win0_10.index t (1 : Fin 2) * 1024 + 1 * q.val := rfl
  unfold iblk
  exact (read10 _ t _).trans (Prod.nat_idx _ _ _ _ (by rw [b0, e0, one_mul]) (by rw [b1, e1, one_mul]))

/-- The part of the joined row a point reads. -/
theorem seg0 (t : Fin cfg0.N) (hk : t.val % 8 = 0) (p : Fin 544) (d : Fin 1024) :
    iblk m c 0 t (ValueIdx.ix2 p d) = cat m c (t.val / 8 * 544 + p.val) (1024 * (t.val % 8) + d.val) := by
  have hd := d.isLt
  rw [blk0 m c t p d, hk]
  unfold cat
  rw [if_pos (by omega)]

theorem seg1 (t : Fin cfg0.N) (hk : t.val % 8 = 1) (p : Fin 544) (d : Fin 1024) :
    iblk m c 1 t (ValueIdx.ix2 p d) = cat m c (t.val / 8 * 544 + p.val) (1024 * (t.val % 8) + d.val) := by
  have hd := d.isLt
  rw [blk1 m c t p d, hk]
  unfold cat
  rw [if_neg (by omega)]
  rw [if_pos (by omega)]
  exact congrArg (A1 m c _) (by omega)

theorem seg2 (t : Fin cfg0.N) (hk : t.val % 8 = 2) (p : Fin 544) (d : Fin 1024) :
    iblk m c 2 t (ValueIdx.ix2 p d) = cat m c (t.val / 8 * 544 + p.val) (1024 * (t.val % 8) + d.val) := by
  have hd := d.isLt
  rw [blk2 m c t p d, hk]
  unfold cat
  rw [if_neg (by omega)]
  rw [if_neg (by omega)]
  rw [if_pos (by omega)]
  exact congrArg (A2 m c _) (by omega)

theorem seg3 (t : Fin cfg0.N) (hk : t.val % 8 = 3) (p : Fin 544) (d : Fin 1024) :
    iblk m c 3 t (ValueIdx.ix2 p d) = cat m c (t.val / 8 * 544 + p.val) (1024 * (t.val % 8) + d.val) := by
  have hd := d.isLt
  rw [blk3 m c t p d, hk]
  unfold cat
  rw [if_neg (by omega)]
  rw [if_neg (by omega)]
  rw [if_neg (by omega)]
  rw [if_pos (by omega)]
  exact congrArg (A3 m c _) (by omega)

theorem seg4 (t : Fin cfg0.N) (hk : t.val % 8 = 4) (p : Fin 544) (d : Fin 1024) :
    iblk m c 4 t (ValueIdx.ix2 p d) = cat m c (t.val / 8 * 544 + p.val) (1024 * (t.val % 8) + d.val) := by
  have hd := d.isLt
  rw [blk4 m c t p d, hk]
  unfold cat
  rw [if_neg (by omega)]
  rw [if_neg (by omega)]
  rw [if_neg (by omega)]
  rw [if_neg (by omega)]
  rw [if_pos (by omega)]
  exact congrArg (A4 m c _) (by omega)

theorem seg5 (t : Fin cfg0.N) (hk : t.val % 8 = 5) (p : Fin 544) (d : Fin 1024) :
    iblk m c 5 t (ValueIdx.ix2 p d) = cat m c (t.val / 8 * 544 + p.val) (1024 * (t.val % 8) + d.val) := by
  have hd := d.isLt
  rw [blk5 m c t p d, hk]
  unfold cat
  rw [if_neg (by omega)]
  rw [if_neg (by omega)]
  rw [if_neg (by omega)]
  rw [if_neg (by omega)]
  rw [if_neg (by omega)]
  rw [if_pos (by omega)]
  exact congrArg (A5 m c _) (by omega)

theorem seg6 (t : Fin cfg0.N) (hk : t.val % 8 = 6) (p : Fin 544) (d : Fin 1024) :
    iblk m c 6 t (ValueIdx.ix2 p d) = cat m c (t.val / 8 * 544 + p.val) (1024 * (t.val % 8) + d.val) := by
  have hd := d.isLt
  rw [blk6 m c t (by omega) p d, hk]
  unfold cat
  rw [if_neg (by omega)]
  rw [if_neg (by omega)]
  rw [if_neg (by omega)]
  rw [if_neg (by omega)]
  rw [if_neg (by omega)]
  rw [if_neg (by omega)]
  exact congrArg (A6 m c _) (by omega)

theorem seg7 (t : Fin cfg0.N) (hk : t.val % 8 = 7) (p : Fin 544) (d : Fin 1024) :
    iblk m c 6 t (ValueIdx.ix2 p d) = cat m c (t.val / 8 * 544 + p.val) (1024 * (t.val % 8) + d.val) := by
  have hd := d.isLt
  rw [blk6 m c t (by omega) p d, hk]
  unfold cat
  rw [if_neg (by omega)]
  rw [if_neg (by omega)]
  rw [if_neg (by omega)]
  rw [if_neg (by omega)]
  rw [if_neg (by omega)]
  rw [if_neg (by omega)]
  exact congrArg (A6 m c _) (by omega)

end Cert.InBack

end
-- ==== Proof.InBackGrid.lean ====
/- The accumulator and the results of the gradient through the input projection, point by point. -/
module

public import proofs.«01_k».proof.Proof.InBackPoint
public import proofs.«01_k».proof.Proof.InBackPay
public import proofs.«01_k».proof.Proof.InBackBlocks

@[expose] public section

set_option maxRecDepth 16384

noncomputable section

namespace Cert.InBack

open Idealize.ShloMosaic Idealize.ShloMosaic.TcCoe Cert.InBwdIdeal Gen
open scoped BigOperators

variable (m : (ℓ : Loc nD τ sig) → Buf (Elt Ideal) ℓ) (c : Dev nD)

/-- What the points before a point left. -/
abbrev before (t : Fin cfg0.N) : Vec Ideal S544x1024 .f32 × Vec Ideal S1x1024 .f32 × Vec Ideal S544x1024 .f32 :=
  outsAt0 m c (t.val - 1) (Nat.lt_of_le_of_lt (Nat.sub_le _ _) t.isLt)

theorem step_A (t : Fin cfg0.N) (hk : t.val % 8 = 0) :
    (outsAt0 m c t.val t.isLt).2.2 = k0_pay1 (F := Ideal) (k0_pay8 (F := Ideal)) (iblk m c 0 t) (iblk m c 7 t) := by
  refine (congrArg (fun o => o.2.2) (outsAt0_A m c t (by omega) (by omega) (by omega) (by omega) (by omega) (by omega) (by omega) (by omega) (by omega))).trans ?_
  dsimp only
  apply acc_A
theorem keep_A (t : Fin cfg0.N) (hk : t.val % 8 = 0) : (outsAt0 m c t.val t.isLt).2.1 = (before m c t).2.1 := by
  refine (congrArg (fun o => o.2.1) (outsAt0_A m c t (by omega) (by omega) (by omega) (by omega) (by omega) (by omega) (by omega) (by omega) (by omega))).trans ?_
  dsimp only
  unfold out0_A_12
  rfl

theorem step_B (t : Fin cfg0.N) (hk : t.val % 8 = 1) :
    (outsAt0 m c t.val t.isLt).2.2 = k0_pay1 (F := Ideal) (before m c t).2.2 (iblk m c 1 t) (iblk m c 7 t) := by
  refine (congrArg (fun o => o.2.2) (outsAt0_B m c t (by omega) (by omega) (by omega) (by omega) (by omega) (by omega) (by omega) (by omega) (by omega))).trans ?_
  dsimp only
  apply acc_B
theorem keep_B (t : Fin cfg0.N) (hk : t.val % 8 = 1) : (outsAt0 m c t.val t.isLt).2.1 = (before m c t).2.1 := by
  refine (congrArg (fun o => o.2.1) (outsAt0_B m c t (by omega) (by omega) (by omega) (by omega) (by omega) (by omega) (by omega) (by omega) (by omega))).trans ?_
  dsimp only
  unfold out0_B_12
  rfl

theorem step_C (t : Fin cfg0.N) (hk : t.val % 8 = 2) :
    (outsAt0 m c t.val t.isLt).2.2 = k0_pay1 (F := Ideal) (before m c t).2.2 (iblk m c 2 t) (iblk m c 7 t) := by
  refine (congrArg (fun o => o.2.2) (outsAt0_C m c t (by omega) (by omega) (by omega) (by omega) (by omega) (by omega) (by omega) (by omega) (by omega))).trans ?_
  dsimp only
  apply acc_C
theorem keep_C (t : Fin cfg0.N) (hk : t.val % 8 = 2) : (outsAt0 m c t.val t.isLt).2.1 = (before m c t).2.1 := by
  refine (congrArg (fun o => o.2.1) (outsAt0_C m c t (by omega) (by omega) (by omega) (by omega) (by omega) (by omega) (by omega) (by omega) (by omega))).trans ?_
  dsimp only
  unfold out0_C_12
  rfl

theorem step_D (t : Fin cfg0.N) (hk : t.val % 8 = 3) :
    (outsAt0 m c t.val t.isLt).2.2 = k0_pay1 (F := Ideal) (before m c t).2.2 (iblk m c 3 t) (iblk m c 7 t) := by
  refine (congrArg (fun o => o.2.2) (outsAt0_D m c t (by omega) (by omega) (by omega) (by omega) (by omega) (by omega) (by omega) (by omega) (by omega))).trans ?_
  dsimp only
  apply acc_D
theorem keep_D (t : Fin cfg0.N) (hk : t.val % 8 = 3) : (outsAt0 m c t.val t.isLt).2.1 = (before m c t).2.1 := by
  refine (congrArg (fun o => o.2.1) (outsAt0_D m c t (by omega) (by omega) (by omega) (by omega) (by omega) (by omega) (by omega) (by omega) (by omega))).trans ?_
  dsimp only
  unfold out0_D_12
  rfl

theorem step_E (t : Fin cfg0.N) (hk : t.val % 8 = 4) :
    (outsAt0 m c t.val t.isLt).2.2 = k0_pay1 (F := Ideal) (before m c t).2.2 (iblk m c 4 t) (iblk m c 7 t) := by
  refine (congrArg (fun o => o.2.2) (outsAt0_E m c t (by omega) (by omega) (by omega) (by omega) (by omega) (by omega) (by omega) (by omega) (by omega))).trans ?_
  dsimp only
  apply acc_E
theorem keep_E (t : Fin cfg0.N) (hk : t.val % 8 = 4) : (outsAt0 m c t.val t.isLt).2.1 = (before m c t).2.1 := by
  refine (congrArg (fun o => o.2.1) (outsAt0_E m c t (by omega) (by omega) (by omega) (by omega) (by omega) (by omega) (by omega) (by omega) (by omega))).trans ?_
  dsimp only
  unfold out0_E_12
  rfl

theorem step_F (t : Fin cfg0.N) (hk : t.val % 8 = 5) :
    (outsAt0 m c t.val t.isLt).2.2 = k0_pay1 (F := Ideal) (before m c t).2.2 (iblk m c 5 t) (iblk m c 7 t) := by
  refine (congrArg (fun o => o.2.2) (outsAt0_F m c t (by omega) (by omega) (by omega) (by omega) (by omega) (by omega) (by omega) (by omega) (by omega))).trans ?_
  dsimp only
  apply acc_F
theorem keep_F (t : Fin cfg0.N) (hk : t.val % 8 = 5) : (outsAt0 m c t.val t.isLt).2.1 = (before m c t).2.1 := by
  refine (congrArg (fun o => o.2.1) (outsAt0_F m c t (by omega) (by omega) (by omega) (by omega) (by omega) (by omega) (by omega) (by omega) (by omega))).trans ?_
  dsimp only
  unfold out0_F_12
  rfl

theorem step_G (t : Fin cfg0.N) (hk : t.val % 8 = 6) :
    (outsAt0 m c t.val t.isLt).2.2 = k0_pay1 (F := Ideal) (before m c t).2.2 (iblk m c 6 t) (iblk m c 7 t) := by
  refine (congrArg (fun o => o.2.2) (outsAt0_G m c t (by omega) (by omega) (by omega) (by omega) (by omega) (by omega) (by omega) (by omega) (by omega))).trans ?_
  dsimp only
  apply acc_G
theorem keep_G (t : Fin cfg0.N) (hk : t.val % 8 = 6) : (outsAt0 m c t.val t.isLt).2.1 = (before m c t).2.1 := by
  refine (congrArg (fun o => o.2.1) (outsAt0_G m c t (by omega) (by omega) (by omega) (by omega) (by omega) (by omega) (by omega) (by omega) (by omega))).trans ?_
  dsimp only
  unfold out0_G_12
  rfl

theorem step_H (t : Fin cfg0.N) (hk : t.val % 8 = 7) (h : t.val < 8) :
    (outsAt0 m c t.val t.isLt).2.2 = k0_pay1 (F := Ideal) (before m c t).2.2 (iblk m c 6 t) (iblk m c 7 t) := by
  refine (congrArg (fun o => o.2.2) (outsAt0_H m c t (by omega) (by omega) (by omega) (by omega) (by omega) (by omega) (by omega) (by omega) (by omega) (by omega) (by omega))).trans ?_
  dsimp only
  apply acc_H
theorem res_H (t : Fin cfg0.N) (hk : t.val % 8 = 7) (h : t.val < 8) :
    (outsAt0 m c t.val t.isLt).1 = k0_pay6 (F := Ideal) (outsAt0 m c t.val t.isLt).2.2 (iblk m c 8 t) (iblk m c 9 t) (iblk m c 10 t) := by
  rw [step_H m c t hk h]
  refine (congrArg (fun o => o.1) (outsAt0_H m c t (by omega) (by omega) (by omega) (by omega) (by omega) (by omega) (by omega) (by omega) (by omega) (by omega) (by omega))).trans ?_
  dsimp only
  apply out_H
theorem add_H (t : Fin cfg0.N) (hk : t.val % 8 = 7) (h : t.val < 8) :
    (outsAt0 m c t.val t.isLt).2.1 = k0_pay5 (F := Ideal) (outsAt0 m c t.val t.isLt).2.2 (iblk m c 8 t) := by
  rw [step_H m c t hk h]
  refine (congrArg (fun o => o.2.1) (outsAt0_H m c t (by omega) (by omega) (by omega) (by omega) (by omega) (by omega) (by omega) (by omega) (by omega) (by omega) (by omega))).trans ?_
  dsimp only
  apply sum_H

theorem step_I (t : Fin cfg0.N) (hk : t.val % 8 = 7) (h : 8 ≤ t.val) :
    (outsAt0 m c t.val t.isLt).2.2 = k0_pay1 (F := Ideal) (before m c t).2.2 (iblk m c 6 t) (iblk m c 7 t) := by
  refine (congrArg (fun o => o.2.2) (outsAt0_I m c t (by omega) (by omega) (by omega) (by omega) (by omega) (by omega) (by omega) (by omega) (by omega) (by omega) (by omega))).trans ?_
  dsimp only
  apply acc_I
theorem res_I (t : Fin cfg0.N) (hk : t.val % 8 = 7) (h : 8 ≤ t.val) :
    (outsAt0 m c t.val t.isLt).1 = k0_pay6 (F := Ideal) (outsAt0 m c t.val t.isLt).2.2 (iblk m c 8 t) (iblk m c 9 t) (iblk m c 10 t) := by
  rw [step_I m c t hk h]
  refine (congrArg (fun o => o.1) (outsAt0_I m c t (by omega) (by omega) (by omega) (by omega) (by omega) (by omega) (by omega) (by omega) (by omega) (by omega) (by omega))).trans ?_
  dsimp only
  apply out_I
theorem add_I (t : Fin cfg0.N) (hk : t.val % 8 = 7) (h : 8 ≤ t.val) :
    (outsAt0 m c t.val t.isLt).2.1 = k0_pay7 (F := Ideal) (outsAt0 m c t.val t.isLt).2.2 (iblk m c 8 t) (before m c t).2.1 := by
  rw [step_I m c t hk h]
  refine (congrArg (fun o => o.2.1) (outsAt0_I m c t (by omega) (by omega) (by omega) (by omega) (by omega) (by omega) (by omega) (by omega) (by omega) (by omega) (by omega))).trans ?_
  dsimp only
  apply sum_I

/-- The rows' products with the weights, over the columns read so far. -/
def pair (p j g : ℕ) : EReal := cat m c p g * A7 m c j g
def part (n p j : ℕ) : EReal := ∑ g ∈ Finset.range n, pair m c p j g

theorem first (f : ℕ → EReal) (k : ℕ) : ∑ d : Fin k, f (0 + d.val) = ∑ i ∈ Finset.range (0 + k), f i := by
  have e := Prod.sum_more f 0 k
  rwa [Finset.sum_range_zero, zero_add] at e

theorem step (t : Fin cfg0.N) (p : Fin 544) (j : Fin 1024) (x : Vec Ideal S544x1024 .bf16)
    (hx : ∀ d : Fin 1024, x (ValueIdx.ix2 p d) = cat m c (t.val / 8 * 544 + p.val) (1024 * (t.val % 8) + d.val)) :
    Prod.nt x (iblk m c 7 t) p j = ∑ d : Fin 1024, pair m c (t.val / 8 * 544 + p.val) j.val (1024 * (t.val % 8) + d.val) := by
  refine Finset.sum_congr rfl fun d _ => ?_
  rw [hx d, blk7 m c t j d]
  unfold pair
  show _ = cat m c (t.val / 8 * 544 + p.val) (1024 * (t.val % 8) + d.val) * A7 m c j.val (1024 * (t.val % 8) + d.val)
  exact congrArg₂ (fun a b => cat m c (t.val / 8 * 544 + p.val) (1024 * (t.val % 8) + d.val) * A7 m c a b) (by omega) (by omega)

/-- The accumulator after each point. -/
theorem acc_at (n : ℕ) : ∀ hn : n < cfg0.N, ∀ (p : Fin 544) (j : Fin 1024),
    (outsAt0 m c n hn).2.2 (ValueIdx.ix2 p j) = part m c (1024 * (n % 8) + 1024) (n / 8 * 544 + p.val) j.val := by
  induction n with
  | zero =>
    intro hn p j
    refine (congrFun (step_A m c ⟨0, hn⟩ rfl) _).trans ?_
    rw [pay1_apply, pay8_apply, step m c ⟨0, hn⟩ p j _ fun d => seg0 m c ⟨0, hn⟩ rfl p d]
    exact (zero_add _).trans (first (pair m c (0 / 8 * 544 + p.val) j.val) 1024)
  | succ n ih =>
    intro hn p j
    have hb : ∀ p : Fin 544, n % 8 ≠ 7 → (before m c ⟨n + 1, hn⟩).2.2 (ValueIdx.ix2 p j) = part m c (1024 * ((n + 1) % 8)) ((n + 1) / 8 * 544 + p.val) j.val := fun p h => by
      refine (ih (by omega) p j).trans ?_
      rw [show 1024 * (n % 8) + 1024 = 1024 * ((n + 1) % 8) by omega, show n / 8 = (n + 1) / 8 by omega]
    have h8 : (n + 1) % 8 < 8 := Nat.mod_lt _ (by omega)
    generalize hk : (n + 1) % 8 = k at h8
    interval_cases k
    · refine (congrFun (step_A m c ⟨n + 1, hn⟩ hk) _).trans ?_
      rw [pay1_apply, pay8_apply, step m c ⟨n + 1, hn⟩ p j _ fun d => seg0 m c ⟨n + 1, hn⟩ hk p d]
      simp only [hk]
      exact (zero_add _).trans (first (pair m c ((n + 1) / 8 * 544 + p.val) j.val) 1024)
    · refine (congrFun (step_B m c ⟨n + 1, hn⟩ hk) _).trans ?_
      rw [pay1_apply, hb p (by omega), step m c ⟨n + 1, hn⟩ p j _ fun d => seg1 m c ⟨n + 1, hn⟩ hk p d]
      simp only [hk]
      exact Prod.sum_more (pair m c ((n + 1) / 8 * 544 + p.val) j.val) _ 1024
    · refine (congrFun (step_C m c ⟨n + 1, hn⟩ hk) _).trans ?_
      rw [pay1_apply, hb p (by omega), step m c ⟨n + 1, hn⟩ p j _ fun d => seg2 m c ⟨n + 1, hn⟩ hk p d]
      simp only [hk]
      exact Prod.sum_more (pair m c ((n + 1) / 8 * 544 + p.val) j.val) _ 1024
    · refine (congrFun (step_D m c ⟨n + 1, hn⟩ hk) _).trans ?_
      rw [pay1_apply, hb p (by omega), step m c ⟨n + 1, hn⟩ p j _ fun d => seg3 m c ⟨n + 1, hn⟩ hk p d]
      simp only [hk]
      exact Prod.sum_more (pair m c ((n + 1) / 8 * 544 + p.val) j.val) _ 1024
    · refine (congrFun (step_E m c ⟨n + 1, hn⟩ hk) _).trans ?_
      rw [pay1_apply, hb p (by omega), step m c ⟨n + 1, hn⟩ p j _ fun d => seg4 m c ⟨n + 1, hn⟩ hk p d]
      simp only [hk]
      exact Prod.sum_more (pair m c ((n + 1) / 8 * 544 + p.val) j.val) _ 1024
    · refine (congrFun (step_F m c ⟨n + 1, hn⟩ hk) _).trans ?_
      rw [pay1_apply, hb p (by omega), step m c ⟨n + 1, hn⟩ p j _ fun d => seg5 m c ⟨n + 1, hn⟩ hk p d]
      simp only [hk]
      exact Prod.sum_more (pair m c ((n + 1) / 8 * 544 + p.val) j.val) _ 1024
    · refine (congrFun (step_G m c ⟨n + 1, hn⟩ hk) _).trans ?_
      rw [pay1_apply, hb p (by omega), step m c ⟨n + 1, hn⟩ p j _ fun d => seg6 m c ⟨n + 1, hn⟩ hk p d]
      simp only [hk]
      exact Prod.sum_more (pair m c ((n + 1) / 8 * 544 + p.val) j.val) _ 1024
    · have hs : (outsAt0 m c (n + 1) hn).2.2 = k0_pay1 (F := Ideal) (before m c ⟨n + 1, hn⟩).2.2 (iblk m c 6 ⟨n + 1, hn⟩) (iblk m c 7 ⟨n + 1, hn⟩) := by
        rcases Nat.lt_or_ge (n + 1) 8 with h | h
        · exact step_H m c ⟨n + 1, hn⟩ hk h
        · exact step_I m c ⟨n + 1, hn⟩ hk h
      refine (congrFun (hs) _).trans ?_
      rw [pay1_apply, hb p (by omega), step m c ⟨n + 1, hn⟩ p j _ fun d => seg7 m c ⟨n + 1, hn⟩ hk p d]
      simp only [hk]
      exact Prod.sum_more (pair m c ((n + 1) / 8 * 544 + p.val) j.val) _ 1024

/-- The whole product, and a row of the normed input. -/
def dz (p j : ℕ) : EReal := part m c 8192 p j
def hrow (p : ℕ) : Fin 1024 → EReal := fun k => A8 m c p k.val

theorem acc_full (t : Fin cfg0.N) (hk : t.val % 8 = 7) (p : Fin 544) (j : Fin 1024) :
    (outsAt0 m c t.val t.isLt).2.2 (ValueIdx.ix2 p j) = dz m c (t.val / 8 * 544 + p.val) j.val := by
  rw [acc_at m c t.val t.isLt p j, hk]; rfl

theorem row_at (t : Fin cfg0.N) (p : Fin 544) : row (iblk m c 8 t) p = hrow m c (t.val / 8 * 544 + p.val) := by
  funext k
  refine (blk8 m c t p k).trans ?_
  exact congrArg (A8 m c _) (by omega)

/-- The first result's block. -/
theorem res_at (t : Fin cfg0.N) (hk : t.val % 8 = 7) (p : Fin 544) (j : Fin 1024) :
    (outsAt0 m c t.val t.isLt).1 (ValueIdx.ix2 p j) = A9 m c (t.val / 8 * 544 + p.val) j.val
      + Norm.back (hrow m c (t.val / 8 * 544 + p.val)) (fun k => dz m c (t.val / 8 * 544 + p.val) k.val * A10 m c 0 k.val) j := by
  have e : (outsAt0 m c t.val t.isLt).1 = k0_pay6 (F := Ideal) (outsAt0 m c t.val t.isLt).2.2 (iblk m c 8 t) (iblk m c 9 t) (iblk m c 10 t) := by
    rcases Nat.lt_or_ge t.val 8 with h | h
    · exact res_H m c t hk h
    · exact res_I m c t hk h
  have e9 : iblk m c 9 t (ValueIdx.ix2 p j) = A9 m c (t.val / 8 * 544 + p.val) j.val := (blk9 m c t p j).trans (congrArg (A9 m c _) (by omega))
  have et : (fun k : Fin 1024 => (outsAt0 m c t.val t.isLt).2.2 (ValueIdx.ix2 p k) * iblk m c 10 t (ValueIdx.ix2 0 k)) = fun k => dz m c (t.val / 8 * 544 + p.val) k.val * A10 m c 0 k.val := by
    funext k
    rw [acc_full m c t hk p k, blk10 m c t 0 k]
    exact congrArg (fun b => dz m c (t.val / 8 * 544 + p.val) k.val * A10 m c 0 b) (by omega)
  refine (congrFun e _).trans ((pay6_apply _ _ _ _ p j).trans ?_)
  rw [e9, row_at, et]

/-- The second result after each point: the rows done so far. -/
def term (j p : ℕ) : EReal := dz m c p j * (if h : j < 1024 then Norm.hat (hrow m c p) ⟨j, h⟩ else 0)
def rows (n j : ℕ) : EReal := ∑ p ∈ Finset.range n, term m c j p

theorem more (t : Fin cfg0.N) (hk : t.val % 8 = 7) (j : Fin 1024) :
    (∑ p : Fin 544, (outsAt0 m c t.val t.isLt).2.2 (ValueIdx.ix2 p j) * Norm.hat (row (iblk m c 8 t) p) j)
      = ∑ p : Fin 544, term m c j.val (t.val / 8 * 544 + p.val) := by
  refine Finset.sum_congr rfl fun p _ => ?_
  unfold term
  rw [acc_full m c t hk p j, row_at, dif_pos j.isLt]

theorem sum_at (n : ℕ) : ∀ hn : n < cfg0.N, 7 ≤ n → ∀ j : Fin 1024,
    (outsAt0 m c n hn).2.1 (ValueIdx.ix2 0 j) = rows m c ((n + 1) / 8 * 544) j.val := by
  induction n with
  | zero => intro _ h; omega
  | succ n ih =>
    intro hn h7 j
    have h8 : (n + 1) % 8 < 8 := Nat.mod_lt _ (by omega)
    have hq : (n + 1) % 8 ≠ 7 → (outsAt0 m c (n + 1) hn).2.1 = (before m c ⟨n + 1, hn⟩).2.1 → (outsAt0 m c (n + 1) hn).2.1 (ValueIdx.ix2 0 j) = rows m c ((n + 1 + 1) / 8 * 544) j.val := fun hk e => by
      refine (congrFun e _).trans ((ih (by omega) (by omega) j).trans ?_)
      rw [show (n + 1) / 8 = (n + 1 + 1) / 8 by omega]
    generalize hk : (n + 1) % 8 = k at h8
    interval_cases k
    · exact hq (by omega) (keep_A m c ⟨n + 1, hn⟩ hk)
    · exact hq (by omega) (keep_B m c ⟨n + 1, hn⟩ hk)
    · exact hq (by omega) (keep_C m c ⟨n + 1, hn⟩ hk)
    · exact hq (by omega) (keep_D m c ⟨n + 1, hn⟩ hk)
    · exact hq (by omega) (keep_E m c ⟨n + 1, hn⟩ hk)
    · exact hq (by omega) (keep_F m c ⟨n + 1, hn⟩ hk)
    · exact hq (by omega) (keep_G m c ⟨n + 1, hn⟩ hk)
    · rcases Nat.lt_or_ge (n + 1) 8 with h | h
      · refine (congrFun (add_H m c ⟨n + 1, hn⟩ hk h) _).trans ((pay5_apply _ _ 0 j).trans ((more m c ⟨n + 1, hn⟩ hk j).trans ?_))
        have e1 : (n + 1) / 8 * 544 = 0 := by omega
        have e2 : (n + 1 + 1) / 8 * 544 = 0 + 544 := by omega
        simp only [e1, e2]
        exact first (term m c j.val) 544
      · refine (congrFun (add_I m c ⟨n + 1, hn⟩ hk h) _).trans ((pay7_apply _ _ _ 0 j).trans ?_)
        rw [more m c ⟨n + 1, hn⟩ hk j]
        have e : (before m c ⟨n + 1, hn⟩).2.1 (ValueIdx.ix2 0 j) = rows m c ((n + 1) / 8 * 544) j.val := ih (by omega) (by omega) j
        rw [e, show (n + 1 + 1) / 8 * 544 = (n + 1) / 8 * 544 + 544 by omega]
        exact Prod.sum_more (term m c j.val) _ 544

end Cert.InBack

end
-- ==== Proof.InBackOut.lean ====
/- The two results of the gradient through the input projection and its norm, as the arrays end. -/
module

public import proofs.«01_k».proof.Proof.InBackGrid
public import proofs.«01_k».proof.Proof.Gen.InBwdIdeal.Value

@[expose] public section

set_option maxRecDepth 16384

noncomputable section

namespace Cert.InBack

open Idealize.ShloMosaic Idealize.ShloMosaic.TcCoe Cert.InBwdIdeal Gen
open scoped BigOperators

variable (m : (ℓ : Loc nD τ sig) → Buf (Elt Ideal) ℓ) (c : Dev nD)

/-- The first result: the rows' gradient. -/
theorem G11_at (p : Fin 4352) (j : Fin 1024) : Value.G11 m c (ValueIdx.ix2 p j)
    = A9 m c p.val j.val + Norm.back (hrow m c p.val) (fun k => dz m c p.val k.val * A10 m c 0 k.val) j := by
  have hp := p.isLt
  have hj := j.isLt
  have e : Value.pt11Of (ValueIdx.ix2 p j) = 8 * (p.val / 544) + 7 := by
    show 8 * (1 * (p.val / 544 - 0) + 1 * (j.val / 1024 - 0)) + 7 = _
    omega
  have hn : Value.pt11Of (ValueIdx.ix2 p j) < cfg0.N := by rw [e]; exact lt_of_lt_of_eq (by omega) N_0.symm
  have hl : Value.loc11Of (ValueIdx.ix2 p j) = ValueIdx.ix2 (⟨p.val % 544, Nat.mod_lt _ (by decide)⟩ : Fin 544) j :=
    Prod.eq_pair _ _ _ rfl (by show j.val % 1024 = j.val; omega)
  unfold Value.G11
  rw [dif_pos hn, ← Value.outsAt0_sweep m c _ hn, hl]
  refine (res_at m c ⟨_, hn⟩ (by show Value.pt11Of (ValueIdx.ix2 p j) % 8 = 7; omega) _ j).trans ?_
  have er : Value.pt11Of (ValueIdx.ix2 p j) / 8 * 544 + p.val % 544 = p.val := by omega
  show A9 m c (Value.pt11Of (ValueIdx.ix2 p j) / 8 * 544 + p.val % 544) j.val + Norm.back (hrow m c (Value.pt11Of (ValueIdx.ix2 p j) / 8 * 544 + p.val % 544)) (fun k => dz m c (Value.pt11Of (ValueIdx.ix2 p j) / 8 * 544 + p.val % 544) k.val * A10 m c 0 k.val) j = _
  rw [er]

/-- The second result: the gain's gradient. -/
theorem G12_at (j : Fin 1024) : Value.G12 m c (ValueIdx.ix2 0 j) = rows m c 4352 j.val := by
  have hn : 63 < cfg0.N := lt_of_lt_of_eq (by decide) N_0.symm
  rw [Value.G12_last, ← Value.outsAt0_sweep m c 63 hn]
  exact sum_at m c 63 hn (by decide) j

end Cert.InBack

end
-- ==== Proof.InBackRef.lean ====
/- The reference of the gradient through the input projection and its norm, entry by entry. -/
module

public import proofs.«01_k».proof.Proof.Norm
public import proofs.«01_k».proof.Proof.Nat2
public import proofs.«01_k».proof.Proof.Gen.InBwdRefIdeal.Read

@[expose] public section

set_option maxRecDepth 16384

noncomputable section

namespace Cert.InBack

open Idealize.ShloMosaic Cert.InBwdRefIdeal Cert.InBwdRefIdeal.Read
open scoped BigOperators

variable (x0 : (⟨S4352x1024, .bf16⟩ : BufTy).Contents (Elt Ideal)) (x1 : (⟨S4352x1024, .bf16⟩ : BufTy).Contents (Elt Ideal)) (x2 : (⟨S4352x1024, .bf16⟩ : BufTy).Contents (Elt Ideal)) (x3 : (⟨S4352x1024, .bf16⟩ : BufTy).Contents (Elt Ideal)) (x4 : (⟨S4352x1024, .bf16⟩ : BufTy).Contents (Elt Ideal)) (x5 : (⟨S4352x1024, .bf16⟩ : BufTy).Contents (Elt Ideal)) (x6 : (⟨S4352x2048, .bf16⟩ : BufTy).Contents (Elt Ideal)) (x7 : (⟨S1024x8192, .bf16⟩ : BufTy).Contents (Elt Ideal)) (x8 : (⟨S4352x1024, .f32⟩ : BufTy).Contents (Elt Ideal)) (x9 : (⟨S4352x1024, .f32⟩ : BufTy).Contents (Elt Ideal)) (x10 : (⟨S1x1024, .f32⟩ : BufTy).Contents (Elt Ideal))

/-- A row of the normed matrix. -/
abbrev hr (p : Fin 4352) : Fin 1024 → EReal := fun k => x8 (ValueIdx.ix2 p k)

theorem ref8 (p : Fin 4352) (i : S4352x1.Idx) (hi : (i 0).val = p.val) : val_main_v8 (F := Ideal) x8 i = Norm.me (hr x8 p) := by
  have e3 : val_main_v3 (F := Ideal) x8 (idx_main_v4 i) = ∑ k : Fin 1024, hr x8 p k * hr x8 p k := by
    rw [val_main_v3_apply]
    refine (congrArg (· + _) Norm.zero_eq).trans ((zero_add _).trans (Finset.sum_congr rfl fun k _ => ?_))
    have e := Prod.eq_pair (idx_main_v3 (idx_main_v4 i) k) p k hi rfl
    rw [val_main_v2_apply, e]; rfl
  rw [val_main_v8_apply, val_main_v6_apply, val_main_v4_apply, e3]; rfl

theorem ref9 (p : Fin 4352) (i : S4352x1.Idx) (hi : (i 0).val = p.val) : val_main_v9 (F := Ideal) x8 i = Norm.rs (hr x8 p) := by
  rw [val_main_v9_apply, ref8 x8 p i hi]; rfl

theorem ref12 (p : Fin 4352) (i : S4352x1.Idx) (hi : (i 0).val = p.val) :
    val_main_v12 (F := Ideal) x8 i = Norm.half * Ideal.div (Norm.rs (hr x8 p)) (Norm.me (hr x8 p)) := by
  rw [val_main_v12_apply, val_main_v10_apply, ref9 x8 p i hi, ref8 x8 p i hi]; rfl

/-- The rows' products with the weights. -/
abbrev rz (p : Fin 4352) (j : Fin 1024) : EReal := val_main_v19 (F := Ideal) x0 x1 x2 x3 x4 x5 x6 x7 (ValueIdx.ix2 p j)

theorem ref24 (p : Fin 4352) (j : Fin 1024) : val_main_v24 (F := Ideal) x0 x1 x2 x3 x4 x5 x6 x7 x10 (ValueIdx.ix2 p j) = rz x0 x1 x2 x3 x4 x5 x6 x7 p j * x10 (ValueIdx.ix2 0 j) := by
  have e := Prod.eq_pair (idx_main_v23 (ValueIdx.ix2 p j)) 0 j rfl rfl
  rw [val_main_v24_apply, val_main_v23_apply, e]; rfl

/-- The gradient of the normed row. -/
abbrev tr (p : Fin 4352) : Fin 1024 → EReal := fun k => rz x0 x1 x2 x3 x4 x5 x6 x7 p k * x10 (ValueIdx.ix2 0 k)

theorem ref30 (p : Fin 4352) (i : S4352x1.Idx) (hi : (i 0).val = p.val) :
    val_main_v32 (F := Ideal) x0 x1 x2 x3 x4 x5 x6 x7 x8 x10 i = Norm.thru (hr x8 p) (tr x0 x1 x2 x3 x4 x5 x6 x7 x10 p) := by
  have e27 : val_main_v27 (F := Ideal) x0 x1 x2 x3 x4 x5 x6 x7 x8 x10 i = ∑ k : Fin 1024, hr x8 p k * tr x0 x1 x2 x3 x4 x5 x6 x7 x10 p k := by
    rw [val_main_v27_apply, val_main_v26_apply]
    refine (congrArg (· + _) Norm.zero_eq).trans ((zero_add _).trans (Finset.sum_congr rfl fun k _ => ?_))
    have h1 : (i 1).val < 1 := (i 1).isLt
    have e := Prod.eq_pair (idx_main_v26 (idx_main_v27 i) k) p k (by show (i 0).val * 1 + (i 1).val = _; omega) rfl
    rw [val_main_v25_apply, e, ref24]; rfl
  rw [val_main_v32_apply, val_main_v30_apply, e27, ref12 x8 p i hi]; rfl

theorem ref34 (p : Fin 4352) (j : Fin 1024) :
    val_main_v34 (F := Ideal) x0 x1 x2 x3 x4 x5 x6 x7 x8 x10 (ValueIdx.ix2 p j) = Norm.thru (hr x8 p) (tr x0 x1 x2 x3 x4 x5 x6 x7 x10 p) := by
  rw [val_main_v34_apply, val_main_v33_apply]
  refine (congrArg (· + _) Norm.zero_eq).trans ((zero_add _).trans ((Fin.sum_univ_one _).trans ?_))
  exact ref30 x0 x1 x2 x3 x4 x5 x6 x7 x8 x10 p _ rfl

/-- The reference's first result. -/
theorem ref39 (p : Fin 4352) (j : Fin 1024) :
    val_main_v39 (F := Ideal) x0 x1 x2 x3 x4 x5 x6 x7 x8 x9 x10 (ValueIdx.ix2 p j) = x9 (ValueIdx.ix2 p j) + Norm.deriv (hr x8 p) (tr x0 x1 x2 x3 x4 x5 x6 x7 x10 p) j := by
  rw [val_main_v39_apply, val_main_v38_apply, val_main_v36_apply, val_main_v37_apply, val_main_v35_apply, val_main_v29_apply, val_main_v28_apply,
    ref34, ref24, ref9 x8 p _ rfl]
  rfl

/-- The reference's second result. -/
theorem ref22 (j : Fin 1024) :
    val_main_v22 (F := Ideal) x0 x1 x2 x3 x4 x5 x6 x7 x8 (ValueIdx.ix2 0 j) = ∑ p : Fin 4352, rz x0 x1 x2 x3 x4 x5 x6 x7 p j * Norm.hat (hr x8 p) j := by
  rw [val_main_v22_apply, val_main_v21_apply]
  refine (congrArg (· + _) Norm.zero_eq).trans ((zero_add _).trans (Finset.sum_congr rfl fun p _ => ?_))
  have e := Prod.eq_pair (idx_main_v21 (idx_main_v22 (ValueIdx.ix2 0 j)) p) p j rfl (by show 0 * 1024 + j.val = j.val; omega)
  rw [e, val_main_v20_apply, val_main_v14_apply, val_main_v13_apply, ref9 x8 p _ rfl]
  exact mul_comm _ _

/-- The product is over the joined rows. -/
theorem ref19 (p : Fin 4352) (j : Fin 1024) : rz x0 x1 x2 x3 x4 x5 x6 x7 p j = ∑ k : Fin 8192, val_main_v0 (F := Ideal) x0 x1 x2 x3 x4 x5 x6 (ValueIdx.ix2 p k) * x7 (ValueIdx.ix2 j k) := by
  unfold rz
  rw [val_main_v19_apply]
  refine Finset.sum_congr rfl fun k _ => ?_
  have e1 := Prod.eq_pair (lidx_main_v19 (ValueIdx.ix2 p j) k) p k rfl rfl
  have e2 := Prod.eq_pair (ridx_main_v19 (ValueIdx.ix2 p j) k) j k rfl rfl
  rw [e1, e2]; rfl

/-- The joined rows, entry by entry. -/
theorem joined0 (p : Fin 4352) (l : Fin 1024) (g : Fin 8192) (hg : g.val = 0 + l.val) :
    val_main_v0 (F := Ideal) x0 x1 x2 x3 x4 x5 x6 (ValueIdx.ix2 p g) = x0 (ValueIdx.ix2 p l) := by
  unfold val_main_v0
  refine concatenate_apply_piece (t := S4352x8192) 1 _ _ (ValueIdx.ix2 p g) 0 (by show 0 < 7; omega) S4352x1024 x0 rfl rfl 0 rfl (ValueIdx.ix2 p l) (fun b hb => ?_) hg.symm
  match b with
  | ⟨0, _⟩ => rfl
  | ⟨1, _⟩ => exact absurd rfl hb

theorem joined1 (p : Fin 4352) (l : Fin 1024) (g : Fin 8192) (hg : g.val = 1024 + l.val) :
    val_main_v0 (F := Ideal) x0 x1 x2 x3 x4 x5 x6 (ValueIdx.ix2 p g) = x1 (ValueIdx.ix2 p l) := by
  unfold val_main_v0
  refine concatenate_apply_piece (t := S4352x8192) 1 _ _ (ValueIdx.ix2 p g) 1 (by show 1 < 7; omega) S4352x1024 x1 rfl rfl 1024 rfl (ValueIdx.ix2 p l) (fun b hb => ?_) hg.symm
  match b with
  | ⟨0, _⟩ => rfl
  | ⟨1, _⟩ => exact absurd rfl hb

theorem joined2 (p : Fin 4352) (l : Fin 1024) (g : Fin 8192) (hg : g.val = 2048 + l.val) :
    val_main_v0 (F := Ideal) x0 x1 x2 x3 x4 x5 x6 (ValueIdx.ix2 p g) = x2 (ValueIdx.ix2 p l) := by
  unfold val_main_v0
  refine concatenate_apply_piece (t := S4352x8192) 1 _ _ (ValueIdx.ix2 p g) 2 (by show 2 < 7; omega) S4352x1024 x2 rfl rfl 2048 rfl (ValueIdx.ix2 p l) (fun b hb => ?_) hg.symm
  match b with
  | ⟨0, _⟩ => rfl
  | ⟨1, _⟩ => exact absurd rfl hb

theorem joined3 (p : Fin 4352) (l : Fin 1024) (g : Fin 8192) (hg : g.val = 3072 + l.val) :
    val_main_v0 (F := Ideal) x0 x1 x2 x3 x4 x5 x6 (ValueIdx.ix2 p g) = x3 (ValueIdx.ix2 p l) := by
  unfold val_main_v0
  refine concatenate_apply_piece (t := S4352x8192) 1 _ _ (ValueIdx.ix2 p g) 3 (by show 3 < 7; omega) S4352x1024 x3 rfl rfl 3072 rfl (ValueIdx.ix2 p l) (fun b hb => ?_) hg.symm
  match b with
  | ⟨0, _⟩ => rfl
  | ⟨1, _⟩ => exact absurd rfl hb

theorem joined4 (p : Fin 4352) (l : Fin 1024) (g : Fin 8192) (hg : g.val = 4096 + l.val) :
    val_main_v0 (F := Ideal) x0 x1 x2 x3 x4 x5 x6 (ValueIdx.ix2 p g) = x4 (ValueIdx.ix2 p l) := by
  unfold val_main_v0
  refine concatenate_apply_piece (t := S4352x8192) 1 _ _ (ValueIdx.ix2 p g) 4 (by show 4 < 7; omega) S4352x1024 x4 rfl rfl 4096 rfl (ValueIdx.ix2 p l) (fun b hb => ?_) hg.symm
  match b with
  | ⟨0, _⟩ => rfl
  | ⟨1, _⟩ => exact absurd rfl hb

theorem joined5 (p : Fin 4352) (l : Fin 1024) (g : Fin 8192) (hg : g.val = 5120 + l.val) :
    val_main_v0 (F := Ideal) x0 x1 x2 x3 x4 x5 x6 (ValueIdx.ix2 p g) = x5 (ValueIdx.ix2 p l) := by
  unfold val_main_v0
  refine concatenate_apply_piece (t := S4352x8192) 1 _ _ (ValueIdx.ix2 p g) 5 (by show 5 < 7; omega) S4352x1024 x5 rfl rfl 5120 rfl (ValueIdx.ix2 p l) (fun b hb => ?_) hg.symm
  match b with
  | ⟨0, _⟩ => rfl
  | ⟨1, _⟩ => exact absurd rfl hb

theorem joined6 (p : Fin 4352) (l : Fin 2048) (g : Fin 8192) (hg : g.val = 6144 + l.val) :
    val_main_v0 (F := Ideal) x0 x1 x2 x3 x4 x5 x6 (ValueIdx.ix2 p g) = x6 (ValueIdx.ix2 p l) := by
  unfold val_main_v0
  refine concatenate_apply_piece (t := S4352x8192) 1 _ _ (ValueIdx.ix2 p g) 6 (by show 6 < 7; omega) S4352x2048 x6 rfl rfl 6144 rfl (ValueIdx.ix2 p l) (fun b hb => ?_) hg.symm
  match b with
  | ⟨0, _⟩ => rfl
  | ⟨1, _⟩ => exact absurd rfl hb

theorem joined (p : Fin 4352) (g : Fin 8192) : val_main_v0 (F := Ideal) x0 x1 x2 x3 x4 x5 x6 (ValueIdx.ix2 p g)
    = if g.val < 1024 then Prod.nat (a := 4352) (b := 1024) x0 p.val g.val else if g.val < 2048 then Prod.nat (a := 4352) (b := 1024) x1 p.val (g.val - 1024) else if g.val < 3072 then Prod.nat (a := 4352) (b := 1024) x2 p.val (g.val - 2048) else if g.val < 4096 then Prod.nat (a := 4352) (b := 1024) x3 p.val (g.val - 3072) else if g.val < 5120 then Prod.nat (a := 4352) (b := 1024) x4 p.val (g.val - 4096) else if g.val < 6144 then Prod.nat (a := 4352) (b := 1024) x5 p.val (g.val - 5120) else Prod.nat (a := 4352) (b := 2048) x6 p.val (g.val - 6144) := by
  have hg := g.isLt
  by_cases h0 : g.val < 1024
  · rw [if_pos h0]
    exact (joined0 x0 x1 x2 x3 x4 x5 x6 p ⟨g.val - 0, by omega⟩ g (by show g.val = 0 + (g.val - 0); omega)).trans (Prod.nat_at (a := 4352) (b := 1024) x0 p ⟨g.val - 0, by omega⟩).symm
  rw [if_neg h0]
  by_cases h1 : g.val < 2048
  · rw [if_pos h1]
    exact (joined1 x0 x1 x2 x3 x4 x5 x6 p ⟨g.val - 1024, by omega⟩ g (by show g.val = 1024 + (g.val - 1024); omega)).trans (Prod.nat_at (a := 4352) (b := 1024) x1 p ⟨g.val - 1024, by omega⟩).symm
  rw [if_neg h1]
  by_cases h2 : g.val < 3072
  · rw [if_pos h2]
    exact (joined2 x0 x1 x2 x3 x4 x5 x6 p ⟨g.val - 2048, by omega⟩ g (by show g.val = 2048 + (g.val - 2048); omega)).trans (Prod.nat_at (a := 4352) (b := 1024) x2 p ⟨g.val - 2048, by omega⟩).symm
  rw [if_neg h2]
  by_cases h3 : g.val < 4096
  · rw [if_pos h3]
    exact (joined3 x0 x1 x2 x3 x4 x5 x6 p ⟨g.val - 3072, by omega⟩ g (by show g.val = 3072 + (g.val - 3072); omega)).trans (Prod.nat_at (a := 4352) (b := 1024) x3 p ⟨g.val - 3072, by omega⟩).symm
  rw [if_neg h3]
  by_cases h4 : g.val < 5120
  · rw [if_pos h4]
    exact (joined4 x0 x1 x2 x3 x4 x5 x6 p ⟨g.val - 4096, by omega⟩ g (by show g.val = 4096 + (g.val - 4096); omega)).trans (Prod.nat_at (a := 4352) (b := 1024) x4 p ⟨g.val - 4096, by omega⟩).symm
  rw [if_neg h4]
  by_cases h5 : g.val < 6144
  · rw [if_pos h5]
    exact (joined5 x0 x1 x2 x3 x4 x5 x6 p ⟨g.val - 5120, by omega⟩ g (by show g.val = 5120 + (g.val - 5120); omega)).trans (Prod.nat_at (a := 4352) (b := 1024) x5 p ⟨g.val - 5120, by omega⟩).symm
  rw [if_neg h5]
  exact (joined6 x0 x1 x2 x3 x4 x5 x6 p ⟨g.val - 6144, by omega⟩ g (by show g.val = 6144 + (g.val - 6144); omega)).trans (Prod.nat_at (a := 4352) (b := 2048) x6 p ⟨g.val - 6144, by omega⟩).symm

end Cert.InBack

end
-- ==== Proof.InBack.lean ====
/- The gradient through the input projection and its norm: the kernel's results are the reference's. -/
module

public import proofs.«01_k».proof.Proof.InBackOut
public import proofs.«01_k».proof.Proof.InBackRef

@[expose] public section

set_option maxRecDepth 16384

noncomputable section

namespace Cert.InBack

open Idealize.ShloMosaic Idealize.ShloMosaic.TcCoe
open scoped BigOperators

variable (m : (ℓ : Loc Cert.InBwdIdeal.nD Cert.InBwdIdeal.τ Cert.InBwdIdeal.sig) → Buf (Elt Ideal) ℓ) (c : Dev Cert.InBwdIdeal.nD)

/-- The reference's product is the kernel's. -/
theorem product (p : Fin 4352) (j : Fin 1024) : rz (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) p j = dz m c p.val j.val := by
  rw [ref19]
  unfold dz part
  refine (Finset.sum_congr rfl fun k _ => ?_).trans (Fin.sum_univ_eq_sum_range (pair m c p.val j.val) 8192)
  rw [joined]
  exact congrArg₂ (fun a b : EReal => a * b) rfl (Prod.nat_at (a := 1024) (b := 8192) (m ((c.tc : Thread Cert.InBwdIdeal.nD Cert.InBwdIdeal.τ).loc Cert.InBwdIdeal.main_arg7)) j k).symm

theorem rows_eq (p : Fin 4352) : hr (m ((c.tc : Thread Cert.InBwdIdeal.nD Cert.InBwdIdeal.τ).loc Cert.InBwdIdeal.main_arg8)) p = hrow m c p.val := by
  funext k
  exact (Prod.nat_at (a := 4352) (b := 1024) (m ((c.tc : Thread Cert.InBwdIdeal.nD Cert.InBwdIdeal.τ).loc Cert.InBwdIdeal.main_arg8)) p k).symm

theorem grad_eq (p : Fin 4352) : tr (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg10)) p = fun k => dz m c p.val k.val * A10 m c 0 k.val := by
  funext k
  exact congrArg₂ (fun a b : EReal => a * b) (product m c p k) (Prod.nat_at (a := 1) (b := 1024) (m ((c.tc : Thread Cert.InBwdIdeal.nD Cert.InBwdIdeal.τ).loc Cert.InBwdIdeal.main_arg10)) 0 k).symm

/-- The first results are equal. -/
theorem equal1 {y0 y1 y2 y3 y4 y5 y6 y7 y8 y9 y10 : _}
    (a0 : y0 = m ((c.tc : Thread Cert.InBwdIdeal.nD Cert.InBwdIdeal.τ).loc Cert.InBwdIdeal.main_arg0))
    (a1 : y1 = m ((c.tc : Thread Cert.InBwdIdeal.nD Cert.InBwdIdeal.τ).loc Cert.InBwdIdeal.main_arg1))
    (a2 : y2 = m ((c.tc : Thread Cert.InBwdIdeal.nD Cert.InBwdIdeal.τ).loc Cert.InBwdIdeal.main_arg2))
    (a3 : y3 = m ((c.tc : Thread Cert.InBwdIdeal.nD Cert.InBwdIdeal.τ).loc Cert.InBwdIdeal.main_arg3))
    (a4 : y4 = m ((c.tc : Thread Cert.InBwdIdeal.nD Cert.InBwdIdeal.τ).loc Cert.InBwdIdeal.main_arg4))
    (a5 : y5 = m ((c.tc : Thread Cert.InBwdIdeal.nD Cert.InBwdIdeal.τ).loc Cert.InBwdIdeal.main_arg5))
    (a6 : y6 = m ((c.tc : Thread Cert.InBwdIdeal.nD Cert.InBwdIdeal.τ).loc Cert.InBwdIdeal.main_arg6))
    (a7 : y7 = m ((c.tc : Thread Cert.InBwdIdeal.nD Cert.InBwdIdeal.τ).loc Cert.InBwdIdeal.main_arg7))
    (a8 : y8 = m ((c.tc : Thread Cert.InBwdIdeal.nD Cert.InBwdIdeal.τ).loc Cert.InBwdIdeal.main_arg8))
    (a9 : y9 = m ((c.tc : Thread Cert.InBwdIdeal.nD Cert.InBwdIdeal.τ).loc Cert.InBwdIdeal.main_arg9))
    (a10 : y10 = m ((c.tc : Thread Cert.InBwdIdeal.nD Cert.InBwdIdeal.τ).loc Cert.InBwdIdeal.main_arg10)) :
    Cert.InBwdRefIdeal.Read.val_main_v39 (F := Ideal) y0 y1 y2 y3 y4 y5 y6 y7 y8 y9 y10
      = Cert.InBwdIdeal.Value.G11 m c := by
  rw [a0, a1, a2, a3, a4, a5, a6, a7, a8, a9, a10]
  funext i
  rw [Prod.eta i]
  generalize (⟨(i 0).val, (i 0).isLt⟩ : Fin 4352) = p
  generalize (⟨(i 1).val, (i 1).isLt⟩ : Fin 1024) = j
  refine ((ref39 (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9)) (m ((c.tc : Thread Cert.InBwdIdeal.nD Cert.InBwdIdeal.τ).loc Cert.InBwdIdeal.main_arg10)) p j).trans ?_).trans (G11_at m c p j).symm
  rw [← Norm.back_eq, rows_eq, grad_eq]
  exact congrArg (· + _) (Prod.nat_at (a := 4352) (b := 1024) (m ((c.tc : Thread Cert.InBwdIdeal.nD Cert.InBwdIdeal.τ).loc Cert.InBwdIdeal.main_arg9)) p j).symm

/-- The second results are equal. -/
theorem equal2 {y0 y1 y2 y3 y4 y5 y6 y7 y8 : _}
    (a0 : y0 = m ((c.tc : Thread Cert.InBwdIdeal.nD Cert.InBwdIdeal.τ).loc Cert.InBwdIdeal.main_arg0))
    (a1 : y1 = m ((c.tc : Thread Cert.InBwdIdeal.nD Cert.InBwdIdeal.τ).loc Cert.InBwdIdeal.main_arg1))
    (a2 : y2 = m ((c.tc : Thread Cert.InBwdIdeal.nD Cert.InBwdIdeal.τ).loc Cert.InBwdIdeal.main_arg2))
    (a3 : y3 = m ((c.tc : Thread Cert.InBwdIdeal.nD Cert.InBwdIdeal.τ).loc Cert.InBwdIdeal.main_arg3))
    (a4 : y4 = m ((c.tc : Thread Cert.InBwdIdeal.nD Cert.InBwdIdeal.τ).loc Cert.InBwdIdeal.main_arg4))
    (a5 : y5 = m ((c.tc : Thread Cert.InBwdIdeal.nD Cert.InBwdIdeal.τ).loc Cert.InBwdIdeal.main_arg5))
    (a6 : y6 = m ((c.tc : Thread Cert.InBwdIdeal.nD Cert.InBwdIdeal.τ).loc Cert.InBwdIdeal.main_arg6))
    (a7 : y7 = m ((c.tc : Thread Cert.InBwdIdeal.nD Cert.InBwdIdeal.τ).loc Cert.InBwdIdeal.main_arg7))
    (a8 : y8 = m ((c.tc : Thread Cert.InBwdIdeal.nD Cert.InBwdIdeal.τ).loc Cert.InBwdIdeal.main_arg8)) :
    Cert.InBwdRefIdeal.Read.val_main_v22 (F := Ideal) y0 y1 y2 y3 y4 y5 y6 y7 y8
      = Cert.InBwdIdeal.Value.G12 m c := by
  rw [a0, a1, a2, a3, a4, a5, a6, a7, a8]
  funext i
  rw [Prod.eta i]
  generalize (⟨(i 1).val, (i 1).isLt⟩ : Fin 1024) = j
  rw [show (⟨(i 0).val, (i 0).isLt⟩ : Fin 1) = 0 from Subsingleton.elim _ _]
  refine ((ref22 (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) j).trans ?_).trans (G12_at m c j).symm
  unfold rows
  refine (Finset.sum_congr rfl fun p _ => ?_).trans (Fin.sum_univ_eq_sum_range (term m c j.val) 4352)
  unfold term
  rw [product, rows_eq, dif_pos j.isLt]

end Cert.InBack

end
-- ==== Proof.Gate.lean ====
/- The logistic gate over the extended reals, and a pair of gates' columns. -/
module

public import proofs.«01_k».proof.Proof.Prod

@[expose] public section

noncomputable section

namespace Cert.Gate

open Idealize.ShloMosaic

/-- The gate. -/
def sg (x : EReal) : EReal := Ideal.div 1 (1 + Ideal.exp (-x))

theorem one_eq : Ideal.ofBits .f32 0x3F800000#32 = 1 := by
  simp [Ideal.ofBits, Ideal.ieee]
  rw [← EReal.coe_mul]
  norm_num

/-- The kernel's form: the negation is a difference. -/
theorem sg_sub (x : EReal) : Ideal.div 1 (1 + Ideal.exp (0 - x)) = sg x := by rw [zero_sub]; rfl

/-- The reference's form. -/
theorem sg_host (x : EReal) : Ideal.div (Ideal.ofBits .f32 0x3F800000#32) (Ideal.ofBits .f32 0x3F800000#32 + Ideal.exp (-x)) = sg x := by
  rw [one_eq]; rfl

/-- The two gates' columns: in a block of both, and in the projected input. -/
abbrev lo (b : Fin 1024) : Fin 2048 := ⟨b.val, by omega⟩
abbrev hi (b : Fin 1024) : Fin 2048 := ⟨1024 + b.val, by omega⟩
abbrev at6 (b : Fin 2048) : Fin 8192 := ⟨6144 + b.val, by omega⟩

end Cert.Gate

end
-- ==== Proof.BranchOut.lean ====
/- The branch projections and their gates: what the kernel's results hold. -/
module

public import proofs.«01_k».proof.Proof.Gate
public import proofs.«01_k».proof.Proof.Gen.BranchIdeal.Value
public import proofs.«01_k».proof.Proof.Read

@[expose] public section

set_option maxRecDepth 16384

noncomputable section

namespace Cert.Branch

open Idealize.ShloMosaic Idealize.ShloMosaic.TcCoe Cert.BranchIdeal Gen Gate
open scoped BigOperators

section

variable (x0 : Vec Ideal S544x1024 .bf16) (x1 : Vec Ideal S1024x1024 .bf16) (x2 : Vec Ideal S544x1024 .bf16) (x3 : Vec Ideal S1024x1024 .bf16) (x4 : Vec Ideal S544x2048 .bf16) (x5 : Vec Ideal S2x1024 .f32)

/-- The gated sum of the two products, in the whole arrays. -/
def merged (y0 : Vec Ideal S4352x1024 .bf16) (y1 : Vec Ideal S1024x1024 .bf16) (y2 : Vec Ideal S4352x1024 .bf16) (y3 : Vec Ideal S1024x1024 .bf16)
    (y4 : Vec Ideal S4352x8192 .bf16) (y5 : Vec Ideal S2x1024 .f32) (p : Fin 4352) (j : Fin 1024) : EReal :=
  sg (y4 (ValueIdx.ix2 p (at6 (lo j))) + y5 (ValueIdx.ix2 0 j)) * Prod.nn y0 y1 p j + sg (y4 (ValueIdx.ix2 p (at6 (hi j))) + y5 (ValueIdx.ix2 1 j)) * Prod.nn y2 y3 p j

/-- The body's products. -/
theorem pay1_apply (a : Fin 544) (b : Fin 1024) : k0_pay1 (F := Ideal) x0 x1 (ValueIdx.ix2 a b) = Prod.nn x0 x1 a b := by
  have e : k0_pay1 (F := Ideal) x0 x1 (ValueIdx.ix2 a b) = (0 : EReal) + ∑ k : Fin 1024, x0 (ValueIdx.ix2 a k) * x1 (ValueIdx.ix2 k b) := by
    unfold k0_pay1
    pointwise
    first | rfl | simp
  rw [e, zero_add]; rfl

theorem pay2_apply (a : Fin 544) (b : Fin 1024) : k0_pay2 (F := Ideal) x0 x1 (ValueIdx.ix2 a b) = Prod.nn x0 x1 a b := pay1_apply x0 x1 a b

/-- The gated sum. -/
theorem pay3_apply (a : Fin 544) (b : Fin 1024) : k0_pay3 (F := Ideal) x0 x1 x2 x3 x4 x5 (ValueIdx.ix2 a b)
    = sg (x4 (ValueIdx.ix2 a (lo b)) + x5 (ValueIdx.ix2 0 b)) * Prod.nn x0 x1 a b + sg (x4 (ValueIdx.ix2 a (hi b)) + x5 (ValueIdx.ix2 1 b)) * Prod.nn x2 x3 a b := by
  rw [← sg_sub, ← sg_sub, ← pay1_apply, ← pay2_apply]
  unfold k0_pay3
  pointwise
  rfl

/- A point's stores. -/

variable (c : Dev nD) (i : grid0.Coords) (arg2 : Memref sig .tc .vmem S544x1024 .bf16) (w2 : arg2.IsWhole) (arg3 : Memref sig .tc .vmem S1024x1024 .bf16) (w3 : arg3.IsWhole) (arg4 : Memref sig .tc .vmem S544x1024 .bf16) (w4 : arg4.IsWhole) (arg5 : Memref sig .tc .vmem S1024x1024 .bf16) (w5 : arg5.IsWhole) (arg6 : Memref sig .tc .vmem S544x2048 .bf16) (w6 : arg6.IsWhole) (arg7 : Memref sig .tc .vmem S2x1024 .f32) (w7 : arg7.IsWhole) (arg8 : Memref sig .tc .vmem S544x1024 .bf16) (w8 : arg8.IsWhole) (arg9 : Memref sig .tc .vmem S544x1024 .bf16) (w9 : arg9.IsWhole) (arg10 : Memref sig .tc .vmem S544x1024 .bf16) (w10 : arg10.IsWhole) (hc : cond0_0 i)

theorem out_6 : out0_A_6 c i _ w2 _ w3 _ w4 _ w5 _ w6 _ w7 _ w8 _ w9 _ w10 hc x0 x1 x2 x3 x4 x5 = k0_pay3 (F := Ideal) x0 x1 x2 x3 x4 x5 := by
  unfold out0_A_6 kernelRun0_A
  dsimp only
  refine (View.read_writes_full _ _ _ _ _).trans ?_
  exact congr (congr (congr (congr (congrArg₂ (k0_pay3 (F := Ideal)) (rdw w2 _) (rdw w3 _)) (rdw w4 _)) (rdw w5 _)) (rdw w6 _)) (rdw w7 _)

theorem out_7 : out0_A_7 c i _ w2 _ w3 _ w4 _ w5 _ w6 _ w7 _ w8 _ w9 _ w10 hc x0 x1 x2 x3 x4 x5 = k0_pay4 (F := Ideal) x0 x1 := by
  unfold out0_A_7 kernelRun0_A
  dsimp only
  refine (View.read_writes_full _ _ _ _ _).trans ?_
  exact congrArg₂ (k0_pay4 (F := Ideal)) (rdw w2 _) (rdw w3 _)

theorem out_8 : out0_A_8 c i _ w2 _ w3 _ w4 _ w5 _ w6 _ w7 _ w8 _ w9 _ w10 hc x0 x1 x2 x3 x4 x5 = k0_pay5 (F := Ideal) x2 x3 := by
  unfold out0_A_8 kernelRun0_A
  dsimp only
  refine (View.read_writes_full _ _ _ _ _).trans ?_
  exact congrArg₂ (k0_pay5 (F := Ideal)) (rdw w4 _) (rdw w5 _)

end

variable (m : (ℓ : Loc nD τ sig) → Buf (Elt Ideal) ℓ) (c : Dev nD)

/- What a point's input blocks hold, and where its results go. -/

theorem place0 : ∀ t : Fin cfg0.N, win0_0.index t (0 : Fin 2) = t.val ∧ win0_0.index t (1 : Fin 2) = 0 := (by decide +kernel : ∀ t : Fin grid0.N, _)
theorem read0 (A : (⟨S4352x1024, .bf16⟩ : BufTy).Contents (Elt Ideal)) (t : Fin cfg0.N) (y : S544x1024.Idx) :
    ((cfg0.win 0).blk t).view.read (Elt Ideal) A y = A (((cfg0.win 0).blk t).view.emb y) := rfl
theorem blk0 (t : Fin cfg0.N) (a : Fin 544) (b : Fin 1024) (p : Fin 4352) (q : Fin 1024) (hp : p.val = t.val * 544 + a.val) (hq : q.val = 0 * 1024 + b.val) :
    iblk m c 0 t (ValueIdx.ix2 a b) = m ((c.tc : Thread nD τ).loc main_arg0) (ValueIdx.ix2 p q) := by
  obtain ⟨e0, e1⟩ := place0 t
  have b0 : (((cfg0.win 0).blk t).view.emb (ValueIdx.ix2 a b) 0).val = win0_0.index t (0 : Fin 2) * 544 + 1 * a.val := rfl
  have b1 : (((cfg0.win 0).blk t).view.emb (ValueIdx.ix2 a b) 1).val = win0_0.index t (1 : Fin 2) * 1024 + 1 * b.val := rfl
  unfold iblk
  exact (read0 _ t _).trans (congrArg _ (Prod.eq_pair _ _ _ (by rw [b0, e0]; omega) (by rw [b1, e1]; omega)))

theorem place1 : ∀ t : Fin cfg0.N, win0_1.index t (0 : Fin 2) = 0 ∧ win0_1.index t (1 : Fin 2) = 0 := (by decide +kernel : ∀ t : Fin grid0.N, _)
theorem read1 (A : (⟨S1024x1024, .bf16⟩ : BufTy).Contents (Elt Ideal)) (t : Fin cfg0.N) (y : S1024x1024.Idx) :
    ((cfg0.win 1).blk t).view.read (Elt Ideal) A y = A (((cfg0.win 1).blk t).view.emb y) := rfl
theorem blk1 (t : Fin cfg0.N) (a : Fin 1024) (b : Fin 1024) (p : Fin 1024) (q : Fin 1024) (hp : p.val = a.val) (hq : q.val = 0 * 1024 + b.val) :
    iblk m c 1 t (ValueIdx.ix2 a b) = m ((c.tc : Thread nD τ).loc main_arg1) (ValueIdx.ix2 p q) := by
  obtain ⟨e0, e1⟩ := place1 t
  have b0 : (((cfg0.win 1).blk t).view.emb (ValueIdx.ix2 a b) 0).val = win0_1.index t (0 : Fin 2) * 1024 + 1 * a.val := rfl
  have b1 : (((cfg0.win 1).blk t).view.emb (ValueIdx.ix2 a b) 1).val = win0_1.index t (1 : Fin 2) * 1024 + 1 * b.val := rfl
  unfold iblk
  exact (read1 _ t _).trans (congrArg _ (Prod.eq_pair _ _ _ (by rw [b0, e0]; omega) (by rw [b1, e1]; omega)))

theorem place2 : ∀ t : Fin cfg0.N, win0_2.index t (0 : Fin 2) = t.val ∧ win0_2.index t (1 : Fin 2) = 0 := (by decide +kernel : ∀ t : Fin grid0.N, _)
theorem read2 (A : (⟨S4352x1024, .bf16⟩ : BufTy).Contents (Elt Ideal)) (t : Fin cfg0.N) (y : S544x1024.Idx) :
    ((cfg0.win 2).blk t).view.read (Elt Ideal) A y = A (((cfg0.win 2).blk t).view.emb y) := rfl
theorem blk2 (t : Fin cfg0.N) (a : Fin 544) (b : Fin 1024) (p : Fin 4352) (q : Fin 1024) (hp : p.val = t.val * 544 + a.val) (hq : q.val = 0 * 1024 + b.val) :
    iblk m c 2 t (ValueIdx.ix2 a b) = m ((c.tc : Thread nD τ).loc main_arg2) (ValueIdx.ix2 p q) := by
  obtain ⟨e0, e1⟩ := place2 t
  have b0 : (((cfg0.win 2).blk t).view.emb (ValueIdx.ix2 a b) 0).val = win0_2.index t (0 : Fin 2) * 544 + 1 * a.val := rfl
  have b1 : (((cfg0.win 2).blk t).view.emb (ValueIdx.ix2 a b) 1).val = win0_2.index t (1 : Fin 2) * 1024 + 1 * b.val := rfl
  unfold iblk
  exact (read2 _ t _).trans (congrArg _ (Prod.eq_pair _ _ _ (by rw [b0, e0]; omega) (by rw [b1, e1]; omega)))

theorem place3 : ∀ t : Fin cfg0.N, win0_3.index t (0 : Fin 2) = 0 ∧ win0_3.index t (1 : Fin 2) = 0 := (by decide +kernel : ∀ t : Fin grid0.N, _)
theorem read3 (A : (⟨S1024x1024, .bf16⟩ : BufTy).Contents (Elt Ideal)) (t : Fin cfg0.N) (y : S1024x1024.Idx) :
    ((cfg0.win 3).blk t).view.read (Elt Ideal) A y = A (((cfg0.win 3).blk t).view.emb y) := rfl
theorem blk3 (t : Fin cfg0.N) (a : Fin 1024) (b : Fin 1024) (p : Fin 1024) (q : Fin 1024) (hp : p.val = a.val) (hq : q.val = 0 * 1024 + b.val) :
    iblk m c 3 t (ValueIdx.ix2 a b) = m ((c.tc : Thread nD τ).loc main_arg3) (ValueIdx.ix2 p q) := by
  obtain ⟨e0, e1⟩ := place3 t
  have b0 : (((cfg0.win 3).blk t).view.emb (ValueIdx.ix2 a b) 0).val = win0_3.index t (0 : Fin 2) * 1024 + 1 * a.val := rfl
  have b1 : (((cfg0.win 3).blk t).view.emb (ValueIdx.ix2 a b) 1).val = win0_3.index t (1 : Fin 2) * 1024 + 1 * b.val := rfl
  unfold iblk
  exact (read3 _ t _).trans (congrArg _ (Prod.eq_pair _ _ _ (by rw [b0, e0]; omega) (by rw [b1, e1]; omega)))

theorem place4 : ∀ t : Fin cfg0.N, win0_4.index t (0 : Fin 2) = t.val ∧ win0_4.index t (1 : Fin 2) = 3 := (by decide +kernel : ∀ t : Fin grid0.N, _)
theorem read4 (A : (⟨S4352x8192, .bf16⟩ : BufTy).Contents (Elt Ideal)) (t : Fin cfg0.N) (y : S544x2048.Idx) :
    ((cfg0.win 4).blk t).view.read (Elt Ideal) A y = A (((cfg0.win 4).blk t).view.emb y) := rfl
theorem blk4 (t : Fin cfg0.N) (a : Fin 544) (b : Fin 2048) (p : Fin 4352) (q : Fin 8192) (hp : p.val = t.val * 544 + a.val) (hq : q.val = 3 * 2048 + b.val) :
    iblk m c 4 t (ValueIdx.ix2 a b) = m ((c.tc : Thread nD τ).loc main_arg4) (ValueIdx.ix2 p q) := by
  obtain ⟨e0, e1⟩ := place4 t
  have b0 : (((cfg0.win 4).blk t).view.emb (ValueIdx.ix2 a b) 0).val = win0_4.index t (0 : Fin 2) * 544 + 1 * a.val := rfl
  have b1 : (((cfg0.win 4).blk t).view.emb (ValueIdx.ix2 a b) 1).val = win0_4.index t (1 : Fin 2) * 2048 + 1 * b.val := rfl
  unfold iblk
  exact (read4 _ t _).trans (congrArg _ (Prod.eq_pair _ _ _ (by rw [b0, e0]; omega) (by rw [b1, e1]; omega)))

theorem place5 : ∀ t : Fin cfg0.N, win0_5.index t (0 : Fin 2) = 0 ∧ win0_5.index t (1 : Fin 2) = 0 := (by decide +kernel : ∀ t : Fin grid0.N, _)
theorem read5 (A : (⟨S2x1024, .f32⟩ : BufTy).Contents (Elt Ideal)) (t : Fin cfg0.N) (y : S2x1024.Idx) :
    ((cfg0.win 5).blk t).view.read (Elt Ideal) A y = A (((cfg0.win 5).blk t).view.emb y) := rfl
theorem blk5 (t : Fin cfg0.N) (a : Fin 2) (b : Fin 1024) (p : Fin 2) (q : Fin 1024) (hp : p.val = a.val) (hq : q.val = 0 * 1024 + b.val) :
    iblk m c 5 t (ValueIdx.ix2 a b) = m ((c.tc : Thread nD τ).loc main_arg5) (ValueIdx.ix2 p q) := by
  obtain ⟨e0, e1⟩ := place5 t
  have b0 : (((cfg0.win 5).blk t).view.emb (ValueIdx.ix2 a b) 0).val = win0_5.index t (0 : Fin 2) * 2 + 1 * a.val := rfl
  have b1 : (((cfg0.win 5).blk t).view.emb (ValueIdx.ix2 a b) 1).val = win0_5.index t (1 : Fin 2) * 1024 + 1 * b.val := rfl
  unfold iblk
  exact (read5 _ t _).trans (congrArg _ (Prod.eq_pair _ _ _ (by rw [b0, e0]; omega) (by rw [b1, e1]; omega)))

theorem place6 : ∀ t : Fin cfg0.N, win0_6.index t (0 : Fin 2) = t.val ∧ win0_6.index t (1 : Fin 2) = 0 := (by decide +kernel : ∀ t : Fin grid0.N, _)
theorem read6 (A : (⟨S4352x1024, .bf16⟩ : BufTy).Contents (Elt Ideal)) (t : Fin cfg0.N) (y : S544x1024.Idx) :
    ((cfg0.win 6).blk t).view.read (Elt Ideal) A y = A (((cfg0.win 6).blk t).view.emb y) := rfl
theorem cut6 (t : Fin cfg0.N) (A : Vec Ideal S544x1024 .bf16) (y : S544x1024.Idx) : (cfg0.win 6).cut (grid0.coords t) A y = A y := rfl
theorem end6 (t : Fin cfg0.N) (a : Fin 544) (r : Fin 4352) (l : Fin 1024) (hr : r.val = t.val * 544 + a.val) :
    (dats m 0 c).arrAt 6 cfg0.N (ValueIdx.ix2 r l) = (dats m 0 c).flushed 6 t (ValueIdx.ix2 a l) := by
  obtain ⟨e0, e1⟩ := place6 t
  have b0 : (((cfg0.win 6).blk t).view.emb (ValueIdx.ix2 a l) 0).val = win0_6.index t (0 : Fin 2) * 544 + 1 * a.val := rfl
  have b1 : (((cfg0.win 6).blk t).view.emb (ValueIdx.ix2 a l) 1).val = win0_6.index t (1 : Fin 2) * 1024 + 1 * l.val := rfl
  have hi := Prod.eq_pair (((cfg0.win 6).blk t).view.emb (ValueIdx.ix2 a l)) r l (by rw [b0, e0]; omega) (by rw [b1, e1]; omega)
  exact (congrArg _ hi).symm.trans ((read6 _ t _).symm.trans (congrFun (Value.blocks6 m c t (flush0_6 t)) (ValueIdx.ix2 a l)))

theorem place7 : ∀ t : Fin cfg0.N, win0_7.index t (0 : Fin 2) = t.val ∧ win0_7.index t (1 : Fin 2) = 0 := (by decide +kernel : ∀ t : Fin grid0.N, _)
theorem read7 (A : (⟨S4352x1024, .bf16⟩ : BufTy).Contents (Elt Ideal)) (t : Fin cfg0.N) (y : S544x1024.Idx) :
    ((cfg0.win 7).blk t).view.read (Elt Ideal) A y = A (((cfg0.win 7).blk t).view.emb y) := rfl
theorem cut7 (t : Fin cfg0.N) (A : Vec Ideal S544x1024 .bf16) (y : S544x1024.Idx) : (cfg0.win 7).cut (grid0.coords t) A y = A y := rfl
theorem end7 (t : Fin cfg0.N) (a : Fin 544) (r : Fin 4352) (l : Fin 1024) (hr : r.val = t.val * 544 + a.val) :
    (dats m 0 c).arrAt 7 cfg0.N (ValueIdx.ix2 r l) = (dats m 0 c).flushed 7 t (ValueIdx.ix2 a l) := by
  obtain ⟨e0, e1⟩ := place7 t
  have b0 : (((cfg0.win 7).blk t).view.emb (ValueIdx.ix2 a l) 0).val = win0_7.index t (0 : Fin 2) * 544 + 1 * a.val := rfl
  have b1 : (((cfg0.win 7).blk t).view.emb (ValueIdx.ix2 a l) 1).val = win0_7.index t (1 : Fin 2) * 1024 + 1 * l.val := rfl
  have hi := Prod.eq_pair (((cfg0.win 7).blk t).view.emb (ValueIdx.ix2 a l)) r l (by rw [b0, e0]; omega) (by rw [b1, e1]; omega)
  exact (congrArg _ hi).symm.trans ((read7 _ t _).symm.trans (congrFun (Value.blocks7 m c t (flush0_7 t)) (ValueIdx.ix2 a l)))

theorem place8 : ∀ t : Fin cfg0.N, win0_8.index t (0 : Fin 2) = t.val ∧ win0_8.index t (1 : Fin 2) = 0 := (by decide +kernel : ∀ t : Fin grid0.N, _)
theorem read8 (A : (⟨S4352x1024, .bf16⟩ : BufTy).Contents (Elt Ideal)) (t : Fin cfg0.N) (y : S544x1024.Idx) :
    ((cfg0.win 8).blk t).view.read (Elt Ideal) A y = A (((cfg0.win 8).blk t).view.emb y) := rfl
theorem cut8 (t : Fin cfg0.N) (A : Vec Ideal S544x1024 .bf16) (y : S544x1024.Idx) : (cfg0.win 8).cut (grid0.coords t) A y = A y := rfl
theorem end8 (t : Fin cfg0.N) (a : Fin 544) (r : Fin 4352) (l : Fin 1024) (hr : r.val = t.val * 544 + a.val) :
    (dats m 0 c).arrAt 8 cfg0.N (ValueIdx.ix2 r l) = (dats m 0 c).flushed 8 t (ValueIdx.ix2 a l) := by
  obtain ⟨e0, e1⟩ := place8 t
  have b0 : (((cfg0.win 8).blk t).view.emb (ValueIdx.ix2 a l) 0).val = win0_8.index t (0 : Fin 2) * 544 + 1 * a.val := rfl
  have b1 : (((cfg0.win 8).blk t).view.emb (ValueIdx.ix2 a l) 1).val = win0_8.index t (1 : Fin 2) * 1024 + 1 * l.val := rfl
  have hi := Prod.eq_pair (((cfg0.win 8).blk t).view.emb (ValueIdx.ix2 a l)) r l (by rw [b0, e0]; omega) (by rw [b1, e1]; omega)
  exact (congrArg _ hi).symm.trans ((read8 _ t _).symm.trans (congrFun (Value.blocks8 m c t (flush0_8 t)) (ValueIdx.ix2 a l)))

/-- A row lies in one point's block. -/
theorem split (r : Fin 4352) : ∃ (t : Fin cfg0.N) (a : Fin 544), r.val = t.val * 544 + a.val := by
  have hN : cfg0.N = 8 := N_0
  exact ⟨⟨r.val / 544, by omega⟩, ⟨r.val % 544, by omega⟩, by show r.val = r.val / 544 * 544 + r.val % 544; omega⟩

theorem prod0 (t : Fin cfg0.N) (a : Fin 544) (r : Fin 4352) (l : Fin 1024) (hr : r.val = t.val * 544 + a.val) :
    Prod.nn (iblk m c 0 t) (iblk m c 1 t) a l = Prod.nn (m ((c.tc : Thread nD τ).loc main_arg0)) (m ((c.tc : Thread nD τ).loc main_arg1)) r l :=
  Finset.sum_congr rfl fun k _ => congrArg₂ (fun a b : EReal => a * b) (blk0 m c t a k r k hr (by omega)) (blk1 m c t k l k l rfl (by omega))

theorem prod2 (t : Fin cfg0.N) (a : Fin 544) (r : Fin 4352) (l : Fin 1024) (hr : r.val = t.val * 544 + a.val) :
    Prod.nn (iblk m c 2 t) (iblk m c 3 t) a l = Prod.nn (m ((c.tc : Thread nD τ).loc main_arg2)) (m ((c.tc : Thread nD τ).loc main_arg3)) r l :=
  Finset.sum_congr rfl fun k _ => congrArg₂ (fun a b : EReal => a * b) (blk2 m c t a k r k hr (by omega)) (blk3 m c t k l k l rfl (by omega))

/-- The results at an index. -/
theorem merged_at (r : Fin 4352) (l : Fin 1024) : (dats m 0 c).arrAt 6 cfg0.N (ValueIdx.ix2 r l)
    = merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) r l := by
  obtain ⟨t, a, hr⟩ := split r
  rw [end6 m c t a r l hr, Value.flushed6_A m c t, out_6]
  refine (cut6 t _ _).trans ((pay3_apply _ _ _ _ _ _ a l).trans ?_)
  rw [prod0 m c t a r l hr, prod2 m c t a r l hr, blk4 m c t a (lo l) r (at6 (lo l)) hr (by simp), blk4 m c t a (hi l) r (at6 (hi l)) hr (by simp),
    blk5 m c t 0 l 0 l rfl (by omega), blk5 m c t 1 l 1 l rfl (by omega)]
  rfl

theorem conv_at (r : Fin 4352) (l : Fin 1024) : (dats m 0 c).arrAt 7 cfg0.N (ValueIdx.ix2 r l) = Prod.nn (m ((c.tc : Thread nD τ).loc main_arg0)) (m ((c.tc : Thread nD τ).loc main_arg1)) r l := by
  obtain ⟨t, a, hr⟩ := split r
  rw [end7 m c t a r l hr, Value.flushed7_A m c t, out_7]
  exact (cut7 t _ _).trans ((pay1_apply _ _ a l).trans (prod0 m c t a r l hr))

theorem attn_at (r : Fin 4352) (l : Fin 1024) : (dats m 0 c).arrAt 8 cfg0.N (ValueIdx.ix2 r l) = Prod.nn (m ((c.tc : Thread nD τ).loc main_arg2)) (m ((c.tc : Thread nD τ).loc main_arg3)) r l := by
  obtain ⟨t, a, hr⟩ := split r
  rw [end8 m c t a r l hr, Value.flushed8_A m c t, out_8]
  exact (cut8 t _ _).trans ((pay1_apply _ _ a l).trans (prod2 m c t a r l hr))

end Cert.Branch

end
-- ==== Proof.Branch.lean ====
/- The branch projections and their gates: the kernel's results are the reference's. -/
module

public import proofs.«01_k».proof.Proof.BranchOut
public import proofs.«01_k».proof.Proof.Gen.BranchRefIdeal.Read

@[expose] public section

set_option maxRecDepth 16384

noncomputable section

namespace Cert.Branch

open Idealize.ShloMosaic Idealize.ShloMosaic.TcCoe Gate
open scoped BigOperators

section

open Cert.BranchRefIdeal.Read

variable (x0 : (⟨Cert.BranchRefIdeal.S4352x1024, .bf16⟩ : BufTy).Contents (Elt Ideal)) (x1 : (⟨Cert.BranchRefIdeal.S1024x1024, .bf16⟩ : BufTy).Contents (Elt Ideal)) (x2 : (⟨Cert.BranchRefIdeal.S4352x1024, .bf16⟩ : BufTy).Contents (Elt Ideal)) (x3 : (⟨Cert.BranchRefIdeal.S1024x1024, .bf16⟩ : BufTy).Contents (Elt Ideal)) (x4 : (⟨Cert.BranchRefIdeal.S4352x8192, .bf16⟩ : BufTy).Contents (Elt Ideal)) (x5 : (⟨Cert.BranchRefIdeal.S2x1024, .f32⟩ : BufTy).Contents (Elt Ideal))

theorem ref_conv (p : Fin 4352) (j : Fin 1024) : val_main_v2 (F := Ideal) x0 x1 (ValueIdx.ix2 p j) = Prod.nn x0 x1 p j := by
  refine (val_main_v2_apply x0 x1 _).trans (Finset.sum_congr rfl fun k _ => ?_)
  rw [val_main_v1_apply, val_main_v0_apply]
  exact congrArg₂ (fun a b : EReal => a * b) (congrArg x0 (Prod.eq_pair _ _ _ rfl rfl)) (congrArg x1 (Prod.eq_pair _ _ _ rfl rfl))

theorem ref_attn (p : Fin 4352) (j : Fin 1024) : val_main_v5 (F := Ideal) x2 x3 (ValueIdx.ix2 p j) = Prod.nn x2 x3 p j := by
  refine (val_main_v5_apply x2 x3 _).trans (Finset.sum_congr rfl fun k _ => ?_)
  rw [val_main_v4_apply, val_main_v3_apply]
  exact congrArg₂ (fun a b : EReal => a * b) (congrArg x2 (Prod.eq_pair _ _ _ rfl rfl)) (congrArg x3 (Prod.eq_pair _ _ _ rfl rfl))

/-- The gates. -/
theorem ref_gate0 (p : Fin 4352) (j : Fin 1024) : val_main_v19 (F := Ideal) x4 x5 (ValueIdx.ix2 p j) = sg (x4 (ValueIdx.ix2 p (at6 (lo j))) + x5 (ValueIdx.ix2 0 j)) := by
  have e8 : val_main_v8 (F := Ideal) x4 (ValueIdx.ix2 p j) = x4 (ValueIdx.ix2 p (at6 (lo j))) := by
    rw [val_main_v8_apply, val_main_v7_apply, val_main_v6_apply]
    exact congrArg x4 (Prod.eq_pair _ _ _ rfl rfl)
  have e12 : val_main_v12 (F := Ideal) x5 (ValueIdx.ix2 p j) = x5 (ValueIdx.ix2 0 j) := by
    rw [val_main_v12_apply, val_main_v11_apply, val_main_v10_apply, val_main_v9_apply]
    exact congrArg x5 (Prod.eq_pair _ _ _ rfl (by show j.val % 1024 = j.val; omega))
  rw [← sg_host, ← e8, ← e12]
  rw [val_main_v19_apply, val_main_v17_apply, val_main_v15_apply, val_main_v14_apply, val_main_v13_apply]
  rfl

theorem ref_gate1 (p : Fin 4352) (j : Fin 1024) : val_main_v31 (F := Ideal) x4 x5 (ValueIdx.ix2 p j) = sg (x4 (ValueIdx.ix2 p (at6 (hi j))) + x5 (ValueIdx.ix2 1 j)) := by
  have e20 : val_main_v20 (F := Ideal) x4 (ValueIdx.ix2 p j) = x4 (ValueIdx.ix2 p (at6 (hi j))) := by
    rw [val_main_v20_apply, val_main_v7_apply, val_main_v6_apply]
    exact congrArg x4 (Prod.eq_pair _ _ _ rfl rfl)
  have e24 : val_main_v24 (F := Ideal) x5 (ValueIdx.ix2 p j) = x5 (ValueIdx.ix2 1 j) := by
    rw [val_main_v24_apply, val_main_v23_apply, val_main_v22_apply, val_main_v21_apply]
    exact congrArg x5 (Prod.eq_pair _ _ _ rfl (by show j.val % 1024 = j.val; omega))
  rw [← sg_host, ← e20, ← e24]
  rw [val_main_v31_apply, val_main_v29_apply, val_main_v27_apply, val_main_v26_apply, val_main_v25_apply]
  rfl

theorem ref_merged_at (p : Fin 4352) (j : Fin 1024) : val_main_v35 (F := Ideal) x0 x1 x2 x3 x4 x5 (ValueIdx.ix2 p j)
    = merged x0 x1 x2 x3 x4 x5 p j := by
  rw [val_main_v35_apply, val_main_v34_apply, val_main_v32_apply, val_main_v33_apply, ref_gate0, ref_gate1, ref_conv, ref_attn]
  rfl

theorem ref_conv_at (p : Fin 4352) (j : Fin 1024) : val_main_v36 (F := Ideal) x0 x1 (ValueIdx.ix2 p j) = Prod.nn x0 x1 p j :=
  (val_main_v36_apply x0 x1 _).trans (ref_conv x0 x1 p j)

theorem ref_attn_at (p : Fin 4352) (j : Fin 1024) : val_main_v37 (F := Ideal) x2 x3 (ValueIdx.ix2 p j) = Prod.nn x2 x3 p j :=
  (val_main_v37_apply x2 x3 _).trans (ref_attn x2 x3 p j)

end

open Cert.BranchIdeal Gen

variable (m : (ℓ : Loc nD τ sig) → Buf (Elt Ideal) ℓ) (c : Dev nD)

/-- The results are equal. -/
theorem equal1 {y0 y1 y2 y3 y4 y5 : _}
    (a0 : y0 = m ((c.tc : Thread nD τ).loc main_arg0))
    (a1 : y1 = m ((c.tc : Thread nD τ).loc main_arg1))
    (a2 : y2 = m ((c.tc : Thread nD τ).loc main_arg2))
    (a3 : y3 = m ((c.tc : Thread nD τ).loc main_arg3))
    (a4 : y4 = m ((c.tc : Thread nD τ).loc main_arg4))
    (a5 : y5 = m ((c.tc : Thread nD τ).loc main_arg5)) :
    Cert.BranchRefIdeal.Read.val_main_v35 (F := Ideal) y0 y1 y2 y3 y4 y5
      = (dats m 0 c).arrAt 6 cfg0.N := by
  rw [a0, a1, a2, a3, a4, a5]
  funext i
  rw [Prod.eta i]
  exact (ref_merged_at _ _ _ _ _ _ _ _).trans (merged_at m c _ _).symm

theorem equal2 {y0 y1 : _}
    (a0 : y0 = m ((c.tc : Thread nD τ).loc main_arg0))
    (a1 : y1 = m ((c.tc : Thread nD τ).loc main_arg1)) :
    Cert.BranchRefIdeal.Read.val_main_v36 (F := Ideal) y0 y1
      = (dats m 0 c).arrAt 7 cfg0.N := by
  rw [a0, a1]
  funext i
  rw [Prod.eta i]
  exact (ref_conv_at _ _ _ _).trans (conv_at m c _ _).symm

theorem equal3 {y2 y3 : _}
    (a2 : y2 = m ((c.tc : Thread nD τ).loc main_arg2))
    (a3 : y3 = m ((c.tc : Thread nD τ).loc main_arg3)) :
    Cert.BranchRefIdeal.Read.val_main_v37 (F := Ideal) y2 y3
      = (dats m 0 c).arrAt 8 cfg0.N := by
  rw [a2, a3]
  funext i
  rw [Prod.eta i]
  exact (ref_attn_at _ _ _ _).trans (attn_at m c _ _).symm

end Cert.Branch

end
-- ==== Proof.OutFwdOut.lean ====
/- The output projection and its two norms: what the kernel's results hold. -/
module

public import proofs.«01_k».proof.Proof.Norm
public import proofs.«01_k».proof.Proof.Gen.OutProjIdeal.Value
public import proofs.«01_k».proof.Proof.Read

@[expose] public section

set_option maxRecDepth 16384

noncomputable section

namespace Cert.OutFwd

open Idealize.ShloMosaic Idealize.ShloMosaic.TcCoe Cert.OutProjIdeal Gen
open scoped BigOperators

/- The mixed rows, the residual row and its norm, in arrays of any number of rows. -/

section

variable {n : ℕ} (y0 : (⟨2, ![n, 1024]⟩ : Shape).Idx → EReal) (y1 : (⟨2, ![1024, 1024]⟩ : Shape).Idx → EReal) (y2 : (⟨2, ![n, 1024]⟩ : Shape).Idx → EReal)
  (y3 y4 : (⟨2, ![1, 1024]⟩ : Shape).Idx → EReal)

def mix (p : Fin n) (j : Fin 1024) : EReal := Prod.nn y0 y1 p j
def res (p : Fin n) (j : Fin 1024) : EReal := y2 (ValueIdx.ix2 p j) + Norm.hat (mix y0 y1 p) j * y3 (ValueIdx.ix2 0 j)
def nrm (p : Fin n) (j : Fin 1024) : EReal := Norm.hat (res y0 y1 y2 y3 p) j * y4 (ValueIdx.ix2 0 j)

end

section

variable (x0 : Vec Ideal S544x1024 .bf16) (x1 : Vec Ideal S1024x1024 .bf16) (x2 : Vec Ideal S544x1024 .f32) (x3 : Vec Ideal S1x1024 .f32) (x4 : Vec Ideal S1x1024 .f32)

theorem pay1_apply (a : Fin 544) (b : Fin 1024) : k0_pay1 (F := Ideal) x0 x1 (ValueIdx.ix2 a b) = mix x0 x1 a b := by
  have e : k0_pay1 (F := Ideal) x0 x1 (ValueIdx.ix2 a b) = (0 : EReal) + ∑ k : Fin 1024, x0 (ValueIdx.ix2 a k) * x1 (ValueIdx.ix2 k b) := by
    unfold k0_pay1
    pointwise
    first | rfl | simp
  rw [e, zero_add]; rfl

theorem pay2_apply (a : Fin 544) (b : Fin 1024) : k0_pay2 (F := Ideal) x0 x1 x2 x3 (ValueIdx.ix2 a b) = res x0 x1 x2 x3 a b := by
  have e : k0_pay2 (F := Ideal) x0 x1 x2 x3 (ValueIdx.ix2 a b)
      = x2 (ValueIdx.ix2 a b) + Norm.hat (fun k => k0_pay1 (F := Ideal) x0 x1 (ValueIdx.ix2 a k)) b * x3 (ValueIdx.ix2 0 b) := by
    unfold k0_pay2
    pointwise
    rfl
  rw [e, funext (pay1_apply x0 x1 a)]; rfl

theorem pay3_apply (a : Fin 544) (b : Fin 1024) : k0_pay3 (F := Ideal) x0 x1 x2 x3 x4 (ValueIdx.ix2 a b) = nrm x0 x1 x2 x3 x4 a b := by
  have e : k0_pay3 (F := Ideal) x0 x1 x2 x3 x4 (ValueIdx.ix2 a b)
      = Norm.hat (fun k => k0_pay2 (F := Ideal) x0 x1 x2 x3 (ValueIdx.ix2 a k)) b * x4 (ValueIdx.ix2 0 b) := by
    unfold k0_pay3
    pointwise
    rfl
  rw [e, funext (pay2_apply x0 x1 x2 x3 a)]; rfl

/- A point's stores. -/

variable (c : Dev nD) (i : grid0.Coords) (arg2 : Memref sig .tc .vmem S544x1024 .bf16) (w2 : arg2.IsWhole) (arg3 : Memref sig .tc .vmem S1024x1024 .bf16) (w3 : arg3.IsWhole) (arg4 : Memref sig .tc .vmem S544x1024 .f32) (w4 : arg4.IsWhole) (arg5 : Memref sig .tc .vmem S1x1024 .f32) (w5 : arg5.IsWhole) (arg6 : Memref sig .tc .vmem S1x1024 .f32) (w6 : arg6.IsWhole) (arg7 : Memref sig .tc .vmem S544x1024 .f32) (w7 : arg7.IsWhole) (arg8 : Memref sig .tc .vmem S544x1024 .f32) (w8 : arg8.IsWhole) (arg9 : Memref sig .tc .vmem S544x1024 .bf16) (w9 : arg9.IsWhole) (hc : cond0_0 i)

theorem out_5 : out0_A_5 c i _ w2 _ w3 _ w4 _ w5 _ w6 _ w7 _ w8 _ w9 hc x0 x1 x2 x3 x4 = k0_pay1 (F := Ideal) x0 x1 := by
  unfold out0_A_5 kernelRun0_A
  dsimp only
  refine (View.read_writes_full _ _ _ _ _).trans ?_
  exact congrArg₂ (k0_pay1 (F := Ideal)) (rdw w2 _) (rdw w3 _)

theorem out_6 : out0_A_6 c i _ w2 _ w3 _ w4 _ w5 _ w6 _ w7 _ w8 _ w9 hc x0 x1 x2 x3 x4 = k0_pay2 (F := Ideal) x0 x1 x2 x3 := by
  unfold out0_A_6 kernelRun0_A
  dsimp only
  refine (View.read_writes_full _ _ _ _ _).trans ?_
  exact congr (congr (congrArg₂ (k0_pay2 (F := Ideal)) (rdw w2 _) (rdw w3 _)) (rdw w4 _)) (rdw w5 _)

theorem out_7 : out0_A_7 c i _ w2 _ w3 _ w4 _ w5 _ w6 _ w7 _ w8 _ w9 hc x0 x1 x2 x3 x4 = k0_pay3 (F := Ideal) x0 x1 x2 x3 x4 := by
  unfold out0_A_7 kernelRun0_A
  dsimp only
  refine (View.read_writes_full _ _ _ _ _).trans ?_
  exact congr (congr (congr (congrArg₂ (k0_pay3 (F := Ideal)) (rdw w2 _) (rdw w3 _)) (rdw w4 _)) (rdw w5 _)) (rdw w6 _)

end

variable (m : (ℓ : Loc nD τ sig) → Buf (Elt Ideal) ℓ) (c : Dev nD)

/- What a point's input blocks hold, and where its results go. -/

theorem place0 : ∀ t : Fin cfg0.N, win0_0.index t (0 : Fin 2) = t.val ∧ win0_0.index t (1 : Fin 2) = 0 := (by decide +kernel : ∀ t : Fin grid0.N, _)
theorem read0 (A : (⟨S4352x1024, .bf16⟩ : BufTy).Contents (Elt Ideal)) (t : Fin cfg0.N) (y : S544x1024.Idx) :
    ((cfg0.win 0).blk t).view.read (Elt Ideal) A y = A (((cfg0.win 0).blk t).view.emb y) := rfl
theorem blk0 (t : Fin cfg0.N) (a : Fin 544) (b : Fin 1024) (p : Fin 4352) (q : Fin 1024) (hp : p.val = t.val * 544 + a.val) (hq : q.val = 0 * 1024 + b.val) :
    iblk m c 0 t (ValueIdx.ix2 a b) = m ((c.tc : Thread nD τ).loc main_arg0) (ValueIdx.ix2 p q) := by
  obtain ⟨e0, e1⟩ := place0 t
  have b0 : (((cfg0.win 0).blk t).view.emb (ValueIdx.ix2 a b) 0).val = win0_0.index t (0 : Fin 2) * 544 + 1 * a.val := rfl
  have b1 : (((cfg0.win 0).blk t).view.emb (ValueIdx.ix2 a b) 1).val = win0_0.index t (1 : Fin 2) * 1024 + 1 * b.val := rfl
  unfold iblk
  exact (read0 _ t _).trans (congrArg _ (Prod.eq_pair _ _ _ (by rw [b0, e0]; omega) (by rw [b1, e1]; omega)))

theorem place1 : ∀ t : Fin cfg0.N, win0_1.index t (0 : Fin 2) = 0 ∧ win0_1.index t (1 : Fin 2) = 0 := (by decide +kernel : ∀ t : Fin grid0.N, _)
theorem read1 (A : (⟨S1024x1024, .bf16⟩ : BufTy).Contents (Elt Ideal)) (t : Fin cfg0.N) (y : S1024x1024.Idx) :
    ((cfg0.win 1).blk t).view.read (Elt Ideal) A y = A (((cfg0.win 1).blk t).view.emb y) := rfl
theorem blk1 (t : Fin cfg0.N) (a : Fin 1024) (b : Fin 1024) (p : Fin 1024) (q : Fin 1024) (hp : p.val = a.val) (hq : q.val = 0 * 1024 + b.val) :
    iblk m c 1 t (ValueIdx.ix2 a b) = m ((c.tc : Thread nD τ).loc main_arg1) (ValueIdx.ix2 p q) := by
  obtain ⟨e0, e1⟩ := place1 t
  have b0 : (((cfg0.win 1).blk t).view.emb (ValueIdx.ix2 a b) 0).val = win0_1.index t (0 : Fin 2) * 1024 + 1 * a.val := rfl
  have b1 : (((cfg0.win 1).blk t).view.emb (ValueIdx.ix2 a b) 1).val = win0_1.index t (1 : Fin 2) * 1024 + 1 * b.val := rfl
  unfold iblk
  exact (read1 _ t _).trans (congrArg _ (Prod.eq_pair _ _ _ (by rw [b0, e0]; omega) (by rw [b1, e1]; omega)))

theorem place2 : ∀ t : Fin cfg0.N, win0_2.index t (0 : Fin 2) = t.val ∧ win0_2.index t (1 : Fin 2) = 0 := (by decide +kernel : ∀ t : Fin grid0.N, _)
theorem read2 (A : (⟨S4352x1024, .f32⟩ : BufTy).Contents (Elt Ideal)) (t : Fin cfg0.N) (y : S544x1024.Idx) :
    ((cfg0.win 2).blk t).view.read (Elt Ideal) A y = A (((cfg0.win 2).blk t).view.emb y) := rfl
theorem blk2 (t : Fin cfg0.N) (a : Fin 544) (b : Fin 1024) (p : Fin 4352) (q : Fin 1024) (hp : p.val = t.val * 544 + a.val) (hq : q.val = 0 * 1024 + b.val) :
    iblk m c 2 t (ValueIdx.ix2 a b) = m ((c.tc : Thread nD τ).loc main_arg2) (ValueIdx.ix2 p q) := by
  obtain ⟨e0, e1⟩ := place2 t
  have b0 : (((cfg0.win 2).blk t).view.emb (ValueIdx.ix2 a b) 0).val = win0_2.index t (0 : Fin 2) * 544 + 1 * a.val := rfl
  have b1 : (((cfg0.win 2).blk t).view.emb (ValueIdx.ix2 a b) 1).val = win0_2.index t (1 : Fin 2) * 1024 + 1 * b.val := rfl
  unfold iblk
  exact (read2 _ t _).trans (congrArg _ (Prod.eq_pair _ _ _ (by rw [b0, e0]; omega) (by rw [b1, e1]; omega)))

theorem place3 : ∀ t : Fin cfg0.N, win0_3.index t (0 : Fin 2) = 0 ∧ win0_3.index t (1 : Fin 2) = 0 := (by decide +kernel : ∀ t : Fin grid0.N, _)
theorem read3 (A : (⟨S1x1024, .f32⟩ : BufTy).Contents (Elt Ideal)) (t : Fin cfg0.N) (y : S1x1024.Idx) :
    ((cfg0.win 3).blk t).view.read (Elt Ideal) A y = A (((cfg0.win 3).blk t).view.emb y) := rfl
theorem blk3 (t : Fin cfg0.N) (a : Fin 1) (b : Fin 1024) (p : Fin 1) (q : Fin 1024) (hp : p.val = a.val) (hq : q.val = 0 * 1024 + b.val) :
    iblk m c 3 t (ValueIdx.ix2 a b) = m ((c.tc : Thread nD τ).loc main_arg3) (ValueIdx.ix2 p q) := by
  obtain ⟨e0, e1⟩ := place3 t
  have b0 : (((cfg0.win 3).blk t).view.emb (ValueIdx.ix2 a b) 0).val = win0_3.index t (0 : Fin 2) * 1 + 1 * a.val := rfl
  have b1 : (((cfg0.win 3).blk t).view.emb (ValueIdx.ix2 a b) 1).val = win0_3.index t (1 : Fin 2) * 1024 + 1 * b.val := rfl
  unfold iblk
  exact (read3 _ t _).trans (congrArg _ (Prod.eq_pair _ _ _ (by rw [b0, e0]; omega) (by rw [b1, e1]; omega)))

theorem place4 : ∀ t : Fin cfg0.N, win0_4.index t (0 : Fin 2) = 0 ∧ win0_4.index t (1 : Fin 2) = 0 := (by decide +kernel : ∀ t : Fin grid0.N, _)
theorem read4 (A : (⟨S1x1024, .f32⟩ : BufTy).Contents (Elt Ideal)) (t : Fin cfg0.N) (y : S1x1024.Idx) :
    ((cfg0.win 4).blk t).view.read (Elt Ideal) A y = A (((cfg0.win 4).blk t).view.emb y) := rfl
theorem blk4 (t : Fin cfg0.N) (a : Fin 1) (b : Fin 1024) (p : Fin 1) (q : Fin 1024) (hp : p.val = a.val) (hq : q.val = 0 * 1024 + b.val) :
    iblk m c 4 t (ValueIdx.ix2 a b) = m ((c.tc : Thread nD τ).loc main_arg4) (ValueIdx.ix2 p q) := by
  obtain ⟨e0, e1⟩ := place4 t
  have b0 : (((cfg0.win 4).blk t).view.emb (ValueIdx.ix2 a b) 0).val = win0_4.index t (0 : Fin 2) * 1 + 1 * a.val := rfl
  have b1 : (((cfg0.win 4).blk t).view.emb (ValueIdx.ix2 a b) 1).val = win0_4.index t (1 : Fin 2) * 1024 + 1 * b.val := rfl
  unfold iblk
  exact (read4 _ t _).trans (congrArg _ (Prod.eq_pair _ _ _ (by rw [b0, e0]; omega) (by rw [b1, e1]; omega)))

theorem place5 : ∀ t : Fin cfg0.N, win0_5.index t (0 : Fin 2) = t.val ∧ win0_5.index t (1 : Fin 2) = 0 := (by decide +kernel : ∀ t : Fin grid0.N, _)
theorem read5 (A : (⟨S4352x1024, .f32⟩ : BufTy).Contents (Elt Ideal)) (t : Fin cfg0.N) (y : S544x1024.Idx) :
    ((cfg0.win 5).blk t).view.read (Elt Ideal) A y = A (((cfg0.win 5).blk t).view.emb y) := rfl
theorem cut5 (t : Fin cfg0.N) (A : Vec Ideal S544x1024 .f32) (y : S544x1024.Idx) : (cfg0.win 5).cut (grid0.coords t) A y = A y := rfl
theorem end5 (t : Fin cfg0.N) (a : Fin 544) (r : Fin 4352) (l : Fin 1024) (hr : r.val = t.val * 544 + a.val) :
    (dats m 0 c).arrAt 5 cfg0.N (ValueIdx.ix2 r l) = (dats m 0 c).flushed 5 t (ValueIdx.ix2 a l) := by
  obtain ⟨e0, e1⟩ := place5 t
  have b0 : (((cfg0.win 5).blk t).view.emb (ValueIdx.ix2 a l) 0).val = win0_5.index t (0 : Fin 2) * 544 + 1 * a.val := rfl
  have b1 : (((cfg0.win 5).blk t).view.emb (ValueIdx.ix2 a l) 1).val = win0_5.index t (1 : Fin 2) * 1024 + 1 * l.val := rfl
  have hi := Prod.eq_pair (((cfg0.win 5).blk t).view.emb (ValueIdx.ix2 a l)) r l (by rw [b0, e0]; omega) (by rw [b1, e1]; omega)
  exact (congrArg _ hi).symm.trans ((read5 _ t _).symm.trans (congrFun (Value.blocks5 m c t (flush0_5 t)) (ValueIdx.ix2 a l)))

theorem place6 : ∀ t : Fin cfg0.N, win0_6.index t (0 : Fin 2) = t.val ∧ win0_6.index t (1 : Fin 2) = 0 := (by decide +kernel : ∀ t : Fin grid0.N, _)
theorem read6 (A : (⟨S4352x1024, .f32⟩ : BufTy).Contents (Elt Ideal)) (t : Fin cfg0.N) (y : S544x1024.Idx) :
    ((cfg0.win 6).blk t).view.read (Elt Ideal) A y = A (((cfg0.win 6).blk t).view.emb y) := rfl
theorem cut6 (t : Fin cfg0.N) (A : Vec Ideal S544x1024 .f32) (y : S544x1024.Idx) : (cfg0.win 6).cut (grid0.coords t) A y = A y := rfl
theorem end6 (t : Fin cfg0.N) (a : Fin 544) (r : Fin 4352) (l : Fin 1024) (hr : r.val = t.val * 544 + a.val) :
    (dats m 0 c).arrAt 6 cfg0.N (ValueIdx.ix2 r l) = (dats m 0 c).flushed 6 t (ValueIdx.ix2 a l) := by
  obtain ⟨e0, e1⟩ := place6 t
  have b0 : (((cfg0.win 6).blk t).view.emb (ValueIdx.ix2 a l) 0).val = win0_6.index t (0 : Fin 2) * 544 + 1 * a.val := rfl
  have b1 : (((cfg0.win 6).blk t).view.emb (ValueIdx.ix2 a l) 1).val = win0_6.index t (1 : Fin 2) * 1024 + 1 * l.val := rfl
  have hi := Prod.eq_pair (((cfg0.win 6).blk t).view.emb (ValueIdx.ix2 a l)) r l (by rw [b0, e0]; omega) (by rw [b1, e1]; omega)
  exact (congrArg _ hi).symm.trans ((read6 _ t _).symm.trans (congrFun (Value.blocks6 m c t (flush0_6 t)) (ValueIdx.ix2 a l)))

theorem place7 : ∀ t : Fin cfg0.N, win0_7.index t (0 : Fin 2) = t.val ∧ win0_7.index t (1 : Fin 2) = 0 := (by decide +kernel : ∀ t : Fin grid0.N, _)
theorem read7 (A : (⟨S4352x1024, .bf16⟩ : BufTy).Contents (Elt Ideal)) (t : Fin cfg0.N) (y : S544x1024.Idx) :
    ((cfg0.win 7).blk t).view.read (Elt Ideal) A y = A (((cfg0.win 7).blk t).view.emb y) := rfl
theorem cut7 (t : Fin cfg0.N) (A : Vec Ideal S544x1024 .bf16) (y : S544x1024.Idx) : (cfg0.win 7).cut (grid0.coords t) A y = A y := rfl
theorem end7 (t : Fin cfg0.N) (a : Fin 544) (r : Fin 4352) (l : Fin 1024) (hr : r.val = t.val * 544 + a.val) :
    (dats m 0 c).arrAt 7 cfg0.N (ValueIdx.ix2 r l) = (dats m 0 c).flushed 7 t (ValueIdx.ix2 a l) := by
  obtain ⟨e0, e1⟩ := place7 t
  have b0 : (((cfg0.win 7).blk t).view.emb (ValueIdx.ix2 a l) 0).val = win0_7.index t (0 : Fin 2) * 544 + 1 * a.val := rfl
  have b1 : (((cfg0.win 7).blk t).view.emb (ValueIdx.ix2 a l) 1).val = win0_7.index t (1 : Fin 2) * 1024 + 1 * l.val := rfl
  have hi := Prod.eq_pair (((cfg0.win 7).blk t).view.emb (ValueIdx.ix2 a l)) r l (by rw [b0, e0]; omega) (by rw [b1, e1]; omega)
  exact (congrArg _ hi).symm.trans ((read7 _ t _).symm.trans (congrFun (Value.blocks7 m c t (flush0_7 t)) (ValueIdx.ix2 a l)))

/-- A row lies in one point's block. -/
theorem split (r : Fin 4352) : ∃ (t : Fin cfg0.N) (a : Fin 544), r.val = t.val * 544 + a.val := by
  have hN : cfg0.N = 8 := N_0
  exact ⟨⟨r.val / 544, by omega⟩, ⟨r.val % 544, by omega⟩, by show r.val = r.val / 544 * 544 + r.val % 544; omega⟩

section

variable (t : Fin cfg0.N) (a : Fin 544) (r : Fin 4352) (hr : r.val = t.val * 544 + a.val)

include hr

/-- A block's rows are the array's. -/
theorem mix_row : mix (iblk m c 0 t) (iblk m c 1 t) a = mix (m ((c.tc : Thread nD τ).loc main_arg0)) (m ((c.tc : Thread nD τ).loc main_arg1)) r :=
  funext fun l => by
    unfold mix
    exact Finset.sum_congr rfl fun k _ => congrArg₂ (fun a b : EReal => a * b) (blk0 m c t a k r k hr (by omega)) (blk1 m c t k l k l rfl (by omega))

theorem res_row : res (iblk m c 0 t) (iblk m c 1 t) (iblk m c 2 t) (iblk m c 3 t) a = res (m ((c.tc : Thread nD τ).loc main_arg0)) (m ((c.tc : Thread nD τ).loc main_arg1)) (m ((c.tc : Thread nD τ).loc main_arg2)) (m ((c.tc : Thread nD τ).loc main_arg3)) r := by
  funext l
  unfold res
  rw [mix_row m c t a r hr, blk2 m c t a l r l hr (by omega), blk3 m c t 0 l 0 l rfl (by omega)]

theorem nrm_row : nrm (iblk m c 0 t) (iblk m c 1 t) (iblk m c 2 t) (iblk m c 3 t) (iblk m c 4 t) a = nrm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r := by
  funext l
  unfold nrm
  rw [res_row m c t a r hr, blk4 m c t 0 l 0 l rfl (by omega)]

end

/-- The results at an index. -/
theorem mix_at (r : Fin 4352) (l : Fin 1024) : (dats m 0 c).arrAt 5 cfg0.N (ValueIdx.ix2 r l) = mix (m ((c.tc : Thread nD τ).loc main_arg0)) (m ((c.tc : Thread nD τ).loc main_arg1)) r l := by
  obtain ⟨t, a, hr⟩ := split r
  rw [end5 m c t a r l hr, Value.flushed5_A m c t, out_5]
  exact (cut5 t _ _).trans ((pay1_apply _ _ a l).trans (congrFun (mix_row m c t a r hr) l))

theorem res_at (r : Fin 4352) (l : Fin 1024) : (dats m 0 c).arrAt 6 cfg0.N (ValueIdx.ix2 r l) = res (m ((c.tc : Thread nD τ).loc main_arg0)) (m ((c.tc : Thread nD τ).loc main_arg1)) (m ((c.tc : Thread nD τ).loc main_arg2)) (m ((c.tc : Thread nD τ).loc main_arg3)) r l := by
  obtain ⟨t, a, hr⟩ := split r
  rw [end6 m c t a r l hr, Value.flushed6_A m c t, out_6]
  exact (cut6 t _ _).trans ((pay2_apply _ _ _ _ a l).trans (congrFun (res_row m c t a r hr) l))

theorem nrm_at (r : Fin 4352) (l : Fin 1024) : (dats m 0 c).arrAt 7 cfg0.N (ValueIdx.ix2 r l) = nrm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r l := by
  obtain ⟨t, a, hr⟩ := split r
  rw [end7 m c t a r l hr, Value.flushed7_A m c t, out_7]
  exact (cut7 t _ _).trans ((pay3_apply _ _ _ _ _ a l).trans (congrFun (nrm_row m c t a r hr) l))

end Cert.OutFwd

end
-- ==== Proof.OutFwd.lean ====
/- The output projection and its two norms: the kernel's results are the reference's. -/
module

public import proofs.«01_k».proof.Proof.OutFwdOut
public import proofs.«01_k».proof.Proof.Gen.OutProjRefIdeal.Read

@[expose] public section

set_option maxRecDepth 16384

noncomputable section

namespace Cert.OutFwd

open Idealize.ShloMosaic Idealize.ShloMosaic.TcCoe
open scoped BigOperators

section

open Cert.OutProjRefIdeal Cert.OutProjRefIdeal.Read

variable (x0 : Vec Ideal S4352x1024 .bf16) (x1 : Vec Ideal S1024x1024 .bf16) (x2 : Vec Ideal S4352x1024 .f32) (x3 : Vec Ideal S1x1024 .f32) (x4 : Vec Ideal S1x1024 .f32)

theorem ref_mix (p : Fin 4352) (j : Fin 1024) : val_main_v2 (F := Ideal) x0 x1 (ValueIdx.ix2 p j) = mix x0 x1 p j := by
  unfold mix Prod.nn
  refine (val_main_v2_apply x0 x1 _).trans (Finset.sum_congr rfl fun k _ => ?_)
  rw [val_main_v1_apply, val_main_v0_apply]
  exact congrArg₂ (fun a b : EReal => a * b) (congrArg x0 (Prod.eq_pair _ _ _ rfl rfl)) (congrArg x1 (Prod.eq_pair _ _ _ rfl rfl))

theorem ref10 (p : Fin 4352) (i : S4352x1.Idx) (hi : (i 0).val = p.val) : val_main_v10 (F := Ideal) x0 x1 i = Norm.rs (mix x0 x1 p) := by
  have e : val_main_v4 (F := Ideal) x0 x1 (idx_main_v5 i) = ∑ k : Fin 1024, mix x0 x1 p k * mix x0 x1 p k := by
    rw [val_main_v4_apply]
    refine (congrArg (· + _) Norm.zero_eq).trans ((zero_add _).trans (Finset.sum_congr rfl fun k _ => ?_))
    have e := Prod.eq_pair (idx_main_v4 (idx_main_v5 i) k) p k hi rfl
    rw [val_main_v3_apply, e, ref_mix]; rfl
  rw [val_main_v10_apply, val_main_v9_apply, val_main_v7_apply, val_main_v5_apply, e]; rfl

theorem ref_res (p : Fin 4352) (j : Fin 1024) : val_main_v15 (F := Ideal) x0 x1 x2 x3 (ValueIdx.ix2 p j) = res x0 x1 x2 x3 p j := by
  have e := Prod.eq_pair (idx_main_v13 (ValueIdx.ix2 p j)) 0 j rfl rfl
  rw [val_main_v15_apply, val_main_v14_apply, val_main_v12_apply, val_main_v11_apply, val_main_v13_apply, ref10 x0 x1 p _ rfl, e, ref_mix]; rfl

theorem ref23 (p : Fin 4352) (i : S4352x1.Idx) (hi : (i 0).val = p.val) : val_main_v23 (F := Ideal) x0 x1 x2 x3 i = Norm.rs (res x0 x1 x2 x3 p) := by
  have e : val_main_v17 (F := Ideal) x0 x1 x2 x3 (idx_main_v18 i) = ∑ k : Fin 1024, res x0 x1 x2 x3 p k * res x0 x1 x2 x3 p k := by
    rw [val_main_v17_apply]
    refine (congrArg (· + _) Norm.zero_eq).trans ((zero_add _).trans (Finset.sum_congr rfl fun k _ => ?_))
    have e := Prod.eq_pair (idx_main_v17 (idx_main_v18 i) k) p k hi rfl
    rw [val_main_v16_apply, e, ref_res]; rfl
  rw [val_main_v23_apply, val_main_v22_apply, val_main_v20_apply, val_main_v18_apply, e]; rfl

theorem ref_nrm (p : Fin 4352) (j : Fin 1024) : val_main_v28 (F := Ideal) x0 x1 x2 x3 x4 (ValueIdx.ix2 p j) = nrm x0 x1 x2 x3 x4 p j := by
  have e := Prod.eq_pair (idx_main_v26 (ValueIdx.ix2 p j)) 0 j rfl rfl
  rw [val_main_v28_apply, val_main_v27_apply, val_main_v25_apply, val_main_v24_apply, val_main_v26_apply, ref23 x0 x1 x2 x3 p _ rfl, e, ref_res]; rfl

end

open Cert.OutProjIdeal Gen

variable (m : (ℓ : Loc nD τ sig) → Buf (Elt Ideal) ℓ) (c : Dev nD)

/-- The results are equal. -/
theorem equal1 {y0 y1 : _}
    (a0 : y0 = m ((c.tc : Thread nD τ).loc main_arg0))
    (a1 : y1 = m ((c.tc : Thread nD τ).loc main_arg1)) :
    Cert.OutProjRefIdeal.Read.val_main_v2 (F := Ideal) y0 y1 = (dats m 0 c).arrAt 5 cfg0.N := by
  rw [a0, a1]
  funext i
  rw [Prod.eta i]
  exact (ref_mix _ _ _ _).trans (mix_at m c _ _).symm

theorem equal2 {y0 y1 y2 y3 : _}
    (a0 : y0 = m ((c.tc : Thread nD τ).loc main_arg0))
    (a1 : y1 = m ((c.tc : Thread nD τ).loc main_arg1))
    (a2 : y2 = m ((c.tc : Thread nD τ).loc main_arg2))
    (a3 : y3 = m ((c.tc : Thread nD τ).loc main_arg3)) :
    Cert.OutProjRefIdeal.Read.val_main_v15 (F := Ideal) y0 y1 y2 y3 = (dats m 0 c).arrAt 6 cfg0.N := by
  rw [a0, a1, a2, a3]
  funext i
  rw [Prod.eta i]
  exact (ref_res _ _ _ _ _ _).trans (res_at m c _ _).symm

theorem equal3 {y0 y1 y2 y3 y4 : _}
    (a0 : y0 = m ((c.tc : Thread nD τ).loc main_arg0))
    (a1 : y1 = m ((c.tc : Thread nD τ).loc main_arg1))
    (a2 : y2 = m ((c.tc : Thread nD τ).loc main_arg2))
    (a3 : y3 = m ((c.tc : Thread nD τ).loc main_arg3))
    (a4 : y4 = m ((c.tc : Thread nD τ).loc main_arg4)) :
    Cert.OutProjRefIdeal.Read.val_main_v28 (F := Ideal) y0 y1 y2 y3 y4 = (dats m 0 c).arrAt 7 cfg0.N := by
  rw [a0, a1, a2, a3, a4]
  funext i
  rw [Prod.eta i]
  exact (ref_nrm _ _ _ _ _ _ _).trans (nrm_at m c _ _).symm

end Cert.OutFwd

end
-- ==== Proof.LossPay.lean ====
/- The loss and its gradient: rows of arrays of any number of rows, and what the body computes. -/
module

public import proofs.«01_k».proof.Proof.Norm
public import proofs.«01_k».proof.Proof.Gen.LossIdeal.Skeleton

@[expose] public section

set_option maxRecDepth 16384

noncomputable section

namespace Cert.LossFwd

open Idealize.ShloMosaic Idealize.ShloMosaic.TcCoe Cert.LossIdeal Gen
open scoped BigOperators

/-- The numbers the programs write: a half, one 1024th. -/
abbrev hf : EReal := Ideal.ofBits .f32 0x3F000000#32
abbrev inv : EReal := Ideal.ofBits .f32 0x3A800000#32

section

variable {n : ℕ} (y0 : (⟨2, ![n, 2816]⟩ : Shape).Idx → EReal) (y1 : (⟨2, ![2816, 1024]⟩ : Shape).Idx → EReal) (y2 y3 : (⟨2, ![n, 1024]⟩ : Shape).Idx → EReal)
  (y4 : (⟨2, ![1, 1024]⟩ : Shape).Idx → EReal) (o : ℕ) (p : Fin n)

/-- The product's row; the error of the row, which is the `o + p`-th of all and counts if it is a token's; its
    gradient; the gradient at the product; the gain's terms; the sum of the squared errors. -/
def ffn (j : Fin 1024) : EReal := Prod.nn y0 y1 p j
def out (j : Fin 1024) : EReal := y2 (ValueIdx.ix2 p j) + Norm.hat (ffn y0 y1 p) j * y4 (ValueIdx.ix2 0 j)
def err (j : Fin 1024) : EReal := if 16 ≤ o + p.val ∧ o + p.val < 4112 then out y0 y1 y2 y4 p j - y3 (ValueIdx.ix2 p j) else 0
def dy (j : Fin 1024) : EReal := err y0 y1 y2 y3 y4 o p j * inv
def dffn (j : Fin 1024) : EReal := Norm.back (ffn y0 y1 p) (fun k => dy y0 y1 y2 y3 y4 o p k * y4 (ValueIdx.ix2 0 k)) j
def gain (j : Fin 1024) : EReal := dy y0 y1 y2 y3 y4 o p j * Norm.hat (ffn y0 y1 p) j
def sq : EReal := ∑ k, err y0 y1 y2 y3 y4 o p k * err y0 y1 y2 y3 y4 o p k

end

/-- The body's test of a row, at each of the eight points. -/
theorem mask : ∀ (t : Fin 8) (a : Fin 544),
    IntOp.andi (IntOp.cmpi .sge (IntOp.addi (Scalar.muli (BitVec.ofNat 32 t.val) 544#32) (BitVec.ofNat 32 a.val)) 16#32)
      (IntOp.cmpi .slt (IntOp.addi (Scalar.muli (BitVec.ofNat 32 t.val) 544#32) (BitVec.ofNat 32 a.val)) 4112#32)
      = if 16 ≤ t.val * 544 + a.val ∧ t.val * 544 + a.val < 4112 then 1#1 else 0#1 := by decide +kernel

variable (x0 : Vec Ideal S544x2816 .bf16) (x1 : Vec Ideal S2816x1024 .bf16) (x2 : Vec Ideal S544x1024 .f32) (x3 : Vec Ideal S544x1024 .f32) (x4 : Vec Ideal S1x1024 .f32) (t : Fin 8)

/-- The product, and the other values a point keeps. -/
abbrev pr : FVec Ideal S544x1024 .f32 := k0_pay1 (F := Ideal) x0 x1
abbrev er : FVec Ideal S544x1024 .f32 := k0_pay9 (F := Ideal) (BitVec.ofNat 32 t.val) (pr x0 x1) x2 x3 x4
abbrev dr : FVec Ideal S544x1024 .f32 := k0_pay10 (F := Ideal) (BitVec.ofNat 32 t.val) (pr x0 x1) x2 x3 x4

theorem pay1_row (p : Fin 544) : (fun k : Fin 1024 => pr x0 x1 (ValueIdx.ix2 p k)) = ffn x0 x1 p := by
  funext k
  have e : k0_pay1 (F := Ideal) x0 x1 (ValueIdx.ix2 p k) = (0 : EReal) + ∑ l : Fin 2816, x0 (ValueIdx.ix2 p l) * x1 (ValueIdx.ix2 l k) := by
    unfold k0_pay1
    pointwise
    first | rfl | simp
  refine e.trans ?_
  rw [zero_add]; rfl

theorem pay7_apply (p : Fin 544) (q : Fin 1) : k0_pay7 (F := Ideal) (pr x0 x1) (ValueIdx.ix2 p q) = Norm.rs (ffn x0 x1 p) := by
  rw [← pay1_row]
  generalize pr x0 x1 = v
  unfold k0_pay7
  pointwise
  rfl

theorem pay8_apply (p : Fin 544) (j : Fin 1024) : k0_pay8 (F := Ideal) (pr x0 x1) (ValueIdx.ix2 p j) = Norm.hat (ffn x0 x1 p) j := by
  have e : k0_pay8 (F := Ideal) (pr x0 x1) (ValueIdx.ix2 p j) = pr x0 x1 (ValueIdx.ix2 p j) * k0_pay7 (F := Ideal) (pr x0 x1) (ValueIdx.ix2 p 0) := by
    generalize pr x0 x1 = v
    unfold k0_pay8
    pointwise
    rfl
  rw [e, pay7_apply, ← pay1_row]; rfl

theorem pay9_apply (p : Fin 544) (j : Fin 1024) : er x0 x1 x2 x3 x4 t (ValueIdx.ix2 p j) = err x0 x1 x2 x3 x4 (t.val * 544) p j := by
  have e : er x0 x1 x2 x3 x4 t (ValueIdx.ix2 p j)
      = Scalar.select (IntOp.andi (IntOp.cmpi .sge (IntOp.addi (Scalar.muli (BitVec.ofNat 32 t.val) 544#32) (BitVec.ofNat 32 p.val)) 16#32)
        (IntOp.cmpi .slt (IntOp.addi (Scalar.muli (BitVec.ofNat 32 t.val) 544#32) (BitVec.ofNat 32 p.val)) 4112#32))
        (x2 (ValueIdx.ix2 p j) + k0_pay8 (F := Ideal) (pr x0 x1) (ValueIdx.ix2 p j) * x4 (ValueIdx.ix2 0 j) - x3 (ValueIdx.ix2 p j)) (0 : EReal) := by
    unfold er
    generalize pr x0 x1 = v
    unfold k0_pay9
    pointwise
    rfl
  rw [e, mask, pay8_apply]
  unfold err out
  split <;> rfl

theorem pay10_apply (p : Fin 544) (j : Fin 1024) : dr x0 x1 x2 x3 x4 t (ValueIdx.ix2 p j) = dy x0 x1 x2 x3 x4 (t.val * 544) p j := by
  have e : dr x0 x1 x2 x3 x4 t (ValueIdx.ix2 p j) = er x0 x1 x2 x3 x4 t (ValueIdx.ix2 p j) * inv := by
    unfold dr er
    generalize pr x0 x1 = v
    unfold k0_pay10
    pointwise
    try rfl
  rw [e, pay9_apply]; rfl

theorem pay11_apply (p : Fin 544) (j : Fin 1024) :
    k0_pay11 (F := Ideal) (BitVec.ofNat 32 t.val) (pr x0 x1) x2 x3 x4 (ValueIdx.ix2 p j) = dffn x0 x1 x2 x3 x4 (t.val * 544) p j := by
  have e : k0_pay11 (F := Ideal) (BitVec.ofNat 32 t.val) (pr x0 x1) x2 x3 x4 (ValueIdx.ix2 p j)
      = k0_pay7 (F := Ideal) (pr x0 x1) (ValueIdx.ix2 p 0) * (dr x0 x1 x2 x3 x4 t (ValueIdx.ix2 p j) * x4 (ValueIdx.ix2 0 j)
        - k0_pay8 (F := Ideal) (pr x0 x1) (ValueIdx.ix2 p j) * Ideal.div (∑ k : Fin 1024, dr x0 x1 x2 x3 x4 t (ValueIdx.ix2 p k) * x4 (ValueIdx.ix2 0 k) * k0_pay8 (F := Ideal) (pr x0 x1) (ValueIdx.ix2 p k)) Norm.len) := by
    unfold dr
    generalize pr x0 x1 = v
    unfold k0_pay11
    pointwise
    rfl
  rw [e, pay7_apply, pay8_apply]
  simp only [pay8_apply, pay10_apply]
  rfl

theorem pay4_apply (v : FVec Ideal S544x1024 .f32) (i : S544x1024.Idx) : k0_pay4 (F := Ideal) v i = v i := rfl

theorem pay2_apply (q : Fin 1) (j : Fin 1024) : k0_pay2 (F := Ideal) (k0_pay8 (F := Ideal) (pr x0 x1)) (dr x0 x1 x2 x3 x4 t) (ValueIdx.ix2 q j)
    = ∑ p : Fin 544, gain x0 x1 x2 x3 x4 (t.val * 544) p j := by
  have e : ∀ a b : FVec Ideal S544x1024 .f32, k0_pay2 (F := Ideal) a b (ValueIdx.ix2 q j) = ∑ p : Fin 544, b (ValueIdx.ix2 p j) * a (ValueIdx.ix2 p j) := fun a b => by
    unfold k0_pay2
    pointwise
    rfl
  rw [e]
  exact Finset.sum_congr rfl fun p _ => by rw [pay8_apply, pay10_apply]; rfl

theorem pay5_apply (a b : FVec Ideal S544x1024 .f32) (z : FVec Ideal S1x1024 .f32) (q : Fin 1) (j : Fin 1024) :
    k0_pay5 (F := Ideal) a b z (ValueIdx.ix2 q j) = z (ValueIdx.ix2 q j) + k0_pay2 (F := Ideal) a b (ValueIdx.ix2 q j) := by
  unfold k0_pay5
  pointwise

theorem pay3_apply (q : Fin 1) (l : Fin 128) : k0_pay3 (F := Ideal) (er x0 x1 x2 x3 x4 t) (ValueIdx.ix2 q l)
    = Ideal.div (hf * ∑ p : Fin 544, sq x0 x1 x2 x3 x4 (t.val * 544) p) Norm.len := by
  have e : ∀ v : FVec Ideal S544x1024 .f32, k0_pay3 (F := Ideal) v (ValueIdx.ix2 q l)
      = Ideal.div (hf * ∑ p : Fin 544, ∑ k : Fin 1024, v (ValueIdx.ix2 p k) * v (ValueIdx.ix2 p k)) Norm.len := fun v => by
    unfold k0_pay3
    pointwise
    rfl
  rw [e]
  unfold sq
  simp only [pay9_apply]

theorem pay6_apply (v : FVec Ideal S544x1024 .f32) (z : FVec Ideal S1x128 .f32) (q : Fin 1) (l : Fin 128) :
    k0_pay6 (F := Ideal) v z (ValueIdx.ix2 q l) = z (ValueIdx.ix2 q l) + k0_pay3 (F := Ideal) v (ValueIdx.ix2 q l) := by
  unfold k0_pay6
  pointwise

end Cert.LossFwd

end
-- ==== Proof.LossPoint.lean ====
/- The loss and its gradient: what one grid point stores. -/
module

public import proofs.«01_k».proof.Proof.Prod
public import proofs.«01_k».proof.Proof.Gen.LossIdeal.Value
public import proofs.«01_k».proof.Proof.Read

@[expose] public section

set_option maxRecDepth 16384

noncomputable section

namespace Cert.LossFwd

open Idealize.ShloMosaic Idealize.ShloMosaic.TcCoe Cert.LossIdeal Gen

variable (x0 : Vec Ideal S544x2816 .bf16) (x1 : Vec Ideal S2816x1024 .bf16) (x2 : Vec Ideal S544x1024 .f32) (x3 : Vec Ideal S544x1024 .f32) (x4 : Vec Ideal S1x1024 .f32) (z7 : Vec Ideal S1x1024 .f32) (z8 : Vec Ideal S1x128 .f32)
variable (c : Dev nD) (i : grid0.Coords) (arg2 : Memref sig .tc .vmem S544x2816 .bf16) (w2 : arg2.IsWhole) (arg3 : Memref sig .tc .vmem S2816x1024 .bf16) (w3 : arg3.IsWhole) (arg4 : Memref sig .tc .vmem S544x1024 .f32) (w4 : arg4.IsWhole) (arg5 : Memref sig .tc .vmem S544x1024 .f32) (w5 : arg5.IsWhole) (arg6 : Memref sig .tc .vmem S1x1024 .f32) (w6 : arg6.IsWhole) (arg7 : Memref sig .tc .vmem S544x1024 .bf16) (w7 : arg7.IsWhole) (arg8 : Memref sig .tc .vmem S544x1024 .f32) (w8 : arg8.IsWhole) (arg9 : Memref sig .tc .vmem S1x1024 .f32) (w9 : arg9.IsWhole) (arg10 : Memref sig .tc .vmem S1x128 .f32) (w10 : arg10.IsWhole)

section A

variable (hc0 : cond0_0 i) (hc1 : cond0_1 i) (hc2 : ¬cond0_2 i) (hc3 : cond0_3 i) (hc4 : ¬cond0_4 i)

theorem out_A_5 : out0_A_5 c i _ w2 _ w3 _ w4 _ w5 _ w6 _ w7 _ w8 _ w9 _ w10 hc0 hc1 hc2 hc3 hc4 x0 x1 x2 x3 x4 = k0_pay4 (F := Ideal) (k0_pay11 (F := Ideal) (BitVec.ofNat 32 (i 0).val) (k0_pay1 (F := Ideal) x0 x1) x2 x3 x4) := by
  unfold out0_A_5 kernelRun0_A
  dsimp only
  refine (View.read_writes_full _ _ _ _ _).trans ?_
  unfold kernelRun0_A.sl.r_3
  exact congrArg (k0_pay4 (F := Ideal)) (congr (congr (congr (congrArg (k0_pay11 (F := Ideal) (BitVec.ofNat 32 (i 0).val)) (congrArg₂ (k0_pay1 (F := Ideal)) (rdw w2 _) (rdw w3 _))) (rdw w4 _)) (rdw w5 _)) (rdw w6 _))

theorem out_A_6 : out0_A_6 c i _ w2 _ w3 _ w4 _ w5 _ w6 _ w7 _ w8 _ w9 _ w10 hc0 hc1 hc2 hc3 hc4 x0 x1 x2 x3 x4 = (k0_pay10 (F := Ideal) (BitVec.ofNat 32 (i 0).val) (k0_pay1 (F := Ideal) x0 x1) x2 x3 x4) := by
  unfold out0_A_6 kernelRun0_A
  dsimp only
  refine (View.read_writes_full _ _ _ _ _).trans ?_
  unfold kernelRun0_A.sl.r_2
  exact (congr (congr (congr (congrArg (k0_pay10 (F := Ideal) (BitVec.ofNat 32 (i 0).val)) (congrArg₂ (k0_pay1 (F := Ideal)) (rdw w2 _) (rdw w3 _))) (rdw w4 _)) (rdw w5 _)) (rdw w6 _))

theorem out_A_7 : out0_A_7 c i _ w2 _ w3 _ w4 _ w5 _ w6 _ w7 _ w8 _ w9 _ w10 hc0 hc1 hc2 hc3 hc4 x0 x1 x2 x3 x4 = k0_pay2 (F := Ideal) (k0_pay8 (F := Ideal) (k0_pay1 (F := Ideal) x0 x1)) (k0_pay10 (F := Ideal) (BitVec.ofNat 32 (i 0).val) (k0_pay1 (F := Ideal) x0 x1) x2 x3 x4) := by
  unfold out0_A_7 kernelRun0_A
  dsimp only
  refine (View.read_writes_full _ _ _ _ _).trans ?_
  unfold kernelRun0_A.sl.r kernelRun0_A.sl.r_2
  exact (congr (congrArg (k0_pay2 (F := Ideal)) (congrArg (k0_pay8 (F := Ideal)) (congrArg₂ (k0_pay1 (F := Ideal)) (rdw w2 _) (rdw w3 _)))) (congr (congr (congr (congrArg (k0_pay10 (F := Ideal) (BitVec.ofNat 32 (i 0).val)) (congrArg₂ (k0_pay1 (F := Ideal)) (rdw w2 _) (rdw w3 _))) (rdw w4 _)) (rdw w5 _)) (rdw w6 _)))

theorem out_A_8 : out0_A_8 c i _ w2 _ w3 _ w4 _ w5 _ w6 _ w7 _ w8 _ w9 _ w10 hc0 hc1 hc2 hc3 hc4 x0 x1 x2 x3 x4 = k0_pay3 (F := Ideal) (k0_pay9 (F := Ideal) (BitVec.ofNat 32 (i 0).val) (k0_pay1 (F := Ideal) x0 x1) x2 x3 x4) := by
  unfold out0_A_8 kernelRun0_A
  dsimp only
  refine (View.read_writes_full _ _ _ _ _).trans ?_
  unfold kernelRun0_A.sl.r_1
  exact congrArg (k0_pay3 (F := Ideal)) (congr (congr (congr (congrArg (k0_pay9 (F := Ideal) (BitVec.ofNat 32 (i 0).val)) (congrArg₂ (k0_pay1 (F := Ideal)) (rdw w2 _) (rdw w3 _))) (rdw w4 _)) (rdw w5 _)) (rdw w6 _))

end A

section B

variable (hc0 : cond0_0 i) (hc1 : ¬cond0_1 i) (hc2 : cond0_2 i) (hc3 : ¬cond0_3 i) (hc4 : cond0_4 i)

theorem out_B_5 : out0_B_5 c i _ w2 _ w3 _ w4 _ w5 _ w6 _ w7 _ w8 _ w9 _ w10 hc0 hc1 hc2 hc3 hc4 x0 x1 x2 x3 x4 z7 z8 = k0_pay4 (F := Ideal) (k0_pay11 (F := Ideal) (BitVec.ofNat 32 (i 0).val) (k0_pay1 (F := Ideal) x0 x1) x2 x3 x4) := by
  unfold out0_B_5 kernelRun0_B
  dsimp only
  refine (View.read_writes_full _ _ _ _ _).trans ?_
  unfold kernelRun0_B.sl.r_3
  exact congrArg (k0_pay4 (F := Ideal)) (congr (congr (congr (congrArg (k0_pay11 (F := Ideal) (BitVec.ofNat 32 (i 0).val)) (congrArg₂ (k0_pay1 (F := Ideal)) (rdw w2 _) (rdw w3 _))) (rdw w4 _)) (rdw w5 _)) (rdw w6 _))

theorem out_B_6 : out0_B_6 c i _ w2 _ w3 _ w4 _ w5 _ w6 _ w7 _ w8 _ w9 _ w10 hc0 hc1 hc2 hc3 hc4 x0 x1 x2 x3 x4 z7 z8 = (k0_pay10 (F := Ideal) (BitVec.ofNat 32 (i 0).val) (k0_pay1 (F := Ideal) x0 x1) x2 x3 x4) := by
  unfold out0_B_6 kernelRun0_B
  dsimp only
  refine (View.read_writes_full _ _ _ _ _).trans ?_
  unfold kernelRun0_B.sl.r_2
  exact (congr (congr (congr (congrArg (k0_pay10 (F := Ideal) (BitVec.ofNat 32 (i 0).val)) (congrArg₂ (k0_pay1 (F := Ideal)) (rdw w2 _) (rdw w3 _))) (rdw w4 _)) (rdw w5 _)) (rdw w6 _))

theorem out_B_7 : out0_B_7 c i _ w2 _ w3 _ w4 _ w5 _ w6 _ w7 _ w8 _ w9 _ w10 hc0 hc1 hc2 hc3 hc4 x0 x1 x2 x3 x4 z7 z8 = k0_pay5 (F := Ideal) (k0_pay8 (F := Ideal) (k0_pay1 (F := Ideal) x0 x1)) (k0_pay10 (F := Ideal) (BitVec.ofNat 32 (i 0).val) (k0_pay1 (F := Ideal) x0 x1) x2 x3 x4) z7 := by
  unfold out0_B_7 kernelRun0_B
  dsimp only
  refine (View.read_writes_full _ _ _ _ _).trans ?_
  unfold kernelRun0_B.sl.r kernelRun0_B.sl.r_2
  exact congr (congr (congrArg (k0_pay5 (F := Ideal)) (congrArg (k0_pay8 (F := Ideal)) (congrArg₂ (k0_pay1 (F := Ideal)) (rdw w2 _) (rdw w3 _)))) (congr (congr (congr (congrArg (k0_pay10 (F := Ideal) (BitVec.ofNat 32 (i 0).val)) (congrArg₂ (k0_pay1 (F := Ideal)) (rdw w2 _) (rdw w3 _))) (rdw w4 _)) (rdw w5 _)) (rdw w6 _))) (rdw w9 _)

theorem out_B_8 : out0_B_8 c i _ w2 _ w3 _ w4 _ w5 _ w6 _ w7 _ w8 _ w9 _ w10 hc0 hc1 hc2 hc3 hc4 x0 x1 x2 x3 x4 z7 z8 = k0_pay6 (F := Ideal) (k0_pay9 (F := Ideal) (BitVec.ofNat 32 (i 0).val) (k0_pay1 (F := Ideal) x0 x1) x2 x3 x4) z8 := by
  unfold out0_B_8 kernelRun0_B
  dsimp only
  refine (View.read_writes_full _ _ _ _ _).trans ?_
  unfold kernelRun0_B.sl.r_1
  exact congr (congrArg (k0_pay6 (F := Ideal)) (congr (congr (congr (congrArg (k0_pay9 (F := Ideal) (BitVec.ofNat 32 (i 0).val)) (congrArg₂ (k0_pay1 (F := Ideal)) (rdw w2 _) (rdw w3 _))) (rdw w4 _)) (rdw w5 _)) (rdw w6 _))) (rdw w10 _)

end B

end Cert.LossFwd

end
-- ==== Proof.LossOut.lean ====
/- The loss and its gradient: what the kernel's results hold. -/
module

public import proofs.«01_k».proof.Proof.LossPay
public import proofs.«01_k».proof.Proof.LossPoint
public import proofs.«01_k».proof.Proof.Nat2

@[expose] public section

set_option maxRecDepth 16384

noncomputable section

namespace Cert.LossFwd

open Idealize.ShloMosaic Idealize.ShloMosaic.TcCoe Cert.LossIdeal Gen
open scoped BigOperators

variable (m : (ℓ : Loc nD τ sig) → Buf (Elt Ideal) ℓ) (c : Dev nD)

/- What a point's input blocks hold, and where its results go. -/

theorem place0 : ∀ t : Fin cfg0.N, win0_0.index t (0 : Fin 2) = t.val ∧ win0_0.index t (1 : Fin 2) = 0 := (by decide +kernel : ∀ t : Fin grid0.N, _)
theorem read0 (A : (⟨S4352x2816, .bf16⟩ : BufTy).Contents (Elt Ideal)) (t : Fin cfg0.N) (y : S544x2816.Idx) :
    ((cfg0.win 0).blk t).view.read (Elt Ideal) A y = A (((cfg0.win 0).blk t).view.emb y) := rfl
theorem blk0 (t : Fin cfg0.N) (a : Fin 544) (b : Fin 2816) (p : Fin 4352) (q : Fin 2816) (hp : p.val = t.val * 544 + a.val) (hq : q.val = 0 * 2816 + b.val) :
    iblk m c 0 t (ValueIdx.ix2 a b) = m ((c.tc : Thread nD τ).loc main_arg0) (ValueIdx.ix2 p q) := by
  obtain ⟨e0, e1⟩ := place0 t
  have b0 : (((cfg0.win 0).blk t).view.emb (ValueIdx.ix2 a b) 0).val = win0_0.index t (0 : Fin 2) * 544 + 1 * a.val := rfl
  have b1 : (((cfg0.win 0).blk t).view.emb (ValueIdx.ix2 a b) 1).val = win0_0.index t (1 : Fin 2) * 2816 + 1 * b.val := rfl
  unfold iblk
  exact (read0 _ t _).trans (congrArg _ (Prod.eq_pair _ _ _ (by rw [b0, e0]; omega) (by rw [b1, e1]; omega)))

theorem place1 : ∀ t : Fin cfg0.N, win0_1.index t (0 : Fin 2) = 0 ∧ win0_1.index t (1 : Fin 2) = 0 := (by decide +kernel : ∀ t : Fin grid0.N, _)
theorem read1 (A : (⟨S2816x1024, .bf16⟩ : BufTy).Contents (Elt Ideal)) (t : Fin cfg0.N) (y : S2816x1024.Idx) :
    ((cfg0.win 1).blk t).view.read (Elt Ideal) A y = A (((cfg0.win 1).blk t).view.emb y) := rfl
theorem blk1 (t : Fin cfg0.N) (a : Fin 2816) (b : Fin 1024) (p : Fin 2816) (q : Fin 1024) (hp : p.val = a.val) (hq : q.val = 0 * 1024 + b.val) :
    iblk m c 1 t (ValueIdx.ix2 a b) = m ((c.tc : Thread nD τ).loc main_arg1) (ValueIdx.ix2 p q) := by
  obtain ⟨e0, e1⟩ := place1 t
  have b0 : (((cfg0.win 1).blk t).view.emb (ValueIdx.ix2 a b) 0).val = win0_1.index t (0 : Fin 2) * 2816 + 1 * a.val := rfl
  have b1 : (((cfg0.win 1).blk t).view.emb (ValueIdx.ix2 a b) 1).val = win0_1.index t (1 : Fin 2) * 1024 + 1 * b.val := rfl
  unfold iblk
  exact (read1 _ t _).trans (congrArg _ (Prod.eq_pair _ _ _ (by rw [b0, e0]; omega) (by rw [b1, e1]; omega)))

theorem place2 : ∀ t : Fin cfg0.N, win0_2.index t (0 : Fin 2) = t.val ∧ win0_2.index t (1 : Fin 2) = 0 := (by decide +kernel : ∀ t : Fin grid0.N, _)
theorem read2 (A : (⟨S4352x1024, .f32⟩ : BufTy).Contents (Elt Ideal)) (t : Fin cfg0.N) (y : S544x1024.Idx) :
    ((cfg0.win 2).blk t).view.read (Elt Ideal) A y = A (((cfg0.win 2).blk t).view.emb y) := rfl
theorem blk2 (t : Fin cfg0.N) (a : Fin 544) (b : Fin 1024) (p : Fin 4352) (q : Fin 1024) (hp : p.val = t.val * 544 + a.val) (hq : q.val = 0 * 1024 + b.val) :
    iblk m c 2 t (ValueIdx.ix2 a b) = m ((c.tc : Thread nD τ).loc main_arg2) (ValueIdx.ix2 p q) := by
  obtain ⟨e0, e1⟩ := place2 t
  have b0 : (((cfg0.win 2).blk t).view.emb (ValueIdx.ix2 a b) 0).val = win0_2.index t (0 : Fin 2) * 544 + 1 * a.val := rfl
  have b1 : (((cfg0.win 2).blk t).view.emb (ValueIdx.ix2 a b) 1).val = win0_2.index t (1 : Fin 2) * 1024 + 1 * b.val := rfl
  unfold iblk
  exact (read2 _ t _).trans (congrArg _ (Prod.eq_pair _ _ _ (by rw [b0, e0]; omega) (by rw [b1, e1]; omega)))

theorem place3 : ∀ t : Fin cfg0.N, win0_3.index t (0 : Fin 2) = t.val ∧ win0_3.index t (1 : Fin 2) = 0 := (by decide +kernel : ∀ t : Fin grid0.N, _)
theorem read3 (A : (⟨S4352x1024, .f32⟩ : BufTy).Contents (Elt Ideal)) (t : Fin cfg0.N) (y : S544x1024.Idx) :
    ((cfg0.win 3).blk t).view.read (Elt Ideal) A y = A (((cfg0.win 3).blk t).view.emb y) := rfl
theorem blk3 (t : Fin cfg0.N) (a : Fin 544) (b : Fin 1024) (p : Fin 4352) (q : Fin 1024) (hp : p.val = t.val * 544 + a.val) (hq : q.val = 0 * 1024 + b.val) :
    iblk m c 3 t (ValueIdx.ix2 a b) = m ((c.tc : Thread nD τ).loc main_arg3) (ValueIdx.ix2 p q) := by
  obtain ⟨e0, e1⟩ := place3 t
  have b0 : (((cfg0.win 3).blk t).view.emb (ValueIdx.ix2 a b) 0).val = win0_3.index t (0 : Fin 2) * 544 + 1 * a.val := rfl
  have b1 : (((cfg0.win 3).blk t).view.emb (ValueIdx.ix2 a b) 1).val = win0_3.index t (1 : Fin 2) * 1024 + 1 * b.val := rfl
  unfold iblk
  exact (read3 _ t _).trans (congrArg _ (Prod.eq_pair _ _ _ (by rw [b0, e0]; omega) (by rw [b1, e1]; omega)))

theorem place4 : ∀ t : Fin cfg0.N, win0_4.index t (0 : Fin 2) = 0 ∧ win0_4.index t (1 : Fin 2) = 0 := (by decide +kernel : ∀ t : Fin grid0.N, _)
theorem read4 (A : (⟨S1x1024, .f32⟩ : BufTy).Contents (Elt Ideal)) (t : Fin cfg0.N) (y : S1x1024.Idx) :
    ((cfg0.win 4).blk t).view.read (Elt Ideal) A y = A (((cfg0.win 4).blk t).view.emb y) := rfl
theorem blk4 (t : Fin cfg0.N) (a : Fin 1) (b : Fin 1024) (p : Fin 1) (q : Fin 1024) (hp : p.val = a.val) (hq : q.val = 0 * 1024 + b.val) :
    iblk m c 4 t (ValueIdx.ix2 a b) = m ((c.tc : Thread nD τ).loc main_arg4) (ValueIdx.ix2 p q) := by
  obtain ⟨e0, e1⟩ := place4 t
  have b0 : (((cfg0.win 4).blk t).view.emb (ValueIdx.ix2 a b) 0).val = win0_4.index t (0 : Fin 2) * 1 + 1 * a.val := rfl
  have b1 : (((cfg0.win 4).blk t).view.emb (ValueIdx.ix2 a b) 1).val = win0_4.index t (1 : Fin 2) * 1024 + 1 * b.val := rfl
  unfold iblk
  exact (read4 _ t _).trans (congrArg _ (Prod.eq_pair _ _ _ (by rw [b0, e0]; omega) (by rw [b1, e1]; omega)))

theorem place5 : ∀ t : Fin cfg0.N, win0_5.index t (0 : Fin 2) = t.val ∧ win0_5.index t (1 : Fin 2) = 0 := (by decide +kernel : ∀ t : Fin grid0.N, _)
theorem read5 (A : (⟨S4352x1024, .bf16⟩ : BufTy).Contents (Elt Ideal)) (t : Fin cfg0.N) (y : S544x1024.Idx) :
    ((cfg0.win 5).blk t).view.read (Elt Ideal) A y = A (((cfg0.win 5).blk t).view.emb y) := rfl
theorem cut5 (t : Fin cfg0.N) (A : Vec Ideal S544x1024 .bf16) (y : S544x1024.Idx) : (cfg0.win 5).cut (grid0.coords t) A y = A y := rfl
theorem end5 (t : Fin cfg0.N) (a : Fin 544) (r : Fin 4352) (l : Fin 1024) (hr : r.val = t.val * 544 + a.val) :
    (dats m 0 c).arrAt 5 cfg0.N (ValueIdx.ix2 r l) = (dats m 0 c).flushed 5 t (ValueIdx.ix2 a l) := by
  obtain ⟨e0, e1⟩ := place5 t
  have b0 : (((cfg0.win 5).blk t).view.emb (ValueIdx.ix2 a l) 0).val = win0_5.index t (0 : Fin 2) * 544 + 1 * a.val := rfl
  have b1 : (((cfg0.win 5).blk t).view.emb (ValueIdx.ix2 a l) 1).val = win0_5.index t (1 : Fin 2) * 1024 + 1 * l.val := rfl
  have hi := Prod.eq_pair (((cfg0.win 5).blk t).view.emb (ValueIdx.ix2 a l)) r l (by rw [b0, e0]; omega) (by rw [b1, e1]; omega)
  exact (congrArg _ hi).symm.trans ((read5 _ t _).symm.trans (congrFun (Value.blocks5 m c t (flush0_5 t)) (ValueIdx.ix2 a l)))

theorem place6 : ∀ t : Fin cfg0.N, win0_6.index t (0 : Fin 2) = t.val ∧ win0_6.index t (1 : Fin 2) = 0 := (by decide +kernel : ∀ t : Fin grid0.N, _)
theorem read6 (A : (⟨S4352x1024, .f32⟩ : BufTy).Contents (Elt Ideal)) (t : Fin cfg0.N) (y : S544x1024.Idx) :
    ((cfg0.win 6).blk t).view.read (Elt Ideal) A y = A (((cfg0.win 6).blk t).view.emb y) := rfl
theorem cut6 (t : Fin cfg0.N) (A : Vec Ideal S544x1024 .f32) (y : S544x1024.Idx) : (cfg0.win 6).cut (grid0.coords t) A y = A y := rfl
theorem end6 (t : Fin cfg0.N) (a : Fin 544) (r : Fin 4352) (l : Fin 1024) (hr : r.val = t.val * 544 + a.val) :
    (dats m 0 c).arrAt 6 cfg0.N (ValueIdx.ix2 r l) = (dats m 0 c).flushed 6 t (ValueIdx.ix2 a l) := by
  obtain ⟨e0, e1⟩ := place6 t
  have b0 : (((cfg0.win 6).blk t).view.emb (ValueIdx.ix2 a l) 0).val = win0_6.index t (0 : Fin 2) * 544 + 1 * a.val := rfl
  have b1 : (((cfg0.win 6).blk t).view.emb (ValueIdx.ix2 a l) 1).val = win0_6.index t (1 : Fin 2) * 1024 + 1 * l.val := rfl
  have hi := Prod.eq_pair (((cfg0.win 6).blk t).view.emb (ValueIdx.ix2 a l)) r l (by rw [b0, e0]; omega) (by rw [b1, e1]; omega)
  exact (congrArg _ hi).symm.trans ((read6 _ t _).symm.trans (congrFun (Value.blocks6 m c t (flush0_6 t)) (ValueIdx.ix2 a l)))

theorem disjoint7 : ∀ t t' : Fin cfg0.N, (cfg0.win 7).flush t = true → (cfg0.win 7).flush t' = true → t ≠ t' →
    Disjoint ((cfg0.win 7).blk t).view.set ((cfg0.win 7).blk t').view.set := fun t t' h h' hne => by
  have hN : cfg0.N = 8 := N_0
  have e1 := (flush0_7 t).mp h
  have e2 := (flush0_7 t').mp h'
  exact absurd (Fin.ext (by omega)) hne
theorem place7 : ∀ t : Fin cfg0.N, win0_7.index t (0 : Fin 2) = 0 ∧ win0_7.index t (1 : Fin 2) = 0 := (by decide +kernel : ∀ t : Fin grid0.N, _)
theorem read7 (A : (⟨S1x1024, .f32⟩ : BufTy).Contents (Elt Ideal)) (t : Fin cfg0.N) (y : S1x1024.Idx) :
    ((cfg0.win 7).blk t).view.read (Elt Ideal) A y = A (((cfg0.win 7).blk t).view.emb y) := rfl
theorem cut7 (t : Fin cfg0.N) (A : Vec Ideal S1x1024 .f32) (y : S1x1024.Idx) : (cfg0.win 7).cut (grid0.coords t) A y = A y := rfl
theorem end7 (h : 7 < cfg0.N) (l : Fin 1024) : (dats m 0 c).arrAt 7 cfg0.N (ValueIdx.ix2 0 l) = (dats m 0 c).flushed 7 ⟨7, h⟩ (ValueIdx.ix2 0 l) := by
  obtain ⟨e0, e1⟩ := place7 ⟨7, h⟩
  have b0 : (((cfg0.win 7).blk ⟨7, h⟩).view.emb (ValueIdx.ix2 0 l) 0).val = win0_7.index ⟨7, h⟩ (0 : Fin 2) * 1 + 1 * 0 := rfl
  have b1 : (((cfg0.win 7).blk ⟨7, h⟩).view.emb (ValueIdx.ix2 0 l) 1).val = win0_7.index ⟨7, h⟩ (1 : Fin 2) * 1024 + 1 * l.val := rfl
  have hi := Prod.eq_pair (((cfg0.win 7).blk ⟨7, h⟩).view.emb (ValueIdx.ix2 0 l)) (0 : Fin 1) l (by rw [b0, e0]; rfl) (by rw [b1, e1]; omega)
  exact (congrArg _ hi).symm.trans ((read7 _ ⟨7, h⟩ _).symm.trans (congrFun ((dats m 0 c).read_blk_arrAt_eq_flushed 7 disjoint7 cfg0.N ⟨7, h⟩ h ((flush0_7 ⟨7, h⟩).mpr rfl)) (ValueIdx.ix2 0 l)))

theorem disjoint8 : ∀ t t' : Fin cfg0.N, (cfg0.win 8).flush t = true → (cfg0.win 8).flush t' = true → t ≠ t' →
    Disjoint ((cfg0.win 8).blk t).view.set ((cfg0.win 8).blk t').view.set := fun t t' h h' hne => by
  have hN : cfg0.N = 8 := N_0
  have e1 := (flush0_8 t).mp h
  have e2 := (flush0_8 t').mp h'
  exact absurd (Fin.ext (by omega)) hne
theorem place8 : ∀ t : Fin cfg0.N, win0_8.index t (0 : Fin 2) = 0 ∧ win0_8.index t (1 : Fin 2) = 0 := (by decide +kernel : ∀ t : Fin grid0.N, _)
theorem read8 (A : (⟨S1x128, .f32⟩ : BufTy).Contents (Elt Ideal)) (t : Fin cfg0.N) (y : S1x128.Idx) :
    ((cfg0.win 8).blk t).view.read (Elt Ideal) A y = A (((cfg0.win 8).blk t).view.emb y) := rfl
theorem cut8 (t : Fin cfg0.N) (A : Vec Ideal S1x128 .f32) (y : S1x128.Idx) : (cfg0.win 8).cut (grid0.coords t) A y = A y := rfl
theorem end8 (h : 7 < cfg0.N) (l : Fin 128) : (dats m 0 c).arrAt 8 cfg0.N (ValueIdx.ix2 0 l) = (dats m 0 c).flushed 8 ⟨7, h⟩ (ValueIdx.ix2 0 l) := by
  obtain ⟨e0, e1⟩ := place8 ⟨7, h⟩
  have b0 : (((cfg0.win 8).blk ⟨7, h⟩).view.emb (ValueIdx.ix2 0 l) 0).val = win0_8.index ⟨7, h⟩ (0 : Fin 2) * 1 + 1 * 0 := rfl
  have b1 : (((cfg0.win 8).blk ⟨7, h⟩).view.emb (ValueIdx.ix2 0 l) 1).val = win0_8.index ⟨7, h⟩ (1 : Fin 2) * 128 + 1 * l.val := rfl
  have hi := Prod.eq_pair (((cfg0.win 8).blk ⟨7, h⟩).view.emb (ValueIdx.ix2 0 l)) (0 : Fin 1) l (by rw [b0, e0]; rfl) (by rw [b1, e1]; omega)
  exact (congrArg _ hi).symm.trans ((read8 _ ⟨7, h⟩ _).symm.trans (congrFun ((dats m 0 c).read_blk_arrAt_eq_flushed 8 disjoint8 cfg0.N ⟨7, h⟩ h ((flush0_8 ⟨7, h⟩).mpr rfl)) (ValueIdx.ix2 0 l)))

/-- A row lies in one point's block. -/
theorem split (r : Fin 4352) : ∃ (t : Fin cfg0.N) (a : Fin 544), r.val = t.val * 544 + a.val := by
  have hN : cfg0.N = 8 := N_0
  exact ⟨⟨r.val / 544, by omega⟩, ⟨r.val % 544, by omega⟩, by show r.val = r.val / 544 * 544 + r.val % 544; omega⟩

/-- A point, as one of eight. -/
abbrev e (t : Fin cfg0.N) : Fin 8 := ⟨t.val, lt_of_lt_of_eq t.isLt (show cfg0.N = 8 from N_0)⟩
theorem co : ∀ t : Fin cfg0.N, (grid0.coords t 0).val = t.val := (by decide +kernel : ∀ t : Fin grid0.N, _)

/- What a point leaves. -/

theorem five_A (t : Fin cfg0.N) (h : t.val = 0) : (outsAt0 m c t.val t.isLt).1 = k0_pay4 (F := Ideal) (k0_pay11 (F := Ideal) (BitVec.ofNat 32 (e t).val) (pr (iblk m c 0 t) (iblk m c 1 t)) (iblk m c 2 t) (iblk m c 3 t) (iblk m c 4 t)) := by
  have hN : t.val < 8 := lt_of_lt_of_eq t.isLt (show cfg0.N = 8 from N_0)
  refine (congrArg (fun o => o.1) (outsAt0_A m c t (by omega) (by omega) (by omega) (by omega))).trans ?_
  dsimp only
  rw [out_A_5, co]

theorem five_B (t : Fin cfg0.N) (h : 1 ≤ t.val) : (outsAt0 m c t.val t.isLt).1 = k0_pay4 (F := Ideal) (k0_pay11 (F := Ideal) (BitVec.ofNat 32 (e t).val) (pr (iblk m c 0 t) (iblk m c 1 t)) (iblk m c 2 t) (iblk m c 3 t) (iblk m c 4 t)) := by
  have hN : t.val < 8 := lt_of_lt_of_eq t.isLt (show cfg0.N = 8 from N_0)
  refine (congrArg (fun o => o.1) (outsAt0_B m c t (by omega) (by omega) (by omega) (by omega))).trans ?_
  dsimp only
  rw [out_B_5, co]

theorem six_A (t : Fin cfg0.N) (h : t.val = 0) : (outsAt0 m c t.val t.isLt).2.1 = dr (iblk m c 0 t) (iblk m c 1 t) (iblk m c 2 t) (iblk m c 3 t) (iblk m c 4 t) (e t) := by
  have hN : t.val < 8 := lt_of_lt_of_eq t.isLt (show cfg0.N = 8 from N_0)
  refine (congrArg (fun o => o.2.1) (outsAt0_A m c t (by omega) (by omega) (by omega) (by omega))).trans ?_
  dsimp only
  rw [out_A_6, co]

theorem six_B (t : Fin cfg0.N) (h : 1 ≤ t.val) : (outsAt0 m c t.val t.isLt).2.1 = dr (iblk m c 0 t) (iblk m c 1 t) (iblk m c 2 t) (iblk m c 3 t) (iblk m c 4 t) (e t) := by
  have hN : t.val < 8 := lt_of_lt_of_eq t.isLt (show cfg0.N = 8 from N_0)
  refine (congrArg (fun o => o.2.1) (outsAt0_B m c t (by omega) (by omega) (by omega) (by omega))).trans ?_
  dsimp only
  rw [out_B_6, co]

theorem seven_A (t : Fin cfg0.N) (h : t.val = 0) : (outsAt0 m c t.val t.isLt).2.2.1 = k0_pay2 (F := Ideal) (k0_pay8 (F := Ideal) (pr (iblk m c 0 t) (iblk m c 1 t))) (dr (iblk m c 0 t) (iblk m c 1 t) (iblk m c 2 t) (iblk m c 3 t) (iblk m c 4 t) (e t)) := by
  have hN : t.val < 8 := lt_of_lt_of_eq t.isLt (show cfg0.N = 8 from N_0)
  refine (congrArg (fun o => o.2.2.1) (outsAt0_A m c t (by omega) (by omega) (by omega) (by omega))).trans ?_
  dsimp only
  rw [out_A_7, co]

theorem seven_B (t : Fin cfg0.N) (h : 1 ≤ t.val) : (outsAt0 m c t.val t.isLt).2.2.1 = k0_pay5 (F := Ideal) (k0_pay8 (F := Ideal) (pr (iblk m c 0 t) (iblk m c 1 t))) (dr (iblk m c 0 t) (iblk m c 1 t) (iblk m c 2 t) (iblk m c 3 t) (iblk m c 4 t) (e t)) (outsAt0 m c (t.val - 1) (Nat.lt_of_le_of_lt (Nat.sub_le _ _) t.isLt)).2.2.1 := by
  have hN : t.val < 8 := lt_of_lt_of_eq t.isLt (show cfg0.N = 8 from N_0)
  refine (congrArg (fun o => o.2.2.1) (outsAt0_B m c t (by omega) (by omega) (by omega) (by omega))).trans ?_
  dsimp only
  rw [out_B_7, co]

theorem eight_A (t : Fin cfg0.N) (h : t.val = 0) : (outsAt0 m c t.val t.isLt).2.2.2 = k0_pay3 (F := Ideal) (er (iblk m c 0 t) (iblk m c 1 t) (iblk m c 2 t) (iblk m c 3 t) (iblk m c 4 t) (e t)) := by
  have hN : t.val < 8 := lt_of_lt_of_eq t.isLt (show cfg0.N = 8 from N_0)
  refine (congrArg (fun o => o.2.2.2) (outsAt0_A m c t (by omega) (by omega) (by omega) (by omega))).trans ?_
  dsimp only
  rw [out_A_8, co]

theorem eight_B (t : Fin cfg0.N) (h : 1 ≤ t.val) : (outsAt0 m c t.val t.isLt).2.2.2 = k0_pay6 (F := Ideal) (er (iblk m c 0 t) (iblk m c 1 t) (iblk m c 2 t) (iblk m c 3 t) (iblk m c 4 t) (e t)) (outsAt0 m c (t.val - 1) (Nat.lt_of_le_of_lt (Nat.sub_le _ _) t.isLt)).2.2.2 := by
  have hN : t.val < 8 := lt_of_lt_of_eq t.isLt (show cfg0.N = 8 from N_0)
  refine (congrArg (fun o => o.2.2.2) (outsAt0_B m c t (by omega) (by omega) (by omega) (by omega))).trans ?_
  dsimp only
  rw [out_B_8, co]

section

variable (t : Fin cfg0.N) (a : Fin 544) (r : Fin 4352) (hr : r.val = t.val * 544 + a.val)

include hr

/-- A block's rows are the array's. -/
theorem ffn_row : ffn (iblk m c 0 t) (iblk m c 1 t) a = ffn (m ((c.tc : Thread nD τ).loc main_arg0)) (m ((c.tc : Thread nD τ).loc main_arg1)) r :=
  funext fun l => by
    unfold ffn Prod.nn
    exact Finset.sum_congr rfl fun k _ => congrArg₂ (fun a b : EReal => a * b) (blk0 m c t a k r k hr (by omega)) (blk1 m c t k l k l rfl (by omega))

theorem err_row : err (iblk m c 0 t) (iblk m c 1 t) (iblk m c 2 t) (iblk m c 3 t) (iblk m c 4 t) (t.val * 544) a = err (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 0 r := by
  funext l
  unfold err out
  rw [ffn_row m c t a r hr, blk2 m c t a l r l hr (by omega), blk3 m c t a l r l hr (by omega), blk4 m c t 0 l 0 l rfl (by omega),
    show 0 + r.val = t.val * 544 + a.val by omega]

theorem dy_row : dy (iblk m c 0 t) (iblk m c 1 t) (iblk m c 2 t) (iblk m c 3 t) (iblk m c 4 t) (t.val * 544) a = dy (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 0 r := by
  funext l
  unfold dy
  rw [err_row m c t a r hr]

theorem dffn_row : dffn (iblk m c 0 t) (iblk m c 1 t) (iblk m c 2 t) (iblk m c 3 t) (iblk m c 4 t) (t.val * 544) a = dffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 0 r := by
  funext l
  unfold dffn
  rw [ffn_row m c t a r hr, dy_row m c t a r hr]
  exact congrArg (fun g => Norm.back _ g l) (funext fun k => congrArg (fun b : EReal => _ * b) (blk4 m c t 0 k 0 k rfl (by omega)))

theorem gain_row : gain (iblk m c 0 t) (iblk m c 1 t) (iblk m c 2 t) (iblk m c 3 t) (iblk m c 4 t) (t.val * 544) a = gain (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 0 r := by
  funext l
  unfold gain
  rw [ffn_row m c t a r hr, dy_row m c t a r hr]

theorem sq_row : sq (iblk m c 0 t) (iblk m c 1 t) (iblk m c 2 t) (iblk m c 3 t) (iblk m c 4 t) (t.val * 544) a = sq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 0 r := by
  unfold sq
  rw [err_row m c t a r hr]

end

/-- The first two results at an index. -/
theorem dffn_at (r : Fin 4352) (l : Fin 1024) : (dats m 0 c).arrAt 5 cfg0.N (ValueIdx.ix2 r l) = dffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 0 r l := by
  obtain ⟨t, a, hr⟩ := split r
  have h5 : (outsAt0 m c t.val t.isLt).1 = k0_pay4 (F := Ideal) (k0_pay11 (F := Ideal) (BitVec.ofNat 32 (e t).val) (pr (iblk m c 0 t) (iblk m c 1 t)) (iblk m c 2 t) (iblk m c 3 t) (iblk m c 4 t)) := by
    rcases Nat.eq_zero_or_pos t.val with h | h
    · exact five_A m c t h
    · exact five_B m c t h
  rw [end5 m c t a r l hr, Value.flushed5 m c t, h5]
  exact (cut5 t _ _).trans ((pay4_apply _ _).trans ((pay11_apply _ _ _ _ _ (e t) a l).trans (congrFun (dffn_row m c t a r hr) l)))

theorem dy_at (r : Fin 4352) (l : Fin 1024) : (dats m 0 c).arrAt 6 cfg0.N (ValueIdx.ix2 r l) = dy (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 0 r l := by
  obtain ⟨t, a, hr⟩ := split r
  have h6 : (outsAt0 m c t.val t.isLt).2.1 = dr (iblk m c 0 t) (iblk m c 1 t) (iblk m c 2 t) (iblk m c 3 t) (iblk m c 4 t) (e t) := by
    rcases Nat.eq_zero_or_pos t.val with h | h
    · exact six_A m c t h
    · exact six_B m c t h
  rw [end6 m c t a r l hr, Value.flushed6 m c t, h6]
  exact (cut6 t _ _).trans ((pay10_apply _ _ _ _ _ (e t) a l).trans (congrFun (dy_row m c t a r hr) l))

/-- The gain's terms and the squared errors, row by row of all. -/
def gterm (j : Fin 1024) (p : ℕ) : EReal := if h : p < 4352 then gain (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 0 ⟨p, h⟩ j else 0
def sterm (p : ℕ) : EReal := if h : p < 4352 then sq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 0 ⟨p, h⟩ else 0

theorem lt_all (t : Fin cfg0.N) (a : Fin 544) : t.val * 544 + a.val < 4352 := by
  have hN : cfg0.N = 8 := N_0
  omega

theorem gmore (t : Fin cfg0.N) (j : Fin 1024) : (∑ a : Fin 544, gain (iblk m c 0 t) (iblk m c 1 t) (iblk m c 2 t) (iblk m c 3 t) (iblk m c 4 t) (t.val * 544) a j) = ∑ a : Fin 544, gterm m c j (t.val * 544 + a.val) := by
  refine Finset.sum_congr rfl fun a _ => ?_
  unfold gterm
  rw [dif_pos (lt_all t a), gain_row m c t a ⟨_, lt_all t a⟩ rfl]

theorem smore (t : Fin cfg0.N) : (∑ a : Fin 544, sq (iblk m c 0 t) (iblk m c 1 t) (iblk m c 2 t) (iblk m c 3 t) (iblk m c 4 t) (t.val * 544) a) = ∑ a : Fin 544, sterm m c (t.val * 544 + a.val) := by
  refine Finset.sum_congr rfl fun a _ => ?_
  unfold sterm
  rw [dif_pos (lt_all t a), sq_row m c t a ⟨_, lt_all t a⟩ rfl]

theorem start (f : ℕ → EReal) : ∑ d : Fin 544, f (0 * 544 + d.val) = ∑ i ∈ Finset.range ((0 + 1) * 544), f i := by
  have h := Prod.sum_more f (0 * 544) 544
  rw [show (∑ g ∈ Finset.range (0 * 544), f g) = 0 by rw [Nat.zero_mul]; rfl, zero_add] at h
  exact h

/-- The gain's gradient and the loss after each point. -/
theorem seven_at (j : Fin 1024) (n : ℕ) : ∀ hn : n < cfg0.N, (outsAt0 m c n hn).2.2.1 (ValueIdx.ix2 0 j) = ∑ p ∈ Finset.range ((n + 1) * 544), gterm m c j p := by
  induction n with
  | zero =>
    intro hn
    refine (congrFun (seven_A m c ⟨0, hn⟩ rfl) _).trans ((pay2_apply _ _ _ _ _ (e ⟨0, hn⟩) 0 j).trans ((gmore m c ⟨0, hn⟩ j).trans ?_))
    exact start (gterm m c j)
  | succ n ih =>
    intro hn
    refine (congrFun (seven_B m c ⟨n + 1, hn⟩ (Nat.le_add_left 1 n)) _).trans ((pay5_apply _ _ _ 0 j).trans ?_)
    refine (congrArg₂ (fun a b : EReal => a + b) (ih (Nat.lt_of_succ_lt hn)) ((pay2_apply _ _ _ _ _ (e ⟨n + 1, hn⟩) 0 j).trans (gmore m c ⟨n + 1, hn⟩ j))).trans ?_
    rw [show (n + 1 + 1) * 544 = (n + 1) * 544 + 544 by omega]
    exact Prod.sum_more (gterm m c j) _ 544

def point (t : ℕ) : EReal := Ideal.div (hf * ∑ d : Fin 544, sterm m c (t * 544 + d.val)) Norm.len

theorem eight_at (l : Fin 128) (n : ℕ) : ∀ hn : n < cfg0.N, (outsAt0 m c n hn).2.2.2 (ValueIdx.ix2 0 l) = ∑ t ∈ Finset.range (n + 1), point m c t := by
  have h3 : ∀ t : Fin cfg0.N, k0_pay3 (F := Ideal) (er (iblk m c 0 t) (iblk m c 1 t) (iblk m c 2 t) (iblk m c 3 t) (iblk m c 4 t) (e t)) (ValueIdx.ix2 0 l) = point m c t.val := fun t =>
    (pay3_apply _ _ _ _ _ (e t) 0 l).trans (congrArg (fun x => Ideal.div (hf * x) Norm.len) (smore m c t))
  induction n with
  | zero =>
    intro hn
    refine (congrFun (eight_A m c ⟨0, hn⟩ rfl) _).trans ((h3 ⟨0, hn⟩).trans ?_)
    exact (Finset.sum_range_one _).symm
  | succ n ih =>
    intro hn
    refine (congrFun (eight_B m c ⟨n + 1, hn⟩ (Nat.le_add_left 1 n)) _).trans ((pay6_apply _ _ 0 l).trans ?_)
    exact (congrArg₂ (fun a b : EReal => a + b) (ih (Nat.lt_of_succ_lt hn)) (h3 ⟨n + 1, hn⟩)).trans (Finset.sum_range_succ _ _).symm

theorem seven : 7 < cfg0.N := by
  have hN : cfg0.N = 8 := N_0
  omega

theorem gain_at (j : Fin 1024) : (dats m 0 c).arrAt 7 cfg0.N (ValueIdx.ix2 0 j) = ∑ r : Fin 4352, gain (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 0 r j := by
  rw [end7 m c seven j, Value.flushed7 m c ⟨7, seven⟩]
  refine (cut7 ⟨7, seven⟩ _ _).trans ((seven_at m c j 7 seven).trans ((Finset.sum_range _).trans (Finset.sum_congr rfl fun r _ => ?_)))
  unfold gterm
  exact dif_pos r.isLt

theorem loss_at (l : Fin 128) : (dats m 0 c).arrAt 8 cfg0.N (ValueIdx.ix2 0 l) = ∑ t ∈ Finset.range 8, point m c t := by
  rw [end8 m c seven l, Value.flushed8 m c ⟨7, seven⟩]
  exact (cut8 ⟨7, seven⟩ _ _).trans (eight_at m c l 7 seven)

end Cert.LossFwd

end
-- ==== Proof.LossRef.lean ====
/- The loss and its gradient: the reference's values, row by row. -/
module

public import proofs.«01_k».proof.Proof.LossPay
public import proofs.«01_k».proof.Proof.Nat2
public import proofs.«01_k».proof.Proof.Gen.LossRefIdeal.Read
public import Idealize.ShloMosaic.Lib.KernelVsHost

@[expose] public section

set_option maxRecDepth 16384

noncomputable section

namespace Cert.LossFwd

open Idealize.ShloMosaic Idealize.ShloMosaic.TcCoe
open scoped BigOperators

theorem hf_eq : hf = ((1 / 2 : ℝ) : EReal) := by
  simp [hf, Ideal.ofBits, Ideal.ieee]
  rw [← EReal.coe_mul]
  congr 1
  norm_num
theorem inv_eq : inv = ((1 / 1024 : ℝ) : EReal) := by
  simp [inv, Ideal.ofBits, Ideal.ieee]
  rw [← EReal.coe_mul]
  congr 1
  norm_num
theorem two_eq : Ideal.ofBits .f32 0x40000000#32 = ((2 : ℝ) : EReal) := by
  simp [Ideal.ofBits, Ideal.ieee]
  rw [← EReal.coe_mul]
  congr 1
  norm_num
theorem one_eq : Ideal.ofBits .f32 0x3F800000#32 = ((1 : ℝ) : EReal) := by
  simp [Ideal.ofBits, Ideal.ieee]
  rw [← EReal.coe_mul, ← EReal.coe_one]
  congr 1
  norm_num
theorem len_val : Norm.len = ((1024 : ℝ) : EReal) := by
  simp [Norm.len, Ideal.ofBits, Ideal.ieee]
  rw [← EReal.coe_mul]
  congr 1
  norm_num
theorem div_len (x : EReal) : Ideal.div x Norm.len = x * ((1 / 1024 : ℝ) : EReal) := by
  unfold Ideal.div
  rw [len_val, if_neg (by exact_mod_cast (by norm_num : (1024 : ℝ) ≠ 0)), ← EReal.coe_inv, one_div]

/-- The reference scales twice the error by a half over the length. -/
theorem scale (x : EReal) : Ideal.div (hf * Ideal.ofBits .f32 0x3F800000#32) Norm.len * (Ideal.ofBits .f32 0x40000000#32 * x) = x * inv := by
  rw [div_len, hf_eq, one_eq, two_eq, inv_eq, ← mul_assoc, ← EReal.coe_mul, ← EReal.coe_mul, ← EReal.coe_mul, mul_comm]
  congr 2
  norm_num

theorem blocks_sum (f : ℕ → EReal) (n : ℕ) : ∑ t ∈ Finset.range n, ∑ d : Fin 544, f (t * 544 + d.val) = ∑ p ∈ Finset.range (n * 544), f p := by
  induction n with
  | zero => rw [Nat.zero_mul]; rfl
  | succ n ih =>
    rw [Finset.sum_range_succ, ih, show (n + 1) * 544 = n * 544 + 544 by omega]
    exact Prod.sum_more f _ 544

theorem tokens (f : ℕ → EReal) (h : ∀ p, p < 16 ∨ 4112 ≤ p → f p = 0) : ∑ p ∈ Finset.range (8 * 544), f p = ∑ i : Fin 4096, f (16 + i.val) := by
  have h1 := Prod.sum_more f 16 4096
  have h2 := Prod.sum_more f (16 + 4096) 240
  rw [← h1, Finset.sum_eq_zero (s := Finset.range 16) fun p hp => h p (.inl (Finset.mem_range.mp hp)),
    Finset.sum_eq_zero (s := Finset.univ) fun (d : Fin 240) _ => h (16 + 4096 + d.val) (.inr (by omega)), add_zero, zero_add] at h2
  exact h2.symm

/-- The loss summed point by point is the loss summed token by token. -/
theorem loss_eq (f : ℕ → EReal) (h : ∀ p, p < 16 ∨ 4112 ≤ p → f p = 0) :
    ∑ t ∈ Finset.range 8, Ideal.div (hf * ∑ d : Fin 544, f (t * 544 + d.val)) Norm.len = hf * ∑ i : Fin 4096, Ideal.div (f (16 + i.val)) Norm.len := by
  have h0 : (0 : ℝ) ≤ 1 / 1024 := by norm_num
  have e1 : ∀ t ∈ Finset.range 8, Ideal.div (hf * ∑ d : Fin 544, f (t * 544 + d.val)) Norm.len = (∑ d : Fin 544, f (t * 544 + d.val)) * ((1 / 2 * (1 / 1024) : ℝ) : EReal) := fun t _ => by
    rw [div_len, hf_eq, EReal.coe_mul]
    ac_rfl
  have e2 : ∑ i : Fin 4096, Ideal.div (f (16 + i.val)) Norm.len = (∑ i : Fin 4096, f (16 + i.val)) * ((1 / 1024 : ℝ) : EReal) := by
    rw [Norm.mul_sum_real _ h0]
    exact Finset.sum_congr rfl fun i _ => div_len _
  rw [Finset.sum_congr rfl e1, ← Norm.mul_sum_real _ (by norm_num), blocks_sum, tokens f h, e2, hf_eq, EReal.coe_mul]
  ac_rfl

open Cert.LossRefIdeal Cert.LossRefIdeal.Read

variable (x0 : Vec Ideal S4352x2816 .bf16) (x1 : Vec Ideal S2816x1024 .bf16) (x2 : Vec Ideal S4352x1024 .f32) (x3 : Vec Ideal S4352x1024 .f32) (x4 : Vec Ideal S1x1024 .f32)

theorem ref_ffn (p : Fin 4352) (j : Fin 1024) : val_main_v2 (F := Ideal) x0 x1 (ValueIdx.ix2 p j) = ffn x0 x1 p j := by
  unfold ffn Prod.nn
  refine (val_main_v2_apply x0 x1 _).trans (Finset.sum_congr rfl fun k _ => ?_)
  rw [val_main_v1_apply, val_main_v0_apply]
  exact congrArg₂ (fun a b : EReal => a * b) (congrArg x0 (Prod.eq_pair _ _ _ rfl rfl)) (congrArg x1 (Prod.eq_pair _ _ _ rfl rfl))

theorem ref9 (p : Fin 4352) (i : S4352x1.Idx) (hi : (i 0).val = p.val) : val_main_v9 (F := Ideal) x0 x1 i = Norm.me (ffn x0 x1 p) := by
  have e : val_main_v4 (F := Ideal) x0 x1 (idx_main_v5 i) = ∑ k : Fin 1024, ffn x0 x1 p k * ffn x0 x1 p k := by
    rw [val_main_v4_apply]
    refine (congrArg (· + _) Norm.zero_eq).trans ((zero_add _).trans (Finset.sum_congr rfl fun k _ => ?_))
    have e := Prod.eq_pair (idx_main_v4 (idx_main_v5 i) k) p k hi rfl
    rw [val_main_v3_apply, e, ref_ffn]; rfl
  rw [val_main_v9_apply, val_main_v7_apply, val_main_v5_apply, e]; rfl

theorem ref10 (p : Fin 4352) (i : S4352x1.Idx) (hi : (i 0).val = p.val) : val_main_v10 (F := Ideal) x0 x1 i = Norm.rs (ffn x0 x1 p) := by
  rw [val_main_v10_apply, ref9 x0 x1 p i hi]; rfl

theorem ref13 (p : Fin 4352) (i : S4352x1.Idx) (hi : (i 0).val = p.val) :
    val_main_v13 (F := Ideal) x0 x1 i = Norm.half * Ideal.div (Norm.rs (ffn x0 x1 p)) (Norm.me (ffn x0 x1 p)) := by
  rw [val_main_v13_apply, val_main_v11_apply, ref10 x0 x1 p i hi, ref9 x0 x1 p i hi]; rfl

theorem ref15 (p : Fin 4352) (j : Fin 1024) : val_main_v15 (F := Ideal) x0 x1 (ValueIdx.ix2 p j) = Norm.hat (ffn x0 x1 p) j := by
  rw [val_main_v15_apply, val_main_v14_apply, ref10 x0 x1 p _ rfl, ref_ffn]; rfl

theorem ref18 (p : Fin 4352) (j : Fin 1024) : val_main_v18 (F := Ideal) x0 x1 x2 x4 (ValueIdx.ix2 p j) = out x0 x1 x2 x4 p j := by
  have e := Prod.eq_pair (idx_main_v16 (ValueIdx.ix2 p j)) 0 j rfl rfl
  rw [val_main_v18_apply, val_main_v17_apply, val_main_v16_apply, e, ref15]; rfl

/-- The error of a token's row. -/
theorem ref21 (i : S4096x1024.Idx) (p : Fin 4352) (j : Fin 1024) (hp : p.val = 16 + (i 0).val) (hj : j.val = (i 1).val) :
    val_main_v21 (F := Ideal) x0 x1 x2 x3 x4 i = err x0 x1 x2 x3 x4 0 p j := by
  have h0 : (i 0).val < 4096 := (i 0).isLt
  have e1 := Prod.eq_pair (idx_main_v19 i) p j hp.symm hj.symm
  have e2 := Prod.eq_pair (idx_main_v20 i) p j hp.symm hj.symm
  rw [val_main_v21_apply, val_main_v19_apply, val_main_v20_apply, e1, e2, ref18]
  unfold err
  rw [if_pos ⟨by omega, by omega⟩]; rfl

/-- The error's gradient, nought off the tokens' rows. -/
theorem ref36 (p : Fin 4352) (j : Fin 1024) : val_main_v36 (F := Ideal) x0 x1 x2 x3 x4 (ValueIdx.ix2 p j) = dy x0 x1 x2 x3 x4 0 p j := by
  unfold val_main_v36
  by_cases h : 16 ≤ p.val ∧ p.val < 4112
  · refine (pad_apply_of_inside _ _ _ _ _ _ _ _ (ValueIdx.ix2 ⟨p.val - 16, by omega⟩ j) fun a => ?_).trans ?_
    · match a with
      | ⟨0, _⟩ => show p.val = 16 + (p.val - 16) * (0 + 1); omega
      | ⟨1, _⟩ => show j.val = 0 + j.val * (0 + 1); omega
    · rw [val_main_v35_apply, val_main_v24_apply, ref21 x0 x1 x2 x3 x4 _ p j (by show p.val = 16 + (p.val - 16); omega) rfl, val_main_v34_apply, val_main_v33_apply,
        val_main_v31_apply, val_main_v30_apply, val_main_v32_apply, val_main_v23_apply]
      exact scale _
  · refine (pad_apply_of_not_inside _ _ _ _ _ _ _ _ (0 : Fin 2) fun hn => ?_).trans ?_
    · have h1 : 16 ≤ p.val := hn.1
      have h2 : (p.val - 16) / (0 + 1) < 4096 := hn.2.2
      omega
    · unfold dy err
      rw [if_neg fun hn => h ⟨by omega, by omega⟩, zero_mul]
      exact Norm.zero_eq

/-- The gradient of the normed row. -/
abbrev tr (p : Fin 4352) : Fin 1024 → EReal := fun k => dy x0 x1 x2 x3 x4 0 p k * x4 (ValueIdx.ix2 0 k)

theorem ref41 (p : Fin 4352) (j : Fin 1024) : val_main_v41 (F := Ideal) x0 x1 x2 x3 x4 (ValueIdx.ix2 p j) = tr x0 x1 x2 x3 x4 p j := by
  have e := Prod.eq_pair (idx_main_v40 (ValueIdx.ix2 p j)) 0 j rfl rfl
  rw [val_main_v41_apply, val_main_v40_apply, e, ref36]; rfl

theorem ref49 (p : Fin 4352) (i : S4352x1.Idx) (hi : (i 0).val = p.val) :
    val_main_v49 (F := Ideal) x0 x1 x2 x3 x4 i = Norm.thru (ffn x0 x1 p) (tr x0 x1 x2 x3 x4 p) := by
  have e : val_main_v44 (F := Ideal) x0 x1 x2 x3 x4 i = ∑ k : Fin 1024, ffn x0 x1 p k * tr x0 x1 x2 x3 x4 p k := by
    rw [val_main_v44_apply, val_main_v43_apply]
    refine (congrArg (· + _) Norm.zero_eq).trans ((zero_add _).trans (Finset.sum_congr rfl fun k _ => ?_))
    have h1 : (i 1).val < 1 := (i 1).isLt
    have e := Prod.eq_pair (idx_main_v43 (idx_main_v44 i) k) p k (by show (i 0).val * 1 + (i 1).val = _; omega) rfl
    rw [val_main_v42_apply, e, ref41, ref_ffn]; rfl
  rw [val_main_v49_apply, val_main_v47_apply, e, ref13 x0 x1 p i hi]; rfl

theorem ref51 (p : Fin 4352) (j : Fin 1024) :
    val_main_v51 (F := Ideal) x0 x1 x2 x3 x4 (ValueIdx.ix2 p j) = Norm.thru (ffn x0 x1 p) (tr x0 x1 x2 x3 x4 p) := by
  rw [val_main_v51_apply, val_main_v50_apply]
  refine (congrArg (· + _) Norm.zero_eq).trans ((zero_add _).trans ((Fin.sum_univ_one _).trans ?_))
  exact ref49 x0 x1 x2 x3 x4 p _ rfl

/-- The gradient at the product. -/
theorem ref56 (p : Fin 4352) (j : Fin 1024) : val_main_v56 (F := Ideal) x0 x1 x2 x3 x4 (ValueIdx.ix2 p j) = dffn x0 x1 x2 x3 x4 0 p j := by
  refine (?_ : _ = Norm.deriv (ffn x0 x1 p) (tr x0 x1 x2 x3 x4 p) j).trans (Norm.back_eq _ _ j).symm
  rw [val_main_v56_apply, val_main_v55_apply, val_main_v53_apply, val_main_v54_apply, val_main_v52_apply, val_main_v46_apply, val_main_v45_apply,
    ref51, ref41, ref_ffn, ref10 x0 x1 p _ rfl]
  rfl

/-- The gain's gradient. -/
theorem ref39 (j : Fin 1024) : val_main_v39 (F := Ideal) x0 x1 x2 x3 x4 (ValueIdx.ix2 0 j) = ∑ p : Fin 4352, gain x0 x1 x2 x3 x4 0 p j := by
  rw [val_main_v39_apply, val_main_v38_apply]
  refine (congrArg (· + _) Norm.zero_eq).trans ((zero_add _).trans (Finset.sum_congr rfl fun p _ => ?_))
  have e := Prod.eq_pair (idx_main_v38 (idx_main_v39 (ValueIdx.ix2 0 j)) p) p j rfl (by show 0 * 1024 + j.val = j.val; omega)
  rw [e, val_main_v37_apply, ref15, ref36]
  exact mul_comm _ _

/-- The loss, over the tokens. -/
theorem ref57 (i : S1x128.Idx) (f : ℕ → EReal) (hsq : ∀ p : Fin 4352, f p.val = sq x0 x1 x2 x3 x4 0 p) :
    val_main_v57 (F := Ideal) x0 x1 x2 x3 x4 i = hf * ∑ a : Fin 4096, Ideal.div (f (16 + a.val)) Norm.len := by
  rw [val_main_v57_apply, val_main_v29_apply, val_main_v28_apply, sum_idx1]
  refine congrArg (fun x : EReal => hf * x) ((congrArg (· + _) Norm.zero_eq).trans ((zero_add _).trans (Finset.sum_congr rfl fun a _ => ?_)))
  have e : val_main_v25 (F := Ideal) x0 x1 x2 x3 x4 (ix1 a) = f (16 + a.val) := by
    rw [val_main_v25_apply]
    refine (congrArg (· + _) Norm.zero_eq).trans ((zero_add _).trans ((Finset.sum_congr rfl fun k _ => ?_).trans (hsq ⟨16 + a.val, by omega⟩).symm))
    rw [val_main_v22_apply, ref21 x0 x1 x2 x3 x4 _ ⟨16 + a.val, by omega⟩ k rfl rfl]; rfl
  rw [val_main_v27_apply, e]; rfl

end Cert.LossFwd

end
-- ==== Proof.LossFwd.lean ====
/- The loss and its gradient: the kernel's results are the reference's. -/
module

public import proofs.«01_k».proof.Proof.LossOut
public import proofs.«01_k».proof.Proof.LossRef

@[expose] public section

set_option maxRecDepth 16384

noncomputable section

namespace Cert.LossFwd

open Idealize.ShloMosaic Idealize.ShloMosaic.TcCoe
open scoped BigOperators
open Cert.LossIdeal Gen

variable (m : (ℓ : Loc nD τ sig) → Buf (Elt Ideal) ℓ) (c : Dev nD)

/-- Only the tokens' rows count. -/
theorem off (p : ℕ) (h : p < 16 ∨ 4112 ≤ p) : sterm m c p = 0 := by
  unfold sterm
  split
  · unfold sq err
    refine Finset.sum_eq_zero fun k _ => ?_
    rw [if_neg (by show ¬(16 ≤ 0 + p ∧ 0 + p < 4112); omega), zero_mul]
  · rfl

theorem on (p : Fin 4352) : sterm m c p.val = sq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 0 p := by
  unfold sterm
  exact dif_pos p.isLt

/-- The results are equal. -/
theorem equal1 {y0 y1 y2 y3 y4 : _}
    (a0 : y0 = m ((c.tc : Thread nD τ).loc main_arg0))
    (a1 : y1 = m ((c.tc : Thread nD τ).loc main_arg1))
    (a2 : y2 = m ((c.tc : Thread nD τ).loc main_arg2))
    (a3 : y3 = m ((c.tc : Thread nD τ).loc main_arg3))
    (a4 : y4 = m ((c.tc : Thread nD τ).loc main_arg4)) :
    Cert.LossRefIdeal.Read.val_main_v56 (F := Ideal) y0 y1 y2 y3 y4 = (dats m 0 c).arrAt 5 cfg0.N := by
  rw [a0, a1, a2, a3, a4]
  funext i
  rw [Prod.eta i]
  exact (ref56 _ _ _ _ _ _ _).trans (dffn_at m c _ _).symm

theorem equal2 {y0 y1 y2 y3 y4 : _}
    (a0 : y0 = m ((c.tc : Thread nD τ).loc main_arg0))
    (a1 : y1 = m ((c.tc : Thread nD τ).loc main_arg1))
    (a2 : y2 = m ((c.tc : Thread nD τ).loc main_arg2))
    (a3 : y3 = m ((c.tc : Thread nD τ).loc main_arg3))
    (a4 : y4 = m ((c.tc : Thread nD τ).loc main_arg4)) :
    Cert.LossRefIdeal.Read.val_main_v36 (F := Ideal) y0 y1 y2 y3 y4 = (dats m 0 c).arrAt 6 cfg0.N := by
  rw [a0, a1, a2, a3, a4]
  funext i
  rw [Prod.eta i]
  exact (ref36 _ _ _ _ _ _ _).trans (dy_at m c _ _).symm

theorem equal3 {y0 y1 y2 y3 y4 : _}
    (a0 : y0 = m ((c.tc : Thread nD τ).loc main_arg0))
    (a1 : y1 = m ((c.tc : Thread nD τ).loc main_arg1))
    (a2 : y2 = m ((c.tc : Thread nD τ).loc main_arg2))
    (a3 : y3 = m ((c.tc : Thread nD τ).loc main_arg3))
    (a4 : y4 = m ((c.tc : Thread nD τ).loc main_arg4)) :
    Cert.LossRefIdeal.Read.val_main_v39 (F := Ideal) y0 y1 y2 y3 y4 = (dats m 0 c).arrAt 7 cfg0.N := by
  rw [a0, a1, a2, a3, a4]
  funext i
  rw [Prod.eta i]
  have hi : (⟨(i 0).val, (i 0).isLt⟩ : Fin 1) = 0 := Subsingleton.elim _ _
  rw [hi]
  exact (ref39 _ _ _ _ _ _).trans (gain_at m c _).symm

theorem equal4 {y0 y1 y2 y3 y4 : _}
    (a0 : y0 = m ((c.tc : Thread nD τ).loc main_arg0))
    (a1 : y1 = m ((c.tc : Thread nD τ).loc main_arg1))
    (a2 : y2 = m ((c.tc : Thread nD τ).loc main_arg2))
    (a3 : y3 = m ((c.tc : Thread nD τ).loc main_arg3))
    (a4 : y4 = m ((c.tc : Thread nD τ).loc main_arg4)) :
    Cert.LossRefIdeal.Read.val_main_v57 (F := Ideal) y0 y1 y2 y3 y4 = (dats m 0 c).arrAt 8 cfg0.N := by
  rw [a0, a1, a2, a3, a4]
  funext i
  rw [Prod.eta i]
  have hi : (⟨(i 0).val, (i 0).isLt⟩ : Fin 1) = 0 := Subsingleton.elim _ _
  rw [hi]
  exact (ref57 _ _ _ _ _ _ (sterm m c) (on m c)).trans ((loss_eq (sterm m c) (off m c)).symm.trans (loss_at m c _).symm)

end Cert.LossFwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import proofs.«01_k».proof.Proof.Gen.GradDown.Frame
public import proofs.«01_k».proof.Proof.Gen.GradDownIdeal.Frame
public import proofs.«01_k».proof.Proof.Gen.GradDownIdeal.Value
public import proofs.«01_k».proof.Proof.Gen.GradDownRefIdeal.Run
public import proofs.«01_k».proof.Proof.Gen.GradDownRefIdeal.Read
public import proofs.«01_k».proof.Proof.DownGrad
public import proofs.«01_k».proof.Proof.Gen.GradUp.Frame
public import proofs.«01_k».proof.Proof.Gen.GradUpIdeal.Frame
public import proofs.«01_k».proof.Proof.Gen.GradUpIdeal.Value
public import proofs.«01_k».proof.Proof.Gen.GradUpRefIdeal.Run
public import proofs.«01_k».proof.Proof.Gen.GradUpRefIdeal.Read
public import proofs.«01_k».proof.Proof.UpGrad
public import proofs.«01_k».proof.Proof.Gen.GradOut.Frame
public import proofs.«01_k».proof.Proof.Gen.GradOutIdeal.Frame
public import proofs.«01_k».proof.Proof.Gen.GradOutIdeal.Value
public import proofs.«01_k».proof.Proof.Gen.GradOutRefIdeal.Run
public import proofs.«01_k».proof.Proof.Gen.GradOutRefIdeal.Read
public import proofs.«01_k».proof.Proof.OutGrad
public import proofs.«01_k».proof.Proof.Gen.DownBwd.Frame
public import proofs.«01_k».proof.Proof.Gen.DownBwdIdeal.Frame
public import proofs.«01_k».proof.Proof.Gen.DownBwdIdeal.Value
public import proofs.«01_k».proof.Proof.Gen.DownBwdRefIdeal.Run
public import proofs.«01_k».proof.Proof.Gen.DownBwdRefIdeal.Read
public import proofs.«01_k».proof.Proof.DownBack
public import proofs.«01_k».proof.Proof.Gen.ProjBwd.Frame
public import proofs.«01_k».proof.Proof.Gen.ProjBwdIdeal.Frame
public import proofs.«01_k».proof.Proof.Gen.ProjBwdIdeal.Value
public import proofs.«01_k».proof.Proof.Gen.ProjBwdRefIdeal.Run
public import proofs.«01_k».proof.Proof.Gen.ProjBwdRefIdeal.Read
public import proofs.«01_k».proof.Proof.ProjBack
public import proofs.«01_k».proof.Proof.Gen.GradIn.Frame
public import proofs.«01_k».proof.Proof.Gen.GradInIdeal.Frame
public import proofs.«01_k».proof.Proof.Gen.GradInIdeal.Value
public import proofs.«01_k».proof.Proof.Gen.GradInRefIdeal.Run
public import proofs.«01_k».proof.Proof.Gen.GradInRefIdeal.Read
public import proofs.«01_k».proof.Proof.InGrad
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.InFwd
public import proofs.«01_k».proof.Proof.Gen.UpProj.Frame
public import proofs.«01_k».proof.Proof.Gen.UpProjIdeal.Frame
public import proofs.«01_k».proof.Proof.Gen.UpProjIdeal.Value
public import proofs.«01_k».proof.Proof.Gen.UpProjRefIdeal.Run
public import proofs.«01_k».proof.Proof.Gen.UpProjRefIdeal.Read
public import proofs.«01_k».proof.Proof.UpFwd
public import proofs.«01_k».proof.Proof.Gen.UpBwd.Frame
public import proofs.«01_k».proof.Proof.Gen.UpBwdIdeal.Frame
public import proofs.«01_k».proof.Proof.Gen.UpBwdIdeal.Value
public import proofs.«01_k».proof.Proof.Gen.UpBwdRefIdeal.Run
public import proofs.«01_k».proof.Proof.Gen.UpBwdRefIdeal.Read
public import proofs.«01_k».proof.Proof.UpBack
public import proofs.«01_k».proof.Proof.Gen.InBwd.Frame
public import proofs.«01_k».proof.Proof.Gen.InBwdIdeal.Frame
public import proofs.«01_k».proof.Proof.Gen.InBwdIdeal.Value
public import proofs.«01_k».proof.Proof.Gen.InBwdRefIdeal.Run
public import proofs.«01_k».proof.Proof.Gen.InBwdRefIdeal.Read
public import proofs.«01_k».proof.Proof.InBack
public import proofs.«01_k».proof.Proof.Gen.Branch.Frame
public import proofs.«01_k».proof.Proof.Gen.BranchIdeal.Frame
public import proofs.«01_k».proof.Proof.Gen.BranchIdeal.Value
public import proofs.«01_k».proof.Proof.Gen.BranchRefIdeal.Run
public import proofs.«01_k».proof.Proof.Gen.BranchRefIdeal.Read
public import proofs.«01_k».proof.Proof.Branch
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.OutFwd
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.LossFwd
public import Idealize.ShloMosaic.Adequacy
public import Idealize.ShloMosaic.Init

@[expose] public section

noncomputable section

namespace Cert.Proof

open Idealize.ShloMosaic Idealize.SL.Sem Cert.Kernel

/-- The kernel runs, leaves its arguments as they were and every counter at zero. -/
theorem frame_kernel : Cert.quiescent_Kernel := fun m ρ _ => Cert.Kernel.Gen.frame m ρ

/-- The idealised kernel runs, leaves its arguments as they were and every counter at zero. -/
theorem frame_ideal : Cert.quiescent_KernelIdeal := fun m ρ _ => Cert.KernelIdeal.Gen.frame m ρ

/-- The reference is a host program without semaphores: its run, read at the arguments. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Kernel and reference end with the same gradients of the queries, keys and values. -/
theorem algebraic : Cert.algebraic_KernelIdeal_ReferenceIdeal_pre_finite (hPre_finite := Cert.Att.preFacts) := by
  intro m g m' g' hp ha
  haveI := Cert.Att.preFacts
  refine ⟨fun c => Cert.KernelIdeal.Value.G7 m c, fun c => Cert.KernelIdeal.Value.G8 m c, fun c => Cert.KernelIdeal.Value.G9 m c,
    Cert.KernelIdeal.Value.run m g, (θ_run Cert.ReferenceIdeal.defs _ _).mono (fun r h c => ?_) (Cert.ReferenceIdeal.Value.run (F := Ideal) m' g')⟩
  obtain ⟨hq, hk, hv, k0, k1⟩ := h c
  exact ⟨hq.trans (Cert.Att.equal_q m m' c (hp c) (ha c).1 (ha c).2), hk.trans (Cert.Att.equal_k m m' c (hp c) (ha c).1 (ha c).2),
    hv.trans (Cert.Att.equal_v m m' c (hp c) (ha c).1 (ha c).2), k0, k1⟩

/-- The frame of the reference of the gradient of the down projection's weights. -/
theorem gradDown_reference : Cert.quiescent_GradDownRefIdeal := fun m ρ _ =>
  (θ_run Cert.GradDownRefIdeal.defs _ _).mono (fun r h => ⟨fun c => (h c).2,
      Idealize.ShloMosaic.sem_eq_zero_of_no_sems (by decide) r.2⟩)
    (Cert.GradDownRefIdeal.Value.run (F := Ideal) m ρ)

/-- Kernel and reference agree on the gradient of the down projection's weights. -/
theorem gradDown_equal : Cert.algebraic_GradDownIdeal_GradDownRefIdeal := by
  intro m g m' g' _ ha
  refine ⟨fun c => (Cert.GradDownIdeal.Gen.dats m 0 c).arrAt 2 Cert.GradDownIdeal.cfg0.N, Cert.GradDownIdeal.Value.run_blocks m g,
    (θ_run Cert.GradDownRefIdeal.defs _ _).mono (fun r h c => ?_) (Cert.GradDownRefIdeal.Value.run (F := Ideal) m' g')⟩
  obtain ⟨hv, k0, k1⟩ := h c
  exact ⟨hv.trans ((Cert.GradDownRefIdeal.Read.val_main_v5_eq _ _).trans (Cert.DownGrad.equal m c (ha c).1 (ha c).2)), k0, k1⟩

/-- The frame of the reference of the gradient of the up projection's weights. -/
theorem gradUp_reference : Cert.quiescent_GradUpRefIdeal := fun m ρ _ =>
  (θ_run Cert.GradUpRefIdeal.defs _ _).mono (fun r h => ⟨fun c => (h c).2,
      Idealize.ShloMosaic.sem_eq_zero_of_no_sems (by decide) r.2⟩)
    (Cert.GradUpRefIdeal.Value.run (F := Ideal) m ρ)

/-- Kernel and reference agree on the gradient of the up projection's weights. -/
theorem gradUp_equal : Cert.algebraic_GradUpIdeal_GradUpRefIdeal := by
  intro m g m' g' _ ha
  refine ⟨fun c => (Cert.GradUpIdeal.Gen.dats m 0 c).arrAt 2 Cert.GradUpIdeal.cfg0.N, Cert.GradUpIdeal.Value.run_blocks m g,
    (θ_run Cert.GradUpRefIdeal.defs _ _).mono (fun r h c => ?_) (Cert.GradUpRefIdeal.Value.run (F := Ideal) m' g')⟩
  obtain ⟨hv, k0, k1⟩ := h c
  exact ⟨hv.trans ((Cert.GradUpRefIdeal.Read.val_main_v5_eq _ _).trans (Cert.UpGrad.equal m c (ha c).1 (ha c).2)), k0, k1⟩

/-- The frame of the reference of the gradient of a square projection's weights. -/
theorem gradOut_reference : Cert.quiescent_GradOutRefIdeal := fun m ρ _ =>
  (θ_run Cert.GradOutRefIdeal.defs _ _).mono (fun r h => ⟨fun c => (h c).2,
      Idealize.ShloMosaic.sem_eq_zero_of_no_sems (by decide) r.2⟩)
    (Cert.GradOutRefIdeal.Value.run (F := Ideal) m ρ)

/-- Kernel and reference agree on the gradient of a square projection's weights. -/
theorem gradOut_equal : Cert.algebraic_GradOutIdeal_GradOutRefIdeal := by
  intro m g m' g' _ ha
  refine ⟨fun c => (Cert.GradOutIdeal.Gen.dats m 0 c).arrAt 2 Cert.GradOutIdeal.cfg0.N, Cert.GradOutIdeal.Value.run_blocks m g,
    (θ_run Cert.GradOutRefIdeal.defs _ _).mono (fun r h c => ?_) (Cert.GradOutRefIdeal.Value.run (F := Ideal) m' g')⟩
  obtain ⟨hv, k0, k1⟩ := h c
  exact ⟨hv.trans ((Cert.GradOutRefIdeal.Read.val_main_v5_eq _ _).trans (Cert.OutGrad.equal m c (ha c).1 (ha c).2)), k0, k1⟩

/-- The frame of the reference of the gradient of the down projection's input. -/
theorem downBwd_reference : Cert.quiescent_DownBwdRefIdeal := fun m ρ _ =>
  (θ_run Cert.DownBwdRefIdeal.defs _ _).mono (fun r h => ⟨fun c => (h c).2,
      Idealize.ShloMosaic.sem_eq_zero_of_no_sems (by decide) r.2⟩)
    (Cert.DownBwdRefIdeal.Value.run (F := Ideal) m ρ)

/-- Kernel and reference agree on the gradient of the down projection's input. -/
theorem downBwd_equal : Cert.algebraic_DownBwdIdeal_DownBwdRefIdeal := by
  intro m g m' g' _ ha
  refine ⟨fun c => (Cert.DownBwdIdeal.Gen.dats m 0 c).arrAt 2 Cert.DownBwdIdeal.cfg0.N, Cert.DownBwdIdeal.Value.run_blocks m g,
    (θ_run Cert.DownBwdRefIdeal.defs _ _).mono (fun r h c => ?_) (Cert.DownBwdRefIdeal.Value.run (F := Ideal) m' g')⟩
  obtain ⟨hv, k0, k1⟩ := h c
  exact ⟨hv.trans ((Cert.DownBwdRefIdeal.Read.val_main_v5_eq _ _).trans (Cert.DownBack.equal m c (ha c).1 (ha c).2)), k0, k1⟩

/-- The frame of the reference of the gradient of a branch projection's input. -/
theorem projBwd_reference : Cert.quiescent_ProjBwdRefIdeal := fun m ρ _ =>
  (θ_run Cert.ProjBwdRefIdeal.defs _ _).mono (fun r h => ⟨fun c => (h c).2,
      Idealize.ShloMosaic.sem_eq_zero_of_no_sems (by decide) r.2⟩)
    (Cert.ProjBwdRefIdeal.Value.run (F := Ideal) m ρ)

/-- Kernel and reference agree on the gradient of a branch projection's input. -/
theorem projBwd_equal : Cert.algebraic_ProjBwdIdeal_ProjBwdRefIdeal := by
  intro m g m' g' _ ha
  refine ⟨fun c => (Cert.ProjBwdIdeal.Gen.dats m 0 c).arrAt 2 Cert.ProjBwdIdeal.cfg0.N, Cert.ProjBwdIdeal.Value.run_blocks m g,
    (θ_run Cert.ProjBwdRefIdeal.defs _ _).mono (fun r h c => ?_) (Cert.ProjBwdRefIdeal.Value.run (F := Ideal) m' g')⟩
  obtain ⟨hv, k0, k1⟩ := h c
  exact ⟨hv.trans ((Cert.ProjBwdRefIdeal.Read.val_main_v5_eq _ _).trans (Cert.ProjBack.equal m c (ha c).1 (ha c).2)), k0, k1⟩

/-- The frame of the reference of the gradient of the input projection's weights. -/
theorem gradIn_reference : Cert.quiescent_GradInRefIdeal := fun m ρ _ =>
  (θ_run Cert.GradInRefIdeal.defs _ _).mono (fun r h => ⟨fun c => (h c).2,
      Idealize.ShloMosaic.sem_eq_zero_of_no_sems (by decide) r.2⟩)
    (Cert.GradInRefIdeal.Value.run (F := Ideal) m ρ)

/-- Kernel and reference agree on the gradient of the input projection's weights. -/
theorem gradIn_equal : Cert.algebraic_GradInIdeal_GradInRefIdeal := by
  intro m g m' g' _ ha
  refine ⟨fun c => (Cert.GradInIdeal.Gen.dats m 0 c).arrAt 8 Cert.GradInIdeal.cfg0.N, Cert.GradInIdeal.Value.run_blocks m g,
    (θ_run Cert.GradInRefIdeal.defs _ _).mono (fun r h c => ?_) (Cert.GradInRefIdeal.Value.run (F := Ideal) m' g')⟩
  obtain ⟨hv, k0, k1, k2, k3, k4, k5, k6, k7⟩ := h c
  exact ⟨hv.trans ((Cert.GradInRefIdeal.Read.val_main_v6_eq _ _ _ _ _ _ _ _).trans (Cert.InGrad.equal m c (ha c).1 (ha c).2.1 (ha c).2.2.1 (ha c).2.2.2.1 (ha c).2.2.2.2.1 (ha c).2.2.2.2.2.1 (ha c).2.2.2.2.2.2.1 (ha c).2.2.2.2.2.2.2)), k0, k1, k2, k3, k4, k5, k6, k7⟩

/-- The frame of the reference of the input projection. -/
theorem inProj_reference : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

/-- Kernel and reference agree on the input projection. -/
theorem inProj_equal : Cert.algebraic_InProjIdeal_InProjRefIdeal := by
  intro m g m' g' _ ha
  refine ⟨fun c => (Cert.InProjIdeal.Gen.dats m 0 c).arrAt 2 Cert.InProjIdeal.cfg0.N, Cert.InProjIdeal.Value.run_blocks m g,
    (θ_run Cert.InProjRefIdeal.defs _ _).mono (fun r h c => ?_) (Cert.InProjRefIdeal.Value.run (F := Ideal) m' g')⟩
  obtain ⟨hv, k0, k1⟩ := h c
  exact ⟨hv.trans ((Cert.InProjRefIdeal.Read.val_main_v3_eq _ _).trans (Cert.InFwd.equal m c (ha c).1 (ha c).2)), k0, k1⟩

/-- The frame of the reference of the up projection. -/
theorem upProj_reference : Cert.quiescent_UpProjRefIdeal := fun m ρ _ =>
  (θ_run Cert.UpProjRefIdeal.defs _ _).mono (fun r h => ⟨fun c => (h c).2,
      Idealize.ShloMosaic.sem_eq_zero_of_no_sems (by decide) r.2⟩)
    (Cert.UpProjRefIdeal.Value.run (F := Ideal) m ρ)

/-- Kernel and reference agree on the up projection. -/
theorem upProj_equal : Cert.algebraic_UpProjIdeal_UpProjRefIdeal := by
  intro m g m' g' _ ha
  refine ⟨fun c => (Cert.UpProjIdeal.Gen.dats m 0 c).arrAt 2 Cert.UpProjIdeal.cfg0.N, Cert.UpProjIdeal.Value.run_blocks m g,
    (θ_run Cert.UpProjRefIdeal.defs _ _).mono (fun r h c => ?_) (Cert.UpProjRefIdeal.Value.run (F := Ideal) m' g')⟩
  obtain ⟨hv, k0, k1⟩ := h c
  exact ⟨hv.trans ((Cert.UpProjRefIdeal.Read.val_main_v3_eq _ _).trans (Cert.UpFwd.equal m c (ha c).1 (ha c).2)), k0, k1⟩

/-- The frame of the reference of the gradient through the up projection and its two norms. -/
theorem upBwd_reference : Cert.quiescent_UpBwdRefIdeal := fun m ρ _ =>
  (θ_run Cert.UpBwdRefIdeal.defs _ _).mono (fun r h => ⟨fun c => (h c).2.2.2.2.2,
      Idealize.ShloMosaic.sem_eq_zero_of_no_sems (by decide) r.2⟩)
    (Cert.UpBwdRefIdeal.Value.run (F := Ideal) m ρ)

/-- Kernel and reference agree on the gradient through the up projection and its two norms. -/
theorem upBwd_equal : Cert.algebraic_UpBwdIdeal_UpBwdRefIdeal := by
  intro m g m' g' _ ha
  refine ⟨fun c => Cert.UpBwdIdeal.Value.G8 m c, fun c => Cert.UpBwdIdeal.Value.G9 m c, fun c => Cert.UpBwdIdeal.Value.G10 m c, fun c => Cert.UpBwdIdeal.Value.G11 m c, fun c => Cert.UpBwdIdeal.Value.G12 m c, Cert.UpBwdIdeal.Value.run m g,
    (θ_run Cert.UpBwdRefIdeal.defs _ _).mono (fun r h c => ?_) (Cert.UpBwdRefIdeal.Value.run (F := Ideal) m' g')⟩
  obtain ⟨r1, r2, r3, r4, r5, k0, k1, k2, k3, k4, k5, k6, k7⟩ := h c
  exact ⟨r1.trans ((Cert.UpBwdRefIdeal.Read.val_main_v39_eq m' c).trans (Cert.UpBack.equal1 m c (ha c).1 (ha c).2.1 (ha c).2.2.1 (ha c).2.2.2.1 (ha c).2.2.2.2.1 (ha c).2.2.2.2.2.2.1)),
    r2.trans ((Cert.UpBwdRefIdeal.Read.val_main_v74_eq m' c).trans (Cert.UpBack.equal2 m c (ha c).1 (ha c).2.1 (ha c).2.2.1 (ha c).2.2.2.1 (ha c).2.2.2.2.1 (ha c).2.2.2.2.2.1 (ha c).2.2.2.2.2.2.1 (ha c).2.2.2.2.2.2.2)),
    r3.trans ((Cert.UpBwdRefIdeal.Read.val_main_v22_eq _ _ _ _).trans (Cert.UpBack.equal3 m c (ha c).1 (ha c).2.1 (ha c).2.2.1 (ha c).2.2.2.1)),
    r4.trans ((Cert.UpBwdRefIdeal.Read.val_main_v57_eq m' c).trans (Cert.UpBack.equal4 m c (ha c).1 (ha c).2.1 (ha c).2.2.1 (ha c).2.2.2.1 (ha c).2.2.2.2.1 (ha c).2.2.2.2.2.1 (ha c).2.2.2.2.2.2.1)),
    r5.trans ((Cert.UpBwdRefIdeal.Read.val_main_v0_eq _ _).trans (Cert.UpBack.equal5 m c (ha c).1 (ha c).2.1)),
    k0, k1, k2, k3, k4, k5, k6, k7⟩

/-- The frame of the reference of the gradient through the input projection and its norm. -/
theorem inBwd_reference : Cert.quiescent_InBwdRefIdeal := fun m ρ _ =>
  (θ_run Cert.InBwdRefIdeal.defs _ _).mono (fun r h => ⟨fun c => (h c).2.2,
      Idealize.ShloMosaic.sem_eq_zero_of_no_sems (by decide) r.2⟩)
    (Cert.InBwdRefIdeal.Value.run (F := Ideal) m ρ)

/-- Kernel and reference agree on the gradient through the input projection and its norm. -/
theorem inBwd_equal : Cert.algebraic_InBwdIdeal_InBwdRefIdeal := by
  intro m g m' g' _ ha
  refine ⟨fun c => Cert.InBwdIdeal.Value.G11 m c, fun c => Cert.InBwdIdeal.Value.G12 m c, Cert.InBwdIdeal.Value.run m g,
    (θ_run Cert.InBwdRefIdeal.defs _ _).mono (fun r h c => ?_) (Cert.InBwdRefIdeal.Value.run (F := Ideal) m' g')⟩
  obtain ⟨r1, r2, k0, k1, k2, k3, k4, k5, k6, k7, k8, k9, k10⟩ := h c
  exact ⟨r1.trans ((Cert.InBwdRefIdeal.Read.val_main_v39_eq m' c).trans (Cert.InBack.equal1 m c (ha c).1 (ha c).2.1 (ha c).2.2.1 (ha c).2.2.2.1 (ha c).2.2.2.2.1 (ha c).2.2.2.2.2.1 (ha c).2.2.2.2.2.2.1 (ha c).2.2.2.2.2.2.2.1 (ha c).2.2.2.2.2.2.2.2.1 (ha c).2.2.2.2.2.2.2.2.2.1 (ha c).2.2.2.2.2.2.2.2.2.2)),
    r2.trans ((Cert.InBwdRefIdeal.Read.val_main_v22_eq _ _ _ _ _ _ _ _ _).trans (Cert.InBack.equal2 m c (ha c).1 (ha c).2.1 (ha c).2.2.1 (ha c).2.2.2.1 (ha c).2.2.2.2.1 (ha c).2.2.2.2.2.1 (ha c).2.2.2.2.2.2.1 (ha c).2.2.2.2.2.2.2.1 (ha c).2.2.2.2.2.2.2.2.1)),
    k0, k1, k2, k3, k4, k5, k6, k7, k8, k9, k10⟩

/-- The frame of the reference of the branch projections and their gates. -/
theorem branch_reference : Cert.quiescent_BranchRefIdeal := fun m ρ _ =>
  (θ_run Cert.BranchRefIdeal.defs _ _).mono (fun r h => ⟨fun c => (h c).2.2.2,
      Idealize.ShloMosaic.sem_eq_zero_of_no_sems (by decide) r.2⟩)
    (Cert.BranchRefIdeal.Value.run (F := Ideal) m ρ)

/-- Kernel and reference agree on the branch projections and their gates. -/
theorem branch_equal : Cert.algebraic_BranchIdeal_BranchRefIdeal := by
  intro m g m' g' _ ha
  refine ⟨fun c => (Cert.BranchIdeal.Gen.dats m 0 c).arrAt 6 Cert.BranchIdeal.cfg0.N, fun c => (Cert.BranchIdeal.Gen.dats m 0 c).arrAt 7 Cert.BranchIdeal.cfg0.N, fun c => (Cert.BranchIdeal.Gen.dats m 0 c).arrAt 8 Cert.BranchIdeal.cfg0.N, Cert.BranchIdeal.Value.run_blocks m g,
    (θ_run Cert.BranchRefIdeal.defs _ _).mono (fun r h c => ?_) (Cert.BranchRefIdeal.Value.run (F := Ideal) m' g')⟩
  obtain ⟨r1, r2, r3, k0, k1, k2, k3, k4, k5⟩ := h c
  exact ⟨r1.trans ((Cert.BranchRefIdeal.Read.val_main_v35_eq _ _ _ _ _ _).trans (Cert.Branch.equal1 m c (ha c).1 (ha c).2.1 (ha c).2.2.1 (ha c).2.2.2.1 (ha c).2.2.2.2.1 (ha c).2.2.2.2.2)),
    r2.trans ((Cert.BranchRefIdeal.Read.val_main_v36_eq _ _).trans (Cert.Branch.equal2 m c (ha c).1 (ha c).2.1)),
    r3.trans ((Cert.BranchRefIdeal.Read.val_main_v37_eq _ _).trans (Cert.Branch.equal3 m c (ha c).2.2.1 (ha c).2.2.2.1)),
    k0, k1, k2, k3, k4, k5⟩

/-- The frame of the reference of the output projection and its two norms. -/
theorem outProj_reference : Cert.quiescent_OutProjRefIdeal := fun m ρ _ =>
  (θ_run Cert.OutProjRefIdeal.defs _ _).mono (fun r h => ⟨fun c => (h c).2.2.2,
      Idealize.ShloMosaic.sem_eq_zero_of_no_sems (by decide) r.2⟩)
    (Cert.OutProjRefIdeal.Value.run (F := Ideal) m ρ)

/-- Kernel and reference agree on the output projection and its two norms. -/
theorem outProj_equal : Cert.algebraic_OutProjIdeal_OutProjRefIdeal := by
  intro m g m' g' _ ha
  refine ⟨fun c => (Cert.OutProjIdeal.Gen.dats m 0 c).arrAt 5 Cert.OutProjIdeal.cfg0.N, fun c => (Cert.OutProjIdeal.Gen.dats m 0 c).arrAt 6 Cert.OutProjIdeal.cfg0.N, fun c => (Cert.OutProjIdeal.Gen.dats m 0 c).arrAt 7 Cert.OutProjIdeal.cfg0.N, Cert.OutProjIdeal.Value.run_blocks m g,
    (θ_run Cert.OutProjRefIdeal.defs _ _).mono (fun r h c => ?_) (Cert.OutProjRefIdeal.Value.run (F := Ideal) m' g')⟩
  obtain ⟨r1, r2, r3, k0, k1, k2, k3, k4⟩ := h c
  exact ⟨r1.trans ((Cert.OutProjRefIdeal.Read.val_main_v2_eq _ _).trans (Cert.OutFwd.equal1 m c (ha c).1 (ha c).2.1)),
    r2.trans ((Cert.OutProjRefIdeal.Read.val_main_v15_eq _ _ _ _).trans (Cert.OutFwd.equal2 m c (ha c).1 (ha c).2.1 (ha c).2.2.1 (ha c).2.2.2.1)),
    r3.trans ((Cert.OutProjRefIdeal.Read.val_main_v28_eq m' c).trans (Cert.OutFwd.equal3 m c (ha c).1 (ha c).2.1 (ha c).2.2.1 (ha c).2.2.2.1 (ha c).2.2.2.2)),
    k0, k1, k2, k3, k4⟩

/-- The frame of the reference of the down projection, the loss and its gradient. -/
theorem loss_reference : Cert.quiescent_LossRefIdeal := fun m ρ _ =>
  (θ_run Cert.LossRefIdeal.defs _ _).mono (fun r h => ⟨fun c => (h c).2.2.2.2,
      Idealize.ShloMosaic.sem_eq_zero_of_no_sems (by decide) r.2⟩)
    (Cert.LossRefIdeal.Value.run (F := Ideal) m ρ)

/-- Kernel and reference agree on the down projection, the loss and its gradient. -/
theorem loss_equal : Cert.algebraic_LossIdeal_LossRefIdeal := by
  intro m g m' g' _ ha
  refine ⟨fun c => (Cert.LossIdeal.Gen.dats m 0 c).arrAt 5 Cert.LossIdeal.cfg0.N, fun c => (Cert.LossIdeal.Gen.dats m 0 c).arrAt 6 Cert.LossIdeal.cfg0.N, fun c => (Cert.LossIdeal.Gen.dats m 0 c).arrAt 7 Cert.LossIdeal.cfg0.N, fun c => (Cert.LossIdeal.Gen.dats m 0 c).arrAt 8 Cert.LossIdeal.cfg0.N, Cert.LossIdeal.Value.run_blocks m g,
    (θ_run Cert.LossRefIdeal.defs _ _).mono (fun r h c => ?_) (Cert.LossRefIdeal.Value.run (F := Ideal) m' g')⟩
  obtain ⟨r1, r2, r3, r4, k0, k1, k2, k3, k4⟩ := h c
  exact ⟨r1.trans ((Cert.LossRefIdeal.Read.val_main_v56_eq m' c).trans (Cert.LossFwd.equal1 m c (ha c).1 (ha c).2.1 (ha c).2.2.1 (ha c).2.2.2.1 (ha c).2.2.2.2)),
    r2.trans ((Cert.LossRefIdeal.Read.val_main_v36_eq _ _ _ _ _).trans (Cert.LossFwd.equal2 m c (ha c).1 (ha c).2.1 (ha c).2.2.1 (ha c).2.2.2.1 (ha c).2.2.2.2)),
    r3.trans ((Cert.LossRefIdeal.Read.val_main_v39_eq _ _ _ _ _).trans (Cert.LossFwd.equal3 m c (ha c).1 (ha c).2.1 (ha c).2.2.1 (ha c).2.2.2.1 (ha c).2.2.2.2)),
    r4.trans ((Cert.LossRefIdeal.Read.val_main_v57_eq _ _ _ _ _).trans (Cert.LossFwd.equal4 m c (ha c).1 (ha c).2.1 (ha c).2.2.1 (ha c).2.2.2.1 (ha c).2.2.2.2)),
    k0, k1, k2, k3, k4⟩

theorem claim : Cert.Claim := ⟨Cert.Kernel.Gen.facts, Cert.KernelIdeal.Gen.facts, Cert.ReferenceIdeal.Gen.facts,
  Cert.GradDown.Gen.facts, Cert.GradDownIdeal.Gen.facts, Cert.GradDownRefIdeal.Gen.facts,
  Cert.GradUp.Gen.facts, Cert.GradUpIdeal.Gen.facts, Cert.GradUpRefIdeal.Gen.facts,
  Cert.GradOut.Gen.facts, Cert.GradOutIdeal.Gen.facts, Cert.GradOutRefIdeal.Gen.facts,
  Cert.DownBwd.Gen.facts, Cert.DownBwdIdeal.Gen.facts, Cert.DownBwdRefIdeal.Gen.facts,
  Cert.ProjBwd.Gen.facts, Cert.ProjBwdIdeal.Gen.facts, Cert.ProjBwdRefIdeal.Gen.facts,
  Cert.GradIn.Gen.facts, Cert.GradInIdeal.Gen.facts, Cert.GradInRefIdeal.Gen.facts,
  Cert.InProj.Gen.facts, Cert.InProjIdeal.Gen.facts, Cert.InProjRefIdeal.Gen.facts,
  Cert.UpProj.Gen.facts, Cert.UpProjIdeal.Gen.facts, Cert.UpProjRefIdeal.Gen.facts,
  Cert.UpBwd.Gen.facts, Cert.UpBwdIdeal.Gen.facts, Cert.UpBwdRefIdeal.Gen.facts,
  Cert.InBwd.Gen.facts, Cert.InBwdIdeal.Gen.facts, Cert.InBwdRefIdeal.Gen.facts,
  Cert.Branch.Gen.facts, Cert.BranchIdeal.Gen.facts, Cert.BranchRefIdeal.Gen.facts,
  Cert.OutProj.Gen.facts, Cert.OutProjIdeal.Gen.facts, Cert.OutProjRefIdeal.Gen.facts,
  Cert.Loss.Gen.facts, Cert.LossIdeal.Gen.facts, Cert.LossRefIdeal.Gen.facts,
  Cert.Att.preFacts,
  frame_kernel, frame_ideal, fun m ρ _ => Cert.KernelIdeal.Gen.frame m ρ, frame_reference, fun m ρ _ => frame_reference m ρ trivial,
  fun m ρ _ => Cert.GradDown.Gen.frame m ρ, fun m ρ _ => Cert.GradDownIdeal.Gen.frame m ρ, gradDown_reference,
  fun m ρ _ => Cert.GradUp.Gen.frame m ρ, fun m ρ _ => Cert.GradUpIdeal.Gen.frame m ρ, gradUp_reference,
  fun m ρ _ => Cert.GradOut.Gen.frame m ρ, fun m ρ _ => Cert.GradOutIdeal.Gen.frame m ρ, gradOut_reference,
  fun m ρ _ => Cert.DownBwd.Gen.frame m ρ, fun m ρ _ => Cert.DownBwdIdeal.Gen.frame m ρ, downBwd_reference,
  fun m ρ _ => Cert.ProjBwd.Gen.frame m ρ, fun m ρ _ => Cert.ProjBwdIdeal.Gen.frame m ρ, projBwd_reference,
  fun m ρ _ => Cert.GradIn.Gen.frame m ρ, fun m ρ _ => Cert.GradInIdeal.Gen.frame m ρ, gradIn_reference,
  fun m ρ _ => Cert.InProj.Gen.frame m ρ, fun m ρ _ => Cert.InProjIdeal.Gen.frame m ρ, inProj_reference,
  fun m ρ _ => Cert.UpProj.Gen.frame m ρ, fun m ρ _ => Cert.UpProjIdeal.Gen.frame m ρ, upProj_reference,
  fun m ρ _ => Cert.UpBwd.Gen.frame m ρ, fun m ρ _ => Cert.UpBwdIdeal.Gen.frame m ρ, upBwd_reference,
  fun m ρ _ => Cert.InBwd.Gen.frame m ρ, fun m ρ _ => Cert.InBwdIdeal.Gen.frame m ρ, inBwd_reference,
  fun m ρ _ => Cert.Branch.Gen.frame m ρ, fun m ρ _ => Cert.BranchIdeal.Gen.frame m ρ, branch_reference,
  fun m ρ _ => Cert.OutProj.Gen.frame m ρ, fun m ρ _ => Cert.OutProjIdeal.Gen.frame m ρ, outProj_reference,
  fun m ρ _ => Cert.Loss.Gen.frame m ρ, fun m ρ _ => Cert.LossIdeal.Gen.frame m ρ, loss_reference,
  trivial, algebraic,
  trivial, gradDown_equal,
  trivial, gradUp_equal,
  trivial, gradOut_equal,
  trivial, downBwd_equal,
  trivial, projBwd_equal,
  trivial, gradIn_equal,
  trivial, inProj_equal,
  trivial, upProj_equal,
  trivial, upBwd_equal,
  trivial, inBwd_equal,
  trivial, branch_equal,
  trivial, outProj_equal,
  trivial, loss_equal⟩

end Cert.Proof

end
